-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_CtxIn (m : (ℓ : Loc Cert.CtxIn.nD Cert.CtxIn.τ Cert.CtxIn.sig) → Buf (Elt Bits) ℓ) : Prop :=
  True

def Pre_CtxInIdeal (m : (ℓ : Loc Cert.CtxInIdeal.nD Cert.CtxInIdeal.τ Cert.CtxInIdeal.sig) → Buf (Elt Ideal) ℓ) : Prop :=
  True

def Pre_CtxInRefIdeal (m : (ℓ : Loc Cert.CtxInRefIdeal.nD Cert.CtxInRefIdeal.τ Cert.CtxInRefIdeal.sig) → Buf (Elt Ideal) ℓ) : Prop :=
  True

def Pre_CtxLast (m : (ℓ : Loc Cert.CtxLast.nD Cert.CtxLast.τ Cert.CtxLast.sig) → Buf (Elt Bits) ℓ) : Prop :=
  True

def Pre_CtxLastIdeal (m : (ℓ : Loc Cert.CtxLastIdeal.nD Cert.CtxLastIdeal.τ Cert.CtxLastIdeal.sig) → Buf (Elt Ideal) ℓ) : Prop :=
  True

def Pre_CtxLastRefIdeal (m : (ℓ : Loc Cert.CtxLastRefIdeal.nD Cert.CtxLastRefIdeal.τ Cert.CtxLastRefIdeal.sig) → Buf (Elt Ideal) ℓ) : Prop :=
  True

def Pre_OutMid (m : (ℓ : Loc Cert.OutMid.nD Cert.OutMid.τ Cert.OutMid.sig) → Buf (Elt Bits) ℓ) : Prop :=
  True

def Pre_OutMidIdeal (m : (ℓ : Loc Cert.OutMidIdeal.nD Cert.OutMidIdeal.τ Cert.OutMidIdeal.sig) → Buf (Elt Ideal) ℓ) : Prop :=
  True

def Pre_OutMidRefIdeal (m : (ℓ : Loc Cert.OutMidRefIdeal.nD Cert.OutMidRefIdeal.τ Cert.OutMidRefIdeal.sig) → Buf (Elt Ideal) ℓ) : Prop :=
  True

def Pre_OutCtx (m : (ℓ : Loc Cert.OutCtx.nD Cert.OutCtx.τ Cert.OutCtx.sig) → Buf (Elt Bits) ℓ) : Prop :=
  True

def Pre_OutCtxIdeal (m : (ℓ : Loc Cert.OutCtxIdeal.nD Cert.OutCtxIdeal.τ Cert.OutCtxIdeal.sig) → Buf (Elt Ideal) ℓ) : Prop :=
  True

def Pre_OutCtxRefIdeal (m : (ℓ : Loc Cert.OutCtxRefIdeal.nD Cert.OutCtxRefIdeal.τ Cert.OutCtxRefIdeal.sig) → Buf (Elt Ideal) ℓ) : Prop :=
  True

def Pre_PoolConv (m : (ℓ : Loc Cert.PoolConv.nD Cert.PoolConv.τ Cert.PoolConv.sig) → Buf (Elt Bits) ℓ) : Prop :=
  True

def Pre_PoolConvIdeal (m : (ℓ : Loc Cert.PoolConvIdeal.nD Cert.PoolConvIdeal.τ Cert.PoolConvIdeal.sig) → Buf (Elt Ideal) ℓ) : Prop :=
  True

def Pre_PoolConvRefIdeal (m : (ℓ : Loc Cert.PoolConvRefIdeal.nD Cert.PoolConvRefIdeal.τ Cert.PoolConvRefIdeal.sig) → Buf (Elt Ideal) ℓ) : Prop :=
  True

def Pre_AttLast (m : (ℓ : Loc Cert.AttLast.nD Cert.AttLast.τ Cert.AttLast.sig) → Buf (Elt Bits) ℓ) : Prop :=
  True

def Pre_AttLastIdeal (m : (ℓ : Loc Cert.AttLastIdeal.nD Cert.AttLastIdeal.τ Cert.AttLastIdeal.sig) → Buf (Elt Ideal) ℓ) : Prop :=
  True

def Pre_AttLastIdeal_finite_last [hPre_finite_last : Cert.Pre_finite_last.Facts] (m : (ℓ : Loc Cert.AttLastIdeal.nD Cert.AttLastIdeal.τ Cert.AttLastIdeal.sig) → Buf (Elt Ideal) ℓ) : Prop :=
  ∀ c : Dev Cert.AttLastIdeal.nD,
    (Cert.Pre_finite_last.fn (F := Ideal) (m ((c.tc : Thread Cert.AttLastIdeal.nD Cert.AttLastIdeal.τ).loc Cert.AttLastIdeal.main_arg0)) (m ((c.tc : Thread Cert.AttLastIdeal.nD Cert.AttLastIdeal.τ).loc Cert.AttLastIdeal.main_arg1)) (m ((c.tc : Thread Cert.AttLastIdeal.nD Cert.AttLastIdeal.τ).loc Cert.AttLastIdeal.main_arg2)) (m ((c.tc : Thread Cert.AttLastIdeal.nD Cert.AttLastIdeal.τ).loc Cert.AttLastIdeal.main_arg3))).1 = (fun _ => 1#1)
    ∧ (Cert.Pre_finite_last.fn (F := Ideal) (m ((c.tc : Thread Cert.AttLastIdeal.nD Cert.AttLastIdeal.τ).loc Cert.AttLastIdeal.main_arg0)) (m ((c.tc : Thread Cert.AttLastIdeal.nD Cert.AttLastIdeal.τ).loc Cert.AttLastIdeal.main_arg1)) (m ((c.tc : Thread Cert.AttLastIdeal.nD Cert.AttLastIdeal.τ).loc Cert.AttLastIdeal.main_arg2)) (m ((c.tc : Thread Cert.AttLastIdeal.nD Cert.AttLastIdeal.τ).loc Cert.AttLastIdeal.main_arg3))).2.1 = (fun _ => 1#1)
    ∧ (Cert.Pre_finite_last.fn (F := Ideal) (m ((c.tc : Thread Cert.AttLastIdeal.nD Cert.AttLastIdeal.τ).loc Cert.AttLastIdeal.main_arg0)) (m ((c.tc : Thread Cert.AttLastIdeal.nD Cert.AttLastIdeal.τ).loc Cert.AttLastIdeal.main_arg1)) (m ((c.tc : Thread Cert.AttLastIdeal.nD Cert.AttLastIdeal.τ).loc Cert.AttLastIdeal.main_arg2)) (m ((c.tc : Thread Cert.AttLastIdeal.nD Cert.AttLastIdeal.τ).loc Cert.AttLastIdeal.main_arg3))).2.2 = (fun _ => 1#1)

def Pre_AttLastRefIdeal (m : (ℓ : Loc Cert.AttLastRefIdeal.nD Cert.AttLastRefIdeal.τ Cert.AttLastRefIdeal.sig) → Buf (Elt Ideal) ℓ) : Prop :=
  True

def Pre_AttLastRefIdeal_finite_last [hPre_finite_last : Cert.Pre_finite_last.Facts] (m : (ℓ : Loc Cert.AttLastRefIdeal.nD Cert.AttLastRefIdeal.τ Cert.AttLastRefIdeal.sig) → Buf (Elt Ideal) ℓ) : Prop :=
  ∀ c : Dev Cert.AttLastRefIdeal.nD,
    (Cert.Pre_finite_last.fn (F := Ideal) (m ((c.tc : Thread Cert.AttLastRefIdeal.nD Cert.AttLastRefIdeal.τ).loc Cert.AttLastRefIdeal.main_arg0)) (m ((c.tc : Thread Cert.AttLastRefIdeal.nD Cert.AttLastRefIdeal.τ).loc Cert.AttLastRefIdeal.main_arg1)) (m ((c.tc : Thread Cert.AttLastRefIdeal.nD Cert.AttLastRefIdeal.τ).loc Cert.AttLastRefIdeal.main_arg2)) (m ((c.tc : Thread Cert.AttLastRefIdeal.nD Cert.AttLastRefIdeal.τ).loc Cert.AttLastRefIdeal.main_arg3))).1 = (fun _ => 1#1)
    ∧ (Cert.Pre_finite_last.fn (F := Ideal) (m ((c.tc : Thread Cert.AttLastRefIdeal.nD Cert.AttLastRefIdeal.τ).loc Cert.AttLastRefIdeal.main_arg0)) (m ((c.tc : Thread Cert.AttLastRefIdeal.nD Cert.AttLastRefIdeal.τ).loc Cert.AttLastRefIdeal.main_arg1)) (m ((c.tc : Thread Cert.AttLastRefIdeal.nD Cert.AttLastRefIdeal.τ).loc Cert.AttLastRefIdeal.main_arg2)) (m ((c.tc : Thread Cert.AttLastRefIdeal.nD Cert.AttLastRefIdeal.τ).loc Cert.AttLastRefIdeal.main_arg3))).2.1 = (fun _ => 1#1)
    ∧ (Cert.Pre_finite_last.fn (F := Ideal) (m ((c.tc : Thread Cert.AttLastRefIdeal.nD Cert.AttLastRefIdeal.τ).loc Cert.AttLastRefIdeal.main_arg0)) (m ((c.tc : Thread Cert.AttLastRefIdeal.nD Cert.AttLastRefIdeal.τ).loc Cert.AttLastRefIdeal.main_arg1)) (m ((c.tc : Thread Cert.AttLastRefIdeal.nD Cert.AttLastRefIdeal.τ).loc Cert.AttLastRefIdeal.main_arg2)) (m ((c.tc : Thread Cert.AttLastRefIdeal.nD Cert.AttLastRefIdeal.τ).loc Cert.AttLastRefIdeal.main_arg3))).2.2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_CtxIn [hCtxIn : Cert.CtxIn.Facts] : Prop :=
  ∀ (m : (ℓ : Loc Cert.CtxIn.nD Cert.CtxIn.τ Cert.CtxIn.sig) → Buf (Elt Bits) ℓ) (g : Dev Cert.CtxIn.nD → PrngReg), Pre_CtxIn m →
    θ_run (Cert.CtxIn.defs (F := Bits)) (onTc (τ := Cert.CtxIn.τ) (Cert.CtxIn.main (F := Bits))) ⟨m, fun _ => 0, g⟩ (fun r => (∀ c : Dev Cert.CtxIn.nD,
      r.2.mem ((c.tc : Thread Cert.CtxIn.nD Cert.CtxIn.τ).loc Cert.CtxIn.main_arg0) = m ((c.tc : Thread Cert.CtxIn.nD Cert.CtxIn.τ).loc Cert.CtxIn.main_arg0)
      ∧ r.2.mem ((c.tc : Thread Cert.CtxIn.nD Cert.CtxIn.τ).loc Cert.CtxIn.main_arg1) = m ((c.tc : Thread Cert.CtxIn.nD Cert.CtxIn.τ).loc Cert.CtxIn.main_arg1)
      ∧ r.2.mem ((c.tc : Thread Cert.CtxIn.nD Cert.CtxIn.τ).loc Cert.CtxIn.main_arg2) = m ((c.tc : Thread Cert.CtxIn.nD Cert.CtxIn.τ).loc Cert.CtxIn.main_arg2)
      ∧ r.2.mem ((c.tc : Thread Cert.CtxIn.nD Cert.CtxIn.τ).loc Cert.CtxIn.main_arg3) = m ((c.tc : Thread Cert.CtxIn.nD Cert.CtxIn.τ).loc Cert.CtxIn.main_arg3))
      ∧ r.2.sem = fun _ => 0)

def quiescent_CtxInIdeal [hCtxInIdeal : Cert.CtxInIdeal.Facts] : Prop :=
  ∀ (m : (ℓ : Loc Cert.CtxInIdeal.nD Cert.CtxInIdeal.τ Cert.CtxInIdeal.sig) → Buf (Elt Ideal) ℓ) (g : Dev Cert.CtxInIdeal.nD → PrngReg), Pre_CtxInIdeal m →
    θ_run (Cert.CtxInIdeal.defs (F := Ideal)) (onTc (τ := Cert.CtxInIdeal.τ) (Cert.CtxInIdeal.main (F := Ideal))) ⟨m, fun _ => 0, g⟩ (fun r => (∀ c : Dev Cert.CtxInIdeal.nD,
      r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
      ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1)
      ∧ r.2.mem ((c.tc : Thread Cert.CtxInIdeal.nD Cert.CtxInIdeal.τ).loc Cert.CtxInIdeal.main_arg2) = m ((c.tc : Thread Cert.CtxInIdeal.nD Cert.CtxInIdeal.τ).loc Cert.CtxInIdeal.main_arg2)
      ∧ r.2.mem ((c.tc : Thread Cert.CtxInIdeal.nD Cert.CtxInIdeal.τ).loc Cert.CtxInIdeal.main_arg3) = m ((c.tc : Thread Cert.CtxInIdeal.nD Cert.CtxInIdeal.τ).loc Cert.CtxInIdeal.main_arg3))
      ∧ r.2.sem = fun _ => 0)

def quiescent_CtxInRefIdeal [hCtxInRefIdeal : Cert.CtxInRefIdeal.Facts] : Prop :=
  ∀ (m : (ℓ : Loc Cert.CtxInRefIdeal.nD Cert.CtxInRefIdeal.τ Cert.CtxInRefIdeal.sig) → Buf (Elt Ideal) ℓ) (g : Dev Cert.CtxInRefIdeal.nD → PrngReg), Pre_CtxInRefIdeal m →
    θ_run (Cert.CtxInRefIdeal.defs (F := Ideal)) (onTc (τ := Cert.CtxInRefIdeal.τ) (Cert.CtxInRefIdeal.main (F := Ideal))) ⟨m, fun _ => 0, g⟩ (fun r => (∀ c : Dev Cert.CtxInRefIdeal.nD,
      r.2.mem ((c.tc : Thread Cert.CtxInRefIdeal.nD Cert.CtxInRefIdeal.τ).loc Cert.CtxInRefIdeal.main_arg0) = m ((c.tc : Thread Cert.CtxInRefIdeal.nD Cert.CtxInRefIdeal.τ).loc Cert.CtxInRefIdeal.main_arg0)
      ∧ r.2.mem ((c.tc : Thread Cert.CtxInRefIdeal.nD Cert.CtxInRefIdeal.τ).loc Cert.CtxInRefIdeal.main_arg1) = m ((c.tc : Thread Cert.CtxInRefIdeal.nD Cert.CtxInRefIdeal.τ).loc Cert.CtxInRefIdeal.main_arg1)
      ∧ r.2.mem ((c.tc : Thread Cert.CtxInRefIdeal.nD Cert.CtxInRefIdeal.τ).loc Cert.CtxInRefIdeal.main_arg2) = m ((c.tc : Thread Cert.CtxInRefIdeal.nD Cert.CtxInRefIdeal.τ).loc Cert.CtxInRefIdeal.main_arg2)
      ∧ r.2.mem ((c.tc : Thread Cert.CtxInRefIdeal.nD Cert.CtxInRefIdeal.τ).loc Cert.CtxInRefIdeal.main_arg3) = m ((c.tc : Thread Cert.CtxInRefIdeal.nD Cert.CtxInRefIdeal.τ).loc Cert.CtxInRefIdeal.main_arg3))
      ∧ r.2.sem = fun _ => 0)

def quiescent_CtxLast [hCtxLast : Cert.CtxLast.Facts] : Prop :=
  ∀ (m : (ℓ : Loc Cert.CtxLast.nD Cert.CtxLast.τ Cert.CtxLast.sig) → Buf (Elt Bits) ℓ) (g : Dev Cert.CtxLast.nD → PrngReg), Pre_CtxLast m →
    θ_run (Cert.CtxLast.defs (F := Bits)) (onTc (τ := Cert.CtxLast.τ) (Cert.CtxLast.main (F := Bits))) ⟨m, fun _ => 0, g⟩ (fun r => (∀ c : Dev Cert.CtxLast.nD,
      r.2.mem ((c.tc : Thread Cert.CtxLast.nD Cert.CtxLast.τ).loc Cert.CtxLast.main_arg0) = m ((c.tc : Thread Cert.CtxLast.nD Cert.CtxLast.τ).loc Cert.CtxLast.main_arg0)
      ∧ r.2.mem ((c.tc : Thread Cert.CtxLast.nD Cert.CtxLast.τ).loc Cert.CtxLast.main_arg1) = m ((c.tc : Thread Cert.CtxLast.nD Cert.CtxLast.τ).loc Cert.CtxLast.main_arg1)
      ∧ r.2.mem ((c.tc : Thread Cert.CtxLast.nD Cert.CtxLast.τ).loc Cert.CtxLast.main_arg2) = m ((c.tc : Thread Cert.CtxLast.nD Cert.CtxLast.τ).loc Cert.CtxLast.main_arg2)
      ∧ r.2.mem ((c.tc : Thread Cert.CtxLast.nD Cert.CtxLast.τ).loc Cert.CtxLast.main_arg3) = m ((c.tc : Thread Cert.CtxLast.nD Cert.CtxLast.τ).loc Cert.CtxLast.main_arg3))
      ∧ r.2.sem = fun _ => 0)

def quiescent_CtxLastIdeal [hCtxLastIdeal : Cert.CtxLastIdeal.Facts] : Prop :=
  ∀ (m : (ℓ : Loc Cert.CtxLastIdeal.nD Cert.CtxLastIdeal.τ Cert.CtxLastIdeal.sig) → Buf (Elt Ideal) ℓ) (g : Dev Cert.CtxLastIdeal.nD → PrngReg), Pre_CtxLastIdeal m →
    θ_run (Cert.CtxLastIdeal.defs (F := Ideal)) (onTc (τ := Cert.CtxLastIdeal.τ) (Cert.CtxLastIdeal.main (F := Ideal))) ⟨m, fun _ => 0, g⟩ (fun r => (∀ c : Dev Cert.CtxLastIdeal.nD,
      r.2.mem ((c.tc : Thread Cert.CtxLastIdeal.nD Cert.CtxLastIdeal.τ).loc Cert.CtxLastIdeal.main_arg0) = m ((c.tc : Thread Cert.CtxLastIdeal.nD Cert.CtxLastIdeal.τ).loc Cert.CtxLastIdeal.main_arg0)
      ∧ r.2.mem ((c.tc : Thread Cert.CtxLastIdeal.nD Cert.CtxLastIdeal.τ).loc Cert.CtxLastIdeal.main_arg1) = m ((c.tc : Thread Cert.CtxLastIdeal.nD Cert.CtxLastIdeal.τ).loc Cert.CtxLastIdeal.main_arg1)
      ∧ r.2.mem ((c.tc : Thread Cert.CtxLastIdeal.nD Cert.CtxLastIdeal.τ).loc Cert.CtxLastIdeal.main_arg2) = m ((c.tc : Thread Cert.CtxLastIdeal.nD Cert.CtxLastIdeal.τ).loc Cert.CtxLastIdeal.main_arg2)
      ∧ r.2.mem ((c.tc : Thread Cert.CtxLastIdeal.nD Cert.CtxLastIdeal.τ).loc Cert.CtxLastIdeal.main_arg3) = m ((c.tc : Thread Cert.CtxLastIdeal.nD Cert.CtxLastIdeal.τ).loc Cert.CtxLastIdeal.main_arg3))
      ∧ r.2.sem = fun _ => 0)

def quiescent_CtxLastRefIdeal [hCtxLastRefIdeal : Cert.CtxLastRefIdeal.Facts] : Prop :=
  ∀ (m : (ℓ : Loc Cert.CtxLastRefIdeal.nD Cert.CtxLastRefIdeal.τ Cert.CtxLastRefIdeal.sig) → Buf (Elt Ideal) ℓ) (g : Dev Cert.CtxLastRefIdeal.nD → PrngReg), Pre_CtxLastRefIdeal m →
    θ_run (Cert.CtxLastRefIdeal.defs (F := Ideal)) (onTc (τ := Cert.CtxLastRefIdeal.τ) (Cert.CtxLastRefIdeal.main (F := Ideal))) ⟨m, fun _ => 0, g⟩ (fun r => (∀ c : Dev Cert.CtxLastRefIdeal.nD,
      r.2.mem ((c.tc : Thread Cert.CtxLastRefIdeal.nD Cert.CtxLastRefIdeal.τ).loc Cert.CtxLastRefIdeal.main_arg0) = m ((c.tc : Thread Cert.CtxLastRefIdeal.nD Cert.CtxLastRefIdeal.τ).loc Cert.CtxLastRefIdeal.main_arg0)
      ∧ r.2.mem ((c.tc : Thread Cert.CtxLastRefIdeal.nD Cert.CtxLastRefIdeal.τ).loc Cert.CtxLastRefIdeal.main_arg1) = m ((c.tc : Thread Cert.CtxLastRefIdeal.nD Cert.CtxLastRefIdeal.τ).loc Cert.CtxLastRefIdeal.main_arg1)
      ∧ r.2.mem ((c.tc : Thread Cert.CtxLastRefIdeal.nD Cert.CtxLastRefIdeal.τ).loc Cert.CtxLastRefIdeal.main_arg2) = m ((c.tc : Thread Cert.CtxLastRefIdeal.nD Cert.CtxLastRefIdeal.τ).loc Cert.CtxLastRefIdeal.main_arg2)
      ∧ r.2.mem ((c.tc : Thread Cert.CtxLastRefIdeal.nD Cert.CtxLastRefIdeal.τ).loc Cert.CtxLastRefIdeal.main_arg3) = m ((c.tc : Thread Cert.CtxLastRefIdeal.nD Cert.CtxLastRefIdeal.τ).loc Cert.CtxLastRefIdeal.main_arg3))
      ∧ r.2.sem = fun _ => 0)

def quiescent_OutMid [hOutMid : Cert.OutMid.Facts] : Prop :=
  ∀ (m : (ℓ : Loc Cert.OutMid.nD Cert.OutMid.τ Cert.OutMid.sig) → Buf (Elt Bits) ℓ) (g : Dev Cert.OutMid.nD → PrngReg), Pre_OutMid m →
    θ_run (Cert.OutMid.defs (F := Bits)) (onTc (τ := Cert.OutMid.τ) (Cert.OutMid.main (F := Bits))) ⟨m, fun _ => 0, g⟩ (fun r => (∀ c : Dev Cert.OutMid.nD,
      r.2.mem ((c.tc : Thread Cert.OutMid.nD Cert.OutMid.τ).loc Cert.OutMid.main_arg0) = m ((c.tc : Thread Cert.OutMid.nD Cert.OutMid.τ).loc Cert.OutMid.main_arg0)
      ∧ r.2.mem ((c.tc : Thread Cert.OutMid.nD Cert.OutMid.τ).loc Cert.OutMid.main_arg1) = m ((c.tc : Thread Cert.OutMid.nD Cert.OutMid.τ).loc Cert.OutMid.main_arg1)
      ∧ r.2.mem ((c.tc : Thread Cert.OutMid.nD Cert.OutMid.τ).loc Cert.OutMid.main_arg2) = m ((c.tc : Thread Cert.OutMid.nD Cert.OutMid.τ).loc Cert.OutMid.main_arg2)
      ∧ r.2.mem ((c.tc : Thread Cert.OutMid.nD Cert.OutMid.τ).loc Cert.OutMid.main_arg3) = m ((c.tc : Thread Cert.OutMid.nD Cert.OutMid.τ).loc Cert.OutMid.main_arg3)
      ∧ r.2.mem ((c.tc : Thread Cert.OutMid.nD Cert.OutMid.τ).loc Cert.OutMid.main_arg4) = m ((c.tc : Thread Cert.OutMid.nD Cert.OutMid.τ).loc Cert.OutMid.main_arg4)
      ∧ r.2.mem ((c.tc : Thread Cert.OutMid.nD Cert.OutMid.τ).loc Cert.OutMid.main_arg5) = m ((c.tc : Thread Cert.OutMid.nD Cert.OutMid.τ).loc Cert.OutMid.main_arg5))
      ∧ r.2.sem = fun _ => 0)

def quiescent_OutMidIdeal [hOutMidIdeal : Cert.OutMidIdeal.Facts] : Prop :=
  ∀ (m : (ℓ : Loc Cert.OutMidIdeal.nD Cert.OutMidIdeal.τ Cert.OutMidIdeal.sig) → Buf (Elt Ideal) ℓ) (g : Dev Cert.OutMidIdeal.nD → PrngReg), Pre_OutMidIdeal m →
    θ_run (Cert.OutMidIdeal.defs (F := Ideal)) (onTc (τ := Cert.OutMidIdeal.τ) (Cert.OutMidIdeal.main (F := Ideal))) ⟨m, fun _ => 0, g⟩ (fun r => (∀ c : Dev Cert.OutMidIdeal.nD,
      r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
      ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
      ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
      ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3)
      ∧ r.2.mem ((c.tc : Thread Cert.OutMidIdeal.nD Cert.OutMidIdeal.τ).loc Cert.OutMidIdeal.main_arg4) = m ((c.tc : Thread Cert.OutMidIdeal.nD Cert.OutMidIdeal.τ).loc Cert.OutMidIdeal.main_arg4)
      ∧ r.2.mem ((c.tc : Thread Cert.OutMidIdeal.nD Cert.OutMidIdeal.τ).loc Cert.OutMidIdeal.main_arg5) = m ((c.tc : Thread Cert.OutMidIdeal.nD Cert.OutMidIdeal.τ).loc Cert.OutMidIdeal.main_arg5))
      ∧ r.2.sem = fun _ => 0)

def quiescent_OutMidRefIdeal [hOutMidRefIdeal : Cert.OutMidRefIdeal.Facts] : Prop :=
  ∀ (m : (ℓ : Loc Cert.OutMidRefIdeal.nD Cert.OutMidRefIdeal.τ Cert.OutMidRefIdeal.sig) → Buf (Elt Ideal) ℓ) (g : Dev Cert.OutMidRefIdeal.nD → PrngReg), Pre_OutMidRefIdeal m →
    θ_run (Cert.OutMidRefIdeal.defs (F := Ideal)) (onTc (τ := Cert.OutMidRefIdeal.τ) (Cert.OutMidRefIdeal.main (F := Ideal))) ⟨m, fun _ => 0, g⟩ (fun r => (∀ c : Dev Cert.OutMidRefIdeal.nD,
      r.2.mem ((c.tc : Thread Cert.OutMidRefIdeal.nD Cert.OutMidRefIdeal.τ).loc Cert.OutMidRefIdeal.main_arg0) = m ((c.tc : Thread Cert.OutMidRefIdeal.nD Cert.OutMidRefIdeal.τ).loc Cert.OutMidRefIdeal.main_arg0)
      ∧ r.2.mem ((c.tc : Thread Cert.OutMidRefIdeal.nD Cert.OutMidRefIdeal.τ).loc Cert.OutMidRefIdeal.main_arg1) = m ((c.tc : Thread Cert.OutMidRefIdeal.nD Cert.OutMidRefIdeal.τ).loc Cert.OutMidRefIdeal.main_arg1)
      ∧ r.2.mem ((c.tc : Thread Cert.OutMidRefIdeal.nD Cert.OutMidRefIdeal.τ).loc Cert.OutMidRefIdeal.main_arg2) = m ((c.tc : Thread Cert.OutMidRefIdeal.nD Cert.OutMidRefIdeal.τ).loc Cert.OutMidRefIdeal.main_arg2)
      ∧ r.2.mem ((c.tc : Thread Cert.OutMidRefIdeal.nD Cert.OutMidRefIdeal.τ).loc Cert.OutMidRefIdeal.main_arg3) = m ((c.tc : Thread Cert.OutMidRefIdeal.nD Cert.OutMidRefIdeal.τ).loc Cert.OutMidRefIdeal.main_arg3)
      ∧ r.2.mem ((c.tc : Thread Cert.OutMidRefIdeal.nD Cert.OutMidRefIdeal.τ).loc Cert.OutMidRefIdeal.main_arg4) = m ((c.tc : Thread Cert.OutMidRefIdeal.nD Cert.OutMidRefIdeal.τ).loc Cert.OutMidRefIdeal.main_arg4)
      ∧ r.2.mem ((c.tc : Thread Cert.OutMidRefIdeal.nD Cert.OutMidRefIdeal.τ).loc Cert.OutMidRefIdeal.main_arg5) = m ((c.tc : Thread Cert.OutMidRefIdeal.nD Cert.OutMidRefIdeal.τ).loc Cert.OutMidRefIdeal.main_arg5))
      ∧ r.2.sem = fun _ => 0)

def quiescent_OutCtx [hOutCtx : Cert.OutCtx.Facts] : Prop :=
  ∀ (m : (ℓ : Loc Cert.OutCtx.nD Cert.OutCtx.τ Cert.OutCtx.sig) → Buf (Elt Bits) ℓ) (g : Dev Cert.OutCtx.nD → PrngReg), Pre_OutCtx m →
    θ_run (Cert.OutCtx.defs (F := Bits)) (onTc (τ := Cert.OutCtx.τ) (Cert.OutCtx.main (F := Bits))) ⟨m, fun _ => 0, g⟩ (fun r => (∀ c : Dev Cert.OutCtx.nD,
      r.2.mem ((c.tc : Thread Cert.OutCtx.nD Cert.OutCtx.τ).loc Cert.OutCtx.main_arg0) = m ((c.tc : Thread Cert.OutCtx.nD Cert.OutCtx.τ).loc Cert.OutCtx.main_arg0)
      ∧ r.2.mem ((c.tc : Thread Cert.OutCtx.nD Cert.OutCtx.τ).loc Cert.OutCtx.main_arg1) = m ((c.tc : Thread Cert.OutCtx.nD Cert.OutCtx.τ).loc Cert.OutCtx.main_arg1)
      ∧ r.2.mem ((c.tc : Thread Cert.OutCtx.nD Cert.OutCtx.τ).loc Cert.OutCtx.main_arg2) = m ((c.tc : Thread Cert.OutCtx.nD Cert.OutCtx.τ).loc Cert.OutCtx.main_arg2)
      ∧ r.2.mem ((c.tc : Thread Cert.OutCtx.nD Cert.OutCtx.τ).loc Cert.OutCtx.main_arg3) = m ((c.tc : Thread Cert.OutCtx.nD Cert.OutCtx.τ).loc Cert.OutCtx.main_arg3)
      ∧ r.2.mem ((c.tc : Thread Cert.OutCtx.nD Cert.OutCtx.τ).loc Cert.OutCtx.main_arg4) = m ((c.tc : Thread Cert.OutCtx.nD Cert.OutCtx.τ).loc Cert.OutCtx.main_arg4)
      ∧ r.2.mem ((c.tc : Thread Cert.OutCtx.nD Cert.OutCtx.τ).loc Cert.OutCtx.main_arg5) = m ((c.tc : Thread Cert.OutCtx.nD Cert.OutCtx.τ).loc Cert.OutCtx.main_arg5))
      ∧ r.2.sem = fun _ => 0)

def quiescent_OutCtxIdeal [hOutCtxIdeal : Cert.OutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg), Pre_OutCtxIdeal m →
    θ_run (Cert.OutCtxIdeal.defs (F := Ideal)) (onTc (τ := Cert.OutCtxIdeal.τ) (Cert.OutCtxIdeal.main (F := Ideal))) ⟨m, fun _ => 0, g⟩ (fun r => (∀ c : Dev Cert.OutCtxIdeal.nD,
      r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
      ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
      ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
      ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
      ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
      ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5))
      ∧ r.2.sem = fun _ => 0)

def quiescent_OutCtxRefIdeal [hOutCtxRefIdeal : Cert.OutCtxRefIdeal.Facts] : Prop :=
  ∀ (m : (ℓ : Loc Cert.OutCtxRefIdeal.nD Cert.OutCtxRefIdeal.τ Cert.OutCtxRefIdeal.sig) → Buf (Elt Ideal) ℓ) (g : Dev Cert.OutCtxRefIdeal.nD → PrngReg), Pre_OutCtxRefIdeal m →
    θ_run (Cert.OutCtxRefIdeal.defs (F := Ideal)) (onTc (τ := Cert.OutCtxRefIdeal.τ) (Cert.OutCtxRefIdeal.main (F := Ideal))) ⟨m, fun _ => 0, g⟩ (fun r => (∀ c : Dev Cert.OutCtxRefIdeal.nD,
      r.2.mem ((c.tc : Thread Cert.OutCtxRefIdeal.nD Cert.OutCtxRefIdeal.τ).loc Cert.OutCtxRefIdeal.main_arg0) = m ((c.tc : Thread Cert.OutCtxRefIdeal.nD Cert.OutCtxRefIdeal.τ).loc Cert.OutCtxRefIdeal.main_arg0)
      ∧ r.2.mem ((c.tc : Thread Cert.OutCtxRefIdeal.nD Cert.OutCtxRefIdeal.τ).loc Cert.OutCtxRefIdeal.main_arg1) = m ((c.tc : Thread Cert.OutCtxRefIdeal.nD Cert.OutCtxRefIdeal.τ).loc Cert.OutCtxRefIdeal.main_arg1)
      ∧ r.2.mem ((c.tc : Thread Cert.OutCtxRefIdeal.nD Cert.OutCtxRefIdeal.τ).loc Cert.OutCtxRefIdeal.main_arg2) = m ((c.tc : Thread Cert.OutCtxRefIdeal.nD Cert.OutCtxRefIdeal.τ).loc Cert.OutCtxRefIdeal.main_arg2)
      ∧ r.2.mem ((c.tc : Thread Cert.OutCtxRefIdeal.nD Cert.OutCtxRefIdeal.τ).loc Cert.OutCtxRefIdeal.main_arg3) = m ((c.tc : Thread Cert.OutCtxRefIdeal.nD Cert.OutCtxRefIdeal.τ).loc Cert.OutCtxRefIdeal.main_arg3)
      ∧ r.2.mem ((c.tc : Thread Cert.OutCtxRefIdeal.nD Cert.OutCtxRefIdeal.τ).loc Cert.OutCtxRefIdeal.main_arg4) = m ((c.tc : Thread Cert.OutCtxRefIdeal.nD Cert.OutCtxRefIdeal.τ).loc Cert.OutCtxRefIdeal.main_arg4)
      ∧ r.2.mem ((c.tc : Thread Cert.OutCtxRefIdeal.nD Cert.OutCtxRefIdeal.τ).loc Cert.OutCtxRefIdeal.main_arg5) = m ((c.tc : Thread Cert.OutCtxRefIdeal.nD Cert.OutCtxRefIdeal.τ).loc Cert.OutCtxRefIdeal.main_arg5))
      ∧ r.2.sem = fun _ => 0)

def quiescent_PoolConv [hPoolConv : Cert.PoolConv.Facts] : Prop :=
  ∀ (m : (ℓ : Loc Cert.PoolConv.nD Cert.PoolConv.τ Cert.PoolConv.sig) → Buf (Elt Bits) ℓ) (g : Dev Cert.PoolConv.nD → PrngReg), Pre_PoolConv m →
    θ_run (Cert.PoolConv.defs (F := Bits)) (onTc (τ := Cert.PoolConv.τ) (Cert.PoolConv.main (F := Bits))) ⟨m, fun _ => 0, g⟩ (fun r => (∀ c : Dev Cert.PoolConv.nD,
      r.2.mem ((c.tc : Thread Cert.PoolConv.nD Cert.PoolConv.τ).loc Cert.PoolConv.main_arg0) = m ((c.tc : Thread Cert.PoolConv.nD Cert.PoolConv.τ).loc Cert.PoolConv.main_arg0)
      ∧ r.2.mem ((c.tc : Thread Cert.PoolConv.nD Cert.PoolConv.τ).loc Cert.PoolConv.main_arg1) = m ((c.tc : Thread Cert.PoolConv.nD Cert.PoolConv.τ).loc Cert.PoolConv.main_arg1)
      ∧ r.2.mem ((c.tc : Thread Cert.PoolConv.nD Cert.PoolConv.τ).loc Cert.PoolConv.main_arg2) = m ((c.tc : Thread Cert.PoolConv.nD Cert.PoolConv.τ).loc Cert.PoolConv.main_arg2)
      ∧ r.2.mem ((c.tc : Thread Cert.PoolConv.nD Cert.PoolConv.τ).loc Cert.PoolConv.main_arg3) = m ((c.tc : Thread Cert.PoolConv.nD Cert.PoolConv.τ).loc Cert.PoolConv.main_arg3)
      ∧ r.2.mem ((c.tc : Thread Cert.PoolConv.nD Cert.PoolConv.τ).loc Cert.PoolConv.main_arg4) = m ((c.tc : Thread Cert.PoolConv.nD Cert.PoolConv.τ).loc Cert.PoolConv.main_arg4)
      ∧ r.2.mem ((c.tc : Thread Cert.PoolConv.nD Cert.PoolConv.τ).loc Cert.PoolConv.main_arg5) = m ((c.tc : Thread Cert.PoolConv.nD Cert.PoolConv.τ).loc Cert.PoolConv.main_arg5)
      ∧ r.2.mem ((c.tc : Thread Cert.PoolConv.nD Cert.PoolConv.τ).loc Cert.PoolConv.main_arg6) = m ((c.tc : Thread Cert.PoolConv.nD Cert.PoolConv.τ).loc Cert.PoolConv.main_arg6)
      ∧ r.2.mem ((c.tc : Thread Cert.PoolConv.nD Cert.PoolConv.τ).loc Cert.PoolConv.main_arg7) = m ((c.tc : Thread Cert.PoolConv.nD Cert.PoolConv.τ).loc Cert.PoolConv.main_arg7))
      ∧ r.2.sem = fun _ => 0)

def quiescent_PoolConvIdeal [hPoolConvIdeal : Cert.PoolConvIdeal.Facts] : Prop :=
  ∀ (m : (ℓ : Loc Cert.PoolConvIdeal.nD Cert.PoolConvIdeal.τ Cert.PoolConvIdeal.sig) → Buf (Elt Ideal) ℓ) (g : Dev Cert.PoolConvIdeal.nD → PrngReg), Pre_PoolConvIdeal m →
    θ_run (Cert.PoolConvIdeal.defs (F := Ideal)) (onTc (τ := Cert.PoolConvIdeal.τ) (Cert.PoolConvIdeal.main (F := Ideal))) ⟨m, fun _ => 0, g⟩ (fun r => (∀ c : Dev Cert.PoolConvIdeal.nD,
      r.2.mem ((c.tc : Thread Cert.PoolConvIdeal.nD Cert.PoolConvIdeal.τ).loc Cert.PoolConvIdeal.main_arg0) = m ((c.tc : Thread Cert.PoolConvIdeal.nD Cert.PoolConvIdeal.τ).loc Cert.PoolConvIdeal.main_arg0)
      ∧ r.2.mem ((c.tc : Thread Cert.PoolConvIdeal.nD Cert.PoolConvIdeal.τ).loc Cert.PoolConvIdeal.main_arg1) = m ((c.tc : Thread Cert.PoolConvIdeal.nD Cert.PoolConvIdeal.τ).loc Cert.PoolConvIdeal.main_arg1)
      ∧ r.2.mem ((c.tc : Thread Cert.PoolConvIdeal.nD Cert.PoolConvIdeal.τ).loc Cert.PoolConvIdeal.main_arg2) = m ((c.tc : Thread Cert.PoolConvIdeal.nD Cert.PoolConvIdeal.τ).loc Cert.PoolConvIdeal.main_arg2)
      ∧ r.2.mem ((c.tc : Thread Cert.PoolConvIdeal.nD Cert.PoolConvIdeal.τ).loc Cert.PoolConvIdeal.main_arg3) = m ((c.tc : Thread Cert.PoolConvIdeal.nD Cert.PoolConvIdeal.τ).loc Cert.PoolConvIdeal.main_arg3)
      ∧ r.2.mem ((c.tc : Thread Cert.PoolConvIdeal.nD Cert.PoolConvIdeal.τ).loc Cert.PoolConvIdeal.main_arg4) = m ((c.tc : Thread Cert.PoolConvIdeal.nD Cert.PoolConvIdeal.τ).loc Cert.PoolConvIdeal.main_arg4)
      ∧ r.2.mem ((c.tc : Thread Cert.PoolConvIdeal.nD Cert.PoolConvIdeal.τ).loc Cert.PoolConvIdeal.main_arg5) = m ((c.tc : Thread Cert.PoolConvIdeal.nD Cert.PoolConvIdeal.τ).loc Cert.PoolConvIdeal.main_arg5)
      ∧ r.2.mem ((c.tc : Thread Cert.PoolConvIdeal.nD Cert.PoolConvIdeal.τ).loc Cert.PoolConvIdeal.main_arg6) = m ((c.tc : Thread Cert.PoolConvIdeal.nD Cert.PoolConvIdeal.τ).loc Cert.PoolConvIdeal.main_arg6)
      ∧ r.2.mem ((c.tc : Thread Cert.PoolConvIdeal.nD Cert.PoolConvIdeal.τ).loc Cert.PoolConvIdeal.main_arg7) = m ((c.tc : Thread Cert.PoolConvIdeal.nD Cert.PoolConvIdeal.τ).loc Cert.PoolConvIdeal.main_arg7))
      ∧ r.2.sem = fun _ => 0)

def quiescent_PoolConvRefIdeal [hPoolConvRefIdeal : Cert.PoolConvRefIdeal.Facts] : Prop :=
  ∀ (m : (ℓ : Loc Cert.PoolConvRefIdeal.nD Cert.PoolConvRefIdeal.τ Cert.PoolConvRefIdeal.sig) → Buf (Elt Ideal) ℓ) (g : Dev Cert.PoolConvRefIdeal.nD → PrngReg), Pre_PoolConvRefIdeal m →
    θ_run (Cert.PoolConvRefIdeal.defs (F := Ideal)) (onTc (τ := Cert.PoolConvRefIdeal.τ) (Cert.PoolConvRefIdeal.main (F := Ideal))) ⟨m, fun _ => 0, g⟩ (fun r => (∀ c : Dev Cert.PoolConvRefIdeal.nD,
      r.2.mem ((c.tc : Thread Cert.PoolConvRefIdeal.nD Cert.PoolConvRefIdeal.τ).loc Cert.PoolConvRefIdeal.main_arg0) = m ((c.tc : Thread Cert.PoolConvRefIdeal.nD Cert.PoolConvRefIdeal.τ).loc Cert.PoolConvRefIdeal.main_arg0)
      ∧ r.2.mem ((c.tc : Thread Cert.PoolConvRefIdeal.nD Cert.PoolConvRefIdeal.τ).loc Cert.PoolConvRefIdeal.main_arg1) = m ((c.tc : Thread Cert.PoolConvRefIdeal.nD Cert.PoolConvRefIdeal.τ).loc Cert.PoolConvRefIdeal.main_arg1)
      ∧ r.2.mem ((c.tc : Thread Cert.PoolConvRefIdeal.nD Cert.PoolConvRefIdeal.τ).loc Cert.PoolConvRefIdeal.main_arg2) = m ((c.tc : Thread Cert.PoolConvRefIdeal.nD Cert.PoolConvRefIdeal.τ).loc Cert.PoolConvRefIdeal.main_arg2)
      ∧ r.2.mem ((c.tc : Thread Cert.PoolConvRefIdeal.nD Cert.PoolConvRefIdeal.τ).loc Cert.PoolConvRefIdeal.main_arg3) = m ((c.tc : Thread Cert.PoolConvRefIdeal.nD Cert.PoolConvRefIdeal.τ).loc Cert.PoolConvRefIdeal.main_arg3)
      ∧ r.2.mem ((c.tc : Thread Cert.PoolConvRefIdeal.nD Cert.PoolConvRefIdeal.τ).loc Cert.PoolConvRefIdeal.main_arg4) = m ((c.tc : Thread Cert.PoolConvRefIdeal.nD Cert.PoolConvRefIdeal.τ).loc Cert.PoolConvRefIdeal.main_arg4)
      ∧ r.2.mem ((c.tc : Thread Cert.PoolConvRefIdeal.nD Cert.PoolConvRefIdeal.τ).loc Cert.PoolConvRefIdeal.main_arg5) = m ((c.tc : Thread Cert.PoolConvRefIdeal.nD Cert.PoolConvRefIdeal.τ).loc Cert.PoolConvRefIdeal.main_arg5)
      ∧ r.2.mem ((c.tc : Thread Cert.PoolConvRefIdeal.nD Cert.PoolConvRefIdeal.τ).loc Cert.PoolConvRefIdeal.main_arg6) = m ((c.tc : Thread Cert.PoolConvRefIdeal.nD Cert.PoolConvRefIdeal.τ).loc Cert.PoolConvRefIdeal.main_arg6)
      ∧ r.2.mem ((c.tc : Thread Cert.PoolConvRefIdeal.nD Cert.PoolConvRefIdeal.τ).loc Cert.PoolConvRefIdeal.main_arg7) = m ((c.tc : Thread Cert.PoolConvRefIdeal.nD Cert.PoolConvRefIdeal.τ).loc Cert.PoolConvRefIdeal.main_arg7))
      ∧ r.2.sem = fun _ => 0)

def quiescent_AttLast [hAttLast : Cert.AttLast.Facts] : Prop :=
  ∀ (m : (ℓ : Loc Cert.AttLast.nD Cert.AttLast.τ Cert.AttLast.sig) → Buf (Elt Bits) ℓ) (g : Dev Cert.AttLast.nD → PrngReg), Pre_AttLast m →
    θ_run (Cert.AttLast.defs (F := Bits)) (onTc (τ := Cert.AttLast.τ) (Cert.AttLast.main (F := Bits))) ⟨m, fun _ => 0, g⟩ (fun r => (∀ c : Dev Cert.AttLast.nD,
      r.2.mem ((c.tc : Thread Cert.AttLast.nD Cert.AttLast.τ).loc Cert.AttLast.main_arg0) = m ((c.tc : Thread Cert.AttLast.nD Cert.AttLast.τ).loc Cert.AttLast.main_arg0)
      ∧ r.2.mem ((c.tc : Thread Cert.AttLast.nD Cert.AttLast.τ).loc Cert.AttLast.main_arg1) = m ((c.tc : Thread Cert.AttLast.nD Cert.AttLast.τ).loc Cert.AttLast.main_arg1)
      ∧ r.2.mem ((c.tc : Thread Cert.AttLast.nD Cert.AttLast.τ).loc Cert.AttLast.main_arg2) = m ((c.tc : Thread Cert.AttLast.nD Cert.AttLast.τ).loc Cert.AttLast.main_arg2)
      ∧ r.2.mem ((c.tc : Thread Cert.AttLast.nD Cert.AttLast.τ).loc Cert.AttLast.main_arg3) = m ((c.tc : Thread Cert.AttLast.nD Cert.AttLast.τ).loc Cert.AttLast.main_arg3))
      ∧ r.2.sem = fun _ => 0)

def quiescent_AttLastIdeal [hAttLastIdeal : Cert.AttLastIdeal.Facts] : Prop :=
  ∀ (m : (ℓ : Loc Cert.AttLastIdeal.nD Cert.AttLastIdeal.τ Cert.AttLastIdeal.sig) → Buf (Elt Ideal) ℓ) (g : Dev Cert.AttLastIdeal.nD → PrngReg), Pre_AttLastIdeal m →
    θ_run (Cert.AttLastIdeal.defs (F := Ideal)) (onTc (τ := Cert.AttLastIdeal.τ) (Cert.AttLastIdeal.main (F := Ideal))) ⟨m, fun _ => 0, g⟩ (fun r => (∀ c : Dev Cert.AttLastIdeal.nD,
      r.2.mem ((c.tc : Thread Cert.AttLastIdeal.nD Cert.AttLastIdeal.τ).loc Cert.AttLastIdeal.main_arg0) = m ((c.tc : Thread Cert.AttLastIdeal.nD Cert.AttLastIdeal.τ).loc Cert.AttLastIdeal.main_arg0)
      ∧ r.2.mem ((c.tc : Thread Cert.AttLastIdeal.nD Cert.AttLastIdeal.τ).loc Cert.AttLastIdeal.main_arg1) = m ((c.tc : Thread Cert.AttLastIdeal.nD Cert.AttLastIdeal.τ).loc Cert.AttLastIdeal.main_arg1)
      ∧ r.2.mem ((c.tc : Thread Cert.AttLastIdeal.nD Cert.AttLastIdeal.τ).loc Cert.AttLastIdeal.main_arg2) = m ((c.tc : Thread Cert.AttLastIdeal.nD Cert.AttLastIdeal.τ).loc Cert.AttLastIdeal.main_arg2)
      ∧ r.2.mem ((c.tc : Thread Cert.AttLastIdeal.nD Cert.AttLastIdeal.τ).loc Cert.AttLastIdeal.main_arg3) = m ((c.tc : Thread Cert.AttLastIdeal.nD Cert.AttLastIdeal.τ).loc Cert.AttLastIdeal.main_arg3))
      ∧ r.2.sem = fun _ => 0)

def quiescent_AttLastIdeal_pre_finite_last [hAttLastIdeal : Cert.AttLastIdeal.Facts] [hPre_finite_last : Cert.Pre_finite_last.Facts] : Prop :=
  ∀ (m : (ℓ : Loc Cert.AttLastIdeal.nD Cert.AttLastIdeal.τ Cert.AttLastIdeal.sig) → Buf (Elt Ideal) ℓ) (g : Dev Cert.AttLastIdeal.nD → PrngReg), Pre_AttLastIdeal_finite_last m →
    θ_run (Cert.AttLastIdeal.defs (F := Ideal)) (onTc (τ := Cert.AttLastIdeal.τ) (Cert.AttLastIdeal.main (F := Ideal))) ⟨m, fun _ => 0, g⟩ (fun r => (∀ c : Dev Cert.AttLastIdeal.nD,
      r.2.mem ((c.tc : Thread Cert.AttLastIdeal.nD Cert.AttLastIdeal.τ).loc Cert.AttLastIdeal.main_arg0) = m ((c.tc : Thread Cert.AttLastIdeal.nD Cert.AttLastIdeal.τ).loc Cert.AttLastIdeal.main_arg0)
      ∧ r.2.mem ((c.tc : Thread Cert.AttLastIdeal.nD Cert.AttLastIdeal.τ).loc Cert.AttLastIdeal.main_arg1) = m ((c.tc : Thread Cert.AttLastIdeal.nD Cert.AttLastIdeal.τ).loc Cert.AttLastIdeal.main_arg1)
      ∧ r.2.mem ((c.tc : Thread Cert.AttLastIdeal.nD Cert.AttLastIdeal.τ).loc Cert.AttLastIdeal.main_arg2) = m ((c.tc : Thread Cert.AttLastIdeal.nD Cert.AttLastIdeal.τ).loc Cert.AttLastIdeal.main_arg2)
      ∧ r.2.mem ((c.tc : Thread Cert.AttLastIdeal.nD Cert.AttLastIdeal.τ).loc Cert.AttLastIdeal.main_arg3) = m ((c.tc : Thread Cert.AttLastIdeal.nD Cert.AttLastIdeal.τ).loc Cert.AttLastIdeal.main_arg3))
      ∧ r.2.sem = fun _ => 0)

def quiescent_AttLastRefIdeal [hAttLastRefIdeal : Cert.AttLastRefIdeal.Facts] : Prop :=
  ∀ (m : (ℓ : Loc Cert.AttLastRefIdeal.nD Cert.AttLastRefIdeal.τ Cert.AttLastRefIdeal.sig) → Buf (Elt Ideal) ℓ) (g : Dev Cert.AttLastRefIdeal.nD → PrngReg), Pre_AttLastRefIdeal m →
    θ_run (Cert.AttLastRefIdeal.defs (F := Ideal)) (onTc (τ := Cert.AttLastRefIdeal.τ) (Cert.AttLastRefIdeal.main (F := Ideal))) ⟨m, fun _ => 0, g⟩ (fun r => (∀ c : Dev Cert.AttLastRefIdeal.nD,
      r.2.mem ((c.tc : Thread Cert.AttLastRefIdeal.nD Cert.AttLastRefIdeal.τ).loc Cert.AttLastRefIdeal.main_arg0) = m ((c.tc : Thread Cert.AttLastRefIdeal.nD Cert.AttLastRefIdeal.τ).loc Cert.AttLastRefIdeal.main_arg0)
      ∧ r.2.mem ((c.tc : Thread Cert.AttLastRefIdeal.nD Cert.AttLastRefIdeal.τ).loc Cert.AttLastRefIdeal.main_arg1) = m ((c.tc : Thread Cert.AttLastRefIdeal.nD Cert.AttLastRefIdeal.τ).loc Cert.AttLastRefIdeal.main_arg1)
      ∧ r.2.mem ((c.tc : Thread Cert.AttLastRefIdeal.nD Cert.AttLastRefIdeal.τ).loc Cert.AttLastRefIdeal.main_arg2) = m ((c.tc : Thread Cert.AttLastRefIdeal.nD Cert.AttLastRefIdeal.τ).loc Cert.AttLastRefIdeal.main_arg2)
      ∧ r.2.mem ((c.tc : Thread Cert.AttLastRefIdeal.nD Cert.AttLastRefIdeal.τ).loc Cert.AttLastRefIdeal.main_arg3) = m ((c.tc : Thread Cert.AttLastRefIdeal.nD Cert.AttLastRefIdeal.τ).loc Cert.AttLastRefIdeal.main_arg3))
      ∧ r.2.sem = fun _ => 0)

def quiescent_AttLastRefIdeal_pre_finite_last [hAttLastRefIdeal : Cert.AttLastRefIdeal.Facts] [hPre_finite_last : Cert.Pre_finite_last.Facts] : Prop :=
  ∀ (m : (ℓ : Loc Cert.AttLastRefIdeal.nD Cert.AttLastRefIdeal.τ Cert.AttLastRefIdeal.sig) → Buf (Elt Ideal) ℓ) (g : Dev Cert.AttLastRefIdeal.nD → PrngReg), Pre_AttLastRefIdeal_finite_last m →
    θ_run (Cert.AttLastRefIdeal.defs (F := Ideal)) (onTc (τ := Cert.AttLastRefIdeal.τ) (Cert.AttLastRefIdeal.main (F := Ideal))) ⟨m, fun _ => 0, g⟩ (fun r => (∀ c : Dev Cert.AttLastRefIdeal.nD,
      r.2.mem ((c.tc : Thread Cert.AttLastRefIdeal.nD Cert.AttLastRefIdeal.τ).loc Cert.AttLastRefIdeal.main_arg0) = m ((c.tc : Thread Cert.AttLastRefIdeal.nD Cert.AttLastRefIdeal.τ).loc Cert.AttLastRefIdeal.main_arg0)
      ∧ r.2.mem ((c.tc : Thread Cert.AttLastRefIdeal.nD Cert.AttLastRefIdeal.τ).loc Cert.AttLastRefIdeal.main_arg1) = m ((c.tc : Thread Cert.AttLastRefIdeal.nD Cert.AttLastRefIdeal.τ).loc Cert.AttLastRefIdeal.main_arg1)
      ∧ r.2.mem ((c.tc : Thread Cert.AttLastRefIdeal.nD Cert.AttLastRefIdeal.τ).loc Cert.AttLastRefIdeal.main_arg2) = m ((c.tc : Thread Cert.AttLastRefIdeal.nD Cert.AttLastRefIdeal.τ).loc Cert.AttLastRefIdeal.main_arg2)
      ∧ r.2.mem ((c.tc : Thread Cert.AttLastRefIdeal.nD Cert.AttLastRefIdeal.τ).loc Cert.AttLastRefIdeal.main_arg3) = m ((c.tc : Thread Cert.AttLastRefIdeal.nD Cert.AttLastRefIdeal.τ).loc Cert.AttLastRefIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3)
      ∧ r.2.mem ((c.tc : Thread Cert.Modulation.nD Cert.Modulation.τ).loc Cert.Modulation.main_arg4) = m ((c.tc : Thread Cert.Modulation.nD Cert.Modulation.τ).loc Cert.Modulation.main_arg4)
      ∧ r.2.mem ((c.tc : Thread Cert.Modulation.nD Cert.Modulation.τ).loc Cert.Modulation.main_arg5) = m ((c.tc : Thread Cert.Modulation.nD Cert.Modulation.τ).loc Cert.Modulation.main_arg5)
      ∧ r.2.mem ((c.tc : Thread Cert.Modulation.nD Cert.Modulation.τ).loc Cert.Modulation.main_arg6) = m ((c.tc : Thread Cert.Modulation.nD Cert.Modulation.τ).loc Cert.Modulation.main_arg6)
      ∧ r.2.mem ((c.tc : Thread Cert.Modulation.nD Cert.Modulation.τ).loc Cert.Modulation.main_arg7) = m ((c.tc : Thread Cert.Modulation.nD Cert.Modulation.τ).loc Cert.Modulation.main_arg7))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
      ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
      ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
      ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6)
      ∧ r.2.mem ((c.tc : Thread Cert.ModulationIdeal.nD Cert.ModulationIdeal.τ).loc Cert.ModulationIdeal.main_arg7) = m ((c.tc : Thread Cert.ModulationIdeal.nD Cert.ModulationIdeal.τ).loc Cert.ModulationIdeal.main_arg7))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3)
      ∧ r.2.mem ((c.tc : Thread Cert.ModulationRefIdeal.nD Cert.ModulationRefIdeal.τ).loc Cert.ModulationRefIdeal.main_arg4) = m ((c.tc : Thread Cert.ModulationRefIdeal.nD Cert.ModulationRefIdeal.τ).loc Cert.ModulationRefIdeal.main_arg4)
      ∧ r.2.mem ((c.tc : Thread Cert.ModulationRefIdeal.nD Cert.ModulationRefIdeal.τ).loc Cert.ModulationRefIdeal.main_arg5) = m ((c.tc : Thread Cert.ModulationRefIdeal.nD Cert.ModulationRefIdeal.τ).loc Cert.ModulationRefIdeal.main_arg5)
      ∧ r.2.mem ((c.tc : Thread Cert.ModulationRefIdeal.nD Cert.ModulationRefIdeal.τ).loc Cert.ModulationRefIdeal.main_arg6) = m ((c.tc : Thread Cert.ModulationRefIdeal.nD Cert.ModulationRefIdeal.τ).loc Cert.ModulationRefIdeal.main_arg6)
      ∧ r.2.mem ((c.tc : Thread Cert.ModulationRefIdeal.nD Cert.ModulationRefIdeal.τ).loc Cert.ModulationRefIdeal.main_arg7) = m ((c.tc : Thread Cert.ModulationRefIdeal.nD Cert.ModulationRefIdeal.τ).loc Cert.ModulationRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v41)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v41) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v138) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v23) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_CtxIn_CtxInIdeal : Prop :=
  True

def algebraic_CtxInIdeal_CtxInRefIdeal [hCtxInIdeal : Cert.CtxInIdeal.Facts] [hCtxInRefIdeal : Cert.CtxInRefIdeal.Facts] : Prop :=
  ∀ (m : (ℓ : Loc Cert.CtxInIdeal.nD Cert.CtxInIdeal.τ Cert.CtxInIdeal.sig) → Buf (Elt Ideal) ℓ) (g : Dev Cert.CtxInIdeal.nD → PrngReg)
    (m' : (ℓ : Loc Cert.CtxInRefIdeal.nD Cert.CtxInRefIdeal.τ Cert.CtxInRefIdeal.sig) → Buf (Elt Ideal) ℓ) (g' : Dev Cert.CtxInRefIdeal.nD → PrngReg), Pre_CtxInIdeal m →
    (∀ c : Dev Cert.CtxInIdeal.nD,
      m' ((c.tc : Thread Cert.CtxInRefIdeal.nD Cert.CtxInRefIdeal.τ).loc Cert.CtxInRefIdeal.main_arg0) = m ((c.tc : Thread Cert.CtxInIdeal.nD Cert.CtxInIdeal.τ).loc Cert.CtxInIdeal.main_arg0)
      ∧ m' ((c.tc : Thread Cert.CtxInRefIdeal.nD Cert.CtxInRefIdeal.τ).loc Cert.CtxInRefIdeal.main_arg1) = m ((c.tc : Thread Cert.CtxInIdeal.nD Cert.CtxInIdeal.τ).loc Cert.CtxInIdeal.main_arg1)
      ∧ m' ((c.tc : Thread Cert.CtxInRefIdeal.nD Cert.CtxInRefIdeal.τ).loc Cert.CtxInRefIdeal.main_arg2) = m ((c.tc : Thread Cert.CtxInIdeal.nD Cert.CtxInIdeal.τ).loc Cert.CtxInIdeal.main_arg2)
      ∧ m' ((c.tc : Thread Cert.CtxInRefIdeal.nD Cert.CtxInRefIdeal.τ).loc Cert.CtxInRefIdeal.main_arg3) = m ((c.tc : Thread Cert.CtxInIdeal.nD Cert.CtxInIdeal.τ).loc Cert.CtxInIdeal.main_arg3)) →
    ∃ (v0 : (c : Dev Cert.CtxInIdeal.nD) → Buf (Elt Ideal) ((c.tc : Thread Cert.CtxInIdeal.nD Cert.CtxInIdeal.τ).loc Cert.CtxInIdeal.main_v3)),
      θ_run (Cert.CtxInIdeal.defs (F := Ideal)) (onTc (τ := Cert.CtxInIdeal.τ) (Cert.CtxInIdeal.main (F := Ideal))) ⟨m, fun _ => 0, g⟩ (fun r => ∀ c : Dev Cert.CtxInIdeal.nD,
          r.2.mem ((c.tc : Thread Cert.CtxInIdeal.nD Cert.CtxInIdeal.τ).loc Cert.CtxInIdeal.main_v3) = v0 c
          ∧ r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
          ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1)
          ∧ r.2.mem ((c.tc : Thread Cert.CtxInIdeal.nD Cert.CtxInIdeal.τ).loc Cert.CtxInIdeal.main_arg2) = m ((c.tc : Thread Cert.CtxInIdeal.nD Cert.CtxInIdeal.τ).loc Cert.CtxInIdeal.main_arg2)
          ∧ r.2.mem ((c.tc : Thread Cert.CtxInIdeal.nD Cert.CtxInIdeal.τ).loc Cert.CtxInIdeal.main_arg3) = m ((c.tc : Thread Cert.CtxInIdeal.nD Cert.CtxInIdeal.τ).loc Cert.CtxInIdeal.main_arg3))
      ∧ θ_run (Cert.CtxInRefIdeal.defs (F := Ideal)) (onTc (τ := Cert.CtxInRefIdeal.τ) (Cert.CtxInRefIdeal.main (F := Ideal))) ⟨m', fun _ => 0, g'⟩ (fun r => ∀ c : Dev Cert.CtxInRefIdeal.nD,
          r.2.mem ((c.tc : Thread Cert.CtxInRefIdeal.nD Cert.CtxInRefIdeal.τ).loc Cert.CtxInRefIdeal.main_v31) = v0 c
          ∧ r.2.mem ((c.tc : Thread Cert.CtxInRefIdeal.nD Cert.CtxInRefIdeal.τ).loc Cert.CtxInRefIdeal.main_arg0) = m' ((c.tc : Thread Cert.CtxInRefIdeal.nD Cert.CtxInRefIdeal.τ).loc Cert.CtxInRefIdeal.main_arg0)
          ∧ r.2.mem ((c.tc : Thread Cert.CtxInRefIdeal.nD Cert.CtxInRefIdeal.τ).loc Cert.CtxInRefIdeal.main_arg1) = m' ((c.tc : Thread Cert.CtxInRefIdeal.nD Cert.CtxInRefIdeal.τ).loc Cert.CtxInRefIdeal.main_arg1)
          ∧ r.2.mem ((c.tc : Thread Cert.CtxInRefIdeal.nD Cert.CtxInRefIdeal.τ).loc Cert.CtxInRefIdeal.main_arg2) = m' ((c.tc : Thread Cert.CtxInRefIdeal.nD Cert.CtxInRefIdeal.τ).loc Cert.CtxInRefIdeal.main_arg2)
          ∧ r.2.mem ((c.tc : Thread Cert.CtxInRefIdeal.nD Cert.CtxInRefIdeal.τ).loc Cert.CtxInRefIdeal.main_arg3) = m' ((c.tc : Thread Cert.CtxInRefIdeal.nD Cert.CtxInRefIdeal.τ).loc Cert.CtxInRefIdeal.main_arg3))

def preserves_CtxLast_CtxLastIdeal : Prop :=
  True

def algebraic_CtxLastIdeal_CtxLastRefIdeal [hCtxLastIdeal : Cert.CtxLastIdeal.Facts] [hCtxLastRefIdeal : Cert.CtxLastRefIdeal.Facts] : Prop :=
  ∀ (m : (ℓ : Loc Cert.CtxLastIdeal.nD Cert.CtxLastIdeal.τ Cert.CtxLastIdeal.sig) → Buf (Elt Ideal) ℓ) (g : Dev Cert.CtxLastIdeal.nD → PrngReg)
    (m' : (ℓ : Loc Cert.CtxLastRefIdeal.nD Cert.CtxLastRefIdeal.τ Cert.CtxLastRefIdeal.sig) → Buf (Elt Ideal) ℓ) (g' : Dev Cert.CtxLastRefIdeal.nD → PrngReg), Pre_CtxLastIdeal m →
    (∀ c : Dev Cert.CtxLastIdeal.nD,
      m' ((c.tc : Thread Cert.CtxLastRefIdeal.nD Cert.CtxLastRefIdeal.τ).loc Cert.CtxLastRefIdeal.main_arg0) = m ((c.tc : Thread Cert.CtxLastIdeal.nD Cert.CtxLastIdeal.τ).loc Cert.CtxLastIdeal.main_arg0)
      ∧ m' ((c.tc : Thread Cert.CtxLastRefIdeal.nD Cert.CtxLastRefIdeal.τ).loc Cert.CtxLastRefIdeal.main_arg1) = m ((c.tc : Thread Cert.CtxLastIdeal.nD Cert.CtxLastIdeal.τ).loc Cert.CtxLastIdeal.main_arg1)
      ∧ m' ((c.tc : Thread Cert.CtxLastRefIdeal.nD Cert.CtxLastRefIdeal.τ).loc Cert.CtxLastRefIdeal.main_arg2) = m ((c.tc : Thread Cert.CtxLastIdeal.nD Cert.CtxLastIdeal.τ).loc Cert.CtxLastIdeal.main_arg2)
      ∧ m' ((c.tc : Thread Cert.CtxLastRefIdeal.nD Cert.CtxLastRefIdeal.τ).loc Cert.CtxLastRefIdeal.main_arg3) = m ((c.tc : Thread Cert.CtxLastIdeal.nD Cert.CtxLastIdeal.τ).loc Cert.CtxLastIdeal.main_arg3)) →
    ∃ (v0 : (c : Dev Cert.CtxLastIdeal.nD) → Buf (Elt Ideal) ((c.tc : Thread Cert.CtxLastIdeal.nD Cert.CtxLastIdeal.τ).loc Cert.CtxLastIdeal.main_v3)),
      θ_run (Cert.CtxLastIdeal.defs (F := Ideal)) (onTc (τ := Cert.CtxLastIdeal.τ) (Cert.CtxLastIdeal.main (F := Ideal))) ⟨m, fun _ => 0, g⟩ (fun r => ∀ c : Dev Cert.CtxLastIdeal.nD,
          r.2.mem ((c.tc : Thread Cert.CtxLastIdeal.nD Cert.CtxLastIdeal.τ).loc Cert.CtxLastIdeal.main_v3) = v0 c
          ∧ r.2.mem ((c.tc : Thread Cert.CtxLastIdeal.nD Cert.CtxLastIdeal.τ).loc Cert.CtxLastIdeal.main_arg0) = m ((c.tc : Thread Cert.CtxLastIdeal.nD Cert.CtxLastIdeal.τ).loc Cert.CtxLastIdeal.main_arg0)
          ∧ r.2.mem ((c.tc : Thread Cert.CtxLastIdeal.nD Cert.CtxLastIdeal.τ).loc Cert.CtxLastIdeal.main_arg1) = m ((c.tc : Thread Cert.CtxLastIdeal.nD Cert.CtxLastIdeal.τ).loc Cert.CtxLastIdeal.main_arg1)
          ∧ r.2.mem ((c.tc : Thread Cert.CtxLastIdeal.nD Cert.CtxLastIdeal.τ).loc Cert.CtxLastIdeal.main_arg2) = m ((c.tc : Thread Cert.CtxLastIdeal.nD Cert.CtxLastIdeal.τ).loc Cert.CtxLastIdeal.main_arg2)
          ∧ r.2.mem ((c.tc : Thread Cert.CtxLastIdeal.nD Cert.CtxLastIdeal.τ).loc Cert.CtxLastIdeal.main_arg3) = m ((c.tc : Thread Cert.CtxLastIdeal.nD Cert.CtxLastIdeal.τ).loc Cert.CtxLastIdeal.main_arg3))
      ∧ θ_run (Cert.CtxLastRefIdeal.defs (F := Ideal)) (onTc (τ := Cert.CtxLastRefIdeal.τ) (Cert.CtxLastRefIdeal.main (F := Ideal))) ⟨m', fun _ => 0, g'⟩ (fun r => ∀ c : Dev Cert.CtxLastRefIdeal.nD,
          r.2.mem ((c.tc : Thread Cert.CtxLastRefIdeal.nD Cert.CtxLastRefIdeal.τ).loc Cert.CtxLastRefIdeal.main_v27) = v0 c
          ∧ r.2.mem ((c.tc : Thread Cert.CtxLastRefIdeal.nD Cert.CtxLastRefIdeal.τ).loc Cert.CtxLastRefIdeal.main_arg0) = m' ((c.tc : Thread Cert.CtxLastRefIdeal.nD Cert.CtxLastRefIdeal.τ).loc Cert.CtxLastRefIdeal.main_arg0)
          ∧ r.2.mem ((c.tc : Thread Cert.CtxLastRefIdeal.nD Cert.CtxLastRefIdeal.τ).loc Cert.CtxLastRefIdeal.main_arg1) = m' ((c.tc : Thread Cert.CtxLastRefIdeal.nD Cert.CtxLastRefIdeal.τ).loc Cert.CtxLastRefIdeal.main_arg1)
          ∧ r.2.mem ((c.tc : Thread Cert.CtxLastRefIdeal.nD Cert.CtxLastRefIdeal.τ).loc Cert.CtxLastRefIdeal.main_arg2) = m' ((c.tc : Thread Cert.CtxLastRefIdeal.nD Cert.CtxLastRefIdeal.τ).loc Cert.CtxLastRefIdeal.main_arg2)
          ∧ r.2.mem ((c.tc : Thread Cert.CtxLastRefIdeal.nD Cert.CtxLastRefIdeal.τ).loc Cert.CtxLastRefIdeal.main_arg3) = m' ((c.tc : Thread Cert.CtxLastRefIdeal.nD Cert.CtxLastRefIdeal.τ).loc Cert.CtxLastRefIdeal.main_arg3))

def preserves_OutMid_OutMidIdeal : Prop :=
  True

def algebraic_OutMidIdeal_OutMidRefIdeal [hOutMidIdeal : Cert.OutMidIdeal.Facts] [hOutMidRefIdeal : Cert.OutMidRefIdeal.Facts] : Prop :=
  ∀ (m : (ℓ : Loc Cert.OutMidIdeal.nD Cert.OutMidIdeal.τ Cert.OutMidIdeal.sig) → Buf (Elt Ideal) ℓ) (g : Dev Cert.OutMidIdeal.nD → PrngReg)
    (m' : (ℓ : Loc Cert.OutMidRefIdeal.nD Cert.OutMidRefIdeal.τ Cert.OutMidRefIdeal.sig) → Buf (Elt Ideal) ℓ) (g' : Dev Cert.OutMidRefIdeal.nD → PrngReg), Pre_OutMidIdeal m →
    (∀ c : Dev Cert.OutMidIdeal.nD,
      m' ((c.tc : Thread Cert.OutMidRefIdeal.nD Cert.OutMidRefIdeal.τ).loc Cert.OutMidRefIdeal.main_arg0) = m ((c.tc : Thread Cert.OutMidIdeal.nD Cert.OutMidIdeal.τ).loc Cert.OutMidIdeal.main_arg0)
      ∧ m' ((c.tc : Thread Cert.OutMidRefIdeal.nD Cert.OutMidRefIdeal.τ).loc Cert.OutMidRefIdeal.main_arg1) = m ((c.tc : Thread Cert.OutMidIdeal.nD Cert.OutMidIdeal.τ).loc Cert.OutMidIdeal.main_arg1)
      ∧ m' ((c.tc : Thread Cert.OutMidRefIdeal.nD Cert.OutMidRefIdeal.τ).loc Cert.OutMidRefIdeal.main_arg2) = m ((c.tc : Thread Cert.OutMidIdeal.nD Cert.OutMidIdeal.τ).loc Cert.OutMidIdeal.main_arg2)
      ∧ m' ((c.tc : Thread Cert.OutMidRefIdeal.nD Cert.OutMidRefIdeal.τ).loc Cert.OutMidRefIdeal.main_arg3) = m ((c.tc : Thread Cert.OutMidIdeal.nD Cert.OutMidIdeal.τ).loc Cert.OutMidIdeal.main_arg3)
      ∧ m' ((c.tc : Thread Cert.OutMidRefIdeal.nD Cert.OutMidRefIdeal.τ).loc Cert.OutMidRefIdeal.main_arg4) = m ((c.tc : Thread Cert.OutMidIdeal.nD Cert.OutMidIdeal.τ).loc Cert.OutMidIdeal.main_arg4)
      ∧ m' ((c.tc : Thread Cert.OutMidRefIdeal.nD Cert.OutMidRefIdeal.τ).loc Cert.OutMidRefIdeal.main_arg5) = m ((c.tc : Thread Cert.OutMidIdeal.nD Cert.OutMidIdeal.τ).loc Cert.OutMidIdeal.main_arg5)) →
    ∃ (v0 : (c : Dev Cert.OutMidIdeal.nD) → Buf (Elt Ideal) ((c.tc : Thread Cert.OutMidIdeal.nD Cert.OutMidIdeal.τ).loc Cert.OutMidIdeal.main_v2)),
      θ_run (Cert.OutMidIdeal.defs (F := Ideal)) (onTc (τ := Cert.OutMidIdeal.τ) (Cert.OutMidIdeal.main (F := Ideal))) ⟨m, fun _ => 0, g⟩ (fun r => ∀ c : Dev Cert.OutMidIdeal.nD,
          r.2.mem ((c.tc : Thread Cert.OutMidIdeal.nD Cert.OutMidIdeal.τ).loc Cert.OutMidIdeal.main_v2) = v0 c
          ∧ r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
          ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
          ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
          ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3)
          ∧ r.2.mem ((c.tc : Thread Cert.OutMidIdeal.nD Cert.OutMidIdeal.τ).loc Cert.OutMidIdeal.main_arg4) = m ((c.tc : Thread Cert.OutMidIdeal.nD Cert.OutMidIdeal.τ).loc Cert.OutMidIdeal.main_arg4)
          ∧ r.2.mem ((c.tc : Thread Cert.OutMidIdeal.nD Cert.OutMidIdeal.τ).loc Cert.OutMidIdeal.main_arg5) = m ((c.tc : Thread Cert.OutMidIdeal.nD Cert.OutMidIdeal.τ).loc Cert.OutMidIdeal.main_arg5))
      ∧ θ_run (Cert.OutMidRefIdeal.defs (F := Ideal)) (onTc (τ := Cert.OutMidRefIdeal.τ) (Cert.OutMidRefIdeal.main (F := Ideal))) ⟨m', fun _ => 0, g'⟩ (fun r => ∀ c : Dev Cert.OutMidRefIdeal.nD,
          r.2.mem ((c.tc : Thread Cert.OutMidRefIdeal.nD Cert.OutMidRefIdeal.τ).loc Cert.OutMidRefIdeal.main_v10) = v0 c
          ∧ r.2.mem ((c.tc : Thread Cert.OutMidRefIdeal.nD Cert.OutMidRefIdeal.τ).loc Cert.OutMidRefIdeal.main_arg0) = m' ((c.tc : Thread Cert.OutMidRefIdeal.nD Cert.OutMidRefIdeal.τ).loc Cert.OutMidRefIdeal.main_arg0)
          ∧ r.2.mem ((c.tc : Thread Cert.OutMidRefIdeal.nD Cert.OutMidRefIdeal.τ).loc Cert.OutMidRefIdeal.main_arg1) = m' ((c.tc : Thread Cert.OutMidRefIdeal.nD Cert.OutMidRefIdeal.τ).loc Cert.OutMidRefIdeal.main_arg1)
          ∧ r.2.mem ((c.tc : Thread Cert.OutMidRefIdeal.nD Cert.OutMidRefIdeal.τ).loc Cert.OutMidRefIdeal.main_arg2) = m' ((c.tc : Thread Cert.OutMidRefIdeal.nD Cert.OutMidRefIdeal.τ).loc Cert.OutMidRefIdeal.main_arg2)
          ∧ r.2.mem ((c.tc : Thread Cert.OutMidRefIdeal.nD Cert.OutMidRefIdeal.τ).loc Cert.OutMidRefIdeal.main_arg3) = m' ((c.tc : Thread Cert.OutMidRefIdeal.nD Cert.OutMidRefIdeal.τ).loc Cert.OutMidRefIdeal.main_arg3)
          ∧ r.2.mem ((c.tc : Thread Cert.OutMidRefIdeal.nD Cert.OutMidRefIdeal.τ).loc Cert.OutMidRefIdeal.main_arg4) = m' ((c.tc : Thread Cert.OutMidRefIdeal.nD Cert.OutMidRefIdeal.τ).loc Cert.OutMidRefIdeal.main_arg4)
          ∧ r.2.mem ((c.tc : Thread Cert.OutMidRefIdeal.nD Cert.OutMidRefIdeal.τ).loc Cert.OutMidRefIdeal.main_arg5) = m' ((c.tc : Thread Cert.OutMidRefIdeal.nD Cert.OutMidRefIdeal.τ).loc Cert.OutMidRefIdeal.main_arg5))

def preserves_OutCtx_OutCtxIdeal : Prop :=
  True

def algebraic_OutCtxIdeal_OutCtxRefIdeal [hOutCtxIdeal : Cert.OutCtxIdeal.Facts] [hOutCtxRefIdeal : Cert.OutCtxRefIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg)
    (m' : (ℓ : Loc Cert.OutCtxRefIdeal.nD Cert.OutCtxRefIdeal.τ Cert.OutCtxRefIdeal.sig) → Buf (Elt Ideal) ℓ) (g' : Dev Cert.OutCtxRefIdeal.nD → PrngReg), Pre_OutCtxIdeal m →
    (∀ c : Dev Cert.OutCtxIdeal.nD,
      m' ((c.tc : Thread Cert.OutCtxRefIdeal.nD Cert.OutCtxRefIdeal.τ).loc Cert.OutCtxRefIdeal.main_arg0) = m ((c.tc : Thread Cert.OutCtxIdeal.nD Cert.OutCtxIdeal.τ).loc Cert.OutCtxIdeal.main_arg0)
      ∧ m' ((c.tc : Thread Cert.OutCtxRefIdeal.nD Cert.OutCtxRefIdeal.τ).loc Cert.OutCtxRefIdeal.main_arg1) = m ((c.tc : Thread Cert.OutCtxIdeal.nD Cert.OutCtxIdeal.τ).loc Cert.OutCtxIdeal.main_arg1)
      ∧ m' ((c.tc : Thread Cert.OutCtxRefIdeal.nD Cert.OutCtxRefIdeal.τ).loc Cert.OutCtxRefIdeal.main_arg2) = m ((c.tc : Thread Cert.OutCtxIdeal.nD Cert.OutCtxIdeal.τ).loc Cert.OutCtxIdeal.main_arg2)
      ∧ m' ((c.tc : Thread Cert.OutCtxRefIdeal.nD Cert.OutCtxRefIdeal.τ).loc Cert.OutCtxRefIdeal.main_arg3) = m ((c.tc : Thread Cert.OutCtxIdeal.nD Cert.OutCtxIdeal.τ).loc Cert.OutCtxIdeal.main_arg3)
      ∧ m' ((c.tc : Thread Cert.OutCtxRefIdeal.nD Cert.OutCtxRefIdeal.τ).loc Cert.OutCtxRefIdeal.main_arg4) = m ((c.tc : Thread Cert.OutCtxIdeal.nD Cert.OutCtxIdeal.τ).loc Cert.OutCtxIdeal.main_arg4)
      ∧ m' ((c.tc : Thread Cert.OutCtxRefIdeal.nD Cert.OutCtxRefIdeal.τ).loc Cert.OutCtxRefIdeal.main_arg5) = m ((c.tc : Thread Cert.OutCtxIdeal.nD Cert.OutCtxIdeal.τ).loc Cert.OutCtxIdeal.main_arg5)) →
    ∃ (v0 : (c : Dev Cert.OutCtxIdeal.nD) → Buf (Elt Ideal) ((c.tc : Thread Cert.OutCtxIdeal.nD Cert.OutCtxIdeal.τ).loc Cert.OutCtxIdeal.main_v2)),
      θ_run (Cert.OutCtxIdeal.defs (F := Ideal)) (onTc (τ := Cert.OutCtxIdeal.τ) (Cert.OutCtxIdeal.main (F := Ideal))) ⟨m, fun _ => 0, g⟩ (fun r => ∀ c : Dev Cert.OutCtxIdeal.nD,
          r.2.mem ((c.tc : Thread Cert.OutCtxIdeal.nD Cert.OutCtxIdeal.τ).loc Cert.OutCtxIdeal.main_v2) = v0 c
          ∧ r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
          ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
          ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
          ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
          ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
          ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5))
      ∧ θ_run (Cert.OutCtxRefIdeal.defs (F := Ideal)) (onTc (τ := Cert.OutCtxRefIdeal.τ) (Cert.OutCtxRefIdeal.main (F := Ideal))) ⟨m', fun _ => 0, g'⟩ (fun r => ∀ c : Dev Cert.OutCtxRefIdeal.nD,
          r.2.mem ((c.tc : Thread Cert.OutCtxRefIdeal.nD Cert.OutCtxRefIdeal.τ).loc Cert.OutCtxRefIdeal.main_v8) = v0 c
          ∧ r.2.mem ((c.tc : Thread Cert.OutCtxRefIdeal.nD Cert.OutCtxRefIdeal.τ).loc Cert.OutCtxRefIdeal.main_arg0) = m' ((c.tc : Thread Cert.OutCtxRefIdeal.nD Cert.OutCtxRefIdeal.τ).loc Cert.OutCtxRefIdeal.main_arg0)
          ∧ r.2.mem ((c.tc : Thread Cert.OutCtxRefIdeal.nD Cert.OutCtxRefIdeal.τ).loc Cert.OutCtxRefIdeal.main_arg1) = m' ((c.tc : Thread Cert.OutCtxRefIdeal.nD Cert.OutCtxRefIdeal.τ).loc Cert.OutCtxRefIdeal.main_arg1)
          ∧ r.2.mem ((c.tc : Thread Cert.OutCtxRefIdeal.nD Cert.OutCtxRefIdeal.τ).loc Cert.OutCtxRefIdeal.main_arg2) = m' ((c.tc : Thread Cert.OutCtxRefIdeal.nD Cert.OutCtxRefIdeal.τ).loc Cert.OutCtxRefIdeal.main_arg2)
          ∧ r.2.mem ((c.tc : Thread Cert.OutCtxRefIdeal.nD Cert.OutCtxRefIdeal.τ).loc Cert.OutCtxRefIdeal.main_arg3) = m' ((c.tc : Thread Cert.OutCtxRefIdeal.nD Cert.OutCtxRefIdeal.τ).loc Cert.OutCtxRefIdeal.main_arg3)
          ∧ r.2.mem ((c.tc : Thread Cert.OutCtxRefIdeal.nD Cert.OutCtxRefIdeal.τ).loc Cert.OutCtxRefIdeal.main_arg4) = m' ((c.tc : Thread Cert.OutCtxRefIdeal.nD Cert.OutCtxRefIdeal.τ).loc Cert.OutCtxRefIdeal.main_arg4)
          ∧ r.2.mem ((c.tc : Thread Cert.OutCtxRefIdeal.nD Cert.OutCtxRefIdeal.τ).loc Cert.OutCtxRefIdeal.main_arg5) = m' ((c.tc : Thread Cert.OutCtxRefIdeal.nD Cert.OutCtxRefIdeal.τ).loc Cert.OutCtxRefIdeal.main_arg5))

def preserves_PoolConv_PoolConvIdeal : Prop :=
  True

def algebraic_PoolConvIdeal_PoolConvRefIdeal [hPoolConvIdeal : Cert.PoolConvIdeal.Facts] [hPoolConvRefIdeal : Cert.PoolConvRefIdeal.Facts] : Prop :=
  ∀ (m : (ℓ : Loc Cert.PoolConvIdeal.nD Cert.PoolConvIdeal.τ Cert.PoolConvIdeal.sig) → Buf (Elt Ideal) ℓ) (g : Dev Cert.PoolConvIdeal.nD → PrngReg)
    (m' : (ℓ : Loc Cert.PoolConvRefIdeal.nD Cert.PoolConvRefIdeal.τ Cert.PoolConvRefIdeal.sig) → Buf (Elt Ideal) ℓ) (g' : Dev Cert.PoolConvRefIdeal.nD → PrngReg), Pre_PoolConvIdeal m →
    (∀ c : Dev Cert.PoolConvIdeal.nD,
      m' ((c.tc : Thread Cert.PoolConvRefIdeal.nD Cert.PoolConvRefIdeal.τ).loc Cert.PoolConvRefIdeal.main_arg0) = m ((c.tc : Thread Cert.PoolConvIdeal.nD Cert.PoolConvIdeal.τ).loc Cert.PoolConvIdeal.main_arg0)
      ∧ m' ((c.tc : Thread Cert.PoolConvRefIdeal.nD Cert.PoolConvRefIdeal.τ).loc Cert.PoolConvRefIdeal.main_arg1) = m ((c.tc : Thread Cert.PoolConvIdeal.nD Cert.PoolConvIdeal.τ).loc Cert.PoolConvIdeal.main_arg1)
      ∧ m' ((c.tc : Thread Cert.PoolConvRefIdeal.nD Cert.PoolConvRefIdeal.τ).loc Cert.PoolConvRefIdeal.main_arg2) = m ((c.tc : Thread Cert.PoolConvIdeal.nD Cert.PoolConvIdeal.τ).loc Cert.PoolConvIdeal.main_arg2)
      ∧ m' ((c.tc : Thread Cert.PoolConvRefIdeal.nD Cert.PoolConvRefIdeal.τ).loc Cert.PoolConvRefIdeal.main_arg3) = m ((c.tc : Thread Cert.PoolConvIdeal.nD Cert.PoolConvIdeal.τ).loc Cert.PoolConvIdeal.main_arg3)
      ∧ m' ((c.tc : Thread Cert.PoolConvRefIdeal.nD Cert.PoolConvRefIdeal.τ).loc Cert.PoolConvRefIdeal.main_arg4) = m ((c.tc : Thread Cert.PoolConvIdeal.nD Cert.PoolConvIdeal.τ).loc Cert.PoolConvIdeal.main_arg4)
      ∧ m' ((c.tc : Thread Cert.PoolConvRefIdeal.nD Cert.PoolConvRefIdeal.τ).loc Cert.PoolConvRefIdeal.main_arg5) = m ((c.tc : Thread Cert.PoolConvIdeal.nD Cert.PoolConvIdeal.τ).loc Cert.PoolConvIdeal.main_arg5)
      ∧ m' ((c.tc : Thread Cert.PoolConvRefIdeal.nD Cert.PoolConvRefIdeal.τ).loc Cert.PoolConvRefIdeal.main_arg6) = m ((c.tc : Thread Cert.PoolConvIdeal.nD Cert.PoolConvIdeal.τ).loc Cert.PoolConvIdeal.main_arg6)
      ∧ m' ((c.tc : Thread Cert.PoolConvRefIdeal.nD Cert.PoolConvRefIdeal.τ).loc Cert.PoolConvRefIdeal.main_arg7) = m ((c.tc : Thread Cert.PoolConvIdeal.nD Cert.PoolConvIdeal.τ).loc Cert.PoolConvIdeal.main_arg7)) →
    ∃ (v0 : (c : Dev Cert.PoolConvIdeal.nD) → Buf (Elt Ideal) ((c.tc : Thread Cert.PoolConvIdeal.nD Cert.PoolConvIdeal.τ).loc Cert.PoolConvIdeal.main_v6_0)) (v1 : (c : Dev Cert.PoolConvIdeal.nD) → Buf (Elt Ideal) ((c.tc : Thread Cert.PoolConvIdeal.nD Cert.PoolConvIdeal.τ).loc Cert.PoolConvIdeal.main_v6_1)),
      θ_run (Cert.PoolConvIdeal.defs (F := Ideal)) (onTc (τ := Cert.PoolConvIdeal.τ) (Cert.PoolConvIdeal.main (F := Ideal))) ⟨m, fun _ => 0, g⟩ (fun r => ∀ c : Dev Cert.PoolConvIdeal.nD,
          r.2.mem ((c.tc : Thread Cert.PoolConvIdeal.nD Cert.PoolConvIdeal.τ).loc Cert.PoolConvIdeal.main_v6_0) = v0 c
          ∧ r.2.mem ((c.tc : Thread Cert.PoolConvIdeal.nD Cert.PoolConvIdeal.τ).loc Cert.PoolConvIdeal.main_v6_1) = v1 c
          ∧ r.2.mem ((c.tc : Thread Cert.PoolConvIdeal.nD Cert.PoolConvIdeal.τ).loc Cert.PoolConvIdeal.main_arg0) = m ((c.tc : Thread Cert.PoolConvIdeal.nD Cert.PoolConvIdeal.τ).loc Cert.PoolConvIdeal.main_arg0)
          ∧ r.2.mem ((c.tc : Thread Cert.PoolConvIdeal.nD Cert.PoolConvIdeal.τ).loc Cert.PoolConvIdeal.main_arg1) = m ((c.tc : Thread Cert.PoolConvIdeal.nD Cert.PoolConvIdeal.τ).loc Cert.PoolConvIdeal.main_arg1)
          ∧ r.2.mem ((c.tc : Thread Cert.PoolConvIdeal.nD Cert.PoolConvIdeal.τ).loc Cert.PoolConvIdeal.main_arg2) = m ((c.tc : Thread Cert.PoolConvIdeal.nD Cert.PoolConvIdeal.τ).loc Cert.PoolConvIdeal.main_arg2)
          ∧ r.2.mem ((c.tc : Thread Cert.PoolConvIdeal.nD Cert.PoolConvIdeal.τ).loc Cert.PoolConvIdeal.main_arg3) = m ((c.tc : Thread Cert.PoolConvIdeal.nD Cert.PoolConvIdeal.τ).loc Cert.PoolConvIdeal.main_arg3)
          ∧ r.2.mem ((c.tc : Thread Cert.PoolConvIdeal.nD Cert.PoolConvIdeal.τ).loc Cert.PoolConvIdeal.main_arg4) = m ((c.tc : Thread Cert.PoolConvIdeal.nD Cert.PoolConvIdeal.τ).loc Cert.PoolConvIdeal.main_arg4)
          ∧ r.2.mem ((c.tc : Thread Cert.PoolConvIdeal.nD Cert.PoolConvIdeal.τ).loc Cert.PoolConvIdeal.main_arg5) = m ((c.tc : Thread Cert.PoolConvIdeal.nD Cert.PoolConvIdeal.τ).loc Cert.PoolConvIdeal.main_arg5)
          ∧ r.2.mem ((c.tc : Thread Cert.PoolConvIdeal.nD Cert.PoolConvIdeal.τ).loc Cert.PoolConvIdeal.main_arg6) = m ((c.tc : Thread Cert.PoolConvIdeal.nD Cert.PoolConvIdeal.τ).loc Cert.PoolConvIdeal.main_arg6)
          ∧ r.2.mem ((c.tc : Thread Cert.PoolConvIdeal.nD Cert.PoolConvIdeal.τ).loc Cert.PoolConvIdeal.main_arg7) = m ((c.tc : Thread Cert.PoolConvIdeal.nD Cert.PoolConvIdeal.τ).loc Cert.PoolConvIdeal.main_arg7))
      ∧ θ_run (Cert.PoolConvRefIdeal.defs (F := Ideal)) (onTc (τ := Cert.PoolConvRefIdeal.τ) (Cert.PoolConvRefIdeal.main (F := Ideal))) ⟨m', fun _ => 0, g'⟩ (fun r => ∀ c : Dev Cert.PoolConvRefIdeal.nD,
          r.2.mem ((c.tc : Thread Cert.PoolConvRefIdeal.nD Cert.PoolConvRefIdeal.τ).loc Cert.PoolConvRefIdeal.main_v405) = v0 c
          ∧ r.2.mem ((c.tc : Thread Cert.PoolConvRefIdeal.nD Cert.PoolConvRefIdeal.τ).loc Cert.PoolConvRefIdeal.main_v409) = v1 c
          ∧ r.2.mem ((c.tc : Thread Cert.PoolConvRefIdeal.nD Cert.PoolConvRefIdeal.τ).loc Cert.PoolConvRefIdeal.main_arg0) = m' ((c.tc : Thread Cert.PoolConvRefIdeal.nD Cert.PoolConvRefIdeal.τ).loc Cert.PoolConvRefIdeal.main_arg0)
          ∧ r.2.mem ((c.tc : Thread Cert.PoolConvRefIdeal.nD Cert.PoolConvRefIdeal.τ).loc Cert.PoolConvRefIdeal.main_arg1) = m' ((c.tc : Thread Cert.PoolConvRefIdeal.nD Cert.PoolConvRefIdeal.τ).loc Cert.PoolConvRefIdeal.main_arg1)
          ∧ r.2.mem ((c.tc : Thread Cert.PoolConvRefIdeal.nD Cert.PoolConvRefIdeal.τ).loc Cert.PoolConvRefIdeal.main_arg2) = m' ((c.tc : Thread Cert.PoolConvRefIdeal.nD Cert.PoolConvRefIdeal.τ).loc Cert.PoolConvRefIdeal.main_arg2)
          ∧ r.2.mem ((c.tc : Thread Cert.PoolConvRefIdeal.nD Cert.PoolConvRefIdeal.τ).loc Cert.PoolConvRefIdeal.main_arg3) = m' ((c.tc : Thread Cert.PoolConvRefIdeal.nD Cert.PoolConvRefIdeal.τ).loc Cert.PoolConvRefIdeal.main_arg3)
          ∧ r.2.mem ((c.tc : Thread Cert.PoolConvRefIdeal.nD Cert.PoolConvRefIdeal.τ).loc Cert.PoolConvRefIdeal.main_arg4) = m' ((c.tc : Thread Cert.PoolConvRefIdeal.nD Cert.PoolConvRefIdeal.τ).loc Cert.PoolConvRefIdeal.main_arg4)
          ∧ r.2.mem ((c.tc : Thread Cert.PoolConvRefIdeal.nD Cert.PoolConvRefIdeal.τ).loc Cert.PoolConvRefIdeal.main_arg5) = m' ((c.tc : Thread Cert.PoolConvRefIdeal.nD Cert.PoolConvRefIdeal.τ).loc Cert.PoolConvRefIdeal.main_arg5)
          ∧ r.2.mem ((c.tc : Thread Cert.PoolConvRefIdeal.nD Cert.PoolConvRefIdeal.τ).loc Cert.PoolConvRefIdeal.main_arg6) = m' ((c.tc : Thread Cert.PoolConvRefIdeal.nD Cert.PoolConvRefIdeal.τ).loc Cert.PoolConvRefIdeal.main_arg6)
          ∧ r.2.mem ((c.tc : Thread Cert.PoolConvRefIdeal.nD Cert.PoolConvRefIdeal.τ).loc Cert.PoolConvRefIdeal.main_arg7) = m' ((c.tc : Thread Cert.PoolConvRefIdeal.nD Cert.PoolConvRefIdeal.τ).loc Cert.PoolConvRefIdeal.main_arg7))

def preserves_AttLast_AttLastIdeal : Prop :=
  True

def algebraic_AttLastIdeal_AttLastRefIdeal_pre_finite_last [hAttLastIdeal : Cert.AttLastIdeal.Facts] [hAttLastRefIdeal : Cert.AttLastRefIdeal.Facts] [hPre_finite_last : Cert.Pre_finite_last.Facts] : Prop :=
  ∀ (m : (ℓ : Loc Cert.AttLastIdeal.nD Cert.AttLastIdeal.τ Cert.AttLastIdeal.sig) → Buf (Elt Ideal) ℓ) (g : Dev Cert.AttLastIdeal.nD → PrngReg)
    (m' : (ℓ : Loc Cert.AttLastRefIdeal.nD Cert.AttLastRefIdeal.τ Cert.AttLastRefIdeal.sig) → Buf (Elt Ideal) ℓ) (g' : Dev Cert.AttLastRefIdeal.nD → PrngReg), Pre_AttLastIdeal_finite_last m →
    (∀ c : Dev Cert.AttLastIdeal.nD,
      m' ((c.tc : Thread Cert.AttLastRefIdeal.nD Cert.AttLastRefIdeal.τ).loc Cert.AttLastRefIdeal.main_arg0) = m ((c.tc : Thread Cert.AttLastIdeal.nD Cert.AttLastIdeal.τ).loc Cert.AttLastIdeal.main_arg0)
      ∧ m' ((c.tc : Thread Cert.AttLastRefIdeal.nD Cert.AttLastRefIdeal.τ).loc Cert.AttLastRefIdeal.main_arg1) = m ((c.tc : Thread Cert.AttLastIdeal.nD Cert.AttLastIdeal.τ).loc Cert.AttLastIdeal.main_arg1)
      ∧ m' ((c.tc : Thread Cert.AttLastRefIdeal.nD Cert.AttLastRefIdeal.τ).loc Cert.AttLastRefIdeal.main_arg2) = m ((c.tc : Thread Cert.AttLastIdeal.nD Cert.AttLastIdeal.τ).loc Cert.AttLastIdeal.main_arg2)
      ∧ m' ((c.tc : Thread Cert.AttLastRefIdeal.nD Cert.AttLastRefIdeal.τ).loc Cert.AttLastRefIdeal.main_arg3) = m ((c.tc : Thread Cert.AttLastIdeal.nD Cert.AttLastIdeal.τ).loc Cert.AttLastIdeal.main_arg3)) →
    ∃ (v0 : (c : Dev Cert.AttLastIdeal.nD) → Buf (Elt Ideal) ((c.tc : Thread Cert.AttLastIdeal.nD Cert.AttLastIdeal.τ).loc Cert.AttLastIdeal.main_v2)),
      θ_run (Cert.AttLastIdeal.defs (F := Ideal)) (onTc (τ := Cert.AttLastIdeal.τ) (Cert.AttLastIdeal.main (F := Ideal))) ⟨m, fun _ => 0, g⟩ (fun r => ∀ c : Dev Cert.AttLastIdeal.nD,
          r.2.mem ((c.tc : Thread Cert.AttLastIdeal.nD Cert.AttLastIdeal.τ).loc Cert.AttLastIdeal.main_v2) = v0 c
          ∧ r.2.mem ((c.tc : Thread Cert.AttLastIdeal.nD Cert.AttLastIdeal.τ).loc Cert.AttLastIdeal.main_arg0) = m ((c.tc : Thread Cert.AttLastIdeal.nD Cert.AttLastIdeal.τ).loc Cert.AttLastIdeal.main_arg0)
          ∧ r.2.mem ((c.tc : Thread Cert.AttLastIdeal.nD Cert.AttLastIdeal.τ).loc Cert.AttLastIdeal.main_arg1) = m ((c.tc : Thread Cert.AttLastIdeal.nD Cert.AttLastIdeal.τ).loc Cert.AttLastIdeal.main_arg1)
          ∧ r.2.mem ((c.tc : Thread Cert.AttLastIdeal.nD Cert.AttLastIdeal.τ).loc Cert.AttLastIdeal.main_arg2) = m ((c.tc : Thread Cert.AttLastIdeal.nD Cert.AttLastIdeal.τ).loc Cert.AttLastIdeal.main_arg2)
          ∧ r.2.mem ((c.tc : Thread Cert.AttLastIdeal.nD Cert.AttLastIdeal.τ).loc Cert.AttLastIdeal.main_arg3) = m ((c.tc : Thread Cert.AttLastIdeal.nD Cert.AttLastIdeal.τ).loc Cert.AttLastIdeal.main_arg3))
      ∧ θ_run (Cert.AttLastRefIdeal.defs (F := Ideal)) (onTc (τ := Cert.AttLastRefIdeal.τ) (Cert.AttLastRefIdeal.main (F := Ideal))) ⟨m', fun _ => 0, g'⟩ (fun r => ∀ c : Dev Cert.AttLastRefIdeal.nD,
          r.2.mem ((c.tc : Thread Cert.AttLastRefIdeal.nD Cert.AttLastRefIdeal.τ).loc Cert.AttLastRefIdeal.main_v56) = v0 c
          ∧ r.2.mem ((c.tc : Thread Cert.AttLastRefIdeal.nD Cert.AttLastRefIdeal.τ).loc Cert.AttLastRefIdeal.main_arg0) = m' ((c.tc : Thread Cert.AttLastRefIdeal.nD Cert.AttLastRefIdeal.τ).loc Cert.AttLastRefIdeal.main_arg0)
          ∧ r.2.mem ((c.tc : Thread Cert.AttLastRefIdeal.nD Cert.AttLastRefIdeal.τ).loc Cert.AttLastRefIdeal.main_arg1) = m' ((c.tc : Thread Cert.AttLastRefIdeal.nD Cert.AttLastRefIdeal.τ).loc Cert.AttLastRefIdeal.main_arg1)
          ∧ r.2.mem ((c.tc : Thread Cert.AttLastRefIdeal.nD Cert.AttLastRefIdeal.τ).loc Cert.AttLastRefIdeal.main_arg2) = m' ((c.tc : Thread Cert.AttLastRefIdeal.nD Cert.AttLastRefIdeal.τ).loc Cert.AttLastRefIdeal.main_arg2)
          ∧ r.2.mem ((c.tc : Thread Cert.AttLastRefIdeal.nD Cert.AttLastRefIdeal.τ).loc Cert.AttLastRefIdeal.main_arg3) = m' ((c.tc : Thread Cert.AttLastRefIdeal.nD Cert.AttLastRefIdeal.τ).loc Cert.AttLastRefIdeal.main_arg3))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)
      ∧ m' ((c.tc : Thread Cert.ModulationRefIdeal.nD Cert.ModulationRefIdeal.τ).loc Cert.ModulationRefIdeal.main_arg4) = m ((c.tc : Thread Cert.ModulationIdeal.nD Cert.ModulationIdeal.τ).loc Cert.ModulationIdeal.main_arg4)
      ∧ m' ((c.tc : Thread Cert.ModulationRefIdeal.nD Cert.ModulationRefIdeal.τ).loc Cert.ModulationRefIdeal.main_arg5) = m ((c.tc : Thread Cert.ModulationIdeal.nD Cert.ModulationIdeal.τ).loc Cert.ModulationIdeal.main_arg5)
      ∧ m' ((c.tc : Thread Cert.ModulationRefIdeal.nD Cert.ModulationRefIdeal.τ).loc Cert.ModulationRefIdeal.main_arg6) = m ((c.tc : Thread Cert.ModulationIdeal.nD Cert.ModulationIdeal.τ).loc Cert.ModulationIdeal.main_arg6)
      ∧ m' ((c.tc : Thread Cert.ModulationRefIdeal.nD Cert.ModulationRefIdeal.τ).loc Cert.ModulationRefIdeal.main_arg7) = m ((c.tc : Thread Cert.ModulationIdeal.nD Cert.ModulationIdeal.τ).loc Cert.ModulationIdeal.main_arg7)) →
    ∃ (v0 : (c : Dev Cert.ModulationIdeal.nD) → Buf (Elt Ideal) ((c.tc : Thread Cert.ModulationIdeal.nD Cert.ModulationIdeal.τ).loc Cert.ModulationIdeal.main_v10_0)) (v1 : (c : Dev Cert.ModulationIdeal.nD) → Buf (Elt Ideal) ((c.tc : Thread Cert.ModulationIdeal.nD Cert.ModulationIdeal.τ).loc Cert.ModulationIdeal.main_v10_1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v10_0) = v0 c
          ∧ r.2.mem ((c.tc : Thread Cert.ModulationIdeal.nD Cert.ModulationIdeal.τ).loc Cert.ModulationIdeal.main_v10_1) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
          ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
          ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
          ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6)
          ∧ r.2.mem ((c.tc : Thread Cert.ModulationIdeal.nD Cert.ModulationIdeal.τ).loc Cert.ModulationIdeal.main_arg7) = m ((c.tc : Thread Cert.ModulationIdeal.nD Cert.ModulationIdeal.τ).loc Cert.ModulationIdeal.main_arg7))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v8) = v0 c
          ∧ r.2.mem ((c.tc : Thread Cert.ModulationRefIdeal.nD Cert.ModulationRefIdeal.τ).loc Cert.ModulationRefIdeal.main_v18) = v1 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3)
          ∧ r.2.mem ((c.tc : Thread Cert.ModulationRefIdeal.nD Cert.ModulationRefIdeal.τ).loc Cert.ModulationRefIdeal.main_arg4) = m' ((c.tc : Thread Cert.ModulationRefIdeal.nD Cert.ModulationRefIdeal.τ).loc Cert.ModulationRefIdeal.main_arg4)
          ∧ r.2.mem ((c.tc : Thread Cert.ModulationRefIdeal.nD Cert.ModulationRefIdeal.τ).loc Cert.ModulationRefIdeal.main_arg5) = m' ((c.tc : Thread Cert.ModulationRefIdeal.nD Cert.ModulationRefIdeal.τ).loc Cert.ModulationRefIdeal.main_arg5)
          ∧ r.2.mem ((c.tc : Thread Cert.ModulationRefIdeal.nD Cert.ModulationRefIdeal.τ).loc Cert.ModulationRefIdeal.main_arg6) = m' ((c.tc : Thread Cert.ModulationRefIdeal.nD Cert.ModulationRefIdeal.τ).loc Cert.ModulationRefIdeal.main_arg6)
          ∧ r.2.mem ((c.tc : Thread Cert.ModulationRefIdeal.nD Cert.ModulationRefIdeal.τ).loc Cert.ModulationRefIdeal.main_arg7) = m' ((c.tc : Thread Cert.ModulationRefIdeal.nD Cert.ModulationRefIdeal.τ).loc Cert.ModulationRefIdeal.main_arg7))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hCtxIn : Cert.CtxIn.Facts) (hCtxInIdeal : Cert.CtxInIdeal.Facts) (hCtxInRefIdeal : Cert.CtxInRefIdeal.Facts) (hCtxLast : Cert.CtxLast.Facts) (hCtxLastIdeal : Cert.CtxLastIdeal.Facts) (hCtxLastRefIdeal : Cert.CtxLastRefIdeal.Facts) (hOutMid : Cert.OutMid.Facts) (hOutMidIdeal : Cert.OutMidIdeal.Facts) (hOutMidRefIdeal : Cert.OutMidRefIdeal.Facts) (hOutCtx : Cert.OutCtx.Facts) (hOutCtxIdeal : Cert.OutCtxIdeal.Facts) (hOutCtxRefIdeal : Cert.OutCtxRefIdeal.Facts) (hPoolConv : Cert.PoolConv.Facts) (hPoolConvIdeal : Cert.PoolConvIdeal.Facts) (hPoolConvRefIdeal : Cert.PoolConvRefIdeal.Facts) (hAttLast : Cert.AttLast.Facts) (hAttLastIdeal : Cert.AttLastIdeal.Facts) (hAttLastRefIdeal : Cert.AttLastRefIdeal.Facts) (hModulation : Cert.Modulation.Facts) (hModulationIdeal : Cert.ModulationIdeal.Facts) (hModulationRefIdeal : Cert.ModulationRefIdeal.Facts) (hPre_finite : Cert.Pre_finite.Facts) (hPre_finite_last : Cert.Pre_finite_last.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_CtxIn (hCtxIn := hCtxIn)
    ∧ quiescent_CtxInIdeal (hCtxInIdeal := hCtxInIdeal)
    ∧ quiescent_CtxInRefIdeal (hCtxInRefIdeal := hCtxInRefIdeal)
    ∧ quiescent_CtxLast (hCtxLast := hCtxLast)
    ∧ quiescent_CtxLastIdeal (hCtxLastIdeal := hCtxLastIdeal)
    ∧ quiescent_CtxLastRefIdeal (hCtxLastRefIdeal := hCtxLastRefIdeal)
    ∧ quiescent_OutMid (hOutMid := hOutMid)
    ∧ quiescent_OutMidIdeal (hOutMidIdeal := hOutMidIdeal)
    ∧ quiescent_OutMidRefIdeal (hOutMidRefIdeal := hOutMidRefIdeal)
    ∧ quiescent_OutCtx (hOutCtx := hOutCtx)
    ∧ quiescent_OutCtxIdeal (hOutCtxIdeal := hOutCtxIdeal)
    ∧ quiescent_OutCtxRefIdeal (hOutCtxRefIdeal := hOutCtxRefIdeal)
    ∧ quiescent_PoolConv (hPoolConv := hPoolConv)
    ∧ quiescent_PoolConvIdeal (hPoolConvIdeal := hPoolConvIdeal)
    ∧ quiescent_PoolConvRefIdeal (hPoolConvRefIdeal := hPoolConvRefIdeal)
    ∧ quiescent_AttLast (hAttLast := hAttLast)
    ∧ quiescent_AttLastIdeal (hAttLastIdeal := hAttLastIdeal)
    ∧ quiescent_AttLastIdeal_pre_finite_last (hAttLastIdeal := hAttLastIdeal) (hPre_finite_last := hPre_finite_last)
    ∧ quiescent_AttLastRefIdeal (hAttLastRefIdeal := hAttLastRefIdeal)
    ∧ quiescent_AttLastRefIdeal_pre_finite_last (hAttLastRefIdeal := hAttLastRefIdeal) (hPre_finite_last := hPre_finite_last)
    ∧ quiescent_Modulation (hModulation := hModulation)
    ∧ quiescent_ModulationIdeal (hModulationIdeal := hModulationIdeal)
    ∧ quiescent_ModulationRefIdeal (hModulationRefIdeal := hModulationRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_CtxIn_CtxInIdeal
    ∧ algebraic_CtxInIdeal_CtxInRefIdeal (hCtxInIdeal := hCtxInIdeal) (hCtxInRefIdeal := hCtxInRefIdeal)
    ∧ preserves_CtxLast_CtxLastIdeal
    ∧ algebraic_CtxLastIdeal_CtxLastRefIdeal (hCtxLastIdeal := hCtxLastIdeal) (hCtxLastRefIdeal := hCtxLastRefIdeal)
    ∧ preserves_OutMid_OutMidIdeal
    ∧ algebraic_OutMidIdeal_OutMidRefIdeal (hOutMidIdeal := hOutMidIdeal) (hOutMidRefIdeal := hOutMidRefIdeal)
    ∧ preserves_OutCtx_OutCtxIdeal
    ∧ algebraic_OutCtxIdeal_OutCtxRefIdeal (hOutCtxIdeal := hOutCtxIdeal) (hOutCtxRefIdeal := hOutCtxRefIdeal)
    ∧ preserves_PoolConv_PoolConvIdeal
    ∧ algebraic_PoolConvIdeal_PoolConvRefIdeal (hPoolConvIdeal := hPoolConvIdeal) (hPoolConvRefIdeal := hPoolConvRefIdeal)
    ∧ preserves_AttLast_AttLastIdeal
    ∧ algebraic_AttLastIdeal_AttLastRefIdeal_pre_finite_last (hAttLastIdeal := hAttLastIdeal) (hAttLastRefIdeal := hAttLastRefIdeal) (hPre_finite_last := hPre_finite_last)
    ∧ preserves_Modulation_ModulationIdeal
    ∧ algebraic_ModulationIdeal_ModulationRefIdeal (hModulationIdeal := hModulationIdeal) (hModulationRefIdeal := hModulationRefIdeal)
-- ==== Pre_finite.lean ====
abbrev S8192x6656 : Shape := ⟨2, ![8192, 6656]⟩
abbrev S1024x6656 : Shape := ⟨2, ![1024, 6656]⟩
abbrev S1 : Shape := ⟨1, ![1]⟩
abbrev S128 : Shape := ⟨1, ![128]⟩
abbrev S8192x3072 : Shape := ⟨2, ![8192, 3072]⟩
abbrev S_ : Shape := ⟨0, ![]⟩
abbrev S1024x2048 : Shape := ⟨2, ![1024, 2048]⟩

class Facts : Prop where
  slices_S8192x6656_S8192x3072_0_0 : S8192x6656.Slices ![0, 0] S8192x3072
  bitsLt_bf16_f32 : FTy.bits .bf16 < FTy.bits .f32
  bcast_S_S8192x3072 : S_.BroadcastsInDim S8192x3072 (![] : Fin 0 → Fin S8192x3072.rank)
  slices_S1024x6656_S1024x2048_0_1024 : S1024x6656.Slices ![0, 1024] S1024x2048
  bcast_S_S1024x2048 : S_.BroadcastsInDim S1024x2048 (![] : Fin 0 → Fin S1024x2048.rank)
  bcast_S_S1 : S_.BroadcastsInDim S1 (![] : Fin 0 → Fin S1.rank)

variable [Facts]

def fn {F : FTy → Type} [FloatOps F] (main_arg0 : FVec F S8192x6656 .bf16) (main_arg1 : FVec F S1024x6656 .bf16) (main_arg2 : FVec F S1 .f32) (main_arg3 : FVec F S128 .f32) : IVec S8192x3072 1 × IVec S1024x2048 1 × IVec S1 1 :=
  let main_v0 : FVec F S8192x3072 .bf16 := (extractStridedSlice S8192x3072 ![0, 0] · slices_S8192x6656_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_v5 : FVec F S1024x2048 .bf16 := (extractStridedSlice S1024x2048 ![0, 1024] · slices_S1024x6656_S1024x2048_0_1024) main_arg1
  let main_v6 : FVec F S1024x2048 .f32 := (extf .f32 · bitsLt_bf16_f32) main_v5
  let main_v7 : FVec F S1024x2048 .f32 := Host.absf main_v6
  let main_cst_0 : FVec F S_ .f32 := constant S_ .f32 0x7F800000#32
  let main_v8 : FVec F S1024x2048 .f32 := broadcastInDim S1024x2048 ![] bcast_S_S1024x2048 main_cst_0
  let main_v9 : IVec S1024x2048 1 := cmpf .olt main_v7 main_v8
  let main_v10 : FVec F S1 .f32 := Host.absf main_arg2
  let main_cst_1 : FVec F S_ .f32 := constant S_ .f32 0x7F800000#32
  let main_v11 : FVec F S1 .f32 := broadcastInDim S1 ![] bcast_S_S1 main_cst_1
  let main_v12 : IVec S1 1 := cmpf .olt main_v10 main_v11
  (main_v4, main_v9, main_v12)
-- ==== Pre_finite_last.lean ====
abbrev S8192x6656 : Shape := ⟨2, ![8192, 6656]⟩
abbrev S1024x2048 : Shape := ⟨2, ![1024, 2048]⟩
abbrev S1 : Shape := ⟨1, ![1]⟩
abbrev S128 : Shape := ⟨1, ![128]⟩
abbrev S8192x3072 : Shape := ⟨2, ![8192, 3072]⟩
abbrev S_ : Shape := ⟨0, ![]⟩

class Facts : Prop where
  slices_S8192x6656_S8192x3072_0_0 : S8192x6656.Slices ![0, 0] S8192x3072
  bitsLt_bf16_f32 : FTy.bits .bf16 < FTy.bits .f32
  bcast_S_S8192x3072 : S_.BroadcastsInDim S8192x3072 (![] : Fin 0 → Fin S8192x3072.rank)
  bcast_S_S1024x2048 : S_.BroadcastsInDim S1024x2048 (![] : Fin 0 → Fin S1024x2048.rank)
  bcast_S_S1 : S_.BroadcastsInDim S1 (![] : Fin 0 → Fin S1.rank)

variable [Facts]

def fn {F : FTy → Type} [FloatOps F] (main_arg0 : FVec F S8192x6656 .bf16) (main_arg1 : FVec F S1024x2048 .bf16) (main_arg2 : FVec F S1 .f32) (main_arg3 : FVec F S128 .f32) : IVec S8192x3072 1 × IVec S1024x2048 1 × IVec S1 1 :=
  let main_v0 : FVec F S8192x3072 .bf16 := (extractStridedSlice S8192x3072 ![0, 0] · slices_S8192x6656_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_v5 : FVec F S1024x2048 .f32 := (extf .f32 · bitsLt_bf16_f32) main_arg1
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_v9 : FVec F S1 .f32 := Host.absf main_arg2
  let main_cst_1 : FVec F S_ .f32 := constant S_ .f32 0x7F800000#32
  let main_v10 : FVec F S1 .f32 := broadcastInDim S1 ![] bcast_S_S1 main_cst_1
  let main_v11 : IVec S1 1 := cmpf .olt main_v9 main_v10
  (main_v4, main_v8, main_v11)
-- ==== Kernel.lean ====
abbrev S8192x6656 : Shape := ⟨2, ![8192, 6656]⟩
abbrev S1024x6656 : Shape := ⟨2, ![1024, 6656]⟩
abbrev S1 : Shape := ⟨1, ![1]⟩
abbrev S128 : Shape := ⟨1, ![128]⟩
abbrev S1x8x128 : Shape := ⟨3, ![1, 8, 128]⟩
abbrev S1x128 : Shape := ⟨2, ![1, 128]⟩
abbrev S8192x1024 : Shape := ⟨2, ![8192, 1024]⟩
abbrev S512x128 : Shape := ⟨2, ![512, 128]⟩
abbrev S256x128 : Shape := ⟨2, ![256, 128]⟩
abbrev S2048x128 : Shape := ⟨2, ![2048, 128]⟩
abbrev S128x2304 : Shape := ⟨2, ![128, 2304]⟩
abbrev S128x256 : Shape := ⟨2, ![128, 256]⟩
abbrev S128x128 : Shape := ⟨2, ![128, 128]⟩
abbrev S8x128 : Shape := ⟨2, ![8, 128]⟩
abbrev S256x256 : Shape := ⟨2, ![256, 256]⟩
abbrev S256 : Shape := ⟨1, ![256]⟩
abbrev S1x256 : Shape := ⟨2, ![1, 256]⟩
abbrev S128x1 : Shape := ⟨2, ![128, 1]⟩

abbrev nBuf : Space → Nat
  | .hbm => 7
  | .vmem => 17
  | .smem => 0
  | _ => 0

abbrev bufTy : (tb : Table) → Fin (tcTables nBuf tb) → BufTy
  | .hbm, ⟨0, _⟩ => ⟨S8192x6656, .bf16⟩
  | .hbm, ⟨1, _⟩ => ⟨S1024x6656, .bf16⟩
  | .hbm, ⟨2, _⟩ => ⟨S1, .f32⟩
  | .hbm, ⟨3, _⟩ => ⟨S128, .f32⟩
  | .hbm, ⟨4, _⟩ => ⟨S1x8x128, .f32⟩
  | .hbm, ⟨5, _⟩ => ⟨S1x128, .f32⟩
  | .hbm, ⟨6, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | .local _ .vmem, ⟨12, _⟩ => ⟨S1x8x128, .f32⟩
  | .local _ .vmem, ⟨13, _⟩ => ⟨S1x128, .f32⟩
  | .local _ .vmem, ⟨14, _⟩ => ⟨S512x128, .bf16⟩
  | .local _ .vmem, ⟨15, _⟩ => ⟨S512x128, .bf16⟩
  | .local _ .vmem, ⟨16, _⟩ => ⟨S128x2304, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 4], ![false, false, false]⟩

@[reducible] def k0_t1_loop : Scf.Loop 32 :=
  let c0_i32_5 : BitVec 32 := 0#32
  let c4_i32 : BitVec 32 := 4#32
  let v9 : BitVec 32 := Scalar.addi c0_i32_5 c4_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c128_i32 : BitVec 32 := 128#32
  let v10 : BitVec 32 := Scalar.muli arg13 c128_i32
  v10
def k0_off1 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c128_i32 : BitVec 32 := 128#32
  let v10 : BitVec 32 := Scalar.muli arg13 c128_i32
  let v11 : BitVec 32 := v10
  let v12 : Index := Scalar.indexCast v11
  let c0_7 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8192x6656 : Shape := ⟨2, ![8192, 6656]⟩
abbrev S1024x6656 : Shape := ⟨2, ![1024, 6656]⟩
abbrev S1 : Shape := ⟨1, ![1]⟩
abbrev S128 : Shape := ⟨1, ![128]⟩
abbrev S4x2048x6656 : Shape := ⟨3, ![4, 2048, 6656]⟩
abbrev S4x256x6656 : Shape := ⟨3, ![4, 256, 6656]⟩
abbrev S4x2048x1024 : Shape := ⟨3, ![4, 2048, 1024]⟩
abbrev S4x2048x8x2x64 : Shape := ⟨5, ![4, 2048, 8, 2, 64]⟩
abbrev S4x256x1024 : Shape := ⟨3, ![4, 256, 1024]⟩
abbrev S4x2304x1024 : Shape := ⟨3, ![4, 2304, 1024]⟩
abbrev S4x2304x8x2x64 : Shape := ⟨5, ![4, 2304, 8, 2, 64]⟩
abbrev S4x2304x8x128 : Shape := ⟨4, ![4, 2304, 8, 128]⟩
abbrev S4x8x2x2048x2304 : Shape := ⟨5, ![4, 8, 2, 2048, 2304]⟩
abbrev S_ : Shape := ⟨0, ![]⟩
abbrev S4x8x2x2048 : Shape := ⟨4, ![4, 8, 2, 2048]⟩
abbrev S4x8x2x2048x1 : Shape := ⟨5, ![4, 8, 2, 2048, 1]⟩
abbrev S4x8x1x2048x2304 : Shape := ⟨5, ![4, 8, 1, 2048, 2304]⟩
abbrev S4x8x2048x2304 : Shape := ⟨4, ![4, 8, 2048, 2304]⟩
abbrev S1x1x1x1 : Shape := ⟨4, ![1, 1, 1, 1]⟩
abbrev S4x8x128x2048 : Shape := ⟨4, ![4, 8, 128, 2048]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S1024x6656, .bf16⟩
  | .hbm, ⟨2, _⟩ => ⟨S1, .f32⟩
  | .hbm, ⟨3, _⟩ => ⟨S128, .f32⟩
  | .hbm, ⟨4, _⟩ => ⟨S8192x6656, .f32⟩
  | .hbm, ⟨5, _⟩ => ⟨S4x2048x6656, .f32⟩
  | .hbm, ⟨6, _⟩ => ⟨S1024x6656, .f32⟩
  | .hbm, ⟨7, _⟩ => ⟨S4x256x6656, .f32⟩
  | .hbm, ⟨8, _⟩ => ⟨S4x2048x1024, .f32⟩
  | .hbm, ⟨9, _⟩ => ⟨S4x2048x8x2x64, .f32⟩
  | .hbm, ⟨10, _⟩ => ⟨S4x256x1024, .f32⟩
  | .hbm, ⟨11, _⟩ => ⟨S4x2048x1024, .f32⟩
  | .hbm, ⟨12, _⟩ => ⟨S4x2304x1024, .f32⟩
  | .hbm, ⟨13, _⟩ => ⟨S4x2304x8x2x64, .f32⟩
  | .hbm, ⟨14, _⟩ => ⟨S4x256x1024, .f32⟩
  | .hbm, ⟨15, _⟩ => ⟨S4x2048x1024, .f32⟩
  | .hbm, ⟨16, _⟩ => ⟨S4x2304x1024, .f32⟩
  | .hbm, ⟨17, _⟩ => ⟨S4x2304x8x128, .f32⟩
  | .hbm, ⟨18, _⟩ => ⟨S4x2048x1024, .f32⟩
  | .hbm, ⟨19, _⟩ => ⟨S4x8x2x2048x2304, .f32⟩
  | .hbm, ⟨20, _⟩ => ⟨S_, .f32⟩
  | .hbm, ⟨21, _⟩ => ⟨S4x8x2x2048, .f32⟩
  | .hbm, ⟨22, _⟩ => ⟨S_, .f32⟩
  | .hbm, ⟨23, _⟩ => ⟨S4x8x2x2048, .f32⟩
  | .hbm, ⟨24, _⟩ => ⟨S4x8x2x2048, .f32⟩
  | .hbm, ⟨25, _⟩ => ⟨S4x8x2x2048x1, .f32⟩
  | .hbm, ⟨26, _⟩ => ⟨S4x8x2x2048x2304, .f32⟩
  | .hbm, ⟨27, _⟩ => ⟨S4x8x2x2048x2304, .f32⟩
  | .hbm, ⟨28, _⟩ => ⟨S4x8x2x2048x2304, .f32⟩
  | .hbm, ⟨29, _⟩ => ⟨S_, .f32⟩
  | .hbm, ⟨30, _⟩ => ⟨S4x8x2x2048, .f32⟩
  | .hbm, ⟨31, _⟩ => ⟨S4x8x2x2048x1, .f32⟩
  | .hbm, ⟨32, _⟩ => ⟨S4x8x2x2048x2304, .f32⟩
  | .hbm, ⟨33, _⟩ => ⟨S4x8x2x2048x2304, .f32⟩
  | .hbm, ⟨34, _⟩ => ⟨S4x8x1x2048x2304, .f32⟩
  | .hbm, ⟨35, _⟩ => ⟨S4x8x2048x2304, .f32⟩
  | .hbm, ⟨36, _⟩ => ⟨S4x8x1x2048x2304, .f32⟩
  | .hbm, ⟨37, _⟩ => ⟨S4x8x2048x2304, .f32⟩
  | .hbm, ⟨38, _⟩ => ⟨S1x1x1x1, .f32⟩
  | .hbm, ⟨39, _⟩ => ⟨S4x8x2048x2304, .f32⟩
  | .hbm, ⟨40, _⟩ => ⟨S4x8x2048x2304, .f32⟩
  | .hbm, ⟨41, _⟩ => ⟨S4x8x2048x2304, .f32⟩
  | .hbm, ⟨42, _⟩ => ⟨S4x8x128x2048, .f32⟩
  | .hbm, ⟨43, _⟩ => ⟨S4x2048x8x128, .f32⟩
  | .hbm, ⟨44, _⟩ => ⟨S4x2048x8x128, .f32⟩
  | .hbm, ⟨45, _⟩ => ⟨S_, .f32⟩
  | .hbm, ⟨46, _⟩ => ⟨S4x2048x8, .f32⟩
  | .hbm, ⟨47, _⟩ => ⟨S4x2048x8x1, .f32⟩
  | .hbm, ⟨48, _⟩ => ⟨S_, .f32⟩
  | .hbm, ⟨49, _⟩ => ⟨S4x2048x8x1, .f32⟩
  | .hbm, ⟨50, _⟩ => ⟨S4x2048x8x1, .f32⟩
  | .hbm, ⟨51, _⟩ => ⟨S_, .f32⟩
  | .hbm, ⟨52, _⟩ => ⟨S4x2048x8x1, .f32⟩
  | .hbm, ⟨53, _⟩ => ⟨S4x2048x8x1, .f32⟩
  | .hbm, ⟨54, _⟩ => ⟨S4x2048x8x1, .f32⟩
  | .hbm, ⟨55, _⟩ => ⟨S4x2048x8x128, .f32⟩
  | .hbm, ⟨56, _⟩ => ⟨S4x2048x8x128, .f32⟩
  | .hbm, ⟨57, _⟩ => ⟨S1x1x1x128, .f32⟩
  | .hbm, ⟨58, _⟩ => ⟨S4x2048x8x128, .f32⟩
  | .hbm, ⟨59, _⟩ => ⟨S4x2048x8x128, .f32⟩
  | .hbm, ⟨60, _⟩ => ⟨S_, .f32⟩
  | .hbm, ⟨61, _⟩ => ⟨S4x2048x8x128, .f32⟩
  | .hbm, ⟨62, _⟩ => ⟨S4x2048x8x128, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048x1024, .f32⟩
  | .hbm, ⟨68, _⟩ => ⟨S4x2048x1024, .f32⟩
  | .hbm, ⟨69, _⟩ => ⟨S_, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .bf16⟩
  | .hbm, ⟨75, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Inproj.lean ====
abbrev S8192x2048 : Shape := ⟨2, ![8192, 2048]⟩
abbrev S8x6144 : Shape := ⟨2, ![8, 6144]⟩
abbrev S2048 : Shape := ⟨1, ![2048]⟩
abbrev S2048x6656 : Shape := ⟨2, ![2048, 6656]⟩
abbrev S16 : Shape := ⟨1, ![16]⟩
abbrev S_ : Shape := ⟨0, ![]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩
abbrev S128x1 : Shape := ⟨2, ![128, 1]⟩
abbrev S8x1x6144 : Shape := ⟨3, ![8, 1, 6144]⟩
abbrev S1x2048 : Shape := ⟨2, ![1, 2048]⟩
abbrev S8192x6656 : Shape := ⟨2, ![8192, 6656]⟩
abbrev S1024x2048 : Shape := ⟨2, ![1024, 2048]⟩
abbrev S1x1x6144 : Shape := ⟨3, ![1, 1, 6144]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x6144 : Shape := ⟨2, ![1, 6144]⟩

abbrev nBuf : Space → Nat
  | .hbm => 164
  | .vmem => 16
  | .smem => 0
  | _ => 0

abbrev hbmTy0_0 (i : Nat) : BufTy := match i % 128 with
  | 0 => ⟨S8192x2048, .f32⟩
  | 1 => ⟨S8x6144, .f32⟩
  | 2 => ⟨S2048, .f32⟩
  | 3 => ⟨S2048x6656, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S2048, .i32⟩
  | 13 => ⟨S128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S128, .i32⟩
  | 21 => ⟨S128, .i32⟩
  | 22 => ⟨S_, .i32⟩
  | 23 => ⟨S128, .i32⟩
  | 24 => ⟨S128, .i1⟩
  | 25 => ⟨S_, .i32⟩
  | 26 => ⟨S128, .i32⟩
  | 27 => ⟨S128, .i1⟩
  | 28 => ⟨S_, .i32⟩
  | 29 => ⟨S_, .i1⟩
  | 30 => ⟨S128, .i1⟩
  | 31 => ⟨S128, .i1⟩
  | 32 => ⟨S128, .i1⟩
  | 33 => ⟨S128, .i32⟩
  | 34 => ⟨S128, .i32⟩
  | 35 => ⟨S128, .i32⟩
  | 36 => ⟨S_, .i32⟩
  | 37 => ⟨S128, .i32⟩
  | 38 => ⟨S128, .i1⟩
  | 39 => ⟨S1x128, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i1⟩
  | 51 => ⟨S_, .i32⟩
  | 52 => ⟨S2048, .i32⟩
  | 53 => ⟨S2048, .i1⟩
  | 54 => ⟨S_, .i32⟩
  | 55 => ⟨S_, .i1⟩
  | 56 => ⟨S2048, .i1⟩
  | 57 => ⟨S2048, .i1⟩
  | 58 => ⟨S2048, .i1⟩
  | 59 => ⟨S2048, .i32⟩
  | 60 => ⟨S2048, .i32⟩
  | 61 => ⟨S2048, .i32⟩
  | 62 => ⟨S2048x1, .i32⟩
  | 63 => ⟨S_, .i32⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S2048, .i32⟩
  | 72 => ⟨S2048, .i32⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x128, .i1⟩
  | 83 => ⟨S2048x128, .i32⟩
  | 84 => ⟨S2048x128, .i32⟩
  | 85 => ⟨S2048x128, .i32⟩
  | 86 => ⟨S2048x128, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i1⟩
  | 101 => ⟨S_, .i32⟩
  | 102 => ⟨S_, .i1⟩
  | 103 => ⟨S128, .i1⟩
  | 104 => ⟨S128, .i1⟩
  | 105 => ⟨S128, .i1⟩
  | 106 => ⟨S128, .i32⟩
  | 107 => ⟨S128, .i32⟩
  | 108 => ⟨S128, .i32⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S128, .f32⟩
  | 118 => ⟨S1x128, .f32⟩
  | 119 => ⟨S2048x128, .f32⟩
  | 120 => ⟨S2048x128, .f32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S128, .i32⟩
  | _ => ⟨S8192x2048, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S_, .i32⟩
  | 5 => ⟨S128, .i32⟩
  | 6 => ⟨S128, .i1⟩
  | 7 => ⟨S_, .i32⟩
  | 8 => ⟨S_, .i1⟩
  | 9 => ⟨S128, .i1⟩
  | 10 => ⟨S128, .i1⟩
  | 11 => ⟨S128, .i1⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S1x128, .i1⟩
  | 19 => ⟨S2048x128, .f32⟩
  | 20 => ⟨S2048x128, .f32⟩
  | 21 => ⟨S2048x128, .f32⟩
  | 22 => ⟨S_, .f32⟩
  | 23 => ⟨S_, .f32⟩
  | 24 => ⟨S2048x128, .i1⟩
  | 25 => ⟨S2048x128, .f32⟩
  | 26 => ⟨S2048x128, .f32⟩
  | 27 => ⟨S_, .f32⟩
  | 28 => ⟨S_, .f32⟩
  | 29 => ⟨S2048x128, .i1⟩
  | 30 => ⟨S2048x128, .f32⟩
  | 31 => ⟨S2048x128, .f32⟩
  | 32 => ⟨S8x1x6144, .f32⟩
  | 33 => ⟨S1x2048, .f32⟩
  | 34 => ⟨S2048x6656, .bf16⟩
  | 35 => ⟨S8192x6656, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x1x6144, .f32⟩
  | .local _ .vmem, ⟨3, _⟩ => ⟨S1x1x6144, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v12 : Ref sig .tc := ⟨.hbm, 61, rfl⟩
abbrev main_v13 : Ref sig .tc := ⟨.hbm, 62, rfl⟩
abbrev main_c_3 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v14 : Ref sig .tc := ⟨.hbm, 80, rfl⟩
abbrev main_v15 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v16 : Ref sig .tc := ⟨.hbm, 85, rfl⟩
abbrev main_v17 : Ref sig .tc := ⟨.hbm, 86, rfl⟩
abbrev main_c_4 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v18 : Ref sig .tc := ⟨.hbm, 108, rfl⟩
abbrev main_c_5 : Ref sig .tc := ⟨.hbm, 109, rfl⟩
abbrev main_v19 : Ref sig .tc := ⟨.hbm, 110, rfl⟩
abbrev main_v20 : Ref sig .tc := ⟨.hbm, 111, rfl⟩
abbrev main_c_6 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_c_7 : Ref sig .tc := ⟨.hbm, 121, rfl⟩
abbrev main_call5_v0 : Ref sig .tc := ⟨.hbm, 122, rfl⟩
abbrev main_call5_c : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_c_1 : Ref sig .tc := ⟨.hbm, 129, rfl⟩
abbrev main_call5_v5 : Ref sig .tc := ⟨.hbm, 130, rfl⟩
abbrev main_call5_v6 : Ref sig .tc := ⟨.hbm, 131, rfl⟩
abbrev main_call5_c_2 : Ref sig .tc := ⟨.hbm, 132, rfl⟩
abbrev main_call5_v7 : Ref sig .tc := ⟨.hbm, 133, rfl⟩
abbrev main_call5_v8 : Ref sig .tc := ⟨.hbm, 134, rfl⟩
abbrev main_call5_c_3 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_v29 : Ref sig .tc := ⟨.hbm, 142, rfl⟩
abbrev main_c_8 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_cst_9 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v36 : Ref sig .tc := ⟨.hbm, 154, rfl⟩
abbrev main_cst_10 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c4_i32 : BitVec 32 := 4#32
  let v9 : BitVec 1 := Scalar.cmpi .slt arg1 c4_i32
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c4_i32_7 : BitVec 32 := 4#32
  let v12 : BitVec 1 := Scalar.cmpi .sge arg1 c4_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InprojRefIdeal.lean ====
abbrev S8192x2048 : Shape := ⟨2, ![8192, 2048]⟩
abbrev S8x6144 : Shape := ⟨2, ![8, 6144]⟩
abbrev S2048 : Shape := ⟨1, ![2048]⟩
abbrev S2048x6656 : Shape := ⟨2, ![2048, 6656]⟩
abbrev S4x2048x2048 : Shape := ⟨3, ![4, 2048, 2048]⟩
abbrev S4x6144 : Shape := ⟨2, ![4, 6144]⟩
abbrev S4x1x6144 : Shape := ⟨3, ![4, 1, 6144]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x6656 : Shape := ⟨2, ![8192, 6656]⟩
abbrev S16 : Shape := ⟨1, ![16]⟩
abbrev S8192x1024 : Shape := ⟨2, ![8192, 1024]⟩
abbrev S4x2048x16x64 : Shape := ⟨4, ![4, 2048, 16, 64]⟩
abbrev S4x2048x16x32 : Shape := ⟨4, ![4, 2048, 16, 32]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S4x2048x16x16 : Shape := ⟨4, ![4, 2048, 16, 16]⟩
abbrev S8192x4608 : Shape := ⟨2, ![8192, 4608]⟩

abbrev nBuf : Space → Nat
  | .hbm => 226
  | .vmem => 0
  | .smem => 0
  | _ => 0

abbrev hbmTy0_0 (i : Nat) : BufTy := match i % 128 with
  | 0 => ⟨S8192x2048, .f32⟩
  | 1 => ⟨S8x6144, .f32⟩
  | 2 => ⟨S2048, .f32⟩
  | 3 => ⟨S2048x6656, .f32⟩
  | 4 => ⟨S4x2048x2048, .f32⟩
  | 5 => ⟨S4x6144, .f32⟩
  | 6 => ⟨S4x1x6144, .f32⟩
  | 7 => ⟨S4x1x2048, .f32⟩
  | 8 => ⟨S4x1x2048, .f32⟩
  | 9 => ⟨S4x1x2048, .f32⟩
  | 10 => ⟨S4x2048x2048, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x2048, .f32⟩
  | 22 => ⟨S4x2048x2048, .f32⟩
  | 23 => ⟨S1x1x2048, .f32⟩
  | 24 => ⟨S4x2048x2048, .f32⟩
  | 25 => ⟨S4x2048x2048, .f32⟩
  | 26 => ⟨S_, .f32⟩
  | 27 => ⟨S4x1x2048, .f32⟩
  | 28 => ⟨S4x1x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S8192x2048, .f32⟩
  | 34 => ⟨S8192x6656, .f32⟩
  | 35 => ⟨S2048, .i32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S8192x1024, .f32⟩
  | 45 => ⟨S4x2048x16x64, .f32⟩
  | 46 => ⟨S4x2048x16x32, .f32⟩
  | 47 => ⟨S4x2048x16x32, .f32⟩
  | 48 => ⟨S_, .i32⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i1⟩
  | 56 => ⟨S2048, .i32⟩
  | 57 => ⟨S2048, .i32⟩
  | 58 => ⟨S_, .i32⟩
  | 59 => ⟨S2048, .i32⟩
  | 60 => ⟨S2048, .i1⟩
  | 61 => ⟨S2048, .i1⟩
  | 62 => ⟨S_, .i32⟩
  | 63 => ⟨S2048, .i32⟩
  | 64 => ⟨S2048, .i32⟩
  | 65 => ⟨S2048, .i32⟩
  | 66 => ⟨S2048, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x16, .f32⟩
  | 73 => ⟨S2048x32, .f32⟩
  | 74 => ⟨S1x2048x1x32, .f32⟩
  | 75 => ⟨S2048x16, .f32⟩
  | 76 => ⟨S2048x32, .f32⟩
  | 77 => ⟨S1x2048x1x32, .f32⟩
  | 78 => ⟨S4x2048x16x16, .f32⟩
  | 79 => ⟨S4x2048x16x16, .f32⟩
  | 80 => ⟨S4x2048x16x32, .f32⟩
  | 81 => ⟨S4x2048x16x32, .f32⟩
  | 82 => ⟨S4x2048x16x16, .f32⟩
  | 83 => ⟨S4x2048x16x32, .f32⟩
  | 84 => ⟨S4x2048x16x32, .f32⟩
  | 85 => ⟨S4x2048x16x32, .f32⟩
  | 86 => ⟨S4x2048x16x32, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i1⟩
  | 98 => ⟨S_, .i32⟩
  | 99 => ⟨S2048, .i32⟩
  | 100 => ⟨S2048, .i1⟩
  | 101 => ⟨S_, .i32⟩
  | 102 => ⟨S_, .i1⟩
  | 103 => ⟨S2048, .i1⟩
  | 104 => ⟨S2048, .i1⟩
  | 105 => ⟨S2048, .i1⟩
  | 106 => ⟨S2048, .i32⟩
  | 107 => ⟨S2048, .i32⟩
  | 108 => ⟨S2048, .i32⟩
  | 109 => ⟨S2048, .f32⟩
  | 110 => ⟨S2048x1, .f32⟩
  | 111 => ⟨S1x16, .f32⟩
  | 112 => ⟨S2048x16, .f32⟩
  | 113 => ⟨S2048x16, .f32⟩
  | 114 => ⟨S2048x16, .f32⟩
  | 115 => ⟨S2048x16, .f32⟩
  | 116 => ⟨S2048x32, .f32⟩
  | 117 => ⟨S1x2048x1x32, .f32⟩
  | 118 => ⟨S2048x16, .f32⟩
  | 119 => ⟨S2048x32, .f32⟩
  | 120 => ⟨S1x2048x1x32, .f32⟩
  | 121 => ⟨S4x2048x16x16, .f32⟩
  | 122 => ⟨S4x2048x16x16, .f32⟩
  | 123 => ⟨S4x2048x16x32, .f32⟩
  | 124 => ⟨S4x2048x16x32, .f32⟩
  | 125 => ⟨S4x2048x16x16, .f32⟩
  | 126 => ⟨S4x2048x16x32, .f32⟩
  | 127 => ⟨S4x2048x16x32, .f32⟩
  | _ => ⟨S8192x2048, .f32⟩

abbrev hbmTy0_1 (i : Nat) : BufTy := match i % 128 with
  | 0 => ⟨S4x2048x16x32, .f32⟩
  | 1 => ⟨S4x2048x16x32, .f32⟩
  | 2 => ⟨S4x2048x16x64, .f32⟩
  | 3 => ⟨S8192x1024, .f32⟩
  | 4 => ⟨S_, .f32⟩
  | 5 => ⟨S8192x1024, .f32⟩
  | 6 => ⟨S8192x1024, .f32⟩
  | 7 => ⟨S8192x1024, .f32⟩
  | 8 => ⟨S4x2048x16x64, .f32⟩
  | 9 => ⟨S4x2048x16x32, .f32⟩
  | 10 => ⟨S4x2048x16x32, .f32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S2048, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x16, .f32⟩
  | 36 => ⟨S2048x32, .f32⟩
  | 37 => ⟨S1x2048x1x32, .f32⟩
  | 38 => ⟨S2048x16, .f32⟩
  | 39 => ⟨S2048x32, .f32⟩
  | 40 => ⟨S1x2048x1x32, .f32⟩
  | 41 => ⟨S4x2048x16x16, .f32⟩
  | 42 => ⟨S4x2048x16x16, .f32⟩
  | 43 => ⟨S4x2048x16x32, .f32⟩
  | 44 => ⟨S4x2048x16x32, .f32⟩
  | 45 => ⟨S4x2048x16x16, .f32⟩
  | 46 => ⟨S4x2048x16x32, .f32⟩
  | 47 => ⟨S4x2048x16x32, .f32⟩
  | 48 => ⟨S4x2048x16x32, .f32⟩
  | 49 => ⟨S4x2048x16x32, .f32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i1⟩
  | 61 => ⟨S_, .i32⟩
  | 62 => ⟨S2048, .i32⟩
  | 63 => ⟨S2048, .i1⟩
  | 64 => ⟨S_, .i32⟩
  | 65 => ⟨S_, .i1⟩
  | 66 => ⟨S2048, .i1⟩
  | 67 => ⟨S2048, .i1⟩
  | 68 => ⟨S2048, .i1⟩
  | 69 => ⟨S2048, .i32⟩
  | 70 => ⟨S2048, .i32⟩
  | 71 => ⟨S2048, .i32⟩
  | 72 => ⟨S2048, .f32⟩
  | 73 => ⟨S2048x1, .f32⟩
  | 74 => ⟨S1x16, .f32⟩
  | 75 => ⟨S2048x16, .f32⟩
  | 76 => ⟨S2048x16, .f32⟩
  | 77 => ⟨S2048x16, .f32⟩
  | 78 => ⟨S2048x16, .f32⟩
  | 79 => ⟨S2048x32, .f32⟩
  | 80 => ⟨S1x2048x1x32, .f32⟩
  | 81 => ⟨S2048x16, .f32⟩
  | 82 => ⟨S2048x32, .f32⟩
  | 83 => ⟨S1x2048x1x32, .f32⟩
  | 84 => ⟨S4x2048x16x16, .f32⟩
  | 85 => ⟨S4x2048x16x16, .f32⟩
  | 86 => ⟨S4x2048x16x32, .f32⟩
  | 87 => ⟨S4x2048x16x32, .f32⟩
  | 88 => ⟨S4x2048x16x16, .f32⟩
  | 89 => ⟨S4x2048x16x32, .f32⟩
  | 90 => ⟨S4x2048x16x32, .f32⟩
  | 91 => ⟨S4x2048x16x32, .f32⟩
  | 92 => ⟨S4x2048x16x32, .f32⟩
  | 93 => ⟨S4x2048x16x64, .f32⟩
  | 94 => ⟨S8192x1024, .f32⟩
  | 95 => ⟨S8192x4608, .f32⟩
  | 96 => ⟨S8192x6656, .f32⟩
  | 97 => ⟨S8192x6656, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_5 : Ref sig .tc := ⟨.hbm, 87, rfl⟩
abbrev main_call1_v0 : Ref sig .tc := ⟨.hbm, 88, rfl⟩
abbrev main_call1_c : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_c_1 : Ref sig .tc := ⟨.hbm, 95, rfl⟩
abbrev main_call1_v5 : Ref sig .tc := ⟨.hbm, 96, rfl⟩
abbrev main_call1_v6 : Ref sig .tc := ⟨.hbm, 97, rfl⟩
abbrev main_call1_c_2 : Ref sig .tc := ⟨.hbm, 98, rfl⟩
abbrev main_call1_v7 : Ref sig .tc := ⟨.hbm, 99, rfl⟩
abbrev main_call1_v8 : Ref sig .tc := ⟨.hbm, 100, rfl⟩
abbrev main_call1_c_3 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_6 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_7 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_8 : Ref sig .tc := ⟨.hbm, 178, rfl⟩
abbrev main_call3_v0 : Ref sig .tc := ⟨.hbm, 179, rfl⟩
abbrev main_call3_c : Ref sig .tc := ⟨.hbm, 180, rfl⟩
abbrev main_call3_v1 : Ref sig .tc := ⟨.hbm, 181, rfl⟩
abbrev main_call3_c_0 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_c_1 : Ref sig .tc := ⟨.hbm, 186, rfl⟩
abbrev main_call3_v5 : Ref sig .tc := ⟨.hbm, 187, rfl⟩
abbrev main_call3_v6 : Ref sig .tc := ⟨.hbm, 188, rfl⟩
abbrev main_call3_c_2 : Ref sig .tc := ⟨.hbm, 189, rfl⟩
abbrev main_call3_v7 : Ref sig .tc := ⟨.hbm, 190, rfl⟩
abbrev main_call3_v8 : Ref sig .tc := ⟨.hbm, 191, rfl⟩
abbrev main_call3_c_3 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_call3_v12 : Ref sig .tc := ⟨.hbm, 196, rfl⟩
abbrev main_call3_v13 : Ref sig .tc := ⟨.hbm, 197, rfl⟩
abbrev main_call3_v14 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩

abbrev nD : Nat := 1
abbrev τ : Topo := Topo.v7x

variable {F : FTy → Type} [FloatOps F]
-- ==== Outproj.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S8x6144 : Shape := ⟨2, ![8, 6144]⟩
abbrev S2048 : Shape := ⟨1, ![2048]⟩
abbrev S8x1x6144 : Shape := ⟨3, ![8, 1, 6144]⟩
abbrev S1x2048 : Shape := ⟨2, ![1, 2048]⟩
abbrev S512x1024 : Shape := ⟨2, ![512, 1024]⟩
abbrev S512x512 : Shape := ⟨2, ![512, 512]⟩
abbrev S512x2048 : Shape := ⟨2, ![512, 2048]⟩
abbrev S1x1x6144 : Shape := ⟨3, ![1, 1, 6144]⟩
abbrev S1024x2048 : Shape := ⟨2, ![1024, 2048]⟩
abbrev S1x6144 : Shape := ⟨2, ![1, 6144]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8x6144, .f32⟩
  | .hbm, ⟨6, _⟩ => ⟨S2048, .f32⟩
  | .hbm, ⟨7, _⟩ => ⟨S8x1x6144, .f32⟩
  | .hbm, ⟨8, _⟩ => ⟨S2048x2048, .bf16⟩
  | .hbm, ⟨9, _⟩ => ⟨S1x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x6144, .f32⟩
  | .local _ .vmem, ⟨10, _⟩ => ⟨S1x1x6144, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S8x6144 : Shape := ⟨2, ![8, 6144]⟩
abbrev S2048 : Shape := ⟨1, ![2048]⟩
abbrev S4x2048x2048 : Shape := ⟨3, ![4, 2048, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8x6144, .f32⟩
  | .hbm, ⟨6, _⟩ => ⟨S2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S4x2048x2048, .f32⟩
  | .hbm, ⟨11, _⟩ => ⟨S4x2048, .f32⟩
  | .hbm, ⟨12, _⟩ => ⟨S4x1x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== CtxIn.lean ====
abbrev S1024x2048 : Shape := ⟨2, ![1024, 2048]⟩
abbrev S8x6144 : Shape := ⟨2, ![8, 6144]⟩
abbrev S2048 : Shape := ⟨1, ![2048]⟩
abbrev S2048x6656 : Shape := ⟨2, ![2048, 6656]⟩
abbrev S8x1x6144 : Shape := ⟨3, ![8, 1, 6144]⟩
abbrev S1x2048 : Shape := ⟨2, ![1, 2048]⟩
abbrev S1024x6656 : Shape := ⟨2, ![1024, 6656]⟩
abbrev S1x1x6144 : Shape := ⟨3, ![1, 1, 6144]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1x6144 : Shape := ⟨2, ![1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S8x6144, .f32⟩
  | .hbm, ⟨2, _⟩ => ⟨S2048, .f32⟩
  | .hbm, ⟨3, _⟩ => ⟨S2048x6656, .f32⟩
  | .hbm, ⟨4, _⟩ => ⟨S8x1x6144, .f32⟩
  | .hbm, ⟨5, _⟩ => ⟨S1x2048, .f32⟩
  | .hbm, ⟨6, _⟩ => ⟨S2048x6656, .bf16⟩
  | .hbm, ⟨7, _⟩ => ⟨S1024x6656, .bf16⟩
  | .local _ .vmem, ⟨0, _⟩ => ⟨S1024x2048, .f32⟩
  | .local _ .vmem, ⟨1, _⟩ => ⟨S1x1x6144, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxInRefIdeal.lean ====
abbrev S1024x2048 : Shape := ⟨2, ![1024, 2048]⟩
abbrev S8x6144 : Shape := ⟨2, ![8, 6144]⟩
abbrev S2048 : Shape := ⟨1, ![2048]⟩
abbrev S2048x6656 : Shape := ⟨2, ![2048, 6656]⟩
abbrev S1x6144 : Shape := ⟨2, ![1, 6144]⟩
abbrev S6144 : Shape := ⟨1, ![6144]⟩
abbrev S1x2048 : Shape := ⟨2, ![1, 2048]⟩
abbrev S_ : Shape := ⟨0, ![]⟩
abbrev S1024 : Shape := ⟨1, ![1024]⟩
abbrev S1024x1 : Shape := ⟨2, ![1024, 1]⟩
abbrev S1024x6656 : Shape := ⟨2, ![1024, 6656]⟩
abbrev S1024x1024 : Shape := ⟨2, ![1024, 1024]⟩
abbrev S1024x5632 : Shape := ⟨2, ![1024, 5632]⟩

abbrev nBuf : Space → Nat
  | .hbm => 41
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8x6144, .f32⟩
  | .hbm, ⟨2, _⟩ => ⟨S2048, .f32⟩
  | .hbm, ⟨3, _⟩ => ⟨S2048x6656, .f32⟩
  | .hbm, ⟨4, _⟩ => ⟨S1x6144, .f32⟩
  | .hbm, ⟨5, _⟩ => ⟨S6144, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1024x2048, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x2048, .f32⟩
  | .hbm, ⟨22, _⟩ => ⟨S1024x2048, .f32⟩
  | .hbm, ⟨23, _⟩ => ⟨S1x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x6656, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x5632, .f32⟩
  | .hbm, ⟨39, _⟩ => ⟨S1024x6656, .f32⟩
  | .hbm, ⟨40, _⟩ => ⟨S1024x6656, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== CtxLast.lean ====
abbrev S1024x2048 : Shape := ⟨2, ![1024, 2048]⟩
abbrev S8x6144 : Shape := ⟨2, ![8, 6144]⟩
abbrev S2048 : Shape := ⟨1, ![2048]⟩
abbrev S2048x6656 : Shape := ⟨2, ![2048, 6656]⟩
abbrev S8x1x6144 : Shape := ⟨3, ![8, 1, 6144]⟩
abbrev S1x2048 : Shape := ⟨2, ![1, 2048]⟩
abbrev S1x1x6144 : Shape := ⟨3, ![1, 1, 6144]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1x6144 : Shape := ⟨2, ![1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S8x6144, .f32⟩
  | .hbm, ⟨2, _⟩ => ⟨S2048, .f32⟩
  | .hbm, ⟨3, _⟩ => ⟨S2048x6656, .f32⟩
  | .hbm, ⟨4, _⟩ => ⟨S8x1x6144, .f32⟩
  | .hbm, ⟨5, _⟩ => ⟨S1x2048, .f32⟩
  | .hbm, ⟨6, _⟩ => ⟨S2048x6656, .bf16⟩
  | .hbm, ⟨7, _⟩ => ⟨S1024x2048, .bf16⟩
  | .local _ .vmem, ⟨0, _⟩ => ⟨S1024x2048, .f32⟩
  | .local _ .vmem, ⟨1, _⟩ => ⟨S1x1x6144, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxLastRefIdeal.lean ====
abbrev S1024x2048 : Shape := ⟨2, ![1024, 2048]⟩
abbrev S8x6144 : Shape := ⟨2, ![8, 6144]⟩
abbrev S2048 : Shape := ⟨1, ![2048]⟩
abbrev S2048x6656 : Shape := ⟨2, ![2048, 6656]⟩
abbrev S1x6144 : Shape := ⟨2, ![1, 6144]⟩
abbrev S6144 : Shape := ⟨1, ![6144]⟩
abbrev S1x2048 : Shape := ⟨2, ![1, 2048]⟩
abbrev S_ : Shape := ⟨0, ![]⟩
abbrev S1024 : Shape := ⟨1, ![1024]⟩
abbrev S1024x1 : Shape := ⟨2, ![1024, 1]⟩
abbrev S1024x6656 : Shape := ⟨2, ![1024, 6656]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8x6144, .f32⟩
  | .hbm, ⟨2, _⟩ => ⟨S2048, .f32⟩
  | .hbm, ⟨3, _⟩ => ⟨S2048x6656, .f32⟩
  | .hbm, ⟨4, _⟩ => ⟨S1x6144, .f32⟩
  | .hbm, ⟨5, _⟩ => ⟨S6144, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1024x2048, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x2048, .f32⟩
  | .hbm, ⟨22, _⟩ => ⟨S1024x2048, .f32⟩
  | .hbm, ⟨23, _⟩ => ⟨S1x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x6656, .f32⟩
  | .hbm, ⟨34, _⟩ => ⟨S1024x2048, .f32⟩
  | .hbm, ⟨35, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== OutMid.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S8x6144 : Shape := ⟨2, ![8, 6144]⟩
abbrev S8x1x6144 : Shape := ⟨3, ![8, 1, 6144]⟩
abbrev S512x1024 : Shape := ⟨2, ![512, 1024]⟩
abbrev S512x512 : Shape := ⟨2, ![512, 512]⟩
abbrev S512x2048 : Shape := ⟨2, ![512, 2048]⟩
abbrev S1x1x6144 : Shape := ⟨3, ![1, 1, 6144]⟩
abbrev S1024x2048 : Shape := ⟨2, ![1024, 2048]⟩
abbrev S1x6144 : Shape := ⟨2, ![1, 6144]⟩
abbrev S1x2048 : Shape := ⟨2, ![1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8x6144, .f32⟩
  | .hbm, ⟨6, _⟩ => ⟨S8x1x6144, .f32⟩
  | .hbm, ⟨7, _⟩ => ⟨S2048x2048, .bf16⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x6144, .f32⟩
  | .local _ .vmem, ⟨10, _⟩ => ⟨S1x1x6144, .f32⟩
  | .local _ .vmem, ⟨11, _⟩ => ⟨S512x2048, .f32⟩
  | .local _ .vmem, ⟨12, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutMidRefIdeal.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S8x6144 : Shape := ⟨2, ![8, 6144]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8x6144, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S4x2048x2048, .f32⟩
  | .hbm, ⟨10, _⟩ => ⟨S4x2048, .f32⟩
  | .hbm, ⟨11, _⟩ => ⟨S4x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== OutCtx.lean ====
abbrev S1024x1024 : Shape := ⟨2, ![1024, 1024]⟩
abbrev S1024x512 : Shape := ⟨2, ![1024, 512]⟩
abbrev S2048x2048 : Shape := ⟨2, ![2048, 2048]⟩
abbrev S1024x2048 : Shape := ⟨2, ![1024, 2048]⟩
abbrev S8x6144 : Shape := ⟨2, ![8, 6144]⟩
abbrev S8x1x6144 : Shape := ⟨3, ![8, 1, 6144]⟩
abbrev S512x1024 : Shape := ⟨2, ![512, 1024]⟩
abbrev S512x512 : Shape := ⟨2, ![512, 512]⟩
abbrev S512x2048 : Shape := ⟨2, ![512, 2048]⟩
abbrev S1x1x6144 : Shape := ⟨3, ![1, 1, 6144]⟩
abbrev S1x6144 : Shape := ⟨2, ![1, 6144]⟩
abbrev S1x2048 : Shape := ⟨2, ![1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .hbm, ⟨3, _⟩ => ⟨S2048x2048, .f32⟩
  | .hbm, ⟨4, _⟩ => ⟨S1024x2048, .f32⟩
  | .hbm, ⟨5, _⟩ => ⟨S8x6144, .f32⟩
  | .hbm, ⟨6, _⟩ => ⟨S8x1x6144, .f32⟩
  | .hbm, ⟨7, _⟩ => ⟨S2048x2048, .bf16⟩
  | .hbm, ⟨8, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x6144, .f32⟩
  | .local _ .vmem, ⟨10, _⟩ => ⟨S1x1x6144, .f32⟩
  | .local _ .vmem, ⟨11, _⟩ => ⟨S512x2048, .f32⟩
  | .local _ .vmem, ⟨12, _⟩ => ⟨S512x2048, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1024_i32 : BitVec 32 := 1024#32
  let v0 : BitVec 32 := Scalar.divsi arg0 c1024_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1024_i32 c0_i32_1
  let v7 : BitVec 32 := Scalar.extui v6
  let c0_i32_2 : BitVec 32 := 0#32
  let v8 : BitVec 1 := Scalar.cmpi .slt c1024_i32 c0_i32_2
  let v9 : BitVec 32 := Scalar.extui v8
  let v10 : BitVec 32 := Scalar.subi v7 v9
  let v11 : BitVec 1 := Scalar.cmpi .ne v5 v10
  let v12 : BitVec 32 := Scalar.remsi arg0 c1024_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutCtxRefIdeal.lean ====
abbrev S1024x1024 : Shape := ⟨2, ![1024, 1024]⟩
abbrev S1024x512 : Shape := ⟨2, ![1024, 512]⟩
abbrev S2048x2048 : Shape := ⟨2, ![2048, 2048]⟩
abbrev S1024x2048 : Shape := ⟨2, ![1024, 2048]⟩
abbrev S8x6144 : Shape := ⟨2, ![8, 6144]⟩
abbrev S1x2048 : Shape := ⟨2, ![1, 2048]⟩
abbrev S2048 : Shape := ⟨1, ![2048]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .hbm, ⟨3, _⟩ => ⟨S2048x2048, .f32⟩
  | .hbm, ⟨4, _⟩ => ⟨S1024x2048, .f32⟩
  | .hbm, ⟨5, _⟩ => ⟨S8x6144, .f32⟩
  | .hbm, ⟨6, _⟩ => ⟨S1024x2048, .bf16⟩
  | .hbm, ⟨7, _⟩ => ⟨S1024x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== PoolConv.lean ====
abbrev S8192x6656 : Shape := ⟨2, ![8192, 6656]⟩
abbrev S4x128x128 : Shape := ⟨3, ![4, 128, 128]⟩
abbrev S512 : Shape := ⟨1, ![512]⟩
abbrev S31x512 : Shape := ⟨2, ![31, 512]⟩
abbrev S512x512 : Shape := ⟨2, ![512, 512]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S288x512 : Shape := ⟨2, ![288, 512]⟩
abbrev S64x512 : Shape := ⟨2, ![64, 512]⟩
abbrev S64 : Shape := ⟨1, ![64]⟩
abbrev S64x1 : Shape := ⟨2, ![64, 1]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 16
  | .vmem => 36
  | .smem => 0
  | _ => 0

abbrev bufTy : (tb : Table) → Fin (tcTables nBuf tb) → BufTy
  | .hbm, ⟨0, _⟩ => ⟨S8192x6656, .bf16⟩
  | .hbm, ⟨1, _⟩ => ⟨S4x128x128, .f32⟩
  | .hbm, ⟨2, _⟩ => ⟨S512, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S4x128x128, .bf16⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x512, .bf16⟩
  | .hbm, ⟨14, _⟩ => ⟨S8192x512, .bf16⟩
  | .hbm, ⟨15, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S256x512, .bf16⟩
  | .local _ .vmem, ⟨15, _⟩ => ⟨S256x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S256x512, .bf16⟩
  | .local _ .vmem, ⟨21, _⟩ => ⟨S256x512, .bf16⟩
  | .local _ .vmem, ⟨22, _⟩ => ⟨S4x128x128, .bf16⟩
  | .local _ .vmem, ⟨23, _⟩ => ⟨S1x512, .f32⟩
  | .local _ .vmem, ⟨24, _⟩ => ⟨S31x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S288x512, .f32⟩
  | .local _ .vmem, ⟨34, _⟩ => ⟨S288x512, .f32⟩
  | .local _ .vmem, ⟨35, _⟩ => ⟨S256x512, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c8_i32 : BitVec 32 := 8#32
  let c0_i32 : BitVec 32 := 0#32
  ![v2.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c10_i32 : BitVec 32 := 10#32
  let c0_i32 : BitVec 32 := 0#32
  ![v2.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c11_i32 : BitVec 32 := 11#32
  let c0_i32 : BitVec 32 := 0#32
  ![v2.toNat, c11_i32.toNat]

def cc0_transform_10 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S31x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PoolConvRefIdeal.lean ====
abbrev S8192x6656 : Shape := ⟨2, ![8192, 6656]⟩
abbrev S4x128x128 : Shape := ⟨3, ![4, 128, 128]⟩
abbrev S512 : Shape := ⟨1, ![512]⟩
abbrev S31x512 : Shape := ⟨2, ![31, 512]⟩
abbrev S512x512 : Shape := ⟨2, ![512, 512]⟩
abbrev S4x2048x6656 : Shape := ⟨3, ![4, 2048, 6656]⟩
abbrev S4x2048x512 : Shape := ⟨3, ![4, 2048, 512]⟩
abbrev S_ : Shape := ⟨0, ![]⟩
abbrev S4x2078x512 : Shape := ⟨3, ![4, 2078, 512]⟩
abbrev S1x512 : Shape := ⟨2, ![1, 512]⟩
abbrev S1x1x512 : Shape := ⟨3, ![1, 1, 512]⟩
abbrev S4x2048 : Shape := ⟨2, ![4, 2048]⟩
abbrev S4x2048x1 : Shape := ⟨3, ![4, 2048, 1]⟩
abbrev S8192x512 : Shape := ⟨2, ![8192, 512]⟩
abbrev S2048 : Shape := ⟨1, ![2048]⟩
abbrev S4x2048x128 : Shape := ⟨3, ![4, 2048, 128]⟩
abbrev S4x2050x128 : Shape := ⟨3, ![4, 2050, 128]⟩
abbrev S1x2048x1 : Shape := ⟨3, ![1, 2048, 1]⟩
abbrev S8192x128 : Shape := ⟨2, ![8192, 128]⟩
abbrev S1x128x128 : Shape := ⟨3, ![1, 128, 128]⟩
abbrev S128x128 : Shape := ⟨2, ![128, 128]⟩
abbrev S4x2052x128 : Shape := ⟨3, ![4, 2052, 128]⟩
abbrev S4x2056x128 : Shape := ⟨3, ![4, 2056, 128]⟩
abbrev S4x2064x128 : Shape := ⟨3, ![4, 2064, 128]⟩

abbrev nBuf : Space → Nat
  | .hbm => 528
  | .vmem => 0
  | .smem => 0
  | _ => 0

abbrev hbmTy0_0 (i : Nat) : BufTy := match i % 128 with
  | 0 => ⟨S8192x6656, .bf16⟩
  | 1 => ⟨S4x128x128, .f32⟩
  | 2 => ⟨S512, .f32⟩
  | 3 => ⟨S31x512, .f32⟩
  | 4 => ⟨S512, .f32⟩
  | 5 => ⟨S512, .f32⟩
  | 6 => ⟨S512, .f32⟩
  | 7 => ⟨S512x512, .f32⟩
  | 8 => ⟨S8192x6656, .f32⟩
  | 9 => ⟨S4x2048x6656, .f32⟩
  | 10 => ⟨S4x2048x512, .f32⟩
  | 11 => ⟨S4x2048x512, .f32⟩
  | 12 => ⟨S4x2048x512, .f32⟩
  | 13 => ⟨S4x2048x512, .f32⟩
  | 14 => ⟨S4x2048x512, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S_, .f32⟩
  | 21 => ⟨S4x2048x512, .f32⟩
  | 22 => ⟨S4x2048x512, .f32⟩
  | 23 => ⟨S4x2048x512, .f32⟩
  | 24 => ⟨S_, .i32⟩
  | 25 => ⟨S_, .f32⟩
  | 26 => ⟨S4x2078x512, .f32⟩
  | 27 => ⟨S4x2048x512, .f32⟩
  | 28 => ⟨S1x512, .f32⟩
  | 29 => ⟨S512, .f32⟩
  | 30 => ⟨S1x1x512, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S1x512, .f32⟩
  | 38 => ⟨S512, .f32⟩
  | 39 => ⟨S1x1x512, .f32⟩
  | 40 => ⟨S4x2048x512, .f32⟩
  | 41 => ⟨S4x2048x512, .f32⟩
  | 42 => ⟨S4x2048x512, .f32⟩
  | 43 => ⟨S4x2048x512, .f32⟩
  | 44 => ⟨S1x512, .f32⟩
  | 45 => ⟨S512, .f32⟩
  | 46 => ⟨S1x1x512, .f32⟩
  | 47 => ⟨S4x2048x512, .f32⟩
  | 48 => ⟨S4x2048x512, .f32⟩
  | 49 => ⟨S4x2048x512, .f32⟩
  | 50 => ⟨S4x2048x512, .f32⟩
  | 51 => ⟨S1x512, .f32⟩
  | 52 => ⟨S512, .f32⟩
  | 53 => ⟨S1x1x512, .f32⟩
  | 54 => ⟨S4x2048x512, .f32⟩
  | 55 => ⟨S4x2048x512, .f32⟩
  | 56 => ⟨S4x2048x512, .f32⟩
  | 57 => ⟨S4x2048x512, .f32⟩
  | 58 => ⟨S1x512, .f32⟩
  | 59 => ⟨S512, .f32⟩
  | 60 => ⟨S1x1x512, .f32⟩
  | 61 => ⟨S4x2048x512, .f32⟩
  | 62 => ⟨S4x2048x512, .f32⟩
  | 63 => ⟨S4x2048x512, .f32⟩
  | 64 => ⟨S4x2048x512, .f32⟩
  | 65 => ⟨S1x512, .f32⟩
  | 66 => ⟨S512, .f32⟩
  | 67 => ⟨S1x1x512, .f32⟩
  | 68 => ⟨S4x2048x512, .f32⟩
  | 69 => ⟨S4x2048x512, .f32⟩
  | 70 => ⟨S4x2048x512, .f32⟩
  | 71 => ⟨S4x2048x512, .f32⟩
  | 72 => ⟨S1x512, .f32⟩
  | 73 => ⟨S512, .f32⟩
  | 74 => ⟨S1x1x512, .f32⟩
  | 75 => ⟨S4x2048x512, .f32⟩
  | 76 => ⟨S4x2048x512, .f32⟩
  | 77 => ⟨S4x2048x512, .f32⟩
  | 78 => ⟨S4x2048x512, .f32⟩
  | 79 => ⟨S1x512, .f32⟩
  | 80 => ⟨S512, .f32⟩
  | 81 => ⟨S1x1x512, .f32⟩
  | 82 => ⟨S4x2048x512, .f32⟩
  | 83 => ⟨S4x2048x512, .f32⟩
  | 84 => ⟨S4x2048x512, .f32⟩
  | 85 => ⟨S4x2048x512, .f32⟩
  | 86 => ⟨S1x512, .f32⟩
  | 87 => ⟨S512, .f32⟩
  | 88 => ⟨S1x1x512, .f32⟩
  | 89 => ⟨S4x2048x512, .f32⟩
  | 90 => ⟨S4x2048x512, .f32⟩
  | 91 => ⟨S4x2048x512, .f32⟩
  | 92 => ⟨S4x2048x512, .f32⟩
  | 93 => ⟨S1x512, .f32⟩
  | 94 => ⟨S512, .f32⟩
  | 95 => ⟨S1x1x512, .f32⟩
  | 96 => ⟨S4x2048x512, .f32⟩
  | 97 => ⟨S4x2048x512, .f32⟩
  | 98 => ⟨S4x2048x512, .f32⟩
  | 99 => ⟨S4x2048x512, .f32⟩
  | 100 => ⟨S1x512, .f32⟩
  | 101 => ⟨S512, .f32⟩
  | 102 => ⟨S1x1x512, .f32⟩
  | 103 => ⟨S4x2048x512, .f32⟩
  | 104 => ⟨S4x2048x512, .f32⟩
  | 105 => ⟨S4x2048x512, .f32⟩
  | 106 => ⟨S4x2048x512, .f32⟩
  | 107 => ⟨S1x512, .f32⟩
  | 108 => ⟨S512, .f32⟩
  | 109 => ⟨S1x1x512, .f32⟩
  | 110 => ⟨S4x2048x512, .f32⟩
  | 111 => ⟨S4x2048x512, .f32⟩
  | 112 => ⟨S4x2048x512, .f32⟩
  | 113 => ⟨S4x2048x512, .f32⟩
  | 114 => ⟨S1x512, .f32⟩
  | 115 => ⟨S512, .f32⟩
  | 116 => ⟨S1x1x512, .f32⟩
  | 117 => ⟨S4x2048x512, .f32⟩
  | 118 => ⟨S4x2048x512, .f32⟩
  | 119 => ⟨S4x2048x512, .f32⟩
  | 120 => ⟨S4x2048x512, .f32⟩
  | 121 => ⟨S1x512, .f32⟩
  | 122 => ⟨S512, .f32⟩
  | 123 => ⟨S1x1x512, .f32⟩
  | 124 => ⟨S4x2048x512, .f32⟩
  | 125 => ⟨S4x2048x512, .f32⟩
  | 126 => ⟨S4x2048x512, .f32⟩
  | 127 => ⟨S4x2048x512, .f32⟩
  | _ => ⟨S8192x6656, .bf16⟩

abbrev hbmTy0_1 (i : Nat) : BufTy := match i % 128 with
  | 0 => ⟨S1x512, .f32⟩
  | 1 => ⟨S512, .f32⟩
  | 2 => ⟨S1x1x512, .f32⟩
  | 3 => ⟨S4x2048x512, .f32⟩
  | 4 => ⟨S4x2048x512, .f32⟩
  | 5 => ⟨S4x2048x512, .f32⟩
  | 6 => ⟨S4x2048x512, .f32⟩
  | 7 => ⟨S1x512, .f32⟩
  | 8 => ⟨S512, .f32⟩
  | 9 => ⟨S1x1x512, .f32⟩
  | 10 => ⟨S4x2048x512, .f32⟩
  | 11 => ⟨S4x2048x512, .f32⟩
  | 12 => ⟨S4x2048x512, .f32⟩
  | 13 => ⟨S4x2048x512, .f32⟩
  | 14 => ⟨S1x512, .f32⟩
  | 15 => ⟨S512, .f32⟩
  | 16 => ⟨S1x1x512, .f32⟩
  | 17 => ⟨S4x2048x512, .f32⟩
  | 18 => ⟨S4x2048x512, .f32⟩
  | 19 => ⟨S4x2048x512, .f32⟩
  | 20 => ⟨S4x2048x512, .f32⟩
  | 21 => ⟨S1x512, .f32⟩
  | 22 => ⟨S512, .f32⟩
  | 23 => ⟨S1x1x512, .f32⟩
  | 24 => ⟨S4x2048x512, .f32⟩
  | 25 => ⟨S4x2048x512, .f32⟩
  | 26 => ⟨S4x2048x512, .f32⟩
  | 27 => ⟨S4x2048x512, .f32⟩
  | 28 => ⟨S1x512, .f32⟩
  | 29 => ⟨S512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S1x512, .f32⟩
  | 36 => ⟨S512, .f32⟩
  | 37 => ⟨S1x1x512, .f32⟩
  | 38 => ⟨S4x2048x512, .f32⟩
  | 39 => ⟨S4x2048x512, .f32⟩
  | 40 => ⟨S4x2048x512, .f32⟩
  | 41 => ⟨S4x2048x512, .f32⟩
  | 42 => ⟨S1x512, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S4x2048x512, .f32⟩
  | 49 => ⟨S1x512, .f32⟩
  | 50 => ⟨S512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S1x512, .f32⟩
  | 57 => ⟨S512, .f32⟩
  | 58 => ⟨S1x1x512, .f32⟩
  | 59 => ⟨S4x2048x512, .f32⟩
  | 60 => ⟨S4x2048x512, .f32⟩
  | 61 => ⟨S4x2048x512, .f32⟩
  | 62 => ⟨S4x2048x512, .f32⟩
  | 63 => ⟨S1x512, .f32⟩
  | 64 => ⟨S512, .f32⟩
  | 65 => ⟨S1x1x512, .f32⟩
  | 66 => ⟨S4x2048x512, .f32⟩
  | 67 => ⟨S4x2048x512, .f32⟩
  | 68 => ⟨S4x2048x512, .f32⟩
  | 69 => ⟨S4x2048x512, .f32⟩
  | 70 => ⟨S1x512, .f32⟩
  | 71 => ⟨S512, .f32⟩
  | 72 => ⟨S1x1x512, .f32⟩
  | 73 => ⟨S4x2048x512, .f32⟩
  | 74 => ⟨S4x2048x512, .f32⟩
  | 75 => ⟨S4x2048x512, .f32⟩
  | 76 => ⟨S4x2048x512, .f32⟩
  | 77 => ⟨S1x512, .f32⟩
  | 78 => ⟨S512, .f32⟩
  | 79 => ⟨S1x1x512, .f32⟩
  | 80 => ⟨S4x2048x512, .f32⟩
  | 81 => ⟨S4x2048x512, .f32⟩
  | 82 => ⟨S4x2048x512, .f32⟩
  | 83 => ⟨S4x2048x512, .f32⟩
  | 84 => ⟨S1x512, .f32⟩
  | 85 => ⟨S512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S1x512, .f32⟩
  | 92 => ⟨S512, .f32⟩
  | 93 => ⟨S1x1x512, .f32⟩
  | 94 => ⟨S4x2048x512, .f32⟩
  | 95 => ⟨S4x2048x512, .f32⟩
  | 96 => ⟨S4x2048x512, .f32⟩
  | 97 => ⟨S4x2048x512, .f32⟩
  | 98 => ⟨S1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S1x512, .f32⟩
  | 106 => ⟨S512, .f32⟩
  | 107 => ⟨S1x1x512, .f32⟩
  | 108 => ⟨S4x2048x512, .f32⟩
  | 109 => ⟨S4x2048x512, .f32⟩
  | 110 => ⟨S4x2048x512, .f32⟩
  | 111 => ⟨S4x2048x512, .f32⟩
  | 112 => ⟨S1x512, .f32⟩
  | 113 => ⟨S512, .f32⟩
  | 114 => ⟨S1x1x512, .f32⟩
  | 115 => ⟨S4x2048x512, .f32⟩
  | 116 => ⟨S4x2048x512, .f32⟩
  | 117 => ⟨S4x2048x512, .f32⟩
  | 118 => ⟨S1x1x512, .f32⟩
  | 119 => ⟨S4x2048x512, .f32⟩
  | 120 => ⟨S4x2048x512, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x512, .f32⟩
  | _ => ⟨S8192x6656, .bf16⟩

abbrev hbmTy0_2 (i : Nat) : BufTy := match i % 128 with
  | 0 => ⟨S4x2048x512, .f32⟩
  | 1 => ⟨S4x2048x512, .f32⟩
  | 2 => ⟨S_, .f32⟩
  | 3 => ⟨S4x2048, .f32⟩
  | 4 => ⟨S4x2048x1, .f32⟩
  | 5 => ⟨S_, .f32⟩
  | 6 => ⟨S4x2048x1, .f32⟩
  | 7 => ⟨S4x2048x1, .f32⟩
  | 8 => ⟨S_, .f32⟩
  | 9 => ⟨S4x2048x1, .f32⟩
  | 10 => ⟨S4x2048x1, .f32⟩
  | 11 => ⟨S4x2048x1, .f32⟩
  | 12 => ⟨S4x2048x512, .f32⟩
  | 13 => ⟨S4x2048x512, .f32⟩
  | 14 => ⟨S1x1x512, .f32⟩
  | 15 => ⟨S4x2048x512, .f32⟩
  | 16 => ⟨S4x2048x512, .f32⟩
  | 17 => ⟨S1x1x512, .f32⟩
  | 18 => ⟨S4x2048x512, .f32⟩
  | 19 => ⟨S4x2048x512, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S8192x512, .f32⟩
  | 30 => ⟨S8192x512, .f32⟩
  | 31 => ⟨S2048, .i32⟩
  | 32 => ⟨S4x2048x128, .f32⟩
  | 33 => ⟨S_, .i32⟩
  | 34 => ⟨S_, .f32⟩
  | 35 => ⟨S4x2050x128, .f32⟩
  | 36 => ⟨S4x2048x128, .f32⟩
  | 37 => ⟨S_, .f32⟩
  | 38 => ⟨S4x2048x128, .f32⟩
  | 39 => ⟨S4x2048x128, .f32⟩
  | 40 => ⟨S4x2048x128, .f32⟩
  | 41 => ⟨S4x2048x128, .f32⟩
  | 42 => ⟨S_, .i32⟩
  | 43 => ⟨S2048, .i32⟩
  | 44 => ⟨S2048, .i32⟩
  | 45 => ⟨S_, .i32⟩
  | 46 => ⟨S_, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S_, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .i32⟩
  | 65 => ⟨S2048, .f32⟩
  | 66 => ⟨S1x2048x1, .f32⟩
  | 67 => ⟨S4x2048x128, .f32⟩
  | 68 => ⟨S4x2048x128, .f32⟩
  | 69 => ⟨S4x2048x128, .f32⟩
  | 70 => ⟨S8192x128, .f32⟩
  | 71 => ⟨S1x128x128, .f32⟩
  | 72 => ⟨S128x128, .f32⟩
  | 73 => ⟨S8192x128, .f32⟩
  | 74 => ⟨S4x2048x128, .f32⟩
  | 75 => ⟨S_, .i32⟩
  | 76 => ⟨S_, .f32⟩
  | 77 => ⟨S4x2052x128, .f32⟩
  | 78 => ⟨S4x2048x128, .f32⟩
  | 79 => ⟨S_, .f32⟩
  | 80 => ⟨S4x2048x128, .f32⟩
  | 81 => ⟨S4x2048x128, .f32⟩
  | 82 => ⟨S4x2048x128, .f32⟩
  | 83 => ⟨S4x2048x128, .f32⟩
  | 84 => ⟨S4x2048x128, .f32⟩
  | 85 => ⟨S4x2048x128, .f32⟩
  | 86 => ⟨S4x2048x128, .f32⟩
  | 87 => ⟨S4x2048x128, .f32⟩
  | 88 => ⟨S_, .i32⟩
  | 89 => ⟨S2048, .i32⟩
  | 90 => ⟨S2048, .i32⟩
  | 91 => ⟨S_, .i32⟩
  | 92 => ⟨S_, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S_, .i32⟩
  | 103 => ⟨S_, .i32⟩
  | 104 => ⟨S_, .i32⟩
  | 105 => ⟨S2048, .i32⟩
  | 106 => ⟨S2048, .i32⟩
  | 107 => ⟨S_, .i32⟩
  | 108 => ⟨S2048, .i32⟩
  | 109 => ⟨S2048, .i32⟩
  | 110 => ⟨S2048, .i32⟩
  | 111 => ⟨S2048, .f32⟩
  | 112 => ⟨S1x2048x1, .f32⟩
  | 113 => ⟨S4x2048x128, .f32⟩
  | 114 => ⟨S4x2048x128, .f32⟩
  | 115 => ⟨S4x2048x128, .f32⟩
  | 116 => ⟨S8192x128, .f32⟩
  | 117 => ⟨S1x128x128, .f32⟩
  | 118 => ⟨S128x128, .f32⟩
  | 119 => ⟨S8192x128, .f32⟩
  | 120 => ⟨S4x2048x128, .f32⟩
  | 121 => ⟨S_, .i32⟩
  | 122 => ⟨S_, .f32⟩
  | 123 => ⟨S4x2056x128, .f32⟩
  | 124 => ⟨S4x2048x128, .f32⟩
  | 125 => ⟨S_, .f32⟩
  | 126 => ⟨S4x2048x128, .f32⟩
  | 127 => ⟨S4x2048x128, .f32⟩
  | _ => ⟨S8192x6656, .bf16⟩

abbrev hbmTy0_3 (i : Nat) : BufTy := match i % 128 with
  | 0 => ⟨S4x2048x128, .f32⟩
  | 1 => ⟨S4x2048x128, .f32⟩
  | 2 => ⟨S4x2048x128, .f32⟩
  | 3 => ⟨S4x2048x128, .f32⟩
  | 4 => ⟨S4x2048x128, .f32⟩
  | 5 => ⟨S4x2048x128, .f32⟩
  | 6 => ⟨S4x2048x128, .f32⟩
  | 7 => ⟨S4x2048x128, .f32⟩
  | 8 => ⟨S4x2048x128, .f32⟩
  | 9 => ⟨S4x2048x128, .f32⟩
  | 10 => ⟨S4x2048x128, .f32⟩
  | 11 => ⟨S4x2048x128, .f32⟩
  | 12 => ⟨S4x2048x128, .f32⟩
  | 13 => ⟨S4x2048x128, .f32⟩
  | 14 => ⟨S_, .i32⟩
  | 15 => ⟨S2048, .i32⟩
  | 16 => ⟨S2048, .i32⟩
  | 17 => ⟨S_, .i32⟩
  | 18 => ⟨S_, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S_, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i32⟩
  | 36 => ⟨S2048, .i32⟩
  | 37 => ⟨S2048, .f32⟩
  | 38 => ⟨S1x2048x1, .f32⟩
  | 39 => ⟨S4x2048x128, .f32⟩
  | 40 => ⟨S4x2048x128, .f32⟩
  | 41 => ⟨S4x2048x128, .f32⟩
  | 42 => ⟨S8192x128, .f32⟩
  | 43 => ⟨S1x128x128, .f32⟩
  | 44 => ⟨S128x128, .f32⟩
  | 45 => ⟨S8192x128, .f32⟩
  | 46 => ⟨S4x2048x128, .f32⟩
  | 47 => ⟨S_, .i32⟩
  | 48 => ⟨S_, .f32⟩
  | 49 => ⟨S4x2064x128, .f32⟩
  | 50 => ⟨S4x2048x128, .f32⟩
  | 51 => ⟨S_, .f32⟩
  | 52 => ⟨S4x2048x128, .f32⟩
  | 53 => ⟨S4x2048x128, .f32⟩
  | 54 => ⟨S4x2048x128, .f32⟩
  | 55 => ⟨S4x2048x128, .f32⟩
  | 56 => ⟨S4x2048x128, .f32⟩
  | 57 => ⟨S4x2048x128, .f32⟩
  | 58 => ⟨S4x2048x128, .f32⟩
  | 59 => ⟨S4x2048x128, .f32⟩
  | 60 => ⟨S4x2048x128, .f32⟩
  | 61 => ⟨S4x2048x128, .f32⟩
  | 62 => ⟨S4x2048x128, .f32⟩
  | 63 => ⟨S4x2048x128, .f32⟩
  | 64 => ⟨S4x2048x128, .f32⟩
  | 65 => ⟨S4x2048x128, .f32⟩
  | 66 => ⟨S4x2048x128, .f32⟩
  | 67 => ⟨S4x2048x128, .f32⟩
  | 68 => ⟨S4x2048x128, .f32⟩
  | 69 => ⟨S4x2048x128, .f32⟩
  | 70 => ⟨S4x2048x128, .f32⟩
  | 71 => ⟨S4x2048x128, .f32⟩
  | 72 => ⟨S4x2048x128, .f32⟩
  | 73 => ⟨S4x2048x128, .f32⟩
  | 74 => ⟨S4x2048x128, .f32⟩
  | 75 => ⟨S4x2048x128, .f32⟩
  | 76 => ⟨S4x2048x128, .f32⟩
  | 77 => ⟨S4x2048x128, .f32⟩
  | 78 => ⟨S4x2048x128, .f32⟩
  | 79 => ⟨S4x2048x128, .f32⟩
  | 80 => ⟨S4x2048x128, .f32⟩
  | 81 => ⟨S4x2048x128, .f32⟩
  | 82 => ⟨S4x2048x128, .f32⟩
  | 83 => ⟨S4x2048x128, .f32⟩
  | 84 => ⟨S_, .i32⟩
  | 85 => ⟨S2048, .i32⟩
  | 86 => ⟨S2048, .i32⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S_, .i32⟩
  | 99 => ⟨S_, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .i32⟩
  | 107 => ⟨S2048, .f32⟩
  | 108 => ⟨S1x2048x1, .f32⟩
  | 109 => ⟨S4x2048x128, .f32⟩
  | 110 => ⟨S4x2048x128, .f32⟩
  | 111 => ⟨S4x2048x128, .f32⟩
  | 112 => ⟨S8192x128, .f32⟩
  | 113 => ⟨S1x128x128, .f32⟩
  | 114 => ⟨S128x128, .f32⟩
  | 115 => ⟨S8192x128, .f32⟩
  | 116 => ⟨S8192x512, .f32⟩
  | 117 => ⟨S1x512, .f32⟩
  | 118 => ⟨S8192x512, .f32⟩
  | 119 => ⟨S8192x512, .f32⟩
  | 120 => ⟨S4x2048x512, .f32⟩
  | 121 => ⟨S4x2048x512, .f32⟩
  | 122 => ⟨S_, .f32⟩
  | 123 => ⟨S4x2048x512, .f32⟩
  | 124 => ⟨S4x2048x512, .f32⟩
  | 125 => ⟨S_, .f32⟩
  | 126 => ⟨S4x2048x512, .f32⟩
  | 127 => ⟨S4x2048x512, .f32⟩
  | _ => ⟨S8192x6656, .bf16⟩

abbrev hbmTy0_4 (i : Nat) : BufTy := match i % 128 with
  | 0 => ⟨S4x2048x512, .f32⟩
  | 1 => ⟨S8192x512, .f32⟩
  | 2 => ⟨S8192x512, .f32⟩
  | 3 => ⟨S8192x512, .bf16⟩
  | 4 => ⟨S4x2048x512, .f32⟩
  | 5 => ⟨S4x2048x512, .f32⟩
  | 6 => ⟨S_, .f32⟩
  | 7 => ⟨S4x2048x512, .f32⟩
  | 8 => ⟨S4x2048x512, .f32⟩
  | 9 => ⟨S_, .f32⟩
  | 10 => ⟨S4x2048x512, .f32⟩
  | 11 => ⟨S4x2048x512, .f32⟩
  | 12 => ⟨S4x2048x512, .f32⟩
  | 13 => ⟨S8192x512, .f32⟩
  | 14 => ⟨S8192x512, .f32⟩
  | 15 => ⟨S8192x512, .bf16⟩
  | _ => ⟨S8192x6656, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_cst_2 : Ref sig .tc := ⟨.hbm, 249, rfl⟩
abbrev main_v236 : Ref sig .tc := ⟨.hbm, 250, rfl⟩
abbrev main_v237 : Ref sig .tc := ⟨.hbm, 251, rfl⟩
abbrev main_cst_3 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_cst_4 : Ref sig .tc := ⟨.hbm, 258, rfl⟩
abbrev main_v243 : Ref sig .tc := ⟨.hbm, 259, rfl⟩
abbrev main_v244 : Ref sig .tc := ⟨.hbm, 260, rfl⟩
abbrev main_cst_5 : Ref sig .tc := ⟨.hbm, 261, rfl⟩
abbrev main_v245 : Ref sig .tc := ⟨.hbm, 262, rfl⟩
abbrev main_v246 : Ref sig .tc := ⟨.hbm, 263, rfl⟩
abbrev main_cst_6 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_c_7 : Ref sig .tc := ⟨.hbm, 289, rfl⟩
abbrev main_call2_v0 : Ref sig .tc := ⟨.hbm, 290, rfl⟩
abbrev main_v263 : Ref sig .tc := ⟨.hbm, 291, rfl⟩
abbrev main_v264 : Ref sig .tc := ⟨.hbm, 292, rfl⟩
abbrev main_cst_8 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_c_9 : Ref sig .tc := ⟨.hbm, 298, rfl⟩
abbrev main_v269 : Ref sig .tc := ⟨.hbm, 299, rfl⟩
abbrev main_v270 : Ref sig .tc := ⟨.hbm, 300, rfl⟩
abbrev main_c_10 : Ref sig .tc := ⟨.hbm, 301, rfl⟩
abbrev main_c_11 : Ref sig .tc := ⟨.hbm, 302, rfl⟩
abbrev main_call3_v0 : Ref sig .tc := ⟨.hbm, 303, rfl⟩
abbrev main_call3_v1 : Ref sig .tc := ⟨.hbm, 304, rfl⟩
abbrev main_call3_v2 : Ref sig .tc := ⟨.hbm, 305, rfl⟩
abbrev main_call3_v3 : Ref sig .tc := ⟨.hbm, 306, rfl⟩
abbrev main_call3_v4 : Ref sig .tc := ⟨.hbm, 307, rfl⟩
abbrev main_v271 : Ref sig .tc := ⟨.hbm, 308, rfl⟩
abbrev main_c_12 : Ref sig .tc := ⟨.hbm, 309, rfl⟩
abbrev main_v272 : Ref sig .tc := ⟨.hbm, 310, rfl⟩
abbrev main_v273 : Ref sig .tc := ⟨.hbm, 311, rfl⟩
abbrev main_c_13 : Ref sig .tc := ⟨.hbm, 312, rfl⟩
abbrev main_c_14 : Ref sig .tc := ⟨.hbm, 313, rfl⟩
abbrev main_call4_v0 : Ref sig .tc := ⟨.hbm, 314, rfl⟩
abbrev main_call4_v1 : Ref sig .tc := ⟨.hbm, 315, rfl⟩
abbrev main_call4_v2 : Ref sig .tc := ⟨.hbm, 316, rfl⟩
abbrev main_call4_v3 : Ref sig .tc := ⟨.hbm, 317, rfl⟩
abbrev main_call4_v4 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_c_15 : Ref sig .tc := ⟨.hbm, 331, rfl⟩
abbrev main_call5_v0 : Ref sig .tc := ⟨.hbm, 332, rfl⟩
abbrev main_v286 : Ref sig .tc := ⟨.hbm, 333, rfl⟩
abbrev main_v287 : Ref sig .tc := ⟨.hbm, 334, rfl⟩
abbrev main_cst_16 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_c_17 : Ref sig .tc := ⟨.hbm, 344, rfl⟩
abbrev main_v296 : Ref sig .tc := ⟨.hbm, 345, rfl⟩
abbrev main_v297 : Ref sig .tc := ⟨.hbm, 346, rfl⟩
abbrev main_c_18 : Ref sig .tc := ⟨.hbm, 347, rfl⟩
abbrev main_c_19 : Ref sig .tc := ⟨.hbm, 348, rfl⟩
abbrev main_call6_v0 : Ref sig .tc := ⟨.hbm, 349, rfl⟩
abbrev main_call6_v1 : Ref sig .tc := ⟨.hbm, 350, rfl⟩
abbrev main_call6_v2 : Ref sig .tc := ⟨.hbm, 351, rfl⟩
abbrev main_call6_v3 : Ref sig .tc := ⟨.hbm, 352, rfl⟩
abbrev main_call6_v4 : Ref sig .tc := ⟨.hbm, 353, rfl⟩
abbrev main_v298 : Ref sig .tc := ⟨.hbm, 354, rfl⟩
abbrev main_c_20 : Ref sig .tc := ⟨.hbm, 355, rfl⟩
abbrev main_v299 : Ref sig .tc := ⟨.hbm, 356, rfl⟩
abbrev main_v300 : Ref sig .tc := ⟨.hbm, 357, rfl⟩
abbrev main_c_21 : Ref sig .tc := ⟨.hbm, 358, rfl⟩
abbrev main_c_22 : Ref sig .tc := ⟨.hbm, 359, rfl⟩
abbrev main_call7_v0 : Ref sig .tc := ⟨.hbm, 360, rfl⟩
abbrev main_call7_v1 : Ref sig .tc := ⟨.hbm, 361, rfl⟩
abbrev main_call7_v2 : Ref sig .tc := ⟨.hbm, 362, rfl⟩
abbrev main_call7_v3 : Ref sig .tc := ⟨.hbm, 363, rfl⟩
abbrev main_call7_v4 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_c_23 : Ref sig .tc := ⟨.hbm, 377, rfl⟩
abbrev main_call8_v0 : Ref sig .tc := ⟨.hbm, 378, rfl⟩
abbrev main_v313 : Ref sig .tc := ⟨.hbm, 379, rfl⟩
abbrev main_v314 : Ref sig .tc := ⟨.hbm, 380, rfl⟩
abbrev main_cst_24 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_c_25 : Ref sig .tc := ⟨.hbm, 398, rfl⟩
abbrev main_v331 : Ref sig .tc := ⟨.hbm, 399, rfl⟩
abbrev main_v332 : Ref sig .tc := ⟨.hbm, 400, rfl⟩
abbrev main_c_26 : Ref sig .tc := ⟨.hbm, 401, rfl⟩
abbrev main_c_27 : Ref sig .tc := ⟨.hbm, 402, rfl⟩
abbrev main_call9_v0 : Ref sig .tc := ⟨.hbm, 403, rfl⟩
abbrev main_call9_v1 : Ref sig .tc := ⟨.hbm, 404, rfl⟩
abbrev main_call9_v2 : Ref sig .tc := ⟨.hbm, 405, rfl⟩
abbrev main_call9_v3 : Ref sig .tc := ⟨.hbm, 406, rfl⟩
abbrev main_call9_v4 : Ref sig .tc := ⟨.hbm, 407, rfl⟩
abbrev main_v333 : Ref sig .tc := ⟨.hbm, 408, rfl⟩
abbrev main_c_28 : Ref sig .tc := ⟨.hbm, 409, rfl⟩
abbrev main_v334 : Ref sig .tc := ⟨.hbm, 410, rfl⟩
abbrev main_v335 : Ref sig .tc := ⟨.hbm, 411, rfl⟩
abbrev main_c_29 : Ref sig .tc := ⟨.hbm, 412, rfl⟩
abbrev main_c_30 : Ref sig .tc := ⟨.hbm, 413, rfl⟩
abbrev main_call10_v0 : Ref sig .tc := ⟨.hbm, 414, rfl⟩
abbrev main_call10_v1 : Ref sig .tc := ⟨.hbm, 415, rfl⟩
abbrev main_call10_v2 : Ref sig .tc := ⟨.hbm, 416, rfl⟩
abbrev main_call10_v3 : Ref sig .tc := ⟨.hbm, 417, rfl⟩
abbrev main_call10_v4 : Ref sig .tc := ⟨.hbm, 418, rfl⟩
abbrev main_v336 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_v340 : Ref sig .tc := ⟨.hbm, 423, rfl⟩
abbrev main_v341 : Ref sig .tc := ⟨.hbm, 424, rfl⟩
abbrev main_v342 : Ref sig .tc := ⟨.hbm, 425, rfl⟩
abbrev main_v343 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_c_31 : Ref sig .tc := ⟨.hbm, 431, rfl⟩
abbrev main_call11_v0 : Ref sig .tc := ⟨.hbm, 432, rfl⟩
abbrev main_v348 : Ref sig .tc := ⟨.hbm, 433, rfl⟩
abbrev main_v349 : Ref sig .tc := ⟨.hbm, 434, rfl⟩
abbrev main_cst_32 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_v355 : Ref sig .tc := ⟨.hbm, 441, rfl⟩
abbrev main_v356 : Ref sig .tc := ⟨.hbm, 442, rfl⟩
abbrev main_v357 : Ref sig .tc := ⟨.hbm, 443, rfl⟩
abbrev main_v358 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_c_33 : Ref sig .tc := ⟨.hbm, 468, rfl⟩
abbrev main_v382 : Ref sig .tc := ⟨.hbm, 469, rfl⟩
abbrev main_v383 : Ref sig .tc := ⟨.hbm, 470, rfl⟩
abbrev main_c_34 : Ref sig .tc := ⟨.hbm, 471, rfl⟩
abbrev main_c_35 : Ref sig .tc := ⟨.hbm, 472, rfl⟩
abbrev main_call12_v0 : Ref sig .tc := ⟨.hbm, 473, rfl⟩
abbrev main_call12_v1 : Ref sig .tc := ⟨.hbm, 474, rfl⟩
abbrev main_call12_v2 : Ref sig .tc := ⟨.hbm, 475, rfl⟩
abbrev main_call12_v3 : Ref sig .tc := ⟨.hbm, 476, rfl⟩
abbrev main_call12_v4 : Ref sig .tc := ⟨.hbm, 477, rfl⟩
abbrev main_v384 : Ref sig .tc := ⟨.hbm, 478, rfl⟩
abbrev main_c_36 : Ref sig .tc := ⟨.hbm, 479, rfl⟩
abbrev main_v385 : Ref sig .tc := ⟨.hbm, 480, rfl⟩
abbrev main_v386 : Ref sig .tc := ⟨.hbm, 481, rfl⟩
abbrev main_c_37 : Ref sig .tc := ⟨.hbm, 482, rfl⟩
abbrev main_c_38 : Ref sig .tc := ⟨.hbm, 483, rfl⟩
abbrev main_call13_v0 : Ref sig .tc := ⟨.hbm, 484, rfl⟩
abbrev main_call13_v1 : Ref sig .tc := ⟨.hbm, 485, rfl⟩
abbrev main_call13_v2 : Ref sig .tc := ⟨.hbm, 486, rfl⟩
abbrev main_call13_v3 : Ref sig .tc := ⟨.hbm, 487, rfl⟩
abbrev main_call13_v4 : Ref sig .tc := ⟨.hbm, 488, rfl⟩
abbrev main_v387 : Ref sig .tc := ⟨.hbm, 489, rfl⟩
abbrev main_v388 : Ref sig .tc := ⟨.hbm, 490, rfl⟩
abbrev main_v389 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_call14_v0 : Ref sig .tc := ⟨.hbm, 504, rfl⟩
abbrev main_call14_v1 : Ref sig .tc := ⟨.hbm, 505, rfl⟩
abbrev main_call14_cst : Ref sig .tc := ⟨.hbm, 506, rfl⟩
abbrev main_call14_v2 : Ref sig .tc := ⟨.hbm, 507, rfl⟩
abbrev main_call14_v3 : Ref sig .tc := ⟨.hbm, 508, rfl⟩
abbrev main_call14_cst_0 : Ref sig .tc := ⟨.hbm, 509, rfl⟩
abbrev main_call14_v4 : Ref sig .tc := ⟨.hbm, 510, rfl⟩
abbrev main_call14_v5 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_call15_v0 : Ref sig .tc := ⟨.hbm, 516, rfl⟩
abbrev main_call15_v1 : Ref sig .tc := ⟨.hbm, 517, rfl⟩
abbrev main_call15_cst : Ref sig .tc := ⟨.hbm, 518, rfl⟩
abbrev main_call15_v2 : Ref sig .tc := ⟨.hbm, 519, rfl⟩
abbrev main_call15_v3 : Ref sig .tc := ⟨.hbm, 520, rfl⟩
abbrev main_call15_cst_0 : Ref sig .tc := ⟨.hbm, 521, rfl⟩
abbrev main_call15_v4 : Ref sig .tc := ⟨.hbm, 522, rfl⟩
abbrev main_call15_v5 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩

abbrev nD : Nat := 1
abbrev τ : Topo := Topo.v7x

variable {F : FTy → Type} [FloatOps F]
-- ==== AttLast.lean ====
abbrev S8192x6656 : Shape := ⟨2, ![8192, 6656]⟩
abbrev S1024x2048 : Shape := ⟨2, ![1024, 2048]⟩
abbrev S1 : Shape := ⟨1, ![1]⟩
abbrev S128 : Shape := ⟨1, ![128]⟩
abbrev S1x8x128 : Shape := ⟨3, ![1, 8, 128]⟩
abbrev S1x128 : Shape := ⟨2, ![1, 128]⟩
abbrev S8192x1024 : Shape := ⟨2, ![8192, 1024]⟩
abbrev S512x128 : Shape := ⟨2, ![512, 128]⟩
abbrev S256x128 : Shape := ⟨2, ![256, 128]⟩
abbrev S2048x128 : Shape := ⟨2, ![2048, 128]⟩
abbrev S128x2304 : Shape := ⟨2, ![128, 2304]⟩
abbrev S128x256 : Shape := ⟨2, ![128, 256]⟩
abbrev S128x128 : Shape := ⟨2, ![128, 128]⟩
abbrev S8x128 : Shape := ⟨2, ![8, 128]⟩
abbrev S256x256 : Shape := ⟨2, ![256, 256]⟩
abbrev S256 : Shape := ⟨1, ![256]⟩
abbrev S1x256 : Shape := ⟨2, ![1, 256]⟩
abbrev S128x1 : Shape := ⟨2, ![128, 1]⟩

abbrev nBuf : Space → Nat
  | .hbm => 7
  | .vmem => 17
  | .smem => 0
  | _ => 0

abbrev bufTy : (tb : Table) → Fin (tcTables nBuf tb) → BufTy
  | .hbm, ⟨0, _⟩ => ⟨S8192x6656, .bf16⟩
  | .hbm, ⟨1, _⟩ => ⟨S1024x2048, .bf16⟩
  | .hbm, ⟨2, _⟩ => ⟨S1, .f32⟩
  | .hbm, ⟨3, _⟩ => ⟨S128, .f32⟩
  | .hbm, ⟨4, _⟩ => ⟨S1x8x128, .f32⟩
  | .hbm, ⟨5, _⟩ => ⟨S1x128, .f32⟩
  | .hbm, ⟨6, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | .local _ .vmem, ⟨12, _⟩ => ⟨S1x8x128, .f32⟩
  | .local _ .vmem, ⟨13, _⟩ => ⟨S1x128, .f32⟩
  | .local _ .vmem, ⟨14, _⟩ => ⟨S512x128, .bf16⟩
  | .local _ .vmem, ⟨15, _⟩ => ⟨S512x128, .bf16⟩
  | .local _ .vmem, ⟨16, _⟩ => ⟨S128x2304, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 4], ![false, false, false]⟩

@[reducible] def k0_t1_loop : Scf.Loop 32 :=
  let c0_i32_5 : BitVec 32 := 0#32
  let c4_i32 : BitVec 32 := 4#32
  let v9 : BitVec 32 := Scalar.addi c0_i32_5 c4_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c128_i32 : BitVec 32 := 128#32
  let v10 : BitVec 32 := Scalar.muli arg13 c128_i32
  v10
def k0_off1 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c128_i32 : BitVec 32 := 128#32
  let v10 : BitVec 32 := Scalar.muli arg13 c128_i32
  let v11 : BitVec 32 := v10
  let v12 : Index := Scalar.indexCast v11
  let c0_7 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttLastRefIdeal.lean ====
abbrev S8192x6656 : Shape := ⟨2, ![8192, 6656]⟩
abbrev S1024x2048 : Shape := ⟨2, ![1024, 2048]⟩
abbrev S1 : Shape := ⟨1, ![1]⟩
abbrev S128 : Shape := ⟨1, ![128]⟩
abbrev S4x2048x6656 : Shape := ⟨3, ![4, 2048, 6656]⟩
abbrev S4x256x2048 : Shape := ⟨3, ![4, 256, 2048]⟩
abbrev S4x2048x1024 : Shape := ⟨3, ![4, 2048, 1024]⟩
abbrev S4x2048x8x2x64 : Shape := ⟨5, ![4, 2048, 8, 2, 64]⟩
abbrev S4x256x1024 : Shape := ⟨3, ![4, 256, 1024]⟩
abbrev S4x2304x1024 : Shape := ⟨3, ![4, 2304, 1024]⟩
abbrev S4x2304x8x2x64 : Shape := ⟨5, ![4, 2304, 8, 2, 64]⟩
abbrev S4x2304x8x128 : Shape := ⟨4, ![4, 2304, 8, 128]⟩
abbrev S4x8x2x2048x2304 : Shape := ⟨5, ![4, 8, 2, 2048, 2304]⟩
abbrev S_ : Shape := ⟨0, ![]⟩
abbrev S4x8x2x2048 : Shape := ⟨4, ![4, 8, 2, 2048]⟩
abbrev S4x8x2x2048x1 : Shape := ⟨5, ![4, 8, 2, 2048, 1]⟩
abbrev S4x8x1x2048x2304 : Shape := ⟨5, ![4, 8, 1, 2048, 2304]⟩
abbrev S4x8x2048x2304 : Shape := ⟨4, ![4, 8, 2048, 2304]⟩
abbrev S1x1x1x1 : Shape := ⟨4, ![1, 1, 1, 1]⟩
abbrev S4x8x128x2048 : Shape := ⟨4, ![4, 8, 128, 2048]⟩
abbrev S4x2048x8x128 : Shape := ⟨4, ![4, 2048, 8, 128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S1024x2048, .bf16⟩
  | .hbm, ⟨2, _⟩ => ⟨S1, .f32⟩
  | .hbm, ⟨3, _⟩ => ⟨S128, .f32⟩
  | .hbm, ⟨4, _⟩ => ⟨S8192x6656, .f32⟩
  | .hbm, ⟨5, _⟩ => ⟨S4x2048x6656, .f32⟩
  | .hbm, ⟨6, _⟩ => ⟨S1024x2048, .f32⟩
  | .hbm, ⟨7, _⟩ => ⟨S4x256x2048, .f32⟩
  | .hbm, ⟨8, _⟩ => ⟨S4x2048x1024, .f32⟩
  | .hbm, ⟨9, _⟩ => ⟨S4x2048x8x2x64, .f32⟩
  | .hbm, ⟨10, _⟩ => ⟨S4x256x1024, .f32⟩
  | .hbm, ⟨11, _⟩ => ⟨S4x2048x1024, .f32⟩
  | .hbm, ⟨12, _⟩ => ⟨S4x2304x1024, .f32⟩
  | .hbm, ⟨13, _⟩ => ⟨S4x2304x8x2x64, .f32⟩
  | .hbm, ⟨14, _⟩ => ⟨S4x256x1024, .f32⟩
  | .hbm, ⟨15, _⟩ => ⟨S4x2048x1024, .f32⟩
  | .hbm, ⟨16, _⟩ => ⟨S4x2304x1024, .f32⟩
  | .hbm, ⟨17, _⟩ => ⟨S4x2304x8x128, .f32⟩
  | .hbm, ⟨18, _⟩ => ⟨S4x2048x1024, .f32⟩
  | .hbm, ⟨19, _⟩ => ⟨S4x8x2x2048x2304, .f32⟩
  | .hbm, ⟨20, _⟩ => ⟨S_, .f32⟩
  | .hbm, ⟨21, _⟩ => ⟨S4x8x2x2048, .f32⟩
  | .hbm, ⟨22, _⟩ => ⟨S_, .f32⟩
  | .hbm, ⟨23, _⟩ => ⟨S4x8x2x2048, .f32⟩
  | .hbm, ⟨24, _⟩ => ⟨S4x8x2x2048, .f32⟩
  | .hbm, ⟨25, _⟩ => ⟨S4x8x2x2048x1, .f32⟩
  | .hbm, ⟨26, _⟩ => ⟨S4x8x2x2048x2304, .f32⟩
  | .hbm, ⟨27, _⟩ => ⟨S4x8x2x2048x2304, .f32⟩
  | .hbm, ⟨28, _⟩ => ⟨S4x8x2x2048x2304, .f32⟩
  | .hbm, ⟨29, _⟩ => ⟨S_, .f32⟩
  | .hbm, ⟨30, _⟩ => ⟨S4x8x2x2048, .f32⟩
  | .hbm, ⟨31, _⟩ => ⟨S4x8x2x2048x1, .f32⟩
  | .hbm, ⟨32, _⟩ => ⟨S4x8x2x2048x2304, .f32⟩
  | .hbm, ⟨33, _⟩ => ⟨S4x8x2x2048x2304, .f32⟩
  | .hbm, ⟨34, _⟩ => ⟨S4x8x1x2048x2304, .f32⟩
  | .hbm, ⟨35, _⟩ => ⟨S4x8x2048x2304, .f32⟩
  | .hbm, ⟨36, _⟩ => ⟨S4x8x1x2048x2304, .f32⟩
  | .hbm, ⟨37, _⟩ => ⟨S4x8x2048x2304, .f32⟩
  | .hbm, ⟨38, _⟩ => ⟨S1x1x1x1, .f32⟩
  | .hbm, ⟨39, _⟩ => ⟨S4x8x2048x2304, .f32⟩
  | .hbm, ⟨40, _⟩ => ⟨S4x8x2048x2304, .f32⟩
  | .hbm, ⟨41, _⟩ => ⟨S4x8x2048x2304, .f32⟩
  | .hbm, ⟨42, _⟩ => ⟨S4x8x128x2048, .f32⟩
  | .hbm, ⟨43, _⟩ => ⟨S4x2048x8x128, .f32⟩
  | .hbm, ⟨44, _⟩ => ⟨S4x2048x8x128, .f32⟩
  | .hbm, ⟨45, _⟩ => ⟨S_, .f32⟩
  | .hbm, ⟨46, _⟩ => ⟨S4x2048x8, .f32⟩
  | .hbm, ⟨47, _⟩ => ⟨S4x2048x8x1, .f32⟩
  | .hbm, ⟨48, _⟩ => ⟨S_, .f32⟩
  | .hbm, ⟨49, _⟩ => ⟨S4x2048x8x1, .f32⟩
  | .hbm, ⟨50, _⟩ => ⟨S4x2048x8x1, .f32⟩
  | .hbm, ⟨51, _⟩ => ⟨S_, .f32⟩
  | .hbm, ⟨52, _⟩ => ⟨S4x2048x8x1, .f32⟩
  | .hbm, ⟨53, _⟩ => ⟨S4x2048x8x1, .f32⟩
  | .hbm, ⟨54, _⟩ => ⟨S4x2048x8x1, .f32⟩
  | .hbm, ⟨55, _⟩ => ⟨S4x2048x8x128, .f32⟩
  | .hbm, ⟨56, _⟩ => ⟨S4x2048x8x128, .f32⟩
  | .hbm, ⟨57, _⟩ => ⟨S1x1x1x128, .f32⟩
  | .hbm, ⟨58, _⟩ => ⟨S4x2048x8x128, .f32⟩
  | .hbm, ⟨59, _⟩ => ⟨S4x2048x8x128, .f32⟩
  | .hbm, ⟨60, _⟩ => ⟨S_, .f32⟩
  | .hbm, ⟨61, _⟩ => ⟨S4x2048x8x128, .f32⟩
  | .hbm, ⟨62, _⟩ => ⟨S4x2048x8x128, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048x1024, .f32⟩
  | .hbm, ⟨68, _⟩ => ⟨S4x2048x1024, .f32⟩
  | .hbm, ⟨69, _⟩ => ⟨S_, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .bf16⟩
  | .hbm, ⟨75, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Modulation.lean ====
abbrev S4x2048 : Shape := ⟨2, ![4, 2048]⟩
abbrev S2048 : Shape := ⟨1, ![2048]⟩
abbrev S2x2048x6144 : Shape := ⟨3, ![2, 2048, 6144]⟩
abbrev S2x6144 : Shape := ⟨2, ![2, 6144]⟩
abbrev S2x64 : Shape := ⟨2, ![2, 64]⟩
abbrev S2 : Shape := ⟨1, ![2]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x1 : Shape := ⟨3, ![2, 1, 1]⟩
abbrev S2x1x128 : Shape := ⟨3, ![2, 1, 128]⟩
abbrev S2x1x6144 : Shape := ⟨3, ![2, 1, 6144]⟩
abbrev S2x1x64 : Shape := ⟨3, ![2, 1, 64]⟩
abbrev S2x8x6144 : Shape := ⟨3, ![2, 8, 6144]⟩
abbrev S2x8x128 : Shape := ⟨3, ![2, 8, 128]⟩
abbrev S1x2048x1536 : Shape := ⟨3, ![1, 2048, 1536]⟩
abbrev S1x1x1536 : Shape := ⟨3, ![1, 1, 1536]⟩
abbrev S1x1x64 : Shape := ⟨3, ![1, 1, 64]⟩
abbrev S1x1x128 : Shape := ⟨3, ![1, 1, 128]⟩
abbrev S1x8x1536 : Shape := ⟨3, ![1, 8, 1536]⟩
abbrev S1x8x128 : Shape := ⟨3, ![1, 8, 128]⟩
abbrev S2048x1536 : Shape := ⟨2, ![2048, 1536]⟩
abbrev S8x1536 : Shape := ⟨2, ![8, 1536]⟩
abbrev S1x1536 : Shape := ⟨2, ![1, 1536]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S8x128 : Shape := ⟨2, ![8, 128]⟩

abbrev nBuf : Space → Nat
  | .hbm => 22
  | .vmem => 19
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x6144, .f32⟩
  | .hbm, ⟨3, _⟩ => ⟨S2x6144, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2, .f32⟩
  | .hbm, ⟨9, _⟩ => ⟨S1x2048, .f32⟩
  | .hbm, ⟨10, _⟩ => ⟨S_, .f32⟩
  | .hbm, ⟨11, _⟩ => ⟨S3x2048, .f32⟩
  | .hbm, ⟨12, _⟩ => ⟨S8x2048, .f32⟩
  | .hbm, ⟨13, _⟩ => ⟨S2x1x1, .f32⟩
  | .hbm, ⟨14, _⟩ => ⟨S2x1x128, .f32⟩
  | .hbm, ⟨15, _⟩ => ⟨S2x1x6144, .f32⟩
  | .hbm, ⟨16, _⟩ => ⟨S2x1x64, .f32⟩
  | .hbm, ⟨17, _⟩ => ⟨S2x1x64, .f32⟩
  | .hbm, ⟨18, _⟩ => ⟨S2x1x64, .f32⟩
  | .hbm, ⟨19, _⟩ => ⟨S2x1x64, .f32⟩
  | .hbm, ⟨20, _⟩ => ⟨S2x8x6144, .f32⟩
  | .hbm, ⟨21, _⟩ => ⟨S2x8x128, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x128, .f32⟩
  | .local _ .vmem, ⟨14, _⟩ => ⟨S1x1x128, .f32⟩
  | .local _ .vmem, ⟨15, _⟩ => ⟨S1x8x1536, .f32⟩
  | .local _ .vmem, ⟨16, _⟩ => ⟨S1x8x1536, .f32⟩
  | .local _ .vmem, ⟨17, _⟩ => ⟨S1x8x128, .f32⟩
  | .local _ .vmem, ⟨18, _⟩ => ⟨S1x8x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ModulationRefIdeal.lean ====
abbrev S4x2048 : Shape := ⟨2, ![4, 2048]⟩
abbrev S2048 : Shape := ⟨1, ![2048]⟩
abbrev S2x2048x6144 : Shape := ⟨3, ![2, 2048, 6144]⟩
abbrev S2x6144 : Shape := ⟨2, ![2, 6144]⟩
abbrev S2x64 : Shape := ⟨2, ![2, 64]⟩
abbrev S2 : Shape := ⟨1, ![2]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x6144x8 : Shape := ⟨3, ![2, 6144, 8]⟩
abbrev S2x8x6144 : Shape := ⟨3, ![2, 8, 6144]⟩
abbrev S2x1x6144 : Shape := ⟨3, ![2, 1, 6144]⟩
abbrev S2x1x1 : Shape := ⟨3, ![2, 1, 1]⟩
abbrev S2x8x128 : Shape := ⟨3, ![2, 8, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x6144, .f32⟩
  | .hbm, ⟨3, _⟩ => ⟨S2x6144, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2, .f32⟩
  | .hbm, ⟨9, _⟩ => ⟨S1x2048, .f32⟩
  | .hbm, ⟨10, _⟩ => ⟨S_, .f32⟩
  | .hbm, ⟨11, _⟩ => ⟨S3x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S2x6144x8, .f32⟩
  | .hbm, ⟨23, _⟩ => ⟨S2x8x6144, .f32⟩
  | .hbm, ⟨24, _⟩ => ⟨S2x1x6144, .f32⟩
  | .hbm, ⟨25, _⟩ => ⟨S2x8x6144, .f32⟩
  | .hbm, ⟨26, _⟩ => ⟨S2x8x6144, .f32⟩
  | .hbm, ⟨27, _⟩ => ⟨S2x64, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S2x64, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2x1x1, .f32⟩
  | .hbm, ⟨38, _⟩ => ⟨S2x8x128, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Proof.Reads.lean ====
/- Layout operations read at an index given by its coordinates, at rank one to four, and sums over one axis. -/
module

public import Idealize.ShloMosaic.Lib.Pipeline.Value
public import Idealize.ShloMosaic.Lib.ValueIdx
public import Idealize.ShloMosaic.Lib.ValueIdxRank1
public import Idealize.ShloMosaic.Lib.MatmulPlain
public import Idealize.ShloMosaic.PureOps.Ideal.Laws

@[expose] public section

noncomputable section

namespace Cert.Reads

open Idealize.ShloMosaic Idealize.ShloMosaic.ValueIdx
open scoped BigOperators

section Layout
variable {α : Type}

/-- A single row broadcast over the rows reads its column. -/
theorem bcRow {M N : Nat} (x : (⟨2, ![1, N]⟩ : Shape).Idx → α) (h : (⟨2, ![1, N]⟩ : Shape).Broadcasts ⟨2, ![M, N]⟩) (r : Fin M) (c : Fin N) :
    broadcastTo (⟨2, ![M, N]⟩ : Shape) x h (ix2 r c) = x (ix2 0 c) := by
  refine broadcastTo_apply _ _ _ _ fun a => ?_
  match a with
  | ⟨0, _⟩ => rfl
  | ⟨1, _⟩ =>
    show c.val = if N = 1 then 0 else c.val
    split_ifs with h1
    · have := c.isLt; omega
    · rfl

/-- A single column broadcast over the columns reads its row. -/
theorem bcCol {M N : Nat} (x : (⟨2, ![M, 1]⟩ : Shape).Idx → α) (h : (⟨2, ![M, 1]⟩ : Shape).Broadcasts ⟨2, ![M, N]⟩) (r : Fin M) (c : Fin N) :
    broadcastTo (⟨2, ![M, N]⟩ : Shape) x h (ix2 r c) = x (ix2 r 0) := by
  refine broadcastTo_apply _ _ _ _ fun a => ?_
  match a with
  | ⟨0, _⟩ =>
    show r.val = if M = 1 then 0 else r.val
    split_ifs with h1
    · have := r.isLt; omega
    · rfl
  | ⟨1, _⟩ => rfl

/-- A vector viewed as one column reads its entry. -/
theorem castCol {M : Nat} (x : (⟨1, ![M]⟩ : Shape).Idx → α) (h : (⟨1, ![M]⟩ : Shape).ShapeCasts ⟨2, ![M, 1]⟩) (r : Fin M) :
    shapeCast (⟨2, ![M, 1]⟩ : Shape) x h (ix2 r 0) = x (ix1 r) := by
  refine shapeCast_apply _ _ _ _ ?_
  rw [Shape.rowMajor_val_one, Shape.rowMajor_val_two]
  show r.val = r.val * 1 + 0
  omega

/-- A vector viewed as one row reads its entry. -/
theorem castRow {N : Nat} (x : (⟨1, ![N]⟩ : Shape).Idx → α) (h : (⟨1, ![N]⟩ : Shape).ShapeCasts ⟨2, ![1, N]⟩) (c : Fin N) :
    shapeCast (⟨2, ![1, N]⟩ : Shape) x h (ix2 0 c) = x (ix1 c) := by
  refine shapeCast_apply _ _ _ _ ?_
  rw [Shape.rowMajor_val_one, Shape.rowMajor_val_two]
  show c.val = 0 * N + c.val
  omega

/-- Dropping a leading axis of extent one. -/
theorem castDrop {M N : Nat} (x : (⟨3, ![1, M, N]⟩ : Shape).Idx → α) (h : (⟨3, ![1, M, N]⟩ : Shape).ShapeCasts ⟨2, ![M, N]⟩) (r : Fin M) (c : Fin N) :
    shapeCast (⟨2, ![M, N]⟩ : Shape) x h (ix2 r c) = x (ix3 0 r c) := by
  refine shapeCast_apply _ _ _ _ ?_
  rw [Shape.rowMajor_val_three, Shape.rowMajor_val_two]
  show (0 * M + r.val) * N + c.val = r.val * N + c.val
  simp

/-- Rows grouped into batches: entry (b, l, d) of the grouped array is entry (b·L + l, d). -/
theorem castGroup {B L R D : Nat} (x : (⟨2, ![R, D]⟩ : Shape).Idx → α) (h : (⟨2, ![R, D]⟩ : Shape).ShapeCasts ⟨3, ![B, L, D]⟩)
    (b : Fin B) (l : Fin L) (d : Fin D) (r : Fin R) (hr : r.val = b.val * L + l.val) :
    shapeCast (⟨3, ![B, L, D]⟩ : Shape) x h (ix3 b l d) = x (ix2 r d) := by
  refine shapeCast_apply _ _ _ _ ?_
  rw [Shape.rowMajor_val_three, Shape.rowMajor_val_two]
  show r.val * D + d.val = (b.val * L + l.val) * D + d.val
  rw [hr]

/-- Batches flattened into rows: entry (b·L + l, d) of the flat array is entry (b, l, d). -/
theorem castFlat {B L R D : Nat} (x : (⟨3, ![B, L, D]⟩ : Shape).Idx → α) (h : (⟨3, ![B, L, D]⟩ : Shape).ShapeCasts ⟨2, ![R, D]⟩)
    (b : Fin B) (l : Fin L) (d : Fin D) (r : Fin R) (hr : r.val = b.val * L + l.val) :
    shapeCast (⟨2, ![R, D]⟩ : Shape) x h (ix2 r d) = x (ix3 b l d) := by
  refine shapeCast_apply _ _ _ _ ?_
  rw [Shape.rowMajor_val_three, Shape.rowMajor_val_two]
  show (b.val * L + l.val) * D + d.val = r.val * D + d.val
  rw [hr]

/-- A slice of a matrix reads the entry moved by the offsets. -/
theorem slice2 {M N m n o0 o1 : Nat} (x : (⟨2, ![M, N]⟩ : Shape).Idx → α) (h : (⟨2, ![M, N]⟩ : Shape).Slices ![o0, o1] ⟨2, ![m, n]⟩)
    (r : Fin m) (c : Fin n) (r' : Fin M) (c' : Fin N) (hr : r'.val = o0 + r.val) (hc : c'.val = o1 + c.val) :
    extractStridedSlice (⟨2, ![m, n]⟩ : Shape) ![o0, o1] x h (ix2 r c) = x (ix2 r' c') := by
  refine extractStridedSlice_apply _ _ _ _ _ fun a => ?_
  match a with
  | ⟨0, _⟩ => exact hr
  | ⟨1, _⟩ => exact hc

end Layout

/-- The fibre of a row sum: the row with the column inserted. -/
theorem lift_row {M N : Nat} (h : (⟨2, ![M, N]⟩ : Shape).Reduces [1] ⟨1, ![M]⟩) (r : Fin M) (k : Fin N) :
    h.lift (ix1 r) k = ix2 r k := by
  funext a
  match a with
  | ⟨0, _⟩ => rfl
  | ⟨1, _⟩ => rfl

/-- The fibre of a column sum: the column with the row inserted. -/
theorem lift_col {M N : Nat} (h : (⟨2, ![M, N]⟩ : Shape).Reduces [0] ⟨1, ![N]⟩) (c : Fin N) (k : Fin M) :
    h.lift (ix1 c) k = ix2 k c := by
  funext a
  match a with
  | ⟨0, _⟩ => rfl
  | ⟨1, _⟩ => rfl

/-- A sum along the rows of a matrix. -/
theorem sumRow {M N : Nat} (x : FVec Ideal ⟨2, ![M, N]⟩ .f32) (h : (⟨2, ![M, N]⟩ : Shape).Reduces [1] ⟨1, ![M]⟩)
    (hφ : FKind.Formats .f32) (hacc : (0x00000000#32 : BitVec 32) = 0x00000000#32) (r : Fin M) :
    multiReduction .add [1] (⟨1, ![M]⟩ : Shape) x 0x00000000#32 h hφ hacc (ix1 r) = ∑ k : Fin N, x (ix2 r k) := by
  refine (Ideal.multiReduction_add_single x _ h hφ hacc _).trans ?_
  exact Finset.sum_congr rfl fun k _ => congrArg x (lift_row h r k)

/-- A sum along the columns of a matrix. -/
theorem sumCol {M N : Nat} (x : FVec Ideal ⟨2, ![M, N]⟩ .f32) (h : (⟨2, ![M, N]⟩ : Shape).Reduces [0] ⟨1, ![N]⟩)
    (hφ : FKind.Formats .f32) (hacc : (0x00000000#32 : BitVec 32) = 0x00000000#32) (c : Fin N) :
    multiReduction .add [0] (⟨1, ![N]⟩ : Shape) x 0x00000000#32 h hφ hacc (ix1 c) = ∑ k : Fin M, x (ix2 k c) := by
  refine (Ideal.multiReduction_add_single x _ h hφ hacc _).trans ?_
  exact Finset.sum_congr rfl fun k _ => congrArg x (lift_col h c k)

/-- A product of two matrices into zero. -/
theorem dot2 {M K N : Nat} {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (⟨2, ![M, N]⟩ : Shape) .f32 0x00000000#32) (ix2 i j)
      = ∑ k : Fin K, l (ix2 i k) * r (ix2 k j) := by
  rw [Ideal.matmul_plain_apply, constant_apply, Ideal.ofBits_zero_f32, zero_add]

/-- A host product of two matrices. -/
theorem hdot2 {M K N : Nat} {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) := by
  refine Eq.trans ?_ (dot2 prec l r i j)
  unfold Host.dotGeneral
  rw [Ideal.dotGeneral_apply, Ideal.matmul_constant_zero_apply]

end Cert.Reads

end
-- ==== Proof.HostReads.lean ====
/- The host's layout operations read at an index given by its coordinates. -/
module

public import proofs.«01_k».proof.Proof.Reads
public import Idealize.ShloMosaic.Lib.IdealHost

@[expose] public section

noncomputable section

namespace Cert.Reads

open Idealize.ShloMosaic Idealize.ShloMosaic.ValueIdx
open scoped BigOperators

section Layout
variable {α : Type}

/-- A coordinate below an extent is what the broadcast of that axis reads. -/
theorem val_eq_ite {n : Nat} (i : Fin n) : i.val = if n = 1 then 0 else i.val := by
  split_ifs with h
  · have := i.isLt; omega
  · rfl

/-- A middle axis of extent one repeated. -/
theorem bdMid {B L N : Nat} (x : (⟨3, ![B, 1, N]⟩ : Shape).Idx → α) (h : (⟨3, ![B, 1, N]⟩ : Shape).BroadcastsInDim ⟨3, ![B, L, N]⟩ ![0, 1, 2])
    (b : Fin B) (l : Fin L) (k : Fin N) : broadcastInDim (⟨3, ![B, L, N]⟩ : Shape) ![0, 1, 2] h x (ix3 b l k) = x (ix3 b 0 k) := by
  refine broadcastInDim_apply _ _ _ _ _ fun a => ?_
  match a with
  | ⟨0, _⟩ => exact val_eq_ite b
  | ⟨1, _⟩ => rfl
  | ⟨2, _⟩ => exact val_eq_ite k

/-- A last axis of extent one repeated. -/
theorem bdLast {B L N : Nat} (x : (⟨3, ![B, L, 1]⟩ : Shape).Idx → α) (h : (⟨3, ![B, L, 1]⟩ : Shape).BroadcastsInDim ⟨3, ![B, L, N]⟩ ![0, 1, 2])
    (b : Fin B) (l : Fin L) (k : Fin N) : broadcastInDim (⟨3, ![B, L, N]⟩ : Shape) ![0, 1, 2] h x (ix3 b l k) = x (ix3 b l 0) := by
  refine broadcastInDim_apply _ _ _ _ _ fun a => ?_
  match a with
  | ⟨0, _⟩ => exact val_eq_ite b
  | ⟨1, _⟩ => exact val_eq_ite l
  | ⟨2, _⟩ => rfl

/-- A row repeated over two leading axes. -/
theorem bdRow {B L N : Nat} (x : (⟨3, ![1, 1, N]⟩ : Shape).Idx → α) (h : (⟨3, ![1, 1, N]⟩ : Shape).BroadcastsInDim ⟨3, ![B, L, N]⟩ ![0, 1, 2])
    (b : Fin B) (l : Fin L) (k : Fin N) : broadcastInDim (⟨3, ![B, L, N]⟩ : Shape) ![0, 1, 2] h x (ix3 b l k) = x (ix3 0 0 k) := by
  refine broadcastInDim_apply _ _ _ _ _ fun a => ?_
  match a with
  | ⟨0, _⟩ => rfl
  | ⟨1, _⟩ => rfl
  | ⟨2, _⟩ => exact val_eq_ite k

/-- A middle axis of extent one inserted. -/
theorem bdInsMid {B N : Nat} (x : (⟨2, ![B, N]⟩ : Shape).Idx → α) (h : (⟨2, ![B, N]⟩ : Shape).BroadcastsInDim ⟨3, ![B, 1, N]⟩ ![0, 2])
    (b : Fin B) (k : Fin N) : broadcastInDim (⟨3, ![B, 1, N]⟩ : Shape) ![0, 2] h x (ix3 b 0 k) = x (ix2 b k) := by
  refine broadcastInDim_apply _ _ _ _ _ fun a => ?_
  match a with
  | ⟨0, _⟩ => exact val_eq_ite b
  | ⟨1, _⟩ => exact val_eq_ite k

/-- A last axis of extent one appended. -/
theorem bdInsLast {B L : Nat} (x : (⟨2, ![B, L]⟩ : Shape).Idx → α) (h : (⟨2, ![B, L]⟩ : Shape).BroadcastsInDim ⟨3, ![B, L, 1]⟩ ![0, 1])
    (b : Fin B) (l : Fin L) : broadcastInDim (⟨3, ![B, L, 1]⟩ : Shape) ![0, 1] h x (ix3 b l 0) = x (ix2 b l) := by
  refine broadcastInDim_apply _ _ _ _ _ fun a => ?_
  match a with
  | ⟨0, _⟩ => exact val_eq_ite b
  | ⟨1, _⟩ => exact val_eq_ite l

/-- Two leading axes of extent one inserted. -/
theorem bdInsRow {N : Nat} (x : (⟨1, ![N]⟩ : Shape).Idx → α) (h : (⟨1, ![N]⟩ : Shape).BroadcastsInDim ⟨3, ![1, 1, N]⟩ ![2])
    (k : Fin N) : broadcastInDim (⟨3, ![1, 1, N]⟩ : Shape) ![2] h x (ix3 0 0 k) = x (ix1 k) := by
  refine broadcastInDim_apply _ _ _ _ _ fun a => ?_
  match a with
  | ⟨0, _⟩ => exact val_eq_ite k

/-- Three matrices side by side, read in the first. -/
theorem cat3_0 {M A B C N : Nat} (x : (⟨2, ![M, A]⟩ : Shape).Idx → α) (y : (⟨2, ![M, B]⟩ : Shape).Idx → α) (z : (⟨2, ![M, C]⟩ : Shape).Idx → α)
    (h) (r : Fin M) (c : Fin N) (k : Fin A) (hk : c.val = k.val) :
    concatenate (⟨2, ![M, N]⟩ : Shape) 1 [⟨⟨2, ![M, A]⟩, x⟩, ⟨⟨2, ![M, B]⟩, y⟩, ⟨⟨2, ![M, C]⟩, z⟩] h (ix2 r c) = x (ix2 r k) := by
  refine concatenate_apply_piece 1 _ h (ix2 r c) 0 (by simp) ⟨2, ![M, A]⟩ x rfl rfl 0 rfl (ix2 r k) ?_ ?_
  · intro b hb
    match b with
    | ⟨0, _⟩ => rfl
    | ⟨1, _⟩ => exact absurd rfl hb
  · show 0 + k.val = c.val
    omega

/-- Three matrices side by side, read in the second. -/
theorem cat3_1 {M A B C N : Nat} (x : (⟨2, ![M, A]⟩ : Shape).Idx → α) (y : (⟨2, ![M, B]⟩ : Shape).Idx → α) (z : (⟨2, ![M, C]⟩ : Shape).Idx → α)
    (h) (r : Fin M) (c : Fin N) (k : Fin B) (hk : c.val = A + k.val) :
    concatenate (⟨2, ![M, N]⟩ : Shape) 1 [⟨⟨2, ![M, A]⟩, x⟩, ⟨⟨2, ![M, B]⟩, y⟩, ⟨⟨2, ![M, C]⟩, z⟩] h (ix2 r c) = y (ix2 r k) := by
  refine concatenate_apply_piece 1 _ h (ix2 r c) 1 (by simp) ⟨2, ![M, B]⟩ y rfl rfl A (by simp) (ix2 r k) ?_ ?_
  · intro b hb
    match b with
    | ⟨0, _⟩ => rfl
    | ⟨1, _⟩ => exact absurd rfl hb
  · show A + k.val = c.val
    omega

/-- Three matrices side by side, read in the third. -/
theorem cat3_2 {M A B C N : Nat} (x : (⟨2, ![M, A]⟩ : Shape).Idx → α) (y : (⟨2, ![M, B]⟩ : Shape).Idx → α) (z : (⟨2, ![M, C]⟩ : Shape).Idx → α)
    (h) (r : Fin M) (c : Fin N) (k : Fin C) (hk : c.val = A + B + k.val) :
    concatenate (⟨2, ![M, N]⟩ : Shape) 1 [⟨⟨2, ![M, A]⟩, x⟩, ⟨⟨2, ![M, B]⟩, y⟩, ⟨⟨2, ![M, C]⟩, z⟩] h (ix2 r c) = z (ix2 r k) := by
  refine concatenate_apply_piece 1 _ h (ix2 r c) 2 (by simp) ⟨2, ![M, C]⟩ z rfl rfl (A + B) (by simp) (ix2 r k) ?_ ?_
  · intro b hb
    match b with
    | ⟨0, _⟩ => rfl
    | ⟨1, _⟩ => exact absurd rfl hb
  · show A + B + k.val = c.val
    omega

end Layout

/-- A host sum along the last of three axes, from zero. -/
theorem hsum3 {B L N : Nat} {u : Shape} (x : FVec Ideal ⟨3, ![B, L, N]⟩ .f32) (v : FVec Ideal u .f32) (h : (⟨3, ![B, L, N]⟩ : Shape).ReducesTo [2] ⟨2, ![B, L]⟩)
    (hr : (⟨3, ![B, L, N]⟩ : Shape).Reduces [2] ⟨2, ![B, L]⟩) (hu : 0 < u.numel) (hv : ∀ i, v i = 0) (b : Fin B) (l : Fin L) :
    Host.reduceAdd x v h hu (ix2 b l) = ∑ k : Fin N, x (ix3 b l k) := by
  rw [hostReduceAdd_apply, Ideal.hostReduceAdd_single h hr, hv, zero_add]
  refine Finset.sum_congr rfl fun k _ => congrArg x ?_
  funext a
  match a with
  | ⟨0, _⟩ => rfl
  | ⟨1, _⟩ => rfl
  | ⟨2, _⟩ => rfl

end Cert.Reads

end
-- ==== Proof.OutKernel.lean ====
/- What the output projection's kernel leaves at an entry of its result. -/
module

public import proofs.«01_k».proof.Proof.Reads
public import proofs.«01_k».proof.Proof.Gen.OutprojIdeal.Value

@[expose] public section

noncomputable section

namespace Cert.OutK

open Cert.OutprojIdeal Cert.OutprojIdeal.Gen Idealize.ShloMosaic Idealize.ShloMosaic.ValueIdx Idealize.ShloMosaic.TcCoe Cert.Reads
open scoped BigOperators

/-- The residual row before the final norm: `x + gate · (ya·wa + yp·wp + yc·wc)`. -/
def resid (ya : Fin 1024 → EReal) (yp yc : Fin 512 → EReal) (w : Fin 2048 → Fin 2048 → EReal) (x gate : Fin 2048 → EReal) (c : Fin 2048) : EReal :=
  x c + gate c * ((∑ k : Fin 1024, ya k * w ⟨k.val, by omega⟩ c + ∑ k : Fin 512, yp k * w ⟨1024 + k.val, by omega⟩ c)
    + ∑ k : Fin 512, yc k * w ⟨1536 + k.val, by omega⟩ c)

/-- A row divided by the root of its mean square plus epsilon, times a scale. -/
def normed (z g : Fin 2048 → EReal) (c : Fin 2048) : EReal :=
  z c * Ideal.rsqrt (Ideal.div (∑ k : Fin 2048, z k * z k) (Ideal.ofBits .f32 0x45000000#32) + Ideal.ofBits .f32 0x358637BD#32) * g c

/-- The stored payload at an entry. -/
theorem pay_apply (v0 : FVec Ideal S512x1024 .bf16) (v1 : FVec Ideal S1024x2048 .bf16) (v4 : FVec Ideal S512x512 .bf16) (v5 : FVec Ideal S512x2048 .bf16) (v9 : FVec Ideal S512x512 .bf16) (v10 : FVec Ideal S512x2048 .bf16) (v14 : FVec Ideal S1x1x6144 .f32) (v17 : FVec Ideal S512x2048 .f32) (v31 : FVec Ideal S1x2048 .f32)
    (r : Fin 512) (c : Fin 2048) (w : Fin 2048 → Fin 2048 → EReal)
    (h1 : ∀ (k : Fin 1024) c, v1 (ix2 k c) = w ⟨k.val, by omega⟩ c)
    (h5 : ∀ (k : Fin 512) c, v5 (ix2 k c) = w ⟨1024 + k.val, by omega⟩ c)
    (h10 : ∀ (k : Fin 512) c, v10 (ix2 k c) = w ⟨1536 + k.val, by omega⟩ c) :
    k0_pay1 (F := Ideal) (k0_pay2 v0 v1 v4 v5 v9 v10 v14 v17) (k0_pay3 v31) (ix2 r c)
      = normed (resid (fun k => v0 (ix2 r k)) (fun k => v4 (ix2 r k)) (fun k => v9 (ix2 r k)) w (fun k => v17 (ix2 r k)) (fun k => v14 (ix3 0 0 ⟨4096 + k.val, by omega⟩)))
          (fun k => v31 (ix2 0 k)) c := by
  have hz : ∀ c : Fin 2048, (addf (F := Ideal) v17 (mulf (F := Ideal) (broadcastTo S512x2048 (extractStridedSlice S1x2048 ![0, 4096] (shapeCast S1x6144 v14 shapeCasts_S1x1x6144_S1x6144) slices_S1x6144_o0_4096_S1x2048) broadcasts_S1x2048_S512x2048)
      (addf (addf (matmul dot_S512x1024_S1024x2048_S512x2048_1_0_0_1_n_n none v0 v1 (constant S512x2048 .f32 0x00000000#32))
        (matmul dot_S512x512_S512x2048_S512x2048_1_0_0_1_n_n none v4 v5 (constant S512x2048 .f32 0x00000000#32)))
        (matmul dot_S512x512_S512x2048_S512x2048_1_0_0_1_n_n none v9 v10 (constant S512x2048 .f32 0x00000000#32)))) : FVec Ideal S512x2048 .f32) (ix2 r c)
      = resid (fun k => v0 (ix2 r k)) (fun k => v4 (ix2 r k)) (fun k => v9 (ix2 r k)) w (fun k => v17 (ix2 r k)) (fun k => v14 (ix3 0 0 ⟨4096 + k.val, by omega⟩)) c := by
    intro c
    have e1 := dot2 none v0 v1 r c
    have e2 := dot2 none v4 v5 r c
    have e3 := dot2 none v9 v10 r c
    simp only [h1, h5, h10] at e1 e2 e3
    rw [addf_apply, mulf_apply, bcRow, slice2 _ _ 0 c 0 ⟨4096 + c.val, by omega⟩ rfl rfl, castDrop, addf_apply, addf_apply]
    unfold resid
    exact congrArg (fun z => v17 (ix2 r c) + v14 (ix3 0 0 ⟨4096 + c.val, by omega⟩) * z) (congrArg₂ (· + ·) (congrArg₂ (· + ·) e1 e2) e3)
  unfold k0_pay1 k0_pay2 k0_pay3
  dsimp only
  simp only [shapeCast_self]
  rw [mulf_apply, mulf_apply, hz, bcRow, bcCol]
  unfold normed
  refine congrArg₂ (· * ·) (congrArg₂ (· * ·) rfl (congrArg Ideal.rsqrt ?_)) rfl
  rw [addf_apply, divf_apply, castCol, sumRow]
  simp only [mulf_apply, hz]
  rfl

end Cert.OutK

end
-- ==== Proof.OutValue.lean ====
/- The output projection's kernel: its result as one function of the arguments. -/
module

public import proofs.«01_k».proof.Proof.OutKernel
public import Idealize.ShloMosaic.Lib.Claim

@[expose] public section

noncomputable section

namespace Cert.OutK

open Cert.OutprojIdeal Cert.OutprojIdeal.Gen Idealize.ShloMosaic Idealize.ShloMosaic.ValueIdx Idealize.ShloMosaic.TcCoe Cert.Reads Idealize.SL.Sem
open scoped BigOperators

/-- The result at row `r`, column `c`, from the whole arguments. -/
def outAt (ya : S8192x1024.Idx → EReal) (yp yc : S8192x512.Idx → EReal) (w : S2048x2048.Idx → EReal) (x : S8192x2048.Idx → EReal)
    (md : S8x6144.Idx → EReal) (g : S2048.Idx → EReal) (r : Fin 8192) (c : Fin 2048) : EReal :=
  normed (resid (fun k => ya (ix2 r k)) (fun k => yp (ix2 r k)) (fun k => yc (ix2 r k)) (fun k c => w (ix2 k c)) (fun k => x (ix2 r k))
    (fun k => md (ix2 ⟨r.val / 2048, by omega⟩ ⟨4096 + k.val, by omega⟩))) (fun k => g (ix1 k)) c

variable (m : (ℓ : Loc nD τ sig) → Buf (Elt Ideal) ℓ)

/-- The weights reach the launch as they are. -/
theorem V1 (c : Dev nD) : V m c main_v1 = (m ((c : Thread nD τ).loc main_arg3) : S2048x2048.Idx → EReal) := by
  show StableHlo.after hostOps0 _ _ = _
  after_results
  rfl

/-- The modulation reaches the launch with an axis of extent one inserted. -/
theorem V0 (c : Dev nD) (b : Fin 8) (k : Fin 6144) : (V m c main_v0 : S8x1x6144.Idx → EReal) (ix3 b 0 k) = (m ((c : Thread nD τ).loc main_arg5) : S8x6144.Idx → EReal) (ix2 b k) := by
  have e : V m c main_v0 = shapeCast S8x1x6144 (m ((c : Thread nD τ).loc main_arg5) : S8x6144.Idx → EReal) shapeCasts_S8x6144_S8x1x6144 := by
    show StableHlo.after hostOps0 _ _ = _
    after_results
    rfl
  rw [e]
  exact castGroup _ _ b 0 k b (by simp)

/-- The final scale reaches the launch as one row. -/
theorem V2 (c : Dev nD) (k : Fin 2048) : (V m c main_v2 : S1x2048.Idx → EReal) (ix2 0 k) = (m ((c : Thread nD τ).loc main_arg6) : S2048.Idx → EReal) (ix1 k) := by
  have e : V m c main_v2 = shapeCast S1x2048 (m ((c : Thread nD τ).loc main_arg6) : S2048.Idx → EReal) shapeCasts_S2048_S1x2048 := by
    show StableHlo.after hostOps0 _ _ = _
    after_results
    rfl
  rw [e]
  exact castRow _ _ k

/-- Where the windows' blocks stand: point `t` has block row `t`, the modulation's row `t / 4`, the others' block 0. -/
theorem where_all : ∀ t : Fin grid0.N,
    win0_0.index t 0 = t.val ∧ win0_0.index t 1 = 0 ∧ win0_1.index t 0 = t.val ∧ win0_1.index t 1 = 0 ∧ win0_2.index t 0 = t.val ∧ win0_2.index t 1 = 0
    ∧ win0_3.index t 0 = 0 ∧ win0_3.index t 1 = 0 ∧ win0_4.index t 0 = t.val ∧ win0_4.index t 1 = 0
    ∧ win0_5.index t 0 = t.val / 4 ∧ win0_5.index t 1 = 0 ∧ win0_5.index t 2 = 0 ∧ win0_6.index t 0 = 0 ∧ win0_6.index t 1 = 0
    ∧ win0_7.index t 0 = t.val ∧ win0_7.index t 1 = 0 := by decide +kernel

theorem N16 (t : Fin cfg0.N) : t.val < 16 := t.isLt

/-- The row of the arrays that row `r` of point `t`'s block is. -/
abbrev row (t : Fin cfg0.N) (r : Fin 512) : Fin 8192 := ⟨t.val * 512 + r.val, by have := N16 t; omega⟩

/-- A row block's entry: the same column of the array's row. -/
theorem blk0 (c : Dev nD) (t : Fin cfg0.N) (r : Fin 512) (k : Fin 1024) :
    (iblk m c 0 t : S512x1024.Idx → EReal) (ix2 r k) = (m ((c : Thread nD τ).loc main_arg0) : S8192x1024.Idx → EReal) (ix2 (row t r) k) := by
  obtain ⟨h0, h1, -⟩ := where_all t
  show (V m c main_arg0 : S8192x1024.Idx → EReal) _ = _
  rw [V_main_arg0]
  refine congrArg _ (Shape.idx_ext₂ ?_ ?_)
  · show win0_0.index t 0 * 512 + 1 * r.val = t.val * 512 + r.val
    rw [h0]; omega
  · show win0_0.index t 1 * 1024 + 1 * k.val = k.val
    rw [h1]; omega

theorem blk1 (c : Dev nD) (t : Fin cfg0.N) (r k : Fin 512) :
    (iblk m c 1 t : S512x512.Idx → EReal) (ix2 r k) = (m ((c : Thread nD τ).loc main_arg1) : S8192x512.Idx → EReal) (ix2 (row t r) k) := by
  obtain ⟨-, -, h0, h1, -⟩ := where_all t
  show (V m c main_arg1 : S8192x512.Idx → EReal) _ = _
  rw [V_main_arg1]
  refine congrArg _ (Shape.idx_ext₂ ?_ ?_)
  · show win0_1.index t 0 * 512 + 1 * r.val = t.val * 512 + r.val
    rw [h0]; omega
  · show win0_1.index t 1 * 512 + 1 * k.val = k.val
    rw [h1]; omega

theorem blk2 (c : Dev nD) (t : Fin cfg0.N) (r k : Fin 512) :
    (iblk m c 2 t : S512x512.Idx → EReal) (ix2 r k) = (m ((c : Thread nD τ).loc main_arg2) : S8192x512.Idx → EReal) (ix2 (row t r) k) := by
  obtain ⟨-, -, -, -, h0, h1, -⟩ := where_all t
  show (V m c main_arg2 : S8192x512.Idx → EReal) _ = _
  rw [V_main_arg2]
  refine congrArg _ (Shape.idx_ext₂ ?_ ?_)
  · show win0_2.index t 0 * 512 + 1 * r.val = t.val * 512 + r.val
    rw [h0]; omega
  · show win0_2.index t 1 * 512 + 1 * k.val = k.val
    rw [h1]; omega

/-- The weights' one block is the whole matrix. -/
theorem blk3 (c : Dev nD) (t : Fin cfg0.N) (r k : Fin 2048) :
    (iblk m c 3 t : S2048x2048.Idx → EReal) (ix2 r k) = (m ((c : Thread nD τ).loc main_arg3) : S2048x2048.Idx → EReal) (ix2 r k) := by
  obtain ⟨-, -, -, -, -, -, h0, h1, -⟩ := where_all t
  show (V m c main_v1 : S2048x2048.Idx → EReal) _ = _
  rw [V1]
  refine congrArg _ (Shape.idx_ext₂ ?_ ?_)
  · show win0_3.index t 0 * 2048 + 1 * r.val = r.val
    rw [h0]; omega
  · show win0_3.index t 1 * 2048 + 1 * k.val = k.val
    rw [h1]; omega

theorem blk4 (c : Dev nD) (t : Fin cfg0.N) (r : Fin 512) (k : Fin 2048) :
    (iblk m c 4 t : S512x2048.Idx → EReal) (ix2 r k) = (m ((c : Thread nD τ).loc main_arg4) : S8192x2048.Idx → EReal) (ix2 (row t r) k) := by
  obtain ⟨-, -, -, -, -, -, -, -, h0, h1, -⟩ := where_all t
  show (V m c main_arg4 : S8192x2048.Idx → EReal) _ = _
  rw [V_main_arg4]
  refine congrArg _ (Shape.idx_ext₂ ?_ ?_)
  · show win0_4.index t 0 * 512 + 1 * r.val = t.val * 512 + r.val
    rw [h0]; omega
  · show win0_4.index t 1 * 2048 + 1 * k.val = k.val
    rw [h1]; omega

/-- The modulation's block is the row of the point's batch. -/
theorem blk5 (c : Dev nD) (t : Fin cfg0.N) (k : Fin 6144) :
    (iblk m c 5 t : S1x1x6144.Idx → EReal) (ix3 0 0 k) = (m ((c : Thread nD τ).loc main_arg5) : S8x6144.Idx → EReal) (ix2 ⟨t.val / 4, by have := N16 t; omega⟩ k) := by
  obtain ⟨-, -, -, -, -, -, -, -, -, -, h0, h1, h2, -⟩ := where_all t
  show (V m c main_v0 : S8x1x6144.Idx → EReal) _ = _
  rw [← V0 m c]
  refine congrArg _ (funext fun a => Fin.ext ?_)
  match a with
  | ⟨0, _⟩ => show win0_5.index t 0 * 1 + 1 * 0 = t.val / 4; rw [h0]; omega
  | ⟨1, _⟩ => show win0_5.index t 1 * 1 + 1 * 0 = 0; rw [h1]
  | ⟨2, _⟩ => show win0_5.index t 2 * 6144 + 1 * k.val = k.val; rw [h2]; omega

theorem blk6 (c : Dev nD) (t : Fin cfg0.N) (k : Fin 2048) :
    (iblk m c 6 t : S1x2048.Idx → EReal) (ix2 0 k) = (m ((c : Thread nD τ).loc main_arg6) : S2048.Idx → EReal) (ix1 k) := by
  obtain ⟨-, -, -, -, -, -, -, -, -, -, -, -, -, h0, h1, -⟩ := where_all t
  show (V m c main_v2 : S1x2048.Idx → EReal) _ = _
  rw [← V2 m c]
  refine congrArg _ (Shape.idx_ext₂ ?_ ?_)
  · show win0_6.index t 0 * 1 + 1 * 0 = 0
    rw [h0]
  · show win0_6.index t 1 * 2048 + 1 * k.val = k.val
    rw [h1]; omega

/-- The result array, from the arguments. -/
def G (c : Dev nD) : S8192x2048.Idx → EReal := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- A load of rows `o ..` of a matrix reads the row moved by `o`. -/
theorem ldRows {M N n o : Nat} (x : (⟨2, ![M, N]⟩ : Shape).Idx → EReal) (inb) (r : Fin n) (k : Fin N) (r' : Fin M) (h : r'.val = o + r.val) :
    View.ld (Val := Elt Ideal) (e' := .bf16) x (Rect.unit (s := ⟨2, ![M, N]⟩) ![o, 0] ![n, N] inb) (ix2 r k) = x (ix2 r' k) := by
  refine congrArg x (Shape.idx_ext₂ ?_ ?_)
  · show o + 1 * r.val = r'.val
    omega
  · show 0 + 1 * k.val = k.val
    omega

/-- What point `t` writes back is block `t` of the result. -/
theorem flushed_eq (c : Dev nD) (t : Fin cfg0.N) : (dats m 0 c).flushed 7 t = (win0_7.blk t).view.read (Elt Ideal) (G m c) := by
  rw [Value.flushed7]
  unfold out0_7
  rw [View.canon_unit_zero hz2]
  rw [View.ld_unit_zero hz2, View.ld_unit_zero hz2, View.ld_unit_zero hz2, View.ld_unit_zero hz3, View.ld_unit_zero hz2, View.ld_unit_zero hz2]
  funext i
  obtain ⟨-, -, -, -, -, -, -, -, -, -, -, -, -, -, -, h0, h1⟩ := where_all t
  have hN := N16 t
  obtain ⟨r, k, rfl⟩ : ∃ (r : Fin 512) (k : Fin 2048), i = ix2 r k := ⟨i 0, i 1, eq_ix2 i⟩
  have er : ((win0_7.blk t).view.read (Elt Ideal) (G m c)) (ix2 r k) = G m c (ix2 (row t r) k) := by
    refine congrArg (G m c) (Shape.idx_ext₂ ?_ ?_)
    · show win0_7.index t 0 * 512 + 1 * r.val = t.val * 512 + r.val
      rw [h0]; omega
    · show win0_7.index t 1 * 2048 + 1 * k.val = k.val
      rw [h1]; omega
  rw [er]
  refine (pay_apply _ _ _ _ _ _ _ _ _ r k (fun a b => (m ((c : Thread nD τ).loc main_arg3) : S2048x2048.Idx → EReal) (ix2 a b)) ?_ ?_ ?_).trans ?_
  · intro a b; exact (ldRows _ _ a b ⟨a.val, by omega⟩ (by simp)).trans (blk3 m c t _ b)
  · intro a b; exact (ldRows _ _ a b ⟨1024 + a.val, by omega⟩ rfl).trans (blk3 m c t _ b)
  · intro a b; exact (ldRows _ _ a b ⟨1536 + a.val, by omega⟩ rfl).trans (blk3 m c t _ b)
  · simp only [blk0, blk1, blk2, blk4, blk5, blk6]
    have hb : t.val / 4 = (row t r).val / 2048 := by show t.val / 4 = (t.val * 512 + r.val) / 2048; omega
    simp only [hb]
    rfl

/-- The blocks cover the result. -/
theorem cover (i : S8192x2048.Idx) : ∃ t : Fin cfg0.N, (cfg0.win 7).flush t = true ∧ i ∈ ((cfg0.win 7).blk t).view.set := by
  have hi0 : (i 0 : Nat) < 8192 := (i 0).isLt
  have hi1 : (i 1 : Nat) < 2048 := (i 1).isLt
  have hN : cfg0.N = 16 := by decide +kernel
  refine ⟨⟨(i 0 : Nat) / 512, by omega⟩, flush0_7 _, ?_⟩
  generalize ht : (⟨(i 0 : Nat) / 512, by omega⟩ : Fin cfg0.N) = t
  have htv : t.val = (i 0 : Nat) / 512 := by rw [← ht]
  obtain ⟨-, -, -, -, -, -, -, -, -, -, -, -, -, -, -, h0, h1⟩ := where_all t
  show i ∈ ((View.whole main_v3).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [h0]; omega
  | ⟨1, _⟩ =>
    show win0_7.index t 1 * 2048 ≤ (i 1 : Nat) ∧ (i 1 : Nat) < win0_7.index t 1 * 2048 + 2048
    rw [h1]; omega

/-- The result array after the run. -/
theorem final (c : Dev nD) : (dats m 0 c).arrAt 7 cfg0.N = G m c :=
  (dats m 0 c).arrAt_eq_of_cover 7 (G m c) (fun t _ => flushed_eq m c t) cover

end Cert.OutK

end
-- ==== Proof.OutRef.lean ====
/- The output projection's reference at an entry of its result. -/
module

public import proofs.«01_k».proof.Proof.HostReads
public import proofs.«01_k».proof.Proof.OutValue
public import proofs.«01_k».proof.Proof.Gen.OutprojRefIdeal.Run

@[expose] public section

noncomputable section

namespace Cert.OutRef

open Cert.OutprojRefIdeal Cert.OutprojRefIdeal.Gen Idealize.ShloMosaic Idealize.ShloMosaic.ValueIdx Idealize.ShloMosaic.TcCoe Cert.Reads
open scoped BigOperators

variable (ya : FVec Ideal S8192x1024 .bf16) (yp yc : FVec Ideal S8192x512 .bf16) (w : FVec Ideal S2048x2048 .f32) (x : FVec Ideal S8192x2048 .f32)
  (md : FVec Ideal S8x6144 .f32) (g : FVec Ideal S2048 .f32)

/-- The residual `x + gate · ([ya, yp, yc] · w)`, as the reference computes it. -/
abbrev Z : FVec Ideal S4x2048x2048 .f32 :=
  addf (shapeCast _ x shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![0, 4096] md slices_S8x6144_S4x2048_0_4096))) (shapeCast _ (Host.dotGeneral dot_S8192x2048_S2048x2048_S8192x2048_1_0_0_1_n_n none (extf .f32 (concatenate S8192x2048 1 [⟨S8192x1024, ya⟩, ⟨S8192x512, yp⟩, ⟨S8192x512, yc⟩] concatenates_S8192x1024_S8192x512_S8192x512_S8192x2048_d1 : FVec Ideal S8192x2048 .bf16) bitsLt_bf16_f32) w) shapeCasts_S8192x2048_S4x2048x2048))

/-- A sum over the joined columns is the sum over each part. -/
theorem split3 (f : Fin 2048 → EReal) :
    ∑ k : Fin 2048, f k = (∑ k : Fin 1024, f ⟨k.val, by omega⟩ + ∑ k : Fin 512, f ⟨1024 + k.val, by omega⟩) + ∑ k : Fin 512, f ⟨1536 + k.val, by omega⟩ := by
  refine (Fin.sum_univ_add (M := EReal) (a := 1536) (b := 512) f).trans ?_
  refine congrArg₂ (· + ·) ((Fin.sum_univ_add (a := 1024) (b := 512) _).trans ?_) rfl
  rfl

theorem Z_apply (b : Fin 4) (l : Fin 2048) (c : Fin 2048) (r : Fin 8192) (hr : r.val = b.val * 2048 + l.val) :
    Z ya yp yc w x md (ix3 b l c)
      = OutK.resid (fun k => ya (ix2 r k)) (fun k => yp (ix2 r k)) (fun k => yc (ix2 r k)) (fun k c => w (ix2 k c)) (fun k => x (ix2 r k))
          (fun k => md (ix2 ⟨r.val / 2048, by omega⟩ ⟨4096 + k.val, by omega⟩)) c := by
  have hd := hdot2 none (extf .f32 (concatenate S8192x2048 1 [⟨S8192x1024, ya⟩, ⟨S8192x512, yp⟩, ⟨S8192x512, yc⟩] concatenates_S8192x1024_S8192x512_S8192x512_S8192x2048_d1 : FVec Ideal S8192x2048 .bf16) bitsLt_bf16_f32) w r c
  rw [split3] at hd
  unfold Z
  rw [addf_apply, mulf_apply, bdMid, bdInsMid, slice2 _ _ b c ⟨b.val, by omega⟩ ⟨4096 + c.val, by omega⟩ (by simp) rfl, castGroup _ _ b l c r hr,
    castGroup _ _ b l c r hr]
  unfold OutK.resid
  have hb : b.val = r.val / 2048 := by omega
  refine congrArg₂ (· + ·) rfl (congrArg₂ (· * ·) ?_ (hd.trans ?_))
  · simp only [hb]
  · refine congrArg₂ (· + ·) (congrArg₂ (· + ·) ?_ ?_) ?_
    · exact Finset.sum_congr rfl fun k _ => congrArg (· * _) (cat3_0 ya yp yc concatenates_S8192x1024_S8192x512_S8192x512_S8192x2048_d1 r _ k rfl)
    · exact Finset.sum_congr rfl fun k _ => congrArg (· * _) (cat3_1 ya yp yc concatenates_S8192x1024_S8192x512_S8192x512_S8192x2048_d1 r _ k rfl)
    · exact Finset.sum_congr rfl fun k _ => congrArg (· * _) (cat3_2 ya yp yc concatenates_S8192x1024_S8192x512_S8192x512_S8192x2048_d1 r _ k rfl)

/-- The reference's result is the same function of the arguments as the kernel's. -/
theorem out_eq :
    (shapeCast S8192x2048 (mulf (mulf (Z ya yp yc w x md) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (Z ya yp yc w x md) (Z ya yp yc w x md)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048 : S8192x2048.Idx → EReal)
      = fun i => OutK.outAt ya yp yc w x md g (i 0) (i 1) := by
  funext i
  obtain ⟨r, c, rfl⟩ : ∃ (r : Fin 8192) (c : Fin 2048), i = ix2 r c := ⟨i 0, i 1, eq_ix2 i⟩
  have hr : r.val = (⟨r.val / 2048, by omega⟩ : Fin 4).val * 2048 + (⟨r.val % 2048, by omega⟩ : Fin 2048).val := by
    show r.val = r.val / 2048 * 2048 + r.val % 2048
    omega
  generalize (⟨r.val / 2048, by omega⟩ : Fin 4) = b at hr
  generalize (⟨r.val % 2048, by omega⟩ : Fin 2048) = l at hr
  rw [castFlat _ _ b l c r hr, mulf_apply, mulf_apply, bdRow, bdInsRow, bdLast, Z_apply _ _ _ _ _ _ b l c r hr]
  unfold OutK.outAt OutK.normed
  refine congrArg₂ (· * ·) (congrArg₂ (· * ·) rfl (congrArg Ideal.rsqrt ?_)) rfl
  rw [addf_apply, hostDivf_apply, bdInsLast, hsum3 _ (constant S_ .f32 0x00000000#32) _ (by decide) _ (fun _ => Ideal.ofBits_zero_f32)]
  simp only [mulf_apply, Z_apply _ _ _ _ _ _ b l _ r hr]
  rfl

end Cert.OutRef

end
-- ==== Proof.OutAlgebraic.lean ====
/- The output projection: kernel and reference leave the same result. -/
module

public import proofs.«01_k».proof.Defs
public import proofs.«01_k».proof.Proof.OutRef

@[expose] public section

noncomputable section

namespace Cert.OutAlgebraic

open Idealize.ShloMosaic Idealize.SL.Sem

/-- From equal arguments the output projection and its reference end with equal results, for all arguments. -/
theorem algebraic : Cert.algebraic_OutprojIdeal_OutprojRefIdeal (hOutprojIdeal := Cert.OutprojIdeal.Gen.facts)
    (hOutprojRefIdeal := Cert.OutprojRefIdeal.Gen.facts) := by
  intro m g m' g' _ hargs
  refine ⟨fun c => OutK.G m c, ?_, ?_⟩
  · refine (θ_run (Cert.OutprojIdeal.defs (F := Ideal)) _ _).mono (fun r h c => ?_) (Cert.OutprojIdeal.Value.run_blocks (F := Ideal) m g)
    exact ⟨(h c).1.trans (OutK.final m c), (h c).2⟩
  · refine (θ_run (Cert.OutprojRefIdeal.defs (F := Ideal)) _ _).mono (fun r h c => ?_) (Cert.OutprojRefIdeal.Value.run (F := Ideal) m' g')
    obtain ⟨hv, hrest⟩ := h c
    refine ⟨hv.trans ?_, hrest⟩
    obtain ⟨h0, h1, h2, h3, h4, h5, h6⟩ := hargs c
    rw [h0, h1, h2, h3, h4, h5, h6]
    exact OutRef.out_eq _ _ _ _ _ _ _

end Cert.OutAlgebraic

end
-- ==== Proof.AttMath.lean ====
/- The softmax computed chunk by chunk with a running maximum, as real numbers among the extended reals. -/
module

public import Idealize.ShloMosaic.Lib.ValueIdx
public import Idealize.ShloMosaic.PureOps.Ideal.Laws

@[expose] public section

noncomputable section

namespace Cert.AttMath

open Idealize.ShloMosaic
open scoped BigOperators

/-- A sum of real numbers is the sum of the extended reals they are. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of real numbers, at least one of them, is a real number. -/
theorem fold_max_real {ι : Type*} [Fintype ι] [Nonempty ι] (f : ι → ℝ) :
    ∃ M : ℝ, Finset.univ.fold max (⊥ : EReal) (fun i => ((f i : ℝ) : EReal)) = (M : EReal) := by
  classical
  have key : ∀ s : Finset ι, (s = ∅ ∧ s.fold max (⊥ : EReal) (fun i => ((f i : ℝ) : EReal)) = ⊥)
      ∨ ∃ M : ℝ, s.fold max (⊥ : EReal) (fun i => ((f i : ℝ) : EReal)) = (M : EReal) := by
    intro s
    induction s using Finset.induction_on with
    | empty => exact .inl ⟨rfl, rfl⟩
    | insert a s ha ih =>
      right
      rw [Finset.fold_insert ha]
      rcases ih with ⟨-, h⟩ | ⟨M, h⟩
      · exact ⟨f a, by rw [h]; simp⟩
      · exact ⟨max (f a) M, by rw [h]; exact (EReal.coe_strictMono.monotone.map_max).symm⟩
  rcases key Finset.univ with ⟨h, -⟩ | h
  · exact absurd h Finset.univ_nonempty.ne_empty
  · exact h

theorem exp_coe (r : ℝ) : Ideal.exp (r : EReal) = ((Real.exp r : ℝ) : EReal) := rfl

/-- The running state after `n` chunks of 256 keys with scores `s` and values `v`: some real `M` is the running maximum, and the sums are
taken relative to it. -/
def Inv (s v : ℕ → Fin 256 → ℝ) (n : ℕ) (m l a : EReal) : Prop :=
  ∃ M : ℝ, m = (M : EReal) ∧ l = ((∑ j ∈ Finset.range n, ∑ i, Real.exp (s j i - M) : ℝ) : EReal)
    ∧ a = ((∑ j ∈ Finset.range n, ∑ i, v j i * Real.exp (s j i - M) : ℝ) : EReal)

/-- The state after the first chunk. -/
theorem inv_first (s v : ℕ → Fin 256 → ℝ) :
    Inv s v 1 (Finset.univ.fold max (⊥ : EReal) (fun i => (s 0 i : EReal)))
      (∑ i, Ideal.exp ((s 0 i : EReal) - Finset.univ.fold max (⊥ : EReal) (fun i => (s 0 i : EReal))))
      (∑ i, (v 0 i : EReal) * Ideal.exp ((s 0 i : EReal) - Finset.univ.fold max (⊥ : EReal) (fun i => (s 0 i : EReal)))) := by
  obtain ⟨M, hM⟩ := fold_max_real (s 0)
  refine ⟨M, hM, ?_, ?_⟩
  · rw [Finset.sum_range_one, coe_sum]
    refine Finset.sum_congr rfl fun i _ => ?_
    rw [hM, ← EReal.coe_sub, exp_coe]
  · rw [Finset.sum_range_one, coe_sum]
    refine Finset.sum_congr rfl fun i _ => ?_
    rw [hM, ← EReal.coe_sub, exp_coe, EReal.coe_mul]

/-- The state after one more chunk. -/
theorem inv_step (s v : ℕ → Fin 256 → ℝ) (n : ℕ) (m l a m' : EReal) (h : Inv s v n m l a)
    (hm' : m' = max m (Finset.univ.fold max (⊥ : EReal) (fun i => (s n i : EReal)))) :
    Inv s v (n + 1) m'
      (Ideal.exp (m - m') * l + ∑ i, Ideal.exp ((s n i : EReal) - m'))
      (Ideal.exp (m - m') * a + ∑ i, (v n i : EReal) * Ideal.exp ((s n i : EReal) - m')) := by
  obtain ⟨M, rfl, rfl, rfl⟩ := h
  obtain ⟨C, hC⟩ := fold_max_real (s n)
  have e : m' = ((max M C : ℝ) : EReal) := by rw [hm', hC]; exact (EReal.coe_strictMono.monotone.map_max).symm
  generalize max M C = M' at e
  subst e
  refine ⟨M', rfl, ?_, ?_⟩
  · rw [← EReal.coe_sub, exp_coe, ← EReal.coe_mul, Finset.sum_range_succ, EReal.coe_add]
    refine congrArg₂ (· + ·) ?_ ?_
    · rw [Finset.mul_sum]
      refine congrArg _ (Finset.sum_congr rfl fun j _ => ?_)
      rw [Finset.mul_sum]
      refine Finset.sum_congr rfl fun i _ => ?_
      rw [← Real.exp_add]; congr 1; ring
    · rw [coe_sum]
      refine Finset.sum_congr rfl fun i _ => ?_
      rw [← EReal.coe_sub, exp_coe]
  · rw [← EReal.coe_sub, exp_coe, ← EReal.coe_mul, Finset.sum_range_succ, EReal.coe_add]
    refine congrArg₂ (· + ·) ?_ ?_
    · rw [Finset.mul_sum]
      refine congrArg _ (Finset.sum_congr rfl fun j _ => ?_)
      rw [Finset.mul_sum]
      refine Finset.sum_congr rfl fun i _ => ?_
      have : Real.exp (s j i - M') = Real.exp (M - M') * Real.exp (s j i - M) := by rw [← Real.exp_add]; congr 1; ring
      rw [this]; ring
    · rw [coe_sum]
      refine Finset.sum_congr rfl fun i _ => ?_
      rw [← EReal.coe_sub, exp_coe, EReal.coe_mul]

/-- The weighted mean of the values with the softmax of the scores, whatever is subtracted from the scores. -/
def mean {ι : Type*} [Fintype ι] (s v : ι → ℝ) : ℝ := (∑ i, v i * Real.exp (s i)) / ∑ i, Real.exp (s i)

theorem mean_shift {ι : Type*} [Fintype ι] (s v : ι → ℝ) (M : ℝ) :
    (∑ i, v i * Real.exp (s i - M)) / (∑ i, Real.exp (s i - M)) = mean s v := by
  unfold mean
  have h1 : (∑ i, v i * Real.exp (s i - M)) = Real.exp (-M) * ∑ i, v i * Real.exp (s i) := by
    rw [Finset.mul_sum]
    refine Finset.sum_congr rfl fun i _ => ?_
    rw [sub_eq_add_neg, Real.exp_add]; ring
  have h2 : (∑ i, Real.exp (s i - M)) = Real.exp (-M) * ∑ i, Real.exp (s i) := by
    rw [Finset.mul_sum]
    refine Finset.sum_congr rfl fun i _ => ?_
    rw [sub_eq_add_neg, Real.exp_add]; ring
  rw [h1, h2, mul_div_mul_left _ _ (Real.exp_ne_zero _)]

/-- Nine chunks of 256 are 2304. -/
theorem sum_chunks (f : ℕ → Fin 256 → ℝ) (g : Fin 2304 → ℝ)
    (h : ∀ (j : Fin 9) (i : Fin 256), f j.val i = g ⟨256 * j.val + i.val, by omega⟩) :
    ∑ j ∈ Finset.range 9, ∑ i, f j i = ∑ k, g k := by
  rw [Finset.sum_range]
  let e : Fin 9 × Fin 256 ≃ Fin 2304 := (finProdFinEquiv (m := 9) (n := 256)).trans (finCongr (by norm_num))
  rw [← Equiv.sum_comp e g, Fintype.sum_prod_type]
  refine Finset.sum_congr rfl fun j _ => Finset.sum_congr rfl fun i _ => ?_
  rw [h j i]
  refine congrArg g (Fin.ext ?_)
  show 256 * j.val + i.val = i.val + 256 * j.val
  omega

/-- The state after all nine chunks gives the mean over the 2304 keys. -/
theorem inv_mean (s v : ℕ → Fin 256 → ℝ) (S W : Fin 2304 → ℝ) (m l a : EReal) (h : Inv s v 9 m l a)
    (hs : ∀ (j : Fin 9) (i : Fin 256), s j.val i = S ⟨256 * j.val + i.val, by omega⟩)
    (hv : ∀ (j : Fin 9) (i : Fin 256), v j.val i = W ⟨256 * j.val + i.val, by omega⟩) :
    a * Ideal.div 1 l = ((mean S W : ℝ) : EReal) := by
  obtain ⟨M, -, rfl, rfl⟩ := h
  have e1 : ∑ j ∈ Finset.range 9, ∑ i, Real.exp (s j i - M) = ∑ k, Real.exp (S k - M) := by
    refine sum_chunks _ _ fun j i => ?_
    rw [hs j i]
  have e2 : ∑ j ∈ Finset.range 9, ∑ i, v j i * Real.exp (s j i - M) = ∑ k, W k * Real.exp (S k - M) := by
    refine sum_chunks _ _ fun j i => ?_
    rw [hs j i, hv j i]
  rw [e1, e2]
  have pos : 0 < ∑ k, Real.exp (S k - M) := Finset.sum_pos (fun k _ => Real.exp_pos _) Finset.univ_nonempty
  rw [Ideal.div_coe pos.ne', one_mul, ← EReal.coe_mul, ← mean_shift S W M, mul_one_div]

/-- The reference's order: each weight is divided first, the two components' weights are subtracted, then the values are averaged. -/
theorem ref_mean (S T W : Fin 2304 → ℝ) (lam M N : ℝ) :
    ∑ k, (W k : EReal) * (Ideal.div (Ideal.exp ((S k : EReal) - (M : EReal))) (∑ k, Ideal.exp ((S k : EReal) - (M : EReal)))
        - (lam : EReal) * Ideal.div (Ideal.exp ((T k : EReal) - (N : EReal))) (∑ k, Ideal.exp ((T k : EReal) - (N : EReal))))
      = ((mean S W : ℝ) : EReal) - (lam : EReal) * ((mean T W : ℝ) : EReal) := by
  have hs : ∀ (S : Fin 2304 → ℝ) (M : ℝ), ∑ k, Ideal.exp ((S k : EReal) - (M : EReal)) = ((∑ k, Real.exp (S k - M) : ℝ) : EReal) := by
    intro S M
    rw [coe_sum]
    refine Finset.sum_congr rfl fun k _ => ?_
    rw [← EReal.coe_sub, exp_coe]
  have pos : ∀ (S : Fin 2304 → ℝ) (M : ℝ), 0 < ∑ k, Real.exp (S k - M) := fun S M => Finset.sum_pos (fun k _ => Real.exp_pos _) Finset.univ_nonempty
  rw [hs, hs, ← mean_shift S W M, ← mean_shift T W N, ← EReal.coe_mul, ← EReal.coe_sub]
  have : ∀ k, (W k : EReal) * (Ideal.div (Ideal.exp ((S k : EReal) - (M : EReal))) ((∑ k, Real.exp (S k - M) : ℝ) : EReal)
        - (lam : EReal) * Ideal.div (Ideal.exp ((T k : EReal) - (N : EReal))) ((∑ k, Real.exp (T k - N) : ℝ) : EReal))
      = ((W k * (Real.exp (S k - M) * (1 / ∑ k, Real.exp (S k - M)) - lam * (Real.exp (T k - N) * (1 / ∑ k, Real.exp (T k - N)))) : ℝ) : EReal) := by
    intro k
    rw [Ideal.div_coe (pos S M).ne', Ideal.div_coe (pos T N).ne', ← EReal.coe_sub, ← EReal.coe_sub, exp_coe, exp_coe]
    push_cast
    rfl
  rw [Finset.sum_congr rfl fun k _ => this k, ← coe_sum]
  refine congrArg _ ?_
  rw [Finset.sum_div, Finset.sum_div, Finset.mul_sum, ← Finset.sum_sub_distrib]
  refine Finset.sum_congr rfl fun k _ => ?_
  ring

end Cert.AttMath

end
-- ==== Proof.AttKernel.lean ====
/- What the attention kernel computes for one subtile of queries, as one pass over nine chunks of keys and values. -/
module

public import proofs.«01_k».proof.Proof.Reads
public import proofs.«01_k».proof.Proof.AttMath
public import proofs.«01_k».proof.Proof.Gen.KernelIdeal.Value

@[expose] public section

noncomputable section

namespace Cert.AttK

open Cert.KernelIdeal Cert.KernelIdeal.Gen Idealize.ShloMosaic Idealize.ShloMosaic.ValueIdx Idealize.ShloMosaic.TcCoe Cert.Reads Cert.AttMath
open scoped BigOperators

/-- The running maximum, the running sum of weights and the running weighted sum of values, one column per query and component. -/
structure St where
  m : FVec Ideal S1x256 .f32
  l : FVec Ideal S1x256 .f32
  a : FVec Ideal S128x256 .f32

/-- A chunk's scores. -/
def sc (q : FVec Ideal S128x256 .bf16) (k : FVec Ideal S256x128 .bf16) : FVec Ideal S256x256 .f32 :=
  matmul dot_S256x128_S128x256_S256x256_1_0_0_1_n_n none k q (constant S256x256 .f32 0x00000000#32)

/-- The largest score of each column. -/
def colMax (s : FVec Ideal S256x256 .f32) : FVec Ideal S1x256 .f32 :=
  shapeCast S1x256 (multiReduction .maximumf [0] S256 s 0xFF800000#32 reduces_S256x256_S256 (.inl rfl) rfl) shapeCasts_S256_S1x256

/-- The weights relative to a maximum. -/
def wts (s : FVec Ideal S256x256 .f32) (m : FVec Ideal S1x256 .f32) : FVec Ideal S256x256 .f32 :=
  exp (subf s (broadcastTo S256x256 m broadcasts_S1x256_S256x256))

/-- The sum of each column. -/
def colSum (p : FVec Ideal S256x256 .f32) : FVec Ideal S1x256 .f32 :=
  shapeCast S1x256 (multiReduction .add [0] S256 p 0x00000000#32 reduces_S256x256_S256 (.inl rfl) rfl) shapeCasts_S256_S1x256

/-- The values weighted. -/
def avg (v : FVec Ideal S128x256 .bf16) (p : FVec Ideal S256x256 .f32) : FVec Ideal S128x256 .f32 :=
  matmul dot_S128x256_S256x256_S128x256_1_0_0_1_n_n none v (truncf .bf16 p bitsLt_bf16_f32) (constant S128x256 .f32 0x00000000#32)

/-- The state after the first chunk. -/
def first (q : FVec Ideal S128x256 .bf16) (k : FVec Ideal S256x128 .bf16) (v : FVec Ideal S128x256 .bf16) : St :=
  ⟨colMax (sc q k), colSum (wts (sc q k) (colMax (sc q k))), avg v (wts (sc q k) (colMax (sc q k)))⟩

/-- The new maximum. -/
def nm (q : FVec Ideal S128x256 .bf16) (m : FVec Ideal S1x256 .f32) (k : FVec Ideal S256x128 .bf16) : FVec Ideal S1x256 .f32 :=
  maximumf m (colMax (sc q k))

/-- The state after one more chunk. -/
def step (q : FVec Ideal S128x256 .bf16) (s : St) (k : FVec Ideal S256x128 .bf16) (v : FVec Ideal S128x256 .bf16) : St :=
  ⟨nm q s.m k,
   addf (mulf (exp (subf s.m (nm q s.m k))) s.l) (colSum (wts (sc q k) (nm q s.m k))),
   addf (mulf (broadcastTo S128x256 (exp (subf s.m (nm q s.m k))) broadcasts_S1x256_S128x256) s.a) (avg v (wts (sc q k) (nm q s.m k)))⟩

/-- The subtile's stored block, as the kernel's own payloads compose it. -/
def body (v3 : IVec S128x128 32) (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16) : FVec Ideal S128x128 .bf16 :=
  k0_pay7 (k0_pay55 (k0_pay5 v4) (k0_pay6 v7) (k0_pay13 v3 q)
    (k0_pay50 (k0_pay13 v3 q) (k0_pay39 (k0_pay13 v3 q) (k0_pay29 (k0_pay13 v3 q) (k0_pay20 v3 q k0 k1) k2 k3) k4 k5) k6 k7)
    (k0_pay53 (k0_pay13 v3 q) (k0_pay39 (k0_pay13 v3 q) (k0_pay29 (k0_pay13 v3 q) (k0_pay20 v3 q k0 k1) k2 k3) k4 k5)
      (k0_pay42 (k0_pay13 v3 q) (k0_pay29 (k0_pay13 v3 q) (k0_pay20 v3 q k0 k1) k2 k3)
        (k0_pay32 (k0_pay13 v3 q) (k0_pay17 v3 q k0) (k0_pay20 v3 q k0 k1) (k0_pay21 v3 q k0 k1) (k0_pay22 v3 q k0 k1) k2 k3)
        (k0_pay33 (k0_pay13 v3 q) (k0_pay20 v3 q k0 k1) k2 k3) k4 k5) k6 k7)
    (k0_pay54 (k0_pay13 v3 q) w5 (k0_pay39 (k0_pay13 v3 q) (k0_pay29 (k0_pay13 v3 q) (k0_pay20 v3 q k0 k1) k2 k3) k4 k5)
      (k0_pay43 (k0_pay13 v3 q)
        (k0_pay27 (k0_pay13 v3 q) (k0_pay18 v3 q k0 v0) v1 (k0_pay20 v3 q k0 k1) (k0_pay21 v3 q k0 k1) (k0_pay22 v3 q k0 k1) k2 v2)
        w3 (k0_pay29 (k0_pay13 v3 q) (k0_pay20 v3 q k0 k1) k2 k3) (k0_pay30 (k0_pay13 v3 q) (k0_pay20 v3 q k0 k1) k2 k3)
        (k0_pay31 (k0_pay13 v3 q) (k0_pay20 v3 q k0 k1) k2 k3) k4 w4 k5)
      (k0_pay44 (k0_pay13 v3 q) (k0_pay29 (k0_pay13 v3 q) (k0_pay20 v3 q k0 k1) k2 k3) k4 k5) k6 w6 k7 w7)
    k8 w8) (k0_pay56 g)

section Fold
variable (q : FVec Ideal S128x256 .bf16) (s : St)

theorem m39 (k4 k5 : FVec Ideal S256x128 .bf16) : k0_pay39 q s.m k4 k5 = nm q (nm q s.m k4) k5 := rfl
theorem m29 (k4 k5 : FVec Ideal S256x128 .bf16) : k0_pay29 q s.m k4 k5 = nm q (nm q s.m k4) k5 := rfl
theorem m50 (k4 k5 : FVec Ideal S256x128 .bf16) : k0_pay50 q s.m k4 k5 = nm q (nm q s.m k4) k5 := rfl

theorem l53 (k4 k5 : FVec Ideal S256x128 .bf16) (v4 v5 : FVec Ideal S128x256 .bf16) : k0_pay53 q s.m s.l k4 k5 = (step q (step q s k4 v4) k5 v5).l := rfl

theorem l42 (l1 l2 : FVec Ideal S1x256 .f32) (h : addf l1 l2 = s.l) (k4 k5 : FVec Ideal S256x128 .bf16) (v4 v5 : FVec Ideal S128x256 .bf16) :
    k0_pay42 q s.m l1 l2 k4 k5 = (step q (step q s k4 v4) k5 v5).l := by
  unfold step
  dsimp only
  rw [← h]
  rfl

theorem a54 (a4 : FVec Ideal S128x256 .f32) (p : FVec Ideal S256x256 .bf16) (w5 : FVec Ideal S128x256 .bf16)
    (h : addf a4 (matmul dot_S128x256_S256x256_S128x256_1_0_0_1_n_n none w5 p (constant S128x256 .f32 0x00000000#32)) = s.a)
    (k4 k5 : FVec Ideal S256x128 .bf16) (v4 v5 : FVec Ideal S128x256 .bf16) :
    k0_pay54 q w5 s.m a4 p k4 v4 k5 v5 = (step q (step q s k4 v4) k5 v5).a := by
  unfold step
  dsimp only
  rw [← h]
  rfl

theorem a43 (k3 k4 k5 : FVec Ideal S256x128 .bf16) (w3 w4 w5 : FVec Ideal S128x256 .bf16) :
    addf (k0_pay43 q s.a w3 (nm q s.m k3) (exp (subf s.m (nm q s.m k3))) (wts (sc q k3) (nm q s.m k3)) k4 w4 k5)
        (matmul dot_S128x256_S256x256_S128x256_1_0_0_1_n_n none w5 (k0_pay44 q (nm q s.m k3) k4 k5) (constant S128x256 .f32 0x00000000#32))
      = (step q (step q (step q s k3 w3) k4 w4) k5 w5).a := rfl

end Fold

section Fold2
variable (v3 : IVec S128x128 32) (q : FVec Ideal S128x128 .bf16) (k0 k1 k2 k3 : FVec Ideal S256x128 .bf16) (v0 v1 v2 w3 : FVec Ideal S128x256 .bf16)

theorem s14 : k0_pay14 v3 q k0 = sc (k0_pay13 v3 q) k0 := by
  unfold k0_pay14 sc
  rfl

theorem s19 : k0_pay19 v3 q k0 = sc (k0_pay13 v3 q) k0 := by
  unfold k0_pay19 sc
  rfl

theorem m15 : k0_pay15 v3 q k0 = colMax (sc (k0_pay13 v3 q) k0) := by
  unfold k0_pay15
  rw [s14]
  rfl

theorem p16 : k0_pay16 v3 q k0 = wts (sc (k0_pay13 v3 q) k0) (colMax (sc (k0_pay13 v3 q) k0)) := by
  unfold k0_pay16
  rw [s14, m15]
  rfl

theorem l17 : k0_pay17 v3 q k0 = (first (k0_pay13 v3 q) k0 v0).l := by
  unfold k0_pay17
  rw [p16]
  rfl

theorem a18 : k0_pay18 v3 q k0 v0 = (first (k0_pay13 v3 q) k0 v0).a := by
  unfold k0_pay18
  rw [p16]
  rfl

theorem m20 : k0_pay20 v3 q k0 k1 = nm (k0_pay13 v3 q) (first (k0_pay13 v3 q) k0 v0).m k1 := by
  unfold k0_pay20
  rw [s19, m15]
  generalize k0_pay13 (F := Ideal) v3 q = z
  unfold nm first
  dsimp only
  rfl

theorem e21 : k0_pay21 v3 q k0 k1 = exp (subf (first (k0_pay13 v3 q) k0 v0).m (nm (k0_pay13 v3 q) (first (k0_pay13 v3 q) k0 v0).m k1)) := by
  unfold k0_pay21
  rw [m20 v3 q k0 k1 v0, m15]
  generalize k0_pay13 (F := Ideal) v3 q = z
  generalize nm z _ k1 = y
  unfold first
  dsimp only

theorem e22 : k0_pay22 v3 q k0 k1 = wts (sc (k0_pay13 v3 q) k1) (nm (k0_pay13 v3 q) (first (k0_pay13 v3 q) k0 v0).m k1) := by
  unfold k0_pay22
  rw [m20 v3 q k0 k1 v0, s19]
  generalize k0_pay13 (F := Ideal) v3 q = z
  rfl

end Fold2

section Fold3
variable (q : FVec Ideal S128x256 .bf16) (s : St) (k1 k2 k3 : FVec Ideal S256x128 .bf16) (v1 v2 w3 : FVec Ideal S128x256 .bf16)

theorem a27 : k0_pay27 q s.a v1 (nm q s.m k1) (exp (subf s.m (nm q s.m k1))) (wts (sc q k1) (nm q s.m k1)) k2 v2
    = (step q (step q s k1 v1) k2 v2).a := rfl

theorem l32 : addf (k0_pay32 q s.l (nm q s.m k1) (exp (subf s.m (nm q s.m k1))) (wts (sc q k1) (nm q s.m k1)) k2 k3)
      (k0_pay33 q (nm q s.m k1) k2 k3)
    = (step q (step q (step q s k1 v1) k2 v2) k3 w3).l := rfl

theorem e30 : k0_pay30 q s.m k1 k2 = exp (subf (nm q s.m k1) (nm q (nm q s.m k1) k2)) := rfl
theorem e31 : k0_pay31 q s.m k1 k2 = wts (sc q k2) (nm q (nm q s.m k1) k2) := rfl

/-- What is done with the state after the last chunk: divide by the sum, subtract the second component's share, normalise and scale. -/
def tail (v6 v8 : FVec Ideal S1x128 .f32) (s : St) : FVec Ideal S128x128 .f32 :=
  let o := mulf s.a (broadcastTo S128x256 (divf (broadcast S1x256 (Scalar.ofBits .f32 0x3F800000#32 : Ideal .f32)) s.l) broadcasts_S1x256_S128x256)
  let ot := subf (extractStridedSlice S128x128 ![0, 0] o slices_S128x256_o0_0_S128x128)
    (mulf (broadcastTo S128x128 v6 broadcasts_S1x128_S128x128) (extractStridedSlice S128x128 ![0, 128] o slices_S128x256_o0_128_S128x128))
  let oq : FVec Ideal S128x128 .f32 := transpose S128x128 [1, 0] ot transposes_S128x128_p1_0_S128x128
  let ms := divf (shapeCast S128x1 (multiReduction .add [1] S128 (mulf oq oq) 0x00000000#32 reduces_S128x128_S128 (.inl rfl) rfl) shapeCasts_S128_S128x1)
    (broadcast S128x1 (Scalar.ofBits .f32 0x43000000#32 : Ideal .f32))
  mulf (mulf (mulf oq (broadcastTo S128x128 (rsqrt (addf ms (broadcast S128x1 (Scalar.ofBits .f32 0x358637BD#32 : Ideal .f32)))) broadcasts_S128x1_S128x128))
    (broadcastTo S128x128 v8 broadcasts_S1x128_S128x128)) (broadcast S128x128 (Scalar.ofBits .f32 0x3F4CCCCD#32 : Ideal .f32))

theorem t55 (v6 v8 : FVec Ideal S1x128 .f32) : k0_pay55 v6 v8 q s.m s.l s.a k1 v1 = tail v6 v8 (step q s k1 v1) := rfl

end Fold3

/-- The state after all nine chunks. -/
def all (q : FVec Ideal S128x256 .bf16) (k0 k1 k2 k3 k4 k5 k6 k7 k8 : FVec Ideal S256x128 .bf16) (v0 v1 v2 w3 w4 w5 w6 w7 w8 : FVec Ideal S128x256 .bf16) : St :=
  step q (step q (step q (step q (step q (step q (step q (step q (first q k0 v0) k1 v1) k2 v2) k3 w3) k4 w4) k5 w5) k6 w6) k7 w7) k8 w8

/-- The kernel's payloads are that pass. -/
theorem body_eq (v3 : IVec S128x128 32) (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16) :
    body v3 q v4 v7 g k0 k1 k2 k3 k4 k5 k6 k7 k8 v0 v1 v2 w3 w4 w5 w6 w7 w8
      = k0_pay7 (tail (k0_pay5 v4) (k0_pay6 v7) (all (k0_pay13 v3 q) k0 k1 k2 k3 k4 k5 k6 k7 k8 v0 v1 v2 w3 w4 w5 w6 w7 w8)) (k0_pay56 g) := by
  unfold body all
  rw [m20 v3 q k0 k1 v0, e21 v3 q k0 k1 v0, e22 v3 q k0 k1 v0, l17 v3 q k0 v0, a18]
  generalize k0_pay13 (F := Ideal) v3 q = q
  generalize first q k0 v0 = s0
  have h2 : ∀ k v, (step q s0 k v).m = nm q s0.m k := fun _ _ => rfl
  rw [a27, ← h2 k1 v1, m29, e30, e31]
  have h4 := l32 q s0 k1 k2 k3 v1 v2 w3
  rw [← h2 k1 v1] at h4
  rw [← t55]
  generalize hs3 : step q (step q (step q s0 k1 v1) k2 v2) k3 w3 = s3 at h4 ⊢
  have hm3 : nm q (nm q (step q s0 k1 v1).m k2) k3 = s3.m := by rw [← hs3]; rfl
  rw [hm3, m39]
  rw [l42 q s3 _ _ h4 k4 k5 w4 w5]
  have h5 := a43 q (step q (step q s0 k1 v1) k2 v2) k3 k4 k5 w3 w4 w5
  rw [hs3] at h5
  have hm2 : (step q (step q s0 k1 v1) k2 v2).m = nm q (step q s0 k1 v1).m k2 := rfl
  rw [hm2, hm3] at h5
  generalize hs5 : step q (step q s3 k4 w4) k5 w5 = s5 at h5 ⊢
  have hm5 : nm q (nm q s3.m k4) k5 = s5.m := by rw [← hs5]; rfl
  rw [hm5, m50, l53 q s5 k6 k7 w6 w7, a54 q s5 _ _ _ h5]
  rfl

end Cert.AttK

end
-- ==== Proof.AttEntry.lean ====
/- The attention kernel's subtile at one entry: the difference of two softmax means, normalised, scaled and gated. -/
module

public import proofs.«01_k».proof.Proof.AttKernel
public import Idealize.ShloMosaic.Lib.IdealHost

@[expose] public section

noncomputable section

namespace Cert.AttK

open Cert.KernelIdeal Cert.KernelIdeal.Gen Idealize.ShloMosaic Idealize.ShloMosaic.ValueIdx Idealize.ShloMosaic.TcCoe Cert.Reads Cert.AttMath
open scoped BigOperators

theorem ofBits_negInf : Ideal.ofBits .f32 0xFF800000#32 = ⊥ := by
  simp [Ideal.ofBits, Ideal.ieee]

theorem sc_apply (q : FVec Ideal S128x256 .bf16) (k : FVec Ideal S256x128 .bf16) (i j : Fin 256) :
    sc q k (ix2 i j) = ∑ d : Fin 128, k (ix2 i d) * q (ix2 d j) := dot2 none k q i j

theorem avg_apply (v : FVec Ideal S128x256 .bf16) (p : FVec Ideal S256x256 .f32) (e : Fin 128) (j : Fin 256) :
    avg v p (ix2 e j) = ∑ i : Fin 256, v (ix2 e i) * p (ix2 i j) := dot2 none v (truncf .bf16 p bitsLt_bf16_f32) e j

theorem colMax_apply (s : FVec Ideal S256x256 .f32) (j : Fin 256) :
    colMax s (ix2 0 j) = Finset.univ.fold max (⊥ : EReal) (fun i : Fin 256 => s (ix2 i j)) := by
  unfold colMax
  rw [castRow]
  refine (Ideal.multiReduction_maximumf_single (φ := .f32) s 0xFF800000#32 reduces_S256x256_S256 (.inl rfl) rfl (ix1 j)).trans ?_
  refine (congrArg (fun b => Finset.univ.fold max b _) ofBits_negInf).trans ?_
  refine Finset.fold_congr fun i _ => ?_
  exact congrArg s (lift_col reduces_S256x256_S256 j i)

theorem colSum_apply (p : FVec Ideal S256x256 .f32) (j : Fin 256) : colSum p (ix2 0 j) = ∑ i : Fin 256, p (ix2 i j) := by
  unfold colSum
  rw [castRow]
  exact sumCol p reduces_S256x256_S256 (.inl rfl) rfl j

theorem wts_apply (s : FVec Ideal S256x256 .f32) (m : FVec Ideal S1x256 .f32) (i j : Fin 256) :
    wts s m (ix2 i j) = Ideal.exp (s (ix2 i j) - m (ix2 0 j)) := by
  unfold wts
  show Ideal.exp (s (ix2 i j) - broadcastTo S256x256 m broadcasts_S1x256_S256x256 (ix2 i j)) = _
  rw [bcRow]

section Column
variable (q : FVec Ideal S128x256 .bf16) (j : Fin 256) (e : Fin 128) (s v : ℕ → Fin 256 → ℝ)

/-- The first chunk's state at a column. -/
theorem first_inv (k : FVec Ideal S256x128 .bf16) (w : FVec Ideal S128x256 .bf16)
    (hs : ∀ i, sc q k (ix2 i j) = ((s 0 i : ℝ) : EReal)) (hv : ∀ i, w (ix2 e i) = ((v 0 i : ℝ) : EReal)) :
    Inv s v 1 ((first q k w).m (ix2 0 j)) ((first q k w).l (ix2 0 j)) ((first q k w).a (ix2 e j)) := by
  unfold first
  dsimp only
  rw [colSum_apply, avg_apply]
  simp only [wts_apply, colMax_apply, hs, hv]
  exact inv_first s v

/-- One more chunk at a column. -/
theorem step_inv (n : ℕ) (st : St) (k : FVec Ideal S256x128 .bf16) (w : FVec Ideal S128x256 .bf16)
    (h : Inv s v n (st.m (ix2 0 j)) (st.l (ix2 0 j)) (st.a (ix2 e j)))
    (hs : ∀ i, sc q k (ix2 i j) = ((s n i : ℝ) : EReal)) (hv : ∀ i, w (ix2 e i) = ((v n i : ℝ) : EReal)) :
    Inv s v (n + 1) ((step q st k w).m (ix2 0 j)) ((step q st k w).l (ix2 0 j)) ((step q st k w).a (ix2 e j)) := by
  have hm : (step q st k w).m (ix2 0 j) = max (st.m (ix2 0 j)) (Finset.univ.fold max (⊥ : EReal) (fun i => ((s n i : ℝ) : EReal))) := by
    show max (st.m (ix2 0 j)) (colMax (sc q k) (ix2 0 j)) = _
    simp only [colMax_apply, hs]
  have key := inv_step s v n _ _ _ _ h hm
  have hl : (step q st k w).l (ix2 0 j) = Ideal.exp (st.m (ix2 0 j) - (step q st k w).m (ix2 0 j)) * st.l (ix2 0 j)
      + ∑ i, Ideal.exp ((s n i : EReal) - (step q st k w).m (ix2 0 j)) := by
    show Ideal.exp (st.m (ix2 0 j) - nm q st.m k (ix2 0 j)) * st.l (ix2 0 j) + colSum (wts (sc q k) (nm q st.m k)) (ix2 0 j) = _
    rw [colSum_apply]
    simp only [wts_apply, hs]
    rfl
  have ha : (step q st k w).a (ix2 e j) = Ideal.exp (st.m (ix2 0 j) - (step q st k w).m (ix2 0 j)) * st.a (ix2 e j)
      + ∑ i, (v n i : EReal) * Ideal.exp ((s n i : EReal) - (step q st k w).m (ix2 0 j)) := by
    show broadcastTo S128x256 (exp (F := Ideal) (subf st.m (nm q st.m k))) broadcasts_S1x256_S128x256 (ix2 e j) * st.a (ix2 e j)
      + avg w (wts (sc q k) (nm q st.m k)) (ix2 e j) = _
    rw [bcRow, avg_apply]
    simp only [wts_apply, hs, hv]
    rfl
  rw [hl, ha]
  exact key

end Column

/-- The lanes below 64, as the kernel's comparison of lane numbers decides them. -/
theorem slt64 : ∀ d : Fin 128, IntOp.cmpi .slt (BitVec.ofNat 32 d.val) 64#32 = if d.val < 64 then 1#1 else 0#1 := by decide +kernel
theorem sge64 : ∀ d : Fin 128, IntOp.cmpi .sge (BitVec.ofNat 32 d.val) 64#32 = if d.val < 64 then 0#1 else 1#1 := by decide +kernel

/-- A matrix turned. -/
theorem tr2 {M N : Nat} {α : Type} (x : (⟨2, ![M, N]⟩ : Shape).Idx → α) (h : (⟨2, ![M, N]⟩ : Shape).Transposes [1, 0] ⟨2, ![N, M]⟩) (r : Fin N) (c : Fin M) :
    transpose (⟨2, ![N, M]⟩ : Shape) [1, 0] x h (ix2 r c) = x (ix2 c r) := by
  refine transpose_apply _ _ _ _ _ fun b => ?_
  match b with
  | ⟨0, _⟩ => rfl
  | ⟨1, _⟩ => rfl

/-- The row numbers the kernel compares. -/
abbrev rows : IVec S128x128 32 := iota .tc S128x128 32 [0] iota_S128x128_d0_w32

/-- The queries turned: in the first component's columns the lanes below 64, zero above. -/
theorem q0_apply (q : FVec Ideal S128x128 .bf16) (d r : Fin 128) :
    k0_pay13 rows q (ix2 d ⟨r.val, by omega⟩) = if d.val < 64 then q (ix2 r d) else 0 := by
  unfold k0_pay13
  dsimp only
  rw [truncf_apply, concatenate_pair_apply_left 1 _ _ concatenates_S128x128_S128x128_S128x256_d1 (ix2 d ⟨r.val, by omega⟩) rfl (ix2 d r)
    (fun b => match b with | ⟨0, _⟩ => rfl | ⟨1, _⟩ => rfl)]
  rw [select_apply]
  show Scalar.select (IntOp.cmpi .slt (rows (ix2 d r)) 64#32) _ _ = _
  rw [show rows (ix2 d r) = BitVec.ofNat 32 d.val from iota_single_apply _ _ _ _ _ _, slt64, tr2]
  split_ifs
  · rfl
  · exact Ideal.ofBits_zero_f32

/-- In the second component's columns the lanes from 64 on, zero below. -/
theorem q1_apply (q : FVec Ideal S128x128 .bf16) (d r : Fin 128) :
    k0_pay13 rows q (ix2 d ⟨128 + r.val, by omega⟩) = if d.val < 64 then 0 else q (ix2 r d) := by
  unfold k0_pay13
  dsimp only
  rw [truncf_apply, concatenate_pair_apply_right 1 _ _ concatenates_S128x128_S128x128_S128x256_d1 (ix2 d ⟨128 + r.val, by omega⟩) rfl rfl (ix2 d r)
    (fun b hb => match b with | ⟨0, _⟩ => rfl | ⟨1, _⟩ => absurd rfl hb) (by show r.val + 128 = 128 + r.val; omega)]
  rw [select_apply]
  show Scalar.select (IntOp.cmpi .sge (rows (ix2 d r)) 64#32) _ _ = _
  rw [show rows (ix2 d r) = BitVec.ofNat 32 d.val from iota_single_apply _ _ _ _ _ _, sge64, tr2]
  split_ifs
  · exact Ideal.ofBits_zero_f32
  · rfl

/-- A sum over the lanes is the sum over each half. -/
theorem halves (f : Fin 128 → EReal) : ∑ d, f d = ∑ d : Fin 64, f ⟨d.val, by omega⟩ + ∑ d : Fin 64, f ⟨64 + d.val, by omega⟩ :=
  Fin.sum_univ_add (M := EReal) (a := 64) (b := 64) f

/-- The first component's score: the product over the lanes below 64. -/
theorem score0 (q : FVec Ideal S128x128 .bf16) (k : FVec Ideal S256x128 .bf16) (Q : Fin 128 → Fin 128 → ℝ) (K : Fin 256 → Fin 128 → ℝ)
    (hq : ∀ r d, q (ix2 r d) = ((Q r d : ℝ) : EReal)) (hk : ∀ i d, k (ix2 i d) = ((K i d : ℝ) : EReal)) (i : Fin 256) (r : Fin 128) :
    sc (k0_pay13 rows q) k (ix2 i ⟨r.val, by omega⟩) = ((∑ d : Fin 64, Q r ⟨d.val, by omega⟩ * K i ⟨d.val, by omega⟩ : ℝ) : EReal) := by
  rw [sc_apply, halves, coe_sum]
  simp only [q0_apply, hk, hq]
  have h2 : ∑ d : Fin 64, ((K i ⟨64 + d.val, by omega⟩ : ℝ) : EReal) * (if 64 + d.val < 64 then ((Q r ⟨64 + d.val, by omega⟩ : ℝ) : EReal) else 0) = 0 :=
    Finset.sum_eq_zero fun d _ => by rw [if_neg (by omega), mul_zero]
  rw [h2, add_zero]
  refine Finset.sum_congr rfl fun d _ => ?_
  rw [if_pos d.isLt, ← EReal.coe_mul, mul_comm]

/-- The second component's score: the product over the lanes from 64 on. -/
theorem score1 (q : FVec Ideal S128x128 .bf16) (k : FVec Ideal S256x128 .bf16) (Q : Fin 128 → Fin 128 → ℝ) (K : Fin 256 → Fin 128 → ℝ)
    (hq : ∀ r d, q (ix2 r d) = ((Q r d : ℝ) : EReal)) (hk : ∀ i d, k (ix2 i d) = ((K i d : ℝ) : EReal)) (i : Fin 256) (r : Fin 128) :
    sc (k0_pay13 rows q) k (ix2 i ⟨128 + r.val, by omega⟩) = ((∑ d : Fin 64, Q r ⟨64 + d.val, by omega⟩ * K i ⟨64 + d.val, by omega⟩ : ℝ) : EReal) := by
  rw [sc_apply, halves, coe_sum]
  simp only [q1_apply, hk, hq]
  have h2 : ∑ d : Fin 64, ((K i ⟨d.val, by omega⟩ : ℝ) : EReal) * (if d.val < 64 then 0 else ((Q r ⟨d.val, by omega⟩ : ℝ) : EReal)) = 0 :=
    Finset.sum_eq_zero fun d _ => by rw [if_pos d.isLt, mul_zero]
  rw [h2, zero_add]
  refine Finset.sum_congr rfl fun d _ => ?_
  rw [if_neg (by omega), ← EReal.coe_mul, mul_comm]

/-- A head's output row: divided by the root of its mean square plus epsilon, times the scale of the norm and the layer's factor. -/
def headOut (o sg : Fin 128 → EReal) (e : Fin 128) : EReal :=
  o e * Ideal.rsqrt (Ideal.div (∑ k : Fin 128, o k * o k) (Ideal.ofBits .f32 0x43000000#32) + Ideal.ofBits .f32 0x358637BD#32) * sg e
    * Ideal.ofBits .f32 0x3F4CCCCD#32

theorem tail_apply (v6 v8 : FVec Ideal S1x128 .f32) (s : St) (r e : Fin 128) (o : Fin 128 → EReal)
    (ho : ∀ e : Fin 128, s.a (ix2 e ⟨r.val, by omega⟩) * Ideal.div 1 (s.l (ix2 0 ⟨r.val, by omega⟩))
      - v6 (ix2 0 r) * (s.a (ix2 e ⟨128 + r.val, by omega⟩) * Ideal.div 1 (s.l (ix2 0 ⟨128 + r.val, by omega⟩))) = o e) :
    tail v6 v8 s (ix2 r e) = headOut o (fun e => v8 (ix2 0 e)) e := by
  unfold tail
  dsimp only
  generalize hO : (mulf s.a (broadcastTo S128x256 (divf (broadcast S1x256 (Scalar.ofBits .f32 0x3F800000#32 : Ideal .f32)) s.l) broadcasts_S1x256_S128x256) : FVec Ideal S128x256 .f32) = O
  have hOa : ∀ (e : Fin 128) (j : Fin 256), O (ix2 e j) = s.a (ix2 e j) * Ideal.div 1 (s.l (ix2 0 j)) := by
    intro e j
    rw [← hO, mulf_apply, bcRow, divf_apply]
    refine congrArg (fun z => s.a (ix2 e j) * Ideal.div z (s.l (ix2 0 j))) ?_
    exact Ideal.ofBits_one_f32
  generalize hT : (transpose S128x128 [1, 0] (subf (extractStridedSlice S128x128 ![0, 0] O slices_S128x256_o0_0_S128x128)
    (mulf (broadcastTo S128x128 v6 broadcasts_S1x128_S128x128) (extractStridedSlice S128x128 ![0, 128] O slices_S128x256_o0_128_S128x128))) transposes_S128x128_p1_0_S128x128 : FVec Ideal S128x128 .f32) = T
  have hTa : ∀ e : Fin 128, T (ix2 r e) = o e := by
    intro e
    rw [← hT, tr2, subf_apply, mulf_apply, bcRow, slice2 _ _ e r e ⟨r.val, by omega⟩ (by simp) (by simp), slice2 _ _ e r e ⟨128 + r.val, by omega⟩ (by simp) rfl,
      hOa, hOa]
    exact ho e
  rw [mulf_apply, mulf_apply, mulf_apply, bcRow, bcCol, hTa]
  unfold headOut
  refine congrArg₂ (· * ·) (congrArg₂ (· * ·) (congrArg₂ (· * ·) rfl (congrArg Ideal.rsqrt ?_)) rfl) rfl
  rw [addf_apply, divf_apply, castCol, sumRow]
  simp only [mulf_apply, hTa]
  rfl

/-- The gate: `g · sigmoid(g)`. -/
def silu (g : EReal) : EReal := g * Ideal.logistic g

/-- The subtile's stored block at an entry, for real queries, keys and values: chunk `n`'s keys are rows `256 n ..` of `K`, its values rows of `W`. -/
theorem body_apply (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16)
    (Q : Fin 128 → Fin 128 → ℝ) (K W : ℕ → Fin 256 → Fin 128 → ℝ) (K' W' : Fin 2304 → Fin 128 → ℝ) (hq : ∀ r d, q (ix2 r d) = ((Q r d : ℝ) : EReal))
    (hk0 : ∀ i d, k0 (ix2 i d) = ((K 0 i d : ℝ) : EReal)) (hk1 : ∀ i d, k1 (ix2 i d) = ((K 1 i d : ℝ) : EReal))
    (hk2 : ∀ i d, k2 (ix2 i d) = ((K 2 i d : ℝ) : EReal)) (hk3 : ∀ i d, k3 (ix2 i d) = ((K 3 i d : ℝ) : EReal))
    (hk4 : ∀ i d, k4 (ix2 i d) = ((K 4 i d : ℝ) : EReal)) (hk5 : ∀ i d, k5 (ix2 i d) = ((K 5 i d : ℝ) : EReal))
    (hk6 : ∀ i d, k6 (ix2 i d) = ((K 6 i d : ℝ) : EReal)) (hk7 : ∀ i d, k7 (ix2 i d) = ((K 7 i d : ℝ) : EReal))
    (hk8 : ∀ i d, k8 (ix2 i d) = ((K 8 i d : ℝ) : EReal))
    (hv0 : ∀ e i, v0 (ix2 e i) = ((W 0 i e : ℝ) : EReal)) (hv1 : ∀ e i, v1 (ix2 e i) = ((W 1 i e : ℝ) : EReal))
    (hv2 : ∀ e i, v2 (ix2 e i) = ((W 2 i e : ℝ) : EReal)) (hv3 : ∀ e i, w3 (ix2 e i) = ((W 3 i e : ℝ) : EReal))
    (hv4 : ∀ e i, w4 (ix2 e i) = ((W 4 i e : ℝ) : EReal)) (hv5 : ∀ e i, w5 (ix2 e i) = ((W 5 i e : ℝ) : EReal))
    (hv6 : ∀ e i, w6 (ix2 e i) = ((W 6 i e : ℝ) : EReal)) (hv7 : ∀ e i, w7 (ix2 e i) = ((W 7 i e : ℝ) : EReal))
    (hv8 : ∀ e i, w8 (ix2 e i) = ((W 8 i e : ℝ) : EReal))
    (hK : ∀ (j : Fin 9) (i : Fin 256), K j.val i = K' ⟨256 * j.val + i.val, by omega⟩)
    (hW : ∀ (j : Fin 9) (i : Fin 256), W j.val i = W' ⟨256 * j.val + i.val, by omega⟩) (r e : Fin 128) :
    body rows q v4 v7 g k0 k1 k2 k3 k4 k5 k6 k7 k8 v0 v1 v2 w3 w4 w5 w6 w7 w8 (ix2 r e)
      = headOut (fun e => ((mean (fun i => ∑ d : Fin 64, Q r ⟨d.val, by omega⟩ * K' i ⟨d.val, by omega⟩) (fun i => W' i e) : ℝ) : EReal)
          - v4 (ix3 0 0 r) * ((mean (fun i => ∑ d : Fin 64, Q r ⟨64 + d.val, by omega⟩ * K' i ⟨64 + d.val, by omega⟩) (fun i => W' i e) : ℝ) : EReal))
          (fun e => v7 (ix2 0 e)) e * silu (g (ix2 r e)) := by
  rw [body_eq]
  unfold k0_pay7 k0_pay56

  rw [truncf_apply, mulf_apply, mulf_apply, extf_apply]
  refine congrArg₂ (· * ·) ?_ rfl
  refine (tail_apply _ _ _ r e (fun e => ((mean (fun i => ∑ d : Fin 64, Q r ⟨d.val, by omega⟩ * K' i ⟨d.val, by omega⟩) (fun i => W' i e) : ℝ) : EReal)
          - v4 (ix3 0 0 r) * ((mean (fun i => ∑ d : Fin 64, Q r ⟨64 + d.val, by omega⟩ * K' i ⟨64 + d.val, by omega⟩) (fun i => W' i e) : ℝ) : EReal)) ?_).trans ?_
  · intro e
    have h6 : k0_pay5 v4 (ix2 0 r) = v4 (ix3 0 0 r) := by
      unfold k0_pay5

      rw [slice2 _ _ 0 r 0 r rfl (by simp), castDrop]
    rw [h6]
    refine congrArg₂ (· - ·) ?_ (congrArg (v4 (ix3 0 0 r) * ·) ?_)
    · have s0 := fun k (n : ℕ) h i => score0 q k Q (K n) hq h i r
      refine inv_mean (fun n i => ∑ d : Fin 64, Q r ⟨d.val, by omega⟩ * K n i ⟨d.val, by omega⟩) (fun n i => W n i e) _ _ ((all (k0_pay13 rows q) k0 k1 k2 k3 k4 k5 k6 k7 k8 v0 v1 v2 w3 w4 w5 w6 w7 w8).m (ix2 0 (⟨r.val, by omega⟩ : Fin 256))) _ _ ?_ ?_ ?_
      · unfold all
        refine step_inv _ _ e _ _ 8 _ k8 w8 ?_ (s0 k8 8 hk8) (hv8 e)
        refine step_inv _ _ e _ _ 7 _ k7 w7 ?_ (s0 k7 7 hk7) (hv7 e)
        refine step_inv _ _ e _ _ 6 _ k6 w6 ?_ (s0 k6 6 hk6) (hv6 e)
        refine step_inv _ _ e _ _ 5 _ k5 w5 ?_ (s0 k5 5 hk5) (hv5 e)
        refine step_inv _ _ e _ _ 4 _ k4 w4 ?_ (s0 k4 4 hk4) (hv4 e)
        refine step_inv _ _ e _ _ 3 _ k3 w3 ?_ (s0 k3 3 hk3) (hv3 e)
        refine step_inv _ _ e _ _ 2 _ k2 v2 ?_ (s0 k2 2 hk2) (hv2 e)
        refine step_inv _ _ e _ _ 1 _ k1 v1 ?_ (s0 k1 1 hk1) (hv1 e)
        exact first_inv _ _ e _ _ k0 v0 (s0 k0 0 hk0) (hv0 e)
      · intro j i
        simp only [hK]
      · intro j i
        simp only [hW]
    · have s0 := fun k (n : ℕ) h i => score1 q k Q (K n) hq h i r
      refine inv_mean (fun n i => ∑ d : Fin 64, Q r ⟨64 + d.val, by omega⟩ * K n i ⟨64 + d.val, by omega⟩) (fun n i => W n i e) _ _ ((all (k0_pay13 rows q) k0 k1 k2 k3 k4 k5 k6 k7 k8 v0 v1 v2 w3 w4 w5 w6 w7 w8).m (ix2 0 (⟨128 + r.val, by omega⟩ : Fin 256))) _ _ ?_ ?_ ?_
      · unfold all
        refine step_inv _ _ e _ _ 8 _ k8 w8 ?_ (s0 k8 8 hk8) (hv8 e)
        refine step_inv _ _ e _ _ 7 _ k7 w7 ?_ (s0 k7 7 hk7) (hv7 e)
        refine step_inv _ _ e _ _ 6 _ k6 w6 ?_ (s0 k6 6 hk6) (hv6 e)
        refine step_inv _ _ e _ _ 5 _ k5 w5 ?_ (s0 k5 5 hk5) (hv5 e)
        refine step_inv _ _ e _ _ 4 _ k4 w4 ?_ (s0 k4 4 hk4) (hv4 e)
        refine step_inv _ _ e _ _ 3 _ k3 w3 ?_ (s0 k3 3 hk3) (hv3 e)
        refine step_inv _ _ e _ _ 2 _ k2 v2 ?_ (s0 k2 2 hk2) (hv2 e)
        refine step_inv _ _ e _ _ 1 _ k1 v1 ?_ (s0 k1 1 hk1) (hv1 e)
        exact first_inv _ _ e _ _ k0 v0 (s0 k0 0 hk0) (hv0 e)
      · intro j i
        simp only [hK]
      · intro j i
        simp only [hW]
  · unfold k0_pay6
    rw [shapeCast_self]

end Cert.AttK

end
-- ==== Proof.AttPieces.lean ====
/- The attention kernel's stored pieces: what each trip of its loop stores, and the turned values kept between points. -/
module

public import proofs.«01_k».proof.Proof.AttEntry
public import Idealize.ShloMosaic.Lib.Claim

@[expose] public section

noncomputable section

namespace Cert.AttK

open Cert.KernelIdeal Cert.KernelIdeal.Gen Idealize.ShloMosaic Idealize.ShloMosaic.ValueIdx Idealize.ShloMosaic.TcCoe Cert.Reads Idealize.SL.Sem
open scoped BigOperators

/-- Rows `o ..` of the keys. -/
abbrev rowsAt (x : Vec Ideal S2048x128 .bf16) (o : ℕ) (h : ∀ a, (![o, 0] : Fin 2 → ℕ) a + (![256, 128] : Fin 2 → ℕ) a ≤ S2048x128.size a) : FVec Ideal S256x128 .bf16 :=
  View.ld (Val := Elt Ideal) (e' := .bf16) x (Rect.unit (s := S2048x128) ![o, 0] ![256, 128] h)

/-- Columns `o ..` of the turned values. -/
abbrev colsAt (x : Vec Ideal S128x2304 .bf16) (o : ℕ) (h : ∀ a, (![0, o] : Fin 2 → ℕ) a + (![128, 256] : Fin 2 → ℕ) a ≤ S128x2304.size a) : FVec Ideal S128x256 .bf16 :=
  View.ld (Val := Elt Ideal) (e' := .bf16) x (Rect.unit (s := S128x2304) ![0, o] ![128, 256] h)

/-- The rows a trip works on. -/
abbrev rowsOf (x : Vec Ideal S512x128 .bf16) (k : Fin k0_t1_loop.trips) : FVec Ideal S128x128 .bf16 :=
  View.ld (Val := Elt Ideal) (e' := .bf16) x (Rect.unit (s := S512x128) (k0_off1 k) ![128, 128] (k0_off1_inb k))

/-- What trip `k` stores, from the blocks and the turned values. -/
def stored (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) (k : Fin k0_t1_loop.trips) : FVec Ideal S128x128 .bf16 :=
  body rows (rowsOf x0 k) x6 x7 (rowsOf x5 k) x1
    (rowsAt x3 0 (by decide)) (rowsAt x3 256 (by decide)) (rowsAt x3 512 (by decide)) (rowsAt x3 768 (by decide))
    (rowsAt x3 1024 (by decide)) (rowsAt x3 1280 (by decide)) (rowsAt x3 1536 (by decide)) (rowsAt x3 1792 (by decide))
    (colsAt s 0 (by decide)) (colsAt s 256 (by decide)) (colsAt s 512 (by decide)) (colsAt s 768 (by decide)) (colsAt s 1024 (by decide))
    (colsAt s 1280 (by decide)) (colsAt s 1536 (by decide)) (colsAt s 1792 (by decide)) (colsAt s 2048 (by decide))

/-- A trip's one piece. -/
theorem trip_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (v4 : Vec Ideal S1x8x128 .f32) (v7 : Vec Ideal S1x128 .f32)
    (X3 : BufTy.Contents (Elt Ideal) arg3.view.ty) (X4 : BufTy.Contents (Elt Ideal) arg4.view.ty) (X6 : BufTy.Contents (Elt Ideal) arg6.view.ty)
    (X8 : BufTy.Contents (Elt Ideal) arg8.view.ty) (X12 : BufTy.Contents (Elt Ideal) arg12.view.ty) (k : Fin k0_t1_loop.trips) :
    tripL_k0_t1 (F := Ideal) Variants.none c none i arg3 harg3 arg4 harg4 arg5 harg5 arg6 harg6 arg7 harg7 arg8 harg8 arg9 harg9 arg10 harg10 arg11 harg11 arg12 harg12 rows v4 v7 X3 X4 X6 X8 X12 k
      = [⟨Rect.unit (s := S512x128) (k0_off1 k) S128x128.size (k0_off1_inb k),
          stored (arg3.view.read (Elt Ideal) X3) (arg4.view.read (Elt Ideal) X4) (arg6.view.read (Elt Ideal) X6) (arg8.view.read (Elt Ideal) X8) v4 v7
            (arg12.view.read (Elt Ideal) X12) k⟩] := by
  have h1 : View.ld (Val := Elt Ideal) (e' := .bf16) (arg4.view.read (Elt Ideal) X4) (Rect.unit (s := S256x128) ![0, 0] ![256, 128] inb_S256x128_S256x128_0_0) = arg4.view.read (Elt Ideal) X4 :=
    View.ld_unit_zero (funext fun a => by fin_cases a <;> rfl) _ _
  unfold stored
  rw [← h1]
  unfold tripL_k0_t1 trip_k0_t1
  rfl

/-- The trips' pieces, last first. -/
theorem trips_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (v4 : Vec Ideal S1x8x128 .f32) (v7 : Vec Ideal S1x128 .f32)
    (X3 : BufTy.Contents (Elt Ideal) arg3.view.ty) (X4 : BufTy.Contents (Elt Ideal) arg4.view.ty) (X6 : BufTy.Contents (Elt Ideal) arg6.view.ty)
    (X8 : BufTy.Contents (Elt Ideal) arg8.view.ty) (X12 : BufTy.Contents (Elt Ideal) arg12.view.ty) (n : ℕ) (hn : n ≤ k0_t1_loop.trips) :
    ∀ p ∈ pb_k0_t1 (F := Ideal) Variants.none c none i arg3 harg3 arg4 harg4 arg5 harg5 arg6 harg6 arg7 harg7 arg8 harg8 arg9 harg9 arg10 harg10 arg11 harg11 arg12 harg12 rows v4 v7 X3 X4 X6 X8 X12 n, ∃ k : Fin k0_t1_loop.trips,
      p = ⟨Rect.unit (s := S512x128) (k0_off1 k) S128x128.size (k0_off1_inb k),
          stored (arg3.view.read (Elt Ideal) X3) (arg4.view.read (Elt Ideal) X4) (arg6.view.read (Elt Ideal) X6) (arg8.view.read (Elt Ideal) X8) v4 v7
            (arg12.view.read (Elt Ideal) X12) k⟩ := by
  induction n with
  | zero => intro p hp; exact absurd hp List.not_mem_nil
  | succ n ih =>
    intro p hp
    rw [pb_k0_t1_succ (F := Ideal) Variants.none c none i arg3 harg3 arg4 harg4 arg5 harg5 arg6 harg6 arg7 harg7 arg8 harg8 arg9 harg9 arg10 harg10 arg11 harg11 arg12 harg12 rows v4 v7 X3 X4 X6 X8 X12 ⟨n, hn⟩, trip_eq] at hp
    rcases List.mem_append.mp hp with h | h
    · exact ⟨⟨n, hn⟩, List.mem_singleton.mp h⟩
    · exact ih (Nat.le_of_succ_le hn) p h

/-- A chunk turned. -/
theorem turn_apply (v : Vec Ideal S256x128 .bf16) (e : Fin 128) (j : Fin 256) : k0_pay8 (F := Ideal) v (ix2 e j) = v (ix2 j e) := by
  unfold k0_pay8
  rw [shapeCast_self, truncf_apply, tr2, extf_apply]

/-- The turned values: the compressed rows first, then the latent ones. -/
def turned (x2 : Vec Ideal S256x128 .bf16) (x4 : Vec Ideal S2048x128 .bf16) : Vec Ideal S128x2304 .bf16 := fun y =>
  if h : (y 1 : ℕ) < 256 then x2 (ix2 ⟨(y 1 : ℕ), h⟩ (y 0)) else x4 (ix2 ⟨(y 1 : ℕ) - 256, by have h2 : (y 1 : ℕ) < 2304 := (y 1).isLt; omega⟩ (y 0))

/-- A chunk of the latent rows, turned, stands where the turned values have it. -/
theorem chunk_eq (x2 : Vec Ideal S256x128 .bf16) (x4 : Vec Ideal S2048x128 .bf16) (o o' : ℕ) (ho : o' = o + 256) (h) (h' : ∀ a, (![0, o'] : Fin 2 → ℕ) a + (![128, 256] : Fin 2 → ℕ) a ≤ S128x2304.size a)
    (x : (Rect.unit (s := S128x2304) ![0, o'] ![128, 256] h').shape.Idx) :
    k0_pay8 (F := Ideal) (rowsAt x4 o h) x = turned x2 x4 ((Rect.unit (s := S128x2304) ![0, o'] ![128, 256] h').emb x) := by
  obtain ⟨e, j, rfl⟩ : ∃ (e : Fin 128) (j : Fin 256), x = ix2 e j := ⟨x 0, x 1, eq_ix2 x⟩
  refine (turn_apply _ e j).trans ?_
  have hv : ((Rect.unit (s := S128x2304) ![0, o'] ![128, 256] h').emb (ix2 e j) 1 : ℕ) = o' + 1 * j.val := rfl
  unfold turned
  rw [dif_neg (by rw [hv]; omega)]
  refine congrArg x4 (Shape.idx_ext₂ ?_ ?_)
  · show o + 1 * j.val = (o' + 1 * j.val) - 256
    omega
  · show 0 + 1 * e.val = 0 + 1 * e.val
    rfl

/-- The compressed rows, turned, stand first. -/
theorem chunk0_eq (x2 : Vec Ideal S256x128 .bf16) (x4 : Vec Ideal S2048x128 .bf16) (h' : ∀ a, (![0, 0] : Fin 2 → ℕ) a + (![128, 256] : Fin 2 → ℕ) a ≤ S128x2304.size a)
    (x : (Rect.unit (s := S128x2304) ![0, 0] ![128, 256] h').shape.Idx) :
    k0_pay8 (F := Ideal) x2 x = turned x2 x4 ((Rect.unit (s := S128x2304) ![0, 0] ![128, 256] h').emb x) := by
  obtain ⟨e, j, rfl⟩ : ∃ (e : Fin 128) (j : Fin 256), x = ix2 e j := ⟨x 0, x 1, eq_ix2 x⟩
  refine (turn_apply _ e j).trans ?_
  have hv : ((Rect.unit (s := S128x2304) ![0, 0] ![128, 256] h').emb (ix2 e j) 1 : ℕ) = 0 + 1 * j.val := rfl
  unfold turned
  rw [dif_pos (by rw [hv]; omega)]
  refine congrArg x2 (Shape.idx_ext₂ ?_ ?_)
  · show j.val = 0 + 1 * j.val
    omega
  · show e.val = 0 + 1 * e.val
    omega

/-- The pieces the first point of a run keeps. -/
theorem kept_pieces (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1
      = [⟨Rect.unit (s := S128x2304) ![0, 2048] ![128, 256] (by decide), k0_pay8 (F := Ideal) (rowsAt x4 1792 (by decide))⟩,
         ⟨Rect.unit (s := S128x2304) ![0, 1792] ![128, 256] (by decide), k0_pay8 (F := Ideal) (rowsAt x4 1536 (by decide))⟩,
         ⟨Rect.unit (s := S128x2304) ![0, 1536] ![128, 256] (by decide), k0_pay8 (F := Ideal) (rowsAt x4 1280 (by decide))⟩,
         ⟨Rect.unit (s := S128x2304) ![0, 1280] ![128, 256] (by decide), k0_pay8 (F := Ideal) (rowsAt x4 1024 (by decide))⟩,
         ⟨Rect.unit (s := S128x2304) ![0, 1024] ![128, 256] (by decide), k0_pay8 (F := Ideal) (rowsAt x4 768 (by decide))⟩,
         ⟨Rect.unit (s := S128x2304) ![0, 768] ![128, 256] (by decide), k0_pay8 (F := Ideal) (rowsAt x4 512 (by decide))⟩,
         ⟨Rect.unit (s := S128x2304) ![0, 512] ![128, 256] (by decide), k0_pay8 (F := Ideal) (rowsAt x4 256 (by decide))⟩,
         ⟨Rect.unit (s := S128x2304) ![0, 256] ![128, 256] (by decide), k0_pay8 (F := Ideal) (rowsAt x4 0 (by decide))⟩,
         ⟨Rect.unit (s := S128x2304) ![0, 0] ![128, 256] (by decide), k0_pay8 (F := Ideal) x2⟩] := by
  have h4 : arg7.view.read (Elt Ideal) (harg7.unread x4) = x4 := harg7.read_unread x4
  have h2 : View.ld (Val := Elt Ideal) (e' := .bf16) (arg5.view.read (Elt Ideal) (harg5.unread x2)) (Rect.unit (s := S256x128) ![0, 0] ![256, 128] inb_S256x128_S256x128_0_0) = x2 := by
    rw [harg5.read_unread x2]
    exact View.ld_unit_zero (funext fun a => by fin_cases a <;> rfl) _ _
  conv_rhs => rw [← h4, ← h2]
  rfl

/-- The turned values the first point of a run keeps. -/
theorem kept_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 x7 = turned x2 x4 := by
  funext y
  unfold sout0_A_0
  refine View.read_writes_apply_of_pieces _ _ (turned x2 x4) _ ?_ y (scover0_A_0 c i arg3 harg3 arg4 harg4 arg5 harg5 arg6 harg6 arg7 harg7 arg8 harg8 arg9 harg9 arg10 harg10 arg11 harg11 arg12 harg12 hc0 x0 x1 x2 x3 x4 x5 x6 x7 y)
  rw [kept_pieces]
  intro p hp
  simp only [List.mem_cons, List.not_mem_nil, or_false] at hp
  rcases hp with rfl | rfl | rfl | rfl | rfl | rfl | rfl | rfl | rfl
  · exact chunk_eq x2 x4 1792 2048 rfl _ (by decide)
  · exact chunk_eq x2 x4 1536 1792 rfl _ (by decide)
  · exact chunk_eq x2 x4 1280 1536 rfl _ (by decide)
  · exact chunk_eq x2 x4 1024 1280 rfl _ (by decide)
  · exact chunk_eq x2 x4 768 1024 rfl _ (by decide)
  · exact chunk_eq x2 x4 512 768 rfl _ (by decide)
  · exact chunk_eq x2 x4 256 512 rfl _ (by decide)
  · exact chunk_eq x2 x4 0 256 rfl _ (by decide)
  · exact chunk0_eq x2 x4 (by decide)

theorem trips4 : k0_t1_loop.trips = 4 := by decide

/-- A point's block of the result: row `128 k + r` is row `r` of what trip `k` stores. -/
def blockOf (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) : Vec Ideal S512x128 .bf16 := fun y =>
  stored x0 x1 x3 x5 x6 x7 s ⟨(y 0 : ℕ) / 128, by have h : (y 0 : ℕ) < 512 := (y 0).isLt; rw [trips4]; omega⟩ (ix2 ⟨(y 0 : ℕ) % 128, by omega⟩ (y 1))

theorem off_all : ∀ k : Fin k0_t1_loop.trips, k0_off1 k 0 = 128 * k.val ∧ k0_off1 k 1 = 0 := by decide +kernel

theorem stored_block (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) (k : Fin k0_t1_loop.trips)
    (x : (Rect.unit (s := S512x128) (k0_off1 k) S128x128.size (k0_off1_inb k)).shape.Idx) :
    stored x0 x1 x3 x5 x6 x7 s k x = blockOf x0 x1 x3 x5 x6 x7 s ((Rect.unit (s := S512x128) (k0_off1 k) S128x128.size (k0_off1_inb k)).emb x) := by
  obtain ⟨r, e, rfl⟩ : ∃ (r e : Fin 128), x = ix2 r e := ⟨x 0, x 1, eq_ix2 x⟩
  obtain ⟨h0, h1⟩ := off_all k
  have e0 : ((Rect.unit (s := S512x128) (k0_off1 k) S128x128.size (k0_off1_inb k)).emb (ix2 r e) 0 : ℕ) = 128 * k.val + r.val := by
    show k0_off1 k 0 + 1 * r.val = _
    rw [h0, one_mul]
  have e1 : ((Rect.unit (s := S512x128) (k0_off1 k) S128x128.size (k0_off1_inb k)).emb (ix2 r e) 1 : ℕ) = e.val := by
    show k0_off1 k 1 + 1 * e.val = _
    rw [h1]; omega
  unfold blockOf
  refine congr (congrArg _ (Fin.ext ?_)) (Shape.idx_ext₂ ?_ ?_)
  · show k.val = _ / 128
    rw [e0]; omega
  · show r.val = _ % 128
    rw [e0]; omega
  · exact e1.symm

/-- What the first point of a run writes: computed with the values it has just turned. -/
theorem outA_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 x7 = blockOf x0 x1 x3 x5 x6 x7 (turned x2 x4) := by
  funext y
  unfold out0_A_8
  refine View.read_writes_apply_of_pieces _ _ (blockOf x0 x1 x3 x5 x6 x7 (turned x2 x4)) _ ?_ y (cover0_A_8 c i arg3 harg3 arg4 harg4 arg5 harg5 arg6 harg6 arg7 harg7 arg8 harg8 arg9 harg9 arg10 harg10 arg11 harg11 arg12 harg12 hc0 x0 x1 x2 x3 x4 x5 x6 x7 y)
  intro p hp
  obtain ⟨k, hk⟩ := trips_eq c i arg3 harg3 arg4 harg4 arg5 harg5 arg6 harg6 arg7 harg7 arg8 harg8 arg9 harg9 arg10 harg10 arg11 harg11 arg12 harg12
    (View.ld (Val := Elt Ideal) (e' := .f32) (arg9.view.read (Elt Ideal) (harg9.unread x6)) (Rect.unit (s := S1x8x128) ![0, 0, 0] ![1, 8, 128] inb_S1x8x128_S1x8x128_0_0_0))
    (View.ld (Val := Elt Ideal) (e' := .f32) (arg10.view.read (Elt Ideal) (harg10.unread x7)) (Rect.unit (s := S1x128) ![0, 0] ![1, 128] inb_S1x128_S1x128_0_0))
    (harg3.unread x0) (harg4.unread x1) (harg6.unread x3) (harg8.unread x5)
    (arg12.view.writes (Elt Ideal) arg12.view.junk (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1) _ le_rfl p hp
  have hs : arg12.view.read (Elt Ideal) (arg12.view.writes (Elt Ideal) arg12.view.junk (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1) = turned x2 x4 := by
    rw [harg12.read_writes_junk (Memref.isWhole_whole cc0_scratch0)]
    exact kept_eq c i arg3 harg3 arg4 harg4 arg5 harg5 arg6 harg6 arg7 harg7 arg8 harg8 arg9 harg9 arg10 harg10 arg11 harg11 arg12 harg12 hc0 x0 x1 x2 x3 x4 x5 x6 x7
  have h6 : View.ld (Val := Elt Ideal) (e' := .f32) x6 (Rect.unit (s := S1x8x128) ![0, 0, 0] ![1, 8, 128] inb_S1x8x128_S1x8x128_0_0_0) = x6 :=
    View.ld_unit_zero (funext fun a => by fin_cases a <;> rfl) _ _
  have h7 : View.ld (Val := Elt Ideal) (e' := .f32) x7 (Rect.unit (s := S1x128) ![0, 0] ![1, 128] inb_S1x128_S1x128_0_0) = x7 :=
    View.ld_unit_zero (funext fun a => by fin_cases a <;> rfl) _ _
  rw [harg3.read_unread, harg4.read_unread, harg6.read_unread, harg8.read_unread, harg9.read_unread, harg10.read_unread, hs, h6, h7] at hk
  subst hk
  exact stored_block x0 x1 x3 x5 x6 x7 _ k

/-- What another point of a run writes: computed with the turned values the point before left. -/
theorem outB_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : ¬cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) (s : Vec Ideal S128x2304 .bf16) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 x7 s = blockOf x0 x1 x3 x5 x6 x7 s := by
  funext y
  unfold out0_B_8
  refine View.read_writes_apply_of_pieces _ _ (blockOf x0 x1 x3 x5 x6 x7 s) _ ?_ y (cover0_B_8 c i arg3 harg3 arg4 harg4 arg5 harg5 arg6 harg6 arg7 harg7 arg8 harg8 arg9 harg9 arg10 harg10 arg11 harg11 arg12 harg12 hc0 x0 x1 x2 x3 x4 x5 x6 x7 s y)
  intro p hp
  obtain ⟨k, hk⟩ := trips_eq c i arg3 harg3 arg4 harg4 arg5 harg5 arg6 harg6 arg7 harg7 arg8 harg8 arg9 harg9 arg10 harg10 arg11 harg11 arg12 harg12
    (View.ld (Val := Elt Ideal) (e' := .f32) (arg9.view.read (Elt Ideal) (harg9.unread x6)) (Rect.unit (s := S1x8x128) ![0, 0, 0] ![1, 8, 128] inb_S1x8x128_S1x8x128_0_0_0))
    (View.ld (Val := Elt Ideal) (e' := .f32) (arg10.view.read (Elt Ideal) (harg10.unread x7)) (Rect.unit (s := S1x128) ![0, 0] ![1, 128] inb_S1x128_S1x128_0_0))
    (harg3.unread x0) (harg4.unread x1) (harg6.unread x3) (harg8.unread x5) (harg12.unread s) _ le_rfl p hp
  have h6 : View.ld (Val := Elt Ideal) (e' := .f32) x6 (Rect.unit (s := S1x8x128) ![0, 0, 0] ![1, 8, 128] inb_S1x8x128_S1x8x128_0_0_0) = x6 :=
    View.ld_unit_zero (funext fun a => by fin_cases a <;> rfl) _ _
  have h7 : View.ld (Val := Elt Ideal) (e' := .f32) x7 (Rect.unit (s := S1x128) ![0, 0] ![1, 128] inb_S1x128_S1x128_0_0) = x7 :=
    View.ld_unit_zero (funext fun a => by fin_cases a <;> rfl) _ _
  rw [harg3.read_unread, harg4.read_unread, harg6.read_unread, harg8.read_unread, harg9.read_unread, harg10.read_unread, harg12.read_unread, h6, h7] at hk
  subst hk
  exact stored_block x0 x1 x3 x5 x6 x7 s k

end Cert.AttK

end
-- ==== Proof.AttBlock.lean ====
/- The attention kernel's block at an entry, for real queries, keys and values. -/
module

public import proofs.«01_k».proof.Proof.AttPieces

@[expose] public section

noncomputable section

namespace Cert.AttK

open Cert.KernelIdeal Cert.KernelIdeal.Gen Idealize.ShloMosaic Idealize.ShloMosaic.ValueIdx Idealize.ShloMosaic.TcCoe Cert.Reads Cert.AttMath Idealize.SL.Sem
open scoped BigOperators

/-- The attention of one query `q` over the keys `K` and values `V`, with the weight `lam` of the second component, at lane `e`. -/
def mix (q : Fin 128 → ℝ) (K V : Fin 2304 → Fin 128 → ℝ) (lam : EReal) (e : Fin 128) : EReal :=
  ((mean (fun i => ∑ d : Fin 64, q ⟨d.val, by omega⟩ * K i ⟨d.val, by omega⟩) (fun i => V i e) : ℝ) : EReal)
    - lam * ((mean (fun i => ∑ d : Fin 64, q ⟨64 + d.val, by omega⟩ * K i ⟨64 + d.val, by omega⟩) (fun i => V i e) : ℝ) : EReal)

/-- The head's output at lane `e`: the attention, its norm and its gate. -/
def headAt (q : Fin 128 → ℝ) (K V : Fin 2304 → Fin 128 → ℝ) (lam : EReal) (sg : Fin 128 → EReal) (g : EReal) (e : Fin 128) : EReal :=
  headOut (mix q K V lam) sg e * silu g

/-- Rows of the keys at an entry. -/
theorem rowsAt_apply (x : Vec Ideal S2048x128 .bf16) (o : ℕ) (h) (i : Fin 256) (d : Fin 128) (i' : Fin 2048) (hi : i'.val = o + i.val) :
    rowsAt x o h (ix2 i d) = x (ix2 i' d) := by
  refine congrArg x (Shape.idx_ext₂ ?_ ?_)
  · show o + 1 * i.val = i'.val
    omega
  · show 0 + 1 * d.val = d.val
    omega

/-- Columns of the turned values at an entry. -/
theorem colsAt_apply (x2 : Vec Ideal S256x128 .bf16) (x4 : Vec Ideal S2048x128 .bf16) (V : Fin 2304 → Fin 128 → ℝ)
    (h2 : ∀ (i : Fin 256) e, x2 (ix2 i e) = ((V ⟨i.val, by omega⟩ e : ℝ) : EReal)) (h4 : ∀ (i : Fin 2048) e, x4 (ix2 i e) = ((V ⟨256 + i.val, by omega⟩ e : ℝ) : EReal))
    (o : ℕ) (h) (e : Fin 128) (i : Fin 256) (ho : o + i.val < 2304) :
    colsAt (turned x2 x4) o h (ix2 e i) = ((V ⟨o + i.val, ho⟩ e : ℝ) : EReal) := by
  have hv : ((Rect.unit (s := S128x2304) ![0, o] ![128, 256] h).emb (ix2 e i) 1 : ℕ) = o + i.val := by
    show o + 1 * i.val = _
    omega
  have he : (Rect.unit (s := S128x2304) ![0, o] ![128, 256] h).emb (ix2 e i) 0 = e := by
    refine Fin.ext ?_
    show 0 + 1 * e.val = _
    omega
  show turned x2 x4 ((Rect.unit (s := S128x2304) ![0, o] ![128, 256] h).emb (ix2 e i)) = _
  unfold turned
  split_ifs with hc
  · refine Eq.trans (congrArg x2 (Shape.idx_ext₂ ?_ ?_)) (h2 ⟨o + i.val, by omega⟩ e)
    · exact hv
    · exact congrArg Fin.val he
  · refine Eq.trans (congrArg x4 (Shape.idx_ext₂ ?_ ?_)) ((h4 ⟨o + i.val - 256, by omega⟩ e).trans ?_)
    · show _ - 256 = _
      rw [hv]
    · exact congrArg Fin.val he
    · refine congrArg (fun z => ((V z e : ℝ) : EReal)) (Fin.ext ?_)
      show 256 + (o + i.val - 256) = o + i.val
      omega

/-- Chunk `n` of a table of rows. -/
def chunk (K : Fin 2304 → Fin 128 → ℝ) (n : ℕ) (i : Fin 256) : Fin 128 → ℝ :=
  if h : 256 * n + i.val < 2304 then K ⟨256 * n + i.val, h⟩ else fun _ => 0

theorem chunk_of (K : Fin 2304 → Fin 128 → ℝ) (n : ℕ) (i : Fin 256) (j : ℕ) (hj : j < 2304) (h : j = 256 * n + i.val) : chunk K n i = K ⟨j, hj⟩ := by
  subst h
  unfold chunk
  rw [dif_pos hj]

/-- A point's block at an entry. -/
theorem block_apply (x0 : Vec Ideal S512x128 .bf16) (x1 x2 : Vec Ideal S256x128 .bf16) (x3 x4 : Vec Ideal S2048x128 .bf16) (x5 : Vec Ideal S512x128 .bf16)
    (x6 : FVec Ideal S1x8x128 .f32) (x7 : FVec Ideal S1x128 .f32) (Q : Fin 512 → Fin 128 → ℝ) (K V : Fin 2304 → Fin 128 → ℝ) (lam : EReal)
    (h0 : ∀ r d, x0 (ix2 r d) = ((Q r d : ℝ) : EReal))
    (h1 : ∀ (i : Fin 256) d, x1 (ix2 i d) = ((K ⟨i.val, by omega⟩ d : ℝ) : EReal)) (h3 : ∀ (i : Fin 2048) d, x3 (ix2 i d) = ((K ⟨256 + i.val, by omega⟩ d : ℝ) : EReal))
    (h2 : ∀ (i : Fin 256) e, x2 (ix2 i e) = ((V ⟨i.val, by omega⟩ e : ℝ) : EReal)) (h4 : ∀ (i : Fin 2048) e, x4 (ix2 i e) = ((V ⟨256 + i.val, by omega⟩ e : ℝ) : EReal))
    (h6 : ∀ j : Fin 128, x6 (ix3 0 0 j) = lam) (r : Fin 512) (e : Fin 128) :
    blockOf x0 x1 x3 x5 x6 x7 (turned x2 x4) (ix2 r e) = headAt (Q r) K V lam (fun e => x7 (ix2 0 e)) (x5 (ix2 r e)) e := by
  have hlt : r.val / 128 < k0_t1_loop.trips := by rw [trips4]; omega
  have hrow : ∀ (x : Vec Ideal S512x128 .bf16) (r' : Fin 128) (d : Fin 128),
      rowsOf x ⟨r.val / 128, hlt⟩ (ix2 r' d) = x (ix2 ⟨128 * (r.val / 128) + r'.val, by omega⟩ d) := by
    intro x r' d
    obtain ⟨a0, a1⟩ := off_all ⟨r.val / 128, hlt⟩
    refine congrArg x (Shape.idx_ext₂ ?_ ?_)
    · show k0_off1 ⟨r.val / 128, hlt⟩ 0 + 1 * r'.val = _
      rw [a0, one_mul]
    · show k0_off1 ⟨r.val / 128, hlt⟩ 1 + 1 * d.val = d.val
      rw [a1]; omega
  have hr : (⟨128 * (r.val / 128) + r.val % 128, by omega⟩ : Fin 512) = r := Fin.ext (by show 128 * (r.val / 128) + r.val % 128 = r.val; omega)
  have hk : ∀ (n o : ℕ) (h) (hn : n < 9) (_ : 256 + o = 256 * n) (i : Fin 256) (d : Fin 128), rowsAt x3 o h (ix2 i d) = ((chunk K n i d : ℝ) : EReal) := by
    intro n o h hn hno i d
    rw [rowsAt_apply x3 o h i d ⟨o + i.val, by omega⟩ rfl, h3, chunk_of K n i (256 + (o + i.val)) (by omega) (by omega)]
  have hv : ∀ (n o : ℕ) (h) (hn : n < 9) (_ : o = 256 * n) (e : Fin 128) (i : Fin 256), colsAt (turned x2 x4) o h (ix2 e i) = ((chunk V n i e : ℝ) : EReal) := by
    intro n o h hn hno e i
    rw [colsAt_apply x2 x4 V h2 h4 o h e i (by omega), chunk_of V n i (o + i.val) (by omega) (by omega)]
  unfold blockOf stored
  refine (body_apply _ _ _ _ _ _ _ _ _ _ _ _ _ _ _ _ _ _ _ _ _ _ (fun r' => Q ⟨128 * (r.val / 128) + r'.val, by omega⟩) (chunk K) (chunk V) K V
    (fun r' d => (hrow x0 r' d).trans (h0 _ d))
    (fun i d => (h1 i d).trans (by rw [chunk_of K 0 i i.val (by omega) (by omega)]))
    (hk 1 _ _ (by omega) rfl) (hk 2 _ _ (by omega) rfl) (hk 3 _ _ (by omega) rfl) (hk 4 _ _ (by omega) rfl)
    (hk 5 _ _ (by omega) rfl) (hk 6 _ _ (by omega) rfl) (hk 7 _ _ (by omega) rfl) (hk 8 _ _ (by omega) rfl)
    (hv 0 _ _ (by omega) rfl) (hv 1 _ _ (by omega) rfl) (hv 2 _ _ (by omega) rfl) (hv 3 _ _ (by omega) rfl) (hv 4 _ _ (by omega) rfl)
    (hv 5 _ _ (by omega) rfl) (hv 6 _ _ (by omega) rfl) (hv 7 _ _ (by omega) rfl) (hv 8 _ _ (by omega) rfl)
    (fun j i => chunk_of K _ i _ _ rfl) (fun j i => chunk_of V _ i _ _ rfl) _ _).trans ?_
  rw [h6]
  unfold headAt mix
  refine congrArg₂ (· * ·) ?_ (congrArg silu ?_)
  · show headOut (fun e => ((mean (fun i => ∑ d : Fin 64, Q ⟨128 * (r.val / 128) + r.val % 128, _⟩ _ * _) _ : ℝ) : EReal)
      - lam * ((mean (fun i => ∑ d : Fin 64, Q ⟨128 * (r.val / 128) + r.val % 128, _⟩ _ * _) _ : ℝ) : EReal)) _ _ = _
    rw [hr]
  · refine (hrow x5 _ _).trans ?_
    show x5 (ix2 ⟨128 * (r.val / 128) + r.val % 128, _⟩ _) = _
    rw [hr]

end Cert.AttK

end
-- ==== Proof.AttValue.lean ====
/- The attention kernel's result as one function of the arguments. -/
module

public import proofs.«01_k».proof.Proof.AttBlock
public import proofs.«01_k».proof.Proof.HostReads

@[expose] public section

noncomputable section

namespace Cert.AttK

open Cert.KernelIdeal Cert.KernelIdeal.Gen Idealize.ShloMosaic Idealize.ShloMosaic.ValueIdx Idealize.ShloMosaic.TcCoe Cert.Reads Idealize.SL.Sem
open scoped BigOperators

/-- The query of batch `b`, position `l`, head `h`. -/
def queryOf (p : S8192x6656.Idx → EReal) (b : Fin 4) (h : Fin 8) (l : Fin 2048) (d : Fin 128) : ℝ :=
  (p (ix2 ⟨b.val * 2048 + l.val, by omega⟩ ⟨h.val * 128 + d.val, by omega⟩)).toReal

/-- The context's and the latents' rows of batch `b` and head `h`, one after another, from column `o` on. -/
def rowsFrom (p : S8192x6656.Idx → EReal) (pc : S1024x6656.Idx → EReal) (o : ℕ) (ho : o + 1024 ≤ 6656) (b : Fin 4) (h : Fin 8) (i : Fin 2304) (d : Fin 128) : ℝ :=
  if hi : i.val < 256 then (pc (ix2 ⟨b.val * 256 + i.val, by omega⟩ ⟨o + (h.val * 128 + d.val), by omega⟩)).toReal
  else (p (ix2 ⟨b.val * 2048 + (i.val - 256), by omega⟩ ⟨o + (h.val * 128 + d.val), by omega⟩)).toReal

/-- The result at batch `b`, position `l`, head `h`, lane `e`. -/
def attAt (p : S8192x6656.Idx → EReal) (pc : S1024x6656.Idx → EReal) (lam : EReal) (sg : S128.Idx → EReal) (b : Fin 4) (h : Fin 8) (l : Fin 2048) (e : Fin 128) : EReal :=
  headAt (queryOf p b h l) (rowsFrom p pc 1024 (by omega) b h) (rowsFrom p pc 2048 (by omega) b h) lam (fun e => sg (ix1 e))
    (p (ix2 ⟨b.val * 2048 + l.val, by omega⟩ ⟨3072 + (h.val * 128 + e.val), by omega⟩)) e

/-- The queries, keys and values are real numbers. -/
structure Finite (p : S8192x6656.Idx → EReal) (pc : S1024x6656.Idx → EReal) : Prop where
  main : ∀ (r : Fin 8192) (k : Fin 6656), k.val < 3072 → p (ix2 r k) = (((p (ix2 r k)).toReal : ℝ) : EReal)
  ctx : ∀ (r : Fin 1024) (k : Fin 6656), 1024 ≤ k.val → k.val < 3072 → pc (ix2 r k) = (((pc (ix2 r k)).toReal : ℝ) : EReal)

variable (m : (ℓ : Loc nD τ sig) → Buf (Elt Ideal) ℓ)

/-- The weight of the second component reaches the launch on every lane. -/
theorem V0 (c : Dev nD) (k : Fin 128) : (V m c main_v0 : S1x8x128.Idx → EReal) (ix3 0 0 k) = (m ((c : Thread nD τ).loc main_arg2) : S1.Idx → EReal) (ix1 0) := by
  have e : V m c main_v0 = broadcastInDim S1x8x128 ![2] bcast_S1_S1x8x128_2 (m ((c : Thread nD τ).loc main_arg2) : S1.Idx → EReal) := by
    show StableHlo.after hostOps0 _ _ = _
    after_results
  rw [e]
  refine broadcastInDim_apply _ _ _ _ _ fun a => ?_
  match a with
  | ⟨0, _⟩ => rfl

/-- The norm's scale reaches the launch as one row. -/
theorem V1 (c : Dev nD) (k : Fin 128) : (V m c main_v1 : S1x128.Idx → EReal) (ix2 0 k) = (m ((c : Thread nD τ).loc main_arg3) : S128.Idx → EReal) (ix1 k) := by
  have e : V m c main_v1 = shapeCast S1x128 (m ((c : Thread nD τ).loc main_arg3) : S128.Idx → EReal) shapeCasts_S128_S1x128 := by
    show StableHlo.after hostOps0 _ _ = _
    after_results
    rfl
  rw [e]
  exact castRow _ _ k

/-- Where the windows' blocks stand at point `t`: batch `t / 32`, head `t / 4 % 8`, row block `t % 4` of the batch. -/
theorem where_all : ∀ t : Fin grid0.N,
    win0_0.index t 0 = t.val / 32 * 4 + t.val % 4 ∧ win0_0.index t 1 = t.val / 4 % 8 ∧ win0_1.index t 0 = t.val / 32 ∧ win0_1.index t 1 = 8 + t.val / 4 % 8
    ∧ win0_2.index t 0 = t.val / 32 ∧ win0_2.index t 1 = 16 + t.val / 4 % 8 ∧ win0_3.index t 0 = t.val / 32 ∧ win0_3.index t 1 = 8 + t.val / 4 % 8
    ∧ win0_4.index t 0 = t.val / 32 ∧ win0_4.index t 1 = 16 + t.val / 4 % 8 ∧ win0_5.index t 0 = t.val / 32 * 4 + t.val % 4 ∧ win0_5.index t 1 = 24 + t.val / 4 % 8
    ∧ win0_6.index t 0 = 0 ∧ win0_6.index t 1 = 0 ∧ win0_6.index t 2 = 0 ∧ win0_7.index t 0 = 0 ∧ win0_7.index t 1 = 0
    ∧ win0_8.index t 0 = t.val / 32 * 4 + t.val % 4 ∧ win0_8.index t 1 = t.val / 4 % 8 := by decide +kernel

theorem N128 (t : Fin cfg0.N) : t.val < 128 := t.isLt

/-- The point's batch, head and position of row `r`. -/
abbrev bOf (t : Fin cfg0.N) : Fin 4 := ⟨t.val / 32, by have := N128 t; omega⟩
abbrev hOf (t : Fin cfg0.N) : Fin 8 := ⟨t.val / 4 % 8, by omega⟩
abbrev lOf (t : Fin cfg0.N) (r : Fin 512) : Fin 2048 := ⟨t.val % 4 * 512 + r.val, by omega⟩

/-- The array rows and columns. -/
abbrev mainRow (b : Fin 4) (l : Fin 2048) : Fin 8192 := ⟨b.val * 2048 + l.val, by omega⟩
abbrev ctxRow (b : Fin 4) (i : Fin 256) : Fin 1024 := ⟨b.val * 256 + i.val, by omega⟩
abbrev colOf (o : ℕ) (ho : o + 1024 ≤ 6656) (h : Fin 8) (d : Fin 128) : Fin 6656 := ⟨o + (h.val * 128 + d.val), by omega⟩

theorem blk0 (c : Dev nD) (t : Fin cfg0.N) (r : Fin 512) (d : Fin 128) :
    (iblk m c 0 t : S512x128.Idx → EReal) (ix2 r d) = (m ((c : Thread nD τ).loc main_arg0) : S8192x6656.Idx → EReal) (ix2 (mainRow (bOf t) (lOf t r)) ⟨(hOf t).val * 128 + d.val, by have := (hOf t).isLt; omega⟩) := by
  obtain ⟨h0, h1, -⟩ := where_all t
  show (V m c main_arg0 : S8192x6656.Idx → EReal) _ = _
  rw [V_main_arg0]
  refine congrArg _ (Shape.idx_ext₂ ?_ ?_)
  · show win0_0.index t 0 * 512 + 1 * r.val = t.val / 32 * 2048 + (t.val % 4 * 512 + r.val)
    rw [h0]; omega
  · show win0_0.index t 1 * 128 + 1 * d.val = t.val / 4 % 8 * 128 + d.val
    rw [h1]; omega

theorem blk1 (c : Dev nD) (t : Fin cfg0.N) (i : Fin 256) (d : Fin 128) :
    (iblk m c 1 t : S256x128.Idx → EReal) (ix2 i d) = (m ((c : Thread nD τ).loc main_arg1) : S1024x6656.Idx → EReal) (ix2 (ctxRow (bOf t) i) (colOf 1024 (by omega) (hOf t) d)) := by
  obtain ⟨-, -, h0, h1, -⟩ := where_all t
  show (V m c main_arg1 : S1024x6656.Idx → EReal) _ = _
  rw [V_main_arg1]
  refine congrArg _ (Shape.idx_ext₂ ?_ ?_)
  · show win0_1.index t 0 * 256 + 1 * i.val = t.val / 32 * 256 + i.val
    rw [h0]; omega
  · show win0_1.index t 1 * 128 + 1 * d.val = 1024 + (t.val / 4 % 8 * 128 + d.val)
    rw [h1]; omega

theorem blk2 (c : Dev nD) (t : Fin cfg0.N) (i : Fin 256) (d : Fin 128) :
    (iblk m c 2 t : S256x128.Idx → EReal) (ix2 i d) = (m ((c : Thread nD τ).loc main_arg1) : S1024x6656.Idx → EReal) (ix2 (ctxRow (bOf t) i) (colOf 2048 (by omega) (hOf t) d)) := by
  obtain ⟨-, -, -, -, h0, h1, -⟩ := where_all t
  show (V m c main_arg1 : S1024x6656.Idx → EReal) _ = _
  rw [V_main_arg1]
  refine congrArg _ (Shape.idx_ext₂ ?_ ?_)
  · show win0_2.index t 0 * 256 + 1 * i.val = t.val / 32 * 256 + i.val
    rw [h0]; omega
  · show win0_2.index t 1 * 128 + 1 * d.val = 2048 + (t.val / 4 % 8 * 128 + d.val)
    rw [h1]; omega

theorem blk3 (c : Dev nD) (t : Fin cfg0.N) (i : Fin 2048) (d : Fin 128) :
    (iblk m c 3 t : S2048x128.Idx → EReal) (ix2 i d) = (m ((c : Thread nD τ).loc main_arg0) : S8192x6656.Idx → EReal) (ix2 (mainRow (bOf t) i) (colOf 1024 (by omega) (hOf t) d)) := by
  obtain ⟨-, -, -, -, -, -, h0, h1, -⟩ := where_all t
  show (V m c main_arg0 : S8192x6656.Idx → EReal) _ = _
  rw [V_main_arg0]
  refine congrArg _ (Shape.idx_ext₂ ?_ ?_)
  · show win0_3.index t 0 * 2048 + 1 * i.val = t.val / 32 * 2048 + i.val
    rw [h0]; omega
  · show win0_3.index t 1 * 128 + 1 * d.val = 1024 + (t.val / 4 % 8 * 128 + d.val)
    rw [h1]; omega

theorem blk4 (c : Dev nD) (t : Fin cfg0.N) (i : Fin 2048) (d : Fin 128) :
    (iblk m c 4 t : S2048x128.Idx → EReal) (ix2 i d) = (m ((c : Thread nD τ).loc main_arg0) : S8192x6656.Idx → EReal) (ix2 (mainRow (bOf t) i) (colOf 2048 (by omega) (hOf t) d)) := by
  obtain ⟨-, -, -, -, -, -, -, -, h0, h1, -⟩ := where_all t
  show (V m c main_arg0 : S8192x6656.Idx → EReal) _ = _
  rw [V_main_arg0]
  refine congrArg _ (Shape.idx_ext₂ ?_ ?_)
  · show win0_4.index t 0 * 2048 + 1 * i.val = t.val / 32 * 2048 + i.val
    rw [h0]; omega
  · show win0_4.index t 1 * 128 + 1 * d.val = 2048 + (t.val / 4 % 8 * 128 + d.val)
    rw [h1]; omega

theorem blk5 (c : Dev nD) (t : Fin cfg0.N) (r : Fin 512) (d : Fin 128) :
    (iblk m c 5 t : S512x128.Idx → EReal) (ix2 r d) = (m ((c : Thread nD τ).loc main_arg0) : S8192x6656.Idx → EReal) (ix2 (mainRow (bOf t) (lOf t r)) (colOf 3072 (by omega) (hOf t) d)) := by
  obtain ⟨-, -, -, -, -, -, -, -, -, -, h0, h1, -⟩ := where_all t
  show (V m c main_arg0 : S8192x6656.Idx → EReal) _ = _
  rw [V_main_arg0]
  refine congrArg _ (Shape.idx_ext₂ ?_ ?_)
  · show win0_5.index t 0 * 512 + 1 * r.val = t.val / 32 * 2048 + (t.val % 4 * 512 + r.val)
    rw [h0]; omega
  · show win0_5.index t 1 * 128 + 1 * d.val = 3072 + (t.val / 4 % 8 * 128 + d.val)
    rw [h1]; omega

theorem blk6 (c : Dev nD) (t : Fin cfg0.N) (k : Fin 128) :
    (iblk m c 6 t : S1x8x128.Idx → EReal) (ix3 0 0 k) = (m ((c : Thread nD τ).loc main_arg2) : S1.Idx → EReal) (ix1 0) := by
  obtain ⟨-, -, -, -, -, -, -, -, -, -, -, -, h0, h1, h2, -⟩ := where_all t
  show (V m c main_v0 : S1x8x128.Idx → EReal) _ = _
  rw [← V0 m c k]
  refine congrArg _ (funext fun a => Fin.ext ?_)
  match a with
  | ⟨0, _⟩ => show win0_6.index t 0 * 1 + 1 * 0 = 0; rw [h0]
  | ⟨1, _⟩ => show win0_6.index t 1 * 8 + 1 * 0 = 0; rw [h1]
  | ⟨2, _⟩ => show win0_6.index t 2 * 128 + 1 * k.val = k.val; rw [h2]; omega

theorem blk7 (c : Dev nD) (t : Fin cfg0.N) (k : Fin 128) :
    (iblk m c 7 t : S1x128.Idx → EReal) (ix2 0 k) = (m ((c : Thread nD τ).loc main_arg3) : S128.Idx → EReal) (ix1 k) := by
  obtain ⟨-, -, -, -, -, -, -, -, -, -, -, -, -, -, -, h0, h1, -⟩ := where_all t
  show (V m c main_v1 : S1x128.Idx → EReal) _ = _
  rw [← V1 m c]
  refine congrArg _ (Shape.idx_ext₂ ?_ ?_)
  · show win0_7.index t 0 * 1 + 1 * 0 = 0
    rw [h0]
  · show win0_7.index t 1 * 128 + 1 * k.val = k.val
    rw [h1]; omega

/-- The value blocks are the same at all points of one batch and head. -/
theorem blk2_same (c : Dev nD) (t t' : Fin cfg0.N) (h : t.val / 4 = t'.val / 4) : (iblk m c 2 t : S256x128.Idx → EReal) = iblk m c 2 t' := by
  funext i
  obtain ⟨r, k, rfl⟩ : ∃ (r : Fin 256) (k : Fin 128), i = ix2 r k := ⟨i 0, i 1, eq_ix2 i⟩
  rw [blk2, blk2]
  have e : bOf t = bOf t' := Fin.ext (by show t.val / 32 = t'.val / 32; omega)
  have e' : hOf t = hOf t' := Fin.ext (by show t.val / 4 % 8 = t'.val / 4 % 8; omega)
  rw [e, e']

theorem blk4_same (c : Dev nD) (t t' : Fin cfg0.N) (h : t.val / 4 = t'.val / 4) : (iblk m c 4 t : S2048x128.Idx → EReal) = iblk m c 4 t' := by
  funext i
  obtain ⟨r, k, rfl⟩ : ∃ (r : Fin 2048) (k : Fin 128), i = ix2 r k := ⟨i 0, i 1, eq_ix2 i⟩
  rw [blk4, blk4]
  have e : bOf t = bOf t' := Fin.ext (by show t.val / 32 = t'.val / 32; omega)
  have e' : hOf t = hOf t' := Fin.ext (by show t.val / 4 % 8 = t'.val / 4 % 8; omega)
  rw [e, e']

/-- At the first point of a batch and head the scratch is given the turned values. -/
theorem kept_first (c : Dev nD) (t : Fin cfg0.N) (h0 : t.val % 4 = 0) : (outsAt0 m c t.val t.isLt).2 = turned (iblk m c 2 t) (iblk m c 4 t) := by
  rw [outsAt0_A m c t h0]
  dsimp only
  rw [kept_eq]

/-- After every point the scratch holds the turned values of the point's batch and head. -/
theorem kept_at (c : Dev nD) : ∀ (n : ℕ) (hn : n < cfg0.N), (outsAt0 m c n hn).2 = turned (iblk m c 2 ⟨n, hn⟩) (iblk m c 4 ⟨n, hn⟩) := by
  intro n
  induction n with
  | zero => exact fun hn => kept_first m c ⟨0, hn⟩ rfl
  | succ n ih =>
    intro hn
    by_cases h0 : (n + 1) % 4 = 0
    · exact kept_first m c ⟨n + 1, hn⟩ h0
    · have e := ih (Nat.lt_of_succ_lt hn)
      have hq : n / 4 = (n + 1) / 4 := by omega
      rw [blk2_same m c ⟨n, Nat.lt_of_succ_lt hn⟩ ⟨n + 1, hn⟩ hq, blk4_same m c ⟨n, Nat.lt_of_succ_lt hn⟩ ⟨n + 1, hn⟩ hq] at e
      have e2 : (outsAt0 m c (n + 1) hn).2 = (outsAt0 m c n (Nat.lt_of_succ_lt hn)).2 := by
        have e1 := outsAt0_B m c ⟨n + 1, hn⟩ h0
        dsimp only at e1
        rw [e1]
        dsimp only
        unfold sout0_B_0
        rfl
      exact e2.trans e

/-- The result array, from the arguments. -/
def G (c : Dev nD) : S8192x1024.Idx → EReal := fun i =>
  attAt (m ((c : Thread nD τ).loc main_arg0)) (m ((c : Thread nD τ).loc main_arg1)) ((m ((c : Thread nD τ).loc main_arg2) : S1.Idx → EReal) (ix1 0)) (m ((c : Thread nD τ).loc main_arg3))
    ⟨(i 0 : ℕ) / 2048, by have h : (i 0 : ℕ) < 8192 := (i 0).isLt; omega⟩ ⟨(i 1 : ℕ) / 128, by have h : (i 1 : ℕ) < 1024 := (i 1).isLt; omega⟩
    ⟨(i 0 : ℕ) % 2048, by omega⟩ ⟨(i 1 : ℕ) % 128, by omega⟩

/-- Every point's block, of real queries, keys and values. -/
theorem flushed_eq (c : Dev nD) (hf : Finite (m ((c : Thread nD τ).loc main_arg0)) (m ((c : Thread nD τ).loc main_arg1))) (t : Fin cfg0.N) :
    (dats m 0 c).flushed 8 t = (win0_8.blk t).view.read (Elt Ideal) (G m c) := by
  have key : (dats m 0 c).flushed 8 t = blockOf (iblk m c 0 t) (iblk m c 1 t) (iblk m c 3 t) (iblk m c 5 t) (iblk m c 6 t) (iblk m c 7 t) (turned (iblk m c 2 t) (iblk m c 4 t)) := by
    by_cases h0 : t.val % 4 = 0
    · rw [Value.flushed8_A m c t h0]
      rw [outA_eq]
      rfl
    · rw [Value.flushed8_B m c t h0]
      rw [outB_eq]
      have hq : (t.val - 1) / 4 = t.val / 4 := by omega
      have hlt : t.val - 1 < cfg0.N := Nat.lt_of_le_of_lt (Nat.sub_le _ _) t.isLt
      rw [kept_at m c (t.val - 1) hlt, blk2_same m c ⟨t.val - 1, hlt⟩ t hq, blk4_same m c ⟨t.val - 1, hlt⟩ t hq]
      rfl
  rw [key]
  funext i
  obtain ⟨-, -, -, -, -, -, -, -, -, -, -, -, -, -, -, -, -, g0, g1⟩ := where_all t
  have hN := N128 t
  obtain ⟨r, e, rfl⟩ : ∃ (r : Fin 512) (e : Fin 128), i = ix2 r e := ⟨i 0, i 1, eq_ix2 i⟩
  have er : ((win0_8.blk t).view.read (Elt Ideal) (G m c)) (ix2 r e) = G m c (ix2 (mainRow (bOf t) (lOf t r)) ⟨(hOf t).val * 128 + e.val, by have := (hOf t).isLt; omega⟩) := by
    refine congrArg (G m c) (Shape.idx_ext₂ ?_ ?_)
    · show win0_8.index t 0 * 512 + 1 * r.val = t.val / 32 * 2048 + (t.val % 4 * 512 + r.val)
      rw [g0]; omega
    · show win0_8.index t 1 * 128 + 1 * e.val = t.val / 4 % 8 * 128 + e.val
      rw [g1]; omega
  rw [er]
  have eG : G m c (ix2 (mainRow (bOf t) (lOf t r)) ⟨(hOf t).val * 128 + e.val, by have := (hOf t).isLt; omega⟩)
      = attAt (m ((c : Thread nD τ).loc main_arg0)) (m ((c : Thread nD τ).loc main_arg1)) ((m ((c : Thread nD τ).loc main_arg2) : S1.Idx → EReal) (ix1 0)) (m ((c : Thread nD τ).loc main_arg3))
        (bOf t) (hOf t) (lOf t r) e := by
    unfold G
    have e1 : (⟨(mainRow (bOf t) (lOf t r)).val / 2048, by have := (mainRow (bOf t) (lOf t r)).isLt; omega⟩ : Fin 4) = bOf t := Fin.ext (by show (t.val / 32 * 2048 + (t.val % 4 * 512 + r.val)) / 2048 = t.val / 32; omega)
    have e2 : (⟨(mainRow (bOf t) (lOf t r)).val % 2048, by omega⟩ : Fin 2048) = lOf t r := Fin.ext (by show (t.val / 32 * 2048 + (t.val % 4 * 512 + r.val)) % 2048 = t.val % 4 * 512 + r.val; omega)
    have e3 : (⟨((hOf t).val * 128 + e.val) / 128, by have := (hOf t).isLt; omega⟩ : Fin 8) = hOf t := Fin.ext (by show (t.val / 4 % 8 * 128 + e.val) / 128 = t.val / 4 % 8; omega)
    have e4 : (⟨((hOf t).val * 128 + e.val) % 128, by omega⟩ : Fin 128) = e := Fin.ext (by show (t.val / 4 % 8 * 128 + e.val) % 128 = e.val; omega)
    exact congr (congr (congr (congrArg _ e1) e3) e2) e4
  rw [eG]
  refine (block_apply _ _ _ _ _ _ _ _ (fun r => queryOf (m ((c : Thread nD τ).loc main_arg0)) (bOf t) (hOf t) (lOf t r))
    (rowsFrom (m ((c : Thread nD τ).loc main_arg0)) (m ((c : Thread nD τ).loc main_arg1)) 1024 (by omega) (bOf t) (hOf t))
    (rowsFrom (m ((c : Thread nD τ).loc main_arg0)) (m ((c : Thread nD τ).loc main_arg1)) 2048 (by omega) (bOf t) (hOf t))
    ((m ((c : Thread nD τ).loc main_arg2) : S1.Idx → EReal) (ix1 0)) ?_ ?_ ?_ ?_ ?_ ?_ r e).trans ?_
  · intro r d
    rw [blk0]
    exact hf.main _ _ (by show t.val / 4 % 8 * 128 + d.val < 3072; omega)
  · intro i d
    rw [blk1]
    refine (hf.ctx _ _ (by show 1024 ≤ 1024 + (t.val / 4 % 8 * 128 + d.val); omega) (by show 1024 + (t.val / 4 % 8 * 128 + d.val) < 3072; omega)).trans ?_
    unfold rowsFrom
    rw [dif_pos i.isLt]
  · intro i d
    rw [blk3]
    refine (hf.main _ _ (by show 1024 + (t.val / 4 % 8 * 128 + d.val) < 3072; omega)).trans ?_
    unfold rowsFrom
    rw [dif_neg (by show ¬ 256 + i.val < 256; omega)]
    refine congrArg (fun z => (((m ((c : Thread nD τ).loc main_arg0) : S8192x6656.Idx → EReal) (ix2 z _)).toReal : EReal)) (Fin.ext ?_)
    show t.val / 32 * 2048 + i.val = t.val / 32 * 2048 + (256 + i.val - 256)
    omega
  · intro i d
    rw [blk2]
    refine (hf.ctx _ _ (by show 1024 ≤ 2048 + (t.val / 4 % 8 * 128 + d.val); omega) (by show 2048 + (t.val / 4 % 8 * 128 + d.val) < 3072; omega)).trans ?_
    unfold rowsFrom
    rw [dif_pos i.isLt]
  · intro i d
    rw [blk4]
    refine (hf.main _ _ (by show 2048 + (t.val / 4 % 8 * 128 + d.val) < 3072; omega)).trans ?_
    unfold rowsFrom
    rw [dif_neg (by show ¬ 256 + i.val < 256; omega)]
    refine congrArg (fun z => (((m ((c : Thread nD τ).loc main_arg0) : S8192x6656.Idx → EReal) (ix2 z _)).toReal : EReal)) (Fin.ext ?_)
    show t.val / 32 * 2048 + i.val = t.val / 32 * 2048 + (256 + i.val - 256)
    omega
  · exact blk6 m c t
  · simp only [blk5, blk7]
    rfl

/-- The blocks cover the result. -/
theorem cover (i : S8192x1024.Idx) : ∃ t : Fin cfg0.N, (cfg0.win 8).flush t = true ∧ i ∈ ((cfg0.win 8).blk t).view.set := by
  have hi0 : (i 0 : Nat) < 8192 := (i 0).isLt
  have hi1 : (i 1 : Nat) < 1024 := (i 1).isLt
  have hN : cfg0.N = 128 := by decide +kernel
  have hb : (i 0 : Nat) / 2048 * 32 + (i 1 : Nat) / 128 * 4 + (i 0 : Nat) / 512 % 4 < cfg0.N := by omega
  refine ⟨⟨_, hb⟩, flush0_8 _, ?_⟩
  generalize ht : (⟨_, hb⟩ : Fin cfg0.N) = t
  have htv : t.val = (i 0 : Nat) / 2048 * 32 + (i 1 : Nat) / 128 * 4 + (i 0 : Nat) / 512 % 4 := by rw [← ht]
  obtain ⟨-, -, -, -, -, -, -, -, -, -, -, -, -, -, -, -, -, h0, h1⟩ := where_all t
  show i ∈ ((View.whole main_v2).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [h0]; omega
  | ⟨1, _⟩ =>
    show win0_8.index t 1 * 128 ≤ (i 1 : Nat) ∧ (i 1 : Nat) < win0_8.index t 1 * 128 + 128
    rw [h1]; omega

/-- The result array after the run. -/
theorem final (c : Dev nD) (hf : Finite (m ((c : Thread nD τ).loc main_arg0)) (m ((c : Thread nD τ).loc main_arg1))) : (dats m 0 c).arrAt 8 cfg0.N = G m c :=
  (dats m 0 c).arrAt_eq_of_cover 8 (G m c) (fun t _ => flushed_eq m c hf t) cover

end Cert.AttK

end
-- ==== Proof.AttRef.lean ====
/- The attention's reference at an entry of its result. -/
module

public import proofs.«01_k».proof.Proof.AttValue
public import proofs.«01_k».proof.Proof.Gen.ReferenceIdeal.Run

@[expose] public section

noncomputable section

namespace Cert.AttRef

open Cert.ReferenceIdeal Cert.ReferenceIdeal.Gen Idealize.ShloMosaic Idealize.ShloMosaic.ValueIdx Idealize.ShloMosaic.TcCoe Cert.Reads Cert.AttMath
open scoped BigOperators

section Layout
variable {α : Type}

/-- A slice along the last of three axes reads the entry moved by the offset. -/
theorem slice3 {B L N n o : Nat} (x : (⟨3, ![B, L, N]⟩ : Shape).Idx → α) (h : (⟨3, ![B, L, N]⟩ : Shape).Slices ![0, 0, o] ⟨3, ![B, L, n]⟩)
    (b : Fin B) (l : Fin L) (k : Fin n) (k' : Fin N) (hk : k'.val = o + k.val) :
    extractStridedSlice (⟨3, ![B, L, n]⟩ : Shape) ![0, 0, o] x h (ix3 b l k) = x (ix3 b l k') := by
  refine extractStridedSlice_apply _ _ _ _ _ fun a => ?_
  match a with
  | ⟨0, _⟩ => show b.val = 0 + b.val; omega
  | ⟨1, _⟩ => show l.val = 0 + l.val; omega
  | ⟨2, _⟩ => exact hk

/-- The columns divided into heads, components and lanes. -/
theorem castHeads {B L H C D R : Nat} (x : (⟨3, ![B, L, R]⟩ : Shape).Idx → α) (h : (⟨3, ![B, L, R]⟩ : Shape).ShapeCasts ⟨5, ![B, L, H, C, D]⟩)
    (b : Fin B) (l : Fin L) (hh : Fin H) (c : Fin C) (d : Fin D) (k : Fin R) (hR : R = H * C * D) (hk : k.val = (hh.val * C + c.val) * D + d.val) :
    shapeCast (⟨5, ![B, L, H, C, D]⟩ : Shape) x h (ix5 b l hh c d) = x (ix3 b l k) := by
  refine shapeCast_apply _ _ _ _ ?_
  rw [Shape.rowMajor_val_three, Shape.rowMajor_val_five]
  show (b.val * L + l.val) * R + k.val = (((b.val * L + l.val) * H + hh.val) * C + c.val) * D + d.val
  subst hR
  rw [hk]
  ring

/-- The columns divided into heads and lanes. -/
theorem castLanes {B L H D R : Nat} (x : (⟨3, ![B, L, R]⟩ : Shape).Idx → α) (h : (⟨3, ![B, L, R]⟩ : Shape).ShapeCasts ⟨4, ![B, L, H, D]⟩)
    (b : Fin B) (l : Fin L) (hh : Fin H) (d : Fin D) (k : Fin R) (hR : R = H * D) (hk : k.val = hh.val * D + d.val) :
    shapeCast (⟨4, ![B, L, H, D]⟩ : Shape) x h (ix4 b l hh d) = x (ix3 b l k) := by
  refine shapeCast_apply _ _ _ _ ?_
  rw [Shape.rowMajor_val_three, Shape.rowMajor_val_four]
  show (b.val * L + l.val) * R + k.val = ((b.val * L + l.val) * H + hh.val) * D + d.val
  subst hR
  rw [hk]
  ring

/-- Heads and lanes joined into columns. -/
theorem castJoin {B L H D R : Nat} (x : (⟨4, ![B, L, H, D]⟩ : Shape).Idx → α) (h : (⟨4, ![B, L, H, D]⟩ : Shape).ShapeCasts ⟨3, ![B, L, R]⟩)
    (b : Fin B) (l : Fin L) (hh : Fin H) (d : Fin D) (k : Fin R) (hR : R = H * D) (hk : k.val = hh.val * D + d.val) :
    shapeCast (⟨3, ![B, L, R]⟩ : Shape) x h (ix3 b l k) = x (ix4 b l hh d) := by
  refine shapeCast_apply _ _ _ _ ?_
  rw [Shape.rowMajor_val_three, Shape.rowMajor_val_four]
  show ((b.val * L + l.val) * H + hh.val) * D + d.val = (b.val * L + l.val) * R + k.val
  subst hR
  rw [hk]
  ring

/-- A middle axis of extent one dropped after slicing it out. -/
theorem castComp {B H L N : Nat} (x : (⟨5, ![B, H, 1, L, N]⟩ : Shape).Idx → α) (h : (⟨5, ![B, H, 1, L, N]⟩ : Shape).ShapeCasts ⟨4, ![B, H, L, N]⟩)
    (b : Fin B) (hh : Fin H) (l : Fin L) (i : Fin N) :
    shapeCast (⟨4, ![B, H, L, N]⟩ : Shape) x h (ix4 b hh l i) = x (ix5 b hh 0 l i) := by
  refine shapeCast_apply _ _ _ _ ?_
  rw [Shape.rowMajor_val_five, Shape.rowMajor_val_four]
  show (((b.val * H + hh.val) * 1 + 0) * L + l.val) * N + i.val = ((b.val * H + hh.val) * L + l.val) * N + i.val
  simp

/-- One component sliced out. -/
theorem sliceComp {B H C L N o : Nat} (x : (⟨5, ![B, H, C, L, N]⟩ : Shape).Idx → α) (h : (⟨5, ![B, H, C, L, N]⟩ : Shape).Slices ![0, 0, o, 0, 0] ⟨5, ![B, H, 1, L, N]⟩)
    (b : Fin B) (hh : Fin H) (l : Fin L) (i : Fin N) (c : Fin C) (hc : c.val = o) :
    extractStridedSlice (⟨5, ![B, H, 1, L, N]⟩ : Shape) ![0, 0, o, 0, 0] x h (ix5 b hh 0 l i) = x (ix5 b hh c l i) := by
  refine extractStridedSlice_apply _ _ _ _ _ fun a => ?_
  match a with
  | ⟨0, _⟩ => show b.val = 0 + b.val; omega
  | ⟨1, _⟩ => show hh.val = 0 + hh.val; omega
  | ⟨2, _⟩ => show c.val = o + 0; omega
  | ⟨3, _⟩ => show l.val = 0 + l.val; omega
  | ⟨4, _⟩ => show i.val = 0 + i.val; omega

/-- Two arrays one after another along the middle axis, read in the first. -/
theorem cat2_0 {B M N R D : Nat} (x : (⟨3, ![B, M, D]⟩ : Shape).Idx → α) (y : (⟨3, ![B, N, D]⟩ : Shape).Idx → α) (h)
    (b : Fin B) (i : Fin R) (d : Fin D) (k : Fin M) (hk : k.val = i.val) :
    concatenate (⟨3, ![B, R, D]⟩ : Shape) 1 [⟨⟨3, ![B, M, D]⟩, x⟩, ⟨⟨3, ![B, N, D]⟩, y⟩] h (ix3 b i d) = x (ix3 b k d) := by
  refine concatenate_pair_apply_left 1 x y h (ix3 b i d) rfl (ix3 b k d) fun a => ?_
  match a with
  | ⟨0, _⟩ => rfl
  | ⟨1, _⟩ => exact hk
  | ⟨2, _⟩ => rfl

/-- Two arrays one after another along the middle axis, read in the second. -/
theorem cat2_1 {B M N R D : Nat} (x : (⟨3, ![B, M, D]⟩ : Shape).Idx → α) (y : (⟨3, ![B, N, D]⟩ : Shape).Idx → α) (h)
    (b : Fin B) (i : Fin R) (d : Fin D) (k : Fin N) (hk : k.val + M = i.val) :
    concatenate (⟨3, ![B, R, D]⟩ : Shape) 1 [⟨⟨3, ![B, M, D]⟩, x⟩, ⟨⟨3, ![B, N, D]⟩, y⟩] h (ix3 b i d) = y (ix3 b k d) := by
  refine concatenate_pair_apply_right 1 x y h (ix3 b i d) rfl rfl (ix3 b k d) (fun a ha => ?_) ?_
  · match a with
    | ⟨0, _⟩ => rfl
    | ⟨1, _⟩ => exact absurd rfl ha
    | ⟨2, _⟩ => rfl
  · exact hk

/-- A row's number repeated over the row's entries. -/
theorem bdRow5 {A B C D N : Nat} (x : (⟨4, ![A, B, C, D]⟩ : Shape).Idx → α) (h) (h')
    (a : Fin A) (b : Fin B) (c : Fin C) (d : Fin D) (k : Fin N) :
    broadcastInDim (⟨5, ![A, B, C, D, N]⟩ : Shape) ![0, 1, 2, 3, 4] h (broadcastInDim (⟨5, ![A, B, C, D, 1]⟩ : Shape) ![0, 1, 2, 3] h' x) (ix5 a b c d k)
      = x (ix4 a b c d) := by
  refine (broadcastInDim_apply _ _ _ _ (ix5 a b c d 0) fun i => ?_).trans (broadcastInDim_apply _ _ _ _ (ix4 a b c d) fun i => ?_)
  · match i with
    | ⟨0, _⟩ => exact val_eq_ite a
    | ⟨1, _⟩ => exact val_eq_ite b
    | ⟨2, _⟩ => exact val_eq_ite c
    | ⟨3, _⟩ => exact val_eq_ite d
    | ⟨4, _⟩ => rfl
  · match i with
    | ⟨0, _⟩ => exact val_eq_ite a
    | ⟨1, _⟩ => exact val_eq_ite b
    | ⟨2, _⟩ => exact val_eq_ite c
    | ⟨3, _⟩ => exact val_eq_ite d

/-- A last axis of extent one of four repeated. -/
theorem bdLast4 {A B C N : Nat} (x : (⟨4, ![A, B, C, 1]⟩ : Shape).Idx → α) (h)
    (a : Fin A) (b : Fin B) (c : Fin C) (k : Fin N) :
    broadcastInDim (⟨4, ![A, B, C, N]⟩ : Shape) ![0, 1, 2, 3] h x (ix4 a b c k) = x (ix4 a b c 0) := by
  refine broadcastInDim_apply _ _ _ _ _ fun i => ?_
  match i with
  | ⟨0, _⟩ => exact val_eq_ite a
  | ⟨1, _⟩ => exact val_eq_ite b
  | ⟨2, _⟩ => exact val_eq_ite c
  | ⟨3, _⟩ => rfl

/-- A last axis of extent one appended to three. -/
theorem bdInsLast4 {A B C : Nat} (x : (⟨3, ![A, B, C]⟩ : Shape).Idx → α) (h)
    (a : Fin A) (b : Fin B) (c : Fin C) : broadcastInDim (⟨4, ![A, B, C, 1]⟩ : Shape) ![0, 1, 2] h x (ix4 a b c 0) = x (ix3 a b c) := by
  refine broadcastInDim_apply _ _ _ _ _ fun i => ?_
  match i with
  | ⟨0, _⟩ => exact val_eq_ite a
  | ⟨1, _⟩ => exact val_eq_ite b
  | ⟨2, _⟩ => exact val_eq_ite c

/-- A vector repeated over three leading axes. -/
theorem bdVec4 {A B C N : Nat} (x : (⟨1, ![N]⟩ : Shape).Idx → α) (h) (h')
    (a : Fin A) (b : Fin B) (c : Fin C) (k : Fin N) :
    broadcastInDim (⟨4, ![A, B, C, N]⟩ : Shape) ![0, 1, 2, 3] h (broadcastInDim (⟨4, ![1, 1, 1, N]⟩ : Shape) ![3] h' x) (ix4 a b c k) = x (ix1 k) := by
  refine (broadcastInDim_apply _ _ _ _ (ix4 0 0 0 k) fun i => ?_).trans (broadcastInDim_apply _ _ _ _ (ix1 k) fun i => ?_)
  · match i with
    | ⟨0, _⟩ => rfl
    | ⟨1, _⟩ => rfl
    | ⟨2, _⟩ => rfl
    | ⟨3, _⟩ => exact val_eq_ite k
  · match i with
    | ⟨0, _⟩ => exact val_eq_ite k

/-- A single number repeated over four axes. -/
theorem bdOne4 {A B C N : Nat} (x : (⟨1, ![1]⟩ : Shape).Idx → α) (h) (h')
    (a : Fin A) (b : Fin B) (c : Fin C) (k : Fin N) :
    broadcastInDim (⟨4, ![A, B, C, N]⟩ : Shape) ![0, 1, 2, 3] h (broadcastInDim (⟨4, ![1, 1, 1, 1]⟩ : Shape) ![3] h' x) (ix4 a b c k) = x (ix1 0) := by
  refine (broadcastInDim_apply _ _ _ _ (ix4 0 0 0 0) fun i => ?_).trans (broadcastInDim_apply _ _ _ _ (ix1 0) fun i => ?_)
  · match i with
    | ⟨0, _⟩ => rfl
    | ⟨1, _⟩ => rfl
    | ⟨2, _⟩ => rfl
    | ⟨3, _⟩ => rfl
  · match i with
    | ⟨0, _⟩ => rfl

end Layout

variable (p : FVec Ideal S8192x6656 .bf16) (pc : FVec Ideal S1024x6656 .bf16) (lam : FVec Ideal S1 .f32) (sg : FVec Ideal S128 .f32)

/-- The queries. -/
abbrev Qs : FVec Ideal S4x2048x8x2x64 .f32 :=
  shapeCast _ (extractStridedSlice S4x2048x1024 ![0, 0, 0] (shapeCast _ (extf .f32 p bitsLt_bf16_f32) shapeCasts_S8192x6656_S4x2048x6656) slices_S4x2048x6656_S4x2048x1024_0_0_0) shapeCasts_S4x2048x1024_S4x2048x8x2x64

/-- The keys' columns, context before latents. -/
abbrev Kc : FVec Ideal S4x2304x1024 .f32 :=
  concatenate S4x2304x1024 1 [⟨S4x256x1024, (extractStridedSlice S4x256x1024 ![0, 0, 1024] (shapeCast _ (extf .f32 pc bitsLt_bf16_f32) shapeCasts_S1024x6656_S4x256x6656) slices_S4x256x6656_S4x256x1024_0_0_1024)⟩, ⟨S4x2048x1024, (extractStridedSlice S4x2048x1024 ![0, 0, 1024] (shapeCast _ (extf .f32 p bitsLt_bf16_f32) shapeCasts_S8192x6656_S4x2048x6656) slices_S4x2048x6656_S4x2048x1024_0_0_1024)⟩] concatenates_S4x256x1024_S4x2048x1024_S4x2304x1024_d1

/-- The values' columns, context before latents. -/
abbrev Vc : FVec Ideal S4x2304x1024 .f32 :=
  concatenate S4x2304x1024 1 [⟨S4x256x1024, (extractStridedSlice S4x256x1024 ![0, 0, 2048] (shapeCast _ (extf .f32 pc bitsLt_bf16_f32) shapeCasts_S1024x6656_S4x256x6656) slices_S4x256x6656_S4x256x1024_0_0_2048)⟩, ⟨S4x2048x1024, (extractStridedSlice S4x2048x1024 ![0, 0, 2048] (shapeCast _ (extf .f32 p bitsLt_bf16_f32) shapeCasts_S8192x6656_S4x2048x6656) slices_S4x2048x6656_S4x2048x1024_0_0_2048)⟩] concatenates_S4x256x1024_S4x2048x1024_S4x2304x1024_d1

/-- The scores. -/
abbrev Sc : FVec Ideal S4x8x2x2048x2304 .f32 :=
  Host.dotGeneral dot_S4x2048x8x2x64_S4x2304x8x2x64_S4x8x2x2048x2304_4_4_1_1_023_023 none (Qs p) (shapeCast _ (Kc p pc) shapeCasts_S4x2304x1024_S4x2304x8x2x64)

/-- The exponentials of scores, each row's maximum subtracted. -/
abbrev Ex (T : FVec Ideal S4x8x2x2048x2304 .f32) : FVec Ideal S4x8x2x2048x2304 .f32 :=
  Host.exp (subf T (broadcastInDim S4x8x2x2048x2304 ![0, 1, 2, 3, 4] bcast_S4x8x2x2048x1_S4x8x2x2048x2304_0_1_2_3_4 (broadcastInDim S4x8x2x2048x1 ![0, 1, 2, 3] bcast_S4x8x2x2048_S4x8x2x2048x1_0_1_2_3 (maximumf (broadcastInDim S4x8x2x2048 ![] bcast_S_S4x8x2x2048 (constant S_ .f32 0xFF800000#32)) (Host.reduce FloatOps.maximumf T (constant S_ .f32 0xFF800000#32) reducesTo_S4x8x2x2048x2304_S4x8x2x2048_d4 h_S_)))))

/-- Each row divided by its sum. -/
abbrev Pr (T : FVec Ideal S4x8x2x2048x2304 .f32) : FVec Ideal S4x8x2x2048x2304 .f32 :=
  Host.divf T (broadcastInDim S4x8x2x2048x2304 ![0, 1, 2, 3, 4] bcast_S4x8x2x2048x1_S4x8x2x2048x2304_0_1_2_3_4 (broadcastInDim S4x8x2x2048x1 ![0, 1, 2, 3] bcast_S4x8x2x2048_S4x8x2x2048x1_0_1_2_3 (Host.reduceAdd T (constant S_ .f32 0x00000000#32) reducesTo_S4x8x2x2048x2304_S4x8x2x2048_d4 h_S_)))

/-- The first component's weights less the second's, weighted. -/
abbrev Df (T : FVec Ideal S4x8x2x2048x2304 .f32) : FVec Ideal S4x8x2048x2304 .f32 :=
  subf (shapeCast _ (extractStridedSlice S4x8x1x2048x2304 ![0, 0, 0, 0, 0] T slices_S4x8x2x2048x2304_S4x8x1x2048x2304_0_0_0_0_0) shapeCasts_S4x8x1x2048x2304_S4x8x2048x2304) (mulf (broadcastInDim S4x8x2048x2304 ![0, 1, 2, 3] bcast_S1x1x1x1_S4x8x2048x2304_0_1_2_3 (broadcastInDim S1x1x1x1 ![3] bcast_S1_S1x1x1x1_3 lam)) (shapeCast _ (extractStridedSlice S4x8x1x2048x2304 ![0, 0, 1, 0, 0] T slices_S4x8x2x2048x2304_S4x8x1x2048x2304_0_0_1_0_0) shapeCasts_S4x8x1x2048x2304_S4x8x2048x2304))

/-- The heads' outputs. -/
abbrev Os : FVec Ideal S4x2048x8x128 .f32 :=
  transpose S4x2048x8x128 [0, 3, 1, 2] (Host.dotGeneral dot_S4x2304x8x128_S4x8x2048x2304_S4x8x128x2048_1_3_3_2_02_01 none (shapeCast _ (Vc p pc) shapeCasts_S4x2304x1024_S4x2304x8x128) (Df lam (Pr (Ex (Sc p pc))))) transposes_S4x8x128x2048_S4x2048x8x128_0_3_1_2

/-- The gate's columns. -/
abbrev Gt : FVec Ideal S4x2048x1024 .f32 :=
  extractStridedSlice S4x2048x1024 ![0, 0, 3072] (shapeCast _ (extf .f32 p bitsLt_bf16_f32) shapeCasts_S8192x6656_S4x2048x6656) slices_S4x2048x6656_S4x2048x1024_0_0_3072

theorem Qs_apply (hf : AttK.Finite p pc) (b : Fin 4) (l : Fin 2048) (h : Fin 8) (c : Fin 2) (d : Fin 64) :
    Qs p (ix5 b l h c d) = ((AttK.queryOf p b h l ⟨c.val * 64 + d.val, by omega⟩ : ℝ) : EReal) := by
  unfold Qs
  rw [castHeads _ _ b l h c d ⟨h.val * 128 + (c.val * 64 + d.val), by omega⟩ (by norm_num) (by show _ = (h.val * 2 + c.val) * 64 + d.val; simp only; omega),
    slice3 _ _ b l _ ⟨h.val * 128 + (c.val * 64 + d.val), by omega⟩ (by simp only; omega), castGroup _ _ b l _ ⟨b.val * 2048 + l.val, by omega⟩ rfl]
  exact hf.main _ _ (by simp only; omega)

theorem Kc_apply (hf : AttK.Finite p pc) (b : Fin 4) (i : Fin 2304) (h : Fin 8) (d : Fin 128) :
    Kc p pc (ix3 b i ⟨h.val * 128 + d.val, by omega⟩) = ((AttK.rowsFrom p pc 1024 (by omega) b h i d : ℝ) : EReal) := by
  unfold Kc AttK.rowsFrom
  by_cases hi : i.val < 256
  · rw [dif_pos hi]
    refine (cat2_0 _ _ concatenates_S4x256x1024_S4x2048x1024_S4x2304x1024_d1 b i _ ⟨i.val, hi⟩ rfl).trans ?_
    rw [slice3 _ _ b _ _ ⟨1024 + (h.val * 128 + d.val), by omega⟩ rfl, castGroup _ _ b _ _ ⟨b.val * 256 + i.val, by omega⟩ rfl]
    exact hf.ctx _ _ (by simp only; omega) (by simp only; omega)
  · rw [dif_neg hi]
    refine (cat2_1 _ _ concatenates_S4x256x1024_S4x2048x1024_S4x2304x1024_d1 b i _ ⟨i.val - 256, by omega⟩ (by simp only; omega)).trans ?_
    rw [slice3 _ _ b _ _ ⟨1024 + (h.val * 128 + d.val), by omega⟩ rfl, castGroup _ _ b _ _ ⟨b.val * 2048 + (i.val - 256), by omega⟩ rfl]
    exact hf.main _ _ (by simp only; omega)

theorem Vc_apply (hf : AttK.Finite p pc) (b : Fin 4) (i : Fin 2304) (h : Fin 8) (d : Fin 128) :
    Vc p pc (ix3 b i ⟨h.val * 128 + d.val, by omega⟩) = ((AttK.rowsFrom p pc 2048 (by omega) b h i d : ℝ) : EReal) := by
  unfold Vc AttK.rowsFrom
  by_cases hi : i.val < 256
  · rw [dif_pos hi]
    refine (cat2_0 _ _ concatenates_S4x256x1024_S4x2048x1024_S4x2304x1024_d1 b i _ ⟨i.val, hi⟩ rfl).trans ?_
    rw [slice3 _ _ b _ _ ⟨2048 + (h.val * 128 + d.val), by omega⟩ rfl, castGroup _ _ b _ _ ⟨b.val * 256 + i.val, by omega⟩ rfl]
    exact hf.ctx _ _ (by simp only; omega) (by simp only; omega)
  · rw [dif_neg hi]
    refine (cat2_1 _ _ concatenates_S4x256x1024_S4x2048x1024_S4x2304x1024_d1 b i _ ⟨i.val - 256, by omega⟩ (by simp only; omega)).trans ?_
    rw [slice3 _ _ b _ _ ⟨2048 + (h.val * 128 + d.val), by omega⟩ rfl, castGroup _ _ b _ _ ⟨b.val * 2048 + (i.val - 256), by omega⟩ rfl]
    exact hf.main _ _ (by simp only; omega)

/-- The first product at an entry. -/
theorem scoreDot (x : FVec Ideal S4x2048x8x2x64 .f32) (y : FVec Ideal S4x2304x8x2x64 .f32) (b : Fin 4) (h : Fin 8) (c : Fin 2) (l : Fin 2048) (i : Fin 2304) :
    Host.dotGeneral dot_S4x2048x8x2x64_S4x2304x8x2x64_S4x8x2x2048x2304_4_4_1_1_023_023 none x y (ix5 b h c l i)
      = ∑ d : Fin 64, x (ix5 b l h c d) * y (ix5 b i h c d) := by
  unfold Host.dotGeneral
  rw [Ideal.dotGeneral_apply, ← Equiv.sum_comp (contrEquiv1 dot_S4x2048x8x2x64_S4x2304x8x2x64_S4x8x2x2048x2304_4_4_1_1_023_023 64 rfl rfl).symm]
  refine Finset.sum_congr rfl fun d _ => congrArg₂ (· * ·) (congrArg x ?_) (congrArg y ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The second product at an entry. -/
theorem valueDot (x : FVec Ideal S4x2304x8x128 .f32) (y : FVec Ideal S4x8x2048x2304 .f32) (b : Fin 4) (h : Fin 8) (e : Fin 128) (l : Fin 2048) :
    Host.dotGeneral dot_S4x2304x8x128_S4x8x2048x2304_S4x8x128x2048_1_3_3_2_02_01 none x y (ix4 b h e l)
      = ∑ i : Fin 2304, x (ix4 b i h e) * y (ix4 b h l i) := by
  unfold Host.dotGeneral
  rw [Ideal.dotGeneral_apply, ← Equiv.sum_comp (contrEquiv1 dot_S4x2304x8x128_S4x8x2048x2304_S4x8x128x2048_1_3_3_2_02_01 2304 rfl rfl).symm]
  refine Finset.sum_congr rfl fun d _ => congrArg₂ (· * ·) (congrArg x ?_) (congrArg y ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The scores, real numbers. -/
theorem Sc_apply (hf : AttK.Finite p pc) (b : Fin 4) (h : Fin 8) (c : Fin 2) (l : Fin 2048) (i : Fin 2304) :
    Sc p pc (ix5 b h c l i)
      = ((∑ d : Fin 64, AttK.queryOf p b h l ⟨c.val * 64 + d.val, by omega⟩ * AttK.rowsFrom p pc 1024 (by omega) b h i ⟨c.val * 64 + d.val, by omega⟩ : ℝ) : EReal) := by
  unfold Sc
  rw [scoreDot, coe_sum]
  refine Finset.sum_congr rfl fun d _ => ?_
  rw [Qs_apply p pc hf, castHeads _ _ b i h c d ⟨h.val * 128 + (c.val * 64 + d.val), by omega⟩ (by norm_num) (by show _ = (h.val * 2 + c.val) * 64 + d.val; simp only; omega),
    EReal.coe_mul]
  exact congrArg _ (Kc_apply p pc hf b i h ⟨c.val * 64 + d.val, by omega⟩)

/-- A row's exponentials, its scores real. -/
theorem Ex_apply (T : FVec Ideal S4x8x2x2048x2304 .f32) (b : Fin 4) (h : Fin 8) (c : Fin 2) (l : Fin 2048) (s : Fin 2304 → ℝ) (hs : ∀ i, T (ix5 b h c l i) = ((s i : ℝ) : EReal)) :
    ∃ M : ℝ, ∀ i, Ex T (ix5 b h c l i) = Ideal.exp ((s i : EReal) - (M : EReal)) := by
  obtain ⟨M, hM⟩ := fold_max_real s
  refine ⟨M, fun i => ?_⟩
  unfold Ex
  show Ideal.exp (T (ix5 b h c l i) - _) = _
  rw [bdRow5, hs, maximumf_apply]
  have e : Host.reduce FloatOps.maximumf T (constant S_ .f32 0xFF800000#32) reducesTo_S4x8x2x2048x2304_S4x8x2x2048_d4 h_S_ (ix4 b h c l) = (M : EReal) := by
    refine (Host.reduce_eq_fold_single (FloatOps.maximumf (F := Ideal) (φ := .f32)) T _ reducesTo_S4x8x2x2048x2304_S4x8x2x2048_d4 (by decide) h_S_ (ix4 b h c l)).trans ?_
    refine Eq.trans ?_ hM
    refine (congrArg (fun z => Finset.univ.fold max z _) AttK.ofBits_negInf).trans ?_
    refine Finset.fold_congr fun i _ => ?_
    refine Eq.trans (congrArg T ?_) (hs i)
    funext a
    match a with
    | ⟨0, _⟩ => rfl
    | ⟨1, _⟩ => rfl
    | ⟨2, _⟩ => rfl
    | ⟨3, _⟩ => rfl
    | ⟨4, _⟩ => rfl
  rw [e, broadcastInDim_scalar_apply]
  show Ideal.exp (_ - max (Ideal.ofBits .f32 0xFF800000#32) _) = _
  rw [AttK.ofBits_negInf, max_eq_right bot_le]

theorem Pr_apply (T : FVec Ideal S4x8x2x2048x2304 .f32) (b : Fin 4) (h : Fin 8) (c : Fin 2) (l : Fin 2048) (i : Fin 2304) :
    Pr T (ix5 b h c l i) = Ideal.div (T (ix5 b h c l i)) (∑ k : Fin 2304, T (ix5 b h c l k)) := by
  unfold Pr
  rw [hostDivf_apply, bdRow5, hostReduceAdd_apply, Ideal.hostReduceAdd_single _ (by decide), constant_apply, Ideal.ofBits_zero_f32, zero_add]
  refine congrArg _ (Finset.sum_congr rfl fun k _ => congrArg T ?_)
  funext a
  match a with
  | ⟨0, _⟩ => rfl
  | ⟨1, _⟩ => rfl
  | ⟨2, _⟩ => rfl
  | ⟨3, _⟩ => rfl
  | ⟨4, _⟩ => rfl

theorem Df_apply (T : FVec Ideal S4x8x2x2048x2304 .f32) (b : Fin 4) (h : Fin 8) (l : Fin 2048) (i : Fin 2304) :
    Df lam T (ix4 b h l i) = T (ix5 b h 0 l i) - lam (ix1 0) * T (ix5 b h 1 l i) := by
  unfold Df
  rw [subf_apply, mulf_apply, bdOne4, castComp, castComp, sliceComp (o := 0) _ _ b h l i 0 rfl, sliceComp (o := 1) _ _ b h l i 1 rfl]

/-- The heads' outputs: the attention of the query over the keys and values. -/
theorem Os_apply (hf : AttK.Finite p pc) (w : ℝ) (hl : lam (ix1 0) = (w : EReal)) (b : Fin 4) (l : Fin 2048) (h : Fin 8) (e : Fin 128) :
    Os p pc lam (ix4 b l h e)
      = AttK.mix (AttK.queryOf p b h l) (AttK.rowsFrom p pc 1024 (by omega) b h) (AttK.rowsFrom p pc 2048 (by omega) b h) (w : EReal) e := by
  have step : Os p pc lam (ix4 b l h e) = ∑ i : Fin 2304, ((AttK.rowsFrom p pc 2048 (by omega) b h i e : ℝ) : EReal) * Df lam (Pr (Ex (Sc p pc))) (ix4 b h l i) := by
    unfold Os
    refine (transpose_apply _ _ _ _ (ix4 b h e l) fun a => ?_).trans ?_
    · match a with
      | ⟨0, _⟩ => rfl
      | ⟨1, _⟩ => rfl
      | ⟨2, _⟩ => rfl
      | ⟨3, _⟩ => rfl
    · rw [valueDot]
      refine Finset.sum_congr rfl fun i _ => congrArg (· * _) ?_
      rw [castLanes _ _ b i h e ⟨h.val * 128 + e.val, by omega⟩ (by norm_num) rfl]
      exact Vc_apply p pc hf b i h e
  rw [step]
  obtain ⟨M, hM⟩ := Ex_apply (Sc p pc) b h 0 l _ (Sc_apply p pc hf b h 0 l)
  obtain ⟨N, hN⟩ := Ex_apply (Sc p pc) b h 1 l _ (Sc_apply p pc hf b h 1 l)
  simp only [Df_apply, Pr_apply, hM, hN, hl]
  refine (ref_mean _ _ _ w M N).trans ?_
  unfold AttK.mix
  have z : ∀ d : Fin 64, (⟨(0 : Fin 2).val * 64 + d.val, by omega⟩ : Fin 128) = ⟨d.val, by omega⟩ := fun d => Fin.ext (by show 0 * 64 + d.val = d.val; omega)
  have z' : ∀ d : Fin 64, (⟨(1 : Fin 2).val * 64 + d.val, by show 1 * 64 + d.val < 128; omega⟩ : Fin 128) = ⟨64 + d.val, by omega⟩ := fun d => Fin.ext (by show 1 * 64 + d.val = 64 + d.val; omega)
  simp only [z, z']

/-- The reference's result is the same function of the arguments as the kernel's. -/
theorem out_eq (hf : AttK.Finite p pc) (w : ℝ) (hl : lam (ix1 0) = (w : EReal)) :
    (shapeCast S8192x1024 (truncf .bf16 (mulf (shapeCast _ (mulf (mulf (mulf (Os p pc lam) (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf (Os p pc lam) (Os p pc lam)) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 sg))) (broadcastInDim S4x2048x8x128 ![] bcast_S_S4x2048x8x128 (constant S_ .f32 0x3F4CCCCD#32))) shapeCasts_S4x2048x8x128_S4x2048x1024) (mulf (Gt p) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (Gt p))))))) bitsLt_bf16_f32) shapeCasts_S4x2048x1024_S8192x1024 : S8192x1024.Idx → EReal)
      = fun i => AttK.attAt p pc (lam (ix1 0)) sg ⟨(i 0 : ℕ) / 2048, by have h : (i 0 : ℕ) < 8192 := (i 0).isLt; omega⟩ ⟨(i 1 : ℕ) / 128, by have h : (i 1 : ℕ) < 1024 := (i 1).isLt; omega⟩
          ⟨(i 0 : ℕ) % 2048, by omega⟩ ⟨(i 1 : ℕ) % 128, by omega⟩ := by
  funext i
  obtain ⟨r, k, rfl⟩ : ∃ (r : Fin 8192) (k : Fin 1024), i = ix2 r k := ⟨i 0, i 1, eq_ix2 i⟩
  show _ = AttK.attAt p pc (lam (ix1 0)) sg ⟨r.val / 2048, _⟩ ⟨k.val / 128, _⟩ ⟨r.val % 2048, _⟩ ⟨k.val % 128, _⟩
  have hr : r.val = (⟨r.val / 2048, by omega⟩ : Fin 4).val * 2048 + (⟨r.val % 2048, by omega⟩ : Fin 2048).val := by
    show r.val = r.val / 2048 * 2048 + r.val % 2048
    omega
  have hk : k.val = (⟨k.val / 128, by omega⟩ : Fin 8).val * 128 + (⟨k.val % 128, by omega⟩ : Fin 128).val := by
    show k.val = k.val / 128 * 128 + k.val % 128
    omega
  generalize (⟨r.val / 2048, by omega⟩ : Fin 4) = b at hr ⊢
  generalize (⟨r.val % 2048, by omega⟩ : Fin 2048) = l at hr ⊢
  generalize (⟨k.val / 128, by omega⟩ : Fin 8) = h at hk ⊢
  generalize (⟨k.val % 128, by omega⟩ : Fin 128) = e at hk ⊢
  have hg : Gt p (ix3 b l k) = p (ix2 ⟨b.val * 2048 + l.val, by omega⟩ ⟨3072 + (h.val * 128 + e.val), by omega⟩) := by
    unfold Gt
    rw [slice3 _ _ b l k ⟨3072 + (h.val * 128 + e.val), by omega⟩ (by simp only; omega), castGroup _ _ b l _ ⟨b.val * 2048 + l.val, by omega⟩ rfl]
    rfl
  rw [castFlat _ _ b l k r hr, truncf_apply, mulf_apply, castJoin _ _ b l h e k (by norm_num) hk]
  unfold AttK.attAt AttK.headAt
  refine congrArg₂ (· * ·) ?_ ?_
  · rw [mulf_apply, mulf_apply, mulf_apply, bdVec4, bdLast4, broadcastInDim_scalar_apply, Os_apply p pc lam hf w hl]
    unfold AttK.headOut
    rw [hl]
    refine congrArg₂ (· * ·) (congrArg₂ (· * ·) (congrArg₂ (· * ·) rfl (congrArg Ideal.rsqrt ?_)) rfl) rfl
    rw [addf_apply, hostDivf_apply, bdInsLast4, broadcastInDim_scalar_apply, broadcastInDim_scalar_apply, hostReduceAdd_apply, Ideal.hostReduceAdd_single _ (by decide), constant_apply, Ideal.ofBits_zero_f32, zero_add]
    refine congrArg₂ (· + ·) (congrArg₂ Ideal.div (Finset.sum_congr rfl fun d _ => ?_) rfl) rfl
    refine Eq.trans (congrArg (mulf (Os p pc lam) (Os p pc lam)) (?_ : _ = ix4 b l h d)) (congrArg₂ (· * ·) (Os_apply p pc lam hf w hl b l h d) (Os_apply p pc lam hf w hl b l h d))
    funext a
    match a with
    | ⟨0, _⟩ => rfl
    | ⟨1, _⟩ => rfl
    | ⟨2, _⟩ => rfl
    | ⟨3, _⟩ => rfl
  · rw [mulf_apply, hostDivf_apply, addf_apply, broadcastInDim_scalar_apply]
    show Gt p (ix3 b l k) * Ideal.div (Ideal.ofBits .f32 0x3F800000#32) (Ideal.ofBits .f32 0x3F800000#32 + Ideal.exp (-(Gt p (ix3 b l k)))) = _
    rw [hg, Ideal.ofBits_one_f32]
    rfl

end Cert.AttRef

end
-- ==== Proof.AttAlgebraic.lean ====
/- The attention: kernel and reference leave the same result, of real queries, keys, values and weight. -/
module

public import proofs.«01_k».proof.Defs
public import proofs.«01_k».proof.Proof.AttRef

@[expose] public section

noncomputable section

namespace Cert.AttAlgebraic

open Idealize.ShloMosaic Idealize.ShloMosaic.ValueIdx Idealize.SL.Sem Cert.Reads

/-- The precondition's side conditions. -/
theorem facts : Cert.Pre_finite.Facts :=
  { slices_S8192x6656_S8192x3072_0_0 := by decide
    bitsLt_bf16_f32 := by decide
    bcast_S_S8192x3072 := by decide
    slices_S1024x6656_S1024x2048_0_1024 := by decide
    bcast_S_S1024x2048 := by decide
    bcast_S_S1 := by decide }

theorem ofBits_inf : Ideal.ofBits .f32 0x7F800000#32 = ⊤ := by
  simp [Ideal.ofBits, Ideal.ieee]

/-- A number of finite magnitude is real. -/
theorem real_of_abs (x : EReal) (h : max x (-x) < ⊤) : x = ((x.toReal : ℝ) : EReal) := by
  refine (EReal.coe_toReal ?_ ?_).symm
  · rintro rfl
    simp at h
  · rintro rfl
    simp at h

/-- What the comparison with infinity says of a number. -/
theorem real_of_cmp (x : EReal) (h : Ideal.cmp .olt (max x (-x)) (Ideal.ofBits .f32 0x7F800000#32) = 1#1) : x = ((x.toReal : ℝ) : EReal) := by
  refine real_of_abs x ?_
  rw [ofBits_inf] at h
  by_contra hn
  simp [Ideal.cmp, hn] at h

/-- What the precondition says of the arguments. -/
theorem of_pre (p : Pre_finite.S8192x6656.Idx → EReal) (pc : Pre_finite.S1024x6656.Idx → EReal) (lam : Pre_finite.S1.Idx → EReal) (sg : Pre_finite.S128.Idx → EReal)
    (h0 : (@Cert.Pre_finite.fn facts Ideal _ p pc lam sg).1 = fun _ => 1#1)
    (h1 : (@Cert.Pre_finite.fn facts Ideal _ p pc lam sg).2.1 = fun _ => 1#1)
    (h2 : (@Cert.Pre_finite.fn facts Ideal _ p pc lam sg).2.2 = fun _ => 1#1) :
    AttK.Finite p pc ∧ lam (ix1 0) = (((lam (ix1 0)).toReal : ℝ) : EReal) := by
  refine ⟨⟨fun r k hk => real_of_cmp _ ?_, fun r k hk hk' => real_of_cmp _ ?_⟩, real_of_cmp _ ?_⟩
  · refine Eq.trans ?_ (congrFun h0 (ix2 r ⟨k.val, hk⟩))
    have e := slice2 (o0 := 0) (o1 := 0) (m := 8192) (n := 3072) p (by decide) r ⟨k.val, hk⟩ r k (by simp) (by simp)
    rw [← e]
    rfl
  · refine Eq.trans ?_ (congrFun h1 (ix2 r ⟨k.val - 1024, by omega⟩))
    have e := slice2 (o0 := 0) (o1 := 1024) (m := 1024) (n := 2048) pc (by decide) r ⟨k.val - 1024, by omega⟩ r k (by simp) (by simp only; omega)
    rw [← e]
    rfl
  · exact congrFun h2 (ix1 0)

/-- From equal arguments, queries, keys, values and weight real, the attention and its reference end with equal results. -/
theorem algebraic : Cert.algebraic_KernelIdeal_ReferenceIdeal_pre_finite (hKernelIdeal := Cert.KernelIdeal.Gen.facts)
    (hReferenceIdeal := Cert.ReferenceIdeal.Gen.facts) (hPre_finite := facts) := by
  intro m g m' g' hpre hargs
  have hf := fun c => of_pre _ _ _ _ (hpre c).1 (hpre c).2.1 (hpre c).2.2
  refine ⟨fun c => AttK.G m c, ?_, ?_⟩
  · refine (θ_run (Cert.KernelIdeal.defs (F := Ideal)) _ _).mono (fun r h c => ?_) (Cert.KernelIdeal.Value.run_blocks (F := Ideal) m g)
    exact ⟨(h c).1.trans (AttK.final m c (hf c).1), (h c).2⟩
  · refine (θ_run (Cert.ReferenceIdeal.defs (F := Ideal)) _ _).mono (fun r h c => ?_) (Cert.ReferenceIdeal.Value.run (F := Ideal) m' g')
    obtain ⟨hv, hrest⟩ := h c
    refine ⟨hv.trans ?_, hrest⟩
    obtain ⟨h0, h1, h2, h3⟩ := hargs c
    unfold Cert.ReferenceIdeal.Value.res_main_v56
    rw [h0, h1, h2, h3]
    exact AttRef.out_eq _ _ _ _ (hf c).1 _ (hf c).2

end Cert.AttAlgebraic

end
-- ==== Proof.InKernel.lean ====
/- What the in-projection's kernel computes at an entry: the normed and modulated row, its product with the weight, and the turned columns. -/
module

public import proofs.«01_k».proof.Proof.Reads
public import proofs.«01_k».proof.Proof.Gen.InprojIdeal.Value
public import Idealize.ShloMosaic.Lib.KernelVsHost

@[expose] public section

noncomputable section

namespace Cert.InK

open Cert.InprojIdeal Cert.InprojIdeal.Gen Idealize.ShloMosaic Idealize.ShloMosaic.ValueIdx Idealize.ShloMosaic.TcCoe Cert.Reads
open scoped BigOperators

/-- A row divided by the root of its mean square plus epsilon, times a scale, then modulated. -/
def hrow (x g scale shift : Fin 2048 → EReal) (c : Fin 2048) : EReal :=
  x c * Ideal.rsqrt (Ideal.div (∑ k : Fin 2048, x k * x k) (Ideal.ofBits .f32 0x45000000#32) + Ideal.ofBits .f32 0x358637BD#32) * g c
    * (Ideal.ofBits .f32 0x3F800000#32 + scale c) + shift c

/-- The kept rows at an entry. -/
theorem pay1_apply (v15 : FVec Ideal S1024x2048 .f32) (v21 : FVec Ideal S1x1x6144 .f32) (v30 : FVec Ideal S1x2048 .f32) (r : Fin 1024) (c : Fin 2048) :
    k0_pay1 (F := Ideal) v15 v21 v30 (ix2 r c)
      = hrow (fun k => v15 (ix2 r k)) (fun k => v30 (ix2 0 k)) (fun k => v21 (ix3 0 0 ⟨2048 + k.val, by omega⟩)) (fun k => v21 (ix3 0 0 ⟨k.val, by omega⟩)) c := by
  unfold k0_pay1
  simp only [shapeCast_self]
  rw [truncf_apply, addf_apply, mulf_apply, mulf_apply, mulf_apply, bcRow, bcRow, bcRow, bcCol, addf_apply,
    slice2 _ _ 0 c 0 ⟨2048 + c.val, by omega⟩ rfl rfl, slice2 (o0 := 0) (o1 := 0) _ _ 0 c 0 ⟨c.val, by omega⟩ rfl (by simp), castDrop, castDrop]
  unfold hrow
  refine congrArg₂ (· + ·) (congrArg₂ (· * ·) (congrArg₂ (· * ·) (congrArg₂ (· * ·) rfl (congrArg Ideal.rsqrt ?_)) rfl) rfl) rfl
  rw [addf_apply, divf_apply, castCol, sumRow]
  rfl

/-- The product of the kept rows with a block of the weight. -/
theorem pay2_apply (v3 : FVec Ideal S1024x2048 .bf16) (v4 : FVec Ideal S2048x512 .bf16) (r : Fin 1024) (c : Fin 512) :
    k0_pay2 (F := Ideal) v3 v4 (ix2 r c) = ∑ k : Fin 2048, v3 (ix2 r k) * v4 (ix2 k c) := by
  unfold k0_pay2
  simp only [shapeCast_self]
  exact dot2 none v3 v4 r c

/-- A rotation along the lanes read at a lane. -/
theorem rot_apply (sb : BitVec 32) (s : ℕ) (hs : sb.toNat = s) (hs' : s < 128) (x : FVec Ideal S1024x128 .f32) (h : S1024x128.Rotates 1 none) (r : Fin 1024) (l : Fin 128) :
    dynamicRotate 1 sb none x h (ix2 r l) = x (ix2 r ⟨(l.val + 128 - s) % 128, by omega⟩) := by
  refine dynamicRotate_apply _ _ _ _ _ _ fun b => ?_
  match b with
  | ⟨0, _⟩ => rfl
  | ⟨1, _⟩ =>
    show (l.val + 128 - s) % 128 = (l.val + 128 - sb.toNat % 128) % 128
    rw [hs, Nat.mod_eq_of_lt hs']

/-- A turned column: the column times the first table, the column 16 lanes up times the second, the one 16 lanes down
    times the third, each table scaled; the lanes go around within a group of 128. -/
def roped (p : Fin 1024 → Fin 512 → EReal) (q : EReal) (t0 t1 t2 : FVec Ideal S1024x128 .f32) (r : Fin 1024) (c : Fin 512) : EReal :=
  p r c * (t0 (ix2 r ⟨c.val % 128, by omega⟩) * q)
    + p r ⟨c.val / 128 * 128 + (c.val % 128 + 16) % 128, by omega⟩ * (t1 (ix2 r ⟨c.val % 128, by omega⟩) * q)
    + p r ⟨c.val / 128 * 128 + (c.val % 128 + 112) % 128, by omega⟩ * (t2 (ix2 r ⟨c.val % 128, by omega⟩) * q)

/-- One group of 128 columns at an entry. -/
theorem group_apply (v6 : FVec Ideal S1024x512 .f32) (q : EReal) (t0 t1 t2 : FVec Ideal S1024x128 .f32) (o g : ℕ) (ho : o = g * 128) (hg : g < 4)
    (h : S1024x512.Slices ![0, o] S1024x128) (h1 : S1024x128.Rotates 1 none) (h2 : S1024x128.Rotates 1 none) (r : Fin 1024) (l : Fin 128) :
    (addf (addf (mulf (extractStridedSlice S1024x128 ![0, o] v6 h) (k0_pay6 (F := Ideal) q t0))
        (mulf (dynamicRotate 1 112#32 none (extractStridedSlice S1024x128 ![0, o] v6 h) h1) (k0_pay7 (F := Ideal) q t1)))
        (mulf (dynamicRotate 1 16#32 none (extractStridedSlice S1024x128 ![0, o] v6 h) h2) (k0_pay8 (F := Ideal) q t2)) : FVec Ideal S1024x128 .f32) (ix2 r l)
      = roped (fun r c => v6 (ix2 r c)) q t0 t1 t2 r ⟨o + l.val, by omega⟩ := by
  subst ho
  have hl : l.val < 128 := l.isLt
  have hm : (⟨(g * 128 + l.val) % 128, by omega⟩ : Fin 128) = l := Fin.ext (by show (g * 128 + l.val) % 128 = l.val; omega)
  unfold k0_pay6 k0_pay7 k0_pay8 roped
  simp only [shapeCast_self]
  rw [addf_apply, addf_apply, mulf_apply, mulf_apply, mulf_apply, rot_apply 112#32 112 rfl (by omega), mulf_apply, mulf_apply, rot_apply 16#32 16 rfl (by omega),
    slice2 (o0 := 0) v6 h r l r ⟨g * 128 + l.val, by omega⟩ (by simp) rfl,
    slice2 (o0 := 0) v6 h r ⟨(l.val + 128 - 112) % 128, by omega⟩ r ⟨g * 128 + (l.val + 128 - 112) % 128, by omega⟩ (by simp) rfl,
    slice2 (o0 := 0) v6 h r ⟨(l.val + 128 - 16) % 128, by omega⟩ r ⟨g * 128 + (l.val + 128 - 16) % 128, by omega⟩ (by simp) rfl,
    mulf_apply, broadcast_apply]
  rw [hm]
  refine congrArg₂ (· + ·) (congrArg₂ (· + ·) rfl (congrArg₂ (· * ·) (congrArg (fun k => v6 (ix2 r k)) (Fin.ext ?_)) rfl))
    (congrArg₂ (· * ·) (congrArg (fun k => v6 (ix2 r k)) (Fin.ext ?_)) rfl)
  · show g * 128 + (l.val + 128 - 112) % 128 = (g * 128 + l.val) / 128 * 128 + ((g * 128 + l.val) % 128 + 16) % 128
    omega
  · show g * 128 + (l.val + 128 - 16) % 128 = (g * 128 + l.val) / 128 * 128 + ((g * 128 + l.val) % 128 + 112) % 128
    omega

/-- The block a point with turned columns writes, from the kept rows, the weight's block and the tables' blocks. -/
def ropeBlock (q : EReal) (s : FVec Ideal S1024x2048 .bf16) (w : FVec Ideal S2048x512 .bf16) (t0 t1 t2 : FVec Ideal S1024x128 .f32) : FVec Ideal S1024x512 .bf16 := fun y =>
  roped (fun r c => k0_pay2 (F := Ideal) s w (ix2 r c)) q t0 t1 t2 (y 0) (y 1)

/-- The four stores of a point with turned columns, last first. -/
def ropePieces (q : EReal) (s : FVec Ideal S1024x2048 .bf16) (w : FVec Ideal S2048x512 .bf16) (t0 t1 t2 : FVec Ideal S1024x128 .f32) :
    List (View.Piece (Elt Ideal) S1024x512 .bf16) :=
  [⟨Rect.unit (s := S1024x512) ![0, 384] S1024x128.size inb_S1024x512_S1024x128_0_384, k0_pay4 (F := Ideal) s w (k0_pay6 (F := Ideal) q t0) (k0_pay7 (F := Ideal) q t1) (k0_pay8 (F := Ideal) q t2)⟩,
   ⟨Rect.unit (s := S1024x512) ![0, 256] S1024x128.size inb_S1024x512_S1024x128_0_256, k0_pay11 (F := Ideal) (k0_pay2 s w) q t0 t1 t2⟩,
   ⟨Rect.unit (s := S1024x512) ![0, 128] S1024x128.size inb_S1024x512_S1024x128_0_128, k0_pay10 (F := Ideal) (k0_pay2 s w) q t0 t1 t2⟩,
   ⟨Rect.unit (s := S1024x512) ![0, 0] S1024x128.size inb_S1024x512_S1024x128_0_0, k0_pay9 (F := Ideal) (k0_pay2 s w) q t0 t1 t2⟩]

/-- A store of 128 columns starting at column `o` lies where the block has it. -/
theorem piece_block (q : EReal) (s : FVec Ideal S1024x2048 .bf16) (w : FVec Ideal S2048x512 .bf16) (t0 t1 t2 : FVec Ideal S1024x128 .f32) (o g : ℕ) (ho : o = g * 128) (hg : g < 4)
    (h : ∀ a, (![0, o] : Fin 2 → ℕ) a + S1024x128.size a ≤ S1024x512.size a) (v : FVec Ideal S1024x128 .bf16)
    (hv : ∀ (r : Fin 1024) (l : Fin 128), v (ix2 r l) = roped (fun r c => k0_pay2 (F := Ideal) s w (ix2 r c)) q t0 t1 t2 r ⟨o + l.val, by omega⟩)
    (x : (Rect.unit (s := S1024x512) ![0, o] S1024x128.size h).shape.Idx) :
    v x = ropeBlock q s w t0 t1 t2 ((Rect.unit (s := S1024x512) ![0, o] S1024x128.size h).emb x) := by
  obtain ⟨r, l, rfl⟩ : ∃ (r : Fin 1024) (l : Fin 128), x = ix2 r l := ⟨x 0, x 1, eq_ix2 x⟩
  refine (hv r l).trans ?_
  unfold ropeBlock
  refine congr (congrArg _ (Fin.ext ?_)) (Fin.ext ?_)
  · show r.val = 0 + 1 * r.val
    omega
  · show o + l.val = o + 1 * l.val
    omega

/-- Every store of a point with turned columns lies where the block has it. -/
theorem pieces_block (q : EReal) (s : FVec Ideal S1024x2048 .bf16) (w : FVec Ideal S2048x512 .bf16) (t0 t1 t2 : FVec Ideal S1024x128 .f32) :
    ∀ p ∈ ropePieces q s w t0 t1 t2, ∀ x, p.2 x = ropeBlock q s w t0 t1 t2 (p.1.emb x) := by
  intro p hp
  unfold ropePieces at hp
  simp only [List.mem_cons, List.not_mem_nil, or_false] at hp
  rcases hp with rfl | rfl | rfl | rfl
  · exact piece_block q s w t0 t1 t2 384 3 rfl (by omega) inb_S1024x512_S1024x128_0_384 _ fun r l => by
      unfold k0_pay4
      exact group_apply (k0_pay2 (F := Ideal) s w) q t0 t1 t2 384 3 rfl (by omega) _ _ _ r l
  · exact piece_block q s w t0 t1 t2 256 2 rfl (by omega) inb_S1024x512_S1024x128_0_256 _ fun r l => by
      unfold k0_pay11
      exact group_apply (k0_pay2 (F := Ideal) s w) q t0 t1 t2 256 2 rfl (by omega) _ _ _ r l
  · exact piece_block q s w t0 t1 t2 128 1 rfl (by omega) inb_S1024x512_S1024x128_0_128 _ fun r l => by
      unfold k0_pay10
      exact group_apply (k0_pay2 (F := Ideal) s w) q t0 t1 t2 128 1 rfl (by omega) _ _ _ r l
  · exact piece_block q s w t0 t1 t2 0 0 rfl (by omega) inb_S1024x512_S1024x128_0_0 _ fun r l => by
      unfold k0_pay9
      exact group_apply (k0_pay2 (F := Ideal) s w) q t0 t1 t2 0 0 rfl (by omega) _ _ _ r l

end Cert.InK

end
-- ==== Proof.InTables.lean ====
/- The in-projection's position tables, as the host leaves them to the launch. -/
module

public import proofs.«01_k».proof.Proof.HostReads
public import proofs.«01_k».proof.Proof.Gen.InprojIdeal.Value
public import Idealize.ShloMosaic.Lib.StableHlo.RunRead

@[expose] public section

noncomputable section

namespace Cert.InK

open Cert.InprojIdeal Cert.InprojIdeal.Gen Idealize.ShloMosaic Idealize.ShloMosaic.ValueIdx Idealize.ShloMosaic.TcCoe Cert.Reads
open scoped BigOperators

/-- The remainder of a vector of integers by one integer, of the divisor's sign. -/
def remVec {s : Shape} (hb : Shape.BroadcastsInDim S_ s ![]) (x : IVec s 32) (d : IVec S_ 32) : IVec s 32 :=
  select (andi (cmpi .ne (cmpi .slt (Host.remsi x (broadcastInDim s ![] hb (select (cmpi .eq d (constantI S_ 32 0#32)) (constantI S_ 32 1#32) d))) (broadcastInDim s ![] hb (constantI S_ 32 0#32)))
      (broadcastInDim s ![] hb (cmpi .slt (select (cmpi .eq d (constantI S_ 32 0#32)) (constantI S_ 32 1#32) d) (constantI S_ 32 0#32))))
      (cmpi .ne (Host.remsi x (broadcastInDim s ![] hb (select (cmpi .eq d (constantI S_ 32 0#32)) (constantI S_ 32 1#32) d))) (broadcastInDim s ![] hb (constantI S_ 32 0#32))))
    (addi (Host.remsi x (broadcastInDim s ![] hb (select (cmpi .eq d (constantI S_ 32 0#32)) (constantI S_ 32 1#32) d))) (broadcastInDim s ![] hb (select (cmpi .eq d (constantI S_ 32 0#32)) (constantI S_ 32 1#32) d)))
    (Host.remsi x (broadcastInDim s ![] hb (select (cmpi .eq d (constantI S_ 32 0#32)) (constantI S_ 32 1#32) d)))

/-- The quotient of a vector of integers by one integer, rounded down. -/
def divVec {s : Shape} (hb : Shape.BroadcastsInDim S_ s ![]) (x : IVec s 32) (d : IVec S_ 32) : IVec s 32 :=
  select (andi (cmpi .ne (signi x) (broadcastInDim s ![] hb (signi d))) (cmpi .ne (Host.remsi x (broadcastInDim s ![] hb d)) (broadcastInDim s ![] hb (constantI S_ 32 0#32))))
    (subi (Host.divsi x (broadcastInDim s ![] hb d)) (broadcastInDim s ![] hb (constantI S_ 32 1#32)))
    (Host.divsi x (broadcastInDim s ![] hb d))

/-- The row and column of each position, and each lane's place in its half and in its quarter. -/
def rowPos : IVec S2048 32 := divVec bcast_S_S2048 (iotaInDim S2048 32 0) (constantI S_ 32 64#32)
def colPos : IVec S2048 32 := remVec bcast_S_S2048 (iotaInDim S2048 32 0) (constantI S_ 32 64#32)
def lane (n : BitVec 32) : IVec S128 32 := remVec bcast_S_S128 (iotaInDim S128 32 0) (constantI S_ 32 n)

/-- The frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Which lanes take the column (the second half of a head's lanes), and which lie in the upper quarter of their half. -/
def second : IVec S128 1 := cmpi .sge (lane 64#32) (broadcastInDim S128 ![] bcast_S_S128 (constantI S_ 32 32#32))
def upper : IVec S128 1 := cmpi .sge (lane 32#32) (broadcastInDim S128 ![] bcast_S_S128 (constantI S_ 32 16#32))

/-- The frequency each lane takes. -/
def freqIdx : IVec S128 32 :=
  select (cmpi .slt (lane 16#32) (broadcastInDim S128 ![] bcast_S_S128 (constantI S_ 32 0#32)))
    (addi (lane 16#32) (broadcastInDim S128 ![] bcast_S_S128 (constantI S_ 32 16#32))) (lane 16#32)

/-- A row of lane values at every position, and a column of position values at every lane. -/
def everyPos {α : Type} (x : S128.Idx → α) : S2048x128.Idx → α :=
  broadcastInDim S2048x128 ![0, 1] bcast_S1x128_S2048x128_0_1 (broadcastInDim S1x128 ![1] bcast_S128_S1x128_1 x)
def everyLane {α : Type} (x : S2048.Idx → α) : S2048x128.Idx → α :=
  broadcastInDim S2048x128 ![0, 1] bcast_S2048x1_S2048x128_0_1 (broadcastInDim S2048x1 ![0] bcast_S2048_S2048x1_0 x)

/-- The angle at every position and lane. -/
def angles : FVec Ideal S2048x128 .f32 :=
  mulf (sitofp .f32 (select (everyPos second) (everyLane colPos) (everyLane rowPos)))
    (everyPos (Host.gather gather_S16_S128x1_S128_n_0_n_n_0_1_1 freqs (broadcastInDim S128x1 ![0] bcast_S128_S128x1_0 freqIdx)))

/-- Zero at every position and lane. -/
def zeros : FVec Ideal S2048x128 .f32 := broadcastInDim S2048x128 ![] bcast_S_S2048x128 (constant S_ .f32 0x00000000#32)

variable (m : (ℓ : Loc nD τ sig) → Buf (Elt Ideal) ℓ)

set_option maxHeartbeats 2000000 in
/-- The first table is the cosines of the angles. -/
theorem V33 (c : Dev nD) : (V m c main_v33 : FVec Ideal S2048x128 .f32) = Host.cos angles := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  unfold angles everyPos everyLane second freqIdx rowPos colPos lane freqs remVec divVec
  rfl

set_option maxHeartbeats 2000000 in
/-- The second table is minus the sines on the lower lanes. -/
theorem V36 (c : Dev nD) : (V m c main_v36 : FVec Ideal S2048x128 .f32) = select (everyPos upper) zeros (Host.negf (Host.sin angles)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  unfold angles upper zeros everyPos everyLane second freqIdx rowPos colPos lane freqs remVec divVec
  rfl

set_option maxHeartbeats 2000000 in
/-- The third table is the sines on the upper lanes. -/
theorem V37 (c : Dev nD) : (V m c main_v37 : FVec Ideal S2048x128 .f32) = select (everyPos upper) (Host.sin angles) zeros := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  unfold angles upper zeros everyPos everyLane second freqIdx rowPos colPos lane freqs remVec divVec
  rfl

/-- The modulation, its rows apart. -/
theorem V38 (c : Dev nD) : (V m c main_v38 : FVec Ideal S8x1x6144 .f32) = shapeCast S8x1x6144 (m ((c, Proc.devRef .tc main_arg1))) shapeCasts_S8x6144_S8x1x6144 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

/-- The norm's scale as a row. -/
theorem V39 (c : Dev nD) : (V m c main_v39 : FVec Ideal S1x2048 .f32) = shapeCast S1x2048 (m ((c, Proc.devRef .tc main_arg2))) shapeCasts_S2048_S1x2048 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp
  rfl

/-- The weight, cast. -/
theorem V40 (c : Dev nD) : (V m c main_v40 : FVec Ideal S2048x6656 .bf16) = (truncf .bf16 (m ((c, Proc.devRef .tc main_arg3)) : FVec Ideal S2048x6656 .f32) bitsLt_bf16_f32 : FVec Ideal S2048x6656 .bf16) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) _ _ = _
  simp only [List.flatten_cons, List.flatten_nil, List.append_nil, List.cons_append, List.nil_append]
  after_reads_simp

/-- Which lanes are which. -/
theorem second_at : ∀ k : Fin 128, second (ix1 k) = if k.val % 64 < 32 then 0#1 else 1#1 := by decide +kernel
theorem upper_at : ∀ k : Fin 128, upper (ix1 k) = if k.val % 32 < 16 then 0#1 else 1#1 := by decide +kernel
theorem freqIdx_at : ∀ k : Fin 128, min (freqIdx (ix1 k)).toInt.toNat 15 = k.val % 16 := by decide +kernel

/-- A pick out of 16 values by one integer a lane, clamped into range. -/
theorem pick_apply (x : FVec Ideal S16 .f32) (idx : IVec S128x1 32) (k : Fin 128) :
    Host.gather gather_S16_S128x1_S128_n_0_n_n_0_1_1 x idx (ix1 k) = x (ix1 ⟨min (idx (ix2 k 0)).toInt.toNat 15, by omega⟩) := by
  refine congrArg x (funext fun a => Fin.ext ?_)
  match a with
  | ⟨0, _⟩ =>
    have hi : gather_S16_S128x1_S128_n_0_n_n_0_1_1.siIdx (ix1 k) ⟨0, Nat.one_pos⟩ = ix2 k 0 := Shape.idx_ext₂ rfl rfl
    show min (idx (gather_S16_S128x1_S128_n_0_n_n_0_1_1.siIdx (ix1 k) ⟨0, Nat.one_pos⟩)).toInt.toNat 15 + 0 + 0 = _
    rw [hi]
    rfl

theorem everyPos_apply {α : Type} (x : S128.Idx → α) (l : Fin 2048) (k : Fin 128) : everyPos x (ix2 l k) = x (ix1 k) := by
  unfold everyPos
  rw [broadcastInDim_apply _ _ _ (ix2 l k) (ix2 0 k) fun a => ?_, broadcastInDim_apply _ _ _ (ix2 0 k) (ix1 k) fun a => ?_]
  · match a with
    | ⟨0, _⟩ => rfl
  · match a with
    | ⟨0, _⟩ => rfl
    | ⟨1, _⟩ => rfl

theorem everyLane_apply {α : Type} (x : S2048.Idx → α) (l : Fin 2048) (k : Fin 128) : everyLane x (ix2 l k) = x (ix1 l) := by
  unfold everyLane
  rw [broadcastInDim_apply _ _ _ (ix2 l k) (ix2 l 0) fun a => ?_, broadcastInDim_apply _ _ _ (ix2 l 0) (ix1 l) fun a => ?_]
  · match a with
    | ⟨0, _⟩ => rfl
  · match a with
    | ⟨0, _⟩ => rfl
    | ⟨1, _⟩ => rfl

/-- The angle of a position at a lane of a head: the row on the first half of the lanes and the column on the second,
    times the frequency. -/
def angle (l : Fin 2048) (k : ℕ) : EReal :=
  FloatOps.sitofp (F := Ideal) .f32 (if k % 64 < 32 then rowPos (ix1 l) else colPos (ix1 l)) * freqs (ix1 ⟨k % 16, by omega⟩)

/-- The angles' cosine and sine. -/
def cosAt (l : Fin 2048) (k : ℕ) : EReal := FloatOps.hostUnary (F := Ideal) .cos (φ := .f32) (angle l k)
def sinAt (l : Fin 2048) (k : ℕ) : EReal := FloatOps.hostUnary (F := Ideal) .sin (φ := .f32) (angle l k)

theorem angles_apply (l : Fin 2048) (k : Fin 128) : angles (ix2 l k) = angle l k.val := by
  unfold angles angle
  rw [mulf_apply, sitofp_apply, select_apply, everyPos_apply, everyLane_apply, everyLane_apply, everyPos_apply, pick_apply, second_at]
  refine congrArg₂ (· * ·) (congrArg (FloatOps.sitofp (F := Ideal) .f32) ?_) (congrArg (fun j => freqs (ix1 j)) (Fin.ext ?_))
  · split_ifs with h
    · exact select_zero _ _
    · exact select_one _ _
  · show min (broadcastInDim S128x1 ![0] bcast_S128_S128x1_0 freqIdx (ix2 k 0)).toInt.toNat 15 = k.val % 16
    rw [broadcastInDim_apply _ _ _ (ix2 k 0) (ix1 k) fun a => ?_, freqIdx_at]
    match a with
    | ⟨0, _⟩ => rfl

/-- The tables at an entry. -/
theorem cos_apply (l : Fin 2048) (k : Fin 128) : (Host.cos angles : FVec Ideal S2048x128 .f32) (ix2 l k) = cosAt l k.val :=
  congrArg (FloatOps.hostUnary (F := Ideal) .cos (φ := .f32)) (angles_apply l k)

theorem zeros_apply (i : S2048x128.Idx) : zeros i = 0 := Ideal.ofBits_zero_f32

theorem lower_apply (l : Fin 2048) (k : Fin 128) :
    (select (everyPos upper) zeros (Host.negf (Host.sin angles)) : FVec Ideal S2048x128 .f32) (ix2 l k) = if k.val % 32 < 16 then -sinAt l k.val else 0 := by
  rw [select_apply, everyPos_apply, upper_at]
  split_ifs with h
  · exact (select_zero _ _).trans (congrArg (fun a => -FloatOps.hostUnary (F := Ideal) .sin (φ := .f32) a) (angles_apply l k))
  · exact (select_one _ _).trans (zeros_apply _)

theorem upper_apply (l : Fin 2048) (k : Fin 128) :
    (select (everyPos upper) (Host.sin angles) zeros : FVec Ideal S2048x128 .f32) (ix2 l k) = if k.val % 32 < 16 then 0 else sinAt l k.val := by
  rw [select_apply, everyPos_apply, upper_at]
  split_ifs with h
  · exact (select_zero _ _).trans (zeros_apply _)
  · exact (select_one _ _).trans (congrArg (fun a => FloatOps.hostUnary (F := Ideal) .sin (φ := .f32) a) (angles_apply l k))

end Cert.InK

end
-- ==== Proof.InMath.lean ====
/- The in-projection's result at an entry, and the law that ties the tables' form of the rotation to the halves' form. -/
module

public import proofs.«01_k».proof.Proof.InKernel
public import proofs.«01_k».proof.Proof.InTables

@[expose] public section

noncomputable section

namespace Cert.InK

open Cert.InprojIdeal Cert.InprojIdeal.Gen Idealize.ShloMosaic Idealize.ShloMosaic.ValueIdx Idealize.ShloMosaic.TcCoe Cert.Reads
open scoped BigOperators

/-- The normed and modulated row `r`; its batch is `r / 2048`. -/
def hAt (x : S8192x2048.Idx → EReal) (md : S8x6144.Idx → EReal) (g : S2048.Idx → EReal) (r : Fin 8192) (k : Fin 2048) : EReal :=
  hrow (fun k => x (ix2 r k)) (fun k => g (ix1 k)) (fun k => md (ix2 ⟨r.val / 2048, by omega⟩ ⟨2048 + k.val, by omega⟩))
    (fun k => md (ix2 ⟨r.val / 2048, by omega⟩ ⟨k.val, by omega⟩)) k

/-- The product of row `r` with column `n` of the weight (columns read modulo their number). -/
def proj (x : S8192x2048.Idx → EReal) (md : S8x6144.Idx → EReal) (g : S2048.Idx → EReal) (w : S2048x6656.Idx → EReal) (r : Fin 8192) (n : ℕ) : EReal :=
  ∑ k : Fin 2048, hAt x md g r k * w (ix2 k ⟨n % 6656, by omega⟩)

/-- A column turned with its partner 16 lanes away in its quarter of the head. -/
def turn (P : ℕ → EReal) (l : Fin 2048) (n : ℕ) : EReal :=
  P n * cosAt l n + (if n % 32 < 16 then -P (n + 16) else P (n - 16)) * sinAt l n

/-- An entry of the result: queries turned and scaled, keys turned, the other columns as they are. -/
def entry (P : ℕ → EReal) (l : Fin 2048) (n : ℕ) : EReal :=
  if n < 1024 then turn P l n * Ideal.ofBits .f32 0x3E000000#32 else if n < 2048 then turn P l n else P n

/-- An entry of the result from the arguments. -/
def inAt (x : S8192x2048.Idx → EReal) (md : S8x6144.Idx → EReal) (g : S2048.Idx → EReal) (w : S2048x6656.Idx → EReal) (r : Fin 8192) (n : ℕ) : EReal :=
  entry (proj x md g w r) ⟨r.val % 2048, by omega⟩ n

/-- The angle depends on the lane within the head only. -/
theorem angle_mod (l : Fin 2048) (n k : ℕ) (h : n % 64 = k % 64) : angle l n = angle l k := by
  unfold angle
  have h' : n % 16 = k % 16 := by omega
  simp only [h, h']

theorem cosAt_mod (l : Fin 2048) (n k : ℕ) (h : n % 64 = k % 64) : cosAt l n = cosAt l k := by
  unfold cosAt
  rw [angle_mod l n k h]

theorem sinAt_mod (l : Fin 2048) (n k : ℕ) (h : n % 64 = k % 64) : sinAt l n = sinAt l k := by
  unfold sinAt
  rw [angle_mod l n k h]

theorem eighth : Ideal.ofBits .f32 0x3E000000#32 = ((1 / 8 : ℝ) : EReal) := by
  simp [Ideal.ofBits, Ideal.ieee]
  rw [← EReal.coe_mul]
  norm_num

/-- The three-table form of the rotation, each table scaled, is the rotation scaled. -/
theorem tables_law (a b d s t q : EReal) (low : Prop) [Decidable low] (hq : 0 ≤ q) (hq' : q ≠ ⊤) :
    a * (t * q) + b * ((if low then -s else 0) * q) + d * ((if low then 0 else s) * q) = (a * t + (if low then -b else d) * s) * q := by
  rw [EReal.right_distrib_of_nonneg_of_ne_top hq hq']
  split_ifs with h
  · rw [zero_mul, mul_zero, add_zero, EReal.neg_mul, EReal.neg_mul, EReal.neg_mul, mul_comm b (-(s * q)), EReal.neg_mul, mul_comm (s * q) b, mul_assoc, mul_assoc]
  · rw [zero_mul, mul_zero, add_zero, mul_assoc, mul_assoc]

/-- The factor of a point with turned columns: an eighth on the queries' two column blocks, one on the keys' two. -/
theorem factor_eq (i : grid0.Coords) : k0_pay3 (F := Ideal) i = if (i 1).val < 2 then Ideal.ofBits .f32 0x3E000000#32 else 1 := by
  have h : ∀ j : Fin 13, Scalar.cmpi .slt (BitVec.ofNat 32 j.val) 2#32 = if j.val < 2 then 1#1 else 0#1 := by decide +kernel
  show Scalar.select (Scalar.cmpi .slt (BitVec.ofNat 32 (i 1).val) 2#32) (Ideal.ofBits .f32 0x3E000000#32) (Ideal.ofBits .f32 0x3F800000#32) = _
  rw [h (i 1), Ideal.ofBits_one_f32]
  split_ifs with hj
  · exact select_one _ _
  · exact select_zero _ _

theorem factor_nonneg (i : grid0.Coords) : 0 ≤ k0_pay3 (F := Ideal) i ∧ k0_pay3 (F := Ideal) i ≠ ⊤ := by
  rw [factor_eq]
  split_ifs
  · rw [eighth]
    exact ⟨by exact_mod_cast (by norm_num : (0 : ℝ) ≤ 1 / 8), EReal.coe_ne_top _⟩
  · exact ⟨zero_le_one, by exact_mod_cast EReal.coe_ne_top 1⟩

end Cert.InK

end
-- ==== Proof.InRef.lean ====
/- The in-projection's reference at an entry of its result. -/
module

public import proofs.«01_k».proof.Proof.HostReads
public import proofs.«01_k».proof.Proof.InMath
public import proofs.«01_k».proof.Proof.Gen.InprojRefIdeal.Run

@[expose] public section

noncomputable section

namespace Cert.InRef

open Cert.InprojRefIdeal Cert.InprojRefIdeal.Gen Idealize.ShloMosaic Idealize.ShloMosaic.ValueIdx Idealize.ShloMosaic.TcCoe Cert.Reads
open scoped BigOperators

section Layout
variable {α : Type}

/-- Rows divided into batches and columns into heads. -/
theorem castSplit {B L H D R N : Nat} (x : (⟨2, ![R, N]⟩ : Shape).Idx → α) (h : (⟨2, ![R, N]⟩ : Shape).ShapeCasts ⟨4, ![B, L, H, D]⟩)
    (b : Fin B) (l : Fin L) (hh : Fin H) (d : Fin D) (r : Fin R) (k : Fin N) (hN : N = H * D) (hr : r.val = b.val * L + l.val) (hk : k.val = hh.val * D + d.val) :
    shapeCast (⟨4, ![B, L, H, D]⟩ : Shape) x h (ix4 b l hh d) = x (ix2 r k) := by
  refine shapeCast_apply _ _ _ _ ?_
  rw [Shape.rowMajor_val_two, Shape.rowMajor_val_four]
  show r.val * N + k.val = ((b.val * L + l.val) * H + hh.val) * D + d.val
  rw [hr, hk, hN]
  ring

/-- Batches joined into rows and heads into columns. -/
theorem castUnsplit {B L H D R N : Nat} (x : (⟨4, ![B, L, H, D]⟩ : Shape).Idx → α) (h : (⟨4, ![B, L, H, D]⟩ : Shape).ShapeCasts ⟨2, ![R, N]⟩)
    (b : Fin B) (l : Fin L) (hh : Fin H) (d : Fin D) (r : Fin R) (k : Fin N) (hN : N = H * D) (hr : r.val = b.val * L + l.val) (hk : k.val = hh.val * D + d.val) :
    shapeCast (⟨2, ![R, N]⟩ : Shape) x h (ix2 r k) = x (ix4 b l hh d) := by
  refine shapeCast_apply _ _ _ _ ?_
  rw [Shape.rowMajor_val_two, Shape.rowMajor_val_four]
  show ((b.val * L + l.val) * H + hh.val) * D + d.val = r.val * N + k.val
  rw [hr, hk, hN]
  ring

/-- A slice of the last of four axes. -/
theorem slice4 {A B C N n o : Nat} (x : (⟨4, ![A, B, C, N]⟩ : Shape).Idx → α) (h : (⟨4, ![A, B, C, N]⟩ : Shape).Slices ![0, 0, 0, o] ⟨4, ![A, B, C, n]⟩)
    (a : Fin A) (b : Fin B) (c : Fin C) (k : Fin n) (k' : Fin N) (hk : k'.val = o + k.val) :
    extractStridedSlice (⟨4, ![A, B, C, n]⟩ : Shape) ![0, 0, 0, o] x h (ix4 a b c k) = x (ix4 a b c k') := by
  refine extractStridedSlice_apply _ _ _ _ _ fun i => ?_
  match i with
  | ⟨0, _⟩ => show a.val = 0 + a.val; omega
  | ⟨1, _⟩ => show b.val = 0 + b.val; omega
  | ⟨2, _⟩ => show c.val = 0 + c.val; omega
  | ⟨3, _⟩ => exact hk

/-- Two arrays one after another along the last of four axes, read in the first and in the second. -/
theorem join4_0 {A B C M N R : Nat} (x : (⟨4, ![A, B, C, M]⟩ : Shape).Idx → α) (y : (⟨4, ![A, B, C, N]⟩ : Shape).Idx → α) (h)
    (a : Fin A) (b : Fin B) (c : Fin C) (i : Fin R) (k : Fin M) (hk : k.val = i.val) :
    concatenate (⟨4, ![A, B, C, R]⟩ : Shape) 3 [⟨⟨4, ![A, B, C, M]⟩, x⟩, ⟨⟨4, ![A, B, C, N]⟩, y⟩] h (ix4 a b c i) = x (ix4 a b c k) := by
  refine concatenate_pair_apply_left 3 x y h (ix4 a b c i) rfl (ix4 a b c k) fun z => ?_
  match z with
  | ⟨0, _⟩ => rfl
  | ⟨1, _⟩ => rfl
  | ⟨2, _⟩ => rfl
  | ⟨3, _⟩ => exact hk

theorem join4_1 {A B C M N R : Nat} (x : (⟨4, ![A, B, C, M]⟩ : Shape).Idx → α) (y : (⟨4, ![A, B, C, N]⟩ : Shape).Idx → α) (h)
    (a : Fin A) (b : Fin B) (c : Fin C) (i : Fin R) (k : Fin N) (hk : k.val + M = i.val) :
    concatenate (⟨4, ![A, B, C, R]⟩ : Shape) 3 [⟨⟨4, ![A, B, C, M]⟩, x⟩, ⟨⟨4, ![A, B, C, N]⟩, y⟩] h (ix4 a b c i) = y (ix4 a b c k) := by
  refine concatenate_pair_apply_right 3 x y h (ix4 a b c i) rfl rfl (ix4 a b c k) (fun z hz => ?_) ?_
  · match z with
    | ⟨0, _⟩ => rfl
    | ⟨1, _⟩ => rfl
    | ⟨2, _⟩ => rfl
    | ⟨3, _⟩ => exact absurd rfl hz
  · exact hk

/-- A table joined to itself along its columns. -/
theorem twice {M N R : Nat} (x : (⟨2, ![M, N]⟩ : Shape).Idx → α) (h) (r : Fin M) (i : Fin R) (k : Fin N) (hR : R = N + N) (hk : k.val = i.val % N) :
    concatenate (⟨2, ![M, R]⟩ : Shape) 1 [⟨⟨2, ![M, N]⟩, x⟩, ⟨⟨2, ![M, N]⟩, x⟩] h (ix2 r i) = x (ix2 r k) := by
  have hi := i.isLt
  by_cases hlt : i.val < N
  · refine concatenate_pair_apply_left 1 x x h (ix2 r i) rfl (ix2 r k) fun z => ?_
    match z with
    | ⟨0, _⟩ => rfl
    | ⟨1, _⟩ => exact hk.trans (Nat.mod_eq_of_lt hlt)
  · refine concatenate_pair_apply_right 1 x x h (ix2 r i) rfl rfl (ix2 r k) (fun z hz => ?_) ?_
    · match z with
      | ⟨0, _⟩ => rfl
      | ⟨1, _⟩ => exact absurd rfl hz
    · show k.val + N = i.val
      have e : i.val % N = i.val - N := by
        rw [Nat.mod_eq_sub_mod (by omega), Nat.mod_eq_of_lt (by omega)]
      omega

/-- A table over positions and lanes repeated over batches and heads. -/
theorem bdTable {A L H N : Nat} (x : (⟨2, ![L, N]⟩ : Shape).Idx → α) (h) (h') (a : Fin A) (l : Fin L) (c : Fin H) (k : Fin N) :
    broadcastInDim (⟨4, ![A, L, H, N]⟩ : Shape) ![0, 1, 2, 3] h (broadcastInDim (⟨4, ![1, L, 1, N]⟩ : Shape) ![1, 3] h' x) (ix4 a l c k) = x (ix2 l k) := by
  refine (broadcastInDim_apply _ _ _ _ (ix4 0 l 0 k) fun i => ?_).trans (broadcastInDim_apply _ _ _ _ (ix2 l k) fun i => ?_)
  · match i with
    | ⟨0, _⟩ => rfl
    | ⟨1, _⟩ => exact val_eq_ite l
    | ⟨2, _⟩ => rfl
    | ⟨3, _⟩ => exact val_eq_ite k
  · match i with
    | ⟨0, _⟩ => exact val_eq_ite l
    | ⟨1, _⟩ => exact val_eq_ite k

/-- A vector down the columns and a vector along the rows. -/
theorem bdDown {L N : Nat} (x : (⟨1, ![L]⟩ : Shape).Idx → α) (h) (h') (l : Fin L) (k : Fin N) :
    broadcastInDim (⟨2, ![L, N]⟩ : Shape) ![0, 1] h (broadcastInDim (⟨2, ![L, 1]⟩ : Shape) ![0] h' x) (ix2 l k) = x (ix1 l) := by
  refine (broadcastInDim_apply _ _ _ _ (ix2 l 0) fun i => ?_).trans (broadcastInDim_apply _ _ _ _ (ix1 l) fun i => ?_)
  · match i with
    | ⟨0, _⟩ => exact val_eq_ite l
    | ⟨1, _⟩ => rfl
  · match i with
    | ⟨0, _⟩ => exact val_eq_ite l

theorem bdAlong {L N : Nat} (x : (⟨1, ![N]⟩ : Shape).Idx → α) (h) (h') (l : Fin L) (k : Fin N) :
    broadcastInDim (⟨2, ![L, N]⟩ : Shape) ![0, 1] h (broadcastInDim (⟨2, ![1, N]⟩ : Shape) ![1] h' x) (ix2 l k) = x (ix1 k) := by
  refine (broadcastInDim_apply _ _ _ _ (ix2 0 k) fun i => ?_).trans (broadcastInDim_apply _ _ _ _ (ix1 k) fun i => ?_)
  · match i with
    | ⟨0, _⟩ => rfl
    | ⟨1, _⟩ => exact val_eq_ite k
  · match i with
    | ⟨0, _⟩ => exact val_eq_ite k

end Layout

/-- The angles of a vector of positions at the 16 frequencies. -/
def ang (pos : IVec S2048 32) : FVec Ideal S2048x16 .f32 :=
  mulf (broadcastInDim S2048x16 ![0, 1] bcast_S2048x1_S2048x16_0_1 (broadcastInDim S2048x1 ![0] bcast_S2048_S2048x1_0 (sitofp .f32 pos)))
    (broadcastInDim S2048x16 ![0, 1] bcast_S1x16_S2048x16_0_1 (broadcastInDim S1x16 ![1] bcast_S16_S1x16_1 InK.freqs))

/-- A half of every head turned by the cosines and sines of its angles. -/
def halfTurn (a : FVec Ideal S2048x16 .f32) (u : FVec Ideal S4x2048x16x32 .f32) : FVec Ideal S4x2048x16x32 .f32 :=
  addf (mulf u (broadcastInDim S4x2048x16x32 ![0, 1, 2, 3] bcast_S1x2048x1x32_S4x2048x16x32_0_1_2_3 (broadcastInDim S1x2048x1x32 ![1, 3] bcast_S2048x32_S1x2048x1x32_1_3 (concatenate S2048x32 1 [⟨S2048x16, (Host.cos a : FVec Ideal S2048x16 .f32)⟩, ⟨S2048x16, (Host.cos a : FVec Ideal S2048x16 .f32)⟩] concatenates_S2048x16_S2048x16_S2048x32_d1))))
    (mulf (concatenate S4x2048x16x32 3 [⟨S4x2048x16x16, (Host.negf (extractStridedSlice S4x2048x16x16 ![0, 0, 0, 16] u slices_S4x2048x16x32_S4x2048x16x16_0_0_0_16) : FVec Ideal S4x2048x16x16 .f32)⟩, ⟨S4x2048x16x16, (extractStridedSlice S4x2048x16x16 ![0, 0, 0, 0] u slices_S4x2048x16x32_S4x2048x16x16_0_0_0_0)⟩] concatenates_S4x2048x16x16_S4x2048x16x16_S4x2048x16x32_d3)
      (broadcastInDim S4x2048x16x32 ![0, 1, 2, 3] bcast_S1x2048x1x32_S4x2048x16x32_0_1_2_3 (broadcastInDim S1x2048x1x32 ![1, 3] bcast_S2048x32_S1x2048x1x32_1_3 (concatenate S2048x32 1 [⟨S2048x16, (Host.sin a : FVec Ideal S2048x16 .f32)⟩, ⟨S2048x16, (Host.sin a : FVec Ideal S2048x16 .f32)⟩] concatenates_S2048x16_S2048x16_S2048x32_d1))))

/-- The heads of 1024 columns, both halves turned. -/
def turned (p : FVec Ideal S8192x1024 .f32) : FVec Ideal S8192x1024 .f32 :=
  shapeCast S8192x1024 (concatenate S4x2048x16x64 3
    [⟨S4x2048x16x32, halfTurn (ang InK.rowPos) (extractStridedSlice S4x2048x16x32 ![0, 0, 0, 0] (shapeCast S4x2048x16x64 p shapeCasts_S8192x1024_S4x2048x16x64) slices_S4x2048x16x64_S4x2048x16x32_0_0_0_0)⟩,
     ⟨S4x2048x16x32, halfTurn (ang InK.colPos) (extractStridedSlice S4x2048x16x32 ![0, 0, 0, 32] (shapeCast S4x2048x16x64 p shapeCasts_S8192x1024_S4x2048x16x64) slices_S4x2048x16x64_S4x2048x16x32_0_0_0_32)⟩]
    concatenates_S4x2048x16x32_S4x2048x16x32_S4x2048x16x64_d3) shapeCasts_S4x2048x16x64_S8192x1024

theorem ang_apply (pos : IVec S2048 32) (l : Fin 2048) (k : Fin 16) :
    ang pos (ix2 l k) = FloatOps.sitofp (F := Ideal) .f32 (pos (ix1 l)) * InK.freqs (ix1 k) := by
  unfold ang
  rw [mulf_apply, bdDown, bdAlong, sitofp_apply]

/-- A half's entry, of columns `P (o + e)`. -/
theorem halfTurn_apply (a : FVec Ideal S2048x16 .f32) (u : FVec Ideal S4x2048x16x32 .f32) (P : ℕ → EReal) (o : ℕ) (b : Fin 4) (l : Fin 2048) (h : Fin 16)
    (hu : ∀ e : Fin 32, u (ix4 b l h e) = P (o + e.val)) (e : Fin 32) :
    halfTurn a u (ix4 b l h e)
      = P (o + e.val) * FloatOps.hostUnary (F := Ideal) .cos (φ := .f32) (a (ix2 l ⟨e.val % 16, by omega⟩))
        + (if e.val < 16 then -P (o + e.val + 16) else P (o + e.val - 16)) * FloatOps.hostUnary (F := Ideal) .sin (φ := .f32) (a (ix2 l ⟨e.val % 16, by omega⟩)) := by
  have hc := (bdTable (concatenate S2048x32 1 [⟨S2048x16, (Host.cos a : FVec Ideal S2048x16 .f32)⟩, ⟨S2048x16, (Host.cos a : FVec Ideal S2048x16 .f32)⟩] concatenates_S2048x16_S2048x16_S2048x32_d1)
    bcast_S1x2048x1x32_S4x2048x16x32_0_1_2_3 bcast_S2048x32_S1x2048x1x32_1_3 b l h e).trans
    (twice (Host.cos a : FVec Ideal S2048x16 .f32) concatenates_S2048x16_S2048x16_S2048x32_d1 l e ⟨e.val % 16, by omega⟩ rfl rfl)
  have hs := (bdTable (concatenate S2048x32 1 [⟨S2048x16, (Host.sin a : FVec Ideal S2048x16 .f32)⟩, ⟨S2048x16, (Host.sin a : FVec Ideal S2048x16 .f32)⟩] concatenates_S2048x16_S2048x16_S2048x32_d1)
    bcast_S1x2048x1x32_S4x2048x16x32_0_1_2_3 bcast_S2048x32_S1x2048x1x32_1_3 b l h e).trans
    (twice (Host.sin a : FVec Ideal S2048x16 .f32) concatenates_S2048x16_S2048x16_S2048x32_d1 l e ⟨e.val % 16, by omega⟩ rfl rfl)
  unfold halfTurn
  rw [addf_apply, mulf_apply, mulf_apply]
  refine congrArg₂ (· + ·) (congrArg₂ (· * ·) (hu e) hc) (congrArg₂ (· * ·) ?_ hs)
  by_cases hlt : e.val < 16
  · rw [if_pos hlt]
    refine (join4_0 _ _ concatenates_S4x2048x16x16_S4x2048x16x16_S4x2048x16x32_d3 b l h e ⟨e.val, hlt⟩ rfl).trans ?_
    show -(extractStridedSlice S4x2048x16x16 ![0, 0, 0, 16] u slices_S4x2048x16x32_S4x2048x16x16_0_0_0_16 (ix4 b l h ⟨e.val, hlt⟩)) = _
    rw [slice4 u _ b l h ⟨e.val, hlt⟩ ⟨16 + e.val, by omega⟩ rfl, hu]
    exact congrArg (fun j => -P j) (by show o + (16 + e.val) = o + e.val + 16; omega)
  · rw [if_neg hlt]
    refine (join4_1 _ _ concatenates_S4x2048x16x16_S4x2048x16x16_S4x2048x16x32_d3 b l h e ⟨e.val - 16, by omega⟩ (by show e.val - 16 + 16 = e.val; omega)).trans ?_
    rw [slice4 (o := 0) u _ b l h ⟨e.val - 16, by omega⟩ ⟨e.val - 16, by omega⟩ (by simp), hu]
    exact congrArg P (by show o + (e.val - 16) = o + e.val - 16; omega)

/-- A turned entry, of columns `P (o + c)`. -/
theorem turned_apply (p : FVec Ideal S8192x1024 .f32) (P : ℕ → EReal) (o : ℕ) (ho : o % 64 = 0) (b : Fin 4) (l : Fin 2048) (r : Fin 8192) (hr : r.val = b.val * 2048 + l.val)
    (hp : ∀ c : Fin 1024, p (ix2 r c) = P (o + c.val)) (c : Fin 1024) : turned p (ix2 r c) = InK.turn P l (o + c.val) := by
  have hc := c.isLt
  unfold turned
  rw [castUnsplit _ _ b l ⟨c.val / 64, by omega⟩ ⟨c.val % 64, by omega⟩ r c rfl hr (by show c.val = c.val / 64 * 64 + c.val % 64; omega)]
  unfold InK.turn InK.cosAt InK.sinAt InK.angle
  by_cases hlt : c.val % 64 < 32
  · refine (join4_0 _ _ concatenates_S4x2048x16x32_S4x2048x16x32_S4x2048x16x64_d3 b l ⟨c.val / 64, by omega⟩ ⟨c.val % 64, by omega⟩ ⟨c.val % 64, hlt⟩ rfl).trans ?_
    refine (halfTurn_apply _ _ P (o + c.val / 64 * 64) b l ⟨c.val / 64, by omega⟩ (fun e => ?_) ⟨c.val % 64, hlt⟩).trans ?_
    · rw [slice4 (o := 0) _ _ b l _ e ⟨e.val, by omega⟩ (by simp), castSplit _ _ b l ⟨c.val / 64, by omega⟩ ⟨e.val, by omega⟩ r ⟨c.val / 64 * 64 + e.val, by omega⟩ rfl hr rfl, hp]
      exact congrArg P (by show o + (c.val / 64 * 64 + e.val) = o + c.val / 64 * 64 + e.val; omega)
    · rw [ang_apply]
      have e1 : o + c.val / 64 * 64 + c.val % 64 = o + c.val := by omega
      have e2 : (o + c.val) % 64 < 32 := by omega
      have e3 : (⟨c.val % 64 % 16, by omega⟩ : Fin 16) = ⟨(o + c.val) % 16, by omega⟩ := Fin.ext (by show c.val % 64 % 16 = (o + c.val) % 16; omega)
      have e4 : (c.val % 64 < 16) = ((o + c.val) % 32 < 16) := propext ⟨fun h => by omega, fun h => by omega⟩
      simp only [e1, e2, e3, e4, if_true]
  · refine (join4_1 _ _ concatenates_S4x2048x16x32_S4x2048x16x32_S4x2048x16x64_d3 b l ⟨c.val / 64, by omega⟩ ⟨c.val % 64, by omega⟩ ⟨c.val % 64 - 32, by omega⟩ (by show c.val % 64 - 32 + 32 = c.val % 64; omega)).trans ?_
    refine (halfTurn_apply _ _ P (o + c.val / 64 * 64 + 32) b l ⟨c.val / 64, by omega⟩ (fun e => ?_) ⟨c.val % 64 - 32, by omega⟩).trans ?_
    · rw [slice4 _ _ b l _ e ⟨32 + e.val, by omega⟩ rfl, castSplit _ _ b l ⟨c.val / 64, by omega⟩ ⟨32 + e.val, by omega⟩ r ⟨c.val / 64 * 64 + (32 + e.val), by omega⟩ rfl hr rfl, hp]
      exact congrArg P (by show o + (c.val / 64 * 64 + (32 + e.val)) = o + c.val / 64 * 64 + 32 + e.val; omega)
    · rw [ang_apply]
      have e1 : o + c.val / 64 * 64 + 32 + (c.val % 64 - 32) = o + c.val := by omega
      have e2 : ¬ (o + c.val) % 64 < 32 := by omega
      have e3 : (⟨(c.val % 64 - 32) % 16, by omega⟩ : Fin 16) = ⟨(o + c.val) % 16, by omega⟩ := Fin.ext (by show (c.val % 64 - 32) % 16 = (o + c.val) % 16; omega)
      have e4 : (c.val % 64 - 32 < 16) = ((o + c.val) % 32 < 16) := propext ⟨fun h => by omega, fun h => by omega⟩
      simp only [e1, e2, e3, e4, if_false]

variable (x : FVec Ideal S8192x2048 .f32) (md : FVec Ideal S8x6144 .f32) (g : FVec Ideal S2048 .f32) (w : FVec Ideal S2048x6656 .f32)

/-- The input in batches, and the batches' modulation. -/
abbrev X : FVec Ideal S4x2048x2048 .f32 := shapeCast _ x shapeCasts_S8192x2048_S4x2048x2048
abbrev M : FVec Ideal S4x1x6144 .f32 := broadcastInDim S4x1x6144 ![0, 2] bcast_S4x6144_S4x1x6144_0_2 (extractStridedSlice S4x6144 ![0, 0] md slices_S8x6144_S4x6144_0_0)

/-- The normed and modulated rows. -/
def H : FVec Ideal S4x2048x2048 .f32 :=
  addf (mulf (mulf (mulf (X x) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (X x) (X x)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) (broadcastInDim S4x2048x2048 ![0, 1, 2] bcast_S4x1x2048_S4x2048x2048_0_1_2 (addf (broadcastInDim S4x1x2048 ![] bcast_S_S4x1x2048 (constant S_ .f32 0x3F800000#32)) (extractStridedSlice S4x1x2048 ![0, 0, 2048] (M md) slices_S4x1x6144_S4x1x2048_0_0_2048)))) (broadcastInDim S4x2048x2048 ![0, 1, 2] bcast_S4x1x2048_S4x2048x2048_0_1_2 (extractStridedSlice S4x1x2048 ![0, 0, 0] (M md) slices_S4x1x6144_S4x1x2048_0_0_0))

/-- A batch's modulation from a column on. -/
theorem M_apply (o : ℕ) (h : S4x1x6144.Slices ![0, 0, o] S4x1x2048) (b : Fin 4) (k : Fin 2048) (r : Fin 8192) (hb : b.val = r.val / 2048) (j : Fin 6144) (hj : j.val = o + k.val) :
    extractStridedSlice S4x1x2048 ![0, 0, o] (M md) h (ix3 b 0 k) = md (ix2 ⟨r.val / 2048, by omega⟩ j) := by
  have e : extractStridedSlice S4x1x2048 ![0, 0, o] (M md) h (ix3 b 0 k) = M md (ix3 b 0 j) :=
    extractStridedSlice_apply _ _ _ _ _ fun a => by
      match a with
      | ⟨0, _⟩ => show b.val = 0 + b.val; omega
      | ⟨1, _⟩ => rfl
      | ⟨2, _⟩ => exact hj
  rw [e]
  unfold M
  rw [bdInsMid, slice2 (o0 := 0) (o1 := 0) _ _ b j ⟨r.val / 2048, by omega⟩ j (by show r.val / 2048 = 0 + b.val; omega) (by simp)]

theorem X_apply (b : Fin 4) (l : Fin 2048) (r : Fin 8192) (hr : r.val = b.val * 2048 + l.val) (k : Fin 2048) : X x (ix3 b l k) = x (ix2 r k) := castGroup _ _ b l k r hr

theorem H_apply (b : Fin 4) (l : Fin 2048) (r : Fin 8192) (hr : r.val = b.val * 2048 + l.val) (k : Fin 2048) : H x md g (ix3 b l k) = InK.hAt x md g r k := by
  have hb : b.val = r.val / 2048 := by omega
  unfold H
  rw [addf_apply, mulf_apply, mulf_apply, mulf_apply, bdMid, bdMid, addf_apply, bdRow, bdInsRow, bdLast, M_apply md 2048 _ b k r hb ⟨2048 + k.val, by omega⟩ rfl,
    M_apply md 0 _ b k r hb ⟨k.val, by omega⟩ (by simp), X_apply x b l r hr]
  unfold InK.hAt InK.hrow
  refine congrArg₂ (· + ·) (congrArg₂ (· * ·) (congrArg₂ (· * ·) (congrArg₂ (· * ·) rfl (congrArg Ideal.rsqrt ?_)) rfl) rfl) rfl
  rw [addf_apply, hostDivf_apply, bdInsLast, hsum3 _ (constant S_ .f32 0x00000000#32) _ (by decide) _ (fun _ => Ideal.ofBits_zero_f32)]
  simp only [mulf_apply, X_apply x b l r hr]
  rfl

/-- The projected columns. -/
def Pj : FVec Ideal S8192x6656 .f32 := Host.dotGeneral dot_S8192x2048_S2048x6656_S8192x6656_1_0_0_1_n_n none (shapeCast S8192x2048 (H x md g) shapeCasts_S4x2048x2048_S8192x2048) w

theorem Pj_apply (b : Fin 4) (l : Fin 2048) (r : Fin 8192) (hr : r.val = b.val * 2048 + l.val) (c : Fin 6656) : Pj x md g w (ix2 r c) = InK.proj x md g w r c.val := by
  unfold Pj InK.proj
  refine (hdot2 none _ w r c).trans (Finset.sum_congr rfl fun k _ => congrArg₂ (· * ·) ?_ (congrArg (fun j => w (ix2 k j)) (Fin.ext (Nat.mod_eq_of_lt c.isLt).symm)))
  rw [castFlat _ _ b l k r hr, H_apply x md g b l r hr]

/-- The reference's result is the same function of the arguments as the kernel's. -/
theorem out_eq :
    (concatenate S8192x6656 1 [⟨S8192x1024, (mulf (turned (extractStridedSlice S8192x1024 ![0, 0] (Pj x md g w) slices_S8192x6656_S8192x1024_0_0)) (broadcastInDim S8192x1024 ![] bcast_S_S8192x1024 (constant S_ .f32 0x3E000000#32)) : FVec Ideal S8192x1024 .f32)⟩,
        ⟨S8192x1024, turned (extractStridedSlice S8192x1024 ![0, 1024] (Pj x md g w) slices_S8192x6656_S8192x1024_0_1024)⟩,
        ⟨S8192x4608, (extractStridedSlice S8192x4608 ![0, 2048] (Pj x md g w) slices_S8192x6656_S8192x4608_0_2048)⟩] concatenates_S8192x1024_S8192x1024_S8192x4608_S8192x6656_d1 : S8192x6656.Idx → EReal)
      = fun i => InK.inAt x md g w (i 0) (i 1).val := by
  funext i
  obtain ⟨r, c, rfl⟩ : ∃ (r : Fin 8192) (c : Fin 6656), i = ix2 r c := ⟨i 0, i 1, eq_ix2 i⟩
  have hc := c.isLt
  have hr : r.val = (⟨r.val / 2048, by omega⟩ : Fin 4).val * 2048 + (⟨r.val % 2048, by omega⟩ : Fin 2048).val := by
    show r.val = r.val / 2048 * 2048 + r.val % 2048
    omega
  show _ = InK.inAt x md g w r c.val
  unfold InK.inAt InK.entry
  by_cases h0 : c.val < 1024
  · rw [if_pos h0]
    refine (cat3_0 _ _ _ concatenates_S8192x1024_S8192x1024_S8192x4608_S8192x6656_d1 r c ⟨c.val, h0⟩ rfl).trans ?_
    rw [mulf_apply]
    refine congrArg₂ (· * ·) ((turned_apply _ (InK.proj x md g w r) 0 rfl _ _ r hr (fun k => ?_) _).trans (congrArg _ (Nat.zero_add _))) rfl
    rw [slice2 (o0 := 0) (o1 := 0) _ _ r k r ⟨k.val, by omega⟩ (by simp) (by simp), Pj_apply x md g w _ _ r hr]
    exact congrArg _ (Nat.zero_add _).symm
  · rw [if_neg h0]
    by_cases h1 : c.val < 2048
    · rw [if_pos h1]
      refine (cat3_1 _ _ _ concatenates_S8192x1024_S8192x1024_S8192x4608_S8192x6656_d1 r c ⟨c.val - 1024, by omega⟩ (by show c.val = 1024 + (c.val - 1024); omega)).trans ?_
      refine (turned_apply _ (InK.proj x md g w r) 1024 rfl _ _ r hr (fun k => ?_) _).trans (congrArg _ (by show 1024 + (c.val - 1024) = c.val; omega))
      rw [slice2 (o0 := 0) _ _ r k r ⟨1024 + k.val, by omega⟩ (by simp) rfl, Pj_apply x md g w _ _ r hr]
    · rw [if_neg h1]
      refine (cat3_2 _ _ _ concatenates_S8192x1024_S8192x1024_S8192x4608_S8192x6656_d1 r c ⟨c.val - 2048, by omega⟩ (by show c.val = 1024 + 1024 + (c.val - 2048); omega)).trans ?_
      rw [slice2 (o0 := 0) _ _ r ⟨c.val - 2048, by omega⟩ r c (by simp) (by show c.val = 2048 + (c.val - 2048); omega), Pj_apply x md g w _ _ r hr]

/-- The reference's run leaves that result. -/
theorem run_eq (V0 : Valuation τ sig (Elt Ideal)) :
    (truncf .bf16 (Value.res_main_v137 (F := Ideal) V0 : FVec Ideal S8192x6656 .f32) bitsLt_bf16_f32 : FVec Ideal S8192x6656 .bf16)
      = fun i => InK.inAt (V0 (Proc.devRef .tc main_arg0)) (V0 (Proc.devRef .tc main_arg1)) (V0 (Proc.devRef .tc main_arg2)) (V0 (Proc.devRef .tc main_arg3)) (i 0) (i 1).val :=
  (show _ = _ by rfl).trans (out_eq (V0 (Proc.devRef .tc main_arg0)) (V0 (Proc.devRef .tc main_arg1)) (V0 (Proc.devRef .tc main_arg2)) (V0 (Proc.devRef .tc main_arg3)))

end Cert.InRef

end
-- ==== Proof.InPieces.lean ====
/- The in-projection kernel's stored pieces: the kept rows, and what each kind of point writes. -/
module

public import proofs.«01_k».proof.Proof.InKernel
public import Idealize.ShloMosaic.Lib.Claim

@[expose] public section

noncomputable section

namespace Cert.InK

open Cert.InprojIdeal Cert.InprojIdeal.Gen Idealize.ShloMosaic Idealize.ShloMosaic.ValueIdx Idealize.ShloMosaic.TcCoe Cert.Reads Idealize.SL.Sem
open scoped BigOperators

/-- The one piece the first point of a row block keeps. -/
theorem kept_pieces (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) :
    (kernelRun0_A (F := Ideal) c i arg2 harg2 arg3 harg3 arg4 harg4 arg5 harg5 arg6 harg6 arg7 harg7 arg8 harg8 arg9 harg9 arg10 harg10 hc0 hc1 hc2 x0 x1 x2 x3 x4 x5 x6).2.1
      = [⟨Rect.unit (s := S1024x2048) ![0, 0] S1024x2048.size inb_S1024x2048_S1024x2048_0_0, k0_pay1 (F := Ideal) x0 x1 x2⟩] := by
  have h0 : View.ld (Val := Elt Ideal) (e' := .f32) (arg2.view.read (Elt Ideal) (harg2.unread x0)) (Rect.unit (s := S1024x2048) ![0, 0] S1024x2048.size inb_S1024x2048_S1024x2048_0_0) = x0 := by
    rw [harg2.read_unread x0]
    exact View.ld_unit_zero (funext fun a => by fin_cases a <;> rfl) _ _
  have h1 : View.ld (Val := Elt Ideal) (e' := .f32) (arg3.view.read (Elt Ideal) (harg3.unread x1)) (Rect.unit (s := S1x1x6144) ![0, 0, 0] S1x1x6144.size inb_S1x1x6144_S1x1x6144_0_0_0) = x1 := by
    rw [harg3.read_unread x1]
    exact View.ld_unit_zero (funext fun a => by fin_cases a <;> rfl) _ _
  have h2 : View.ld (Val := Elt Ideal) (e' := .f32) (arg4.view.read (Elt Ideal) (harg4.unread x2)) (Rect.unit (s := S1x2048) ![0, 0] S1x2048.size inb_S1x2048_S1x2048_0_0) = x2 := by
    rw [harg4.read_unread x2]
    exact View.ld_unit_zero (funext fun a => by fin_cases a <;> rfl) _ _
  conv_rhs => rw [← h0, ← h1, ← h2]
  rfl

/-- The rows the first point of a row block keeps. -/
theorem kept_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) :
    sout0_A_0 (F := Ideal) c i arg2 harg2 arg3 harg3 arg4 harg4 arg5 harg5 arg6 harg6 arg7 harg7 arg8 harg8 arg9 harg9 arg10 harg10 hc0 hc1 hc2 x0 x1 x2 x3 x4 x5 x6 = k0_pay1 (F := Ideal) x0 x1 x2 := by
  funext y
  unfold sout0_A_0
  refine View.read_writes_apply_of_pieces _ _ (k0_pay1 (F := Ideal) x0 x1 x2) _ ?_ y (scover0_A_0 c i arg2 harg2 arg3 harg3 arg4 harg4 arg5 harg5 arg6 harg6 arg7 harg7 arg8 harg8 arg9 harg9 arg10 harg10 hc0 hc1 hc2 x0 x1 x2 x3 x4 x5 x6 y)
  rw [kept_pieces]
  intro p hp x
  obtain rfl := List.mem_singleton.mp hp
  refine congrArg (k0_pay1 (F := Ideal) x0 x1 x2) (funext fun a => Fin.ext ?_)
  match a with
  | ⟨0, _⟩ => show (x 0 : ℕ) = 0 + 1 * (x 0 : ℕ); omega
  | ⟨1, _⟩ => show (x 1 : ℕ) = 0 + 1 * (x 1 : ℕ); omega

/-- The stores of the first point of a row block. -/
theorem piecesA (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) :
    (kernelRun0_A (F := Ideal) c i arg2 harg2 arg3 harg3 arg4 harg4 arg5 harg5 arg6 harg6 arg7 harg7 arg8 harg8 arg9 harg9 arg10 harg10 hc0 hc1 hc2 x0 x1 x2 x3 x4 x5 x6).1 = ropePieces (k0_pay3 (F := Ideal) i) (k0_pay1 (F := Ideal) x0 x1 x2) x3 x4 x5 x6 := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have h4 : View.ld (Val := Elt Ideal) (e' := .f32) (arg6.view.read (Elt Ideal) (harg6.unread x4)) (Rect.unit (s := S1024x128) ![0, 0] S1024x128.size inb_S1024x128_S1024x128_0_0) = x4 := by
    rw [harg6.read_unread x4]
    exact View.ld_unit_zero (funext fun a => by fin_cases a <;> rfl) _ _
  have h5 : View.ld (Val := Elt Ideal) (e' := .f32) (arg7.view.read (Elt Ideal) (harg7.unread x5)) (Rect.unit (s := S1024x128) ![0, 0] S1024x128.size inb_S1024x128_S1024x128_0_0) = x5 := by
    rw [harg7.read_unread x5]
    exact View.ld_unit_zero (funext fun a => by fin_cases a <;> rfl) _ _
  have h6 : View.ld (Val := Elt Ideal) (e' := .f32) (arg8.view.read (Elt Ideal) (harg8.unread x6)) (Rect.unit (s := S1024x128) ![0, 0] S1024x128.size inb_S1024x128_S1024x128_0_0) = x6 := by
    rw [harg8.read_unread x6]
    exact View.ld_unit_zero (funext fun a => by fin_cases a <;> rfl) _ _
  have hs : View.ld (Val := Elt Ideal) (e' := .bf16) (arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 hc0 hc1 hc2 x0 x1 x2 x3 x4 x5 x6).2.1)) (Rect.unit (s := S1024x2048) ![0, 0] S1024x2048.size inb_S1024x2048_S1024x2048_0_0) = k0_pay1 (F := Ideal) x0 x1 x2 := by
    rw [harg10.read_writes_junk (Memref.isWhole_whole cc0_scratch0)]
    refine (View.ld_unit_zero (funext fun a => by fin_cases a <;> rfl) _ _).trans ?_
    exact kept_eq c i arg2 harg2 arg3 harg3 arg4 harg4 arg5 harg5 arg6 harg6 arg7 harg7 arg8 harg8 arg9 harg9 arg10 harg10 hc0 hc1 hc2 x0 x1 x2 x3 x4 x5 x6
  conv_rhs => rw [← hs, ← h3, ← h4, ← h5, ← h6]
  rfl

/-- What the first point of a row block writes: computed with the rows it has just kept. -/
theorem outA_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) :
    out0_A_7 (F := Ideal) c i arg2 harg2 arg3 harg3 arg4 harg4 arg5 harg5 arg6 harg6 arg7 harg7 arg8 harg8 arg9 harg9 arg10 harg10 hc0 hc1 hc2 x0 x1 x2 x3 x4 x5 x6 = ropeBlock (k0_pay3 (F := Ideal) i) (k0_pay1 (F := Ideal) x0 x1 x2) x3 x4 x5 x6 := by
  funext y
  unfold out0_A_7
  refine View.read_writes_apply_of_pieces _ _ (ropeBlock (k0_pay3 (F := Ideal) i) (k0_pay1 (F := Ideal) x0 x1 x2) x3 x4 x5 x6) _ ?_ y (cover0_A_7 c i arg2 harg2 arg3 harg3 arg4 harg4 arg5 harg5 arg6 harg6 arg7 harg7 arg8 harg8 arg9 harg9 arg10 harg10 hc0 hc1 hc2 x0 x1 x2 x3 x4 x5 x6 y)
  rw [piecesA]
  exact pieces_block _ _ _ _ _ _

/-- The stores of another point with turned columns. -/
theorem piecesB (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : ¬cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) (xs0 : Vec Ideal S1024x2048 .bf16) :
    (kernelRun0_B (F := Ideal) c i arg2 harg2 arg3 harg3 arg4 harg4 arg5 harg5 arg6 harg6 arg7 harg7 arg8 harg8 arg9 harg9 arg10 harg10 hc0 hc1 hc2 x0 x1 x2 x3 x4 x5 x6 xs0).1 = ropePieces (k0_pay3 (F := Ideal) i) xs0 x3 x4 x5 x6 := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have h4 : View.ld (Val := Elt Ideal) (e' := .f32) (arg6.view.read (Elt Ideal) (harg6.unread x4)) (Rect.unit (s := S1024x128) ![0, 0] S1024x128.size inb_S1024x128_S1024x128_0_0) = x4 := by
    rw [harg6.read_unread x4]
    exact View.ld_unit_zero (funext fun a => by fin_cases a <;> rfl) _ _
  have h5 : View.ld (Val := Elt Ideal) (e' := .f32) (arg7.view.read (Elt Ideal) (harg7.unread x5)) (Rect.unit (s := S1024x128) ![0, 0] S1024x128.size inb_S1024x128_S1024x128_0_0) = x5 := by
    rw [harg7.read_unread x5]
    exact View.ld_unit_zero (funext fun a => by fin_cases a <;> rfl) _ _
  have h6 : View.ld (Val := Elt Ideal) (e' := .f32) (arg8.view.read (Elt Ideal) (harg8.unread x6)) (Rect.unit (s := S1024x128) ![0, 0] S1024x128.size inb_S1024x128_S1024x128_0_0) = x6 := by
    rw [harg8.read_unread x6]
    exact View.ld_unit_zero (funext fun a => by fin_cases a <;> rfl) _ _
  have hs : View.ld (Val := Elt Ideal) (e' := .bf16) (arg10.view.read (Elt Ideal) (harg10.unread xs0)) (Rect.unit (s := S1024x2048) ![0, 0] S1024x2048.size inb_S1024x2048_S1024x2048_0_0) = xs0 := by
    rw [harg10.read_unread xs0]
    exact View.ld_unit_zero (funext fun a => by fin_cases a <;> rfl) _ _
  conv_rhs => rw [← hs, ← h3, ← h4, ← h5, ← h6]
  rfl

/-- What another point with turned columns writes: computed with the rows kept before. -/
theorem outB_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : ¬cond0_0 i) (hc1 : cond0_1 i) (hc2 : ¬cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) (xs0 : Vec Ideal S1024x2048 .bf16) :
    out0_B_7 (F := Ideal) c i arg2 harg2 arg3 harg3 arg4 harg4 arg5 harg5 arg6 harg6 arg7 harg7 arg8 harg8 arg9 harg9 arg10 harg10 hc0 hc1 hc2 x0 x1 x2 x3 x4 x5 x6 xs0 = ropeBlock (k0_pay3 (F := Ideal) i) xs0 x3 x4 x5 x6 := by
  funext y
  unfold out0_B_7
  refine View.read_writes_apply_of_pieces _ _ (ropeBlock (k0_pay3 (F := Ideal) i) xs0 x3 x4 x5 x6) _ ?_ y (cover0_B_7 c i arg2 harg2 arg3 harg3 arg4 harg4 arg5 harg5 arg6 harg6 arg7 harg7 arg8 harg8 arg9 harg9 arg10 harg10 hc0 hc1 hc2 x0 x1 x2 x3 x4 x5 x6 xs0 y)
  rw [piecesB]
  exact pieces_block _ _ _ _ _ _

/-- The store of a point without turned columns. -/
theorem piecesC (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : ¬cond0_0 i) (hc1 : ¬cond0_1 i) (hc2 : cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) (xs0 : Vec Ideal S1024x2048 .bf16) :
    (kernelRun0_C (F := Ideal) c i arg2 harg2 arg3 harg3 arg4 harg4 arg5 harg5 arg6 harg6 arg7 harg7 arg8 harg8 arg9 harg9 arg10 harg10 hc0 hc1 hc2 x0 x1 x2 x3 x4 x5 x6 xs0).1
      = [⟨Rect.unit (s := S1024x512) ![0, 0] S1024x512.size inb_S1024x512_S1024x512_0_0, k0_pay5 (F := Ideal) xs0 x3⟩] := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have hs : View.ld (Val := Elt Ideal) (e' := .bf16) (arg10.view.read (Elt Ideal) (harg10.unread xs0)) (Rect.unit (s := S1024x2048) ![0, 0] S1024x2048.size inb_S1024x2048_S1024x2048_0_0) = xs0 := by
    rw [harg10.read_unread xs0]
    exact View.ld_unit_zero (funext fun a => by fin_cases a <;> rfl) _ _
  conv_rhs => rw [← hs, ← h3]
  rfl

/-- What a point without turned columns writes: the product itself. -/
theorem outC_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S1024x2048 .bf16) (harg10 : arg10.IsWhole) (hc0 : ¬cond0_0 i) (hc1 : ¬cond0_1 i) (hc2 : cond0_2 i) (x0 : Vec Ideal S1024x2048 .f32) (x1 : Vec Ideal S1x1x6144 .f32) (x2 : Vec Ideal S1x2048 .f32) (x3 : Vec Ideal S2048x512 .bf16) (x4 : Vec Ideal S1024x128 .f32) (x5 : Vec Ideal S1024x128 .f32) (x6 : Vec Ideal S1024x128 .f32) (xs0 : Vec Ideal S1024x2048 .bf16) :
    out0_C_7 (F := Ideal) c i arg2 harg2 arg3 harg3 arg4 harg4 arg5 harg5 arg6 harg6 arg7 harg7 arg8 harg8 arg9 harg9 arg10 harg10 hc0 hc1 hc2 x0 x1 x2 x3 x4 x5 x6 xs0 = k0_pay5 (F := Ideal) xs0 x3 := by
  funext y
  unfold out0_C_7
  refine View.read_writes_apply_of_pieces _ _ (k0_pay5 (F := Ideal) xs0 x3) _ ?_ y (cover0_C_7 c i arg2 harg2 arg3 harg3 arg4 harg4 arg5 harg5 arg6 harg6 arg7 harg7 arg8 harg8 arg9 harg9 arg10 harg10 hc0 hc1 hc2 x0 x1 x2 x3 x4 x5 x6 xs0 y)
  rw [piecesC]
  intro p hp x
  obtain rfl := List.mem_singleton.mp hp
  refine congrArg (k0_pay5 (F := Ideal) xs0 x3) (funext fun a => Fin.ext ?_)
  match a with
  | ⟨0, _⟩ => show (x 0 : ℕ) = 0 + 1 * (x 0 : ℕ); omega
  | ⟨1, _⟩ => show (x 1 : ℕ) = 0 + 1 * (x 1 : ℕ); omega

end Cert.InK

end
-- ==== Proof.InValue.lean ====
/- The in-projection kernel's result as one function of the arguments. -/
module

public import proofs.«01_k».proof.Proof.InMath
public import proofs.«01_k».proof.Proof.InPieces

@[expose] public section

noncomputable section

namespace Cert.InK

open Cert.InprojIdeal Cert.InprojIdeal.Gen Idealize.ShloMosaic Idealize.ShloMosaic.ValueIdx Idealize.ShloMosaic.TcCoe Cert.Reads Idealize.SL.Sem
open scoped BigOperators

variable (m : (ℓ : Loc nD τ sig) → Buf (Elt Ideal) ℓ)

/-- Where the windows' blocks stand at point `t`: row block `t / 13`, column block `t % 13`. -/
theorem where_all : ∀ t : Fin grid0.N,
    win0_0.index t 0 = t.val / 13 ∧ win0_0.index t 1 = 0 ∧ win0_1.index t 0 = t.val / 26 ∧ win0_1.index t 1 = 0 ∧ win0_1.index t 2 = 0
    ∧ win0_2.index t 0 = 0 ∧ win0_2.index t 1 = 0 ∧ win0_3.index t 0 = 0 ∧ win0_3.index t 1 = t.val % 13
    ∧ win0_4.index t 0 = t.val / 13 % 2 ∧ win0_4.index t 1 = 0 ∧ win0_5.index t 0 = t.val / 13 % 2 ∧ win0_5.index t 1 = 0
    ∧ win0_6.index t 0 = t.val / 13 % 2 ∧ win0_6.index t 1 = 0
    ∧ win0_7.index t 0 = t.val / 13 ∧ win0_7.index t 1 = t.val % 13 ∧ (grid0.coords t 1).val = t.val % 13 := by decide +kernel

theorem N104 (t : Fin cfg0.N) : t.val < 104 := t.isLt

/-- The array row of row `r` of the point's block, and its position in the batch. -/
abbrev rowOf (t : Fin cfg0.N) (r : Fin 1024) : Fin 8192 := ⟨t.val / 13 * 1024 + r.val, by have := N104 t; omega⟩
abbrev posOf (t : Fin cfg0.N) (r : Fin 1024) : Fin 2048 := ⟨t.val / 13 % 2 * 1024 + r.val, by omega⟩

theorem blk0 (c : Dev nD) (t : Fin cfg0.N) (r : Fin 1024) (k : Fin 2048) :
    (iblk m c 0 t : S1024x2048.Idx → EReal) (ix2 r k) = (m ((c : Thread nD τ).loc main_arg0) : S8192x2048.Idx → EReal) (ix2 (rowOf t r) k) := by
  obtain ⟨h0, h1, -⟩ := where_all t
  show (V m c main_arg0 : S8192x2048.Idx → EReal) _ = _
  rw [V_main_arg0]
  refine congrArg _ (Shape.idx_ext₂ ?_ ?_)
  · show win0_0.index t 0 * 1024 + 1 * r.val = t.val / 13 * 1024 + r.val
    rw [h0]; omega
  · show win0_0.index t 1 * 2048 + 1 * k.val = k.val
    rw [h1]; omega

theorem blk1 (c : Dev nD) (t : Fin cfg0.N) (k : Fin 6144) :
    (iblk m c 1 t : S1x1x6144.Idx → EReal) (ix3 0 0 k) = (m ((c : Thread nD τ).loc main_arg1) : S8x6144.Idx → EReal) (ix2 ⟨t.val / 26, by have := N104 t; omega⟩ k) := by
  obtain ⟨-, -, h0, h1, h2, -⟩ := where_all t
  show (V m c main_v38 : FVec Ideal S8x1x6144 .f32) _ = _
  rw [V38]
  refine Eq.trans ?_ (castGroup _ shapeCasts_S8x6144_S8x1x6144 ⟨t.val / 26, by have := N104 t; omega⟩ 0 k ⟨t.val / 26, by have := N104 t; omega⟩ (by show t.val / 26 = t.val / 26 * 1 + 0; omega))
  refine congrArg _ (funext fun a => Fin.ext ?_)
  match a with
  | ⟨0, _⟩ => show win0_1.index t 0 * 1 + 1 * 0 = t.val / 26; rw [h0]; omega
  | ⟨1, _⟩ => show win0_1.index t 1 * 1 + 1 * 0 = 0; rw [h1]
  | ⟨2, _⟩ => show win0_1.index t 2 * 6144 + 1 * k.val = k.val; rw [h2]; omega

theorem blk2 (c : Dev nD) (t : Fin cfg0.N) (k : Fin 2048) :
    (iblk m c 2 t : S1x2048.Idx → EReal) (ix2 0 k) = (m ((c : Thread nD τ).loc main_arg2) : S2048.Idx → EReal) (ix1 k) := by
  obtain ⟨-, -, -, -, -, h0, h1, -⟩ := where_all t
  show (V m c main_v39 : FVec Ideal S1x2048 .f32) _ = _
  rw [V39]
  refine Eq.trans ?_ (castRow _ shapeCasts_S2048_S1x2048 k)
  refine congrArg _ (Shape.idx_ext₂ ?_ ?_)
  · show win0_2.index t 0 * 1 + 1 * 0 = 0
    rw [h0]
  · show win0_2.index t 1 * 2048 + 1 * k.val = k.val
    rw [h1]; omega

theorem blk3 (c : Dev nD) (t : Fin cfg0.N) (k : Fin 2048) (n : Fin 512) :
    (iblk m c 3 t : S2048x512.Idx → EReal) (ix2 k n) = (m ((c : Thread nD τ).loc main_arg3) : S2048x6656.Idx → EReal) (ix2 k ⟨(t.val % 13 * 512 + n.val) % 6656, by omega⟩) := by
  obtain ⟨-, -, -, -, -, -, -, h0, h1, -⟩ := where_all t
  show (V m c main_v40 : FVec Ideal S2048x6656 .bf16) _ = _
  rw [V40]
  refine congrArg (m ((c : Thread nD τ).loc main_arg3) : S2048x6656.Idx → EReal) (Shape.idx_ext₂ ?_ ?_)
  · show win0_3.index t 0 * 2048 + 1 * k.val = k.val
    rw [h0]; omega
  · show win0_3.index t 1 * 512 + 1 * n.val = (t.val % 13 * 512 + n.val) % 6656
    rw [h1]; omega

theorem blk4 (c : Dev nD) (t : Fin cfg0.N) (r : Fin 1024) (k : Fin 128) :
    (iblk m c 4 t : S1024x128.Idx → EReal) (ix2 r k) = cosAt (posOf t r) k.val := by
  obtain ⟨-, -, -, -, -, -, -, -, -, h0, h1, -⟩ := where_all t
  show (V m c main_v33 : FVec Ideal S2048x128 .f32) _ = _
  rw [V33]
  refine Eq.trans (congrArg _ (Shape.idx_ext₂ ?_ ?_)) (cos_apply (posOf t r) k)
  · show win0_4.index t 0 * 1024 + 1 * r.val = t.val / 13 % 2 * 1024 + r.val
    rw [h0]; omega
  · show win0_4.index t 1 * 128 + 1 * k.val = k.val
    rw [h1]; omega

theorem blk5 (c : Dev nD) (t : Fin cfg0.N) (r : Fin 1024) (k : Fin 128) :
    (iblk m c 5 t : S1024x128.Idx → EReal) (ix2 r k) = if k.val % 32 < 16 then -sinAt (posOf t r) k.val else 0 := by
  obtain ⟨-, -, -, -, -, -, -, -, -, -, -, h0, h1, -⟩ := where_all t
  show (V m c main_v36 : FVec Ideal S2048x128 .f32) _ = _
  rw [V36]
  refine Eq.trans (congrArg _ (Shape.idx_ext₂ ?_ ?_)) (lower_apply (posOf t r) k)
  · show win0_5.index t 0 * 1024 + 1 * r.val = t.val / 13 % 2 * 1024 + r.val
    rw [h0]; omega
  · show win0_5.index t 1 * 128 + 1 * k.val = k.val
    rw [h1]; omega

theorem blk6 (c : Dev nD) (t : Fin cfg0.N) (r : Fin 1024) (k : Fin 128) :
    (iblk m c 6 t : S1024x128.Idx → EReal) (ix2 r k) = if k.val % 32 < 16 then 0 else sinAt (posOf t r) k.val := by
  obtain ⟨-, -, -, -, -, -, -, -, -, -, -, -, -, h0, h1, -⟩ := where_all t
  show (V m c main_v37 : FVec Ideal S2048x128 .f32) _ = _
  rw [V37]
  refine Eq.trans (congrArg _ (Shape.idx_ext₂ ?_ ?_)) (upper_apply (posOf t r) k)
  · show win0_6.index t 0 * 1024 + 1 * r.val = t.val / 13 % 2 * 1024 + r.val
    rw [h0]; omega
  · show win0_6.index t 1 * 128 + 1 * k.val = k.val
    rw [h1]; omega

/-- The kept rows of point `t`'s row block. -/
def rowsAt (c : Dev nD) (t : Fin cfg0.N) : FVec Ideal S1024x2048 .bf16 := fun y =>
  hAt (m ((c : Thread nD τ).loc main_arg0)) (m ((c : Thread nD τ).loc main_arg1)) (m ((c : Thread nD τ).loc main_arg2)) (rowOf t (y 0)) (y 1)

theorem rows_eq (c : Dev nD) (t : Fin cfg0.N) : k0_pay1 (F := Ideal) (iblk m c 0 t) (iblk m c 1 t) (iblk m c 2 t) = rowsAt m c t := by
  funext y
  obtain ⟨r, k, rfl⟩ : ∃ (r : Fin 1024) (k : Fin 2048), y = ix2 r k := ⟨y 0, y 1, eq_ix2 y⟩
  refine (pay1_apply _ _ _ r k).trans ?_
  simp only [blk0, blk1, blk2]
  unfold rowsAt hAt
  have hb : (⟨t.val / 26, by have := N104 t; omega⟩ : Fin 8) = ⟨(rowOf t r).val / 2048, by have := (rowOf t r).isLt; omega⟩ :=
    Fin.ext (by show t.val / 26 = (t.val / 13 * 1024 + r.val) / 2048; omega)
  rw [hb]

theorem rows_same (c : Dev nD) (t t' : Fin cfg0.N) (h : t.val / 13 = t'.val / 13) : rowsAt m c t = rowsAt m c t' := by
  funext y
  obtain ⟨r, k, rfl⟩ : ∃ (r : Fin 1024) (k : Fin 2048), y = ix2 r k := ⟨y 0, y 1, eq_ix2 y⟩
  have e : rowOf t r = rowOf t' r := Fin.ext (by show t.val / 13 * 1024 + r.val = t'.val / 13 * 1024 + r.val; rw [h])
  exact congrArg (fun z => hAt (m ((c : Thread nD τ).loc main_arg0)) (m ((c : Thread nD τ).loc main_arg1)) (m ((c : Thread nD τ).loc main_arg2)) z k) e

/-- At the first point of a row block the scratch is given the rows. -/
theorem kept_first (c : Dev nD) (t : Fin cfg0.N) (h0 : t.val % 13 = 0) : (outsAt0 m c t.val t.isLt).2 = rowsAt m c t := by
  rw [outsAt0_A m c t h0 (by omega) (by omega)]
  dsimp only
  rw [kept_eq, rows_eq]

/-- After every point the scratch holds the rows of the point's row block. -/
theorem kept_at (c : Dev nD) : ∀ (n : ℕ) (hn : n < cfg0.N), (outsAt0 m c n hn).2 = rowsAt m c ⟨n, hn⟩ := by
  intro n
  induction n with
  | zero => exact fun hn => kept_first m c ⟨0, hn⟩ rfl
  | succ n ih =>
    intro hn
    by_cases h0 : (n + 1) % 13 = 0
    · exact kept_first m c ⟨n + 1, hn⟩ h0
    · have e := (ih (Nat.lt_of_succ_lt hn)).trans (rows_same m c ⟨n, Nat.lt_of_succ_lt hn⟩ ⟨n + 1, hn⟩ (by show n / 13 = (n + 1) / 13; omega))
      have e2 : (outsAt0 m c (n + 1) hn).2 = (outsAt0 m c n (Nat.lt_of_succ_lt hn)).2 := by
        by_cases h1 : (n + 1) % 13 ≤ 3
        · have e1 := outsAt0_B m c ⟨n + 1, hn⟩ h0 h1 (by show ¬ 4 ≤ (n + 1) % 13; omega)
          dsimp only at e1
          rw [e1]
          dsimp only
          unfold sout0_B_0
          rfl
        · have e1 := outsAt0_C m c ⟨n + 1, hn⟩ h0 h1 (by show 4 ≤ (n + 1) % 13; omega)
          dsimp only at e1
          rw [e1]
          dsimp only
          unfold sout0_C_0
          rfl
      exact e2.trans e

/-- The result array, from the arguments. -/
def G (c : Dev nD) : S8192x6656.Idx → EReal := fun i =>
  inAt (m ((c : Thread nD τ).loc main_arg0)) (m ((c : Thread nD τ).loc main_arg1)) (m ((c : Thread nD τ).loc main_arg2)) (m ((c : Thread nD τ).loc main_arg3)) (i 0) (i 1).val

/-- The product of the kept rows with the point's block of the weight. -/
theorem prod_eq (c : Dev nD) (t : Fin cfg0.N) (r : Fin 1024) (n : Fin 512) :
    k0_pay2 (F := Ideal) (rowsAt m c t) (iblk m c 3 t) (ix2 r n)
      = proj (m ((c : Thread nD τ).loc main_arg0)) (m ((c : Thread nD τ).loc main_arg1)) (m ((c : Thread nD τ).loc main_arg2)) (m ((c : Thread nD τ).loc main_arg3)) (rowOf t r) (t.val % 13 * 512 + n.val) := by
  refine (pay2_apply _ _ r n).trans ?_
  simp only [blk3]
  rfl

/-- A turned entry of the point's block. -/
theorem turned_eq (c : Dev nD) (t : Fin cfg0.N) (h : t.val % 13 ≤ 3) (r : Fin 1024) (n : Fin 512) :
    ropeBlock (k0_pay3 (F := Ideal) (grid0.coords t)) (rowsAt m c t) (iblk m c 3 t) (iblk m c 4 t) (iblk m c 5 t) (iblk m c 6 t) (ix2 r n)
      = inAt (m ((c : Thread nD τ).loc main_arg0)) (m ((c : Thread nD τ).loc main_arg1)) (m ((c : Thread nD τ).loc main_arg2)) (m ((c : Thread nD τ).loc main_arg3)) (rowOf t r) (t.val % 13 * 512 + n.val) := by
  obtain ⟨-, -, -, -, -, -, -, -, -, -, -, -, -, -, -, -, -, hj⟩ := where_all t
  show roped (fun r n => k0_pay2 (F := Ideal) (rowsAt m c t) (iblk m c 3 t) (ix2 r n)) (k0_pay3 (F := Ideal) (grid0.coords t)) (iblk m c 4 t) (iblk m c 5 t) (iblk m c 6 t) r n = _
  unfold roped
  simp only [prod_eq, blk4, blk5, blk6]
  rw [tables_law _ _ _ _ _ _ _ (factor_nonneg _).1 (factor_nonneg _).2]
  have hl : posOf t r = ⟨(rowOf t r).val % 2048, by omega⟩ := Fin.ext (by show t.val / 13 % 2 * 1024 + r.val = (t.val / 13 * 1024 + r.val) % 2048; omega)
  rw [← cosAt_mod (posOf t r) (t.val % 13 * 512 + n.val) (n.val % 128) (by omega), ← sinAt_mod (posOf t r) (t.val % 13 * 512 + n.val) (n.val % 128) (by omega), hl]
  unfold inAt
  generalize proj (m ((c : Thread nD τ).loc main_arg0)) (m ((c : Thread nD τ).loc main_arg1)) (m ((c : Thread nD τ).loc main_arg2)) (m ((c : Thread nD τ).loc main_arg3)) (rowOf t r) = P
  have ht : (P (t.val % 13 * 512 + n.val) * cosAt ⟨(rowOf t r).val % 2048, by omega⟩ (t.val % 13 * 512 + n.val)
      + (if n.val % 128 % 32 < 16 then -P (t.val % 13 * 512 + (n.val / 128 * 128 + (n.val % 128 + 16) % 128)) else P (t.val % 13 * 512 + (n.val / 128 * 128 + (n.val % 128 + 112) % 128)))
        * sinAt ⟨(rowOf t r).val % 2048, by omega⟩ (t.val % 13 * 512 + n.val))
      = turn P ⟨(rowOf t r).val % 2048, by omega⟩ (t.val % 13 * 512 + n.val) := by
    unfold turn
    refine congrArg₂ (· + ·) rfl (congrArg (· * _) ?_)
    by_cases hlow : n.val % 128 % 32 < 16
    · rw [if_pos hlow, if_pos (by omega)]
      exact congrArg (fun j => -P j) (by omega)
    · rw [if_neg hlow, if_neg (by omega)]
      exact congrArg P (by omega)
  rw [ht, factor_eq, hj]
  unfold entry
  by_cases hs : t.val % 13 < 2
  · rw [if_pos hs, if_pos (by omega)]
  · rw [if_neg hs, if_neg (by omega), if_pos (by omega), mul_one]

/-- Every point's block. -/
theorem flushed_eq (c : Dev nD) (t : Fin cfg0.N) : (dats m 0 c).flushed 7 t = (win0_7.blk t).view.read (Elt Ideal) (G m c) := by
  obtain ⟨-, -, -, -, -, -, -, -, -, -, -, -, -, -, -, g0, g1, -⟩ := where_all t
  have hN := N104 t
  have er : ∀ (r : Fin 1024) (n : Fin 512), ((win0_7.blk t).view.read (Elt Ideal) (G m c)) (ix2 r n)
      = inAt (m ((c : Thread nD τ).loc main_arg0)) (m ((c : Thread nD τ).loc main_arg1)) (m ((c : Thread nD τ).loc main_arg2)) (m ((c : Thread nD τ).loc main_arg3)) (rowOf t r) (t.val % 13 * 512 + n.val) := by
    intro r n
    have e : ((win0_7.blk t).view.read (Elt Ideal) (G m c)) (ix2 r n) = G m c (ix2 (rowOf t r) ⟨t.val % 13 * 512 + n.val, by omega⟩) := by
      refine congrArg (G m c) (Shape.idx_ext₂ ?_ ?_)
      · show win0_7.index t 0 * 1024 + 1 * r.val = t.val / 13 * 1024 + r.val
        rw [g0]; omega
      · show win0_7.index t 1 * 512 + 1 * n.val = t.val % 13 * 512 + n.val
        rw [g1]; omega
    exact e
  have hprev : ¬ t.val % 13 = 0 → (outsAt0 m c (t.val - 1) (Nat.lt_of_le_of_lt (Nat.sub_le _ _) t.isLt)).2 = rowsAt m c t := fun h =>
    (kept_at m c _ _).trans (rows_same m c _ t (by show (t.val - 1) / 13 = t.val / 13; omega))
  by_cases h1 : t.val % 13 ≤ 3
  · have key : (dats m 0 c).flushed 7 t = ropeBlock (k0_pay3 (F := Ideal) (grid0.coords t)) (rowsAt m c t) (iblk m c 3 t) (iblk m c 4 t) (iblk m c 5 t) (iblk m c 6 t) := by
      by_cases h0 : t.val % 13 = 0
      · rw [Value.flushed7_A m c t h0 h1 (by omega)]
        rw [outA_eq, rows_eq]
        rfl
      · rw [Value.flushed7_B m c t h0 h1 (by omega)]
        rw [outB_eq, hprev h0]
        rfl
    rw [key]
    funext i
    obtain ⟨r, n, rfl⟩ : ∃ (r : Fin 1024) (n : Fin 512), i = ix2 r n := ⟨i 0, i 1, eq_ix2 i⟩
    rw [er]
    exact turned_eq m c t h1 r n
  · have key : (dats m 0 c).flushed 7 t = k0_pay5 (F := Ideal) (rowsAt m c t) (iblk m c 3 t) := by
      rw [Value.flushed7_C m c t (by omega) h1 (by omega)]
      rw [outC_eq, hprev (by omega)]
      rfl
    rw [key]
    funext i
    obtain ⟨r, n, rfl⟩ : ∃ (r : Fin 1024) (n : Fin 512), i = ix2 r n := ⟨i 0, i 1, eq_ix2 i⟩
    rw [er]
    refine (prod_eq m c t r n).trans ?_
    unfold inAt entry
    rw [if_neg (by omega), if_neg (by omega)]

/-- The blocks cover the result. -/
theorem cover (i : S8192x6656.Idx) : ∃ t : Fin cfg0.N, (cfg0.win 7).flush t = true ∧ i ∈ ((cfg0.win 7).blk t).view.set := by
  have hi0 : (i 0 : Nat) < 8192 := (i 0).isLt
  have hi1 : (i 1 : Nat) < 6656 := (i 1).isLt
  have hN : cfg0.N = 104 := by decide +kernel
  have hb : (i 0 : Nat) / 1024 * 13 + (i 1 : Nat) / 512 < cfg0.N := by omega
  refine ⟨⟨_, hb⟩, flush0_7 _, ?_⟩
  generalize ht : (⟨_, hb⟩ : Fin cfg0.N) = t
  have htv : t.val = (i 0 : Nat) / 1024 * 13 + (i 1 : Nat) / 512 := by rw [← ht]
  obtain ⟨-, -, -, -, -, -, -, -, -, -, -, -, -, -, -, h0, h1, -⟩ := where_all t
  show i ∈ ((View.whole main_v41).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    rw [h0]; omega
  | ⟨1, _⟩ =>
    show win0_7.index t 1 * 512 ≤ (i 1 : Nat) ∧ (i 1 : Nat) < win0_7.index t 1 * 512 + 512
    rw [h1]; omega

/-- The result array after the run. -/
theorem final (c : Dev nD) : (dats m 0 c).arrAt 7 cfg0.N = G m c :=
  (dats m 0 c).arrAt_eq_of_cover 7 (G m c) (fun t _ => flushed_eq m c t) cover

end Cert.InK

end
-- ==== Proof.InAlgebraic.lean ====
/- The in-projection: kernel and reference leave the same result. -/
module

public import proofs.«01_k».proof.Defs
public import proofs.«01_k».proof.Proof.InRef
public import proofs.«01_k».proof.Proof.InValue

@[expose] public section

noncomputable section

namespace Cert.InAlgebraic

open Idealize.ShloMosaic Idealize.SL.Sem

/-- Equal arguments give equal entries. -/
theorem inAt_congr {x x' : InprojIdeal.S8192x2048.Idx → EReal} {md md' : InprojIdeal.S8x6144.Idx → EReal} {g g' : InprojIdeal.S2048.Idx → EReal} {w w' : InprojIdeal.S2048x6656.Idx → EReal}
    (hx : x' = x) (hm : md' = md) (hg : g' = g) (hw : w' = w) (r : Fin 8192) (n : ℕ) : InK.inAt x' md' g' w' r n = InK.inAt x md g w r n := by
  rw [hx, hm, hg, hw]

/-- From equal arguments the in-projection and its reference end with equal results, for all arguments. -/
theorem algebraic : Cert.algebraic_InprojIdeal_InprojRefIdeal (hInprojIdeal := Cert.InprojIdeal.Gen.facts)
    (hInprojRefIdeal := Cert.InprojRefIdeal.Gen.facts) := by
  intro m g m' g' _ hargs
  refine ⟨fun c => InK.G m c, ?_, ?_⟩
  · refine (θ_run (Cert.InprojIdeal.defs (F := Ideal)) _ _).mono (fun r h c => ?_) (Cert.InprojIdeal.Value.run_blocks (F := Ideal) m g)
    exact ⟨(h c).1.trans (InK.final m c), (h c).2⟩
  · refine (θ_run (Cert.InprojRefIdeal.defs (F := Ideal)) _ _).mono (fun r h c => ?_) (Cert.InprojRefIdeal.Value.run (F := Ideal) m' g')
    obtain ⟨hv, hrest⟩ := h c
    refine ⟨hv.trans ((InRef.run_eq _).trans (funext fun i => ?_)), hrest⟩
    obtain ⟨h0, h1, h2, h3⟩ := hargs c
    exact inAt_congr h0 h1 h2 h3 (i 0) (i 1).val

end Cert.InAlgebraic

end
-- ==== Proof.CtxMath.lean ====
/- An entry of the context's input projection. -/
module

public import proofs.«01_k».proof.Proof.InKernel

@[expose] public section

noncomputable section

namespace Cert.Ctx

open Idealize.ShloMosaic Idealize.ShloMosaic.ValueIdx
open scoped BigOperators

/-- The normed and modulated row `r`; the context's modulation is row 4. -/
def hAt (x : (⟨2, ![1024, 2048]⟩ : Shape).Idx → EReal) (md : (⟨2, ![8, 6144]⟩ : Shape).Idx → EReal) (g : (⟨1, ![2048]⟩ : Shape).Idx → EReal) (r : Fin 1024) (k : Fin 2048) : EReal :=
  InK.hrow (fun k => x (ix2 r k)) (fun k => g (ix1 k)) (fun k => md (ix2 4 ⟨2048 + k.val, by omega⟩)) (fun k => md (ix2 4 ⟨k.val, by omega⟩)) k

/-- The product of row `r` with column `n` of the weight (columns read modulo their number). -/
def proj (x : (⟨2, ![1024, 2048]⟩ : Shape).Idx → EReal) (md : (⟨2, ![8, 6144]⟩ : Shape).Idx → EReal) (g : (⟨1, ![2048]⟩ : Shape).Idx → EReal)
    (w : (⟨2, ![2048, 6656]⟩ : Shape).Idx → EReal) (r : Fin 1024) (n : ℕ) : EReal :=
  ∑ k : Fin 2048, hAt x md g r k * w (ix2 k ⟨n % 6656, by omega⟩)

/-- An entry of the first layer's result: the queries an eighth of the product, the other columns the product. -/
def val (x : (⟨2, ![1024, 2048]⟩ : Shape).Idx → EReal) (md : (⟨2, ![8, 6144]⟩ : Shape).Idx → EReal) (g : (⟨1, ![2048]⟩ : Shape).Idx → EReal)
    (w : (⟨2, ![2048, 6656]⟩ : Shape).Idx → EReal) (r : Fin 1024) (n : ℕ) : EReal :=
  proj x md g w r n * (if n < 1024 then Ideal.ofBits .f32 0x3E000000#32 else 1)

/-- An entry of the last layer's result: the keys' and values' columns. -/
def valLast (x : (⟨2, ![1024, 2048]⟩ : Shape).Idx → EReal) (md : (⟨2, ![8, 6144]⟩ : Shape).Idx → EReal) (g : (⟨1, ![2048]⟩ : Shape).Idx → EReal)
    (w : (⟨2, ![2048, 6656]⟩ : Shape).Idx → EReal) (r : Fin 1024) (n : ℕ) : EReal :=
  proj x md g w r (1024 + n)

end Cert.Ctx

end
-- ==== Proof.CtxRef.lean ====
/- The references of the context's input projections at an entry of their results. -/
module

public import proofs.«01_k».proof.Proof.HostReads
public import proofs.«01_k».proof.Proof.CtxMath
public import proofs.«01_k».proof.Proof.Gen.CtxInRefIdeal.Run
public import proofs.«01_k».proof.Proof.Gen.CtxLastRefIdeal.Run

@[expose] public section

noncomputable section

namespace Cert.Ctx

open Cert.CtxInRefIdeal Cert.CtxInRefIdeal.Gen Idealize.ShloMosaic Idealize.ShloMosaic.ValueIdx Idealize.ShloMosaic.TcCoe Cert.Reads
open scoped BigOperators

section Layout
variable {α : Type}

/-- One row repeated. -/
theorem bdDown2 {M N : Nat} (x : (⟨2, ![1, N]⟩ : Shape).Idx → α) (h : (⟨2, ![1, N]⟩ : Shape).BroadcastsInDim ⟨2, ![M, N]⟩ ![0, 1]) (r : Fin M) (k : Fin N) :
    broadcastInDim (⟨2, ![M, N]⟩ : Shape) ![0, 1] h x (ix2 r k) = x (ix2 0 k) := by
  refine broadcastInDim_apply _ _ _ _ _ fun a => ?_
  match a with
  | ⟨0, _⟩ => rfl
  | ⟨1, _⟩ => exact val_eq_ite k

/-- One column repeated. -/
theorem bdAcross2 {M N : Nat} (x : (⟨2, ![M, 1]⟩ : Shape).Idx → α) (h : (⟨2, ![M, 1]⟩ : Shape).BroadcastsInDim ⟨2, ![M, N]⟩ ![0, 1]) (r : Fin M) (k : Fin N) :
    broadcastInDim (⟨2, ![M, N]⟩ : Shape) ![0, 1] h x (ix2 r k) = x (ix2 r 0) := by
  refine broadcastInDim_apply _ _ _ _ _ fun a => ?_
  match a with
  | ⟨0, _⟩ => exact val_eq_ite r
  | ⟨1, _⟩ => rfl

/-- A vector made one row. -/
theorem bdRowOf {N : Nat} (x : (⟨1, ![N]⟩ : Shape).Idx → α) (h : (⟨1, ![N]⟩ : Shape).BroadcastsInDim ⟨2, ![1, N]⟩ ![1]) (k : Fin N) :
    broadcastInDim (⟨2, ![1, N]⟩ : Shape) ![1] h x (ix2 0 k) = x (ix1 k) := by
  refine broadcastInDim_apply _ _ _ _ _ fun a => ?_
  match a with
  | ⟨0, _⟩ => exact val_eq_ite k

/-- A vector made one column. -/
theorem bdColOf {M : Nat} (x : (⟨1, ![M]⟩ : Shape).Idx → α) (h : (⟨1, ![M]⟩ : Shape).BroadcastsInDim ⟨2, ![M, 1]⟩ ![0]) (r : Fin M) :
    broadcastInDim (⟨2, ![M, 1]⟩ : Shape) ![0] h x (ix2 r 0) = x (ix1 r) := by
  refine broadcastInDim_apply _ _ _ _ _ fun a => ?_
  match a with
  | ⟨0, _⟩ => exact val_eq_ite r

/-- One row viewed as a vector. -/
theorem castVec {N : Nat} (x : (⟨2, ![1, N]⟩ : Shape).Idx → α) (h : (⟨2, ![1, N]⟩ : Shape).ShapeCasts ⟨1, ![N]⟩) (k : Fin N) :
    shapeCast (⟨1, ![N]⟩ : Shape) x h (ix1 k) = x (ix2 0 k) := by
  refine shapeCast_apply _ _ _ _ ?_
  rw [Shape.rowMajor_val_one, Shape.rowMajor_val_two]
  show 0 * N + k.val = k.val
  omega

/-- Two matrices side by side, read in the first. -/
theorem cat2_0 {M A B N : Nat} (x : (⟨2, ![M, A]⟩ : Shape).Idx → α) (y : (⟨2, ![M, B]⟩ : Shape).Idx → α)
    (h) (r : Fin M) (c : Fin N) (k : Fin A) (hk : c.val = k.val) :
    concatenate (⟨2, ![M, N]⟩ : Shape) 1 [⟨⟨2, ![M, A]⟩, x⟩, ⟨⟨2, ![M, B]⟩, y⟩] h (ix2 r c) = x (ix2 r k) := by
  refine concatenate_apply_piece 1 _ h (ix2 r c) 0 (by simp) ⟨2, ![M, A]⟩ x rfl rfl 0 rfl (ix2 r k) ?_ ?_
  · intro b hb
    match b with
    | ⟨0, _⟩ => rfl
    | ⟨1, _⟩ => exact absurd rfl hb
  · show 0 + k.val = c.val
    omega

/-- Two matrices side by side, read in the second. -/
theorem cat2_1 {M A B N : Nat} (x : (⟨2, ![M, A]⟩ : Shape).Idx → α) (y : (⟨2, ![M, B]⟩ : Shape).Idx → α)
    (h) (r : Fin M) (c : Fin N) (k : Fin B) (hk : c.val = A + k.val) :
    concatenate (⟨2, ![M, N]⟩ : Shape) 1 [⟨⟨2, ![M, A]⟩, x⟩, ⟨⟨2, ![M, B]⟩, y⟩] h (ix2 r c) = y (ix2 r k) := by
  refine concatenate_apply_piece 1 _ h (ix2 r c) 1 (by simp) ⟨2, ![M, B]⟩ y rfl rfl A (by simp) (ix2 r k) ?_ ?_
  · intro b hb
    match b with
    | ⟨0, _⟩ => rfl
    | ⟨1, _⟩ => exact absurd rfl hb
  · show A + k.val = c.val
    omega

end Layout

/-- A host sum along the rows of a matrix, from zero. -/
theorem hsum2 {M N : Nat} {u : Shape} (x : FVec Ideal ⟨2, ![M, N]⟩ .f32) (v : FVec Ideal u .f32) (h : (⟨2, ![M, N]⟩ : Shape).ReducesTo [1] ⟨1, ![M]⟩)
    (hr : (⟨2, ![M, N]⟩ : Shape).Reduces [1] ⟨1, ![M]⟩) (hu : 0 < u.numel) (hv : ∀ i, v i = 0) (r : Fin M) :
    Host.reduceAdd x v h hu (ix1 r) = ∑ k : Fin N, x (ix2 r k) := by
  rw [hostReduceAdd_apply, Ideal.hostReduceAdd_single h hr, hv, zero_add]
  exact Finset.sum_congr rfl fun k _ => congrArg x (lift_row hr r k)

variable (x : FVec Ideal S1024x2048 .f32) (md : FVec Ideal S8x6144 .f32) (g : FVec Ideal S2048 .f32) (w : FVec Ideal S2048x6656 .f32)

/-- The context's row of the modulation, as the references take it. -/
abbrev Md : FVec Ideal S1x6144 .f32 :=
  broadcastInDim S1x6144 ![1] bcast_S6144_S1x6144_1 (shapeCast _ (extractStridedSlice S1x6144 ![4, 0] md slices_S8x6144_S1x6144_4_0) shapeCasts_S1x6144_S6144)

/-- The normed and modulated rows, as the references compute them. -/
abbrev Hd : FVec Ideal S1024x2048 .f32 :=
  addf (mulf (mulf (mulf x (broadcastInDim S1024x2048 ![0, 1] bcast_S1024x1_S1024x2048_0_1 (Host.rsqrt (addf (Host.divf (broadcastInDim S1024x1 ![0] bcast_S1024_S1024x1_0 (Host.reduceAdd (mulf x x) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 g))) (broadcastInDim S1024x2048 ![0, 1] bcast_S1x2048_S1024x2048_0_1 (addf (broadcastInDim S1x2048 ![] bcast_S_S1x2048 (constant S_ .f32 0x3F800000#32)) (extractStridedSlice S1x2048 ![0, 2048] (Md md) slices_S1x6144_S1x2048_0_2048)))) (broadcastInDim S1024x2048 ![0, 1] bcast_S1x2048_S1024x2048_0_1 (extractStridedSlice S1x2048 ![0, 0] (Md md) slices_S1x6144_S1x2048_0_0))

/-- The product, as the references compute it. -/
abbrev Pd : FVec Ideal S1024x6656 .f32 := Host.dotGeneral dot_S1024x2048_S2048x6656_S1024x6656_1_0_0_1_n_n none (Hd x md g) w

theorem Md_apply (k : Fin 6144) : Md md (ix2 0 k) = md (ix2 4 k) := by
  unfold Md
  rw [bdRowOf, castVec, slice2 _ _ 0 k 4 k rfl (by simp)]

theorem Hd_apply (r : Fin 1024) (k : Fin 2048) : Hd x md g (ix2 r k) = hAt x md g r k := by
  unfold Hd
  rw [addf_apply, mulf_apply, mulf_apply, mulf_apply, bdAcross2, bdDown2, bdRowOf, bdDown2, bdDown2, addf_apply,
    slice2 _ _ 0 k 0 ⟨2048 + k.val, by omega⟩ rfl rfl, slice2 (o0 := 0) (o1 := 0) _ _ 0 k 0 ⟨k.val, by omega⟩ rfl (by simp), Md_apply, Md_apply]
  unfold hAt InK.hrow
  refine congrArg₂ (· + ·) (congrArg₂ (· * ·) (congrArg₂ (· * ·) (congrArg₂ (· * ·) rfl (congrArg Ideal.rsqrt ?_)) rfl) rfl) rfl
  rw [addf_apply, hostDivf_apply, bdColOf, hsum2 _ (constant S_ .f32 0x00000000#32) _ (by decide) _ (fun _ => Ideal.ofBits_zero_f32)]
  rfl

theorem Pd_apply (r : Fin 1024) (n : Fin 6656) : Pd x md g w (ix2 r n) = proj x md g w r n.val := by
  refine (hdot2 none (Hd x md g) w r n).trans ?_
  unfold proj
  refine Finset.sum_congr rfl fun k _ => congrArg₂ (· * ·) (Hd_apply x md g r k) (congrArg w (congrArg (ix2 k) (Fin.ext ?_)))
  show n.val = n.val % 6656
  omega

/-- The first layer's reference leaves the same function of the arguments as the kernel. -/
theorem out_eq :
    (truncf .bf16 (concatenate S1024x6656 1 [⟨S1024x1024, (mulf (extractStridedSlice S1024x1024 ![0, 0] (Pd x md g w) slices_S1024x6656_S1024x1024_0_0) (broadcastInDim S1024x1024 ![] bcast_S_S1024x1024 (constant S_ .f32 0x3E000000#32)))⟩, ⟨S1024x5632, (extractStridedSlice S1024x5632 ![0, 1024] (Pd x md g w) slices_S1024x6656_S1024x5632_0_1024)⟩] concatenates_S1024x1024_S1024x5632_S1024x6656_d1 : FVec Ideal S1024x6656 .f32) bitsLt_bf16_f32 : S1024x6656.Idx → EReal)
      = fun i => val x md g w (i 0) (i 1).val := by
  funext i
  obtain ⟨r, n, rfl⟩ : ∃ (r : Fin 1024) (n : Fin 6656), i = ix2 r n := ⟨i 0, i 1, eq_ix2 i⟩
  show _ = val x md g w r n.val
  unfold val
  rw [truncf_apply]
  by_cases hn : n.val < 1024
  · rw [cat2_0 _ _ _ r n ⟨n.val, hn⟩ rfl, mulf_apply, slice2 (o0 := 0) (o1 := 0) _ _ r _ r n (by simp) (by simp), Pd_apply, if_pos hn]
    rfl
  · rw [cat2_1 _ _ _ r n ⟨n.val - 1024, by omega⟩ (by show n.val = 1024 + (n.val - 1024); omega),
      slice2 (o0 := 0) (o1 := 1024) _ _ r _ r n (by simp) (by show n.val = 1024 + (n.val - 1024); omega), Pd_apply, if_neg hn, mul_one]

/-- The last layer's reference leaves the same function of the arguments as the kernel. -/
theorem outLast_eq :
    (truncf .bf16 (extractStridedSlice CtxLastRefIdeal.S1024x2048 ![0, 1024] (Pd x md g w) CtxLastRefIdeal.Gen.slices_S1024x6656_S1024x2048_0_1024 : FVec Ideal S1024x2048 .f32) bitsLt_bf16_f32 : S1024x2048.Idx → EReal)
      = fun i => valLast x md g w (i 0) (i 1).val := by
  funext i
  obtain ⟨r, n, rfl⟩ : ∃ (r : Fin 1024) (n : Fin 2048), i = ix2 r n := ⟨i 0, i 1, eq_ix2 i⟩
  show _ = proj x md g w r (1024 + n.val)
  rw [truncf_apply, slice2 (o0 := 0) (o1 := 1024) _ _ r n r ⟨1024 + n.val, by omega⟩ (by simp) rfl, Pd_apply]

end Cert.Ctx

end
-- ==== Proof.CtxValue.lean ====
/- The context's input projection of the first layer: what its kernel computes, and its result as one function of the arguments. -/
module

public import proofs.«01_k».proof.Proof.CtxMath
public import proofs.«01_k».proof.Proof.Gen.CtxInIdeal.Value
public import Idealize.ShloMosaic.Lib.Claim
public import Idealize.ShloMosaic.Lib.IdealHost

@[expose] public section

noncomputable section

namespace Cert.CtxK

open Cert.CtxInIdeal Cert.CtxInIdeal.Gen Idealize.ShloMosaic Idealize.ShloMosaic.ValueIdx Idealize.ShloMosaic.TcCoe Cert.Reads Cert.Ctx Idealize.SL.Sem
open scoped BigOperators

/-- The kept rows at an entry. -/
theorem pay1_apply (v15 : FVec Ideal S1024x2048 .f32) (v21 : FVec Ideal S1x1x6144 .f32) (v30 : FVec Ideal S1x2048 .f32) (r : Fin 1024) (c : Fin 2048) :
    k0_pay1 (F := Ideal) v15 v21 v30 (ix2 r c)
      = InK.hrow (fun k => v15 (ix2 r k)) (fun k => v30 (ix2 0 k)) (fun k => v21 (ix3 0 0 ⟨2048 + k.val, by omega⟩)) (fun k => v21 (ix3 0 0 ⟨k.val, by omega⟩)) c :=
  InK.pay1_apply v15 v21 v30 r c

/-- The factor of a point: an eighth on the queries' two column blocks, one on the others. -/
theorem factor_eq (i : grid0.Coords) : Scalar.select (Scalar.cmpi .slt (BitVec.ofNat 32 (i 1).val) 2#32) (Ideal.ofBits .f32 0x3E000000#32) (Ideal.ofBits .f32 0x3F800000#32)
    = if (i 1).val < 2 then Ideal.ofBits .f32 0x3E000000#32 else 1 := by
  have h : ∀ j : Fin 13, Scalar.cmpi .slt (BitVec.ofNat 32 j.val) 2#32 = if j.val < 2 then 1#1 else 0#1 := by decide +kernel
  rw [h (i 1), Ideal.ofBits_one_f32]
  split_ifs with hj
  · exact select_one _ _
  · exact select_zero _ _

/-- The product of the kept rows with a block of the weight, times the point's factor. -/
theorem pay2_apply (i : grid0.Coords) (v3 : FVec Ideal S1024x2048 .bf16) (v4 : FVec Ideal S2048x512 .bf16) (r : Fin 1024) (c : Fin 512) :
    k0_pay2 (F := Ideal) i v3 v4 (ix2 r c) = (∑ k : Fin 2048, v3 (ix2 r k) * v4 (ix2 k c)) * (if (i 1).val < 2 then Ideal.ofBits .f32 0x3E000000#32 else 1) := by
  unfold k0_pay2
  simp only [shapeCast_self]
  rw [truncf_apply, mulf_apply, broadcast_apply]
  exact congrArg₂ (· * ·) (dot2 none v3 v4 r c) (factor_eq i)

/-- The one piece the first point keeps. -/
theorem kept_pieces (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    (kernelRun0_A (F := Ideal) c i arg2 harg2 arg3 harg3 arg4 harg4 arg5 harg5 arg6 harg6 arg7 harg7 hc0 x0 x1 x2 x3).2.1
      = [⟨Rect.unit (s := S1024x2048) ![0, 0] S1024x2048.size inb_S1024x2048_S1024x2048_0_0, k0_pay1 (F := Ideal) x0 x1 x2⟩] := by
  have h0 : View.ld (Val := Elt Ideal) (e' := .f32) (arg2.view.read (Elt Ideal) (harg2.unread x0)) (Rect.unit (s := S1024x2048) ![0, 0] S1024x2048.size inb_S1024x2048_S1024x2048_0_0) = x0 := by
    rw [harg2.read_unread x0]
    exact View.ld_unit_zero (funext fun a => by fin_cases a <;> rfl) _ _
  have h1 : View.ld (Val := Elt Ideal) (e' := .f32) (arg3.view.read (Elt Ideal) (harg3.unread x1)) (Rect.unit (s := S1x1x6144) ![0, 0, 0] S1x1x6144.size inb_S1x1x6144_S1x1x6144_0_0_0) = x1 := by
    rw [harg3.read_unread x1]
    exact View.ld_unit_zero (funext fun a => by fin_cases a <;> rfl) _ _
  have h2 : View.ld (Val := Elt Ideal) (e' := .f32) (arg4.view.read (Elt Ideal) (harg4.unread x2)) (Rect.unit (s := S1x2048) ![0, 0] S1x2048.size inb_S1x2048_S1x2048_0_0) = x2 := by
    rw [harg4.read_unread x2]
    exact View.ld_unit_zero (funext fun a => by fin_cases a <;> rfl) _ _
  conv_rhs => rw [← h0, ← h1, ← h2]
  rfl

/-- The rows the first point keeps. -/
theorem kept_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    sout0_A_0 (F := Ideal) c i arg2 harg2 arg3 harg3 arg4 harg4 arg5 harg5 arg6 harg6 arg7 harg7 hc0 x0 x1 x2 x3 = k0_pay1 (F := Ideal) x0 x1 x2 := by
  funext y
  unfold sout0_A_0
  refine View.read_writes_apply_of_pieces _ _ (k0_pay1 (F := Ideal) x0 x1 x2) _ ?_ y (scover0_A_0 c i arg2 harg2 arg3 harg3 arg4 harg4 arg5 harg5 arg6 harg6 arg7 harg7 hc0 x0 x1 x2 x3 y)
  rw [kept_pieces]
  intro p hp x
  obtain rfl := List.mem_singleton.mp hp
  refine congrArg (k0_pay1 (F := Ideal) x0 x1 x2) (funext fun a => Fin.ext ?_)
  match a with
  | ⟨0, _⟩ => show (x 0 : ℕ) = 0 + 1 * (x 0 : ℕ); omega
  | ⟨1, _⟩ => show (x 1 : ℕ) = 0 + 1 * (x 1 : ℕ); omega

/-- A whole store's piece lies where its payload has it. -/
theorem whole_block (v : FVec Ideal S1024x512 .bf16) :
    ∀ p ∈ ([⟨Rect.unit (s := S1024x512) ![0, 0] S1024x512.size inb_S1024x512_S1024x512_0_0, v⟩] : List (View.Piece (Elt Ideal) S1024x512 .bf16)), ∀ x, p.2 x = v (p.1.emb x) := by
  intro p hp x
  obtain rfl := List.mem_singleton.mp hp
  refine congrArg v (funext fun a => Fin.ext ?_)
  match a with
  | ⟨0, _⟩ => show (x 0 : ℕ) = 0 + 1 * (x 0 : ℕ); omega
  | ⟨1, _⟩ => show (x 1 : ℕ) = 0 + 1 * (x 1 : ℕ); omega

/-- The store of the first point. -/
theorem piecesA (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    (kernelRun0_A (F := Ideal) c i arg2 harg2 arg3 harg3 arg4 harg4 arg5 harg5 arg6 harg6 arg7 harg7 hc0 x0 x1 x2 x3).1
      = [⟨Rect.unit (s := S1024x512) ![0, 0] S1024x512.size inb_S1024x512_S1024x512_0_0, k0_pay2 (F := Ideal) i (k0_pay1 (F := Ideal) x0 x1 x2) x3⟩] := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have hs : View.ld (Val := Elt Ideal) (e' := .bf16) (arg7.view.read (Elt Ideal) (arg7.view.writes (Elt Ideal) arg7.view.junk (kernelRun0_A (F := Ideal) c i arg2 harg2 arg3 harg3 arg4 harg4 arg5 harg5 arg6 harg6 arg7 harg7 hc0 x0 x1 x2 x3).2.1)) (Rect.unit (s := S1024x2048) ![0, 0] S1024x2048.size inb_S1024x2048_S1024x2048_0_0) = k0_pay1 (F := Ideal) x0 x1 x2 := by
    rw [harg7.read_writes_junk (Memref.isWhole_whole cc0_scratch0)]
    refine (View.ld_unit_zero (funext fun a => by fin_cases a <;> rfl) _ _).trans ?_
    exact kept_eq c i arg2 harg2 arg3 harg3 arg4 harg4 arg5 harg5 arg6 harg6 arg7 harg7 hc0 x0 x1 x2 x3
  conv_rhs => rw [← hs, ← h3]
  rfl

/-- What the first point writes: computed with the rows it has just kept. -/
theorem outA_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    out0_A_4 (F := Ideal) c i arg2 harg2 arg3 harg3 arg4 harg4 arg5 harg5 arg6 harg6 arg7 harg7 hc0 x0 x1 x2 x3 = k0_pay2 (F := Ideal) i (k0_pay1 (F := Ideal) x0 x1 x2) x3 := by
  funext y
  unfold out0_A_4
  refine View.read_writes_apply_of_pieces _ _ (k0_pay2 (F := Ideal) i (k0_pay1 (F := Ideal) x0 x1 x2) x3) _ ?_ y (cover0_A_4 c i arg2 harg2 arg3 harg3 arg4 harg4 arg5 harg5 arg6 harg6 arg7 harg7 hc0 x0 x1 x2 x3 y)
  rw [piecesA]
  exact whole_block _

/-- The store of another point. -/
theorem piecesB (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : ¬cond0_0 i) (x0 : Vec Ideal S1024x2048 .f32) (x1 : Vec Ideal S1x1x6144 .f32) (x2 : Vec Ideal S1x2048 .f32) (x3 : Vec Ideal S2048x512 .bf16) (xs0 : Vec Ideal S1024x2048 .bf16) :
    (kernelRun0_B (F := Ideal) c i arg2 harg2 arg3 harg3 arg4 harg4 arg5 harg5 arg6 harg6 arg7 harg7 hc0 x0 x1 x2 x3 xs0).1
      = [⟨Rect.unit (s := S1024x512) ![0, 0] S1024x512.size inb_S1024x512_S1024x512_0_0, k0_pay2 (F := Ideal) i xs0 x3⟩] := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have hs : View.ld (Val := Elt Ideal) (e' := .bf16) (arg7.view.read (Elt Ideal) (harg7.unread xs0)) (Rect.unit (s := S1024x2048) ![0, 0] S1024x2048.size inb_S1024x2048_S1024x2048_0_0) = xs0 := by
    rw [harg7.read_unread xs0]
    exact View.ld_unit_zero (funext fun a => by fin_cases a <;> rfl) _ _
  conv_rhs => rw [← hs, ← h3]
  rfl

/-- What another point writes: computed with the rows kept before. -/
theorem outB_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : ¬cond0_0 i) (x0 : Vec Ideal S1024x2048 .f32) (x1 : Vec Ideal S1x1x6144 .f32) (x2 : Vec Ideal S1x2048 .f32) (x3 : Vec Ideal S2048x512 .bf16) (xs0 : Vec Ideal S1024x2048 .bf16) :
    out0_B_4 (F := Ideal) c i arg2 harg2 arg3 harg3 arg4 harg4 arg5 harg5 arg6 harg6 arg7 harg7 hc0 x0 x1 x2 x3 xs0 = k0_pay2 (F := Ideal) i xs0 x3 := by
  funext y
  unfold out0_B_4
  refine View.read_writes_apply_of_pieces _ _ (k0_pay2 (F := Ideal) i xs0 x3) _ ?_ y (cover0_B_4 c i arg2 harg2 arg3 harg3 arg4 harg4 arg5 harg5 arg6 harg6 arg7 harg7 hc0 x0 x1 x2 x3 xs0 y)
  rw [piecesB]
  exact whole_block _

variable (m : (ℓ : Loc nD τ sig) → Buf (Elt Ideal) ℓ)

/-- The modulation, its rows apart. -/
theorem V0 (c : Dev nD) : (V m c main_v0 : FVec Ideal S8x1x6144 .f32) = shapeCast S8x1x6144 (m ((c : Thread nD τ).loc main_arg1) : S8x6144.Idx → EReal) shapeCasts_S8x6144_S8x1x6144 := by
  show StableHlo.after hostOps0 _ _ = _
  after_results
  rfl

/-- The norm's scale as a row. -/
theorem V1 (c : Dev nD) : (V m c main_v1 : FVec Ideal S1x2048 .f32) = shapeCast S1x2048 (m ((c : Thread nD τ).loc main_arg2) : S2048.Idx → EReal) shapeCasts_S2048_S1x2048 := by
  show StableHlo.after hostOps0 _ _ = _
  after_results
  rfl

/-- The weight, cast. -/
theorem V2 (c : Dev nD) : V m c main_v2 = (m ((c : Thread nD τ).loc main_arg3) : S2048x6656.Idx → EReal) := by
  show StableHlo.after hostOps0 _ _ = _
  after_results
  rfl

/-- Where the windows' blocks stand at point `t`. -/
theorem where_all : ∀ t : Fin grid0.N,
    win0_0.index t 0 = 0 ∧ win0_0.index t 1 = 0 ∧ win0_1.index t 0 = 4 ∧ win0_1.index t 1 = 0 ∧ win0_1.index t 2 = 0
    ∧ win0_2.index t 0 = 0 ∧ win0_2.index t 1 = 0 ∧ win0_3.index t 0 = 0 ∧ win0_3.index t 1 = 0 + t.val
    ∧ win0_4.index t 0 = 0 ∧ win0_4.index t 1 = t.val ∧ (grid0.coords t 1).val = t.val := by decide +kernel

theorem NT (t : Fin cfg0.N) : t.val < 13 := t.isLt

theorem blk0 (c : Dev nD) (t : Fin cfg0.N) (r : Fin 1024) (k : Fin 2048) :
    (iblk m c 0 t : S1024x2048.Idx → EReal) (ix2 r k) = (m ((c : Thread nD τ).loc main_arg0) : S1024x2048.Idx → EReal) (ix2 r k) := by
  obtain ⟨h0, h1, -⟩ := where_all t
  show (V m c main_arg0 : S1024x2048.Idx → EReal) _ = _
  rw [V_main_arg0]
  refine congrArg _ (Shape.idx_ext₂ ?_ ?_)
  · show win0_0.index t 0 * 1024 + 1 * r.val = r.val
    rw [h0]; omega
  · show win0_0.index t 1 * 2048 + 1 * k.val = k.val
    rw [h1]; omega

theorem blk1 (c : Dev nD) (t : Fin cfg0.N) (k : Fin 6144) :
    (iblk m c 1 t : S1x1x6144.Idx → EReal) (ix3 0 0 k) = (m ((c : Thread nD τ).loc main_arg1) : S8x6144.Idx → EReal) (ix2 4 k) := by
  obtain ⟨-, -, h0, h1, h2, -⟩ := where_all t
  show (V m c main_v0 : FVec Ideal S8x1x6144 .f32) _ = _
  rw [V0]
  refine Eq.trans ?_ (castGroup _ shapeCasts_S8x6144_S8x1x6144 4 0 k 4 (by decide))
  refine congrArg _ (funext fun a => Fin.ext ?_)
  match a with
  | ⟨0, _⟩ => show win0_1.index t 0 * 1 + 1 * 0 = 4; rw [h0]
  | ⟨1, _⟩ => show win0_1.index t 1 * 1 + 1 * 0 = 0; rw [h1]
  | ⟨2, _⟩ => show win0_1.index t 2 * 6144 + 1 * k.val = k.val; rw [h2]; omega

theorem blk2 (c : Dev nD) (t : Fin cfg0.N) (k : Fin 2048) :
    (iblk m c 2 t : S1x2048.Idx → EReal) (ix2 0 k) = (m ((c : Thread nD τ).loc main_arg2) : S2048.Idx → EReal) (ix1 k) := by
  obtain ⟨-, -, -, -, -, h0, h1, -⟩ := where_all t
  show (V m c main_v1 : FVec Ideal S1x2048 .f32) _ = _
  rw [V1]
  refine Eq.trans ?_ (castRow _ shapeCasts_S2048_S1x2048 k)
  refine congrArg _ (Shape.idx_ext₂ ?_ ?_)
  · show win0_2.index t 0 * 1 + 1 * 0 = 0
    rw [h0]
  · show win0_2.index t 1 * 2048 + 1 * k.val = k.val
    rw [h1]; omega

theorem blk3 (c : Dev nD) (t : Fin cfg0.N) (k : Fin 2048) (n : Fin 512) :
    (iblk m c 3 t : S2048x512.Idx → EReal) (ix2 k n) = (m ((c : Thread nD τ).loc main_arg3) : S2048x6656.Idx → EReal) (ix2 k ⟨(0 + (t.val * 512 + n.val)) % 6656, by omega⟩) := by
  obtain ⟨-, -, -, -, -, -, -, h0, h1, -⟩ := where_all t
  have hN := NT t
  show (V m c main_v2 : S2048x6656.Idx → EReal) _ = _
  rw [V2]
  refine congrArg _ (Shape.idx_ext₂ ?_ ?_)
  · show win0_3.index t 0 * 2048 + 1 * k.val = k.val
    rw [h0]; omega
  · show win0_3.index t 1 * 512 + 1 * n.val = (0 + (t.val * 512 + n.val)) % 6656
    rw [h1]; omega

/-- The kept rows. -/
def rows (c : Dev nD) : FVec Ideal S1024x2048 .bf16 := fun y =>
  hAt (m ((c : Thread nD τ).loc main_arg0)) (m ((c : Thread nD τ).loc main_arg1)) (m ((c : Thread nD τ).loc main_arg2)) (y 0) (y 1)

theorem rows_eq (c : Dev nD) (t : Fin cfg0.N) : k0_pay1 (F := Ideal) (iblk m c 0 t) (iblk m c 1 t) (iblk m c 2 t) = rows m c := by
  funext y
  obtain ⟨r, k, rfl⟩ : ∃ (r : Fin 1024) (k : Fin 2048), y = ix2 r k := ⟨y 0, y 1, eq_ix2 y⟩
  refine (pay1_apply _ _ _ r k).trans ?_
  simp only [blk0, blk1, blk2]
  rfl

/-- After every point the scratch holds the rows. -/
theorem kept_at (c : Dev nD) : ∀ (n : ℕ) (hn : n < cfg0.N), (outsAt0 m c n hn).2 = rows m c := by
  intro n
  induction n with
  | zero =>
    intro hn
    have e := outsAt0_A m c ⟨0, hn⟩ (by show 0 % 13 = 0; rfl)
    dsimp only at e
    rw [e]
    dsimp only
    rw [kept_eq, rows_eq]
  | succ n ih =>
    intro hn
    have hN := NT ⟨n + 1, hn⟩
    have hN' : n + 1 < 13 := hN
    have e := outsAt0_B m c ⟨n + 1, hn⟩ (by show ¬(n + 1) % 13 = 0; omega)
    dsimp only at e
    rw [e]
    dsimp only
    unfold sout0_B_0
    exact ih (Nat.lt_of_succ_lt hn)

/-- The result array, from the arguments. -/
def G (c : Dev nD) : S1024x6656.Idx → EReal := fun i =>
  val (m ((c : Thread nD τ).loc main_arg0)) (m ((c : Thread nD τ).loc main_arg1)) (m ((c : Thread nD τ).loc main_arg2)) (m ((c : Thread nD τ).loc main_arg3)) (i 0) (i 1).val

/-- Every point's block. -/
theorem flushed_eq (c : Dev nD) (t : Fin cfg0.N) : (dats m 0 c).flushed 4 t = (win0_4.blk t).view.read (Elt Ideal) (G m c) := by
  obtain ⟨-, -, -, -, -, -, -, -, -, g0, g1, hj⟩ := where_all t
  have hN := NT t
  have key : (dats m 0 c).flushed 4 t = k0_pay2 (F := Ideal) (grid0.coords t) (rows m c) (iblk m c 3 t) := by
    by_cases h0 : t.val % 13 = 0
    · rw [Value.flushed4_A m c t h0]
      rw [outA_eq, rows_eq]
      rfl
    · rw [Value.flushed4_B m c t h0]
      rw [outB_eq, kept_at]
      rfl
  rw [key]
  funext i
  obtain ⟨r, n, rfl⟩ : ∃ (r : Fin 1024) (n : Fin 512), i = ix2 r n := ⟨i 0, i 1, eq_ix2 i⟩
  have e : ((win0_4.blk t).view.read (Elt Ideal) (G m c)) (ix2 r n) = G m c (ix2 r ⟨t.val * 512 + n.val, by omega⟩) := by
    refine congrArg (G m c) (Shape.idx_ext₂ ?_ ?_)
    · show win0_4.index t 0 * 1024 + 1 * r.val = r.val
      rw [g0]; omega
    · show win0_4.index t 1 * 512 + 1 * n.val = t.val * 512 + n.val
      rw [g1]; omega
  rw [e]
  refine (pay2_apply _ _ _ r n).trans ?_
  simp only [blk3]
  rw [hj]
  show _ = val _ _ _ _ r (t.val * 512 + n.val)
  unfold val
  refine congrArg₂ (· * ·) ?_ ?_
  · simp only [Nat.zero_add]
    rfl
  · by_cases hs : t.val < 2
    · rw [if_pos hs, if_pos (by omega)]
    · rw [if_neg hs, if_neg (by omega)]

/-- The blocks cover the result. -/
theorem cover (i : S1024x6656.Idx) : ∃ t : Fin cfg0.N, (cfg0.win 4).flush t = true ∧ i ∈ ((cfg0.win 4).blk t).view.set := by
  have hi0 : (i 0 : Nat) < 1024 := (i 0).isLt
  have hi1 : (i 1 : Nat) < 6656 := (i 1).isLt
  have hN : cfg0.N = 13 := by decide +kernel
  have hb : (i 1 : Nat) / 512 < cfg0.N := by omega
  refine ⟨⟨_, hb⟩, flush0_4 _, ?_⟩
  generalize ht : (⟨_, hb⟩ : Fin cfg0.N) = t
  have htv : t.val = (i 1 : Nat) / 512 := by rw [← ht]
  obtain ⟨-, -, -, -, -, -, -, -, -, h0, h1, -⟩ := where_all t
  show i ∈ ((View.whole main_v3).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [h0]; omega
  | ⟨1, _⟩ =>
    show win0_4.index t 1 * 512 ≤ (i 1 : Nat) ∧ (i 1 : Nat) < win0_4.index t 1 * 512 + 512
    rw [h1]; omega

/-- The result array after the run. -/
theorem final (c : Dev nD) : (dats m 0 c).arrAt 4 cfg0.N = G m c :=
  (dats m 0 c).arrAt_eq_of_cover 4 (G m c) (fun t _ => flushed_eq m c t) cover

end Cert.CtxK

end
-- ==== Proof.CtxLastValue.lean ====
/- The context's input projection of the last layer: what its kernel computes, and its result as one function of the arguments. -/
module

public import proofs.«01_k».proof.Proof.CtxMath
public import proofs.«01_k».proof.Proof.Gen.CtxLastIdeal.Value
public import Idealize.ShloMosaic.Lib.Claim
public import Idealize.ShloMosaic.Lib.IdealHost

@[expose] public section

noncomputable section

namespace Cert.CtxLK

open Cert.CtxLastIdeal Cert.CtxLastIdeal.Gen Idealize.ShloMosaic Idealize.ShloMosaic.ValueIdx Idealize.ShloMosaic.TcCoe Cert.Reads Cert.Ctx Idealize.SL.Sem
open scoped BigOperators

/-- The kept rows at an entry. -/
theorem pay1_apply (v15 : FVec Ideal S1024x2048 .f32) (v21 : FVec Ideal S1x1x6144 .f32) (v30 : FVec Ideal S1x2048 .f32) (r : Fin 1024) (c : Fin 2048) :
    k0_pay1 (F := Ideal) v15 v21 v30 (ix2 r c)
      = InK.hrow (fun k => v15 (ix2 r k)) (fun k => v30 (ix2 0 k)) (fun k => v21 (ix3 0 0 ⟨2048 + k.val, by omega⟩)) (fun k => v21 (ix3 0 0 ⟨k.val, by omega⟩)) c :=
  InK.pay1_apply v15 v21 v30 r c

/-- The factor of every point is one: no column block is the queries'. -/
theorem factor_eq (i : grid0.Coords) : Scalar.select (Scalar.cmpi .slt (BitVec.ofNat 32 (i 1).val) 0#32) (Ideal.ofBits .f32 0x3E000000#32) (Ideal.ofBits .f32 0x3F800000#32) = 1 := by
  have h : ∀ j : Fin 4, Scalar.cmpi .slt (BitVec.ofNat 32 j.val) 0#32 = 0#1 := by decide +kernel
  rw [h (i 1), Ideal.ofBits_one_f32]
  exact select_zero _ _

/-- The product of the kept rows with a block of the weight, times the point's factor. -/
theorem pay2_apply (i : grid0.Coords) (v3 : FVec Ideal S1024x2048 .bf16) (v4 : FVec Ideal S2048x512 .bf16) (r : Fin 1024) (c : Fin 512) :
    k0_pay2 (F := Ideal) i v3 v4 (ix2 r c) = (∑ k : Fin 2048, v3 (ix2 r k) * v4 (ix2 k c)) * 1 := by
  unfold k0_pay2
  simp only [shapeCast_self]
  rw [truncf_apply, mulf_apply, broadcast_apply]
  exact congrArg₂ (· * ·) (dot2 none v3 v4 r c) (factor_eq i)

/-- The one piece the first point keeps. -/
theorem kept_pieces (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    (kernelRun0_A (F := Ideal) c i arg2 harg2 arg3 harg3 arg4 harg4 arg5 harg5 arg6 harg6 arg7 harg7 hc0 x0 x1 x2 x3).2.1
      = [⟨Rect.unit (s := S1024x2048) ![0, 0] S1024x2048.size inb_S1024x2048_S1024x2048_0_0, k0_pay1 (F := Ideal) x0 x1 x2⟩] := by
  have h0 : View.ld (Val := Elt Ideal) (e' := .f32) (arg2.view.read (Elt Ideal) (harg2.unread x0)) (Rect.unit (s := S1024x2048) ![0, 0] S1024x2048.size inb_S1024x2048_S1024x2048_0_0) = x0 := by
    rw [harg2.read_unread x0]
    exact View.ld_unit_zero (funext fun a => by fin_cases a <;> rfl) _ _
  have h1 : View.ld (Val := Elt Ideal) (e' := .f32) (arg3.view.read (Elt Ideal) (harg3.unread x1)) (Rect.unit (s := S1x1x6144) ![0, 0, 0] S1x1x6144.size inb_S1x1x6144_S1x1x6144_0_0_0) = x1 := by
    rw [harg3.read_unread x1]
    exact View.ld_unit_zero (funext fun a => by fin_cases a <;> rfl) _ _
  have h2 : View.ld (Val := Elt Ideal) (e' := .f32) (arg4.view.read (Elt Ideal) (harg4.unread x2)) (Rect.unit (s := S1x2048) ![0, 0] S1x2048.size inb_S1x2048_S1x2048_0_0) = x2 := by
    rw [harg4.read_unread x2]
    exact View.ld_unit_zero (funext fun a => by fin_cases a <;> rfl) _ _
  conv_rhs => rw [← h0, ← h1, ← h2]
  rfl

/-- The rows the first point keeps. -/
theorem kept_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    sout0_A_0 (F := Ideal) c i arg2 harg2 arg3 harg3 arg4 harg4 arg5 harg5 arg6 harg6 arg7 harg7 hc0 x0 x1 x2 x3 = k0_pay1 (F := Ideal) x0 x1 x2 := by
  funext y
  unfold sout0_A_0
  refine View.read_writes_apply_of_pieces _ _ (k0_pay1 (F := Ideal) x0 x1 x2) _ ?_ y (scover0_A_0 c i arg2 harg2 arg3 harg3 arg4 harg4 arg5 harg5 arg6 harg6 arg7 harg7 hc0 x0 x1 x2 x3 y)
  rw [kept_pieces]
  intro p hp x
  obtain rfl := List.mem_singleton.mp hp
  refine congrArg (k0_pay1 (F := Ideal) x0 x1 x2) (funext fun a => Fin.ext ?_)
  match a with
  | ⟨0, _⟩ => show (x 0 : ℕ) = 0 + 1 * (x 0 : ℕ); omega
  | ⟨1, _⟩ => show (x 1 : ℕ) = 0 + 1 * (x 1 : ℕ); omega

/-- A whole store's piece lies where its payload has it. -/
theorem whole_block (v : FVec Ideal S1024x512 .bf16) :
    ∀ p ∈ ([⟨Rect.unit (s := S1024x512) ![0, 0] S1024x512.size inb_S1024x512_S1024x512_0_0, v⟩] : List (View.Piece (Elt Ideal) S1024x512 .bf16)), ∀ x, p.2 x = v (p.1.emb x) := by
  intro p hp x
  obtain rfl := List.mem_singleton.mp hp
  refine congrArg v (funext fun a => Fin.ext ?_)
  match a with
  | ⟨0, _⟩ => show (x 0 : ℕ) = 0 + 1 * (x 0 : ℕ); omega
  | ⟨1, _⟩ => show (x 1 : ℕ) = 0 + 1 * (x 1 : ℕ); omega

/-- The store of the first point. -/
theorem piecesA (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    (kernelRun0_A (F := Ideal) c i arg2 harg2 arg3 harg3 arg4 harg4 arg5 harg5 arg6 harg6 arg7 harg7 hc0 x0 x1 x2 x3).1
      = [⟨Rect.unit (s := S1024x512) ![0, 0] S1024x512.size inb_S1024x512_S1024x512_0_0, k0_pay2 (F := Ideal) i (k0_pay1 (F := Ideal) x0 x1 x2) x3⟩] := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have hs : View.ld (Val := Elt Ideal) (e' := .bf16) (arg7.view.read (Elt Ideal) (arg7.view.writes (Elt Ideal) arg7.view.junk (kernelRun0_A (F := Ideal) c i arg2 harg2 arg3 harg3 arg4 harg4 arg5 harg5 arg6 harg6 arg7 harg7 hc0 x0 x1 x2 x3).2.1)) (Rect.unit (s := S1024x2048) ![0, 0] S1024x2048.size inb_S1024x2048_S1024x2048_0_0) = k0_pay1 (F := Ideal) x0 x1 x2 := by
    rw [harg7.read_writes_junk (Memref.isWhole_whole cc0_scratch0)]
    refine (View.ld_unit_zero (funext fun a => by fin_cases a <;> rfl) _ _).trans ?_
    exact kept_eq c i arg2 harg2 arg3 harg3 arg4 harg4 arg5 harg5 arg6 harg6 arg7 harg7 hc0 x0 x1 x2 x3
  conv_rhs => rw [← hs, ← h3]
  rfl

/-- What the first point writes: computed with the rows it has just kept. -/
theorem outA_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : cond0_0 i) (x0 : Vec Ideal S1024x2048 .f32) (x1 : Vec Ideal S1x1x6144 .f32) (x2 : Vec Ideal S1x2048 .f32) (x3 : Vec Ideal S2048x512 .bf16) :
    out0_A_4 (F := Ideal) c i arg2 harg2 arg3 harg3 arg4 harg4 arg5 harg5 arg6 harg6 arg7 harg7 hc0 x0 x1 x2 x3 = k0_pay2 (F := Ideal) i (k0_pay1 (F := Ideal) x0 x1 x2) x3 := by
  funext y
  unfold out0_A_4
  refine View.read_writes_apply_of_pieces _ _ (k0_pay2 (F := Ideal) i (k0_pay1 (F := Ideal) x0 x1 x2) x3) _ ?_ y (cover0_A_4 c i arg2 harg2 arg3 harg3 arg4 harg4 arg5 harg5 arg6 harg6 arg7 harg7 hc0 x0 x1 x2 x3 y)
  rw [piecesA]
  exact whole_block _

/-- The store of another point. -/
theorem piecesB (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : ¬cond0_0 i) (x0 : Vec Ideal S1024x2048 .f32) (x1 : Vec Ideal S1x1x6144 .f32) (x2 : Vec Ideal S1x2048 .f32) (x3 : Vec Ideal S2048x512 .bf16) (xs0 : Vec Ideal S1024x2048 .bf16) :
    (kernelRun0_B (F := Ideal) c i arg2 harg2 arg3 harg3 arg4 harg4 arg5 harg5 arg6 harg6 arg7 harg7 hc0 x0 x1 x2 x3 xs0).1
      = [⟨Rect.unit (s := S1024x512) ![0, 0] S1024x512.size inb_S1024x512_S1024x512_0_0, k0_pay2 (F := Ideal) i xs0 x3⟩] := by
  have h3 : View.ld (Val := Elt Ideal) (e' := .bf16) (arg5.view.read (Elt Ideal) (harg5.unread x3)) (Rect.unit (s := S2048x512) ![0, 0] S2048x512.size inb_S2048x512_S2048x512_0_0) = x3 := by
    rw [harg5.read_unread x3]
    exact View.ld_unit_zero (funext fun a => by fin_cases a <;> rfl) _ _
  have hs : View.ld (Val := Elt Ideal) (e' := .bf16) (arg7.view.read (Elt Ideal) (harg7.unread xs0)) (Rect.unit (s := S1024x2048) ![0, 0] S1024x2048.size inb_S1024x2048_S1024x2048_0_0) = xs0 := by
    rw [harg7.read_unread xs0]
    exact View.ld_unit_zero (funext fun a => by fin_cases a <;> rfl) _ _
  conv_rhs => rw [← hs, ← h3]
  rfl

/-- What another point writes: computed with the rows kept before. -/
theorem outB_eq (c : Dev nD) (i : grid0.Coords) (arg2 : Memref sig .tc .vmem S1024x2048 .f32) (harg2 : arg2.IsWhole) (arg3 : Memref sig .tc .vmem S1x1x6144 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S1024x2048 .bf16) (harg7 : arg7.IsWhole) (hc0 : ¬cond0_0 i) (x0 : Vec Ideal S1024x2048 .f32) (x1 : Vec Ideal S1x1x6144 .f32) (x2 : Vec Ideal S1x2048 .f32) (x3 : Vec Ideal S2048x512 .bf16) (xs0 : Vec Ideal S1024x2048 .bf16) :
    out0_B_4 (F := Ideal) c i arg2 harg2 arg3 harg3 arg4 harg4 arg5 harg5 arg6 harg6 arg7 harg7 hc0 x0 x1 x2 x3 xs0 = k0_pay2 (F := Ideal) i xs0 x3 := by
  funext y
  unfold out0_B_4
  refine View.read_writes_apply_of_pieces _ _ (k0_pay2 (F := Ideal) i xs0 x3) _ ?_ y (cover0_B_4 c i arg2 harg2 arg3 harg3 arg4 harg4 arg5 harg5 arg6 harg6 arg7 harg7 hc0 x0 x1 x2 x3 xs0 y)
  rw [piecesB]
  exact whole_block _

variable (m : (ℓ : Loc nD τ sig) → Buf (Elt Ideal) ℓ)

/-- The modulation, its rows apart. -/
theorem V0 (c : Dev nD) : (V m c main_v0 : FVec Ideal S8x1x6144 .f32) = shapeCast S8x1x6144 (m ((c : Thread nD τ).loc main_arg1) : S8x6144.Idx → EReal) shapeCasts_S8x6144_S8x1x6144 := by
  show StableHlo.after hostOps0 _ _ = _
  after_results
  rfl

/-- The norm's scale as a row. -/
theorem V1 (c : Dev nD) : (V m c main_v1 : FVec Ideal S1x2048 .f32) = shapeCast S1x2048 (m ((c : Thread nD τ).loc main_arg2) : S2048.Idx → EReal) shapeCasts_S2048_S1x2048 := by
  show StableHlo.after hostOps0 _ _ = _
  after_results
  rfl

/-- The weight, cast. -/
theorem V2 (c : Dev nD) : V m c main_v2 = (m ((c : Thread nD τ).loc main_arg3) : S2048x6656.Idx → EReal) := by
  show StableHlo.after hostOps0 _ _ = _
  after_results
  rfl

/-- Where the windows' blocks stand at point `t`. -/
theorem where_all : ∀ t : Fin grid0.N,
    win0_0.index t 0 = 0 ∧ win0_0.index t 1 = 0 ∧ win0_1.index t 0 = 4 ∧ win0_1.index t 1 = 0 ∧ win0_1.index t 2 = 0
    ∧ win0_2.index t 0 = 0 ∧ win0_2.index t 1 = 0 ∧ win0_3.index t 0 = 0 ∧ win0_3.index t 1 = 2 + t.val
    ∧ win0_4.index t 0 = 0 ∧ win0_4.index t 1 = t.val ∧ (grid0.coords t 1).val = t.val := by decide +kernel

theorem NT (t : Fin cfg0.N) : t.val < 4 := t.isLt

theorem blk0 (c : Dev nD) (t : Fin cfg0.N) (r : Fin 1024) (k : Fin 2048) :
    (iblk m c 0 t : S1024x2048.Idx → EReal) (ix2 r k) = (m ((c : Thread nD τ).loc main_arg0) : S1024x2048.Idx → EReal) (ix2 r k) := by
  obtain ⟨h0, h1, -⟩ := where_all t
  show (V m c main_arg0 : S1024x2048.Idx → EReal) _ = _
  rw [V_main_arg0]
  refine congrArg _ (Shape.idx_ext₂ ?_ ?_)
  · show win0_0.index t 0 * 1024 + 1 * r.val = r.val
    rw [h0]; omega
  · show win0_0.index t 1 * 2048 + 1 * k.val = k.val
    rw [h1]; omega

theorem blk1 (c : Dev nD) (t : Fin cfg0.N) (k : Fin 6144) :
    (iblk m c 1 t : S1x1x6144.Idx → EReal) (ix3 0 0 k) = (m ((c : Thread nD τ).loc main_arg1) : S8x6144.Idx → EReal) (ix2 4 k) := by
  obtain ⟨-, -, h0, h1, h2, -⟩ := where_all t
  show (V m c main_v0 : FVec Ideal S8x1x6144 .f32) _ = _
  rw [V0]
  refine Eq.trans ?_ (castGroup _ shapeCasts_S8x6144_S8x1x6144 4 0 k 4 (by decide))
  refine congrArg _ (funext fun a => Fin.ext ?_)
  match a with
  | ⟨0, _⟩ => show win0_1.index t 0 * 1 + 1 * 0 = 4; rw [h0]
  | ⟨1, _⟩ => show win0_1.index t 1 * 1 + 1 * 0 = 0; rw [h1]
  | ⟨2, _⟩ => show win0_1.index t 2 * 6144 + 1 * k.val = k.val; rw [h2]; omega

theorem blk2 (c : Dev nD) (t : Fin cfg0.N) (k : Fin 2048) :
    (iblk m c 2 t : S1x2048.Idx → EReal) (ix2 0 k) = (m ((c : Thread nD τ).loc main_arg2) : S2048.Idx → EReal) (ix1 k) := by
  obtain ⟨-, -, -, -, -, h0, h1, -⟩ := where_all t
  show (V m c main_v1 : FVec Ideal S1x2048 .f32) _ = _
  rw [V1]
  refine Eq.trans ?_ (castRow _ shapeCasts_S2048_S1x2048 k)
  refine congrArg _ (Shape.idx_ext₂ ?_ ?_)
  · show win0_2.index t 0 * 1 + 1 * 0 = 0
    rw [h0]
  · show win0_2.index t 1 * 2048 + 1 * k.val = k.val
    rw [h1]; omega

theorem blk3 (c : Dev nD) (t : Fin cfg0.N) (k : Fin 2048) (n : Fin 512) :
    (iblk m c 3 t : S2048x512.Idx → EReal) (ix2 k n) = (m ((c : Thread nD τ).loc main_arg3) : S2048x6656.Idx → EReal) (ix2 k ⟨(1024 + (t.val * 512 + n.val)) % 6656, by omega⟩) := by
  obtain ⟨-, -, -, -, -, -, -, h0, h1, -⟩ := where_all t
  have hN := NT t
  show (V m c main_v2 : S2048x6656.Idx → EReal) _ = _
  rw [V2]
  refine congrArg _ (Shape.idx_ext₂ ?_ ?_)
  · show win0_3.index t 0 * 2048 + 1 * k.val = k.val
    rw [h0]; omega
  · show win0_3.index t 1 * 512 + 1 * n.val = (1024 + (t.val * 512 + n.val)) % 6656
    rw [h1]; omega

/-- The kept rows. -/
def rows (c : Dev nD) : FVec Ideal S1024x2048 .bf16 := fun y =>
  hAt (m ((c : Thread nD τ).loc main_arg0)) (m ((c : Thread nD τ).loc main_arg1)) (m ((c : Thread nD τ).loc main_arg2)) (y 0) (y 1)

theorem rows_eq (c : Dev nD) (t : Fin cfg0.N) : k0_pay1 (F := Ideal) (iblk m c 0 t) (iblk m c 1 t) (iblk m c 2 t) = rows m c := by
  funext y
  obtain ⟨r, k, rfl⟩ : ∃ (r : Fin 1024) (k : Fin 2048), y = ix2 r k := ⟨y 0, y 1, eq_ix2 y⟩
  refine (pay1_apply _ _ _ r k).trans ?_
  simp only [blk0, blk1, blk2]
  rfl

/-- After every point the scratch holds the rows. -/
theorem kept_at (c : Dev nD) : ∀ (n : ℕ) (hn : n < cfg0.N), (outsAt0 m c n hn).2 = rows m c := by
  intro n
  induction n with
  | zero =>
    intro hn
    have e := outsAt0_A m c ⟨0, hn⟩ (by show 0 % 4 = 0; rfl)
    dsimp only at e
    rw [e]
    dsimp only
    rw [kept_eq, rows_eq]
  | succ n ih =>
    intro hn
    have hN := NT ⟨n + 1, hn⟩
    have hN' : n + 1 < 4 := hN
    have e := outsAt0_B m c ⟨n + 1, hn⟩ (by show ¬(n + 1) % 4 = 0; omega)
    dsimp only at e
    rw [e]
    dsimp only
    unfold sout0_B_0
    exact ih (Nat.lt_of_succ_lt hn)

/-- The result array, from the arguments. -/
def G (c : Dev nD) : S1024x2048.Idx → EReal := fun i =>
  valLast (m ((c : Thread nD τ).loc main_arg0)) (m ((c : Thread nD τ).loc main_arg1)) (m ((c : Thread nD τ).loc main_arg2)) (m ((c : Thread nD τ).loc main_arg3)) (i 0) (i 1).val

/-- Every point's block. -/
theorem flushed_eq (c : Dev nD) (t : Fin cfg0.N) : (dats m 0 c).flushed 4 t = (win0_4.blk t).view.read (Elt Ideal) (G m c) := by
  obtain ⟨-, -, -, -, -, -, -, -, -, g0, g1, hj⟩ := where_all t
  have hN := NT t
  have key : (dats m 0 c).flushed 4 t = k0_pay2 (F := Ideal) (grid0.coords t) (rows m c) (iblk m c 3 t) := by
    by_cases h0 : t.val % 4 = 0
    · rw [Value.flushed4_A m c t h0]
      rw [outA_eq, rows_eq]
      rfl
    · rw [Value.flushed4_B m c t h0]
      rw [outB_eq, kept_at]
      rfl
  rw [key]
  funext i
  obtain ⟨r, n, rfl⟩ : ∃ (r : Fin 1024) (n : Fin 512), i = ix2 r n := ⟨i 0, i 1, eq_ix2 i⟩
  have e : ((win0_4.blk t).view.read (Elt Ideal) (G m c)) (ix2 r n) = G m c (ix2 r ⟨t.val * 512 + n.val, by omega⟩) := by
    refine congrArg (G m c) (Shape.idx_ext₂ ?_ ?_)
    · show win0_4.index t 0 * 1024 + 1 * r.val = r.val
      rw [g0]; omega
    · show win0_4.index t 1 * 512 + 1 * n.val = t.val * 512 + n.val
      rw [g1]; omega
  rw [e]
  refine (pay2_apply _ _ _ r n).trans ?_
  simp only [blk3]
  rw [mul_one]
  rfl

/-- The blocks cover the result. -/
theorem cover (i : S1024x2048.Idx) : ∃ t : Fin cfg0.N, (cfg0.win 4).flush t = true ∧ i ∈ ((cfg0.win 4).blk t).view.set := by
  have hi0 : (i 0 : Nat) < 1024 := (i 0).isLt
  have hi1 : (i 1 : Nat) < 2048 := (i 1).isLt
  have hN : cfg0.N = 4 := by decide +kernel
  have hb : (i 1 : Nat) / 512 < cfg0.N := by omega
  refine ⟨⟨_, hb⟩, flush0_4 _, ?_⟩
  generalize ht : (⟨_, hb⟩ : Fin cfg0.N) = t
  have htv : t.val = (i 1 : Nat) / 512 := by rw [← ht]
  obtain ⟨-, -, -, -, -, -, -, -, -, h0, h1, -⟩ := where_all t
  show i ∈ ((View.whole main_v3).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [h0]; omega
  | ⟨1, _⟩ =>
    show win0_4.index t 1 * 512 ≤ (i 1 : Nat) ∧ (i 1 : Nat) < win0_4.index t 1 * 512 + 512
    rw [h1]; omega

/-- The result array after the run. -/
theorem final (c : Dev nD) : (dats m 0 c).arrAt 4 cfg0.N = G m c :=
  (dats m 0 c).arrAt_eq_of_cover 4 (G m c) (fun t _ => flushed_eq m c t) cover

end Cert.CtxLK

end
-- ==== Proof.CtxAlgebraic.lean ====
/- The context's input projections: kernel and reference leave the same result. -/
module

public import proofs.«01_k».proof.Defs
public import proofs.«01_k».proof.Proof.CtxRef
public import proofs.«01_k».proof.Proof.CtxValue
public import proofs.«01_k».proof.Proof.CtxLastValue

@[expose] public section

noncomputable section

namespace Cert.CtxAlgebraic

open Idealize.ShloMosaic Idealize.SL.Sem

/-- In the first layer: from equal arguments kernel and reference end with equal results, for all arguments. -/
theorem algebraic : Cert.algebraic_CtxInIdeal_CtxInRefIdeal (hCtxInIdeal := Cert.CtxInIdeal.Gen.facts)
    (hCtxInRefIdeal := Cert.CtxInRefIdeal.Gen.facts) := by
  intro m g m' g' _ hargs
  refine ⟨fun c => CtxK.G m c, ?_, ?_⟩
  · refine (θ_run (Cert.CtxInIdeal.defs (F := Ideal)) _ _).mono (fun r h c => ?_) (Cert.CtxInIdeal.Value.run_blocks (F := Ideal) m g)
    exact ⟨(h c).1.trans (CtxK.final m c), (h c).2⟩
  · refine (θ_run (Cert.CtxInRefIdeal.defs (F := Ideal)) _ _).mono (fun r h c => ?_) (Cert.CtxInRefIdeal.Value.run (F := Ideal) m' g')
    obtain ⟨hv, hrest⟩ := h c
    refine ⟨hv.trans ?_, hrest⟩
    obtain ⟨h0, h1, h2, h3⟩ := hargs c
    rw [h0, h1, h2, h3]
    exact Ctx.out_eq _ _ _ _

/-- In the last layer: from equal arguments kernel and reference end with equal results, for all arguments. -/
theorem algebraicLast : Cert.algebraic_CtxLastIdeal_CtxLastRefIdeal (hCtxLastIdeal := Cert.CtxLastIdeal.Gen.facts)
    (hCtxLastRefIdeal := Cert.CtxLastRefIdeal.Gen.facts) := by
  intro m g m' g' _ hargs
  refine ⟨fun c => CtxLK.G m c, ?_, ?_⟩
  · refine (θ_run (Cert.CtxLastIdeal.defs (F := Ideal)) _ _).mono (fun r h c => ?_) (Cert.CtxLastIdeal.Value.run_blocks (F := Ideal) m g)
    exact ⟨(h c).1.trans (CtxLK.final m c), (h c).2⟩
  · refine (θ_run (Cert.CtxLastRefIdeal.defs (F := Ideal)) _ _).mono (fun r h c => ?_) (Cert.CtxLastRefIdeal.Value.run (F := Ideal) m' g')
    obtain ⟨hv, hrest⟩ := h c
    refine ⟨hv.trans ?_, hrest⟩
    obtain ⟨h0, h1, h2, h3⟩ := hargs c
    rw [h0, h1, h2, h3]
    exact Ctx.outLast_eq _ _ _ _

end Cert.CtxAlgebraic

end
-- ==== Proof.OutMidValue.lean ====
/- The first layer's output projection of the latent tokens: its result as one function of the arguments. -/
module

public import proofs.«01_k».proof.Proof.OutValue
public import proofs.«01_k».proof.Proof.Gen.OutMidIdeal.Value
public import Idealize.ShloMosaic.Lib.Claim

@[expose] public section

noncomputable section

namespace Cert.OutMK

open Cert.OutMidIdeal Cert.OutMidIdeal.Gen Idealize.ShloMosaic Idealize.ShloMosaic.ValueIdx Idealize.ShloMosaic.TcCoe Cert.Reads Idealize.SL.Sem
open scoped BigOperators

/-- The stored payload at an entry. -/
theorem pay_apply (v0 : FVec Ideal S512x1024 .bf16) (v1 : FVec Ideal S1024x2048 .bf16) (v4 : FVec Ideal S512x512 .bf16) (v5 : FVec Ideal S512x2048 .bf16) (v9 : FVec Ideal S512x512 .bf16) (v10 : FVec Ideal S512x2048 .bf16) (v14 : FVec Ideal S1x1x6144 .f32) (v17 : FVec Ideal S512x2048 .f32)
    (r : Fin 512) (c : Fin 2048) (w : Fin 2048 → Fin 2048 → EReal)
    (h1 : ∀ (k : Fin 1024) c, v1 (ix2 k c) = w ⟨k.val, by omega⟩ c)
    (h5 : ∀ (k : Fin 512) c, v5 (ix2 k c) = w ⟨1024 + k.val, by omega⟩ c)
    (h10 : ∀ (k : Fin 512) c, v10 (ix2 k c) = w ⟨1536 + k.val, by omega⟩ c) :
    k0_pay1 (F := Ideal) v0 v1 v4 v5 v9 v10 v14 v17 (ix2 r c)
      = OutK.resid (fun k => v0 (ix2 r k)) (fun k => v4 (ix2 r k)) (fun k => v9 (ix2 r k)) w (fun k => v17 (ix2 r k)) (fun k => v14 (ix3 0 0 ⟨4096 + k.val, by omega⟩)) c := by
  have e1 := dot2 none v0 v1 r c
  have e2 := dot2 none v4 v5 r c
  have e3 := dot2 none v9 v10 r c
  simp only [h1, h5, h10] at e1 e2 e3
  unfold k0_pay1
  simp only [shapeCast_self]
  rw [addf_apply, mulf_apply, bcRow, slice2 _ _ 0 c 0 ⟨4096 + c.val, by omega⟩ rfl rfl, castDrop, addf_apply, addf_apply]
  unfold OutK.resid
  exact congrArg (fun z => v17 (ix2 r c) + v14 (ix3 0 0 ⟨4096 + c.val, by omega⟩) * z) (congrArg₂ (· + ·) (congrArg₂ (· + ·) e1 e2) e3)

/-- The result at row `r`, column `c`, from the whole arguments. -/
def outAt (ya : S8192x1024.Idx → EReal) (yp yc : S8192x512.Idx → EReal) (w : S2048x2048.Idx → EReal) (x : S8192x2048.Idx → EReal)
    (md : S8x6144.Idx → EReal) (r : Fin 8192) (c : Fin 2048) : EReal :=
  OutK.resid (fun k => ya (ix2 r k)) (fun k => yp (ix2 r k)) (fun k => yc (ix2 r k)) (fun k c => w (ix2 k c)) (fun k => x (ix2 r k))
    (fun k => md (ix2 ⟨r.val / 2048, by omega⟩ ⟨4096 + k.val, by omega⟩)) c

variable (m : (ℓ : Loc nD τ sig) → Buf (Elt Ideal) ℓ)

/-- The weights reach the launch as they are. -/
theorem V1 (c : Dev nD) : V m c main_v1 = (m ((c : Thread nD τ).loc main_arg3) : S2048x2048.Idx → EReal) := by
  show StableHlo.after hostOps0 _ _ = _
  after_results
  rfl

/-- The modulation reaches the launch with an axis of extent one inserted. -/
theorem V0 (c : Dev nD) (b : Fin 8) (k : Fin 6144) : (V m c main_v0 : S8x1x6144.Idx → EReal) (ix3 b 0 k) = (m ((c : Thread nD τ).loc main_arg5) : S8x6144.Idx → EReal) (ix2 b k) := by
  have e : V m c main_v0 = shapeCast S8x1x6144 (m ((c : Thread nD τ).loc main_arg5) : S8x6144.Idx → EReal) shapeCasts_S8x6144_S8x1x6144 := by
    show StableHlo.after hostOps0 _ _ = _
    after_results
    rfl
  rw [e]
  exact castGroup _ _ b 0 k b (by simp)

/-- Where the windows' blocks stand: point `t` has block row `t`, the modulation's row `t / 4`, the others' block 0. -/
theorem where_all : ∀ t : Fin grid0.N,
    win0_0.index t 0 = t.val ∧ win0_0.index t 1 = 0 ∧ win0_1.index t 0 = t.val ∧ win0_1.index t 1 = 0 ∧ win0_2.index t 0 = t.val ∧ win0_2.index t 1 = 0
    ∧ win0_3.index t 0 = 0 ∧ win0_3.index t 1 = 0 ∧ win0_4.index t 0 = t.val ∧ win0_4.index t 1 = 0
    ∧ win0_5.index t 0 = t.val / 4 ∧ win0_5.index t 1 = 0 ∧ win0_5.index t 2 = 0
    ∧ win0_6.index t 0 = t.val ∧ win0_6.index t 1 = 0 := by decide +kernel

theorem N16 (t : Fin cfg0.N) : t.val < 16 := t.isLt

/-- The row of the arrays that row `r` of point `t`'s block is. -/
abbrev row (t : Fin cfg0.N) (r : Fin 512) : Fin 8192 := ⟨t.val * 512 + r.val, by have := N16 t; omega⟩

/-- A row block's entry: the same column of the array's row. -/
theorem blk0 (c : Dev nD) (t : Fin cfg0.N) (r : Fin 512) (k : Fin 1024) :
    (iblk m c 0 t : S512x1024.Idx → EReal) (ix2 r k) = (m ((c : Thread nD τ).loc main_arg0) : S8192x1024.Idx → EReal) (ix2 (row t r) k) := by
  obtain ⟨h0, h1, -⟩ := where_all t
  show (V m c main_arg0 : S8192x1024.Idx → EReal) _ = _
  rw [V_main_arg0]
  refine congrArg _ (Shape.idx_ext₂ ?_ ?_)
  · show win0_0.index t 0 * 512 + 1 * r.val = t.val * 512 + r.val
    rw [h0]; omega
  · show win0_0.index t 1 * 1024 + 1 * k.val = k.val
    rw [h1]; omega

theorem blk1 (c : Dev nD) (t : Fin cfg0.N) (r k : Fin 512) :
    (iblk m c 1 t : S512x512.Idx → EReal) (ix2 r k) = (m ((c : Thread nD τ).loc main_arg1) : S8192x512.Idx → EReal) (ix2 (row t r) k) := by
  obtain ⟨-, -, h0, h1, -⟩ := where_all t
  show (V m c main_arg1 : S8192x512.Idx → EReal) _ = _
  rw [V_main_arg1]
  refine congrArg _ (Shape.idx_ext₂ ?_ ?_)
  · show win0_1.index t 0 * 512 + 1 * r.val = t.val * 512 + r.val
    rw [h0]; omega
  · show win0_1.index t 1 * 512 + 1 * k.val = k.val
    rw [h1]; omega

theorem blk2 (c : Dev nD) (t : Fin cfg0.N) (r k : Fin 512) :
    (iblk m c 2 t : S512x512.Idx → EReal) (ix2 r k) = (m ((c : Thread nD τ).loc main_arg2) : S8192x512.Idx → EReal) (ix2 (row t r) k) := by
  obtain ⟨-, -, -, -, h0, h1, -⟩ := where_all t
  show (V m c main_arg2 : S8192x512.Idx → EReal) _ = _
  rw [V_main_arg2]
  refine congrArg _ (Shape.idx_ext₂ ?_ ?_)
  · show win0_2.index t 0 * 512 + 1 * r.val = t.val * 512 + r.val
    rw [h0]; omega
  · show win0_2.index t 1 * 512 + 1 * k.val = k.val
    rw [h1]; omega

/-- The weights' one block is the whole matrix. -/
theorem blk3 (c : Dev nD) (t : Fin cfg0.N) (r k : Fin 2048) :
    (iblk m c 3 t : S2048x2048.Idx → EReal) (ix2 r k) = (m ((c : Thread nD τ).loc main_arg3) : S2048x2048.Idx → EReal) (ix2 r k) := by
  obtain ⟨-, -, -, -, -, -, h0, h1, -⟩ := where_all t
  show (V m c main_v1 : S2048x2048.Idx → EReal) _ = _
  rw [V1]
  refine congrArg _ (Shape.idx_ext₂ ?_ ?_)
  · show win0_3.index t 0 * 2048 + 1 * r.val = r.val
    rw [h0]; omega
  · show win0_3.index t 1 * 2048 + 1 * k.val = k.val
    rw [h1]; omega

theorem blk4 (c : Dev nD) (t : Fin cfg0.N) (r : Fin 512) (k : Fin 2048) :
    (iblk m c 4 t : S512x2048.Idx → EReal) (ix2 r k) = (m ((c : Thread nD τ).loc main_arg4) : S8192x2048.Idx → EReal) (ix2 (row t r) k) := by
  obtain ⟨-, -, -, -, -, -, -, -, h0, h1, -⟩ := where_all t
  show (V m c main_arg4 : S8192x2048.Idx → EReal) _ = _
  rw [V_main_arg4]
  refine congrArg _ (Shape.idx_ext₂ ?_ ?_)
  · show win0_4.index t 0 * 512 + 1 * r.val = t.val * 512 + r.val
    rw [h0]; omega
  · show win0_4.index t 1 * 2048 + 1 * k.val = k.val
    rw [h1]; omega

/-- The modulation's block is the row of the point's batch. -/
theorem blk5 (c : Dev nD) (t : Fin cfg0.N) (k : Fin 6144) :
    (iblk m c 5 t : S1x1x6144.Idx → EReal) (ix3 0 0 k) = (m ((c : Thread nD τ).loc main_arg5) : S8x6144.Idx → EReal) (ix2 ⟨t.val / 4, by have := N16 t; omega⟩ k) := by
  obtain ⟨-, -, -, -, -, -, -, -, -, -, h0, h1, h2, -⟩ := where_all t
  show (V m c main_v0 : S8x1x6144.Idx → EReal) _ = _
  rw [← V0 m c]
  refine congrArg _ (funext fun a => Fin.ext ?_)
  match a with
  | ⟨0, _⟩ => show win0_5.index t 0 * 1 + 1 * 0 = t.val / 4; rw [h0]; omega
  | ⟨1, _⟩ => show win0_5.index t 1 * 1 + 1 * 0 = 0; rw [h1]
  | ⟨2, _⟩ => show win0_5.index t 2 * 6144 + 1 * k.val = k.val; rw [h2]; omega

/-- The result array, from the arguments. -/
def G (c : Dev nD) : S8192x2048.Idx → EReal := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

/-- What point `t` writes back is block `t` of the result. -/
theorem flushed_eq (c : Dev nD) (t : Fin cfg0.N) : (dats m 0 c).flushed 6 t = (win0_6.blk t).view.read (Elt Ideal) (G m c) := by
  rw [Value.flushed6]
  unfold out0_6
  rw [View.canon_unit_zero OutK.hz2]
  rw [View.ld_unit_zero OutK.hz2, View.ld_unit_zero OutK.hz2, View.ld_unit_zero OutK.hz2, View.ld_unit_zero OutK.hz3, View.ld_unit_zero OutK.hz2]
  funext i
  obtain ⟨-, -, -, -, -, -, -, -, -, -, -, -, -, h0, h1⟩ := where_all t
  have hN := N16 t
  obtain ⟨r, k, rfl⟩ : ∃ (r : Fin 512) (k : Fin 2048), i = ix2 r k := ⟨i 0, i 1, eq_ix2 i⟩
  have er : ((win0_6.blk t).view.read (Elt Ideal) (G m c)) (ix2 r k) = G m c (ix2 (row t r) k) := by
    refine congrArg (G m c) (Shape.idx_ext₂ ?_ ?_)
    · show win0_6.index t 0 * 512 + 1 * r.val = t.val * 512 + r.val
      rw [h0]; omega
    · show win0_6.index t 1 * 2048 + 1 * k.val = k.val
      rw [h1]; omega
  rw [er]
  refine (OutMK.pay_apply _ _ _ _ _ _ _ _ r k (fun a b => (m ((c : Thread nD τ).loc main_arg3) : S2048x2048.Idx → EReal) (ix2 a b)) ?_ ?_ ?_).trans ?_
  · intro a b; exact (OutK.ldRows _ _ a b ⟨a.val, by omega⟩ (by simp)).trans (blk3 m c t _ b)
  · intro a b; exact (OutK.ldRows _ _ a b ⟨1024 + a.val, by omega⟩ rfl).trans (blk3 m c t _ b)
  · intro a b; exact (OutK.ldRows _ _ a b ⟨1536 + a.val, by omega⟩ rfl).trans (blk3 m c t _ b)
  · simp only [blk0, blk1, blk2, blk4, blk5]
    have hb : t.val / 4 = (row t r).val / 2048 := by show t.val / 4 = (t.val * 512 + r.val) / 2048; omega
    simp only [hb]
    rfl

/-- The blocks cover the result. -/
theorem cover (i : S8192x2048.Idx) : ∃ t : Fin cfg0.N, (cfg0.win 6).flush t = true ∧ i ∈ ((cfg0.win 6).blk t).view.set := by
  have hi0 : (i 0 : Nat) < 8192 := (i 0).isLt
  have hi1 : (i 1 : Nat) < 2048 := (i 1).isLt
  have hN : cfg0.N = 16 := by decide +kernel
  refine ⟨⟨(i 0 : Nat) / 512, by omega⟩, flush0_6 _, ?_⟩
  generalize ht : (⟨(i 0 : Nat) / 512, by omega⟩ : Fin cfg0.N) = t
  have htv : t.val = (i 0 : Nat) / 512 := by rw [← ht]
  obtain ⟨-, -, -, -, -, -, -, -, -, -, -, -, -, h0, h1⟩ := where_all t
  show i ∈ ((View.whole main_v2).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [h0]; omega
  | ⟨1, _⟩ =>
    show win0_6.index t 1 * 2048 ≤ (i 1 : Nat) ∧ (i 1 : Nat) < win0_6.index t 1 * 2048 + 2048
    rw [h1]; omega

/-- The result array after the run. -/
theorem final (c : Dev nD) : (dats m 0 c).arrAt 6 cfg0.N = G m c :=
  (dats m 0 c).arrAt_eq_of_cover 6 (G m c) (fun t _ => flushed_eq m c t) cover

end Cert.OutMK

end
-- ==== Proof.OutCtxValue.lean ====
/- The first layer's output projection of the context tokens: its result as one function of the arguments. -/
module

public import proofs.«01_k».proof.Proof.OutMidValue
public import proofs.«01_k».proof.Proof.Gen.OutCtxIdeal.Value
public import Idealize.ShloMosaic.Lib.Claim

@[expose] public section

noncomputable section

namespace Cert.OutCK

open Cert.OutCtxIdeal Cert.OutCtxIdeal.Gen Idealize.ShloMosaic Idealize.ShloMosaic.ValueIdx Idealize.ShloMosaic.TcCoe Cert.Reads Idealize.SL.Sem
open scoped BigOperators

/-- The result at row `r`, column `c`, from the whole arguments. -/
def outAt (ya : S1024x1024.Idx → EReal) (yp yc : S1024x512.Idx → EReal) (w : S2048x2048.Idx → EReal) (x : S1024x2048.Idx → EReal)
    (md : S8x6144.Idx → EReal) (r : Fin 1024) (c : Fin 2048) : EReal :=
  OutK.resid (fun k => ya (ix2 r k)) (fun k => yp (ix2 r k)) (fun k => yc (ix2 r k)) (fun k c => w (ix2 k c)) (fun k => x (ix2 r k))
    (fun k => md (ix2 4 ⟨4096 + k.val, by omega⟩)) c

variable (m : (ℓ : Loc nD τ sig) → Buf (Elt Ideal) ℓ)

/-- The weights reach the launch as they are. -/
theorem V1 (c : Dev nD) : V m c main_v1 = (m ((c : Thread nD τ).loc main_arg3) : S2048x2048.Idx → EReal) := by
  show StableHlo.after hostOps0 _ _ = _
  after_results
  rfl

/-- The modulation reaches the launch with an axis of extent one inserted. -/
theorem V0 (c : Dev nD) (b : Fin 8) (k : Fin 6144) : (V m c main_v0 : S8x1x6144.Idx → EReal) (ix3 b 0 k) = (m ((c : Thread nD τ).loc main_arg5) : S8x6144.Idx → EReal) (ix2 b k) := by
  have e : V m c main_v0 = shapeCast S8x1x6144 (m ((c : Thread nD τ).loc main_arg5) : S8x6144.Idx → EReal) shapeCasts_S8x6144_S8x1x6144 := by
    show StableHlo.after hostOps0 _ _ = _
    after_results
    rfl
  rw [e]
  exact castGroup _ _ b 0 k b (by simp)

/-- Where the windows' blocks stand: point `t` has block row `t`, the modulation's row 4, the others' block 0. -/
theorem where_all : ∀ t : Fin grid0.N,
    win0_0.index t 0 = t.val ∧ win0_0.index t 1 = 0 ∧ win0_1.index t 0 = t.val ∧ win0_1.index t 1 = 0 ∧ win0_2.index t 0 = t.val ∧ win0_2.index t 1 = 0
    ∧ win0_3.index t 0 = 0 ∧ win0_3.index t 1 = 0 ∧ win0_4.index t 0 = t.val ∧ win0_4.index t 1 = 0
    ∧ win0_5.index t 0 = 4 ∧ win0_5.index t 1 = 0 ∧ win0_5.index t 2 = 0
    ∧ win0_6.index t 0 = t.val ∧ win0_6.index t 1 = 0 := by decide +kernel

theorem N2 (t : Fin cfg0.N) : t.val < 2 := t.isLt

/-- The row of the arrays that row `r` of point `t`'s block is. -/
abbrev row (t : Fin cfg0.N) (r : Fin 512) : Fin 1024 := ⟨t.val * 512 + r.val, by have := N2 t; omega⟩

/-- A row block's entry: the same column of the array's row. -/
theorem blk0 (c : Dev nD) (t : Fin cfg0.N) (r : Fin 512) (k : Fin 1024) :
    (iblk m c 0 t : S512x1024.Idx → EReal) (ix2 r k) = (m ((c : Thread nD τ).loc main_arg0) : S1024x1024.Idx → EReal) (ix2 (row t r) k) := by
  obtain ⟨h0, h1, -⟩ := where_all t
  show (V m c main_arg0 : S1024x1024.Idx → EReal) _ = _
  rw [V_main_arg0]
  refine congrArg _ (Shape.idx_ext₂ ?_ ?_)
  · show win0_0.index t 0 * 512 + 1 * r.val = t.val * 512 + r.val
    rw [h0]; omega
  · show win0_0.index t 1 * 1024 + 1 * k.val = k.val
    rw [h1]; omega

theorem blk1 (c : Dev nD) (t : Fin cfg0.N) (r k : Fin 512) :
    (iblk m c 1 t : S512x512.Idx → EReal) (ix2 r k) = (m ((c : Thread nD τ).loc main_arg1) : S1024x512.Idx → EReal) (ix2 (row t r) k) := by
  obtain ⟨-, -, h0, h1, -⟩ := where_all t
  show (V m c main_arg1 : S1024x512.Idx → EReal) _ = _
  rw [V_main_arg1]
  refine congrArg _ (Shape.idx_ext₂ ?_ ?_)
  · show win0_1.index t 0 * 512 + 1 * r.val = t.val * 512 + r.val
    rw [h0]; omega
  · show win0_1.index t 1 * 512 + 1 * k.val = k.val
    rw [h1]; omega

theorem blk2 (c : Dev nD) (t : Fin cfg0.N) (r k : Fin 512) :
    (iblk m c 2 t : S512x512.Idx → EReal) (ix2 r k) = (m ((c : Thread nD τ).loc main_arg2) : S1024x512.Idx → EReal) (ix2 (row t r) k) := by
  obtain ⟨-, -, -, -, h0, h1, -⟩ := where_all t
  show (V m c main_arg2 : S1024x512.Idx → EReal) _ = _
  rw [V_main_arg2]
  refine congrArg _ (Shape.idx_ext₂ ?_ ?_)
  · show win0_2.index t 0 * 512 + 1 * r.val = t.val * 512 + r.val
    rw [h0]; omega
  · show win0_2.index t 1 * 512 + 1 * k.val = k.val
    rw [h1]; omega

/-- The weights' one block is the whole matrix. -/
theorem blk3 (c : Dev nD) (t : Fin cfg0.N) (r k : Fin 2048) :
    (iblk m c 3 t : S2048x2048.Idx → EReal) (ix2 r k) = (m ((c : Thread nD τ).loc main_arg3) : S2048x2048.Idx → EReal) (ix2 r k) := by
  obtain ⟨-, -, -, -, -, -, h0, h1, -⟩ := where_all t
  show (V m c main_v1 : S2048x2048.Idx → EReal) _ = _
  rw [V1]
  refine congrArg _ (Shape.idx_ext₂ ?_ ?_)
  · show win0_3.index t 0 * 2048 + 1 * r.val = r.val
    rw [h0]; omega
  · show win0_3.index t 1 * 2048 + 1 * k.val = k.val
    rw [h1]; omega

theorem blk4 (c : Dev nD) (t : Fin cfg0.N) (r : Fin 512) (k : Fin 2048) :
    (iblk m c 4 t : S512x2048.Idx → EReal) (ix2 r k) = (m ((c : Thread nD τ).loc main_arg4) : S1024x2048.Idx → EReal) (ix2 (row t r) k) := by
  obtain ⟨-, -, -, -, -, -, -, -, h0, h1, -⟩ := where_all t
  show (V m c main_arg4 : S1024x2048.Idx → EReal) _ = _
  rw [V_main_arg4]
  refine congrArg _ (Shape.idx_ext₂ ?_ ?_)
  · show win0_4.index t 0 * 512 + 1 * r.val = t.val * 512 + r.val
    rw [h0]; omega
  · show win0_4.index t 1 * 2048 + 1 * k.val = k.val
    rw [h1]; omega

/-- The modulation's block is the context's row. -/
theorem blk5 (c : Dev nD) (t : Fin cfg0.N) (k : Fin 6144) :
    (iblk m c 5 t : S1x1x6144.Idx → EReal) (ix3 0 0 k) = (m ((c : Thread nD τ).loc main_arg5) : S8x6144.Idx → EReal) (ix2 4 k) := by
  obtain ⟨-, -, -, -, -, -, -, -, -, -, h0, h1, h2, -⟩ := where_all t
  show (V m c main_v0 : S8x1x6144.Idx → EReal) _ = _
  rw [← V0 m c]
  refine congrArg _ (funext fun a => Fin.ext ?_)
  match a with
  | ⟨0, _⟩ => show win0_5.index t 0 * 1 + 1 * 0 = 4; rw [h0]
  | ⟨1, _⟩ => show win0_5.index t 1 * 1 + 1 * 0 = 0; rw [h1]
  | ⟨2, _⟩ => show win0_5.index t 2 * 6144 + 1 * k.val = k.val; rw [h2]; omega

/-- The result array, from the arguments. -/
def G (c : Dev nD) : S1024x2048.Idx → EReal := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

/-- What point `t` writes back is block `t` of the result. -/
theorem flushed_eq (c : Dev nD) (t : Fin cfg0.N) : (dats m 0 c).flushed 6 t = (win0_6.blk t).view.read (Elt Ideal) (G m c) := by
  rw [Value.flushed6]
  unfold out0_6
  rw [View.canon_unit_zero OutK.hz2]
  rw [View.ld_unit_zero OutK.hz2, View.ld_unit_zero OutK.hz2, View.ld_unit_zero OutK.hz2, View.ld_unit_zero OutK.hz3, View.ld_unit_zero OutK.hz2]
  funext i
  obtain ⟨-, -, -, -, -, -, -, -, -, -, -, -, -, h0, h1⟩ := where_all t
  have hN := N2 t
  obtain ⟨r, k, rfl⟩ : ∃ (r : Fin 512) (k : Fin 2048), i = ix2 r k := ⟨i 0, i 1, eq_ix2 i⟩
  have er : ((win0_6.blk t).view.read (Elt Ideal) (G m c)) (ix2 r k) = G m c (ix2 (row t r) k) := by
    refine congrArg (G m c) (Shape.idx_ext₂ ?_ ?_)
    · show win0_6.index t 0 * 512 + 1 * r.val = t.val * 512 + r.val
      rw [h0]; omega
    · show win0_6.index t 1 * 2048 + 1 * k.val = k.val
      rw [h1]; omega
  rw [er]
  refine (OutMK.pay_apply _ _ _ _ _ _ _ _ r k (fun a b => (m ((c : Thread nD τ).loc main_arg3) : S2048x2048.Idx → EReal) (ix2 a b)) ?_ ?_ ?_).trans ?_
  · intro a b; exact (OutK.ldRows _ _ a b ⟨a.val, by omega⟩ (by simp)).trans (blk3 m c t _ b)
  · intro a b; exact (OutK.ldRows _ _ a b ⟨1024 + a.val, by omega⟩ rfl).trans (blk3 m c t _ b)
  · intro a b; exact (OutK.ldRows _ _ a b ⟨1536 + a.val, by omega⟩ rfl).trans (blk3 m c t _ b)
  · simp only [blk0, blk1, blk2, blk4, blk5]
    rfl

/-- The blocks cover the result. -/
theorem cover (i : S1024x2048.Idx) : ∃ t : Fin cfg0.N, (cfg0.win 6).flush t = true ∧ i ∈ ((cfg0.win 6).blk t).view.set := by
  have hi0 : (i 0 : Nat) < 1024 := (i 0).isLt
  have hi1 : (i 1 : Nat) < 2048 := (i 1).isLt
  have hN : cfg0.N = 2 := by decide +kernel
  refine ⟨⟨(i 0 : Nat) / 512, by omega⟩, flush0_6 _, ?_⟩
  generalize ht : (⟨(i 0 : Nat) / 512, by omega⟩ : Fin cfg0.N) = t
  have htv : t.val = (i 0 : Nat) / 512 := by rw [← ht]
  obtain ⟨-, -, -, -, -, -, -, -, -, -, -, -, -, h0, h1⟩ := where_all t
  show i ∈ ((View.whole main_v2).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [h0]; omega
  | ⟨1, _⟩ =>
    show win0_6.index t 1 * 2048 ≤ (i 1 : Nat) ∧ (i 1 : Nat) < win0_6.index t 1 * 2048 + 2048
    rw [h1]; omega

/-- The result array after the run. -/
theorem final (c : Dev nD) : (dats m 0 c).arrAt 6 cfg0.N = G m c :=
  (dats m 0 c).arrAt_eq_of_cover 6 (G m c) (fun t _ => flushed_eq m c t) cover

end Cert.OutCK

end
-- ==== Proof.OutMidRef.lean ====
/- The references of the first layer's output projections at an entry of their results. -/
module

public import proofs.«01_k».proof.Proof.OutRef
public import proofs.«01_k».proof.Proof.CtxRef
public import proofs.«01_k».proof.Proof.OutMidValue
public import proofs.«01_k».proof.Proof.OutCtxValue
public import proofs.«01_k».proof.Proof.Gen.OutMidRefIdeal.Run
public import proofs.«01_k».proof.Proof.Gen.OutCtxRefIdeal.Run

@[expose] public section

noncomputable section

namespace Cert.OutMidRef

open Idealize.ShloMosaic Idealize.ShloMosaic.ValueIdx Idealize.ShloMosaic.TcCoe Cert.Reads
open scoped BigOperators

section Latent
open Cert.OutMidRefIdeal Cert.OutMidRefIdeal.Gen

/-- Over the latent tokens the reference's result is the same function of the arguments as the kernel's. -/
theorem out_eq (ya : FVec Ideal S8192x1024 .bf16) (yp yc : FVec Ideal S8192x512 .bf16) (w : FVec Ideal S2048x2048 .f32) (x : FVec Ideal S8192x2048 .f32)
    (md : FVec Ideal S8x6144 .f32) :
    (shapeCast S8192x2048 (OutRef.Z ya yp yc w x md) shapeCasts_S4x2048x2048_S8192x2048 : S8192x2048.Idx → EReal)
      = fun i => OutMK.outAt ya yp yc w x md (i 0) (i 1) := by
  funext i
  obtain ⟨r, c, rfl⟩ : ∃ (r : Fin 8192) (c : Fin 2048), i = ix2 r c := ⟨i 0, i 1, eq_ix2 i⟩
  have hr : r.val = (⟨r.val / 2048, by omega⟩ : Fin 4).val * 2048 + (⟨r.val % 2048, by omega⟩ : Fin 2048).val := by
    show r.val = r.val / 2048 * 2048 + r.val % 2048
    omega
  rw [castFlat _ _ _ _ c r hr, OutRef.Z_apply _ _ _ _ _ _ _ _ c r hr]
  rfl

end Latent

section Context
open Cert.OutCtxRefIdeal Cert.OutCtxRefIdeal.Gen

variable (ya : FVec Ideal S1024x1024 .bf16) (yp yc : FVec Ideal S1024x512 .bf16) (w : FVec Ideal S2048x2048 .f32) (x : FVec Ideal S1024x2048 .f32)
  (md : FVec Ideal S8x6144 .f32)

/-- Over the context tokens the reference's result is the same function of the arguments as the kernel's. -/
theorem outCtx_eq :
    (addf x (mulf (broadcastInDim S1024x2048 ![0, 1] bcast_S1x2048_S1024x2048_0_1 (broadcastInDim S1x2048 ![1] bcast_S2048_S1x2048_1 (shapeCast _ (extractStridedSlice S1x2048 ![4, 4096] md slices_S8x6144_S1x2048_4_4096) shapeCasts_S1x2048_S2048))) (Host.dotGeneral dot_S1024x2048_S2048x2048_S1024x2048_1_0_0_1_n_n none (extf .f32 (concatenate S1024x2048 1 [⟨S1024x1024, ya⟩, ⟨S1024x512, yp⟩, ⟨S1024x512, yc⟩] concatenates_S1024x1024_S1024x512_S1024x512_S1024x2048_d1 : FVec Ideal S1024x2048 .bf16) bitsLt_bf16_f32) w)) : S1024x2048.Idx → EReal)
      = fun i => OutCK.outAt ya yp yc w x md (i 0) (i 1) := by
  funext i
  obtain ⟨r, c, rfl⟩ : ∃ (r : Fin 1024) (c : Fin 2048), i = ix2 r c := ⟨i 0, i 1, eq_ix2 i⟩
  have hd := hdot2 none (extf .f32 (concatenate S1024x2048 1 [⟨S1024x1024, ya⟩, ⟨S1024x512, yp⟩, ⟨S1024x512, yc⟩] concatenates_S1024x1024_S1024x512_S1024x512_S1024x2048_d1 : FVec Ideal S1024x2048 .bf16) bitsLt_bf16_f32) w r c
  rw [OutRef.split3] at hd
  rw [addf_apply, mulf_apply, Ctx.bdDown2, Ctx.bdRowOf, Ctx.castVec, slice2 _ _ 0 c 4 ⟨4096 + c.val, by omega⟩ rfl rfl]
  show _ = OutCK.outAt ya yp yc w x md r c
  unfold OutCK.outAt OutK.resid
  refine congrArg₂ (· + ·) rfl (congrArg₂ (· * ·) rfl (hd.trans ?_))
  refine congrArg₂ (· + ·) (congrArg₂ (· + ·) ?_ ?_) ?_
  · exact Finset.sum_congr rfl fun k _ => congrArg (· * _) (cat3_0 ya yp yc concatenates_S1024x1024_S1024x512_S1024x512_S1024x2048_d1 r _ k rfl)
  · exact Finset.sum_congr rfl fun k _ => congrArg (· * _) (cat3_1 ya yp yc concatenates_S1024x1024_S1024x512_S1024x512_S1024x2048_d1 r _ k rfl)
  · exact Finset.sum_congr rfl fun k _ => congrArg (· * _) (cat3_2 ya yp yc concatenates_S1024x1024_S1024x512_S1024x512_S1024x2048_d1 r _ k rfl)

end Context

end Cert.OutMidRef

end
-- ==== Proof.OutMidAlgebraic.lean ====
/- The first layer's output projections: kernel and reference leave the same result. -/
module

public import proofs.«01_k».proof.Defs
public import proofs.«01_k».proof.Proof.OutMidRef

@[expose] public section

noncomputable section

namespace Cert.OutMidAlgebraic

open Idealize.ShloMosaic Idealize.SL.Sem

/-- Over the latent tokens, from equal arguments kernel and reference end with equal results, for all arguments. -/
theorem algebraic : Cert.algebraic_OutMidIdeal_OutMidRefIdeal (hOutMidIdeal := Cert.OutMidIdeal.Gen.facts)
    (hOutMidRefIdeal := Cert.OutMidRefIdeal.Gen.facts) := by
  intro m g m' g' _ hargs
  refine ⟨fun c => OutMK.G m c, ?_, ?_⟩
  · refine (θ_run (Cert.OutMidIdeal.defs (F := Ideal)) _ _).mono (fun r h c => ?_) (Cert.OutMidIdeal.Value.run_blocks (F := Ideal) m g)
    exact ⟨(h c).1.trans (OutMK.final m c), (h c).2⟩
  · refine (θ_run (Cert.OutMidRefIdeal.defs (F := Ideal)) _ _).mono (fun r h c => ?_) (Cert.OutMidRefIdeal.Value.run (F := Ideal) m' g')
    obtain ⟨hv, hrest⟩ := h c
    refine ⟨hv.trans ?_, hrest⟩
    obtain ⟨h0, h1, h2, h3, h4, h5⟩ := hargs c
    rw [h0, h1, h2, h3, h4, h5]
    exact OutMidRef.out_eq _ _ _ _ _ _

/-- Over the context tokens, from equal arguments kernel and reference end with equal results, for all arguments. -/
theorem algebraicCtx : Cert.algebraic_OutCtxIdeal_OutCtxRefIdeal (hOutCtxIdeal := Cert.OutCtxIdeal.Gen.facts)
    (hOutCtxRefIdeal := Cert.OutCtxRefIdeal.Gen.facts) := by
  intro m g m' g' _ hargs
  refine ⟨fun c => OutCK.G m c, ?_, ?_⟩
  · refine (θ_run (Cert.OutCtxIdeal.defs (F := Ideal)) _ _).mono (fun r h c => ?_) (Cert.OutCtxIdeal.Value.run_blocks (F := Ideal) m g)
    exact ⟨(h c).1.trans (OutCK.final m c), (h c).2⟩
  · refine (θ_run (Cert.OutCtxRefIdeal.defs (F := Ideal)) _ _).mono (fun r h c => ?_) (Cert.OutCtxRefIdeal.Value.run (F := Ideal) m' g')
    obtain ⟨hv, hrest⟩ := h c
    refine ⟨hv.trans ?_, hrest⟩
    obtain ⟨h0, h1, h2, h3, h4, h5⟩ := hargs c
    rw [h0, h1, h2, h3, h4, h5]
    exact OutMidRef.outCtx_eq _ _ _ _ _ _

end Cert.OutMidAlgebraic

end
-- ==== Proof.PoolMath.lean ====
/- The pooling and convolution branches, entry by entry. -/
module

public import proofs.«01_k».proof.Proof.HostReads

@[expose] public section

noncomputable section

namespace Cert.PoolMath

open Idealize.ShloMosaic Idealize.ShloMosaic.ValueIdx
open scoped BigOperators

/-- The projected columns' entry in row `n` and column `c`. -/
def ent (p : (⟨2, ![8192, 6656]⟩ : Shape).Idx → EReal) (n c : ℕ) : EReal := p (ix2 ⟨n % 8192, by omega⟩ ⟨c % 6656, by omega⟩)

/-- The value of token `s - 16` of batch `b`, zero outside the batch's 2048 tokens. -/
def within (f : ℕ → EReal) (b s : ℕ) : EReal := if 16 ≤ s ∧ s < 2064 then f (2048 * b + (s - 16)) else 0

/-- A number times its sigmoid. -/
def silu (x : EReal) : EReal := x * Ideal.logistic x

/-- The gated linear unit in row `n` and channel `c`. -/
def glu (p : (⟨2, ![8192, 6656]⟩ : Shape).Idx → EReal) (c n : ℕ) : EReal := ent p n (5120 + c) * Ideal.logistic (ent p n (5632 + c))

/-- The depthwise convolution of 31 taps at token `t` of batch `b`, with its bias. -/
def conv (p : (⟨2, ![8192, 6656]⟩ : Shape).Idx → EReal) (wd : (⟨2, ![31, 512]⟩ : Shape).Idx → EReal) (bd : (⟨1, ![512]⟩ : Shape).Idx → EReal) (b t : ℕ) (c : Fin 512) : EReal :=
  (∑ j : Fin 31, within (glu p c.val) b (t + 1 + j.val) * wd (ix2 j c)) + bd (ix1 c)

/-- A row less its mean. -/
def centred (y : Fin 512 → EReal) (c : Fin 512) : EReal := y c - Ideal.div (∑ k : Fin 512, y k) (Ideal.ofBits .f32 0x44000000#32)

/-- LayerNorm of a row, with its scale and shift. -/
def layerNorm (y g n : Fin 512 → EReal) (c : Fin 512) : EReal :=
  centred y c * Ideal.rsqrt (Ideal.div (∑ k : Fin 512, centred y k * centred y k) (Ideal.ofBits .f32 0x44000000#32) + Ideal.ofBits .f32 0x358637BD#32) * g c + n c

/-- The convolution branch at token `t` of batch `b`. -/
def convAt (p : (⟨2, ![8192, 6656]⟩ : Shape).Idx → EReal) (wd : (⟨2, ![31, 512]⟩ : Shape).Idx → EReal) (bd g n : (⟨1, ![512]⟩ : Shape).Idx → EReal)
    (wp : (⟨2, ![512, 512]⟩ : Shape).Idx → EReal) (b t : ℕ) (c : Fin 512) : EReal :=
  (∑ k : Fin 512, silu (layerNorm (conv p wd bd b t) (fun k => g (ix1 k)) (fun k => n (ix1 k)) k) * wp (ix2 k c)) * silu (ent p (2048 * b + t) (6144 + c.val))

/-- How many tokens the window of half width `h` about token `t` holds. -/
def tokensIn (h t : ℕ) : EReal :=
  FloatOps.sitofp (F := Ideal) .f32 (IntOp.subi (IntOp.minsi (IntOp.addi (BitVec.ofNat 32 t) (BitVec.ofNat 32 h)) 2048#32) (IntOp.maxsi (IntOp.subi (BitVec.ofNat 32 t) (BitVec.ofNat 32 h)) 0#32))

/-- The sum over the window of half width `h` about token `t` of batch `b`. -/
def total (p : (⟨2, ![8192, 6656]⟩ : Shape).Idx → EReal) (h b t c : ℕ) : EReal :=
  ∑ o : Fin (2 * h), within (fun n => ent p n (4096 + c)) b (t + (16 - h) + o.val)

/-- The pooling branch of column group `g`, of half width `h`, at token `t` of batch `b`. -/
def poolAt (p : (⟨2, ![8192, 6656]⟩ : Shape).Idx → EReal) (wg : (⟨3, ![4, 128, 128]⟩ : Shape).Idx → EReal) (ps : (⟨1, ![512]⟩ : Shape).Idx → EReal)
    (g : Fin 4) (h b t : ℕ) (c : Fin 128) : EReal :=
  (∑ k : Fin 128, (Ideal.div (total p h b t (128 * g.val + k.val)) (tokensIn h t) - ent p (2048 * b + t) (4096 + (128 * g.val + k.val))) * wg (ix3 g k c))
    * ps (ix1 ⟨128 * g.val + c.val, by omega⟩) * silu (ent p (2048 * b + t) (4608 + (128 * g.val + c.val)))

/-- The pooling branch: the groups' half widths are 1, 2, 4 and 8. -/
def poolBranch (p : (⟨2, ![8192, 6656]⟩ : Shape).Idx → EReal) (wg : (⟨3, ![4, 128, 128]⟩ : Shape).Idx → EReal) (ps : (⟨1, ![512]⟩ : Shape).Idx → EReal)
    (b t : ℕ) (c : Fin 512) : EReal :=
  poolAt p wg ps ⟨c.val / 128, by omega⟩ (2 ^ (c.val / 128)) b t ⟨c.val % 128, by omega⟩

/-- A sum of 2 terms, written out. -/
theorem sum2 (f : Fin 2 → EReal) : ∑ j, f j = f 0 + f 1 := by
  simp only [Fin.sum_univ_castSucc, Finset.univ_eq_empty, Finset.sum_empty, zero_add]
  rfl

/-- A sum of 4 terms, written out. -/
theorem sum4 (f : Fin 4 → EReal) : ∑ j, f j = f 0 + f 1 + f 2 + f 3 := by
  simp only [Fin.sum_univ_castSucc, Finset.univ_eq_empty, Finset.sum_empty, zero_add]
  rfl

/-- A sum of 8 terms, written out. -/
theorem sum8 (f : Fin 8 → EReal) : ∑ j, f j = f 0 + f 1 + f 2 + f 3 + f 4 + f 5 + f 6 + f 7 := by
  simp only [Fin.sum_univ_castSucc, Finset.univ_eq_empty, Finset.sum_empty, zero_add]
  rfl

/-- A sum of 16 terms, written out. -/
theorem sum16 (f : Fin 16 → EReal) : ∑ j, f j = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- A sum of 31 terms, written out. -/
theorem sum31 (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

end Cert.PoolMath

end
-- ==== Proof.PoolRef.lean ====
/- The pooling and convolution reference, entry by entry. -/
module

public import proofs.«01_k».proof.Proof.PoolMath
public import proofs.«01_k».proof.Proof.CtxRef
public import proofs.«01_k».proof.Proof.AttRef
public import proofs.«01_k».proof.Proof.Gen.PoolConvRefIdeal.Run
public import Idealize.ShloMosaic.Lib.KernelVsHost
public import Idealize.ShloMosaic.Lib.IdealHost

@[expose] public section

set_option maxRecDepth 65536

noncomputable section

namespace Cert.PoolRef

open Cert.PoolConvRefIdeal Cert.PoolConvRefIdeal.Gen Cert.PoolConvRefIdeal.Value Idealize.ShloMosaic.StableHlo Idealize.ShloMosaic Idealize.ShloMosaic.ValueIdx Idealize.ShloMosaic.TcCoe Cert.Reads Cert.PoolMath Idealize.SL.Sem
open scoped BigOperators

variable {α : Type}

/-- A stretch of the middle axis. -/
theorem sliceMid {B M L N o : ℕ} (x : (⟨3, ![B, M, N]⟩ : Shape).Idx → α) (h : (⟨3, ![B, M, N]⟩ : Shape).Slices ![0, o, 0] ⟨3, ![B, L, N]⟩) (b : Fin B) (t : Fin L) (k : Fin N)
    (s : Fin M) (hs : s.val = o + t.val) : extractStridedSlice (⟨3, ![B, L, N]⟩ : Shape) ![0, o, 0] x h (ix3 b t k) = x (ix3 b s k) := by
  refine extractStridedSlice_apply _ _ _ _ _ fun a => ?_
  match a with
  | ⟨0, _⟩ => show b.val = 0 + b.val; omega
  | ⟨1, _⟩ => exact hs
  | ⟨2, _⟩ => show k.val = 0 + k.val; omega

/-- One group of the first axis. -/
theorem sliceFirst {B M N g : ℕ} (x : (⟨3, ![B, M, N]⟩ : Shape).Idx → α) (h : (⟨3, ![B, M, N]⟩ : Shape).Slices ![g, 0, 0] ⟨3, ![1, M, N]⟩) (r : Fin M) (k : Fin N)
    (G : Fin B) (hG : G.val = g) : extractStridedSlice (⟨3, ![1, M, N]⟩ : Shape) ![g, 0, 0] x h (ix3 0 r k) = x (ix3 G r k) := by
  refine extractStridedSlice_apply _ _ _ _ _ fun a => ?_
  match a with
  | ⟨0, _⟩ => show G.val = g + 0; omega
  | ⟨1, _⟩ => show r.val = 0 + r.val; omega
  | ⟨2, _⟩ => show k.val = 0 + k.val; omega

/-- Padding the tokens of every batch by zeros. -/
theorem padMid {M N lo : ℕ} {u : Shape} (x : (⟨3, ![4, 2048, N]⟩ : Shape).Idx → EReal) (v : u.Idx → EReal) (h : (⟨3, ![4, 2048, N]⟩ : Shape).Pads ![0, lo, 0] ![0, lo, 0] ![0, 0, 0] ⟨3, ![4, M, N]⟩)
    (hu : 0 < u.numel) (hv : ∀ i, v i = 0) (hlo : lo ≤ 16) (f : ℕ → EReal) (b : Fin 4) (s : Fin M) (k : Fin N) (hx : ∀ t : Fin 2048, x (ix3 b t k) = f (2048 * b.val + t.val)) :
    pad (⟨3, ![4, M, N]⟩ : Shape) ![0, lo, 0] ![0, lo, 0] ![0, 0, 0] x v h hu (ix3 b s k) = within f b.val (s.val + (16 - lo)) := by
  unfold within
  split_ifs with hs
  · refine (pad_apply_of_inside _ _ _ x v h hu (ix3 b s k) (ix3 b ⟨s.val - lo, by omega⟩ k) fun a => ?_).trans ((hx _).trans (congrArg f ?_))
    · match a with
      | ⟨0, _⟩ => show b.val = 0 + b.val * (0 + 1); omega
      | ⟨1, _⟩ => show s.val = lo + (s.val - lo) * (0 + 1); omega
      | ⟨2, _⟩ => show k.val = 0 + k.val * (0 + 1); omega
    · show 2048 * b.val + (s.val - lo) = _; omega
  · refine (pad_apply_of_not_inside _ _ _ x v h hu (ix3 b s k) (1 : Fin 3) ?_).trans (hv _)
    show ¬(lo ≤ s.val ∧ (s.val - lo) % (0 + 1) = 0 ∧ (s.val - lo) / (0 + 1) < 2048)
    omega

/-- The padding's value. -/
theorem zero_pad (i : S_.Idx) : (sitofp .f32 (constantI S_ 32 0#32) : FVec Ideal S_ .f32) i = 0 := by
  show FloatOps.sitofp (F := Ideal) .f32 (0#32 : BitVec 32) = 0
  show ((((0#32 : BitVec 32).toInt : ℤ) : ℝ) : EReal) = 0
  simp

variable (V0 : Valuation τ sig (Elt Ideal))

/-- The projected columns. -/
abbrev P : S8192x6656.Idx → EReal := V0 (Proc.devRef .tc main_arg0)

/-- The groups' weights. -/
abbrev Wg : S4x128x128.Idx → EReal := V0 (Proc.devRef .tc main_arg1)

/-- The pooling branch's scale. -/
abbrev Ps : S512.Idx → EReal := V0 (Proc.devRef .tc main_arg2)

/-- The taps. -/
abbrev Wd : S31x512.Idx → EReal := V0 (Proc.devRef .tc main_arg3)

/-- The taps' bias. -/
abbrev Bd : S512.Idx → EReal := V0 (Proc.devRef .tc main_arg4)

/-- The norm's scale. -/
abbrev Ga : S512.Idx → EReal := V0 (Proc.devRef .tc main_arg5)

/-- The norm's shift. -/
abbrev Be : S512.Idx → EReal := V0 (Proc.devRef .tc main_arg6)

/-- The pointwise weight. -/
abbrev Wp : S512x512.Idx → EReal := V0 (Proc.devRef .tc main_arg7)

theorem v1_apply (b : Fin 4) (t : Fin 2048) (c : Fin 6656) : (res_main_v1 V0 : S4x2048x6656.Idx → EReal) (ix3 b t c) = ent (P V0) (2048 * b.val + t.val) c.val := by
  unfold res_main_v1
  refine (castGroup _ _ b t c ⟨2048 * b.val + t.val, by omega⟩ (by show 2048 * b.val + t.val = b.val * 2048 + t.val; omega)).trans ?_
  refine congrArg (P V0) (Shape.idx_ext₂ ?_ ?_)
  · show 2048 * b.val + t.val = (2048 * b.val + t.val) % 8192; omega
  · show c.val = c.val % 6656; omega

/-- The pooled columns. -/
theorem v2_apply (b : Fin 4) (t : Fin 2048) (c : Fin 512) : (res_main_v2 V0 : S4x2048x512.Idx → EReal) (ix3 b t c) = ent (P V0) (2048 * b.val + t.val) (4096 + c.val) := by
  unfold res_main_v2
  exact (AttRef.slice3 _ _ b t c ⟨4096 + c.val, by omega⟩ rfl).trans (v1_apply V0 b t _)

/-- The pooling branch's gate columns. -/
theorem v3_apply (b : Fin 4) (t : Fin 2048) (c : Fin 512) : (res_main_v3 V0 : S4x2048x512.Idx → EReal) (ix3 b t c) = ent (P V0) (2048 * b.val + t.val) (4608 + c.val) := by
  unfold res_main_v3
  exact (AttRef.slice3 _ _ b t c ⟨4608 + c.val, by omega⟩ rfl).trans (v1_apply V0 b t _)

/-- The convolution branch's gate columns. -/
theorem v6_apply (b : Fin 4) (t : Fin 2048) (c : Fin 512) : (res_main_v6 V0 : S4x2048x512.Idx → EReal) (ix3 b t c) = ent (P V0) (2048 * b.val + t.val) (6144 + c.val) := by
  unfold res_main_v6
  exact (AttRef.slice3 _ _ b t c ⟨6144 + c.val, by omega⟩ rfl).trans (v1_apply V0 b t _)

/-- One over one plus the exponential of the negative is the sigmoid. -/
theorem sigmoid (h : S_.BroadcastsInDim S4x2048x512 ![]) (x : FVec Ideal S4x2048x512 .f32) (i : S4x2048x512.Idx) :
    (Host.divf (broadcastInDim S4x2048x512 ![] h (constant S_ .f32 0x3F800000#32)) (addf (broadcastInDim S4x2048x512 ![] h (constant S_ .f32 0x3F800000#32)) (Host.exp (Host.negf x))) : FVec Ideal S4x2048x512 .f32) i
      = Ideal.logistic (x i) := by
  show Ideal.div (Ideal.ofBits .f32 0x3F800000#32) (Ideal.ofBits .f32 0x3F800000#32 + Ideal.exp (-(x i))) = _
  rw [Ideal.ofBits_one_f32]
  rfl

/-- The padded unit. -/
theorem v14_apply (b : Fin 4) (s : Fin 2078) (c : Fin 512) : (res_main_v14 V0 : S4x2078x512.Idx → EReal) (ix3 b s c) = within (glu (P V0) c.val) b.val (s.val + 1) := by
  unfold res_main_v14
  refine padMid _ _ _ _ zero_pad (by decide) (glu (P V0) c.val) b s c fun t => ?_
  rw [mulf_apply, sigmoid]
  exact congrArg₂ (· * ·) ((AttRef.slice3 _ _ b t c ⟨5120 + c.val, by omega⟩ rfl).trans (v1_apply V0 b t _))
    (congrArg Ideal.logistic ((AttRef.slice3 _ _ b t c ⟨5632 + c.val, by omega⟩ rfl).trans (v1_apply V0 b t _)))

/-- One tap's term. -/
theorem term (b : Fin 4) (t : Fin 2048) (c : Fin 512) (j : ℕ) (J : Fin 31) (hJ : J.val = j) (h1) (h2) (h3) (h4) (h5) :
    (mulf (extractStridedSlice S4x2048x512 ![0, j, 0] (res_main_v14 V0) h1) (broadcastInDim S4x2048x512 ![0, 1, 2] h2 (broadcastInDim S1x1x512 ![2] h3 (shapeCast S512 (extractStridedSlice S1x512 ![j, 0] (V0 (Proc.devRef .tc main_arg3)) h4) h5))) : FVec Ideal S4x2048x512 .f32) (ix3 b t c)
      = within (glu (P V0) c.val) b.val (t.val + 1 + J.val) * Wd V0 (ix2 J c) := by
  rw [mulf_apply]
  refine congrArg₂ (· * ·) ((sliceMid _ _ b t c ⟨j + t.val, by omega⟩ rfl).trans ((v14_apply V0 b _ c).trans (congrArg (within _ _) ?_))) ?_
  · show j + t.val + 1 = t.val + 1 + J.val; omega
  · rw [bdRow, bdInsRow, Ctx.castVec]
    exact slice2 (V0 (Proc.devRef .tc main_arg3) : S31x512.Idx → EReal) _ 0 c J c hJ (Nat.zero_add _).symm

theorem v92_apply (b : Fin 4) (t : Fin 2048) (c : Fin 512) (f : Fin 31 → EReal) (hf : ∀ J, f J = within (glu (P V0) c.val) b.val (t.val + 1 + J.val) * Wd V0 (ix2 J c)) :
    (res_main_v92 V0 : S4x2048x512.Idx → EReal) (ix3 b t c) = f 0 + f 1 + f 2 + f 3 + f 4 + f 5 + f 6 + f 7 + f 8 + f 9 + f 10 := by
  unfold res_main_v92
  rw [addf_apply]
  refine congrArg₂ (· + ·) ?_ ((term V0 b t c 10 10 rfl _ _ _ _ _).trans (hf 10).symm)
  rw [addf_apply]
  refine congrArg₂ (· + ·) ?_ ((term V0 b t c 9 9 rfl _ _ _ _ _).trans (hf 9).symm)
  rw [addf_apply]
  refine congrArg₂ (· + ·) ?_ ((term V0 b t c 8 8 rfl _ _ _ _ _).trans (hf 8).symm)
  rw [addf_apply]
  refine congrArg₂ (· + ·) ?_ ((term V0 b t c 7 7 rfl _ _ _ _ _).trans (hf 7).symm)
  rw [addf_apply]
  refine congrArg₂ (· + ·) ?_ ((term V0 b t c 6 6 rfl _ _ _ _ _).trans (hf 6).symm)
  rw [addf_apply]
  refine congrArg₂ (· + ·) ?_ ((term V0 b t c 5 5 rfl _ _ _ _ _).trans (hf 5).symm)
  rw [addf_apply]
  refine congrArg₂ (· + ·) ?_ ((term V0 b t c 4 4 rfl _ _ _ _ _).trans (hf 4).symm)
  rw [addf_apply]
  refine congrArg₂ (· + ·) ?_ ((term V0 b t c 3 3 rfl _ _ _ _ _).trans (hf 3).symm)
  rw [addf_apply]
  refine congrArg₂ (· + ·) ?_ ((term V0 b t c 2 2 rfl _ _ _ _ _).trans (hf 2).symm)
  rw [addf_apply]
  refine congrArg₂ (· + ·) ?_ ((term V0 b t c 1 1 rfl _ _ _ _ _).trans (hf 1).symm)
  rw [addf_apply]
  refine (congrArg₂ (· + ·) Ideal.ofBits_zero_f32 ((term V0 b t c 0 0 rfl _ _ _ _ _).trans (hf 0).symm)).trans (zero_add _)

theorem v169_apply (b : Fin 4) (t : Fin 2048) (c : Fin 512) (f : Fin 31 → EReal) (hf : ∀ J, f J = within (glu (P V0) c.val) b.val (t.val + 1 + J.val) * Wd V0 (ix2 J c)) :
    (res_main_v169 V0 : S4x2048x512.Idx → EReal) (ix3 b t c) = f 0 + f 1 + f 2 + f 3 + f 4 + f 5 + f 6 + f 7 + f 8 + f 9 + f 10 + f 11 + f 12 + f 13 + f 14 + f 15 + f 16 + f 17 + f 18 + f 19 + f 20 + f 21 := by
  unfold res_main_v169
  rw [addf_apply]
  refine congrArg₂ (· + ·) ?_ ((term V0 b t c 21 21 rfl _ _ _ _ _).trans (hf 21).symm)
  rw [addf_apply]
  refine congrArg₂ (· + ·) ?_ ((term V0 b t c 20 20 rfl _ _ _ _ _).trans (hf 20).symm)
  rw [addf_apply]
  refine congrArg₂ (· + ·) ?_ ((term V0 b t c 19 19 rfl _ _ _ _ _).trans (hf 19).symm)
  rw [addf_apply]
  refine congrArg₂ (· + ·) ?_ ((term V0 b t c 18 18 rfl _ _ _ _ _).trans (hf 18).symm)
  rw [addf_apply]
  refine congrArg₂ (· + ·) ?_ ((term V0 b t c 17 17 rfl _ _ _ _ _).trans (hf 17).symm)
  rw [addf_apply]
  refine congrArg₂ (· + ·) ?_ ((term V0 b t c 16 16 rfl _ _ _ _ _).trans (hf 16).symm)
  rw [addf_apply]
  refine congrArg₂ (· + ·) ?_ ((term V0 b t c 15 15 rfl _ _ _ _ _).trans (hf 15).symm)
  rw [addf_apply]
  refine congrArg₂ (· + ·) ?_ ((term V0 b t c 14 14 rfl _ _ _ _ _).trans (hf 14).symm)
  rw [addf_apply]
  refine congrArg₂ (· + ·) ?_ ((term V0 b t c 13 13 rfl _ _ _ _ _).trans (hf 13).symm)
  rw [addf_apply]
  refine congrArg₂ (· + ·) ?_ ((term V0 b t c 12 12 rfl _ _ _ _ _).trans (hf 12).symm)
  rw [addf_apply]
  refine congrArg₂ (· + ·) ?_ ((term V0 b t c 11 11 rfl _ _ _ _ _).trans (hf 11).symm)
  exact v92_apply V0 b t c f hf

theorem v235_apply (b : Fin 4) (t : Fin 2048) (c : Fin 512) (f : Fin 31 → EReal) (hf : ∀ J, f J = within (glu (P V0) c.val) b.val (t.val + 1 + J.val) * Wd V0 (ix2 J c)) :
    (res_main_v235 V0 : S4x2048x512.Idx → EReal) (ix3 b t c) = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + Bd V0 (ix1 c) := by
  unfold res_main_v235
  rw [addf_apply]
  refine congrArg₂ (· + ·) ?_ ((bdRow _ _ b t c).trans (bdInsRow _ _ c))
  rw [addf_apply]
  refine congrArg₂ (· + ·) ?_ ((term V0 b t c 30 30 rfl _ _ _ _ _).trans (hf 30).symm)
  rw [addf_apply]
  refine congrArg₂ (· + ·) ?_ ((term V0 b t c 29 29 rfl _ _ _ _ _).trans (hf 29).symm)
  rw [addf_apply]
  refine congrArg₂ (· + ·) ?_ ((term V0 b t c 28 28 rfl _ _ _ _ _).trans (hf 28).symm)
  rw [addf_apply]
  refine congrArg₂ (· + ·) ?_ ((term V0 b t c 27 27 rfl _ _ _ _ _).trans (hf 27).symm)
  rw [addf_apply]
  refine congrArg₂ (· + ·) ?_ ((term V0 b t c 26 26 rfl _ _ _ _ _).trans (hf 26).symm)
  rw [addf_apply]
  refine congrArg₂ (· + ·) ?_ ((term V0 b t c 25 25 rfl _ _ _ _ _).trans (hf 25).symm)
  rw [addf_apply]
  refine congrArg₂ (· + ·) ?_ ((term V0 b t c 24 24 rfl _ _ _ _ _).trans (hf 24).symm)
  rw [addf_apply]
  refine congrArg₂ (· + ·) ?_ ((term V0 b t c 23 23 rfl _ _ _ _ _).trans (hf 23).symm)
  rw [addf_apply]
  refine congrArg₂ (· + ·) ?_ ((term V0 b t c 22 22 rfl _ _ _ _ _).trans (hf 22).symm)
  exact v169_apply V0 b t c f hf

/-- The convolution with its bias. -/
theorem conv_apply (b : Fin 4) (t : Fin 2048) (c : Fin 512) : (res_main_v235 V0 : S4x2048x512.Idx → EReal) (ix3 b t c) = conv (P V0) (Wd V0) (Bd V0) b.val t.val c := by
  unfold conv
  rw [sum31]
  exact v235_apply V0 b t c (fun J => within (glu (P V0) c.val) b.val (t.val + 1 + J.val) * Wd V0 (ix2 J c)) fun J => rfl

theorem v241_apply (b : Fin 4) (t : Fin 2048) (c : Fin 512) : (res_main_v241 V0 : S4x2048x512.Idx → EReal) (ix3 b t c) = centred (conv (P V0) (Wd V0) (Bd V0) b.val t.val) c := by
  unfold res_main_v241 centred
  rw [subf_apply, bdLast, hostDivf_apply, bdInsLast, hsum3 _ (constant S_ .f32 0x00000000#32) _ (by decide) _ (fun _ => Ideal.ofBits_zero_f32), conv_apply]
  refine congrArg₂ (· - ·) rfl (congrArg₂ Ideal.div (Finset.sum_congr rfl fun k _ => ?_) rfl)
  exact conv_apply V0 b t k

theorem v257_apply (b : Fin 4) (t : Fin 2048) (c : Fin 512) : (res_main_v257 V0 : S4x2048x512.Idx → EReal) (ix3 b t c)
    = layerNorm (conv (P V0) (Wd V0) (Bd V0) b.val t.val) (fun k => Ga V0 (ix1 k)) (fun k => Be V0 (ix1 k)) c := by
  unfold res_main_v257 layerNorm
  rw [addf_apply, mulf_apply, mulf_apply, bdRow, bdRow, bdInsRow, bdInsRow, bdLast, v241_apply]
  refine congrArg₂ (· + ·) (congrArg₂ (· * ·) (congrArg₂ (· * ·) rfl (congrArg Ideal.rsqrt ?_)) rfl) rfl
  rw [addf_apply, hostDivf_apply, bdInsLast, hsum3 _ (constant S_ .f32 0x00000000#32) _ (by decide) _ (fun _ => Ideal.ofBits_zero_f32)]
  refine congrArg₂ (· + ·) (congrArg₂ Ideal.div (Finset.sum_congr rfl fun k _ => ?_) rfl) rfl
  rw [mulf_apply, v241_apply]

/-- A column times its sigmoid, its batches joined. -/
theorem gate (x : FVec Ideal S4x2048x512 .f32) (h : S_.BroadcastsInDim S4x2048x512 ![]) (h' : S4x2048x512.ShapeCasts S8192x512) (b : Fin 4) (t : Fin 2048) (c : Fin 512) (n : Fin 8192) (hn : n.val = b.val * 2048 + t.val) :
    shapeCast S8192x512 (mulf x (Host.divf (broadcastInDim S4x2048x512 ![] h (constant S_ .f32 0x3F800000#32)) (addf (broadcastInDim S4x2048x512 ![] h (constant S_ .f32 0x3F800000#32)) (Host.exp (Host.negf x))))) h' (ix2 n c)
      = silu (x (ix3 b t c)) := by
  refine (castFlat _ _ b t c n hn).trans ?_
  rw [mulf_apply, sigmoid]
  rfl

/-- The convolution branch's result. -/
theorem conv_eq (n : Fin 8192) (c : Fin 512) :
    (truncf .bf16 (mulf (Host.dotGeneral (φ₂ := .f32) dot_S8192x512_S512x512_S8192x512_1_0_0_1_n_n none (shapeCast _ (mulf (res_main_v257 V0) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (res_main_v257 V0)))))) shapeCasts_S4x2048x512_S8192x512) (V0 (Proc.devRef .tc main_arg7) : FVec Ideal S512x512 .f32)) (shapeCast _ (mulf (res_main_v6 V0) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (res_main_v6 V0)))))) shapeCasts_S4x2048x512_S8192x512)) bitsLt_bf16_f32 : FVec Ideal S8192x512 .bf16) (ix2 n c)
      = convAt (P V0) (Wd V0) (Bd V0) (Ga V0) (Be V0) (Wp V0) (n.val / 2048) (n.val % 2048) c := by
  have hn : n.val = (⟨n.val / 2048, by omega⟩ : Fin 4).val * 2048 + (⟨n.val % 2048, by omega⟩ : Fin 2048).val := by show n.val = n.val / 2048 * 2048 + n.val % 2048; omega
  rw [truncf_apply, mulf_apply, gate _ _ _ _ _ c n hn, v6_apply]
  unfold convAt
  refine congrArg₂ (· * ·) ((hdot2 none _ (V0 (Proc.devRef .tc main_arg7) : S512x512.Idx → EReal) n c).trans (Finset.sum_congr rfl fun k _ => congrArg₂ (· * ·) ?_ rfl)) rfl
  rw [gate _ _ _ _ _ k n hn, v257_apply]

/-- A row of counts for every batch and column. -/
theorem bdTok {B L N : ℕ} (x : (⟨3, ![1, L, 1]⟩ : Shape).Idx → α) (h : (⟨3, ![1, L, 1]⟩ : Shape).BroadcastsInDim ⟨3, ![B, L, N]⟩ ![0, 1, 2]) (b : Fin B) (l : Fin L) (k : Fin N) :
    broadcastInDim (⟨3, ![B, L, N]⟩ : Shape) ![0, 1, 2] h x (ix3 b l k) = x (ix3 0 l 0) := by
  refine broadcastInDim_apply _ _ _ _ _ fun a => ?_
  match a with
  | ⟨0, _⟩ => rfl
  | ⟨1, _⟩ => exact val_eq_ite l
  | ⟨2, _⟩ => rfl

/-- A vector between two axes of extent one. -/
theorem bdInsTok {L : ℕ} (x : (⟨1, ![L]⟩ : Shape).Idx → α) (h : (⟨1, ![L]⟩ : Shape).BroadcastsInDim ⟨3, ![1, L, 1]⟩ ![1]) (l : Fin L) :
    broadcastInDim (⟨3, ![1, L, 1]⟩ : Shape) ![1] h x (ix3 0 l 0) = x (ix1 l) := by
  refine broadcastInDim_apply _ _ _ _ _ fun a => ?_
  match a with
  | ⟨0, _⟩ => exact val_eq_ite l

theorem v262_apply (b : Fin 4) (t : Fin 2048) (k : Fin 128) : (res_main_v262 V0 : S4x2048x128.Idx → EReal) (ix3 b t k) = ent (P V0) (2048 * b.val + t.val) (4096 + (0 + k.val)) := by
  unfold res_main_v262
  exact (AttRef.slice3 _ _ b t k ⟨0 + k.val, by omega⟩ rfl).trans (v2_apply V0 b t _)

theorem v263_apply (b : Fin 4) (s : Fin 2050) (k : Fin 128) : (res_main_v263 V0 : S4x2050x128.Idx → EReal) (ix3 b s k) = within (fun n => ent (P V0) n (4096 + (0 + k.val))) b.val (s.val + 15) := by
  unfold res_main_v263
  exact padMid _ _ _ _ zero_pad (by decide) (fun n => ent (P V0) n (4096 + (0 + k.val))) b s k fun t => v262_apply V0 b t k

/-- Clipping at both ends leaves the window's two ends. -/
theorem clip1 : ∀ t : Fin 2048, IntOp.subi (IntOp.minsi 2048#32 (IntOp.maxsi 0#32 (IntOp.addi (BitVec.ofNat 32 t.val) 1#32))) (IntOp.minsi 2048#32 (IntOp.maxsi 0#32 (IntOp.subi (BitVec.ofNat 32 t.val) 1#32)))
    = IntOp.subi (IntOp.minsi (IntOp.addi (BitVec.ofNat 32 t.val) (BitVec.ofNat 32 1)) 2048#32) (IntOp.maxsi (IntOp.subi (BitVec.ofNat 32 t.val) (BitVec.ofNat 32 1)) 0#32) := by decide +kernel

/-- The count of the window of half width 1. -/
theorem count1 (b : Fin 4) (t : Fin 2048) (k : Fin 128) (h1) (h2) (h3) (h4) (h5) (h6) (h7) (h8) :
    (broadcastInDim S4x2048x128 ![0, 1, 2] h1 (broadcastInDim S1x2048x1 ![1] h2 (sitofp .f32 (subi (minsi (broadcastInDim S2048 ![] h3 (id (constantI S_ 32 2048#32))) (maxsi (broadcastInDim S2048 ![] h4 (id (constantI S_ 32 0#32))) (addi (res_main_v261 V0) (broadcastInDim S2048 ![] h5 (constantI S_ 32 1#32))))) (minsi (broadcastInDim S2048 ![] h6 (id (constantI S_ 32 2048#32))) (maxsi (broadcastInDim S2048 ![] h7 (id (constantI S_ 32 0#32))) (subi (res_main_v261 V0) (broadcastInDim S2048 ![] h8 (constantI S_ 32 1#32)))))) : FVec Ideal S2048 .f32)) : FVec Ideal S4x2048x128 .f32) (ix3 b t k)
      = tokensIn 1 t.val := by
  rw [bdTok, bdInsTok]
  exact congrArg (FloatOps.sitofp (F := Ideal) .f32) (clip1 t)

theorem v285_apply (b : Fin 4) (t : Fin 2048) (k : Fin 128) : (res_main_v285 V0 : S4x2048x128.Idx → EReal) (ix3 b t k) = ent (P V0) (2048 * b.val + t.val) (4096 + (128 + k.val)) := by
  unfold res_main_v285
  exact (AttRef.slice3 _ _ b t k ⟨128 + k.val, by omega⟩ rfl).trans (v2_apply V0 b t _)

theorem v286_apply (b : Fin 4) (s : Fin 2052) (k : Fin 128) : (res_main_v286 V0 : S4x2052x128.Idx → EReal) (ix3 b s k) = within (fun n => ent (P V0) n (4096 + (128 + k.val))) b.val (s.val + 14) := by
  unfold res_main_v286
  exact padMid _ _ _ _ zero_pad (by decide) (fun n => ent (P V0) n (4096 + (128 + k.val))) b s k fun t => v285_apply V0 b t k

/-- Clipping at both ends leaves the window's two ends. -/
theorem clip2 : ∀ t : Fin 2048, IntOp.subi (IntOp.minsi 2048#32 (IntOp.maxsi 0#32 (IntOp.addi (BitVec.ofNat 32 t.val) 2#32))) (IntOp.minsi 2048#32 (IntOp.maxsi 0#32 (IntOp.subi (BitVec.ofNat 32 t.val) 2#32)))
    = IntOp.subi (IntOp.minsi (IntOp.addi (BitVec.ofNat 32 t.val) (BitVec.ofNat 32 2)) 2048#32) (IntOp.maxsi (IntOp.subi (BitVec.ofNat 32 t.val) (BitVec.ofNat 32 2)) 0#32) := by decide +kernel

/-- The count of the window of half width 2. -/
theorem count2 (b : Fin 4) (t : Fin 2048) (k : Fin 128) (h1) (h2) (h3) (h4) (h5) (h6) (h7) (h8) :
    (broadcastInDim S4x2048x128 ![0, 1, 2] h1 (broadcastInDim S1x2048x1 ![1] h2 (sitofp .f32 (subi (minsi (broadcastInDim S2048 ![] h3 (id (constantI S_ 32 2048#32))) (maxsi (broadcastInDim S2048 ![] h4 (id (constantI S_ 32 0#32))) (addi (res_main_v261 V0) (broadcastInDim S2048 ![] h5 (constantI S_ 32 2#32))))) (minsi (broadcastInDim S2048 ![] h6 (id (constantI S_ 32 2048#32))) (maxsi (broadcastInDim S2048 ![] h7 (id (constantI S_ 32 0#32))) (subi (res_main_v261 V0) (broadcastInDim S2048 ![] h8 (constantI S_ 32 2#32)))))) : FVec Ideal S2048 .f32)) : FVec Ideal S4x2048x128 .f32) (ix3 b t k)
      = tokensIn 2 t.val := by
  rw [bdTok, bdInsTok]
  exact congrArg (FloatOps.sitofp (F := Ideal) .f32) (clip2 t)

theorem v312_apply (b : Fin 4) (t : Fin 2048) (k : Fin 128) : (res_main_v312 V0 : S4x2048x128.Idx → EReal) (ix3 b t k) = ent (P V0) (2048 * b.val + t.val) (4096 + (256 + k.val)) := by
  unfold res_main_v312
  exact (AttRef.slice3 _ _ b t k ⟨256 + k.val, by omega⟩ rfl).trans (v2_apply V0 b t _)

theorem v313_apply (b : Fin 4) (s : Fin 2056) (k : Fin 128) : (res_main_v313 V0 : S4x2056x128.Idx → EReal) (ix3 b s k) = within (fun n => ent (P V0) n (4096 + (256 + k.val))) b.val (s.val + 12) := by
  unfold res_main_v313
  exact padMid _ _ _ _ zero_pad (by decide) (fun n => ent (P V0) n (4096 + (256 + k.val))) b s k fun t => v312_apply V0 b t k

/-- Clipping at both ends leaves the window's two ends. -/
theorem clip4 : ∀ t : Fin 2048, IntOp.subi (IntOp.minsi 2048#32 (IntOp.maxsi 0#32 (IntOp.addi (BitVec.ofNat 32 t.val) 4#32))) (IntOp.minsi 2048#32 (IntOp.maxsi 0#32 (IntOp.subi (BitVec.ofNat 32 t.val) 4#32)))
    = IntOp.subi (IntOp.minsi (IntOp.addi (BitVec.ofNat 32 t.val) (BitVec.ofNat 32 4)) 2048#32) (IntOp.maxsi (IntOp.subi (BitVec.ofNat 32 t.val) (BitVec.ofNat 32 4)) 0#32) := by decide +kernel

/-- The count of the window of half width 4. -/
theorem count4 (b : Fin 4) (t : Fin 2048) (k : Fin 128) (h1) (h2) (h3) (h4) (h5) (h6) (h7) (h8) :
    (broadcastInDim S4x2048x128 ![0, 1, 2] h1 (broadcastInDim S1x2048x1 ![1] h2 (sitofp .f32 (subi (minsi (broadcastInDim S2048 ![] h3 (id (constantI S_ 32 2048#32))) (maxsi (broadcastInDim S2048 ![] h4 (id (constantI S_ 32 0#32))) (addi (res_main_v261 V0) (broadcastInDim S2048 ![] h5 (constantI S_ 32 4#32))))) (minsi (broadcastInDim S2048 ![] h6 (id (constantI S_ 32 2048#32))) (maxsi (broadcastInDim S2048 ![] h7 (id (constantI S_ 32 0#32))) (subi (res_main_v261 V0) (broadcastInDim S2048 ![] h8 (constantI S_ 32 4#32)))))) : FVec Ideal S2048 .f32)) : FVec Ideal S4x2048x128 .f32) (ix3 b t k)
      = tokensIn 4 t.val := by
  rw [bdTok, bdInsTok]
  exact congrArg (FloatOps.sitofp (F := Ideal) .f32) (clip4 t)

theorem v347_apply (b : Fin 4) (t : Fin 2048) (k : Fin 128) : (res_main_v347 V0 : S4x2048x128.Idx → EReal) (ix3 b t k) = ent (P V0) (2048 * b.val + t.val) (4096 + (384 + k.val)) := by
  unfold res_main_v347
  exact (AttRef.slice3 _ _ b t k ⟨384 + k.val, by omega⟩ rfl).trans (v2_apply V0 b t _)

theorem v348_apply (b : Fin 4) (s : Fin 2064) (k : Fin 128) : (res_main_v348 V0 : S4x2064x128.Idx → EReal) (ix3 b s k) = within (fun n => ent (P V0) n (4096 + (384 + k.val))) b.val (s.val + 8) := by
  unfold res_main_v348
  exact padMid _ _ _ _ zero_pad (by decide) (fun n => ent (P V0) n (4096 + (384 + k.val))) b s k fun t => v347_apply V0 b t k

/-- Clipping at both ends leaves the window's two ends. -/
theorem clip8 : ∀ t : Fin 2048, IntOp.subi (IntOp.minsi 2048#32 (IntOp.maxsi 0#32 (IntOp.addi (BitVec.ofNat 32 t.val) 8#32))) (IntOp.minsi 2048#32 (IntOp.maxsi 0#32 (IntOp.subi (BitVec.ofNat 32 t.val) 8#32)))
    = IntOp.subi (IntOp.minsi (IntOp.addi (BitVec.ofNat 32 t.val) (BitVec.ofNat 32 8)) 2048#32) (IntOp.maxsi (IntOp.subi (BitVec.ofNat 32 t.val) (BitVec.ofNat 32 8)) 0#32) := by decide +kernel

/-- The count of the window of half width 8. -/
theorem count8 (b : Fin 4) (t : Fin 2048) (k : Fin 128) (h1) (h2) (h3) (h4) (h5) (h6) (h7) (h8) :
    (broadcastInDim S4x2048x128 ![0, 1, 2] h1 (broadcastInDim S1x2048x1 ![1] h2 (sitofp .f32 (subi (minsi (broadcastInDim S2048 ![] h3 (id (constantI S_ 32 2048#32))) (maxsi (broadcastInDim S2048 ![] h4 (id (constantI S_ 32 0#32))) (addi (res_main_v261 V0) (broadcastInDim S2048 ![] h5 (constantI S_ 32 8#32))))) (minsi (broadcastInDim S2048 ![] h6 (id (constantI S_ 32 2048#32))) (maxsi (broadcastInDim S2048 ![] h7 (id (constantI S_ 32 0#32))) (subi (res_main_v261 V0) (broadcastInDim S2048 ![] h8 (constantI S_ 32 8#32)))))) : FVec Ideal S2048 .f32)) : FVec Ideal S4x2048x128 .f32) (ix3 b t k)
      = tokensIn 8 t.val := by
  rw [bdTok, bdInsTok]
  exact congrArg (FloatOps.sitofp (F := Ideal) .f32) (clip8 t)

theorem cat4_0 (x0 x1 x2 x3 : S8192x128.Idx → α) (h) (n : Fin 8192) (c : Fin 512) (k : Fin 128) (hk : c.val = 0 + k.val) :
    concatenate S8192x512 1 [⟨S8192x128, x0⟩, ⟨S8192x128, x1⟩, ⟨S8192x128, x2⟩, ⟨S8192x128, x3⟩] h (ix2 n c) = x0 (ix2 n k) := by
  refine concatenate_apply_piece 1 _ h (ix2 n c) 0 (by simp) S8192x128 x0 rfl rfl 0 (by first | rfl | simp) (ix2 n k) ?_ ?_
  · intro b hb
    match b with
    | ⟨0, _⟩ => rfl
    | ⟨1, _⟩ => exact absurd rfl hb
  · exact hk.symm

theorem cat4_1 (x0 x1 x2 x3 : S8192x128.Idx → α) (h) (n : Fin 8192) (c : Fin 512) (k : Fin 128) (hk : c.val = 128 + k.val) :
    concatenate S8192x512 1 [⟨S8192x128, x0⟩, ⟨S8192x128, x1⟩, ⟨S8192x128, x2⟩, ⟨S8192x128, x3⟩] h (ix2 n c) = x1 (ix2 n k) := by
  refine concatenate_apply_piece 1 _ h (ix2 n c) 1 (by simp) S8192x128 x1 rfl rfl 128 (by first | rfl | simp) (ix2 n k) ?_ ?_
  · intro b hb
    match b with
    | ⟨0, _⟩ => rfl
    | ⟨1, _⟩ => exact absurd rfl hb
  · exact hk.symm

theorem cat4_2 (x0 x1 x2 x3 : S8192x128.Idx → α) (h) (n : Fin 8192) (c : Fin 512) (k : Fin 128) (hk : c.val = 256 + k.val) :
    concatenate S8192x512 1 [⟨S8192x128, x0⟩, ⟨S8192x128, x1⟩, ⟨S8192x128, x2⟩, ⟨S8192x128, x3⟩] h (ix2 n c) = x2 (ix2 n k) := by
  refine concatenate_apply_piece 1 _ h (ix2 n c) 2 (by simp) S8192x128 x2 rfl rfl 256 (by first | rfl | simp) (ix2 n k) ?_ ?_
  · intro b hb
    match b with
    | ⟨0, _⟩ => rfl
    | ⟨1, _⟩ => exact absurd rfl hb
  · exact hk.symm

theorem cat4_3 (x0 x1 x2 x3 : S8192x128.Idx → α) (h) (n : Fin 8192) (c : Fin 512) (k : Fin 128) (hk : c.val = 384 + k.val) :
    concatenate S8192x512 1 [⟨S8192x128, x0⟩, ⟨S8192x128, x1⟩, ⟨S8192x128, x2⟩, ⟨S8192x128, x3⟩] h (ix2 n c) = x3 (ix2 n k) := by
  refine concatenate_apply_piece 1 _ h (ix2 n c) 3 (by simp) S8192x128 x3 rfl rfl 384 (by first | rfl | simp) (ix2 n k) ?_ ?_
  · intro b hb
    match b with
    | ⟨0, _⟩ => rfl
    | ⟨1, _⟩ => exact absurd rfl hb
  · exact hk.symm

/-- The pooled tokens of the group of half width 1, times its weight. -/
theorem group0 (b : Fin 4) (t : Fin 2048) (n : Fin 8192) (hn : n.val = b.val * 2048 + t.val) (c : Fin 512) (k : Fin 128) (hk : c.val = 0 + k.val) :
    (res_main_v398 V0 : S8192x512.Idx → EReal) (ix2 n c)
      = ∑ j : Fin 128, (Ideal.div (total (P V0) 1 b.val t.val (0 + j.val)) (tokensIn 1 t.val) - ent (P V0) (2048 * b.val + t.val) (4096 + (0 + j.val))) * Wg V0 (ix3 0 j k) := by
  unfold res_main_v398
  refine (cat4_0 _ _ _ _ _ n c k hk).trans ((hdot2 none _ _ n k).trans (Finset.sum_congr rfl fun j _ => congrArg₂ (· * ·) ?_ ?_))
  · refine (castFlat _ _ b t j n hn).trans ?_
    rw [subf_apply, hostDivf_apply, v262_apply, count1]
    refine congrArg₂ (· - ·) (congrArg₂ Ideal.div ?_ rfl) rfl
    refine Eq.trans ?_ (sum2 (fun o : Fin 2 => within (fun n => ent (P V0) n (4096 + (0 + j.val))) b.val (t.val + 15 + o.val))).symm
    rw [addf_apply]
    refine congrArg₂ (· + ·) ?_ ((sliceMid _ _ b t j ⟨1 + t.val, by omega⟩ rfl).trans ((v263_apply V0 b _ j).trans (congrArg (within _ _) (by show 1 + t.val + 15 = t.val + 15 + 1; omega))))
    rw [addf_apply]
    refine (congrArg₂ (· + ·) Ideal.ofBits_zero_f32 ((sliceMid _ _ b t j ⟨0 + t.val, by omega⟩ rfl).trans ((v263_apply V0 b _ j).trans (congrArg (within _ _) (by show 0 + t.val + 15 = t.val + 15 + 0; omega))))).trans (zero_add _)
  · refine (castDrop _ _ j k).trans ?_
    exact sliceFirst (V0 (Proc.devRef .tc main_arg1) : S4x128x128.Idx → EReal) _ j k 0 rfl

/-- The pooled tokens of the group of half width 2, times its weight. -/
theorem group1 (b : Fin 4) (t : Fin 2048) (n : Fin 8192) (hn : n.val = b.val * 2048 + t.val) (c : Fin 512) (k : Fin 128) (hk : c.val = 128 + k.val) :
    (res_main_v398 V0 : S8192x512.Idx → EReal) (ix2 n c)
      = ∑ j : Fin 128, (Ideal.div (total (P V0) 2 b.val t.val (128 + j.val)) (tokensIn 2 t.val) - ent (P V0) (2048 * b.val + t.val) (4096 + (128 + j.val))) * Wg V0 (ix3 1 j k) := by
  unfold res_main_v398
  refine (cat4_1 _ _ _ _ _ n c k hk).trans ((hdot2 none _ _ n k).trans (Finset.sum_congr rfl fun j _ => congrArg₂ (· * ·) ?_ ?_))
  · refine (castFlat _ _ b t j n hn).trans ?_
    rw [subf_apply, hostDivf_apply, v285_apply, count2]
    refine congrArg₂ (· - ·) (congrArg₂ Ideal.div ?_ rfl) rfl
    refine Eq.trans ?_ (sum4 (fun o : Fin 4 => within (fun n => ent (P V0) n (4096 + (128 + j.val))) b.val (t.val + 14 + o.val))).symm
    rw [addf_apply]
    refine congrArg₂ (· + ·) ?_ ((sliceMid _ _ b t j ⟨3 + t.val, by omega⟩ rfl).trans ((v286_apply V0 b _ j).trans (congrArg (within _ _) (by show 3 + t.val + 14 = t.val + 14 + 3; omega))))
    rw [addf_apply]
    refine congrArg₂ (· + ·) ?_ ((sliceMid _ _ b t j ⟨2 + t.val, by omega⟩ rfl).trans ((v286_apply V0 b _ j).trans (congrArg (within _ _) (by show 2 + t.val + 14 = t.val + 14 + 2; omega))))
    rw [addf_apply]
    refine congrArg₂ (· + ·) ?_ ((sliceMid _ _ b t j ⟨1 + t.val, by omega⟩ rfl).trans ((v286_apply V0 b _ j).trans (congrArg (within _ _) (by show 1 + t.val + 14 = t.val + 14 + 1; omega))))
    rw [addf_apply]
    refine (congrArg₂ (· + ·) Ideal.ofBits_zero_f32 ((sliceMid _ _ b t j ⟨0 + t.val, by omega⟩ rfl).trans ((v286_apply V0 b _ j).trans (congrArg (within _ _) (by show 0 + t.val + 14 = t.val + 14 + 0; omega))))).trans (zero_add _)
  · refine (castDrop _ _ j k).trans ?_
    exact sliceFirst (V0 (Proc.devRef .tc main_arg1) : S4x128x128.Idx → EReal) _ j k 1 rfl

/-- The pooled tokens of the group of half width 4, times its weight. -/
theorem group2 (b : Fin 4) (t : Fin 2048) (n : Fin 8192) (hn : n.val = b.val * 2048 + t.val) (c : Fin 512) (k : Fin 128) (hk : c.val = 256 + k.val) :
    (res_main_v398 V0 : S8192x512.Idx → EReal) (ix2 n c)
      = ∑ j : Fin 128, (Ideal.div (total (P V0) 4 b.val t.val (256 + j.val)) (tokensIn 4 t.val) - ent (P V0) (2048 * b.val + t.val) (4096 + (256 + j.val))) * Wg V0 (ix3 2 j k) := by
  unfold res_main_v398
  refine (cat4_2 _ _ _ _ _ n c k hk).trans ((hdot2 none _ _ n k).trans (Finset.sum_congr rfl fun j _ => congrArg₂ (· * ·) ?_ ?_))
  · refine (castFlat _ _ b t j n hn).trans ?_
    rw [subf_apply, hostDivf_apply, v312_apply, count4]
    refine congrArg₂ (· - ·) (congrArg₂ Ideal.div ?_ rfl) rfl
    refine Eq.trans ?_ (sum8 (fun o : Fin 8 => within (fun n => ent (P V0) n (4096 + (256 + j.val))) b.val (t.val + 12 + o.val))).symm
    rw [addf_apply]
    refine congrArg₂ (· + ·) ?_ ((sliceMid _ _ b t j ⟨7 + t.val, by omega⟩ rfl).trans ((v313_apply V0 b _ j).trans (congrArg (within _ _) (by show 7 + t.val + 12 = t.val + 12 + 7; omega))))
    rw [addf_apply]
    refine congrArg₂ (· + ·) ?_ ((sliceMid _ _ b t j ⟨6 + t.val, by omega⟩ rfl).trans ((v313_apply V0 b _ j).trans (congrArg (within _ _) (by show 6 + t.val + 12 = t.val + 12 + 6; omega))))
    rw [addf_apply]
    refine congrArg₂ (· + ·) ?_ ((sliceMid _ _ b t j ⟨5 + t.val, by omega⟩ rfl).trans ((v313_apply V0 b _ j).trans (congrArg (within _ _) (by show 5 + t.val + 12 = t.val + 12 + 5; omega))))
    rw [addf_apply]
    refine congrArg₂ (· + ·) ?_ ((sliceMid _ _ b t j ⟨4 + t.val, by omega⟩ rfl).trans ((v313_apply V0 b _ j).trans (congrArg (within _ _) (by show 4 + t.val + 12 = t.val + 12 + 4; omega))))
    rw [addf_apply]
    refine congrArg₂ (· + ·) ?_ ((sliceMid _ _ b t j ⟨3 + t.val, by omega⟩ rfl).trans ((v313_apply V0 b _ j).trans (congrArg (within _ _) (by show 3 + t.val + 12 = t.val + 12 + 3; omega))))
    rw [addf_apply]
    refine congrArg₂ (· + ·) ?_ ((sliceMid _ _ b t j ⟨2 + t.val, by omega⟩ rfl).trans ((v313_apply V0 b _ j).trans (congrArg (within _ _) (by show 2 + t.val + 12 = t.val + 12 + 2; omega))))
    rw [addf_apply]
    refine congrArg₂ (· + ·) ?_ ((sliceMid _ _ b t j ⟨1 + t.val, by omega⟩ rfl).trans ((v313_apply V0 b _ j).trans (congrArg (within _ _) (by show 1 + t.val + 12 = t.val + 12 + 1; omega))))
    rw [addf_apply]
    refine (congrArg₂ (· + ·) Ideal.ofBits_zero_f32 ((sliceMid _ _ b t j ⟨0 + t.val, by omega⟩ rfl).trans ((v313_apply V0 b _ j).trans (congrArg (within _ _) (by show 0 + t.val + 12 = t.val + 12 + 0; omega))))).trans (zero_add _)
  · refine (castDrop _ _ j k).trans ?_
    exact sliceFirst (V0 (Proc.devRef .tc main_arg1) : S4x128x128.Idx → EReal) _ j k 2 rfl

/-- The pooled tokens of the group of half width 8, times its weight. -/
theorem group3 (b : Fin 4) (t : Fin 2048) (n : Fin 8192) (hn : n.val = b.val * 2048 + t.val) (c : Fin 512) (k : Fin 128) (hk : c.val = 384 + k.val) :
    (res_main_v398 V0 : S8192x512.Idx → EReal) (ix2 n c)
      = ∑ j : Fin 128, (Ideal.div (total (P V0) 8 b.val t.val (384 + j.val)) (tokensIn 8 t.val) - ent (P V0) (2048 * b.val + t.val) (4096 + (384 + j.val))) * Wg V0 (ix3 3 j k) := by
  unfold res_main_v398
  refine (cat4_3 _ _ _ _ _ n c k hk).trans ((hdot2 none _ _ n k).trans (Finset.sum_congr rfl fun j _ => congrArg₂ (· * ·) ?_ ?_))
  · refine (castFlat _ _ b t j n hn).trans ?_
    rw [subf_apply, hostDivf_apply, v347_apply, count8]
    refine congrArg₂ (· - ·) (congrArg₂ Ideal.div ?_ rfl) rfl
    refine Eq.trans ?_ (sum16 (fun o : Fin 16 => within (fun n => ent (P V0) n (4096 + (384 + j.val))) b.val (t.val + 8 + o.val))).symm
    rw [addf_apply]
    refine congrArg₂ (· + ·) ?_ ((sliceMid _ _ b t j ⟨15 + t.val, by omega⟩ rfl).trans ((v348_apply V0 b _ j).trans (congrArg (within _ _) (by show 15 + t.val + 8 = t.val + 8 + 15; omega))))
    rw [addf_apply]
    refine congrArg₂ (· + ·) ?_ ((sliceMid _ _ b t j ⟨14 + t.val, by omega⟩ rfl).trans ((v348_apply V0 b _ j).trans (congrArg (within _ _) (by show 14 + t.val + 8 = t.val + 8 + 14; omega))))
    rw [addf_apply]
    refine congrArg₂ (· + ·) ?_ ((sliceMid _ _ b t j ⟨13 + t.val, by omega⟩ rfl).trans ((v348_apply V0 b _ j).trans (congrArg (within _ _) (by show 13 + t.val + 8 = t.val + 8 + 13; omega))))
    rw [addf_apply]
    refine congrArg₂ (· + ·) ?_ ((sliceMid _ _ b t j ⟨12 + t.val, by omega⟩ rfl).trans ((v348_apply V0 b _ j).trans (congrArg (within _ _) (by show 12 + t.val + 8 = t.val + 8 + 12; omega))))
    rw [addf_apply]
    refine congrArg₂ (· + ·) ?_ ((sliceMid _ _ b t j ⟨11 + t.val, by omega⟩ rfl).trans ((v348_apply V0 b _ j).trans (congrArg (within _ _) (by show 11 + t.val + 8 = t.val + 8 + 11; omega))))
    rw [addf_apply]
    refine congrArg₂ (· + ·) ?_ ((sliceMid _ _ b t j ⟨10 + t.val, by omega⟩ rfl).trans ((v348_apply V0 b _ j).trans (congrArg (within _ _) (by show 10 + t.val + 8 = t.val + 8 + 10; omega))))
    rw [addf_apply]
    refine congrArg₂ (· + ·) ?_ ((sliceMid _ _ b t j ⟨9 + t.val, by omega⟩ rfl).trans ((v348_apply V0 b _ j).trans (congrArg (within _ _) (by show 9 + t.val + 8 = t.val + 8 + 9; omega))))
    rw [addf_apply]
    refine congrArg₂ (· + ·) ?_ ((sliceMid _ _ b t j ⟨8 + t.val, by omega⟩ rfl).trans ((v348_apply V0 b _ j).trans (congrArg (within _ _) (by show 8 + t.val + 8 = t.val + 8 + 8; omega))))
    rw [addf_apply]
    refine congrArg₂ (· + ·) ?_ ((sliceMid _ _ b t j ⟨7 + t.val, by omega⟩ rfl).trans ((v348_apply V0 b _ j).trans (congrArg (within _ _) (by show 7 + t.val + 8 = t.val + 8 + 7; omega))))
    rw [addf_apply]
    refine congrArg₂ (· + ·) ?_ ((sliceMid _ _ b t j ⟨6 + t.val, by omega⟩ rfl).trans ((v348_apply V0 b _ j).trans (congrArg (within _ _) (by show 6 + t.val + 8 = t.val + 8 + 6; omega))))
    rw [addf_apply]
    refine congrArg₂ (· + ·) ?_ ((sliceMid _ _ b t j ⟨5 + t.val, by omega⟩ rfl).trans ((v348_apply V0 b _ j).trans (congrArg (within _ _) (by show 5 + t.val + 8 = t.val + 8 + 5; omega))))
    rw [addf_apply]
    refine congrArg₂ (· + ·) ?_ ((sliceMid _ _ b t j ⟨4 + t.val, by omega⟩ rfl).trans ((v348_apply V0 b _ j).trans (congrArg (within _ _) (by show 4 + t.val + 8 = t.val + 8 + 4; omega))))
    rw [addf_apply]
    refine congrArg₂ (· + ·) ?_ ((sliceMid _ _ b t j ⟨3 + t.val, by omega⟩ rfl).trans ((v348_apply V0 b _ j).trans (congrArg (within _ _) (by show 3 + t.val + 8 = t.val + 8 + 3; omega))))
    rw [addf_apply]
    refine congrArg₂ (· + ·) ?_ ((sliceMid _ _ b t j ⟨2 + t.val, by omega⟩ rfl).trans ((v348_apply V0 b _ j).trans (congrArg (within _ _) (by show 2 + t.val + 8 = t.val + 8 + 2; omega))))
    rw [addf_apply]
    refine congrArg₂ (· + ·) ?_ ((sliceMid _ _ b t j ⟨1 + t.val, by omega⟩ rfl).trans ((v348_apply V0 b _ j).trans (congrArg (within _ _) (by show 1 + t.val + 8 = t.val + 8 + 1; omega))))
    rw [addf_apply]
    refine (congrArg₂ (· + ·) Ideal.ofBits_zero_f32 ((sliceMid _ _ b t j ⟨0 + t.val, by omega⟩ rfl).trans ((v348_apply V0 b _ j).trans (congrArg (within _ _) (by show 0 + t.val + 8 = t.val + 8 + 0; omega))))).trans (zero_add _)
  · refine (castDrop _ _ j k).trans ?_
    exact sliceFirst (V0 (Proc.devRef .tc main_arg1) : S4x128x128.Idx → EReal) _ j k 3 rfl

theorem pa (p : S8192x6656.Idx → EReal) (wg : S4x128x128.Idx → EReal) (ps : S512.Idx → EReal) (g g' : Fin 4) (h h' b t : ℕ) (k k' : Fin 128) (eg : g.val = g'.val) (eh : h = h') (ek : k.val = k'.val) :
    poolAt p wg ps g h b t k = poolAt p wg ps g' h' b t k' := by
  obtain rfl := Fin.ext eg
  obtain rfl := eh
  obtain rfl := Fin.ext ek
  rfl

/-- The pooling branch's result. -/
theorem pool_eq (n : Fin 8192) (c : Fin 512) :
    (truncf .bf16 (mulf (mulf (res_main_v398 V0) (broadcastInDim S8192x512 ![0, 1] bcast_S1x512_S8192x512_0_1 (broadcastInDim S1x512 ![1] bcast_S512_S1x512_1 (V0 (Proc.devRef .tc main_arg2))))) (shapeCast _ (mulf (res_main_v3 V0) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (res_main_v3 V0)))))) shapeCasts_S4x2048x512_S8192x512)) bitsLt_bf16_f32 : FVec Ideal S8192x512 .bf16) (ix2 n c)
      = poolBranch (P V0) (Wg V0) (Ps V0) (n.val / 2048) (n.val % 2048) c := by
  have hn : n.val = (⟨n.val / 2048, by omega⟩ : Fin 4).val * 2048 + (⟨n.val % 2048, by omega⟩ : Fin 2048).val := by show n.val = n.val / 2048 * 2048 + n.val % 2048; omega
  rw [truncf_apply, mulf_apply, mulf_apply, gate _ _ _ _ _ c n hn, v3_apply, Ctx.bdDown2, Ctx.bdRowOf]
  unfold poolBranch
  have hc : c.val < 512 := c.isLt
  by_cases c0 : c.val < 128
  · refine Eq.trans ?_ (pa (P V0) (Wg V0) (Ps V0) 0 ⟨c.val / 128, by omega⟩ 1 (2 ^ (c.val / 128)) (n.val / 2048) (n.val % 2048) ⟨c.val - 0, by omega⟩ ⟨c.val % 128, by omega⟩ (by show 0 = c.val / 128; omega)
      (by rw [show c.val / 128 = 0 by omega]; rfl) (by show c.val - 0 = c.val % 128; omega))
    rw [group0 V0 _ _ n hn c ⟨c.val - 0, by omega⟩ (by show c.val = 0 + (c.val - 0); omega)]
    unfold poolAt
    have e : 0 + (c.val - 0) = c.val := by omega
    refine congrArg₂ (· * ·) (congrArg₂ (· * ·) rfl (congrArg (fun k => Ps V0 (ix1 k)) (Fin.ext e.symm))) (congrArg silu (congrArg (fun k => ent (P V0) (2048 * (n.val / 2048) + n.val % 2048) (4608 + k)) e.symm))
  by_cases c1 : c.val < 256
  · refine Eq.trans ?_ (pa (P V0) (Wg V0) (Ps V0) 1 ⟨c.val / 128, by omega⟩ 2 (2 ^ (c.val / 128)) (n.val / 2048) (n.val % 2048) ⟨c.val - 128, by omega⟩ ⟨c.val % 128, by omega⟩ (by show 1 = c.val / 128; omega)
      (by rw [show c.val / 128 = 1 by omega]; rfl) (by show c.val - 128 = c.val % 128; omega))
    rw [group1 V0 _ _ n hn c ⟨c.val - 128, by omega⟩ (by show c.val = 128 + (c.val - 128); omega)]
    unfold poolAt
    have e : 128 + (c.val - 128) = c.val := by omega
    refine congrArg₂ (· * ·) (congrArg₂ (· * ·) rfl (congrArg (fun k => Ps V0 (ix1 k)) (Fin.ext e.symm))) (congrArg silu (congrArg (fun k => ent (P V0) (2048 * (n.val / 2048) + n.val % 2048) (4608 + k)) e.symm))
  by_cases c2 : c.val < 384
  · refine Eq.trans ?_ (pa (P V0) (Wg V0) (Ps V0) 2 ⟨c.val / 128, by omega⟩ 4 (2 ^ (c.val / 128)) (n.val / 2048) (n.val % 2048) ⟨c.val - 256, by omega⟩ ⟨c.val % 128, by omega⟩ (by show 2 = c.val / 128; omega)
      (by rw [show c.val / 128 = 2 by omega]; rfl) (by show c.val - 256 = c.val % 128; omega))
    rw [group2 V0 _ _ n hn c ⟨c.val - 256, by omega⟩ (by show c.val = 256 + (c.val - 256); omega)]
    unfold poolAt
    have e : 256 + (c.val - 256) = c.val := by omega
    refine congrArg₂ (· * ·) (congrArg₂ (· * ·) rfl (congrArg (fun k => Ps V0 (ix1 k)) (Fin.ext e.symm))) (congrArg silu (congrArg (fun k => ent (P V0) (2048 * (n.val / 2048) + n.val % 2048) (4608 + k)) e.symm))
  refine Eq.trans ?_ (pa (P V0) (Wg V0) (Ps V0) 3 ⟨c.val / 128, by omega⟩ 8 (2 ^ (c.val / 128)) (n.val / 2048) (n.val % 2048) ⟨c.val - 384, by omega⟩ ⟨c.val % 128, by omega⟩ (by show 3 = c.val / 128; omega)
    (by rw [show c.val / 128 = 3 by omega]; rfl) (by show c.val - 384 = c.val % 128; omega))
  rw [group3 V0 _ _ n hn c ⟨c.val - 384, by omega⟩ (by show c.val = 384 + (c.val - 384); omega)]
  unfold poolAt
  have e : 384 + (c.val - 384) = c.val := by omega
  refine congrArg₂ (· * ·) (congrArg₂ (· * ·) rfl (congrArg (fun k => Ps V0 (ix1 k)) (Fin.ext e.symm))) (congrArg silu (congrArg (fun k => ent (P V0) (2048 * (n.val / 2048) + n.val % 2048) (4608 + k)) e.symm))

end Cert.PoolRef

end
-- ==== Proof.PoolBlocks.lean ====
/- The pooling and convolution kernel's values, entry by entry. -/
module

public import proofs.«01_k».proof.Proof.PoolMath
public import proofs.«01_k».proof.Proof.Gen.PoolConvIdeal.Skeleton
public import Idealize.ShloMosaic.Lib.Claim
public import Idealize.ShloMosaic.Lib.IdealHost

@[expose] public section

noncomputable section

namespace Cert.PoolK

open Cert.PoolConvIdeal Cert.PoolConvIdeal.Gen Idealize.ShloMosaic Idealize.ShloMosaic.ValueIdx Idealize.ShloMosaic.TcCoe Cert.Reads Cert.PoolMath Idealize.SL.Sem
open scoped BigOperators

/-- A rectangle of a matrix reads the entry moved by its offsets. -/
theorem ld2 {M N m n o0 o1 : ℕ} {e : EltTy} (X : (⟨2, ![M, N]⟩ : Shape).Idx → Elt Ideal e) (h : ∀ a, (![o0, o1] : Fin 2 → ℕ) a + (![m, n] : Fin 2 → ℕ) a ≤ (⟨2, ![M, N]⟩ : Shape).size a)
    (r : Fin m) (c : Fin n) (r' : Fin M) (c' : Fin N) (hr : r'.val = o0 + r.val) (hc : c'.val = o1 + c.val) :
    View.ld (Val := Elt Ideal) (e' := e) X (Rect.unit (s := (⟨2, ![M, N]⟩ : Shape)) ![o0, o1] ![m, n] h) (ix2 r c) = X (ix2 r' c') := by
  refine congrArg X (Shape.idx_ext₂ ?_ ?_)
  · show o0 + 1 * r.val = r'.val
    omega
  · show o1 + 1 * c.val = c'.val
    omega

/-- 64 rows of the padded unit. -/
abbrev u64 (U : Vec Ideal S288x512 .f32) (o : ℕ) (h : ∀ a, (![o, 0] : Fin 2 → ℕ) a + (![64, 512] : Fin 2 → ℕ) a ≤ S288x512.size a) : FVec Ideal S64x512 .f32 :=
  View.ld (Val := Elt Ideal) (e' := .f32) U (Rect.unit (s := S288x512) ![o, 0] ![64, 512] h)

/-- One tap's weights. -/
abbrev tap (W : Vec Ideal S31x512 .f32) (j : ℕ) (h : ∀ a, (![j, 0] : Fin 2 → ℕ) a + (![1, 512] : Fin 2 → ℕ) a ≤ S31x512.size a) : FVec Ideal S1x512 .f32 :=
  View.ld (Val := Elt Ideal) (e' := .f32) W (Rect.unit (s := S31x512) ![j, 0] ![1, 512] h)

/-- 256 rows and 128 columns of the padded tokens. -/
abbrev p256 (P : Vec Ideal S288x512 .f32) (o q : ℕ) (h : ∀ a, (![o, q] : Fin 2 → ℕ) a + (![256, 128] : Fin 2 → ℕ) a ≤ S288x512.size a) : FVec Ideal S256x128 .f32 :=
  View.ld (Val := Elt Ideal) (e' := .f32) P (Rect.unit (s := S288x512) ![o, q] ![256, 128] h)

/-- 128 columns of a block. -/
abbrev c128 (X : Vec Ideal S256x512 .bf16) (q : ℕ) (h : ∀ a, (![0, q] : Fin 2 → ℕ) a + (![256, 128] : Fin 2 → ℕ) a ≤ S256x512.size a) : FVec Ideal S256x128 .bf16 :=
  View.ld (Val := Elt Ideal) (e' := .bf16) X (Rect.unit (s := S256x512) ![0, q] ![256, 128] h)

/-- 128 columns of a row. -/
abbrev r128 (X : Vec Ideal S1x512 .f32) (q : ℕ) (h : ∀ a, (![0, q] : Fin 2 → ℕ) a + (![1, 128] : Fin 2 → ℕ) a ≤ S1x512.size a) : FVec Ideal S1x128 .f32 :=
  View.ld (Val := Elt Ideal) (e' := .f32) X (Rect.unit (s := S1x512) ![0, q] ![1, 128] h)

/-- One group's weight. -/
abbrev g128 (X : Vec Ideal S4x128x128 .bf16) (g : ℕ) (h : ∀ a, (![g, 0, 0] : Fin 3 → ℕ) a + (![1, 128, 128] : Fin 3 → ℕ) a ≤ S4x128x128.size a) : FVec Ideal S1x128x128 .bf16 :=
  View.ld (Val := Elt Ideal) (e' := .bf16) X (Rect.unit (s := S4x128x128) ![g, 0, 0] ![1, 128, 128] h)

/-- A point's tile in its batch. -/
def tileOf (i : grid0.Coords) : BitVec 32 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

theorem tile_all : ∀ a : Fin 32,
    (let v2 : BitVec 32 := Scalar.remsi (BitVec.ofNat 32 a.val) (Scalar.select (Scalar.cmpi .eq 8#32 0#32) 1#32 8#32)
     Scalar.select (Scalar.andi (Scalar.xori (Scalar.cmpi .slt v2 0#32) (Scalar.cmpi .slt (Scalar.select (Scalar.cmpi .eq 8#32 0#32) 1#32 8#32) 0#32)) (Scalar.cmpi .ne v2 0#32))
       (Scalar.addi v2 (Scalar.select (Scalar.cmpi .eq 8#32 0#32) 1#32 8#32)) v2) = BitVec.ofNat 32 (a.val % 8) := by decide +kernel

/-- It is the point modulo eight. -/
theorem tileOf_eq (i : grid0.Coords) : tileOf i = BitVec.ofNat 32 ((i 0).val % 8) := tile_all (i 0)

/-- Whether the tile has one before it. -/
def hasPrev (i : grid0.Coords) : BitVec 1 := Scalar.cmpi .sgt (tileOf i) 0#32

/-- Whether the tile has one after it. -/
def hasNext (i : grid0.Coords) : BitVec 1 := Scalar.cmpi .slt (tileOf i) 7#32

theorem prev_all : ∀ a : Fin 8, Scalar.cmpi .sgt (BitVec.ofNat 32 a.val) 0#32 = if 0 < a.val then 1#1 else 0#1 := by decide +kernel
theorem next_all : ∀ a : Fin 8, Scalar.cmpi .slt (BitVec.ofNat 32 a.val) 7#32 = if a.val < 7 then 1#1 else 0#1 := by decide +kernel

theorem hasPrev_eq (i : grid0.Coords) : hasPrev i = if 0 < (i 0).val % 8 then 1#1 else 0#1 := by
  unfold hasPrev
  rw [tileOf_eq]
  exact prev_all ⟨(i 0).val % 8, by omega⟩

theorem hasNext_eq (i : grid0.Coords) : hasNext i = if (i 0).val % 8 < 7 then 1#1 else 0#1 := by
  unfold hasNext
  rw [tileOf_eq]
  exact next_all ⟨(i 0).val % 8, by omega⟩

/-- The unit's rows before the tile. -/
theorem pay2_apply (i : grid0.Coords) (a b : FVec Ideal S16x512 .bf16) (r : Fin 16) (c : Fin 512) :
    k0_pay2 (F := Ideal) i a b (ix2 r c) = if 0 < (i 0).val % 8 then a (ix2 r c) * Ideal.logistic (b (ix2 r c)) else 0 := by
  have h : k0_pay2 (F := Ideal) i a b = shapeCast S16x512 (Scalar.select (hasPrev i) (mulf (extf .f32 a bitsLt_bf16_f32) (logistic (extf .f32 b bitsLt_bf16_f32)) : FVec Ideal S16x512 .f32) (broadcast S16x512 (Scalar.ofBits .f32 0x00000000#32))) shapeCasts_S16x512_S16x512 := rfl
  rw [h, shapeCast_self, hasPrev_eq]
  split_ifs
  · rw [select_one]; rfl
  · rw [select_zero]; exact Ideal.ofBits_zero_f32

/-- The unit's rows in the tile. -/
theorem pay3_apply (a b : FVec Ideal S256x512 .bf16) (r : Fin 256) (c : Fin 512) :
    k0_pay3 (F := Ideal) a b (ix2 r c) = a (ix2 r c) * Ideal.logistic (b (ix2 r c)) := by
  unfold k0_pay3
  rw [shapeCast_self]
  rfl

/-- The unit's rows after the tile. -/
theorem pay5_apply (i : grid0.Coords) (a b : FVec Ideal S16x512 .bf16) (r : Fin 16) (c : Fin 512) :
    k0_pay5 (F := Ideal) (hasNext i) (k0_pay4 a) b (ix2 r c) = if (i 0).val % 8 < 7 then a (ix2 r c) * Ideal.logistic (b (ix2 r c)) else 0 := by
  unfold k0_pay5 k0_pay4
  dsimp only
  rw [shapeCast_self, hasNext_eq]
  split_ifs
  · rw [select_one]; rfl
  · rw [select_zero]; exact Ideal.ofBits_zero_f32

/-- The tokens before the tile. -/
theorem pay6_apply (i : grid0.Coords) (a : FVec Ideal S16x512 .bf16) (r : Fin 16) (c : Fin 512) :
    k0_pay6 (F := Ideal) (hasPrev i) a (ix2 r c) = if 0 < (i 0).val % 8 then a (ix2 r c) else 0 := by
  unfold k0_pay6
  dsimp only
  rw [shapeCast_self, hasPrev_eq]
  split_ifs
  · rw [select_one]; rfl
  · rw [select_zero]; exact Ideal.ofBits_zero_f32

/-- The tokens in the tile. -/
theorem pay7_apply (a : FVec Ideal S256x512 .bf16) (r : Fin 256) (c : Fin 512) : k0_pay7 (F := Ideal) a (ix2 r c) = a (ix2 r c) := by
  unfold k0_pay7
  rw [shapeCast_self]
  rfl

/-- The tokens after the tile. -/
theorem pay8_apply (i : grid0.Coords) (a : FVec Ideal S16x512 .bf16) (r : Fin 16) (c : Fin 512) :
    k0_pay8 (F := Ideal) (hasNext i) a (ix2 r c) = if (i 0).val % 8 < 7 then a (ix2 r c) else 0 := by
  unfold k0_pay8
  dsimp only
  rw [shapeCast_self, hasNext_eq]
  split_ifs
  · rw [select_one]; rfl
  · rw [select_zero]; exact Ideal.ofBits_zero_f32

/-- The taps of 64 rows summed, with the bias. -/
def tapSum (u0 u1 u2 u3 u4 u5 u6 u7 u8 u9 u10 u11 u12 u13 u14 u15 u16 u17 u18 u19 u20 u21 u22 u23 u24 u25 u26 u27 u28 u29 u30 : FVec Ideal S64x512 .f32) (w0 w1 w2 w3 w4 w5 w6 w7 w8 w9 w10 w11 w12 w13 w14 w15 w16 w17 w18 w19 w20 w21 w22 w23 w24 w25 w26 w27 w28 w29 w30 bd : FVec Ideal S1x512 .f32) : FVec Ideal S64x512 .f32 :=
  addf (addf (addf (addf (addf (addf (addf (addf (addf (addf (addf (addf (addf (addf (addf (addf (addf (addf (addf (addf (addf (addf (addf (addf (addf (addf (addf (addf (addf (addf (addf (mulf u0 (broadcastTo S64x512 w0 broadcasts_S1x512_S64x512)) (mulf u1 (broadcastTo S64x512 w1 broadcasts_S1x512_S64x512))) (mulf u2 (broadcastTo S64x512 w2 broadcasts_S1x512_S64x512))) (mulf u3 (broadcastTo S64x512 w3 broadcasts_S1x512_S64x512))) (mulf u4 (broadcastTo S64x512 w4 broadcasts_S1x512_S64x512))) (mulf u5 (broadcastTo S64x512 w5 broadcasts_S1x512_S64x512))) (mulf u6 (broadcastTo S64x512 w6 broadcasts_S1x512_S64x512))) (mulf u7 (broadcastTo S64x512 w7 broadcasts_S1x512_S64x512))) (mulf u8 (broadcastTo S64x512 w8 broadcasts_S1x512_S64x512))) (mulf u9 (broadcastTo S64x512 w9 broadcasts_S1x512_S64x512))) (mulf u10 (broadcastTo S64x512 w10 broadcasts_S1x512_S64x512))) (mulf u11 (broadcastTo S64x512 w11 broadcasts_S1x512_S64x512))) (mulf u12 (broadcastTo S64x512 w12 broadcasts_S1x512_S64x512))) (mulf u13 (broadcastTo S64x512 w13 broadcasts_S1x512_S64x512))) (mulf u14 (broadcastTo S64x512 w14 broadcasts_S1x512_S64x512))) (mulf u15 (broadcastTo S64x512 w15 broadcasts_S1x512_S64x512))) (mulf u16 (broadcastTo S64x512 w16 broadcasts_S1x512_S64x512))) (mulf u17 (broadcastTo S64x512 w17 broadcasts_S1x512_S64x512))) (mulf u18 (broadcastTo S64x512 w18 broadcasts_S1x512_S64x512))) (mulf u19 (broadcastTo S64x512 w19 broadcasts_S1x512_S64x512))) (mulf u20 (broadcastTo S64x512 w20 broadcasts_S1x512_S64x512))) (mulf u21 (broadcastTo S64x512 w21 broadcasts_S1x512_S64x512))) (mulf u22 (broadcastTo S64x512 w22 broadcasts_S1x512_S64x512))) (mulf u23 (broadcastTo S64x512 w23 broadcasts_S1x512_S64x512))) (mulf u24 (broadcastTo S64x512 w24 broadcasts_S1x512_S64x512))) (mulf u25 (broadcastTo S64x512 w25 broadcasts_S1x512_S64x512))) (mulf u26 (broadcastTo S64x512 w26 broadcasts_S1x512_S64x512))) (mulf u27 (broadcastTo S64x512 w27 broadcasts_S1x512_S64x512))) (mulf u28 (broadcastTo S64x512 w28 broadcasts_S1x512_S64x512))) (mulf u29 (broadcastTo S64x512 w29 broadcasts_S1x512_S64x512))) (mulf u30 (broadcastTo S64x512 w30 broadcasts_S1x512_S64x512))) (broadcastTo S64x512 (shapeCast S1x512 bd shapeCasts_S1x512_S1x512) broadcasts_S1x512_S64x512)

theorem tapSum_apply (u0 u1 u2 u3 u4 u5 u6 u7 u8 u9 u10 u11 u12 u13 u14 u15 u16 u17 u18 u19 u20 u21 u22 u23 u24 u25 u26 u27 u28 u29 u30 : FVec Ideal S64x512 .f32) (w0 w1 w2 w3 w4 w5 w6 w7 w8 w9 w10 w11 w12 w13 w14 w15 w16 w17 w18 w19 w20 w21 w22 w23 w24 w25 w26 w27 w28 w29 w30 bd : FVec Ideal S1x512 .f32) (r : Fin 64) (c : Fin 512) :
    tapSum u0 u1 u2 u3 u4 u5 u6 u7 u8 u9 u10 u11 u12 u13 u14 u15 u16 u17 u18 u19 u20 u21 u22 u23 u24 u25 u26 u27 u28 u29 u30 w0 w1 w2 w3 w4 w5 w6 w7 w8 w9 w10 w11 w12 w13 w14 w15 w16 w17 w18 w19 w20 w21 w22 w23 w24 w25 w26 w27 w28 w29 w30 bd (ix2 r c) = u0 (ix2 r c) * w0 (ix2 0 c) + u1 (ix2 r c) * w1 (ix2 0 c) + u2 (ix2 r c) * w2 (ix2 0 c) + u3 (ix2 r c) * w3 (ix2 0 c) + u4 (ix2 r c) * w4 (ix2 0 c) + u5 (ix2 r c) * w5 (ix2 0 c) + u6 (ix2 r c) * w6 (ix2 0 c) + u7 (ix2 r c) * w7 (ix2 0 c) + u8 (ix2 r c) * w8 (ix2 0 c) + u9 (ix2 r c) * w9 (ix2 0 c) + u10 (ix2 r c) * w10 (ix2 0 c) + u11 (ix2 r c) * w11 (ix2 0 c) + u12 (ix2 r c) * w12 (ix2 0 c) + u13 (ix2 r c) * w13 (ix2 0 c) + u14 (ix2 r c) * w14 (ix2 0 c) + u15 (ix2 r c) * w15 (ix2 0 c) + u16 (ix2 r c) * w16 (ix2 0 c) + u17 (ix2 r c) * w17 (ix2 0 c) + u18 (ix2 r c) * w18 (ix2 0 c) + u19 (ix2 r c) * w19 (ix2 0 c) + u20 (ix2 r c) * w20 (ix2 0 c) + u21 (ix2 r c) * w21 (ix2 0 c) + u22 (ix2 r c) * w22 (ix2 0 c) + u23 (ix2 r c) * w23 (ix2 0 c) + u24 (ix2 r c) * w24 (ix2 0 c) + u25 (ix2 r c) * w25 (ix2 0 c) + u26 (ix2 r c) * w26 (ix2 0 c) + u27 (ix2 r c) * w27 (ix2 0 c) + u28 (ix2 r c) * w28 (ix2 0 c) + u29 (ix2 r c) * w29 (ix2 0 c) + u30 (ix2 r c) * w30 (ix2 0 c) + bd (ix2 0 c) := by
  unfold tapSum
  simp only [addf_apply, mulf_apply, bcRow, shapeCast_self]

/-- 64 rows less their means. -/
def centre (y : FVec Ideal S64x512 .f32) : FVec Ideal S64x512 .f32 :=
  subf y (broadcastTo S64x512 (divf (shapeCast S64x1 (multiReduction .add [1] S64 y 0x00000000#32 reduces_S64x512_S64 (.inl rfl) rfl) shapeCasts_S64_S64x1) (broadcast S64x1 (Scalar.ofBits .f32 0x44000000#32))) broadcasts_S64x1_S64x512)

theorem centre_apply (y : FVec Ideal S64x512 .f32) (r : Fin 64) (c : Fin 512) : centre y (ix2 r c) = centred (fun k => y (ix2 r k)) c := by
  unfold centre centred
  rw [subf_apply, bcCol, divf_apply, castCol, sumRow]
  rfl

/-- LayerNorm and SiLU of 64 rows. -/
def act (y : FVec Ideal S64x512 .f32) (g n : FVec Ideal S1x512 .f32) : FVec Ideal S64x512 .f32 :=
  addf (mulf (mulf (centre y) (broadcastTo S64x512 (rsqrt (addf (divf (shapeCast S64x1 (multiReduction .add [1] S64 (mulf (centre y) (centre y)) 0x00000000#32 reduces_S64x512_S64 (.inl rfl) rfl) shapeCasts_S64_S64x1) (broadcast S64x1 (Scalar.ofBits .f32 0x44000000#32))) (broadcast S64x1 (Scalar.ofBits .f32 0x358637BD#32)))) broadcasts_S64x1_S64x512)) (broadcastTo S64x512 (shapeCast S1x512 g shapeCasts_S1x512_S1x512) broadcasts_S1x512_S64x512)) (broadcastTo S64x512 (shapeCast S1x512 n shapeCasts_S1x512_S1x512) broadcasts_S1x512_S64x512)

theorem act_apply (y : FVec Ideal S64x512 .f32) (g n : FVec Ideal S1x512 .f32) (r : Fin 64) (c : Fin 512) :
    act y g n (ix2 r c) = layerNorm (fun k => y (ix2 r k)) (fun k => g (ix2 0 k)) (fun k => n (ix2 0 k)) c := by
  unfold act layerNorm
  rw [addf_apply, mulf_apply, mulf_apply, bcCol, bcRow, bcRow, shapeCast_self, shapeCast_self, centre_apply]
  refine congrArg₂ (· + ·) (congrArg₂ (· * ·) (congrArg₂ (· * ·) rfl (congrArg Ideal.rsqrt ?_)) rfl) rfl
  rw [addf_apply, divf_apply, castCol, sumRow]
  refine congrArg₂ (· + ·) (congrArg₂ Ideal.div (Finset.sum_congr rfl fun k _ => ?_) rfl) rfl
  rw [mulf_apply, centre_apply]

/-- What 64 rows keep. -/
def keep64 (y : FVec Ideal S64x512 .f32) (g n : FVec Ideal S1x512 .f32) : FVec Ideal S64x512 .bf16 :=
  shapeCast S64x512 (truncf .bf16 (mulf (act y g n) (logistic (act y g n))) bitsLt_bf16_f32) shapeCasts_S64x512_S64x512

theorem keep64_apply (y : FVec Ideal S64x512 .f32) (g n : FVec Ideal S1x512 .f32) (r : Fin 64) (c : Fin 512) :
    keep64 y g n (ix2 r c) = silu (layerNorm (fun k => y (ix2 r k)) (fun k => g (ix2 0 k)) (fun k => n (ix2 0 k)) c) := by
  unfold keep64 silu
  rw [shapeCast_self, truncf_apply, mulf_apply, ← act_apply]
  rfl

/-- The convolution branch's block. -/
theorem pay44_apply (z : FVec Ideal S256x512 .bf16) (wp : FVec Ideal S512x512 .bf16) (gc : FVec Ideal S256x512 .bf16) (r : Fin 256) (c : Fin 512) :
    k0_pay44 (F := Ideal) z wp gc (ix2 r c) = (∑ k : Fin 512, z (ix2 r k) * wp (ix2 k c)) * silu (gc (ix2 r c)) := by
  unfold k0_pay44
  simp only [shapeCast_self]
  rw [truncf_apply, mulf_apply]
  exact congrArg₂ (· * ·) (dot2 none z wp r c) rfl

/-- The tokens' numbers in their batch. -/
def tokens (i : grid0.Coords) : IVec S256x128 32 := addi (broadcast S256x128 (Scalar.muli (tileOf i) 256#32)) (iota .tc S256x128 32 [0] iota_S256x128_d0_w32)

theorem tokens_apply (i : grid0.Coords) (r : Fin 256) (c : Fin 128) : tokens i (ix2 r c) = BitVec.ofNat 32 ((i 0).val % 8 * 256 + r.val) := by
  have h : tokens i (ix2 r c) = tileOf i * 256#32 + BitVec.ofNat 32 (0 * 256 + r.val) := rfl
  rw [h, tileOf_eq, Nat.zero_mul, Nat.zero_add, BitVec.ofNat_add, BitVec.ofNat_mul]

/-- The pooling branch's block of the group of half width 1. -/
def pooled0 (t : IVec S256x128 32) (s0 s1 pc : FVec Ideal S256x128 .f32) (wg : FVec Ideal S1x128x128 .bf16) (sc : FVec Ideal S1x128 .f32) (gp : FVec Ideal S256x128 .bf16) : FVec Ideal S256x128 .bf16 :=
  truncf .bf16 (mulf (mulf (matmul dot_S256x128_S128x128_S256x128_1_0_0_1_n_n none (truncf .bf16 (subf (divf (addf s0 s1) (sitofp .f32 (subi (minsi (addi t (broadcast S256x128 1#32)) (broadcast S256x128 2048#32)) (maxsi (subi t (broadcast S256x128 1#32)) (broadcast S256x128 0#32))))) pc) bitsLt_bf16_f32) (shapeCast S128x128 wg shapeCasts_S1x128x128_S128x128) (constant S256x128 .f32 0x00000000#32)) (broadcastTo S256x128 (shapeCast S1x128 sc shapeCasts_S1x128_S1x128) broadcasts_S1x128_S256x128)) (mulf (extf .f32 gp bitsLt_bf16_f32) (logistic (extf .f32 gp bitsLt_bf16_f32)))) bitsLt_bf16_f32

theorem pooled0_apply (i : grid0.Coords) (s0 s1 pc : FVec Ideal S256x128 .f32) (wg : FVec Ideal S1x128x128 .bf16) (sc : FVec Ideal S1x128 .f32) (gp : FVec Ideal S256x128 .bf16) (r : Fin 256) (c : Fin 128) :
    pooled0 (tokens i) s0 s1 pc wg sc gp (ix2 r c)
      = (∑ k : Fin 128, (Ideal.div (s0 (ix2 r k) + s1 (ix2 r k)) (tokensIn 1 ((i 0).val % 8 * 256 + r.val)) - pc (ix2 r k)) * wg (ix3 0 k c)) * sc (ix2 0 c) * silu (gp (ix2 r c)) := by
  unfold pooled0
  rw [truncf_apply, mulf_apply, mulf_apply, bcRow, shapeCast_self]
  refine congrArg₂ (· * ·) (congrArg₂ (· * ·) ((dot2 none _ _ r c).trans (Finset.sum_congr rfl fun k _ => ?_)) rfl) rfl
  rw [truncf_apply, subf_apply, divf_apply, castDrop]
  simp only [addf_apply]
  refine congrArg₂ (· * ·) (congrArg₂ (· - ·) (congrArg₂ Ideal.div rfl ?_) rfl) rfl
  unfold tokensIn
  rw [← tokens_apply i r k]
  rfl

/-- The pooling branch's block of the group of half width 2. -/
def pooled1 (t : IVec S256x128 32) (s0 s1 s2 s3 pc : FVec Ideal S256x128 .f32) (wg : FVec Ideal S1x128x128 .bf16) (sc : FVec Ideal S1x128 .f32) (gp : FVec Ideal S256x128 .bf16) : FVec Ideal S256x128 .bf16 :=
  truncf .bf16 (mulf (mulf (matmul dot_S256x128_S128x128_S256x128_1_0_0_1_n_n none (truncf .bf16 (subf (divf (addf (addf (addf s0 s1) s2) s3) (sitofp .f32 (subi (minsi (addi t (broadcast S256x128 2#32)) (broadcast S256x128 2048#32)) (maxsi (subi t (broadcast S256x128 2#32)) (broadcast S256x128 0#32))))) pc) bitsLt_bf16_f32) (shapeCast S128x128 wg shapeCasts_S1x128x128_S128x128) (constant S256x128 .f32 0x00000000#32)) (broadcastTo S256x128 (shapeCast S1x128 sc shapeCasts_S1x128_S1x128) broadcasts_S1x128_S256x128)) (mulf (extf .f32 gp bitsLt_bf16_f32) (logistic (extf .f32 gp bitsLt_bf16_f32)))) bitsLt_bf16_f32

theorem pooled1_apply (i : grid0.Coords) (s0 s1 s2 s3 pc : FVec Ideal S256x128 .f32) (wg : FVec Ideal S1x128x128 .bf16) (sc : FVec Ideal S1x128 .f32) (gp : FVec Ideal S256x128 .bf16) (r : Fin 256) (c : Fin 128) :
    pooled1 (tokens i) s0 s1 s2 s3 pc wg sc gp (ix2 r c)
      = (∑ k : Fin 128, (Ideal.div (s0 (ix2 r k) + s1 (ix2 r k) + s2 (ix2 r k) + s3 (ix2 r k)) (tokensIn 2 ((i 0).val % 8 * 256 + r.val)) - pc (ix2 r k)) * wg (ix3 0 k c)) * sc (ix2 0 c) * silu (gp (ix2 r c)) := by
  unfold pooled1
  rw [truncf_apply, mulf_apply, mulf_apply, bcRow, shapeCast_self]
  refine congrArg₂ (· * ·) (congrArg₂ (· * ·) ((dot2 none _ _ r c).trans (Finset.sum_congr rfl fun k _ => ?_)) rfl) rfl
  rw [truncf_apply, subf_apply, divf_apply, castDrop]
  simp only [addf_apply]
  refine congrArg₂ (· * ·) (congrArg₂ (· - ·) (congrArg₂ Ideal.div rfl ?_) rfl) rfl
  unfold tokensIn
  rw [← tokens_apply i r k]
  rfl

/-- The pooling branch's block of the group of half width 4. -/
def pooled2 (t : IVec S256x128 32) (s0 s1 s2 s3 s4 s5 s6 s7 pc : FVec Ideal S256x128 .f32) (wg : FVec Ideal S1x128x128 .bf16) (sc : FVec Ideal S1x128 .f32) (gp : FVec Ideal S256x128 .bf16) : FVec Ideal S256x128 .bf16 :=
  truncf .bf16 (mulf (mulf (matmul dot_S256x128_S128x128_S256x128_1_0_0_1_n_n none (truncf .bf16 (subf (divf (addf (addf (addf (addf (addf (addf (addf s0 s1) s2) s3) s4) s5) s6) s7) (sitofp .f32 (subi (minsi (addi t (broadcast S256x128 4#32)) (broadcast S256x128 2048#32)) (maxsi (subi t (broadcast S256x128 4#32)) (broadcast S256x128 0#32))))) pc) bitsLt_bf16_f32) (shapeCast S128x128 wg shapeCasts_S1x128x128_S128x128) (constant S256x128 .f32 0x00000000#32)) (broadcastTo S256x128 (shapeCast S1x128 sc shapeCasts_S1x128_S1x128) broadcasts_S1x128_S256x128)) (mulf (extf .f32 gp bitsLt_bf16_f32) (logistic (extf .f32 gp bitsLt_bf16_f32)))) bitsLt_bf16_f32

theorem pooled2_apply (i : grid0.Coords) (s0 s1 s2 s3 s4 s5 s6 s7 pc : FVec Ideal S256x128 .f32) (wg : FVec Ideal S1x128x128 .bf16) (sc : FVec Ideal S1x128 .f32) (gp : FVec Ideal S256x128 .bf16) (r : Fin 256) (c : Fin 128) :
    pooled2 (tokens i) s0 s1 s2 s3 s4 s5 s6 s7 pc wg sc gp (ix2 r c)
      = (∑ k : Fin 128, (Ideal.div (s0 (ix2 r k) + s1 (ix2 r k) + s2 (ix2 r k) + s3 (ix2 r k) + s4 (ix2 r k) + s5 (ix2 r k) + s6 (ix2 r k) + s7 (ix2 r k)) (tokensIn 4 ((i 0).val % 8 * 256 + r.val)) - pc (ix2 r k)) * wg (ix3 0 k c)) * sc (ix2 0 c) * silu (gp (ix2 r c)) := by
  unfold pooled2
  rw [truncf_apply, mulf_apply, mulf_apply, bcRow, shapeCast_self]
  refine congrArg₂ (· * ·) (congrArg₂ (· * ·) ((dot2 none _ _ r c).trans (Finset.sum_congr rfl fun k _ => ?_)) rfl) rfl
  rw [truncf_apply, subf_apply, divf_apply, castDrop]
  simp only [addf_apply]
  refine congrArg₂ (· * ·) (congrArg₂ (· - ·) (congrArg₂ Ideal.div rfl ?_) rfl) rfl
  unfold tokensIn
  rw [← tokens_apply i r k]
  rfl

/-- The pooling branch's block of the group of half width 8. -/
def pooled3 (t : IVec S256x128 32) (s0 s1 s2 s3 s4 s5 s6 s7 s8 s9 s10 s11 s12 s13 s14 s15 pc : FVec Ideal S256x128 .f32) (wg : FVec Ideal S1x128x128 .bf16) (sc : FVec Ideal S1x128 .f32) (gp : FVec Ideal S256x128 .bf16) : FVec Ideal S256x128 .bf16 :=
  truncf .bf16 (mulf (mulf (matmul dot_S256x128_S128x128_S256x128_1_0_0_1_n_n none (truncf .bf16 (subf (divf (addf (addf (addf (addf (addf (addf (addf (addf (addf (addf (addf (addf (addf (addf (addf s0 s1) s2) s3) s4) s5) s6) s7) s8) s9) s10) s11) s12) s13) s14) s15) (sitofp .f32 (subi (minsi (addi t (broadcast S256x128 8#32)) (broadcast S256x128 2048#32)) (maxsi (subi t (broadcast S256x128 8#32)) (broadcast S256x128 0#32))))) pc) bitsLt_bf16_f32) (shapeCast S128x128 wg shapeCasts_S1x128x128_S128x128) (constant S256x128 .f32 0x00000000#32)) (broadcastTo S256x128 (shapeCast S1x128 sc shapeCasts_S1x128_S1x128) broadcasts_S1x128_S256x128)) (mulf (extf .f32 gp bitsLt_bf16_f32) (logistic (extf .f32 gp bitsLt_bf16_f32)))) bitsLt_bf16_f32

theorem pooled3_apply (i : grid0.Coords) (s0 s1 s2 s3 s4 s5 s6 s7 s8 s9 s10 s11 s12 s13 s14 s15 pc : FVec Ideal S256x128 .f32) (wg : FVec Ideal S1x128x128 .bf16) (sc : FVec Ideal S1x128 .f32) (gp : FVec Ideal S256x128 .bf16) (r : Fin 256) (c : Fin 128) :
    pooled3 (tokens i) s0 s1 s2 s3 s4 s5 s6 s7 s8 s9 s10 s11 s12 s13 s14 s15 pc wg sc gp (ix2 r c)
      = (∑ k : Fin 128, (Ideal.div (s0 (ix2 r k) + s1 (ix2 r k) + s2 (ix2 r k) + s3 (ix2 r k) + s4 (ix2 r k) + s5 (ix2 r k) + s6 (ix2 r k) + s7 (ix2 r k) + s8 (ix2 r k) + s9 (ix2 r k) + s10 (ix2 r k) + s11 (ix2 r k) + s12 (ix2 r k) + s13 (ix2 r k) + s14 (ix2 r k) + s15 (ix2 r k)) (tokensIn 8 ((i 0).val % 8 * 256 + r.val)) - pc (ix2 r k)) * wg (ix3 0 k c)) * sc (ix2 0 c) * silu (gp (ix2 r c)) := by
  unfold pooled3
  rw [truncf_apply, mulf_apply, mulf_apply, bcRow, shapeCast_self]
  refine congrArg₂ (· * ·) (congrArg₂ (· * ·) ((dot2 none _ _ r c).trans (Finset.sum_congr rfl fun k _ => ?_)) rfl) rfl
  rw [truncf_apply, subf_apply, divf_apply, castDrop]
  simp only [addf_apply]
  refine congrArg₂ (· * ·) (congrArg₂ (· - ·) (congrArg₂ Ideal.div rfl ?_) rfl) rfl
  unfold tokensIn
  rw [← tokens_apply i r k]
  rfl

end Cert.PoolK

end
-- ==== Proof.PoolPieces.lean ====
/- The pooling and convolution kernel's stores. -/
module

public import proofs.«01_k».proof.Proof.PoolBlocks
public import proofs.«01_k».proof.Proof.Gen.PoolConvIdeal.Value

@[expose] public section

set_option maxRecDepth 65536

noncomputable section

namespace Cert.PoolK

open Cert.PoolConvIdeal Cert.PoolConvIdeal.Gen Idealize.ShloMosaic Idealize.ShloMosaic.ValueIdx Idealize.ShloMosaic.TcCoe Cert.Reads Cert.PoolMath Idealize.SL.Sem
open scoped BigOperators

/-- The unit's stores. -/
theorem unit_pieces (c : Dev nD) (i : grid0.Coords) (arg1 : Memref sig .tc .vmem S256x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S256x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S256x512 .bf16) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S31x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S288x512 .f32) (harg21 : arg21.IsWhole) (arg22 : Memref sig .tc .vmem S288x512 .f32) (harg22 : arg22.IsWhole) (arg23 : Memref sig .tc .vmem S256x512 .bf16) (harg23 : arg23.IsWhole) (x0 : Vec Ideal S256x512 .bf16) (x1 : Vec Ideal S16x512 .bf16) (x2 : Vec Ideal S16x512 .bf16) (x3 : Vec Ideal S256x512 .bf16) (x4 : Vec Ideal S256x512 .bf16) (x5 : Vec Ideal S16x512 .bf16) (x6 : Vec Ideal S16x512 .bf16) (x7 : Vec Ideal S256x512 .bf16) (x8 : Vec Ideal S16x512 .bf16) (x9 : Vec Ideal S16x512 .bf16) (x10 : Vec Ideal S256x512 .bf16) (x11 : Vec Ideal S4x128x128 .bf16) (x12 : Vec Ideal S1x512 .f32) (x13 : Vec Ideal S31x512 .f32) (x14 : Vec Ideal S1x512 .f32) (x15 : Vec Ideal S1x512 .f32) (x16 : Vec Ideal S1x512 .f32) (x17 : Vec Ideal S512x512 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.1 = [⟨Rect.unit (s := S288x512) ![272, 0] S16x512.size inb_S288x512_S16x512_272_0, k0_pay5 (F := Ideal) (hasNext i) (k0_pay4 x6) x9⟩, ⟨Rect.unit (s := S288x512) ![16, 0] S256x512.size inb_S288x512_S256x512_16_0, k0_pay3 (F := Ideal) x4 x7⟩, ⟨Rect.unit (s := S288x512) ![0, 0] S16x512.size inb_S288x512_S16x512_0_0, k0_pay2 (F := Ideal) i x5 x8⟩] := by
  have h7 : View.ld (Val := Elt Ideal) (e' := .bf16) (arg7.view.read (Elt Ideal) (harg7.unread x6)) (Rect.unit (s := S16x512) ![0, 0] S16x512.size inb_S16x512_S16x512_0_0) = x6 := by
    rw [harg7.read_unread x6]
    exact View.ld_unit_zero (funext fun a => by fin_cases a <;> rfl) _ _
  have h10 : View.ld (Val := Elt Ideal) (e' := .bf16) (arg10.view.read (Elt Ideal) (harg10.unread x9)) (Rect.unit (s := S16x512) ![0, 0] S16x512.size inb_S16x512_S16x512_0_0) = x9 := by
    rw [harg10.read_unread x9]
    exact View.ld_unit_zero (funext fun a => by fin_cases a <;> rfl) _ _
  have h5 : View.ld (Val := Elt Ideal) (e' := .bf16) (arg5.view.read (Elt Ideal) (harg5.unread x4)) (Rect.unit (s := S256x512) ![0, 0] S256x512.size inb_S256x512_S256x512_0_0) = x4 := by
    rw [harg5.read_unread x4]
    exact View.ld_unit_zero (funext fun a => by fin_cases a <;> rfl) _ _
  have h8 : View.ld (Val := Elt Ideal) (e' := .bf16) (arg8.view.read (Elt Ideal) (harg8.unread x7)) (Rect.unit (s := S256x512) ![0, 0] S256x512.size inb_S256x512_S256x512_0_0) = x7 := by
    rw [harg8.read_unread x7]
    exact View.ld_unit_zero (funext fun a => by fin_cases a <;> rfl) _ _
  have h6 : View.ld (Val := Elt Ideal) (e' := .bf16) (arg6.view.read (Elt Ideal) (harg6.unread x5)) (Rect.unit (s := S16x512) ![0, 0] S16x512.size inb_S16x512_S16x512_0_0) = x5 := by
    rw [harg6.read_unread x5]
    exact View.ld_unit_zero (funext fun a => by fin_cases a <;> rfl) _ _
  have h9 : View.ld (Val := Elt Ideal) (e' := .bf16) (arg9.view.read (Elt Ideal) (harg9.unread x8)) (Rect.unit (s := S16x512) ![0, 0] S16x512.size inb_S16x512_S16x512_0_0) = x8 := by
    rw [harg9.read_unread x8]
    exact View.ld_unit_zero (funext fun a => by fin_cases a <;> rfl) _ _
  conv_rhs => rw [← h7, ← h10, ← h5, ← h8, ← h6, ← h9]
  rfl

/-- The tokens' stores. -/
theorem token_pieces (c : Dev nD) (i : grid0.Coords) (arg1 : Memref sig .tc .vmem S256x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S256x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S256x512 .bf16) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S31x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S288x512 .f32) (harg21 : arg21.IsWhole) (arg22 : Memref sig .tc .vmem S288x512 .f32) (harg22 : arg22.IsWhole) (arg23 : Memref sig .tc .vmem S256x512 .bf16) (harg23 : arg23.IsWhole) (x0 : Vec Ideal S256x512 .bf16) (x1 : Vec Ideal S16x512 .bf16) (x2 : Vec Ideal S16x512 .bf16) (x3 : Vec Ideal S256x512 .bf16) (x4 : Vec Ideal S256x512 .bf16) (x5 : Vec Ideal S16x512 .bf16) (x6 : Vec Ideal S16x512 .bf16) (x7 : Vec Ideal S256x512 .bf16) (x8 : Vec Ideal S16x512 .bf16) (x9 : Vec Ideal S16x512 .bf16) (x10 : Vec Ideal S256x512 .bf16) (x11 : Vec Ideal S4x128x128 .bf16) (x12 : Vec Ideal S1x512 .f32) (x13 : Vec Ideal S31x512 .f32) (x14 : Vec Ideal S1x512 .f32) (x15 : Vec Ideal S1x512 .f32) (x16 : Vec Ideal S1x512 .f32) (x17 : Vec Ideal S512x512 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.2.1 = [⟨Rect.unit (s := S288x512) ![272, 0] S16x512.size inb_S288x512_S16x512_272_0, k0_pay8 (F := Ideal) (hasNext i) x2⟩, ⟨Rect.unit (s := S288x512) ![16, 0] S256x512.size inb_S288x512_S256x512_16_0, k0_pay7 (F := Ideal) x0⟩, ⟨Rect.unit (s := S288x512) ![0, 0] S16x512.size inb_S288x512_S16x512_0_0, k0_pay6 (F := Ideal) (hasPrev i) x1⟩] := by
  have h3 : View.ld (Val := Elt Ideal) (e' := .bf16) (arg3.view.read (Elt Ideal) (harg3.unread x2)) (Rect.unit (s := S16x512) ![0, 0] S16x512.size inb_S16x512_S16x512_0_0) = x2 := by
    rw [harg3.read_unread x2]
    exact View.ld_unit_zero (funext fun a => by fin_cases a <;> rfl) _ _
  have h1 : View.ld (Val := Elt Ideal) (e' := .bf16) (arg1.view.read (Elt Ideal) (harg1.unread x0)) (Rect.unit (s := S256x512) ![0, 0] S256x512.size inb_S256x512_S256x512_0_0) = x0 := by
    rw [harg1.read_unread x0]
    exact View.ld_unit_zero (funext fun a => by fin_cases a <;> rfl) _ _
  have h2 : View.ld (Val := Elt Ideal) (e' := .bf16) (arg2.view.read (Elt Ideal) (harg2.unread x1)) (Rect.unit (s := S16x512) ![0, 0] S16x512.size inb_S16x512_S16x512_0_0) = x1 := by
    rw [harg2.read_unread x1]
    exact View.ld_unit_zero (funext fun a => by fin_cases a <;> rfl) _ _
  conv_rhs => rw [← h3, ← h1, ← h2]
  rfl

/-- The rows kept, from the padded unit. -/
theorem kept_pieces (u : Vec Ideal S288x512 .f32) (c : Dev nD) (i : grid0.Coords) (arg1 : Memref sig .tc .vmem S256x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S256x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S256x512 .bf16) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S31x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S288x512 .f32) (harg21 : arg21.IsWhole) (arg22 : Memref sig .tc .vmem S288x512 .f32) (harg22 : arg22.IsWhole) (arg23 : Memref sig .tc .vmem S256x512 .bf16) (harg23 : arg23.IsWhole) (x0 : Vec Ideal S256x512 .bf16) (x1 : Vec Ideal S16x512 .bf16) (x2 : Vec Ideal S16x512 .bf16) (x3 : Vec Ideal S256x512 .bf16) (x4 : Vec Ideal S256x512 .bf16) (x5 : Vec Ideal S16x512 .bf16) (x6 : Vec Ideal S16x512 .bf16) (x7 : Vec Ideal S256x512 .bf16) (x8 : Vec Ideal S16x512 .bf16) (x9 : Vec Ideal S16x512 .bf16) (x10 : Vec Ideal S256x512 .bf16) (x11 : Vec Ideal S4x128x128 .bf16) (x12 : Vec Ideal S1x512 .f32) (x13 : Vec Ideal S31x512 .f32) (x14 : Vec Ideal S1x512 .f32) (x15 : Vec Ideal S1x512 .f32) (x16 : Vec Ideal S1x512 .f32) (x17 : Vec Ideal S512x512 .bf16)
    (hu : arg21.view.read (Elt Ideal) (arg21.view.writes (Elt Ideal) arg21.view.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.1) = u) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.2.2.1 = [⟨Rect.unit (s := S256x512) ![192, 0] S64x512.size inb_S256x512_S64x512_192_0, keep64 (tapSum (u64 u 193 inb_S288x512_S64x512_193_0) (u64 u 194 inb_S288x512_S64x512_194_0) (u64 u 195 inb_S288x512_S64x512_195_0) (u64 u 196 inb_S288x512_S64x512_196_0) (u64 u 197 inb_S288x512_S64x512_197_0) (u64 u 198 inb_S288x512_S64x512_198_0) (u64 u 199 inb_S288x512_S64x512_199_0) (u64 u 200 inb_S288x512_S64x512_200_0) (u64 u 201 inb_S288x512_S64x512_201_0) (u64 u 202 inb_S288x512_S64x512_202_0) (u64 u 203 inb_S288x512_S64x512_203_0) (u64 u 204 inb_S288x512_S64x512_204_0) (u64 u 205 inb_S288x512_S64x512_205_0) (u64 u 206 inb_S288x512_S64x512_206_0) (u64 u 207 inb_S288x512_S64x512_207_0) (u64 u 208 inb_S288x512_S64x512_208_0) (u64 u 209 inb_S288x512_S64x512_209_0) (u64 u 210 inb_S288x512_S64x512_210_0) (u64 u 211 inb_S288x512_S64x512_211_0) (u64 u 212 inb_S288x512_S64x512_212_0) (u64 u 213 inb_S288x512_S64x512_213_0) (u64 u 214 inb_S288x512_S64x512_214_0) (u64 u 215 inb_S288x512_S64x512_215_0) (u64 u 216 inb_S288x512_S64x512_216_0) (u64 u 217 inb_S288x512_S64x512_217_0) (u64 u 218 inb_S288x512_S64x512_218_0) (u64 u 219 inb_S288x512_S64x512_219_0) (u64 u 220 inb_S288x512_S64x512_220_0) (u64 u 221 inb_S288x512_S64x512_221_0) (u64 u 222 inb_S288x512_S64x512_222_0) (u64 u 223 inb_S288x512_S64x512_223_0) (tap x13 0 inb_S31x512_S1x512_0_0) (tap x13 1 inb_S31x512_S1x512_1_0) (tap x13 2 inb_S31x512_S1x512_2_0) (tap x13 3 inb_S31x512_S1x512_3_0) (tap x13 4 inb_S31x512_S1x512_4_0) (tap x13 5 inb_S31x512_S1x512_5_0) (tap x13 6 inb_S31x512_S1x512_6_0) (tap x13 7 inb_S31x512_S1x512_7_0) (tap x13 8 inb_S31x512_S1x512_8_0) (tap x13 9 inb_S31x512_S1x512_9_0) (tap x13 10 inb_S31x512_S1x512_10_0) (tap x13 11 inb_S31x512_S1x512_11_0) (tap x13 12 inb_S31x512_S1x512_12_0) (tap x13 13 inb_S31x512_S1x512_13_0) (tap x13 14 inb_S31x512_S1x512_14_0) (tap x13 15 inb_S31x512_S1x512_15_0) (tap x13 16 inb_S31x512_S1x512_16_0) (tap x13 17 inb_S31x512_S1x512_17_0) (tap x13 18 inb_S31x512_S1x512_18_0) (tap x13 19 inb_S31x512_S1x512_19_0) (tap x13 20 inb_S31x512_S1x512_20_0) (tap x13 21 inb_S31x512_S1x512_21_0) (tap x13 22 inb_S31x512_S1x512_22_0) (tap x13 23 inb_S31x512_S1x512_23_0) (tap x13 24 inb_S31x512_S1x512_24_0) (tap x13 25 inb_S31x512_S1x512_25_0) (tap x13 26 inb_S31x512_S1x512_26_0) (tap x13 27 inb_S31x512_S1x512_27_0) (tap x13 28 inb_S31x512_S1x512_28_0) (tap x13 29 inb_S31x512_S1x512_29_0) (tap x13 30 inb_S31x512_S1x512_30_0) x14) x15 x16⟩, ⟨Rect.unit (s := S256x512) ![128, 0] S64x512.size inb_S256x512_S64x512_128_0, keep64 (tapSum (u64 u 129 inb_S288x512_S64x512_129_0) (u64 u 130 inb_S288x512_S64x512_130_0) (u64 u 131 inb_S288x512_S64x512_131_0) (u64 u 132 inb_S288x512_S64x512_132_0) (u64 u 133 inb_S288x512_S64x512_133_0) (u64 u 134 inb_S288x512_S64x512_134_0) (u64 u 135 inb_S288x512_S64x512_135_0) (u64 u 136 inb_S288x512_S64x512_136_0) (u64 u 137 inb_S288x512_S64x512_137_0) (u64 u 138 inb_S288x512_S64x512_138_0) (u64 u 139 inb_S288x512_S64x512_139_0) (u64 u 140 inb_S288x512_S64x512_140_0) (u64 u 141 inb_S288x512_S64x512_141_0) (u64 u 142 inb_S288x512_S64x512_142_0) (u64 u 143 inb_S288x512_S64x512_143_0) (u64 u 144 inb_S288x512_S64x512_144_0) (u64 u 145 inb_S288x512_S64x512_145_0) (u64 u 146 inb_S288x512_S64x512_146_0) (u64 u 147 inb_S288x512_S64x512_147_0) (u64 u 148 inb_S288x512_S64x512_148_0) (u64 u 149 inb_S288x512_S64x512_149_0) (u64 u 150 inb_S288x512_S64x512_150_0) (u64 u 151 inb_S288x512_S64x512_151_0) (u64 u 152 inb_S288x512_S64x512_152_0) (u64 u 153 inb_S288x512_S64x512_153_0) (u64 u 154 inb_S288x512_S64x512_154_0) (u64 u 155 inb_S288x512_S64x512_155_0) (u64 u 156 inb_S288x512_S64x512_156_0) (u64 u 157 inb_S288x512_S64x512_157_0) (u64 u 158 inb_S288x512_S64x512_158_0) (u64 u 159 inb_S288x512_S64x512_159_0) (tap x13 0 inb_S31x512_S1x512_0_0) (tap x13 1 inb_S31x512_S1x512_1_0) (tap x13 2 inb_S31x512_S1x512_2_0) (tap x13 3 inb_S31x512_S1x512_3_0) (tap x13 4 inb_S31x512_S1x512_4_0) (tap x13 5 inb_S31x512_S1x512_5_0) (tap x13 6 inb_S31x512_S1x512_6_0) (tap x13 7 inb_S31x512_S1x512_7_0) (tap x13 8 inb_S31x512_S1x512_8_0) (tap x13 9 inb_S31x512_S1x512_9_0) (tap x13 10 inb_S31x512_S1x512_10_0) (tap x13 11 inb_S31x512_S1x512_11_0) (tap x13 12 inb_S31x512_S1x512_12_0) (tap x13 13 inb_S31x512_S1x512_13_0) (tap x13 14 inb_S31x512_S1x512_14_0) (tap x13 15 inb_S31x512_S1x512_15_0) (tap x13 16 inb_S31x512_S1x512_16_0) (tap x13 17 inb_S31x512_S1x512_17_0) (tap x13 18 inb_S31x512_S1x512_18_0) (tap x13 19 inb_S31x512_S1x512_19_0) (tap x13 20 inb_S31x512_S1x512_20_0) (tap x13 21 inb_S31x512_S1x512_21_0) (tap x13 22 inb_S31x512_S1x512_22_0) (tap x13 23 inb_S31x512_S1x512_23_0) (tap x13 24 inb_S31x512_S1x512_24_0) (tap x13 25 inb_S31x512_S1x512_25_0) (tap x13 26 inb_S31x512_S1x512_26_0) (tap x13 27 inb_S31x512_S1x512_27_0) (tap x13 28 inb_S31x512_S1x512_28_0) (tap x13 29 inb_S31x512_S1x512_29_0) (tap x13 30 inb_S31x512_S1x512_30_0) x14) x15 x16⟩, ⟨Rect.unit (s := S256x512) ![64, 0] S64x512.size inb_S256x512_S64x512_64_0, keep64 (tapSum (u64 u 65 inb_S288x512_S64x512_65_0) (u64 u 66 inb_S288x512_S64x512_66_0) (u64 u 67 inb_S288x512_S64x512_67_0) (u64 u 68 inb_S288x512_S64x512_68_0) (u64 u 69 inb_S288x512_S64x512_69_0) (u64 u 70 inb_S288x512_S64x512_70_0) (u64 u 71 inb_S288x512_S64x512_71_0) (u64 u 72 inb_S288x512_S64x512_72_0) (u64 u 73 inb_S288x512_S64x512_73_0) (u64 u 74 inb_S288x512_S64x512_74_0) (u64 u 75 inb_S288x512_S64x512_75_0) (u64 u 76 inb_S288x512_S64x512_76_0) (u64 u 77 inb_S288x512_S64x512_77_0) (u64 u 78 inb_S288x512_S64x512_78_0) (u64 u 79 inb_S288x512_S64x512_79_0) (u64 u 80 inb_S288x512_S64x512_80_0) (u64 u 81 inb_S288x512_S64x512_81_0) (u64 u 82 inb_S288x512_S64x512_82_0) (u64 u 83 inb_S288x512_S64x512_83_0) (u64 u 84 inb_S288x512_S64x512_84_0) (u64 u 85 inb_S288x512_S64x512_85_0) (u64 u 86 inb_S288x512_S64x512_86_0) (u64 u 87 inb_S288x512_S64x512_87_0) (u64 u 88 inb_S288x512_S64x512_88_0) (u64 u 89 inb_S288x512_S64x512_89_0) (u64 u 90 inb_S288x512_S64x512_90_0) (u64 u 91 inb_S288x512_S64x512_91_0) (u64 u 92 inb_S288x512_S64x512_92_0) (u64 u 93 inb_S288x512_S64x512_93_0) (u64 u 94 inb_S288x512_S64x512_94_0) (u64 u 95 inb_S288x512_S64x512_95_0) (tap x13 0 inb_S31x512_S1x512_0_0) (tap x13 1 inb_S31x512_S1x512_1_0) (tap x13 2 inb_S31x512_S1x512_2_0) (tap x13 3 inb_S31x512_S1x512_3_0) (tap x13 4 inb_S31x512_S1x512_4_0) (tap x13 5 inb_S31x512_S1x512_5_0) (tap x13 6 inb_S31x512_S1x512_6_0) (tap x13 7 inb_S31x512_S1x512_7_0) (tap x13 8 inb_S31x512_S1x512_8_0) (tap x13 9 inb_S31x512_S1x512_9_0) (tap x13 10 inb_S31x512_S1x512_10_0) (tap x13 11 inb_S31x512_S1x512_11_0) (tap x13 12 inb_S31x512_S1x512_12_0) (tap x13 13 inb_S31x512_S1x512_13_0) (tap x13 14 inb_S31x512_S1x512_14_0) (tap x13 15 inb_S31x512_S1x512_15_0) (tap x13 16 inb_S31x512_S1x512_16_0) (tap x13 17 inb_S31x512_S1x512_17_0) (tap x13 18 inb_S31x512_S1x512_18_0) (tap x13 19 inb_S31x512_S1x512_19_0) (tap x13 20 inb_S31x512_S1x512_20_0) (tap x13 21 inb_S31x512_S1x512_21_0) (tap x13 22 inb_S31x512_S1x512_22_0) (tap x13 23 inb_S31x512_S1x512_23_0) (tap x13 24 inb_S31x512_S1x512_24_0) (tap x13 25 inb_S31x512_S1x512_25_0) (tap x13 26 inb_S31x512_S1x512_26_0) (tap x13 27 inb_S31x512_S1x512_27_0) (tap x13 28 inb_S31x512_S1x512_28_0) (tap x13 29 inb_S31x512_S1x512_29_0) (tap x13 30 inb_S31x512_S1x512_30_0) x14) x15 x16⟩, ⟨Rect.unit (s := S256x512) ![0, 0] S64x512.size inb_S256x512_S64x512_0_0, keep64 (tapSum (u64 u 1 inb_S288x512_S64x512_1_0) (u64 u 2 inb_S288x512_S64x512_2_0) (u64 u 3 inb_S288x512_S64x512_3_0) (u64 u 4 inb_S288x512_S64x512_4_0) (u64 u 5 inb_S288x512_S64x512_5_0) (u64 u 6 inb_S288x512_S64x512_6_0) (u64 u 7 inb_S288x512_S64x512_7_0) (u64 u 8 inb_S288x512_S64x512_8_0) (u64 u 9 inb_S288x512_S64x512_9_0) (u64 u 10 inb_S288x512_S64x512_10_0) (u64 u 11 inb_S288x512_S64x512_11_0) (u64 u 12 inb_S288x512_S64x512_12_0) (u64 u 13 inb_S288x512_S64x512_13_0) (u64 u 14 inb_S288x512_S64x512_14_0) (u64 u 15 inb_S288x512_S64x512_15_0) (u64 u 16 inb_S288x512_S64x512_16_0) (u64 u 17 inb_S288x512_S64x512_17_0) (u64 u 18 inb_S288x512_S64x512_18_0) (u64 u 19 inb_S288x512_S64x512_19_0) (u64 u 20 inb_S288x512_S64x512_20_0) (u64 u 21 inb_S288x512_S64x512_21_0) (u64 u 22 inb_S288x512_S64x512_22_0) (u64 u 23 inb_S288x512_S64x512_23_0) (u64 u 24 inb_S288x512_S64x512_24_0) (u64 u 25 inb_S288x512_S64x512_25_0) (u64 u 26 inb_S288x512_S64x512_26_0) (u64 u 27 inb_S288x512_S64x512_27_0) (u64 u 28 inb_S288x512_S64x512_28_0) (u64 u 29 inb_S288x512_S64x512_29_0) (u64 u 30 inb_S288x512_S64x512_30_0) (u64 u 31 inb_S288x512_S64x512_31_0) (tap x13 0 inb_S31x512_S1x512_0_0) (tap x13 1 inb_S31x512_S1x512_1_0) (tap x13 2 inb_S31x512_S1x512_2_0) (tap x13 3 inb_S31x512_S1x512_3_0) (tap x13 4 inb_S31x512_S1x512_4_0) (tap x13 5 inb_S31x512_S1x512_5_0) (tap x13 6 inb_S31x512_S1x512_6_0) (tap x13 7 inb_S31x512_S1x512_7_0) (tap x13 8 inb_S31x512_S1x512_8_0) (tap x13 9 inb_S31x512_S1x512_9_0) (tap x13 10 inb_S31x512_S1x512_10_0) (tap x13 11 inb_S31x512_S1x512_11_0) (tap x13 12 inb_S31x512_S1x512_12_0) (tap x13 13 inb_S31x512_S1x512_13_0) (tap x13 14 inb_S31x512_S1x512_14_0) (tap x13 15 inb_S31x512_S1x512_15_0) (tap x13 16 inb_S31x512_S1x512_16_0) (tap x13 17 inb_S31x512_S1x512_17_0) (tap x13 18 inb_S31x512_S1x512_18_0) (tap x13 19 inb_S31x512_S1x512_19_0) (tap x13 20 inb_S31x512_S1x512_20_0) (tap x13 21 inb_S31x512_S1x512_21_0) (tap x13 22 inb_S31x512_S1x512_22_0) (tap x13 23 inb_S31x512_S1x512_23_0) (tap x13 24 inb_S31x512_S1x512_24_0) (tap x13 25 inb_S31x512_S1x512_25_0) (tap x13 26 inb_S31x512_S1x512_26_0) (tap x13 27 inb_S31x512_S1x512_27_0) (tap x13 28 inb_S31x512_S1x512_28_0) (tap x13 29 inb_S31x512_S1x512_29_0) (tap x13 30 inb_S31x512_S1x512_30_0) x14) x15 x16⟩] := by
  have h14 : arg14.view.read (Elt Ideal) (harg14.unread x13) = x13 := harg14.read_unread x13
  have h15 : View.ld (Val := Elt Ideal) (e' := .f32) (arg15.view.read (Elt Ideal) (harg15.unread x14)) (Rect.unit (s := S1x512) ![0, 0] S1x512.size inb_S1x512_S1x512_0_0) = x14 := by
    rw [harg15.read_unread x14]
    exact View.ld_unit_zero (funext fun a => by fin_cases a <;> rfl) _ _
  have h16 : View.ld (Val := Elt Ideal) (e' := .f32) (arg16.view.read (Elt Ideal) (harg16.unread x15)) (Rect.unit (s := S1x512) ![0, 0] S1x512.size inb_S1x512_S1x512_0_0) = x15 := by
    rw [harg16.read_unread x15]
    exact View.ld_unit_zero (funext fun a => by fin_cases a <;> rfl) _ _
  have h17 : View.ld (Val := Elt Ideal) (e' := .f32) (arg17.view.read (Elt Ideal) (harg17.unread x16)) (Rect.unit (s := S1x512) ![0, 0] S1x512.size inb_S1x512_S1x512_0_0) = x16 := by
    rw [harg17.read_unread x16]
    exact View.ld_unit_zero (funext fun a => by fin_cases a <;> rfl) _ _
  conv_rhs => rw [← h14, ← h15, ← h16, ← h17]
  subst hu
  rfl

/-- The convolution branch's store, from the rows kept. -/
theorem conv_pieces (z : Vec Ideal S256x512 .bf16) (c : Dev nD) (i : grid0.Coords) (arg1 : Memref sig .tc .vmem S256x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S256x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S256x512 .bf16) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S31x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S288x512 .f32) (harg21 : arg21.IsWhole) (arg22 : Memref sig .tc .vmem S288x512 .f32) (harg22 : arg22.IsWhole) (arg23 : Memref sig .tc .vmem S256x512 .bf16) (harg23 : arg23.IsWhole) (x0 : Vec Ideal S256x512 .bf16) (x1 : Vec Ideal S16x512 .bf16) (x2 : Vec Ideal S16x512 .bf16) (x3 : Vec Ideal S256x512 .bf16) (x4 : Vec Ideal S256x512 .bf16) (x5 : Vec Ideal S16x512 .bf16) (x6 : Vec Ideal S16x512 .bf16) (x7 : Vec Ideal S256x512 .bf16) (x8 : Vec Ideal S16x512 .bf16) (x9 : Vec Ideal S16x512 .bf16) (x10 : Vec Ideal S256x512 .bf16) (x11 : Vec Ideal S4x128x128 .bf16) (x12 : Vec Ideal S1x512 .f32) (x13 : Vec Ideal S31x512 .f32) (x14 : Vec Ideal S1x512 .f32) (x15 : Vec Ideal S1x512 .f32) (x16 : Vec Ideal S1x512 .f32) (x17 : Vec Ideal S512x512 .bf16)
    (hz : arg23.view.read (Elt Ideal) (arg23.view.writes (Elt Ideal) arg23.view.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.2.2.1) = z) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.1 = [⟨Rect.unit (s := S256x512) ![0, 0] S256x512.size inb_S256x512_S256x512_0_0, k0_pay44 (F := Ideal) z x17 x10⟩] := by
  have h18 : View.ld (Val := Elt Ideal) (e' := .bf16) (arg18.view.read (Elt Ideal) (harg18.unread x17)) (Rect.unit (s := S512x512) ![0, 0] S512x512.size inb_S512x512_S512x512_0_0) = x17 := by
    rw [harg18.read_unread x17]
    exact View.ld_unit_zero (funext fun a => by fin_cases a <;> rfl) _ _
  have h11 : View.ld (Val := Elt Ideal) (e' := .bf16) (arg11.view.read (Elt Ideal) (harg11.unread x10)) (Rect.unit (s := S256x512) ![0, 0] S256x512.size inb_S256x512_S256x512_0_0) = x10 := by
    rw [harg11.read_unread x10]
    exact View.ld_unit_zero (funext fun a => by fin_cases a <;> rfl) _ _
  have hr : View.ld (Val := Elt Ideal) (e' := .bf16) (arg23.view.read (Elt Ideal) (arg23.view.writes (Elt Ideal) arg23.view.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.2.2.1)) (Rect.unit (s := S256x512) ![0, 0] S256x512.size inb_S256x512_S256x512_0_0) = z := by
    rw [hz]
    exact View.ld_unit_zero (funext fun a => by fin_cases a <;> rfl) _ _
  conv_rhs => rw [← h18, ← h11]
  clear hz
  subst hr
  rfl

/-- The pooling branch's stores, from the padded tokens. -/
theorem pool_pieces (p : Vec Ideal S288x512 .f32) (c : Dev nD) (i : grid0.Coords) (arg1 : Memref sig .tc .vmem S256x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S256x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S256x512 .bf16) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S31x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S288x512 .f32) (harg21 : arg21.IsWhole) (arg22 : Memref sig .tc .vmem S288x512 .f32) (harg22 : arg22.IsWhole) (arg23 : Memref sig .tc .vmem S256x512 .bf16) (harg23 : arg23.IsWhole) (x0 : Vec Ideal S256x512 .bf16) (x1 : Vec Ideal S16x512 .bf16) (x2 : Vec Ideal S16x512 .bf16) (x3 : Vec Ideal S256x512 .bf16) (x4 : Vec Ideal S256x512 .bf16) (x5 : Vec Ideal S16x512 .bf16) (x6 : Vec Ideal S16x512 .bf16) (x7 : Vec Ideal S256x512 .bf16) (x8 : Vec Ideal S16x512 .bf16) (x9 : Vec Ideal S16x512 .bf16) (x10 : Vec Ideal S256x512 .bf16) (x11 : Vec Ideal S4x128x128 .bf16) (x12 : Vec Ideal S1x512 .f32) (x13 : Vec Ideal S31x512 .f32) (x14 : Vec Ideal S1x512 .f32) (x15 : Vec Ideal S1x512 .f32) (x16 : Vec Ideal S1x512 .f32) (x17 : Vec Ideal S512x512 .bf16)
    (hp : arg22.view.read (Elt Ideal) (arg22.view.writes (Elt Ideal) arg22.view.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).2.2.2.1) = p) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17).1 = [⟨Rect.unit (s := S256x512) ![0, 384] S256x128.size inb_S256x512_S256x128_0_384, pooled3 (tokens i) (p256 p 8 384 inb_S288x512_S256x128_8_384) (p256 p 9 384 inb_S288x512_S256x128_9_384) (p256 p 10 384 inb_S288x512_S256x128_10_384) (p256 p 11 384 inb_S288x512_S256x128_11_384) (p256 p 12 384 inb_S288x512_S256x128_12_384) (p256 p 13 384 inb_S288x512_S256x128_13_384) (p256 p 14 384 inb_S288x512_S256x128_14_384) (p256 p 15 384 inb_S288x512_S256x128_15_384) (p256 p 16 384 inb_S288x512_S256x128_16_384) (p256 p 17 384 inb_S288x512_S256x128_17_384) (p256 p 18 384 inb_S288x512_S256x128_18_384) (p256 p 19 384 inb_S288x512_S256x128_19_384) (p256 p 20 384 inb_S288x512_S256x128_20_384) (p256 p 21 384 inb_S288x512_S256x128_21_384) (p256 p 22 384 inb_S288x512_S256x128_22_384) (p256 p 23 384 inb_S288x512_S256x128_23_384) (p256 p 16 384 inb_S288x512_S256x128_16_384) (g128 x11 3 inb_S4x128x128_S1x128x128_3_0_0) (r128 x12 384 inb_S1x512_S1x128_0_384) (c128 x3 384 inb_S256x512_S256x128_0_384)⟩, ⟨Rect.unit (s := S256x512) ![0, 256] S256x128.size inb_S256x512_S256x128_0_256, pooled2 (tokens i) (p256 p 12 256 inb_S288x512_S256x128_12_256) (p256 p 13 256 inb_S288x512_S256x128_13_256) (p256 p 14 256 inb_S288x512_S256x128_14_256) (p256 p 15 256 inb_S288x512_S256x128_15_256) (p256 p 16 256 inb_S288x512_S256x128_16_256) (p256 p 17 256 inb_S288x512_S256x128_17_256) (p256 p 18 256 inb_S288x512_S256x128_18_256) (p256 p 19 256 inb_S288x512_S256x128_19_256) (p256 p 16 256 inb_S288x512_S256x128_16_256) (g128 x11 2 inb_S4x128x128_S1x128x128_2_0_0) (r128 x12 256 inb_S1x512_S1x128_0_256) (c128 x3 256 inb_S256x512_S256x128_0_256)⟩, ⟨Rect.unit (s := S256x512) ![0, 128] S256x128.size inb_S256x512_S256x128_0_128, pooled1 (tokens i) (p256 p 14 128 inb_S288x512_S256x128_14_128) (p256 p 15 128 inb_S288x512_S256x128_15_128) (p256 p 16 128 inb_S288x512_S256x128_16_128) (p256 p 17 128 inb_S288x512_S256x128_17_128) (p256 p 16 128 inb_S288x512_S256x128_16_128) (g128 x11 1 inb_S4x128x128_S1x128x128_1_0_0) (r128 x12 128 inb_S1x512_S1x128_0_128) (c128 x3 128 inb_S256x512_S256x128_0_128)⟩, ⟨Rect.unit (s := S256x512) ![0, 0] S256x128.size inb_S256x512_S256x128_0_0, pooled0 (tokens i) (p256 p 15 0 inb_S288x512_S256x128_15_0) (p256 p 16 0 inb_S288x512_S256x128_16_0) (p256 p 16 0 inb_S288x512_S256x128_16_0) (g128 x11 0 inb_S4x128x128_S1x128x128_0_0_0) (r128 x12 0 inb_S1x512_S1x128_0_0) (c128 x3 0 inb_S256x512_S256x128_0_0)⟩] := by
  have h12 : arg12.view.read (Elt Ideal) (harg12.unread x11) = x11 := harg12.read_unread x11
  have h13 : arg13.view.read (Elt Ideal) (harg13.unread x12) = x12 := harg13.read_unread x12
  have h4 : arg4.view.read (Elt Ideal) (harg4.unread x3) = x3 := harg4.read_unread x3
  conv_rhs => rw [← h12, ← h13, ← h4]
  subst hp
  rfl

end Cert.PoolK

end
-- ==== Proof.PoolValue.lean ====
/- The pooling and convolution kernel: its two results as functions of the arguments. -/
module

public import proofs.«01_k».proof.Proof.PoolPieces

@[expose] public section

set_option maxRecDepth 65536

noncomputable section

namespace Cert.PoolK

open Cert.PoolConvIdeal Cert.PoolConvIdeal.Gen Idealize.ShloMosaic Idealize.ShloMosaic.ValueIdx Idealize.ShloMosaic.TcCoe Cert.Reads Cert.PoolMath Idealize.SL.Sem
open scoped BigOperators

/-- Three stores of 16, 256 and 16 rows hold a matrix that agrees with each. -/
theorem three_rows (f : Vec Ideal S288x512 .f32) (a b : FVec Ideal S16x512 .f32) (x : FVec Ideal S256x512 .f32)
    (ha : ∀ (r : Fin 16) (k : Fin 512), a (ix2 r k) = f (ix2 ⟨272 + r.val, by omega⟩ k)) (hx : ∀ (r : Fin 256) (k : Fin 512), x (ix2 r k) = f (ix2 ⟨16 + r.val, by omega⟩ k))
    (hb : ∀ (r : Fin 16) (k : Fin 512), b (ix2 r k) = f (ix2 ⟨r.val, by omega⟩ k)) {sp : Space} (v : View sig .tc sp S288x512 .f32) (g : v.ty.Contents (Elt Ideal)) :
    v.read (Elt Ideal) (v.writes (Elt Ideal) g [⟨Rect.unit (s := S288x512) ![272, 0] S16x512.size inb_S288x512_S16x512_272_0, a⟩, ⟨Rect.unit (s := S288x512) ![16, 0] S256x512.size inb_S288x512_S256x512_16_0, x⟩, ⟨Rect.unit (s := S288x512) ![0, 0] S16x512.size inb_S288x512_S16x512_0_0, b⟩]) = f := by
  funext y
  refine View.read_writes_apply_of_pieces _ _ f _ ?_ y ?_
  · intro p hp i
    simp only [List.mem_cons, List.not_mem_nil, or_false] at hp
    rcases hp with rfl | rfl | rfl
    · obtain ⟨r, k, rfl⟩ : ∃ (r : Fin 16) (k : Fin 512), i = ix2 r k := ⟨i 0, i 1, eq_ix2 i⟩
      refine (ha r k).trans (congrArg f (Shape.idx_ext₂ ?_ ?_))
      · show 272 + r.val = 272 + 1 * r.val; omega
      · show k.val = 0 + 1 * k.val; omega
    · obtain ⟨r, k, rfl⟩ : ∃ (r : Fin 256) (k : Fin 512), i = ix2 r k := ⟨i 0, i 1, eq_ix2 i⟩
      refine (hx r k).trans (congrArg f (Shape.idx_ext₂ ?_ ?_))
      · show 16 + r.val = 16 + 1 * r.val; omega
      · show k.val = 0 + 1 * k.val; omega
    · obtain ⟨r, k, rfl⟩ : ∃ (r : Fin 16) (k : Fin 512), i = ix2 r k := ⟨i 0, i 1, eq_ix2 i⟩
      refine (hb r k).trans (congrArg f (Shape.idx_ext₂ ?_ ?_))
      · show r.val = 0 + 1 * r.val; omega
      · show k.val = 0 + 1 * k.val; omega
  · have h0 : (y 0 : ℕ) < 288 := (y 0).isLt
    have h1 : (y 1 : ℕ) < 512 := (y 1).isLt
    by_cases h272 : 272 ≤ (y 0 : ℕ)
    · refine ⟨_, List.mem_cons_self, ?_⟩
      rw [Rect.mem_set_unit]
      intro a
      match a with
      | ⟨0, _⟩ => show 272 ≤ (y 0 : ℕ) ∧ (y 0 : ℕ) < 272 + 16; omega
      | ⟨1, _⟩ => show 0 ≤ (y 1 : ℕ) ∧ (y 1 : ℕ) < 0 + 512; omega
    · by_cases h16 : 16 ≤ (y 0 : ℕ)
      · refine ⟨_, List.mem_cons_of_mem _ List.mem_cons_self, ?_⟩
        rw [Rect.mem_set_unit]
        intro a
        match a with
        | ⟨0, _⟩ => show 16 ≤ (y 0 : ℕ) ∧ (y 0 : ℕ) < 16 + 256; omega
        | ⟨1, _⟩ => show 0 ≤ (y 1 : ℕ) ∧ (y 1 : ℕ) < 0 + 512; omega
      · refine ⟨_, List.mem_cons_of_mem _ (List.mem_cons_of_mem _ List.mem_cons_self), ?_⟩
        rw [Rect.mem_set_unit]
        intro a
        match a with
        | ⟨0, _⟩ => show 0 ≤ (y 0 : ℕ) ∧ (y 0 : ℕ) < 0 + 16; omega
        | ⟨1, _⟩ => show 0 ≤ (y 1 : ℕ) ∧ (y 1 : ℕ) < 0 + 512; omega

/-- Four stores of 64 rows hold a matrix that agrees with each. -/
theorem four_rows (f : Vec Ideal S256x512 .bf16) (a0 a1 a2 a3 : FVec Ideal S64x512 .bf16) (h0 : ∀ (r : Fin 64) (k : Fin 512), a0 (ix2 r k) = f (ix2 ⟨0 + r.val, by omega⟩ ⟨0 + k.val, by omega⟩)) (h1 : ∀ (r : Fin 64) (k : Fin 512), a1 (ix2 r k) = f (ix2 ⟨64 + r.val, by omega⟩ ⟨0 + k.val, by omega⟩)) (h2 : ∀ (r : Fin 64) (k : Fin 512), a2 (ix2 r k) = f (ix2 ⟨128 + r.val, by omega⟩ ⟨0 + k.val, by omega⟩)) (h3 : ∀ (r : Fin 64) (k : Fin 512), a3 (ix2 r k) = f (ix2 ⟨192 + r.val, by omega⟩ ⟨0 + k.val, by omega⟩)) {sp : Space} (v : View sig .tc sp S256x512 .bf16) (d : v.ty.Contents (Elt Ideal)) :
    v.read (Elt Ideal) (v.writes (Elt Ideal) d [⟨Rect.unit (s := S256x512) ![192, 0] S64x512.size inb_S256x512_S64x512_192_0, a3⟩, ⟨Rect.unit (s := S256x512) ![128, 0] S64x512.size inb_S256x512_S64x512_128_0, a2⟩, ⟨Rect.unit (s := S256x512) ![64, 0] S64x512.size inb_S256x512_S64x512_64_0, a1⟩, ⟨Rect.unit (s := S256x512) ![0, 0] S64x512.size inb_S256x512_S64x512_0_0, a0⟩]) = f := by
  funext y
  refine View.read_writes_apply_of_pieces _ _ f _ ?_ y ?_
  · intro p hp i
    simp only [List.mem_cons, List.not_mem_nil, or_false] at hp
    rcases hp with rfl | rfl | rfl | rfl
    · obtain ⟨r, k, rfl⟩ : ∃ (r : Fin 64) (k : Fin 512), i = ix2 r k := ⟨i 0, i 1, eq_ix2 i⟩
      refine (h3 r k).trans (congrArg f (Shape.idx_ext₂ ?_ ?_))
      · show 192 + r.val = 192 + 1 * r.val; omega
      · show 0 + k.val = 0 + 1 * k.val; omega
    · obtain ⟨r, k, rfl⟩ : ∃ (r : Fin 64) (k : Fin 512), i = ix2 r k := ⟨i 0, i 1, eq_ix2 i⟩
      refine (h2 r k).trans (congrArg f (Shape.idx_ext₂ ?_ ?_))
      · show 128 + r.val = 128 + 1 * r.val; omega
      · show 0 + k.val = 0 + 1 * k.val; omega
    · obtain ⟨r, k, rfl⟩ : ∃ (r : Fin 64) (k : Fin 512), i = ix2 r k := ⟨i 0, i 1, eq_ix2 i⟩
      refine (h1 r k).trans (congrArg f (Shape.idx_ext₂ ?_ ?_))
      · show 64 + r.val = 64 + 1 * r.val; omega
      · show 0 + k.val = 0 + 1 * k.val; omega
    · obtain ⟨r, k, rfl⟩ : ∃ (r : Fin 64) (k : Fin 512), i = ix2 r k := ⟨i 0, i 1, eq_ix2 i⟩
      refine (h0 r k).trans (congrArg f (Shape.idx_ext₂ ?_ ?_))
      · show 0 + r.val = 0 + 1 * r.val; omega
      · show 0 + k.val = 0 + 1 * k.val; omega
  · have l0 : (y 0 : ℕ) < 256 := (y 0).isLt
    have l1 : (y 1 : ℕ) < 512 := (y 1).isLt
    by_cases c3 : 192 ≤ (y 0 : ℕ)
    · refine ⟨_, List.mem_cons_self, ?_⟩
      rw [Rect.mem_set_unit]
      intro a
      match a with
      | ⟨0, _⟩ => show 192 ≤ (y 0 : ℕ) ∧ (y 0 : ℕ) < 192 + 64; omega
      | ⟨1, _⟩ => show 0 ≤ (y 1 : ℕ) ∧ (y 1 : ℕ) < 0 + 512; omega
    by_cases c2 : 128 ≤ (y 0 : ℕ)
    · refine ⟨_, (List.mem_cons_of_mem _ List.mem_cons_self), ?_⟩
      rw [Rect.mem_set_unit]
      intro a
      match a with
      | ⟨0, _⟩ => show 128 ≤ (y 0 : ℕ) ∧ (y 0 : ℕ) < 128 + 64; omega
      | ⟨1, _⟩ => show 0 ≤ (y 1 : ℕ) ∧ (y 1 : ℕ) < 0 + 512; omega
    by_cases c1 : 64 ≤ (y 0 : ℕ)
    · refine ⟨_, (List.mem_cons_of_mem _ (List.mem_cons_of_mem _ List.mem_cons_self)), ?_⟩
      rw [Rect.mem_set_unit]
      intro a
      match a with
      | ⟨0, _⟩ => show 64 ≤ (y 0 : ℕ) ∧ (y 0 : ℕ) < 64 + 64; omega
      | ⟨1, _⟩ => show 0 ≤ (y 1 : ℕ) ∧ (y 1 : ℕ) < 0 + 512; omega
    refine ⟨_, (List.mem_cons_of_mem _ (List.mem_cons_of_mem _ (List.mem_cons_of_mem _ List.mem_cons_self))), ?_⟩
    rw [Rect.mem_set_unit]
    intro a
    match a with
    | ⟨0, _⟩ => show 0 ≤ (y 0 : ℕ) ∧ (y 0 : ℕ) < 0 + 64; omega
    | ⟨1, _⟩ => show 0 ≤ (y 1 : ℕ) ∧ (y 1 : ℕ) < 0 + 512; omega

/-- Four stores of 128 columns hold a matrix that agrees with each. -/
theorem four_cols (f : Vec Ideal S256x512 .bf16) (a0 a1 a2 a3 : FVec Ideal S256x128 .bf16) (h0 : ∀ (r : Fin 256) (k : Fin 128), a0 (ix2 r k) = f (ix2 ⟨0 + r.val, by omega⟩ ⟨0 + k.val, by omega⟩)) (h1 : ∀ (r : Fin 256) (k : Fin 128), a1 (ix2 r k) = f (ix2 ⟨0 + r.val, by omega⟩ ⟨128 + k.val, by omega⟩)) (h2 : ∀ (r : Fin 256) (k : Fin 128), a2 (ix2 r k) = f (ix2 ⟨0 + r.val, by omega⟩ ⟨256 + k.val, by omega⟩)) (h3 : ∀ (r : Fin 256) (k : Fin 128), a3 (ix2 r k) = f (ix2 ⟨0 + r.val, by omega⟩ ⟨384 + k.val, by omega⟩)) {sp : Space} (v : View sig .tc sp S256x512 .bf16) (d : v.ty.Contents (Elt Ideal)) :
    v.read (Elt Ideal) (v.writes (Elt Ideal) d [⟨Rect.unit (s := S256x512) ![0, 384] S256x128.size inb_S256x512_S256x128_0_384, a3⟩, ⟨Rect.unit (s := S256x512) ![0, 256] S256x128.size inb_S256x512_S256x128_0_256, a2⟩, ⟨Rect.unit (s := S256x512) ![0, 128] S256x128.size inb_S256x512_S256x128_0_128, a1⟩, ⟨Rect.unit (s := S256x512) ![0, 0] S256x128.size inb_S256x512_S256x128_0_0, a0⟩]) = f := by
  funext y
  refine View.read_writes_apply_of_pieces _ _ f _ ?_ y ?_
  · intro p hp i
    simp only [List.mem_cons, List.not_mem_nil, or_false] at hp
    rcases hp with rfl | rfl | rfl | rfl
    · obtain ⟨r, k, rfl⟩ : ∃ (r : Fin 256) (k : Fin 128), i = ix2 r k := ⟨i 0, i 1, eq_ix2 i⟩
      refine (h3 r k).trans (congrArg f (Shape.idx_ext₂ ?_ ?_))
      · show 0 + r.val = 0 + 1 * r.val; omega
      · show 384 + k.val = 384 + 1 * k.val; omega
    · obtain ⟨r, k, rfl⟩ : ∃ (r : Fin 256) (k : Fin 128), i = ix2 r k := ⟨i 0, i 1, eq_ix2 i⟩
      refine (h2 r k).trans (congrArg f (Shape.idx_ext₂ ?_ ?_))
      · show 0 + r.val = 0 + 1 * r.val; omega
      · show 256 + k.val = 256 + 1 * k.val; omega
    · obtain ⟨r, k, rfl⟩ : ∃ (r : Fin 256) (k : Fin 128), i = ix2 r k := ⟨i 0, i 1, eq_ix2 i⟩
      refine (h1 r k).trans (congrArg f (Shape.idx_ext₂ ?_ ?_))
      · show 0 + r.val = 0 + 1 * r.val; omega
      · show 128 + k.val = 128 + 1 * k.val; omega
    · obtain ⟨r, k, rfl⟩ : ∃ (r : Fin 256) (k : Fin 128), i = ix2 r k := ⟨i 0, i 1, eq_ix2 i⟩
      refine (h0 r k).trans (congrArg f (Shape.idx_ext₂ ?_ ?_))
      · show 0 + r.val = 0 + 1 * r.val; omega
      · show 0 + k.val = 0 + 1 * k.val; omega
  · have l0 : (y 0 : ℕ) < 256 := (y 0).isLt
    have l1 : (y 1 : ℕ) < 512 := (y 1).isLt
    by_cases c3 : 384 ≤ (y 1 : ℕ)
    · refine ⟨_, List.mem_cons_self, ?_⟩
      rw [Rect.mem_set_unit]
      intro a
      match a with
      | ⟨0, _⟩ => show 0 ≤ (y 0 : ℕ) ∧ (y 0 : ℕ) < 0 + 256; omega
      | ⟨1, _⟩ => show 384 ≤ (y 1 : ℕ) ∧ (y 1 : ℕ) < 384 + 128; omega
    by_cases c2 : 256 ≤ (y 1 : ℕ)
    · refine ⟨_, (List.mem_cons_of_mem _ List.mem_cons_self), ?_⟩
      rw [Rect.mem_set_unit]
      intro a
      match a with
      | ⟨0, _⟩ => show 0 ≤ (y 0 : ℕ) ∧ (y 0 : ℕ) < 0 + 256; omega
      | ⟨1, _⟩ => show 256 ≤ (y 1 : ℕ) ∧ (y 1 : ℕ) < 256 + 128; omega
    by_cases c1 : 128 ≤ (y 1 : ℕ)
    · refine ⟨_, (List.mem_cons_of_mem _ (List.mem_cons_of_mem _ List.mem_cons_self)), ?_⟩
      rw [Rect.mem_set_unit]
      intro a
      match a with
      | ⟨0, _⟩ => show 0 ≤ (y 0 : ℕ) ∧ (y 0 : ℕ) < 0 + 256; omega
      | ⟨1, _⟩ => show 128 ≤ (y 1 : ℕ) ∧ (y 1 : ℕ) < 128 + 128; omega
    refine ⟨_, (List.mem_cons_of_mem _ (List.mem_cons_of_mem _ (List.mem_cons_of_mem _ List.mem_cons_self))), ?_⟩
    rw [Rect.mem_set_unit]
    intro a
    match a with
    | ⟨0, _⟩ => show 0 ≤ (y 0 : ℕ) ∧ (y 0 : ℕ) < 0 + 256; omega
    | ⟨1, _⟩ => show 0 ≤ (y 1 : ℕ) ∧ (y 1 : ℕ) < 0 + 128; omega

variable (m : (ℓ : Loc nD τ sig) → Buf (Elt Ideal) ℓ)

/-- The projected columns. -/
abbrev P (c : Dev nD) : S8192x6656.Idx → EReal := m ((c : Thread nD τ).loc main_arg0)

/-- The groups' weights. -/
abbrev Wg (c : Dev nD) : S4x128x128.Idx → EReal := m ((c : Thread nD τ).loc main_arg1)

/-- The pooling branch's scale. -/
abbrev Ps (c : Dev nD) : S512.Idx → EReal := m ((c : Thread nD τ).loc main_arg2)

/-- The taps. -/
abbrev Wd (c : Dev nD) : S31x512.Idx → EReal := m ((c : Thread nD τ).loc main_arg3)

/-- The taps' bias. -/
abbrev Bd (c : Dev nD) : S512.Idx → EReal := m ((c : Thread nD τ).loc main_arg4)

/-- The norm's scale. -/
abbrev Ga (c : Dev nD) : S512.Idx → EReal := m ((c : Thread nD τ).loc main_arg5)

/-- The norm's shift. -/
abbrev Be (c : Dev nD) : S512.Idx → EReal := m ((c : Thread nD τ).loc main_arg6)

/-- The pointwise weight. -/
abbrev Wp (c : Dev nD) : S512x512.Idx → EReal := m ((c : Thread nD τ).loc main_arg7)

theorem V0 (c : Dev nD) : V m c main_v0 = (m ((c : Thread nD τ).loc main_arg1) : S4x128x128.Idx → EReal) := by
  show StableHlo.after hostOps0 _ _ = _
  after_results
  rfl

theorem V1 (c : Dev nD) : (V m c main_v1 : FVec Ideal S1x512 .f32) = shapeCast S1x512 (m ((c : Thread nD τ).loc main_arg2) : S512.Idx → EReal) shapeCasts_S512_S1x512 := by
  show StableHlo.after hostOps0 _ _ = _
  after_results
  rfl

theorem V2 (c : Dev nD) : (V m c main_v2 : FVec Ideal S1x512 .f32) = shapeCast S1x512 (m ((c : Thread nD τ).loc main_arg4) : S512.Idx → EReal) shapeCasts_S512_S1x512 := by
  show StableHlo.after hostOps0 _ _ = _
  after_results
  rfl

theorem V3 (c : Dev nD) : (V m c main_v3 : FVec Ideal S1x512 .f32) = shapeCast S1x512 (m ((c : Thread nD τ).loc main_arg5) : S512.Idx → EReal) shapeCasts_S512_S1x512 := by
  show StableHlo.after hostOps0 _ _ = _
  after_results
  rfl

theorem V4 (c : Dev nD) : (V m c main_v4 : FVec Ideal S1x512 .f32) = shapeCast S1x512 (m ((c : Thread nD τ).loc main_arg6) : S512.Idx → EReal) shapeCasts_S512_S1x512 := by
  show StableHlo.after hostOps0 _ _ = _
  after_results
  rfl

theorem V5 (c : Dev nD) : V m c main_v5 = (m ((c : Thread nD τ).loc main_arg7) : S512x512.Idx → EReal) := by
  show StableHlo.after hostOps0 _ _ = _
  after_results
  rfl

/-- Where the windows' blocks stand at point `t`. -/
theorem where_cur : ∀ t : Fin cfg0.N, win0_0.index t 0 = t.val ∧ win0_0.index t 1 = 8 ∧ win0_3.index t 0 = t.val ∧ win0_3.index t 1 = 9 ∧ win0_4.index t 0 = t.val ∧ win0_4.index t 1 = 10 ∧ win0_7.index t 0 = t.val ∧ win0_7.index t 1 = 11 ∧ win0_10.index t 0 = t.val ∧ win0_10.index t 1 = 12 ∧ (grid0.coords t 0).val = t.val := by decide +kernel
theorem where_prev : ∀ t : Fin cfg0.N, win0_1.index t 0 = 16 * t.val - 1 ∧ win0_1.index t 1 = 8 ∧ win0_5.index t 0 = 16 * t.val - 1 ∧ win0_5.index t 1 = 10 ∧ win0_8.index t 0 = 16 * t.val - 1 ∧ win0_8.index t 1 = 11 := by decide +kernel
theorem where_next : ∀ t : Fin cfg0.N, win0_2.index t 0 = min (16 * (t.val + 1)) 511 ∧ win0_2.index t 1 = 8 ∧ win0_6.index t 0 = min (16 * (t.val + 1)) 511 ∧ win0_6.index t 1 = 10 ∧ win0_9.index t 0 = min (16 * (t.val + 1)) 511 ∧ win0_9.index t 1 = 11 := by decide +kernel
theorem where_rest : ∀ t : Fin cfg0.N, win0_11.index t 0 = 0 ∧ win0_11.index t 1 = 0 ∧ win0_11.index t 2 = 0 ∧ win0_12.index t 0 = 0 ∧ win0_12.index t 1 = 0 ∧ win0_13.index t 0 = 0 ∧ win0_13.index t 1 = 0 ∧ win0_14.index t 0 = 0 ∧ win0_14.index t 1 = 0 ∧ win0_15.index t 0 = 0 ∧ win0_15.index t 1 = 0 ∧ win0_16.index t 0 = 0 ∧ win0_16.index t 1 = 0 ∧ win0_17.index t 0 = 0 ∧ win0_17.index t 1 = 0 ∧ win0_18.index t 0 = t.val ∧ win0_18.index t 1 = 0 ∧ win0_19.index t 0 = t.val ∧ win0_19.index t 1 = 0 := by decide +kernel

theorem NT (t : Fin cfg0.N) : t.val < 32 := t.isLt

theorem blk0 (c : Dev nD) (t : Fin cfg0.N) (r : Fin 256) (k : Fin 512) : (iblk m c 0 t : S256x512.Idx → EReal) (ix2 r k) = ent (P m c) (256 * t.val + r.val) (4096 + k.val) := by
  obtain ⟨h0, h1, -⟩ := where_cur t
  have hN := NT t
  show (V m c main_arg0 : S8192x6656.Idx → EReal) _ = _
  rw [V_main_arg0]
  refine congrArg (P m c) (Shape.idx_ext₂ ?_ ?_)
  · show win0_0.index t 0 * 256 + 1 * r.val = (256 * t.val + r.val) % 8192
    rw [h0]; omega
  · show win0_0.index t 1 * 512 + 1 * k.val = (4096 + k.val) % 6656
    rw [h1]; omega

theorem blk3 (c : Dev nD) (t : Fin cfg0.N) (r : Fin 256) (k : Fin 512) : (iblk m c 3 t : S256x512.Idx → EReal) (ix2 r k) = ent (P m c) (256 * t.val + r.val) (4608 + k.val) := by
  obtain ⟨-, -, h0, h1, -⟩ := where_cur t
  have hN := NT t
  show (V m c main_arg0 : S8192x6656.Idx → EReal) _ = _
  rw [V_main_arg0]
  refine congrArg (P m c) (Shape.idx_ext₂ ?_ ?_)
  · show win0_3.index t 0 * 256 + 1 * r.val = (256 * t.val + r.val) % 8192
    rw [h0]; omega
  · show win0_3.index t 1 * 512 + 1 * k.val = (4608 + k.val) % 6656
    rw [h1]; omega

theorem blk4 (c : Dev nD) (t : Fin cfg0.N) (r : Fin 256) (k : Fin 512) : (iblk m c 4 t : S256x512.Idx → EReal) (ix2 r k) = ent (P m c) (256 * t.val + r.val) (5120 + k.val) := by
  obtain ⟨-, -, -, -, h0, h1, -⟩ := where_cur t
  have hN := NT t
  show (V m c main_arg0 : S8192x6656.Idx → EReal) _ = _
  rw [V_main_arg0]
  refine congrArg (P m c) (Shape.idx_ext₂ ?_ ?_)
  · show win0_4.index t 0 * 256 + 1 * r.val = (256 * t.val + r.val) % 8192
    rw [h0]; omega
  · show win0_4.index t 1 * 512 + 1 * k.val = (5120 + k.val) % 6656
    rw [h1]; omega

theorem blk7 (c : Dev nD) (t : Fin cfg0.N) (r : Fin 256) (k : Fin 512) : (iblk m c 7 t : S256x512.Idx → EReal) (ix2 r k) = ent (P m c) (256 * t.val + r.val) (5632 + k.val) := by
  obtain ⟨-, -, -, -, -, -, h0, h1, -⟩ := where_cur t
  have hN := NT t
  show (V m c main_arg0 : S8192x6656.Idx → EReal) _ = _
  rw [V_main_arg0]
  refine congrArg (P m c) (Shape.idx_ext₂ ?_ ?_)
  · show win0_7.index t 0 * 256 + 1 * r.val = (256 * t.val + r.val) % 8192
    rw [h0]; omega
  · show win0_7.index t 1 * 512 + 1 * k.val = (5632 + k.val) % 6656
    rw [h1]; omega

theorem blk10 (c : Dev nD) (t : Fin cfg0.N) (r : Fin 256) (k : Fin 512) : (iblk m c 10 t : S256x512.Idx → EReal) (ix2 r k) = ent (P m c) (256 * t.val + r.val) (6144 + k.val) := by
  obtain ⟨-, -, -, -, -, -, -, -, h0, h1, -⟩ := where_cur t
  have hN := NT t
  show (V m c main_arg0 : S8192x6656.Idx → EReal) _ = _
  rw [V_main_arg0]
  refine congrArg (P m c) (Shape.idx_ext₂ ?_ ?_)
  · show win0_10.index t 0 * 256 + 1 * r.val = (256 * t.val + r.val) % 8192
    rw [h0]; omega
  · show win0_10.index t 1 * 512 + 1 * k.val = (6144 + k.val) % 6656
    rw [h1]; omega

theorem blk1 (c : Dev nD) (t : Fin cfg0.N) (h : 0 < t.val % 8) (r : Fin 16) (k : Fin 512) : (iblk m c 1 t : S16x512.Idx → EReal) (ix2 r k) = ent (P m c) (256 * t.val + r.val - 16) (4096 + k.val) := by
  obtain ⟨h0, h1, -⟩ := where_prev t
  have hN := NT t
  show (V m c main_arg0 : S8192x6656.Idx → EReal) _ = _
  rw [V_main_arg0]
  refine congrArg (P m c) (Shape.idx_ext₂ ?_ ?_)
  · show win0_1.index t 0 * 16 + 1 * r.val = (256 * t.val + r.val - 16) % 8192
    rw [h0]; omega
  · show win0_1.index t 1 * 512 + 1 * k.val = (4096 + k.val) % 6656
    rw [h1]; omega

theorem blk5 (c : Dev nD) (t : Fin cfg0.N) (h : 0 < t.val % 8) (r : Fin 16) (k : Fin 512) : (iblk m c 5 t : S16x512.Idx → EReal) (ix2 r k) = ent (P m c) (256 * t.val + r.val - 16) (5120 + k.val) := by
  obtain ⟨-, -, h0, h1, -⟩ := where_prev t
  have hN := NT t
  show (V m c main_arg0 : S8192x6656.Idx → EReal) _ = _
  rw [V_main_arg0]
  refine congrArg (P m c) (Shape.idx_ext₂ ?_ ?_)
  · show win0_5.index t 0 * 16 + 1 * r.val = (256 * t.val + r.val - 16) % 8192
    rw [h0]; omega
  · show win0_5.index t 1 * 512 + 1 * k.val = (5120 + k.val) % 6656
    rw [h1]; omega

theorem blk8 (c : Dev nD) (t : Fin cfg0.N) (h : 0 < t.val % 8) (r : Fin 16) (k : Fin 512) : (iblk m c 8 t : S16x512.Idx → EReal) (ix2 r k) = ent (P m c) (256 * t.val + r.val - 16) (5632 + k.val) := by
  obtain ⟨-, -, -, -, h0, h1⟩ := where_prev t
  have hN := NT t
  show (V m c main_arg0 : S8192x6656.Idx → EReal) _ = _
  rw [V_main_arg0]
  refine congrArg (P m c) (Shape.idx_ext₂ ?_ ?_)
  · show win0_8.index t 0 * 16 + 1 * r.val = (256 * t.val + r.val - 16) % 8192
    rw [h0]; omega
  · show win0_8.index t 1 * 512 + 1 * k.val = (5632 + k.val) % 6656
    rw [h1]; omega

theorem blk2 (c : Dev nD) (t : Fin cfg0.N) (h : t.val % 8 < 7) (r : Fin 16) (k : Fin 512) : (iblk m c 2 t : S16x512.Idx → EReal) (ix2 r k) = ent (P m c) (256 * t.val + 256 + r.val) (4096 + k.val) := by
  obtain ⟨h0, h1, -⟩ := where_next t
  have hN := NT t
  show (V m c main_arg0 : S8192x6656.Idx → EReal) _ = _
  rw [V_main_arg0]
  refine congrArg (P m c) (Shape.idx_ext₂ ?_ ?_)
  · show win0_2.index t 0 * 16 + 1 * r.val = (256 * t.val + 256 + r.val) % 8192
    rw [h0]; omega
  · show win0_2.index t 1 * 512 + 1 * k.val = (4096 + k.val) % 6656
    rw [h1]; omega

theorem blk6 (c : Dev nD) (t : Fin cfg0.N) (h : t.val % 8 < 7) (r : Fin 16) (k : Fin 512) : (iblk m c 6 t : S16x512.Idx → EReal) (ix2 r k) = ent (P m c) (256 * t.val + 256 + r.val) (5120 + k.val) := by
  obtain ⟨-, -, h0, h1, -⟩ := where_next t
  have hN := NT t
  show (V m c main_arg0 : S8192x6656.Idx → EReal) _ = _
  rw [V_main_arg0]
  refine congrArg (P m c) (Shape.idx_ext₂ ?_ ?_)
  · show win0_6.index t 0 * 16 + 1 * r.val = (256 * t.val + 256 + r.val) % 8192
    rw [h0]; omega
  · show win0_6.index t 1 * 512 + 1 * k.val = (5120 + k.val) % 6656
    rw [h1]; omega

theorem blk9 (c : Dev nD) (t : Fin cfg0.N) (h : t.val % 8 < 7) (r : Fin 16) (k : Fin 512) : (iblk m c 9 t : S16x512.Idx → EReal) (ix2 r k) = ent (P m c) (256 * t.val + 256 + r.val) (5632 + k.val) := by
  obtain ⟨-, -, -, -, h0, h1⟩ := where_next t
  have hN := NT t
  show (V m c main_arg0 : S8192x6656.Idx → EReal) _ = _
  rw [V_main_arg0]
  refine congrArg (P m c) (Shape.idx_ext₂ ?_ ?_)
  · show win0_9.index t 0 * 16 + 1 * r.val = (256 * t.val + 256 + r.val) % 8192
    rw [h0]; omega
  · show win0_9.index t 1 * 512 + 1 * k.val = (5632 + k.val) % 6656
    rw [h1]; omega

theorem blk11 (c : Dev nD) (t : Fin cfg0.N) (g : Fin 4) (r k : Fin 128) : (iblk m c 11 t : S4x128x128.Idx → EReal) (ix3 g r k) = Wg m c (ix3 g r k) := by
  obtain ⟨h0, h1, h2, -⟩ := where_rest t
  show (V m c main_v0 : S4x128x128.Idx → EReal) _ = _
  rw [V0]
  refine congrArg (Wg m c) (funext fun a => Fin.ext ?_)
  match a with
  | ⟨0, _⟩ => show win0_11.index t 0 * 4 + 1 * g.val = g.val; rw [h0]; omega
  | ⟨1, _⟩ => show win0_11.index t 1 * 128 + 1 * r.val = r.val; rw [h1]; omega
  | ⟨2, _⟩ => show win0_11.index t 2 * 128 + 1 * k.val = k.val; rw [h2]; omega

theorem blk12 (c : Dev nD) (t : Fin cfg0.N) (k : Fin 512) : (iblk m c 12 t : S1x512.Idx → EReal) (ix2 0 k) = Ps m c (ix1 k) := by
  obtain ⟨-, -, -, h0, h1, -⟩ := where_rest t
  show (V m c main_v1 : FVec Ideal S1x512 .f32) _ = _
  rw [V1]
  refine Eq.trans ?_ (castRow _ shapeCasts_S512_S1x512 k)
  refine congrArg _ (Shape.idx_ext₂ ?_ ?_)
  · show win0_12.index t 0 * 1 + 1 * 0 = 0
    rw [h0]
  · show win0_12.index t 1 * 512 + 1 * k.val = k.val
    rw [h1]; omega

theorem blk14 (c : Dev nD) (t : Fin cfg0.N) (k : Fin 512) : (iblk m c 14 t : S1x512.Idx → EReal) (ix2 0 k) = Bd m c (ix1 k) := by
  obtain ⟨-, -, -, -, -, -, -, h0, h1, -⟩ := where_rest t
  show (V m c main_v2 : FVec Ideal S1x512 .f32) _ = _
  rw [V2]
  refine Eq.trans ?_ (castRow _ shapeCasts_S512_S1x512 k)
  refine congrArg _ (Shape.idx_ext₂ ?_ ?_)
  · show win0_14.index t 0 * 1 + 1 * 0 = 0
    rw [h0]
  · show win0_14.index t 1 * 512 + 1 * k.val = k.val
    rw [h1]; omega

theorem blk15 (c : Dev nD) (t : Fin cfg0.N) (k : Fin 512) : (iblk m c 15 t : S1x512.Idx → EReal) (ix2 0 k) = Ga m c (ix1 k) := by
  obtain ⟨-, -, -, -, -, -, -, -, -, h0, h1, -⟩ := where_rest t
  show (V m c main_v3 : FVec Ideal S1x512 .f32) _ = _
  rw [V3]
  refine Eq.trans ?_ (castRow _ shapeCasts_S512_S1x512 k)
  refine congrArg _ (Shape.idx_ext₂ ?_ ?_)
  · show win0_15.index t 0 * 1 + 1 * 0 = 0
    rw [h0]
  · show win0_15.index t 1 * 512 + 1 * k.val = k.val
    rw [h1]; omega

theorem blk16 (c : Dev nD) (t : Fin cfg0.N) (k : Fin 512) : (iblk m c 16 t : S1x512.Idx → EReal) (ix2 0 k) = Be m c (ix1 k) := by
  obtain ⟨-, -, -, -, -, -, -, -, -, -, -, h0, h1, -⟩ := where_rest t
  show (V m c main_v4 : FVec Ideal S1x512 .f32) _ = _
  rw [V4]
  refine Eq.trans ?_ (castRow _ shapeCasts_S512_S1x512 k)
  refine congrArg _ (Shape.idx_ext₂ ?_ ?_)
  · show win0_16.index t 0 * 1 + 1 * 0 = 0
    rw [h0]
  · show win0_16.index t 1 * 512 + 1 * k.val = k.val
    rw [h1]; omega

theorem blk13 (c : Dev nD) (t : Fin cfg0.N) (r : Fin 31) (k : Fin 512) : (iblk m c 13 t : S31x512.Idx → EReal) (ix2 r k) = Wd m c (ix2 r k) := by
  obtain ⟨-, -, -, -, -, h0, h1, -⟩ := where_rest t
  show (V m c main_arg3 : S31x512.Idx → EReal) _ = _
  rw [V_main_arg3]
  refine congrArg (Wd m c) (Shape.idx_ext₂ ?_ ?_)
  · show win0_13.index t 0 * 31 + 1 * r.val = r.val
    rw [h0]; omega
  · show win0_13.index t 1 * 512 + 1 * k.val = k.val
    rw [h1]; omega

theorem blk17 (c : Dev nD) (t : Fin cfg0.N) (r : Fin 512) (k : Fin 512) : (iblk m c 17 t : S512x512.Idx → EReal) (ix2 r k) = Wp m c (ix2 r k) := by
  obtain ⟨-, -, -, -, -, -, -, -, -, -, -, -, -, h0, h1, -⟩ := where_rest t
  show (V m c main_v5 : S512x512.Idx → EReal) _ = _
  rw [V5]
  refine congrArg (Wp m c) (Shape.idx_ext₂ ?_ ?_)
  · show win0_17.index t 0 * 512 + 1 * r.val = r.val
    rw [h0]; omega
  · show win0_17.index t 1 * 512 + 1 * k.val = k.val
    rw [h1]; omega

/-- The padded unit at point `t`. -/
def unit (c : Dev nD) (t : Fin cfg0.N) : S288x512.Idx → EReal := fun y => within (glu (P m c) (y 1).val) (t.val / 8) (t.val % 8 * 256 + (y 0).val)

/-- The padded tokens at point `t`. -/
def toks (c : Dev nD) (t : Fin cfg0.N) : S288x512.Idx → EReal := fun y => within (fun n => ent (P m c) n (4096 + (y 1).val)) (t.val / 8) (t.val % 8 * 256 + (y 0).val)

/-- A batch's entry at an offset inside it. -/
theorem within_pos (f : ℕ → EReal) (b s n : ℕ) (h : 16 ≤ s ∧ s < 2064) (e : 2048 * b + (s - 16) = n) : within f b s = f n := by
  unfold within
  rw [if_pos h, e]

/-- Outside it there is nothing. -/
theorem within_neg (f : ℕ → EReal) (b s : ℕ) (h : ¬(16 ≤ s ∧ s < 2064)) : within f b s = 0 := if_neg h

/-- The scratch holds the padded unit. -/
theorem unit_read (c : Dev nD) (t : Fin cfg0.N) :
    scM0_0.view.read (Elt Ideal) (scM0_0.view.writes (Elt Ideal) scM0_0.view.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.1) = unit m c t := by
  rw [unit_pieces]
  have hN := NT t
  obtain ⟨-, -, -, -, -, -, -, -, -, -, hi⟩ := where_cur t
  refine three_rows _ _ _ _ (fun r k => ?_) (fun r k => ?_) (fun r k => ?_) _ _
  · rw [pay5_apply, hi]
    split_ifs with h
    · rw [blk6 m c t h, blk9 m c t h]
      exact (within_pos (glu (P m c) k.val) _ _ (256 * t.val + 256 + r.val) (by show _ ≤ t.val % 8 * 256 + (272 + r.val) ∧ t.val % 8 * 256 + (272 + r.val) < _; omega) (by show 2048 * _ + (t.val % 8 * 256 + (272 + r.val) - 16) = _; omega)).symm
    · exact (within_neg _ _ _ (by show ¬(_ ≤ t.val % 8 * 256 + (272 + r.val) ∧ t.val % 8 * 256 + (272 + r.val) < _); omega)).symm
  · rw [pay3_apply, blk4, blk7]
    exact (within_pos (glu (P m c) k.val) _ _ (256 * t.val + r.val) (by show _ ≤ t.val % 8 * 256 + (16 + r.val) ∧ t.val % 8 * 256 + (16 + r.val) < _; omega) (by show 2048 * _ + (t.val % 8 * 256 + (16 + r.val) - 16) = _; omega)).symm
  · rw [pay2_apply, hi]
    split_ifs with h
    · rw [blk5 m c t h, blk8 m c t h]
      exact (within_pos (glu (P m c) k.val) _ _ (256 * t.val + r.val - 16) (by show _ ≤ t.val % 8 * 256 + r.val ∧ t.val % 8 * 256 + r.val < _; omega) (by show 2048 * _ + (t.val % 8 * 256 + r.val - 16) = _; omega)).symm
    · exact (within_neg _ _ _ (by show ¬(_ ≤ t.val % 8 * 256 + r.val ∧ t.val % 8 * 256 + r.val < _); omega)).symm

/-- The scratch holds the padded tokens. -/
theorem toks_read (c : Dev nD) (t : Fin cfg0.N) :
    scM0_1.view.read (Elt Ideal) (scM0_1.view.writes (Elt Ideal) scM0_1.view.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.1) = toks m c t := by
  rw [token_pieces]
  have hN := NT t
  obtain ⟨-, -, -, -, -, -, -, -, -, -, hi⟩ := where_cur t
  refine three_rows _ _ _ _ (fun r k => ?_) (fun r k => ?_) (fun r k => ?_) _ _
  · rw [pay8_apply, hi]
    split_ifs with h
    · rw [blk2 m c t h]
      exact (within_pos (fun n => ent (P m c) n (4096 + k.val)) _ _ (256 * t.val + 256 + r.val) (by show _ ≤ t.val % 8 * 256 + (272 + r.val) ∧ t.val % 8 * 256 + (272 + r.val) < _; omega) (by show 2048 * _ + (t.val % 8 * 256 + (272 + r.val) - 16) = _; omega)).symm
    · exact (within_neg _ _ _ (by show ¬(_ ≤ t.val % 8 * 256 + (272 + r.val) ∧ t.val % 8 * 256 + (272 + r.val) < _); omega)).symm
  · rw [pay7_apply, blk0]
    exact (within_pos (fun n => ent (P m c) n (4096 + k.val)) _ _ (256 * t.val + r.val) (by show _ ≤ t.val % 8 * 256 + (16 + r.val) ∧ t.val % 8 * 256 + (16 + r.val) < _; omega) (by show 2048 * _ + (t.val % 8 * 256 + (16 + r.val) - 16) = _; omega)).symm
  · rw [pay6_apply, hi]
    split_ifs with h
    · rw [blk1 m c t h]
      exact (within_pos (fun n => ent (P m c) n (4096 + k.val)) _ _ (256 * t.val + r.val - 16) (by show _ ≤ t.val % 8 * 256 + r.val ∧ t.val % 8 * 256 + r.val < _; omega) (by show 2048 * _ + (t.val % 8 * 256 + r.val - 16) = _; omega)).symm
    · exact (within_neg _ _ _ (by show ¬(_ ≤ t.val % 8 * 256 + r.val ∧ t.val % 8 * 256 + r.val < _); omega)).symm

/-- One tap's term. -/
theorem term (c : Dev nD) (t : Fin cfg0.N) (o j : ℕ) (h) (h') (r : Fin 64) (k : Fin 512) (T : ℕ) (J : Fin 31) (hJ : J.val = j) (e : t.val % 8 * 256 + (o + r.val) = T + 1 + j) :
    u64 (unit m c t) o h (ix2 r k) * tap (iblk m c 13 t) j h' (ix2 0 k) = within (glu (P m c) k.val) (t.val / 8) (T + 1 + J.val) * Wd m c (ix2 J k) := by
  have h288 : o + 64 ≤ 288 := h 0
  refine congrArg₂ (· * ·) ?_ ?_
  · refine (ld2 (e := .f32) (unit m c t) h r k ⟨o + r.val, by omega⟩ k rfl (Nat.zero_add _).symm).trans ?_
    show within _ _ (t.val % 8 * 256 + (o + r.val)) = _
    rw [e, hJ]
  · exact (ld2 (e := .f32) (iblk m c 13 t : S31x512.Idx → EReal) h' 0 k J k hJ (Nat.zero_add _).symm).trans (blk13 m c t J k)

/-- The taps of rows 0 to 63 of the tile. -/
theorem taps0 (c : Dev nD) (t : Fin cfg0.N) (r : Fin 64) (k : Fin 512) :
    tapSum (u64 (unit m c t) 1 inb_S288x512_S64x512_1_0) (u64 (unit m c t) 2 inb_S288x512_S64x512_2_0) (u64 (unit m c t) 3 inb_S288x512_S64x512_3_0) (u64 (unit m c t) 4 inb_S288x512_S64x512_4_0) (u64 (unit m c t) 5 inb_S288x512_S64x512_5_0) (u64 (unit m c t) 6 inb_S288x512_S64x512_6_0) (u64 (unit m c t) 7 inb_S288x512_S64x512_7_0) (u64 (unit m c t) 8 inb_S288x512_S64x512_8_0) (u64 (unit m c t) 9 inb_S288x512_S64x512_9_0) (u64 (unit m c t) 10 inb_S288x512_S64x512_10_0) (u64 (unit m c t) 11 inb_S288x512_S64x512_11_0) (u64 (unit m c t) 12 inb_S288x512_S64x512_12_0) (u64 (unit m c t) 13 inb_S288x512_S64x512_13_0) (u64 (unit m c t) 14 inb_S288x512_S64x512_14_0) (u64 (unit m c t) 15 inb_S288x512_S64x512_15_0) (u64 (unit m c t) 16 inb_S288x512_S64x512_16_0) (u64 (unit m c t) 17 inb_S288x512_S64x512_17_0) (u64 (unit m c t) 18 inb_S288x512_S64x512_18_0) (u64 (unit m c t) 19 inb_S288x512_S64x512_19_0) (u64 (unit m c t) 20 inb_S288x512_S64x512_20_0) (u64 (unit m c t) 21 inb_S288x512_S64x512_21_0) (u64 (unit m c t) 22 inb_S288x512_S64x512_22_0) (u64 (unit m c t) 23 inb_S288x512_S64x512_23_0) (u64 (unit m c t) 24 inb_S288x512_S64x512_24_0) (u64 (unit m c t) 25 inb_S288x512_S64x512_25_0) (u64 (unit m c t) 26 inb_S288x512_S64x512_26_0) (u64 (unit m c t) 27 inb_S288x512_S64x512_27_0) (u64 (unit m c t) 28 inb_S288x512_S64x512_28_0) (u64 (unit m c t) 29 inb_S288x512_S64x512_29_0) (u64 (unit m c t) 30 inb_S288x512_S64x512_30_0) (u64 (unit m c t) 31 inb_S288x512_S64x512_31_0) (tap (iblk m c 13 t) 0 inb_S31x512_S1x512_0_0) (tap (iblk m c 13 t) 1 inb_S31x512_S1x512_1_0) (tap (iblk m c 13 t) 2 inb_S31x512_S1x512_2_0) (tap (iblk m c 13 t) 3 inb_S31x512_S1x512_3_0) (tap (iblk m c 13 t) 4 inb_S31x512_S1x512_4_0) (tap (iblk m c 13 t) 5 inb_S31x512_S1x512_5_0) (tap (iblk m c 13 t) 6 inb_S31x512_S1x512_6_0) (tap (iblk m c 13 t) 7 inb_S31x512_S1x512_7_0) (tap (iblk m c 13 t) 8 inb_S31x512_S1x512_8_0) (tap (iblk m c 13 t) 9 inb_S31x512_S1x512_9_0) (tap (iblk m c 13 t) 10 inb_S31x512_S1x512_10_0) (tap (iblk m c 13 t) 11 inb_S31x512_S1x512_11_0) (tap (iblk m c 13 t) 12 inb_S31x512_S1x512_12_0) (tap (iblk m c 13 t) 13 inb_S31x512_S1x512_13_0) (tap (iblk m c 13 t) 14 inb_S31x512_S1x512_14_0) (tap (iblk m c 13 t) 15 inb_S31x512_S1x512_15_0) (tap (iblk m c 13 t) 16 inb_S31x512_S1x512_16_0) (tap (iblk m c 13 t) 17 inb_S31x512_S1x512_17_0) (tap (iblk m c 13 t) 18 inb_S31x512_S1x512_18_0) (tap (iblk m c 13 t) 19 inb_S31x512_S1x512_19_0) (tap (iblk m c 13 t) 20 inb_S31x512_S1x512_20_0) (tap (iblk m c 13 t) 21 inb_S31x512_S1x512_21_0) (tap (iblk m c 13 t) 22 inb_S31x512_S1x512_22_0) (tap (iblk m c 13 t) 23 inb_S31x512_S1x512_23_0) (tap (iblk m c 13 t) 24 inb_S31x512_S1x512_24_0) (tap (iblk m c 13 t) 25 inb_S31x512_S1x512_25_0) (tap (iblk m c 13 t) 26 inb_S31x512_S1x512_26_0) (tap (iblk m c 13 t) 27 inb_S31x512_S1x512_27_0) (tap (iblk m c 13 t) 28 inb_S31x512_S1x512_28_0) (tap (iblk m c 13 t) 29 inb_S31x512_S1x512_29_0) (tap (iblk m c 13 t) 30 inb_S31x512_S1x512_30_0) (iblk m c 14 t) (ix2 r k) = conv (P m c) (Wd m c) (Bd m c) (t.val / 8) (t.val % 8 * 256 + (0 + r.val)) k := by
  rw [tapSum_apply]
  unfold conv
  rw [sum31, blk14]
  refine congrArg₂ (· + ·) ?_ rfl
  iterate 30 refine congrArg₂ (· + ·) ?_ (term m c t _ _ _ _ r k _ _ rfl (by omega))
  exact term m c t _ _ _ _ r k _ _ rfl (by omega)

/-- The taps of rows 64 to 127 of the tile. -/
theorem taps1 (c : Dev nD) (t : Fin cfg0.N) (r : Fin 64) (k : Fin 512) :
    tapSum (u64 (unit m c t) 65 inb_S288x512_S64x512_65_0) (u64 (unit m c t) 66 inb_S288x512_S64x512_66_0) (u64 (unit m c t) 67 inb_S288x512_S64x512_67_0) (u64 (unit m c t) 68 inb_S288x512_S64x512_68_0) (u64 (unit m c t) 69 inb_S288x512_S64x512_69_0) (u64 (unit m c t) 70 inb_S288x512_S64x512_70_0) (u64 (unit m c t) 71 inb_S288x512_S64x512_71_0) (u64 (unit m c t) 72 inb_S288x512_S64x512_72_0) (u64 (unit m c t) 73 inb_S288x512_S64x512_73_0) (u64 (unit m c t) 74 inb_S288x512_S64x512_74_0) (u64 (unit m c t) 75 inb_S288x512_S64x512_75_0) (u64 (unit m c t) 76 inb_S288x512_S64x512_76_0) (u64 (unit m c t) 77 inb_S288x512_S64x512_77_0) (u64 (unit m c t) 78 inb_S288x512_S64x512_78_0) (u64 (unit m c t) 79 inb_S288x512_S64x512_79_0) (u64 (unit m c t) 80 inb_S288x512_S64x512_80_0) (u64 (unit m c t) 81 inb_S288x512_S64x512_81_0) (u64 (unit m c t) 82 inb_S288x512_S64x512_82_0) (u64 (unit m c t) 83 inb_S288x512_S64x512_83_0) (u64 (unit m c t) 84 inb_S288x512_S64x512_84_0) (u64 (unit m c t) 85 inb_S288x512_S64x512_85_0) (u64 (unit m c t) 86 inb_S288x512_S64x512_86_0) (u64 (unit m c t) 87 inb_S288x512_S64x512_87_0) (u64 (unit m c t) 88 inb_S288x512_S64x512_88_0) (u64 (unit m c t) 89 inb_S288x512_S64x512_89_0) (u64 (unit m c t) 90 inb_S288x512_S64x512_90_0) (u64 (unit m c t) 91 inb_S288x512_S64x512_91_0) (u64 (unit m c t) 92 inb_S288x512_S64x512_92_0) (u64 (unit m c t) 93 inb_S288x512_S64x512_93_0) (u64 (unit m c t) 94 inb_S288x512_S64x512_94_0) (u64 (unit m c t) 95 inb_S288x512_S64x512_95_0) (tap (iblk m c 13 t) 0 inb_S31x512_S1x512_0_0) (tap (iblk m c 13 t) 1 inb_S31x512_S1x512_1_0) (tap (iblk m c 13 t) 2 inb_S31x512_S1x512_2_0) (tap (iblk m c 13 t) 3 inb_S31x512_S1x512_3_0) (tap (iblk m c 13 t) 4 inb_S31x512_S1x512_4_0) (tap (iblk m c 13 t) 5 inb_S31x512_S1x512_5_0) (tap (iblk m c 13 t) 6 inb_S31x512_S1x512_6_0) (tap (iblk m c 13 t) 7 inb_S31x512_S1x512_7_0) (tap (iblk m c 13 t) 8 inb_S31x512_S1x512_8_0) (tap (iblk m c 13 t) 9 inb_S31x512_S1x512_9_0) (tap (iblk m c 13 t) 10 inb_S31x512_S1x512_10_0) (tap (iblk m c 13 t) 11 inb_S31x512_S1x512_11_0) (tap (iblk m c 13 t) 12 inb_S31x512_S1x512_12_0) (tap (iblk m c 13 t) 13 inb_S31x512_S1x512_13_0) (tap (iblk m c 13 t) 14 inb_S31x512_S1x512_14_0) (tap (iblk m c 13 t) 15 inb_S31x512_S1x512_15_0) (tap (iblk m c 13 t) 16 inb_S31x512_S1x512_16_0) (tap (iblk m c 13 t) 17 inb_S31x512_S1x512_17_0) (tap (iblk m c 13 t) 18 inb_S31x512_S1x512_18_0) (tap (iblk m c 13 t) 19 inb_S31x512_S1x512_19_0) (tap (iblk m c 13 t) 20 inb_S31x512_S1x512_20_0) (tap (iblk m c 13 t) 21 inb_S31x512_S1x512_21_0) (tap (iblk m c 13 t) 22 inb_S31x512_S1x512_22_0) (tap (iblk m c 13 t) 23 inb_S31x512_S1x512_23_0) (tap (iblk m c 13 t) 24 inb_S31x512_S1x512_24_0) (tap (iblk m c 13 t) 25 inb_S31x512_S1x512_25_0) (tap (iblk m c 13 t) 26 inb_S31x512_S1x512_26_0) (tap (iblk m c 13 t) 27 inb_S31x512_S1x512_27_0) (tap (iblk m c 13 t) 28 inb_S31x512_S1x512_28_0) (tap (iblk m c 13 t) 29 inb_S31x512_S1x512_29_0) (tap (iblk m c 13 t) 30 inb_S31x512_S1x512_30_0) (iblk m c 14 t) (ix2 r k) = conv (P m c) (Wd m c) (Bd m c) (t.val / 8) (t.val % 8 * 256 + (64 + r.val)) k := by
  rw [tapSum_apply]
  unfold conv
  rw [sum31, blk14]
  refine congrArg₂ (· + ·) ?_ rfl
  iterate 30 refine congrArg₂ (· + ·) ?_ (term m c t _ _ _ _ r k _ _ rfl (by omega))
  exact term m c t _ _ _ _ r k _ _ rfl (by omega)

/-- The taps of rows 128 to 191 of the tile. -/
theorem taps2 (c : Dev nD) (t : Fin cfg0.N) (r : Fin 64) (k : Fin 512) :
    tapSum (u64 (unit m c t) 129 inb_S288x512_S64x512_129_0) (u64 (unit m c t) 130 inb_S288x512_S64x512_130_0) (u64 (unit m c t) 131 inb_S288x512_S64x512_131_0) (u64 (unit m c t) 132 inb_S288x512_S64x512_132_0) (u64 (unit m c t) 133 inb_S288x512_S64x512_133_0) (u64 (unit m c t) 134 inb_S288x512_S64x512_134_0) (u64 (unit m c t) 135 inb_S288x512_S64x512_135_0) (u64 (unit m c t) 136 inb_S288x512_S64x512_136_0) (u64 (unit m c t) 137 inb_S288x512_S64x512_137_0) (u64 (unit m c t) 138 inb_S288x512_S64x512_138_0) (u64 (unit m c t) 139 inb_S288x512_S64x512_139_0) (u64 (unit m c t) 140 inb_S288x512_S64x512_140_0) (u64 (unit m c t) 141 inb_S288x512_S64x512_141_0) (u64 (unit m c t) 142 inb_S288x512_S64x512_142_0) (u64 (unit m c t) 143 inb_S288x512_S64x512_143_0) (u64 (unit m c t) 144 inb_S288x512_S64x512_144_0) (u64 (unit m c t) 145 inb_S288x512_S64x512_145_0) (u64 (unit m c t) 146 inb_S288x512_S64x512_146_0) (u64 (unit m c t) 147 inb_S288x512_S64x512_147_0) (u64 (unit m c t) 148 inb_S288x512_S64x512_148_0) (u64 (unit m c t) 149 inb_S288x512_S64x512_149_0) (u64 (unit m c t) 150 inb_S288x512_S64x512_150_0) (u64 (unit m c t) 151 inb_S288x512_S64x512_151_0) (u64 (unit m c t) 152 inb_S288x512_S64x512_152_0) (u64 (unit m c t) 153 inb_S288x512_S64x512_153_0) (u64 (unit m c t) 154 inb_S288x512_S64x512_154_0) (u64 (unit m c t) 155 inb_S288x512_S64x512_155_0) (u64 (unit m c t) 156 inb_S288x512_S64x512_156_0) (u64 (unit m c t) 157 inb_S288x512_S64x512_157_0) (u64 (unit m c t) 158 inb_S288x512_S64x512_158_0) (u64 (unit m c t) 159 inb_S288x512_S64x512_159_0) (tap (iblk m c 13 t) 0 inb_S31x512_S1x512_0_0) (tap (iblk m c 13 t) 1 inb_S31x512_S1x512_1_0) (tap (iblk m c 13 t) 2 inb_S31x512_S1x512_2_0) (tap (iblk m c 13 t) 3 inb_S31x512_S1x512_3_0) (tap (iblk m c 13 t) 4 inb_S31x512_S1x512_4_0) (tap (iblk m c 13 t) 5 inb_S31x512_S1x512_5_0) (tap (iblk m c 13 t) 6 inb_S31x512_S1x512_6_0) (tap (iblk m c 13 t) 7 inb_S31x512_S1x512_7_0) (tap (iblk m c 13 t) 8 inb_S31x512_S1x512_8_0) (tap (iblk m c 13 t) 9 inb_S31x512_S1x512_9_0) (tap (iblk m c 13 t) 10 inb_S31x512_S1x512_10_0) (tap (iblk m c 13 t) 11 inb_S31x512_S1x512_11_0) (tap (iblk m c 13 t) 12 inb_S31x512_S1x512_12_0) (tap (iblk m c 13 t) 13 inb_S31x512_S1x512_13_0) (tap (iblk m c 13 t) 14 inb_S31x512_S1x512_14_0) (tap (iblk m c 13 t) 15 inb_S31x512_S1x512_15_0) (tap (iblk m c 13 t) 16 inb_S31x512_S1x512_16_0) (tap (iblk m c 13 t) 17 inb_S31x512_S1x512_17_0) (tap (iblk m c 13 t) 18 inb_S31x512_S1x512_18_0) (tap (iblk m c 13 t) 19 inb_S31x512_S1x512_19_0) (tap (iblk m c 13 t) 20 inb_S31x512_S1x512_20_0) (tap (iblk m c 13 t) 21 inb_S31x512_S1x512_21_0) (tap (iblk m c 13 t) 22 inb_S31x512_S1x512_22_0) (tap (iblk m c 13 t) 23 inb_S31x512_S1x512_23_0) (tap (iblk m c 13 t) 24 inb_S31x512_S1x512_24_0) (tap (iblk m c 13 t) 25 inb_S31x512_S1x512_25_0) (tap (iblk m c 13 t) 26 inb_S31x512_S1x512_26_0) (tap (iblk m c 13 t) 27 inb_S31x512_S1x512_27_0) (tap (iblk m c 13 t) 28 inb_S31x512_S1x512_28_0) (tap (iblk m c 13 t) 29 inb_S31x512_S1x512_29_0) (tap (iblk m c 13 t) 30 inb_S31x512_S1x512_30_0) (iblk m c 14 t) (ix2 r k) = conv (P m c) (Wd m c) (Bd m c) (t.val / 8) (t.val % 8 * 256 + (128 + r.val)) k := by
  rw [tapSum_apply]
  unfold conv
  rw [sum31, blk14]
  refine congrArg₂ (· + ·) ?_ rfl
  iterate 30 refine congrArg₂ (· + ·) ?_ (term m c t _ _ _ _ r k _ _ rfl (by omega))
  exact term m c t _ _ _ _ r k _ _ rfl (by omega)

/-- The taps of rows 192 to 255 of the tile. -/
theorem taps3 (c : Dev nD) (t : Fin cfg0.N) (r : Fin 64) (k : Fin 512) :
    tapSum (u64 (unit m c t) 193 inb_S288x512_S64x512_193_0) (u64 (unit m c t) 194 inb_S288x512_S64x512_194_0) (u64 (unit m c t) 195 inb_S288x512_S64x512_195_0) (u64 (unit m c t) 196 inb_S288x512_S64x512_196_0) (u64 (unit m c t) 197 inb_S288x512_S64x512_197_0) (u64 (unit m c t) 198 inb_S288x512_S64x512_198_0) (u64 (unit m c t) 199 inb_S288x512_S64x512_199_0) (u64 (unit m c t) 200 inb_S288x512_S64x512_200_0) (u64 (unit m c t) 201 inb_S288x512_S64x512_201_0) (u64 (unit m c t) 202 inb_S288x512_S64x512_202_0) (u64 (unit m c t) 203 inb_S288x512_S64x512_203_0) (u64 (unit m c t) 204 inb_S288x512_S64x512_204_0) (u64 (unit m c t) 205 inb_S288x512_S64x512_205_0) (u64 (unit m c t) 206 inb_S288x512_S64x512_206_0) (u64 (unit m c t) 207 inb_S288x512_S64x512_207_0) (u64 (unit m c t) 208 inb_S288x512_S64x512_208_0) (u64 (unit m c t) 209 inb_S288x512_S64x512_209_0) (u64 (unit m c t) 210 inb_S288x512_S64x512_210_0) (u64 (unit m c t) 211 inb_S288x512_S64x512_211_0) (u64 (unit m c t) 212 inb_S288x512_S64x512_212_0) (u64 (unit m c t) 213 inb_S288x512_S64x512_213_0) (u64 (unit m c t) 214 inb_S288x512_S64x512_214_0) (u64 (unit m c t) 215 inb_S288x512_S64x512_215_0) (u64 (unit m c t) 216 inb_S288x512_S64x512_216_0) (u64 (unit m c t) 217 inb_S288x512_S64x512_217_0) (u64 (unit m c t) 218 inb_S288x512_S64x512_218_0) (u64 (unit m c t) 219 inb_S288x512_S64x512_219_0) (u64 (unit m c t) 220 inb_S288x512_S64x512_220_0) (u64 (unit m c t) 221 inb_S288x512_S64x512_221_0) (u64 (unit m c t) 222 inb_S288x512_S64x512_222_0) (u64 (unit m c t) 223 inb_S288x512_S64x512_223_0) (tap (iblk m c 13 t) 0 inb_S31x512_S1x512_0_0) (tap (iblk m c 13 t) 1 inb_S31x512_S1x512_1_0) (tap (iblk m c 13 t) 2 inb_S31x512_S1x512_2_0) (tap (iblk m c 13 t) 3 inb_S31x512_S1x512_3_0) (tap (iblk m c 13 t) 4 inb_S31x512_S1x512_4_0) (tap (iblk m c 13 t) 5 inb_S31x512_S1x512_5_0) (tap (iblk m c 13 t) 6 inb_S31x512_S1x512_6_0) (tap (iblk m c 13 t) 7 inb_S31x512_S1x512_7_0) (tap (iblk m c 13 t) 8 inb_S31x512_S1x512_8_0) (tap (iblk m c 13 t) 9 inb_S31x512_S1x512_9_0) (tap (iblk m c 13 t) 10 inb_S31x512_S1x512_10_0) (tap (iblk m c 13 t) 11 inb_S31x512_S1x512_11_0) (tap (iblk m c 13 t) 12 inb_S31x512_S1x512_12_0) (tap (iblk m c 13 t) 13 inb_S31x512_S1x512_13_0) (tap (iblk m c 13 t) 14 inb_S31x512_S1x512_14_0) (tap (iblk m c 13 t) 15 inb_S31x512_S1x512_15_0) (tap (iblk m c 13 t) 16 inb_S31x512_S1x512_16_0) (tap (iblk m c 13 t) 17 inb_S31x512_S1x512_17_0) (tap (iblk m c 13 t) 18 inb_S31x512_S1x512_18_0) (tap (iblk m c 13 t) 19 inb_S31x512_S1x512_19_0) (tap (iblk m c 13 t) 20 inb_S31x512_S1x512_20_0) (tap (iblk m c 13 t) 21 inb_S31x512_S1x512_21_0) (tap (iblk m c 13 t) 22 inb_S31x512_S1x512_22_0) (tap (iblk m c 13 t) 23 inb_S31x512_S1x512_23_0) (tap (iblk m c 13 t) 24 inb_S31x512_S1x512_24_0) (tap (iblk m c 13 t) 25 inb_S31x512_S1x512_25_0) (tap (iblk m c 13 t) 26 inb_S31x512_S1x512_26_0) (tap (iblk m c 13 t) 27 inb_S31x512_S1x512_27_0) (tap (iblk m c 13 t) 28 inb_S31x512_S1x512_28_0) (tap (iblk m c 13 t) 29 inb_S31x512_S1x512_29_0) (tap (iblk m c 13 t) 30 inb_S31x512_S1x512_30_0) (iblk m c 14 t) (ix2 r k) = conv (P m c) (Wd m c) (Bd m c) (t.val / 8) (t.val % 8 * 256 + (192 + r.val)) k := by
  rw [tapSum_apply]
  unfold conv
  rw [sum31, blk14]
  refine congrArg₂ (· + ·) ?_ rfl
  iterate 30 refine congrArg₂ (· + ·) ?_ (term m c t _ _ _ _ r k _ _ rfl (by omega))
  exact term m c t _ _ _ _ r k _ _ rfl (by omega)

/-- The rows kept at point `t`. -/
def kept (c : Dev nD) (t : Fin cfg0.N) : S256x512.Idx → EReal := fun y =>
  silu (layerNorm (conv (P m c) (Wd m c) (Bd m c) (t.val / 8) (t.val % 8 * 256 + (y 0).val)) (fun k => Ga m c (ix1 k)) (fun k => Be m c (ix1 k)) (y 1))

theorem kept_read (c : Dev nD) (t : Fin cfg0.N) :
    scM0_2.view.read (Elt Ideal) (scM0_2.view.writes (Elt Ideal) scM0_2.view.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.1) = kept m c t := by
  rw [kept_pieces (unit m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (unit_read m c t)]
  refine four_rows _ _ _ _ _ (fun r k => ?_) (fun r k => ?_) (fun r k => ?_) (fun r k => ?_) _ _
  · rw [keep64_apply]
    simp only [taps0, blk15, blk16]
    unfold kept
    exact congrArg silu (congrArg (layerNorm _ _ _) (Fin.ext (Nat.zero_add _).symm))
  · rw [keep64_apply]
    simp only [taps1, blk15, blk16]
    unfold kept
    exact congrArg silu (congrArg (layerNorm _ _ _) (Fin.ext (Nat.zero_add _).symm))
  · rw [keep64_apply]
    simp only [taps2, blk15, blk16]
    unfold kept
    exact congrArg silu (congrArg (layerNorm _ _ _) (Fin.ext (Nat.zero_add _).symm))
  · rw [keep64_apply]
    simp only [taps3, blk15, blk16]
    unfold kept
    exact congrArg silu (congrArg (layerNorm _ _ _) (Fin.ext (Nat.zero_add _).symm))

/-- What point `t` writes of the convolution branch. -/
theorem conv_out (c : Dev nD) (t : Fin cfg0.N) : out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = k0_pay44 (F := Ideal) (kept m c t) (iblk m c 17 t) (iblk m c 10 t) := by
  funext y
  unfold out0_A_19
  refine View.read_writes_apply_of_pieces _ _ (k0_pay44 (F := Ideal) (kept m c t) (iblk m c 17 t) (iblk m c 10 t)) _ ?_ y (cover0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y)
  rw [conv_pieces (kept m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (kept_read m c t)]
  intro p hp x
  obtain rfl := List.mem_singleton.mp hp
  refine congrArg (k0_pay44 (F := Ideal) (kept m c t) (iblk m c 17 t) (iblk m c 10 t)) (funext fun a => Fin.ext ?_)
  match a with
  | ⟨0, _⟩ => show (x 0 : ℕ) = 0 + 1 * (x 0 : ℕ); omega
  | ⟨1, _⟩ => show (x 1 : ℕ) = 0 + 1 * (x 1 : ℕ); omega

/-- The padded tokens, by rows and columns. -/
theorem p256_eq (c : Dev nD) (t : Fin cfg0.N) (o q : ℕ) (h) (r : Fin 256) (k : Fin 128) (s : ℕ) (e : t.val % 8 * 256 + (o + r.val) = s) :
    p256 (toks m c t) o q h (ix2 r k) = within (fun n => ent (P m c) n (4096 + (q + k.val))) (t.val / 8) s := by
  have h0 : o + 256 ≤ 288 := h 0
  have h1 : q + 128 ≤ 512 := h 1
  refine (ld2 (e := .f32) (toks m c t) h r k ⟨o + r.val, by omega⟩ ⟨q + k.val, by omega⟩ rfl rfl).trans ?_
  subst e
  rfl

/-- One group's weight. -/
theorem group_ld (c : Dev nD) (t : Fin cfg0.N) (g : ℕ) (h) (r k : Fin 128) (G : Fin 4) (e : G.val = g) : g128 (iblk m c 11 t) g h (ix3 0 r k) = Wg m c (ix3 G r k) := by
  refine Eq.trans (congrArg (iblk m c 11 t : S4x128x128.Idx → EReal) (funext fun a => Fin.ext ?_)) (blk11 m c t G r k)
  match a with
  | ⟨0, _⟩ => show g + 1 * 0 = G.val; omega
  | ⟨1, _⟩ => show 0 + 1 * r.val = r.val; omega
  | ⟨2, _⟩ => show 0 + 1 * k.val = k.val; omega

theorem pa (p : S8192x6656.Idx → EReal) (wg : S4x128x128.Idx → EReal) (ps : S512.Idx → EReal) (g g' : Fin 4) (h h' b t : ℕ) (k k' : Fin 128) (eg : g.val = g'.val) (eh : h = h') (ek : k.val = k'.val) :
    poolAt p wg ps g h b t k = poolAt p wg ps g' h' b t k' := by
  obtain rfl := Fin.ext eg
  obtain rfl := eh
  obtain rfl := Fin.ext ek
  rfl

/-- The pooling branch at point `t`. -/
def pooledAt (c : Dev nD) (t : Fin cfg0.N) : S256x512.Idx → EReal := fun y => poolBranch (P m c) (Wg m c) (Ps m c) (t.val / 8) (t.val % 8 * 256 + (y 0).val) (y 1)

/-- The window's sum of half width 1, written out. -/
theorem total1 (p : S8192x6656.Idx → EReal) (b t c : ℕ) : total p 1 b t c = ∑ o : Fin 2, within (fun n => ent p n (4096 + c)) b (t + 15 + o.val) := rfl

theorem group0 (c : Dev nD) (t : Fin cfg0.N) (r : Fin 256) (k : Fin 128) :
    pooled0 (tokens (grid0.coords t)) (p256 (toks m c t) 15 0 inb_S288x512_S256x128_15_0) (p256 (toks m c t) 16 0 inb_S288x512_S256x128_16_0) (p256 (toks m c t) 16 0 inb_S288x512_S256x128_16_0) (g128 (iblk m c 11 t) 0 inb_S4x128x128_S1x128x128_0_0_0) (r128 (iblk m c 12 t) 0 inb_S1x512_S1x128_0_0) (c128 (iblk m c 3 t) 0 inb_S256x512_S256x128_0_0) (ix2 r k)
      = pooledAt m c t (ix2 ⟨0 + r.val, by omega⟩ ⟨0 + k.val, by omega⟩) := by
  have hN := NT t
  obtain ⟨-, -, -, -, -, -, -, -, -, -, hi⟩ := where_cur t
  have hk : k.val < 128 := k.isLt
  refine Eq.trans ?_ ((pa (P m c) (Wg m c) (Ps m c) 0 ⟨(0 + k.val) / 128, by omega⟩ 1 (2 ^ ((0 + k.val) / 128)) (t.val / 8) (t.val % 8 * 256 + r.val) k ⟨(0 + k.val) % 128, by omega⟩ (by show 0 = (0 + k.val) / 128; omega)
    (by rw [show (0 + k.val) / 128 = 0 by omega]; rfl) (by show k.val = (0 + k.val) % 128; omega)).trans ?_)
  · rw [pooled0_apply, hi]
    unfold poolAt
    refine congrArg₂ (· * ·) (congrArg₂ (· * ·) (Finset.sum_congr rfl fun j _ => congrArg₂ (· * ·) (congrArg₂ (· - ·) (congrArg₂ Ideal.div ?_ rfl) ?_) ?_) ?_) (congrArg silu ?_)
    · rw [total1, sum2]
      iterate 1 refine congrArg₂ (· + ·) ?_ (p256_eq m c t _ _ _ r j _ (by first | omega | (simp only [Fin.isValue, Fin.val_zero, Fin.val_one]; omega) | exact (by omega : _)))
      exact p256_eq m c t _ _ _ r j _ (by first | omega | (simp only [Fin.isValue, Fin.val_zero, Fin.val_one]; omega) | exact (by omega : _))
    · refine (p256_eq m c t _ _ _ r j _ rfl).trans ?_
      exact within_pos _ _ _ _ (by omega) (by omega)
    · exact (group_ld m c t 0 _ j k 0 rfl)
    · exact (ld2 (e := .f32) (iblk m c 12 t : S1x512.Idx → EReal) inb_S1x512_S1x128_0_0 0 k 0 ⟨0 + k.val, by omega⟩ rfl rfl).trans (blk12 m c t _)
    · refine (ld2 (e := .bf16) (iblk m c 3 t : S256x512.Idx → EReal) inb_S256x512_S256x128_0_0 r k r ⟨0 + k.val, by omega⟩ (Nat.zero_add _).symm rfl).trans ((blk3 m c t _ _).trans ?_)
      exact congrArg (fun n => ent (P m c) n (4608 + (0 + k.val))) (by omega)
  · unfold pooledAt poolBranch
    exact congrArg (fun n => poolAt (P m c) (Wg m c) (Ps m c) ⟨(0 + k.val) / 128, by omega⟩ (2 ^ ((0 + k.val) / 128)) (t.val / 8) n ⟨(0 + k.val) % 128, by omega⟩) (by show t.val % 8 * 256 + r.val = t.val % 8 * 256 + (0 + r.val); omega)

/-- The window's sum of half width 2, written out. -/
theorem total2 (p : S8192x6656.Idx → EReal) (b t c : ℕ) : total p 2 b t c = ∑ o : Fin 4, within (fun n => ent p n (4096 + c)) b (t + 14 + o.val) := rfl

theorem group1 (c : Dev nD) (t : Fin cfg0.N) (r : Fin 256) (k : Fin 128) :
    pooled1 (tokens (grid0.coords t)) (p256 (toks m c t) 14 128 inb_S288x512_S256x128_14_128) (p256 (toks m c t) 15 128 inb_S288x512_S256x128_15_128) (p256 (toks m c t) 16 128 inb_S288x512_S256x128_16_128) (p256 (toks m c t) 17 128 inb_S288x512_S256x128_17_128) (p256 (toks m c t) 16 128 inb_S288x512_S256x128_16_128) (g128 (iblk m c 11 t) 1 inb_S4x128x128_S1x128x128_1_0_0) (r128 (iblk m c 12 t) 128 inb_S1x512_S1x128_0_128) (c128 (iblk m c 3 t) 128 inb_S256x512_S256x128_0_128) (ix2 r k)
      = pooledAt m c t (ix2 ⟨0 + r.val, by omega⟩ ⟨128 + k.val, by omega⟩) := by
  have hN := NT t
  obtain ⟨-, -, -, -, -, -, -, -, -, -, hi⟩ := where_cur t
  have hk : k.val < 128 := k.isLt
  refine Eq.trans ?_ ((pa (P m c) (Wg m c) (Ps m c) 1 ⟨(128 + k.val) / 128, by omega⟩ 2 (2 ^ ((128 + k.val) / 128)) (t.val / 8) (t.val % 8 * 256 + r.val) k ⟨(128 + k.val) % 128, by omega⟩ (by show 1 = (128 + k.val) / 128; omega)
    (by rw [show (128 + k.val) / 128 = 1 by omega]; rfl) (by show k.val = (128 + k.val) % 128; omega)).trans ?_)
  · rw [pooled1_apply, hi]
    unfold poolAt
    refine congrArg₂ (· * ·) (congrArg₂ (· * ·) (Finset.sum_congr rfl fun j _ => congrArg₂ (· * ·) (congrArg₂ (· - ·) (congrArg₂ Ideal.div ?_ rfl) ?_) ?_) ?_) (congrArg silu ?_)
    · rw [total2, sum4]
      iterate 3 refine congrArg₂ (· + ·) ?_ (p256_eq m c t _ _ _ r j _ (by first | omega | (simp only [Fin.isValue, Fin.val_zero, Fin.val_one]; omega) | exact (by omega : _)))
      exact p256_eq m c t _ _ _ r j _ (by first | omega | (simp only [Fin.isValue, Fin.val_zero, Fin.val_one]; omega) | exact (by omega : _))
    · refine (p256_eq m c t _ _ _ r j _ rfl).trans ?_
      exact within_pos _ _ _ _ (by omega) (by omega)
    · exact (group_ld m c t 1 _ j k 1 rfl)
    · exact (ld2 (e := .f32) (iblk m c 12 t : S1x512.Idx → EReal) inb_S1x512_S1x128_0_128 0 k 0 ⟨128 + k.val, by omega⟩ rfl rfl).trans (blk12 m c t _)
    · refine (ld2 (e := .bf16) (iblk m c 3 t : S256x512.Idx → EReal) inb_S256x512_S256x128_0_128 r k r ⟨128 + k.val, by omega⟩ (Nat.zero_add _).symm rfl).trans ((blk3 m c t _ _).trans ?_)
      exact congrArg (fun n => ent (P m c) n (4608 + (128 + k.val))) (by omega)
  · unfold pooledAt poolBranch
    exact congrArg (fun n => poolAt (P m c) (Wg m c) (Ps m c) ⟨(128 + k.val) / 128, by omega⟩ (2 ^ ((128 + k.val) / 128)) (t.val / 8) n ⟨(128 + k.val) % 128, by omega⟩) (by show t.val % 8 * 256 + r.val = t.val % 8 * 256 + (0 + r.val); omega)

/-- The window's sum of half width 4, written out. -/
theorem total4 (p : S8192x6656.Idx → EReal) (b t c : ℕ) : total p 4 b t c = ∑ o : Fin 8, within (fun n => ent p n (4096 + c)) b (t + 12 + o.val) := rfl

theorem group2 (c : Dev nD) (t : Fin cfg0.N) (r : Fin 256) (k : Fin 128) :
    pooled2 (tokens (grid0.coords t)) (p256 (toks m c t) 12 256 inb_S288x512_S256x128_12_256) (p256 (toks m c t) 13 256 inb_S288x512_S256x128_13_256) (p256 (toks m c t) 14 256 inb_S288x512_S256x128_14_256) (p256 (toks m c t) 15 256 inb_S288x512_S256x128_15_256) (p256 (toks m c t) 16 256 inb_S288x512_S256x128_16_256) (p256 (toks m c t) 17 256 inb_S288x512_S256x128_17_256) (p256 (toks m c t) 18 256 inb_S288x512_S256x128_18_256) (p256 (toks m c t) 19 256 inb_S288x512_S256x128_19_256) (p256 (toks m c t) 16 256 inb_S288x512_S256x128_16_256) (g128 (iblk m c 11 t) 2 inb_S4x128x128_S1x128x128_2_0_0) (r128 (iblk m c 12 t) 256 inb_S1x512_S1x128_0_256) (c128 (iblk m c 3 t) 256 inb_S256x512_S256x128_0_256) (ix2 r k)
      = pooledAt m c t (ix2 ⟨0 + r.val, by omega⟩ ⟨256 + k.val, by omega⟩) := by
  have hN := NT t
  obtain ⟨-, -, -, -, -, -, -, -, -, -, hi⟩ := where_cur t
  have hk : k.val < 128 := k.isLt
  refine Eq.trans ?_ ((pa (P m c) (Wg m c) (Ps m c) 2 ⟨(256 + k.val) / 128, by omega⟩ 4 (2 ^ ((256 + k.val) / 128)) (t.val / 8) (t.val % 8 * 256 + r.val) k ⟨(256 + k.val) % 128, by omega⟩ (by show 2 = (256 + k.val) / 128; omega)
    (by rw [show (256 + k.val) / 128 = 2 by omega]; rfl) (by show k.val = (256 + k.val) % 128; omega)).trans ?_)
  · rw [pooled2_apply, hi]
    unfold poolAt
    refine congrArg₂ (· * ·) (congrArg₂ (· * ·) (Finset.sum_congr rfl fun j _ => congrArg₂ (· * ·) (congrArg₂ (· - ·) (congrArg₂ Ideal.div ?_ rfl) ?_) ?_) ?_) (congrArg silu ?_)
    · rw [total4, sum8]
      iterate 7 refine congrArg₂ (· + ·) ?_ (p256_eq m c t _ _ _ r j _ (by first | omega | (simp only [Fin.isValue, Fin.val_zero, Fin.val_one]; omega) | exact (by omega : _)))
      exact p256_eq m c t _ _ _ r j _ (by first | omega | (simp only [Fin.isValue, Fin.val_zero, Fin.val_one]; omega) | exact (by omega : _))
    · refine (p256_eq m c t _ _ _ r j _ rfl).trans ?_
      exact within_pos _ _ _ _ (by omega) (by omega)
    · exact (group_ld m c t 2 _ j k 2 rfl)
    · exact (ld2 (e := .f32) (iblk m c 12 t : S1x512.Idx → EReal) inb_S1x512_S1x128_0_256 0 k 0 ⟨256 + k.val, by omega⟩ rfl rfl).trans (blk12 m c t _)
    · refine (ld2 (e := .bf16) (iblk m c 3 t : S256x512.Idx → EReal) inb_S256x512_S256x128_0_256 r k r ⟨256 + k.val, by omega⟩ (Nat.zero_add _).symm rfl).trans ((blk3 m c t _ _).trans ?_)
      exact congrArg (fun n => ent (P m c) n (4608 + (256 + k.val))) (by omega)
  · unfold pooledAt poolBranch
    exact congrArg (fun n => poolAt (P m c) (Wg m c) (Ps m c) ⟨(256 + k.val) / 128, by omega⟩ (2 ^ ((256 + k.val) / 128)) (t.val / 8) n ⟨(256 + k.val) % 128, by omega⟩) (by show t.val % 8 * 256 + r.val = t.val % 8 * 256 + (0 + r.val); omega)

/-- The window's sum of half width 8, written out. -/
theorem total8 (p : S8192x6656.Idx → EReal) (b t c : ℕ) : total p 8 b t c = ∑ o : Fin 16, within (fun n => ent p n (4096 + c)) b (t + 8 + o.val) := rfl

theorem group3 (c : Dev nD) (t : Fin cfg0.N) (r : Fin 256) (k : Fin 128) :
    pooled3 (tokens (grid0.coords t)) (p256 (toks m c t) 8 384 inb_S288x512_S256x128_8_384) (p256 (toks m c t) 9 384 inb_S288x512_S256x128_9_384) (p256 (toks m c t) 10 384 inb_S288x512_S256x128_10_384) (p256 (toks m c t) 11 384 inb_S288x512_S256x128_11_384) (p256 (toks m c t) 12 384 inb_S288x512_S256x128_12_384) (p256 (toks m c t) 13 384 inb_S288x512_S256x128_13_384) (p256 (toks m c t) 14 384 inb_S288x512_S256x128_14_384) (p256 (toks m c t) 15 384 inb_S288x512_S256x128_15_384) (p256 (toks m c t) 16 384 inb_S288x512_S256x128_16_384) (p256 (toks m c t) 17 384 inb_S288x512_S256x128_17_384) (p256 (toks m c t) 18 384 inb_S288x512_S256x128_18_384) (p256 (toks m c t) 19 384 inb_S288x512_S256x128_19_384) (p256 (toks m c t) 20 384 inb_S288x512_S256x128_20_384) (p256 (toks m c t) 21 384 inb_S288x512_S256x128_21_384) (p256 (toks m c t) 22 384 inb_S288x512_S256x128_22_384) (p256 (toks m c t) 23 384 inb_S288x512_S256x128_23_384) (p256 (toks m c t) 16 384 inb_S288x512_S256x128_16_384) (g128 (iblk m c 11 t) 3 inb_S4x128x128_S1x128x128_3_0_0) (r128 (iblk m c 12 t) 384 inb_S1x512_S1x128_0_384) (c128 (iblk m c 3 t) 384 inb_S256x512_S256x128_0_384) (ix2 r k)
      = pooledAt m c t (ix2 ⟨0 + r.val, by omega⟩ ⟨384 + k.val, by omega⟩) := by
  have hN := NT t
  obtain ⟨-, -, -, -, -, -, -, -, -, -, hi⟩ := where_cur t
  have hk : k.val < 128 := k.isLt
  refine Eq.trans ?_ ((pa (P m c) (Wg m c) (Ps m c) 3 ⟨(384 + k.val) / 128, by omega⟩ 8 (2 ^ ((384 + k.val) / 128)) (t.val / 8) (t.val % 8 * 256 + r.val) k ⟨(384 + k.val) % 128, by omega⟩ (by show 3 = (384 + k.val) / 128; omega)
    (by rw [show (384 + k.val) / 128 = 3 by omega]; rfl) (by show k.val = (384 + k.val) % 128; omega)).trans ?_)
  · rw [pooled3_apply, hi]
    unfold poolAt
    refine congrArg₂ (· * ·) (congrArg₂ (· * ·) (Finset.sum_congr rfl fun j _ => congrArg₂ (· * ·) (congrArg₂ (· - ·) (congrArg₂ Ideal.div ?_ rfl) ?_) ?_) ?_) (congrArg silu ?_)
    · rw [total8, sum16]
      iterate 15 refine congrArg₂ (· + ·) ?_ (p256_eq m c t _ _ _ r j _ (by first | omega | (simp only [Fin.isValue, Fin.val_zero, Fin.val_one]; omega) | exact (by omega : _)))
      exact p256_eq m c t _ _ _ r j _ (by first | omega | (simp only [Fin.isValue, Fin.val_zero, Fin.val_one]; omega) | exact (by omega : _))
    · refine (p256_eq m c t _ _ _ r j _ rfl).trans ?_
      exact within_pos _ _ _ _ (by omega) (by omega)
    · exact (group_ld m c t 3 _ j k 3 rfl)
    · exact (ld2 (e := .f32) (iblk m c 12 t : S1x512.Idx → EReal) inb_S1x512_S1x128_0_384 0 k 0 ⟨384 + k.val, by omega⟩ rfl rfl).trans (blk12 m c t _)
    · refine (ld2 (e := .bf16) (iblk m c 3 t : S256x512.Idx → EReal) inb_S256x512_S256x128_0_384 r k r ⟨384 + k.val, by omega⟩ (Nat.zero_add _).symm rfl).trans ((blk3 m c t _ _).trans ?_)
      exact congrArg (fun n => ent (P m c) n (4608 + (384 + k.val))) (by omega)
  · unfold pooledAt poolBranch
    exact congrArg (fun n => poolAt (P m c) (Wg m c) (Ps m c) ⟨(384 + k.val) / 128, by omega⟩ (2 ^ ((384 + k.val) / 128)) (t.val / 8) n ⟨(384 + k.val) % 128, by omega⟩) (by show t.val % 8 * 256 + r.val = t.val % 8 * 256 + (0 + r.val); omega)

/-- What point `t` writes of the pooling branch. -/
theorem pool_out (c : Dev nD) (t : Fin cfg0.N) : out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = pooledAt m c t := by
  unfold out0_A_18
  rw [pool_pieces (toks m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (toks_read m c t)]
  exact four_cols _ _ _ _ _ (group0 m c t) (group1 m c t) (group2 m c t) (group3 m c t) _ _

/-- The pooling branch's result, from the arguments. -/
def G0 (c : Dev nD) : S8192x512.Idx → EReal := fun i => poolBranch (P m c) (Wg m c) (Ps m c) ((i 0).val / 2048) ((i 0).val % 2048) (i 1)

/-- The convolution branch's result, from the arguments. -/
def G1 (c : Dev nD) : S8192x512.Idx → EReal := fun i => convAt (P m c) (Wd m c) (Bd m c) (Ga m c) (Be m c) (Wp m c) ((i 0).val / 2048) ((i 0).val % 2048) (i 1)

/-- Where a block of window 18 lies in an array. -/
theorem at18 (t : Fin cfg0.N) (f : S8192x512.Idx → EReal) (r : Fin 256) (k : Fin 512) : ((win0_18.blk t).view.read (Elt Ideal) f) (ix2 r k) = f (ix2 ⟨256 * t.val + r.val, by have := NT t; omega⟩ k) := by
  obtain ⟨-, -, -, -, -, -, -, -, -, -, -, -, -, -, -, h0, h1, -, -⟩ := where_rest t
  refine congrArg f (Shape.idx_ext₂ ?_ ?_)
  · show win0_18.index t 0 * 256 + 1 * r.val = 256 * t.val + r.val
    rw [h0]; omega
  · show win0_18.index t 1 * 512 + 1 * k.val = k.val
    rw [h1]; omega

theorem flushed_pool (c : Dev nD) (t : Fin cfg0.N) : (dats m 0 c).flushed 18 t = (win0_18.blk t).view.read (Elt Ideal) (G0 m c) := by
  have hN := NT t
  have key : (dats m 0 c).flushed 18 t = pooledAt m c t := by
    rw [Value.flushed18_A m c t, pool_out]
    rfl
  rw [key]
  funext i
  obtain ⟨r, k, rfl⟩ : ∃ (r : Fin 256) (k : Fin 512), i = ix2 r k := ⟨i 0, i 1, eq_ix2 i⟩
  rw [at18]
  unfold pooledAt G0
  show poolBranch _ _ _ (t.val / 8) (t.val % 8 * 256 + r.val) k = poolBranch _ _ _ ((256 * t.val + r.val) / 2048) ((256 * t.val + r.val) % 2048) k
  rw [show (256 * t.val + r.val) / 2048 = t.val / 8 by omega, show (256 * t.val + r.val) % 2048 = t.val % 8 * 256 + r.val by omega]

theorem cover_pool (i : S8192x512.Idx) : ∃ t : Fin cfg0.N, (cfg0.win 18).flush t = true ∧ i ∈ ((cfg0.win 18).blk t).view.set := by
  have hi0 : (i 0 : Nat) < 8192 := (i 0).isLt
  have hi1 : (i 1 : Nat) < 512 := (i 1).isLt
  have hN : cfg0.N = 32 := by decide +kernel
  have hb : (i 0 : Nat) / 256 < cfg0.N := by omega
  refine ⟨⟨_, hb⟩, flush0_18 _, ?_⟩
  generalize ht : (⟨_, hb⟩ : Fin cfg0.N) = t
  have htv : t.val = (i 0 : Nat) / 256 := by rw [← ht]
  obtain ⟨-, -, -, -, -, -, -, -, -, -, -, -, -, -, -, h0, h1, -, -⟩ := where_rest t
  show i ∈ ((View.whole main_v6_0).slice (win0_18.rect t)).set
  rw [View.set_slice_whole, Rect.mem_set_unit]
  intro a
  match a with
  | ⟨0, _⟩ =>
    show win0_18.index t 0 * 256 ≤ (i 0 : Nat) ∧ (i 0 : Nat) < win0_18.index t 0 * 256 + 256
    rw [h0]; omega
  | ⟨1, _⟩ =>
    show win0_18.index t 1 * 512 ≤ (i 1 : Nat) ∧ (i 1 : Nat) < win0_18.index t 1 * 512 + 512
    rw [h1]; omega

/-- The pooling branch's array after the run. -/
theorem final_pool (c : Dev nD) : (dats m 0 c).arrAt 18 cfg0.N = G0 m c :=
  (dats m 0 c).arrAt_eq_of_cover 18 (G0 m c) (fun t _ => flushed_pool m c t) cover_pool

/-- Where a block of window 19 lies in an array. -/
theorem at19 (t : Fin cfg0.N) (f : S8192x512.Idx → EReal) (r : Fin 256) (k : Fin 512) : ((win0_19.blk t).view.read (Elt Ideal) f) (ix2 r k) = f (ix2 ⟨256 * t.val + r.val, by have := NT t; omega⟩ k) := by
  obtain ⟨-, -, -, -, -, -, -, -, -, -, -, -, -, -, -, -, -, h0, h1⟩ := where_rest t
  refine congrArg f (Shape.idx_ext₂ ?_ ?_)
  · show win0_19.index t 0 * 256 + 1 * r.val = 256 * t.val + r.val
    rw [h0]; omega
  · show win0_19.index t 1 * 512 + 1 * k.val = k.val
    rw [h1]; omega

theorem flushed_conv (c : Dev nD) (t : Fin cfg0.N) : (dats m 0 c).flushed 19 t = (win0_19.blk t).view.read (Elt Ideal) (G1 m c) := by
  have hN := NT t
  have key : (dats m 0 c).flushed 19 t = k0_pay44 (F := Ideal) (kept m c t) (iblk m c 17 t) (iblk m c 10 t) := by
    rw [Value.flushed19_A m c t, conv_out]
    rfl
  rw [key]
  funext i
  obtain ⟨r, k, rfl⟩ : ∃ (r : Fin 256) (k : Fin 512), i = ix2 r k := ⟨i 0, i 1, eq_ix2 i⟩
  rw [at19]
  refine (pay44_apply _ _ _ r k).trans ?_
  rw [blk10]
  simp only [blk17]
  show _ = convAt _ _ _ _ _ _ ((256 * t.val + r.val) / 2048) ((256 * t.val + r.val) % 2048) k
  rw [show (256 * t.val + r.val) / 2048 = t.val / 8 by omega, show (256 * t.val + r.val) % 2048 = t.val % 8 * 256 + r.val by omega]
  unfold convAt
  rw [show 2048 * (t.val / 8) + (t.val % 8 * 256 + r.val) = 256 * t.val + r.val by omega]
  rfl

theorem cover_conv (i : S8192x512.Idx) : ∃ t : Fin cfg0.N, (cfg0.win 19).flush t = true ∧ i ∈ ((cfg0.win 19).blk t).view.set := by
  have hi0 : (i 0 : Nat) < 8192 := (i 0).isLt
  have hi1 : (i 1 : Nat) < 512 := (i 1).isLt
  have hN : cfg0.N = 32 := by decide +kernel
  have hb : (i 0 : Nat) / 256 < cfg0.N := by omega
  refine ⟨⟨_, hb⟩, flush0_19 _, ?_⟩
  generalize ht : (⟨_, hb⟩ : Fin cfg0.N) = t
  have htv : t.val = (i 0 : Nat) / 256 := by rw [← ht]
  obtain ⟨-, -, -, -, -, -, -, -, -, -, -, -, -, -, -, -, -, h0, h1⟩ := where_rest t
  show i ∈ ((View.whole main_v6_1).slice (win0_19.rect t)).set
  rw [View.set_slice_whole, Rect.mem_set_unit]
  intro a
  match a with
  | ⟨0, _⟩ =>
    show win0_19.index t 0 * 256 ≤ (i 0 : Nat) ∧ (i 0 : Nat) < win0_19.index t 0 * 256 + 256
    rw [h0]; omega
  | ⟨1, _⟩ =>
    show win0_19.index t 1 * 512 ≤ (i 1 : Nat) ∧ (i 1 : Nat) < win0_19.index t 1 * 512 + 512
    rw [h1]; omega

/-- The convolution branch's array after the run. -/
theorem final_conv (c : Dev nD) : (dats m 0 c).arrAt 19 cfg0.N = G1 m c :=
  (dats m 0 c).arrAt_eq_of_cover 19 (G1 m c) (fun t _ => flushed_conv m c t) cover_conv

end Cert.PoolK

end
-- ==== Proof.PoolAlgebraic.lean ====
/- The pooling and convolution branches: kernel and reference leave the same two results. -/
module

public import proofs.«01_k».proof.Defs
public import proofs.«01_k».proof.Proof.PoolRef
public import proofs.«01_k».proof.Proof.PoolValue

@[expose] public section

noncomputable section

namespace Cert.PoolAlgebraic

open Idealize.ShloMosaic Idealize.ShloMosaic.ValueIdx Idealize.SL.Sem
open Cert.Reads

/-- From equal arguments kernel and reference end with the same pooling branch and the same convolution branch, for all arguments. -/
theorem algebraic : Cert.algebraic_PoolConvIdeal_PoolConvRefIdeal (hPoolConvIdeal := Cert.PoolConvIdeal.Gen.facts)
    (hPoolConvRefIdeal := Cert.PoolConvRefIdeal.Gen.facts) := by
  intro m g m' g' _ hargs
  refine ⟨fun c => PoolK.G0 m c, fun c => PoolK.G1 m c, ?_, ?_⟩
  · refine (θ_run (Cert.PoolConvIdeal.defs (F := Ideal)) _ _).mono (fun r h c => ?_) (Cert.PoolConvIdeal.Value.run_blocks (F := Ideal) m g)
    exact ⟨(h c).1.trans (PoolK.final_pool m c), (h c).2.1.trans (PoolK.final_conv m c), (h c).2.2⟩
  · refine (θ_run (Cert.PoolConvRefIdeal.defs (F := Ideal)) _ _).mono (fun r h c => ?_) (Cert.PoolConvRefIdeal.Value.run (F := Ideal) m' g')
    obtain ⟨hv0, hv1, hrest⟩ := h c
    obtain ⟨h0, h1, h2, h3, h4, h5, h6, h7⟩ := hargs c
    have e0 : PoolRef.P (StableHlo.launchContents m' c) = PoolK.P m c := h0
    have e1 : PoolRef.Wg (StableHlo.launchContents m' c) = PoolK.Wg m c := h1
    have e2 : PoolRef.Ps (StableHlo.launchContents m' c) = PoolK.Ps m c := h2
    have e3 : PoolRef.Wd (StableHlo.launchContents m' c) = PoolK.Wd m c := h3
    have e4 : PoolRef.Bd (StableHlo.launchContents m' c) = PoolK.Bd m c := h4
    have e5 : PoolRef.Ga (StableHlo.launchContents m' c) = PoolK.Ga m c := h5
    have e6 : PoolRef.Be (StableHlo.launchContents m' c) = PoolK.Be m c := h6
    have e7 : PoolRef.Wp (StableHlo.launchContents m' c) = PoolK.Wp m c := h7
    refine ⟨hv0.trans ?_, hv1.trans ?_, hrest⟩
    · refine funext fun i => ?_
      obtain ⟨n, k, rfl⟩ : ∃ (n : Fin 8192) (k : Fin 512), i = ix2 n k := ⟨i 0, i 1, eq_ix2 i⟩
      refine (PoolRef.pool_eq (StableHlo.launchContents m' c) n k).trans ?_
      rw [e0, e1, e2]
      rfl
    · refine funext fun i => ?_
      obtain ⟨n, k, rfl⟩ : ∃ (n : Fin 8192) (k : Fin 512), i = ix2 n k := ⟨i 0, i 1, eq_ix2 i⟩
      refine (PoolRef.conv_eq (StableHlo.launchContents m' c) n k).trans ?_
      rw [e0, e3, e4, e5, e6, e7]
      rfl

end Cert.PoolAlgebraic
-- ==== Proof.AttLastKernel.lean ====
/- What the last layer's attention kernel computes for one subtile of queries, as one pass over nine chunks of keys and values. -/
module

public import proofs.«01_k».proof.Proof.Reads
public import proofs.«01_k».proof.Proof.AttMath
public import proofs.«01_k».proof.Proof.Gen.AttLastIdeal.Value
public import proofs.«01_k».proof.Proof.AttKernel

@[expose] public section

noncomputable section

namespace Cert.AttLastK

open Cert.AttLastIdeal Cert.AttLastIdeal.Gen Idealize.ShloMosaic Idealize.ShloMosaic.ValueIdx Idealize.ShloMosaic.TcCoe Cert.Reads Cert.AttMath
open Cert.AttK (St sc colMax wts colSum avg first nm step all)
open scoped BigOperators

/-- The subtile's stored block, as the kernel's own payloads compose it. -/
def body (v3 : IVec S128x128 32) (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16) : FVec Ideal S128x128 .bf16 :=
  k0_pay7 (k0_pay55 (k0_pay5 v4) (k0_pay6 v7) (k0_pay13 v3 q)
    (k0_pay50 (k0_pay13 v3 q) (k0_pay39 (k0_pay13 v3 q) (k0_pay29 (k0_pay13 v3 q) (k0_pay20 v3 q k0 k1) k2 k3) k4 k5) k6 k7)
    (k0_pay53 (k0_pay13 v3 q) (k0_pay39 (k0_pay13 v3 q) (k0_pay29 (k0_pay13 v3 q) (k0_pay20 v3 q k0 k1) k2 k3) k4 k5)
      (k0_pay42 (k0_pay13 v3 q) (k0_pay29 (k0_pay13 v3 q) (k0_pay20 v3 q k0 k1) k2 k3)
        (k0_pay32 (k0_pay13 v3 q) (k0_pay17 v3 q k0) (k0_pay20 v3 q k0 k1) (k0_pay21 v3 q k0 k1) (k0_pay22 v3 q k0 k1) k2 k3)
        (k0_pay33 (k0_pay13 v3 q) (k0_pay20 v3 q k0 k1) k2 k3) k4 k5) k6 k7)
    (k0_pay54 (k0_pay13 v3 q) w5 (k0_pay39 (k0_pay13 v3 q) (k0_pay29 (k0_pay13 v3 q) (k0_pay20 v3 q k0 k1) k2 k3) k4 k5)
      (k0_pay43 (k0_pay13 v3 q)
        (k0_pay27 (k0_pay13 v3 q) (k0_pay18 v3 q k0 v0) v1 (k0_pay20 v3 q k0 k1) (k0_pay21 v3 q k0 k1) (k0_pay22 v3 q k0 k1) k2 v2)
        w3 (k0_pay29 (k0_pay13 v3 q) (k0_pay20 v3 q k0 k1) k2 k3) (k0_pay30 (k0_pay13 v3 q) (k0_pay20 v3 q k0 k1) k2 k3)
        (k0_pay31 (k0_pay13 v3 q) (k0_pay20 v3 q k0 k1) k2 k3) k4 w4 k5)
      (k0_pay44 (k0_pay13 v3 q) (k0_pay29 (k0_pay13 v3 q) (k0_pay20 v3 q k0 k1) k2 k3) k4 k5) k6 w6 k7 w7)
    k8 w8) (k0_pay56 g)

section Fold
variable (q : FVec Ideal S128x256 .bf16) (s : St)

theorem m39 (k4 k5 : FVec Ideal S256x128 .bf16) : k0_pay39 q s.m k4 k5 = nm q (nm q s.m k4) k5 := rfl
theorem m29 (k4 k5 : FVec Ideal S256x128 .bf16) : k0_pay29 q s.m k4 k5 = nm q (nm q s.m k4) k5 := rfl
theorem m50 (k4 k5 : FVec Ideal S256x128 .bf16) : k0_pay50 q s.m k4 k5 = nm q (nm q s.m k4) k5 := rfl

theorem l53 (k4 k5 : FVec Ideal S256x128 .bf16) (v4 v5 : FVec Ideal S128x256 .bf16) : k0_pay53 q s.m s.l k4 k5 = (step q (step q s k4 v4) k5 v5).l := rfl

theorem l42 (l1 l2 : FVec Ideal S1x256 .f32) (h : addf l1 l2 = s.l) (k4 k5 : FVec Ideal S256x128 .bf16) (v4 v5 : FVec Ideal S128x256 .bf16) :
    k0_pay42 q s.m l1 l2 k4 k5 = (step q (step q s k4 v4) k5 v5).l := by
  unfold step
  dsimp only
  rw [← h]
  rfl

theorem a54 (a4 : FVec Ideal S128x256 .f32) (p : FVec Ideal S256x256 .bf16) (w5 : FVec Ideal S128x256 .bf16)
    (h : addf a4 (matmul dot_S128x256_S256x256_S128x256_1_0_0_1_n_n none w5 p (constant S128x256 .f32 0x00000000#32)) = s.a)
    (k4 k5 : FVec Ideal S256x128 .bf16) (v4 v5 : FVec Ideal S128x256 .bf16) :
    k0_pay54 q w5 s.m a4 p k4 v4 k5 v5 = (step q (step q s k4 v4) k5 v5).a := by
  unfold step
  dsimp only
  rw [← h]
  rfl

theorem a43 (k3 k4 k5 : FVec Ideal S256x128 .bf16) (w3 w4 w5 : FVec Ideal S128x256 .bf16) :
    addf (k0_pay43 q s.a w3 (nm q s.m k3) (exp (subf s.m (nm q s.m k3))) (wts (sc q k3) (nm q s.m k3)) k4 w4 k5)
        (matmul dot_S128x256_S256x256_S128x256_1_0_0_1_n_n none w5 (k0_pay44 q (nm q s.m k3) k4 k5) (constant S128x256 .f32 0x00000000#32))
      = (step q (step q (step q s k3 w3) k4 w4) k5 w5).a := rfl

end Fold

section Fold2
variable (v3 : IVec S128x128 32) (q : FVec Ideal S128x128 .bf16) (k0 k1 k2 k3 : FVec Ideal S256x128 .bf16) (v0 v1 v2 w3 : FVec Ideal S128x256 .bf16)

theorem s14 : k0_pay14 v3 q k0 = sc (k0_pay13 v3 q) k0 := by
  unfold k0_pay14 sc
  rfl

theorem s19 : k0_pay19 v3 q k0 = sc (k0_pay13 v3 q) k0 := by
  unfold k0_pay19 sc
  rfl

theorem m15 : k0_pay15 v3 q k0 = colMax (sc (k0_pay13 v3 q) k0) := by
  unfold k0_pay15
  rw [s14]
  rfl

theorem p16 : k0_pay16 v3 q k0 = wts (sc (k0_pay13 v3 q) k0) (colMax (sc (k0_pay13 v3 q) k0)) := by
  unfold k0_pay16
  rw [s14, m15]
  rfl

theorem l17 : k0_pay17 v3 q k0 = (first (k0_pay13 v3 q) k0 v0).l := by
  unfold k0_pay17
  rw [p16]
  rfl

theorem a18 : k0_pay18 v3 q k0 v0 = (first (k0_pay13 v3 q) k0 v0).a := by
  unfold k0_pay18
  rw [p16]
  rfl

theorem m20 : k0_pay20 v3 q k0 k1 = nm (k0_pay13 v3 q) (first (k0_pay13 v3 q) k0 v0).m k1 := by
  unfold k0_pay20
  rw [s19, m15]
  generalize k0_pay13 (F := Ideal) v3 q = z
  unfold nm first
  dsimp only
  rfl

theorem e21 : k0_pay21 v3 q k0 k1 = exp (subf (first (k0_pay13 v3 q) k0 v0).m (nm (k0_pay13 v3 q) (first (k0_pay13 v3 q) k0 v0).m k1)) := by
  unfold k0_pay21
  rw [m20 v3 q k0 k1 v0, m15]
  generalize k0_pay13 (F := Ideal) v3 q = z
  generalize nm z _ k1 = y
  unfold first
  dsimp only

theorem e22 : k0_pay22 v3 q k0 k1 = wts (sc (k0_pay13 v3 q) k1) (nm (k0_pay13 v3 q) (first (k0_pay13 v3 q) k0 v0).m k1) := by
  unfold k0_pay22
  rw [m20 v3 q k0 k1 v0, s19]
  generalize k0_pay13 (F := Ideal) v3 q = z
  rfl

end Fold2

section Fold3
variable (q : FVec Ideal S128x256 .bf16) (s : St) (k1 k2 k3 : FVec Ideal S256x128 .bf16) (v1 v2 w3 : FVec Ideal S128x256 .bf16)

theorem a27 : k0_pay27 q s.a v1 (nm q s.m k1) (exp (subf s.m (nm q s.m k1))) (wts (sc q k1) (nm q s.m k1)) k2 v2
    = (step q (step q s k1 v1) k2 v2).a := rfl

theorem l32 : addf (k0_pay32 q s.l (nm q s.m k1) (exp (subf s.m (nm q s.m k1))) (wts (sc q k1) (nm q s.m k1)) k2 k3)
      (k0_pay33 q (nm q s.m k1) k2 k3)
    = (step q (step q (step q s k1 v1) k2 v2) k3 w3).l := rfl

theorem e30 : k0_pay30 q s.m k1 k2 = exp (subf (nm q s.m k1) (nm q (nm q s.m k1) k2)) := rfl
theorem e31 : k0_pay31 q s.m k1 k2 = wts (sc q k2) (nm q (nm q s.m k1) k2) := rfl

/-- What is done with the state after the last chunk: divide by the sum, subtract the second component's share, normalise and scale. -/
def tail (v6 v8 : FVec Ideal S1x128 .f32) (s : St) : FVec Ideal S128x128 .f32 :=
  let o := mulf s.a (broadcastTo S128x256 (divf (broadcast S1x256 (Scalar.ofBits .f32 0x3F800000#32 : Ideal .f32)) s.l) broadcasts_S1x256_S128x256)
  let ot := subf (extractStridedSlice S128x128 ![0, 0] o slices_S128x256_o0_0_S128x128)
    (mulf (broadcastTo S128x128 v6 broadcasts_S1x128_S128x128) (extractStridedSlice S128x128 ![0, 128] o slices_S128x256_o0_128_S128x128))
  let oq : FVec Ideal S128x128 .f32 := transpose S128x128 [1, 0] ot transposes_S128x128_p1_0_S128x128
  let ms := divf (shapeCast S128x1 (multiReduction .add [1] S128 (mulf oq oq) 0x00000000#32 reduces_S128x128_S128 (.inl rfl) rfl) shapeCasts_S128_S128x1)
    (broadcast S128x1 (Scalar.ofBits .f32 0x43000000#32 : Ideal .f32))
  mulf (mulf (mulf oq (broadcastTo S128x128 (rsqrt (addf ms (broadcast S128x1 (Scalar.ofBits .f32 0x358637BD#32 : Ideal .f32)))) broadcasts_S128x1_S128x128))
    (broadcastTo S128x128 v8 broadcasts_S1x128_S128x128)) (broadcast S128x128 (Scalar.ofBits .f32 0x3F24FD5C#32 : Ideal .f32))

theorem t55 (v6 v8 : FVec Ideal S1x128 .f32) : k0_pay55 v6 v8 q s.m s.l s.a k1 v1 = tail v6 v8 (step q s k1 v1) := rfl

end Fold3

/-- The kernel's payloads are that pass. -/
theorem body_eq (v3 : IVec S128x128 32) (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16) :
    body v3 q v4 v7 g k0 k1 k2 k3 k4 k5 k6 k7 k8 v0 v1 v2 w3 w4 w5 w6 w7 w8
      = k0_pay7 (tail (k0_pay5 v4) (k0_pay6 v7) (all (k0_pay13 v3 q) k0 k1 k2 k3 k4 k5 k6 k7 k8 v0 v1 v2 w3 w4 w5 w6 w7 w8)) (k0_pay56 g) := by
  unfold body all
  rw [m20 v3 q k0 k1 v0, e21 v3 q k0 k1 v0, e22 v3 q k0 k1 v0, l17 v3 q k0 v0, a18]
  generalize k0_pay13 (F := Ideal) v3 q = q
  generalize first q k0 v0 = s0
  have h2 : ∀ k v, (step q s0 k v).m = nm q s0.m k := fun _ _ => rfl
  rw [a27, ← h2 k1 v1, m29, e30, e31]
  have h4 := l32 q s0 k1 k2 k3 v1 v2 w3
  rw [← h2 k1 v1] at h4
  rw [← t55]
  generalize hs3 : step q (step q (step q s0 k1 v1) k2 v2) k3 w3 = s3 at h4 ⊢
  have hm3 : nm q (nm q (step q s0 k1 v1).m k2) k3 = s3.m := by rw [← hs3]; rfl
  rw [hm3, m39]
  rw [l42 q s3 _ _ h4 k4 k5 w4 w5]
  have h5 := a43 q (step q (step q s0 k1 v1) k2 v2) k3 k4 k5 w3 w4 w5
  rw [hs3] at h5
  have hm2 : (step q (step q s0 k1 v1) k2 v2).m = nm q (step q s0 k1 v1).m k2 := rfl
  rw [hm2, hm3] at h5
  generalize hs5 : step q (step q s3 k4 w4) k5 w5 = s5 at h5 ⊢
  have hm5 : nm q (nm q s3.m k4) k5 = s5.m := by rw [← hs5]; rfl
  rw [hm5, m50, l53 q s5 k6 k7 w6 w7, a54 q s5 _ _ _ h5]
  rfl

end Cert.AttLastK

end
-- ==== Proof.AttLastEntry.lean ====
/- The last layer's attention kernel's subtile at one entry: the difference of two softmax means, normalised, scaled and gated. -/
module

public import proofs.«01_k».proof.Proof.AttLastKernel
public import Idealize.ShloMosaic.Lib.IdealHost
public import proofs.«01_k».proof.Proof.AttEntry

@[expose] public section

noncomputable section

namespace Cert.AttLastK

open Cert.AttLastIdeal Cert.AttLastIdeal.Gen Idealize.ShloMosaic Idealize.ShloMosaic.ValueIdx Idealize.ShloMosaic.TcCoe Cert.Reads Cert.AttMath
open Cert.AttK (St sc step all first_inv step_inv tr2 rows score0 score1 silu)
open scoped BigOperators

/-- A head's output row: divided by the root of its mean square plus epsilon, times the scale of the norm and the layer's factor. -/
def headOut (o sg : Fin 128 → EReal) (e : Fin 128) : EReal :=
  o e * Ideal.rsqrt (Ideal.div (∑ k : Fin 128, o k * o k) (Ideal.ofBits .f32 0x43000000#32) + Ideal.ofBits .f32 0x358637BD#32) * sg e
    * Ideal.ofBits .f32 0x3F24FD5C#32

theorem tail_apply (v6 v8 : FVec Ideal S1x128 .f32) (s : St) (r e : Fin 128) (o : Fin 128 → EReal)
    (ho : ∀ e : Fin 128, s.a (ix2 e ⟨r.val, by omega⟩) * Ideal.div 1 (s.l (ix2 0 ⟨r.val, by omega⟩))
      - v6 (ix2 0 r) * (s.a (ix2 e ⟨128 + r.val, by omega⟩) * Ideal.div 1 (s.l (ix2 0 ⟨128 + r.val, by omega⟩))) = o e) :
    tail v6 v8 s (ix2 r e) = headOut o (fun e => v8 (ix2 0 e)) e := by
  unfold tail
  dsimp only
  generalize hO : (mulf s.a (broadcastTo S128x256 (divf (broadcast S1x256 (Scalar.ofBits .f32 0x3F800000#32 : Ideal .f32)) s.l) broadcasts_S1x256_S128x256) : FVec Ideal S128x256 .f32) = O
  have hOa : ∀ (e : Fin 128) (j : Fin 256), O (ix2 e j) = s.a (ix2 e j) * Ideal.div 1 (s.l (ix2 0 j)) := by
    intro e j
    rw [← hO, mulf_apply, bcRow, divf_apply]
    refine congrArg (fun z => s.a (ix2 e j) * Ideal.div z (s.l (ix2 0 j))) ?_
    exact Ideal.ofBits_one_f32
  generalize hT : (transpose S128x128 [1, 0] (subf (extractStridedSlice S128x128 ![0, 0] O slices_S128x256_o0_0_S128x128)
    (mulf (broadcastTo S128x128 v6 broadcasts_S1x128_S128x128) (extractStridedSlice S128x128 ![0, 128] O slices_S128x256_o0_128_S128x128))) transposes_S128x128_p1_0_S128x128 : FVec Ideal S128x128 .f32) = T
  have hTa : ∀ e : Fin 128, T (ix2 r e) = o e := by
    intro e
    rw [← hT, tr2, subf_apply, mulf_apply, bcRow, slice2 _ _ e r e ⟨r.val, by omega⟩ (by simp) (by simp), slice2 _ _ e r e ⟨128 + r.val, by omega⟩ (by simp) rfl,
      hOa, hOa]
    exact ho e
  rw [mulf_apply, mulf_apply, mulf_apply, bcRow, bcCol, hTa]
  unfold headOut
  refine congrArg₂ (· * ·) (congrArg₂ (· * ·) (congrArg₂ (· * ·) rfl (congrArg Ideal.rsqrt ?_)) rfl) rfl
  rw [addf_apply, divf_apply, castCol, sumRow]
  simp only [mulf_apply, hTa]
  rfl

/-- The subtile's stored block at an entry, for real queries, keys and values: chunk `n`'s keys are rows `256 n ..` of `K`, its values rows of `W`. -/
theorem body_apply (q : FVec Ideal S128x128 .bf16) (v4 : FVec Ideal S1x8x128 .f32) (v7 : FVec Ideal S1x128 .f32) (g : FVec Ideal S128x128 .bf16)
    (k0 k1 k2 k3 k4 k5 k6 k7 k8 : FVec Ideal S256x128 .bf16) (v0 v1 v2 w3 w4 w5 w6 w7 w8 : FVec Ideal S128x256 .bf16)
    (Q : Fin 128 → Fin 128 → ℝ) (K W : ℕ → Fin 256 → Fin 128 → ℝ) (K' W' : Fin 2304 → Fin 128 → ℝ) (hq : ∀ r d, q (ix2 r d) = ((Q r d : ℝ) : EReal))
    (hk0 : ∀ i d, k0 (ix2 i d) = ((K 0 i d : ℝ) : EReal)) (hk1 : ∀ i d, k1 (ix2 i d) = ((K 1 i d : ℝ) : EReal))
    (hk2 : ∀ i d, k2 (ix2 i d) = ((K 2 i d : ℝ) : EReal)) (hk3 : ∀ i d, k3 (ix2 i d) = ((K 3 i d : ℝ) : EReal))
    (hk4 : ∀ i d, k4 (ix2 i d) = ((K 4 i d : ℝ) : EReal)) (hk5 : ∀ i d, k5 (ix2 i d) = ((K 5 i d : ℝ) : EReal))
    (hk6 : ∀ i d, k6 (ix2 i d) = ((K 6 i d : ℝ) : EReal)) (hk7 : ∀ i d, k7 (ix2 i d) = ((K 7 i d : ℝ) : EReal))
    (hk8 : ∀ i d, k8 (ix2 i d) = ((K 8 i d : ℝ) : EReal))
    (hv0 : ∀ e i, v0 (ix2 e i) = ((W 0 i e : ℝ) : EReal)) (hv1 : ∀ e i, v1 (ix2 e i) = ((W 1 i e : ℝ) : EReal))
    (hv2 : ∀ e i, v2 (ix2 e i) = ((W 2 i e : ℝ) : EReal)) (hv3 : ∀ e i, w3 (ix2 e i) = ((W 3 i e : ℝ) : EReal))
    (hv4 : ∀ e i, w4 (ix2 e i) = ((W 4 i e : ℝ) : EReal)) (hv5 : ∀ e i, w5 (ix2 e i) = ((W 5 i e : ℝ) : EReal))
    (hv6 : ∀ e i, w6 (ix2 e i) = ((W 6 i e : ℝ) : EReal)) (hv7 : ∀ e i, w7 (ix2 e i) = ((W 7 i e : ℝ) : EReal))
    (hv8 : ∀ e i, w8 (ix2 e i) = ((W 8 i e : ℝ) : EReal))
    (hK : ∀ (j : Fin 9) (i : Fin 256), K j.val i = K' ⟨256 * j.val + i.val, by omega⟩)
    (hW : ∀ (j : Fin 9) (i : Fin 256), W j.val i = W' ⟨256 * j.val + i.val, by omega⟩) (r e : Fin 128) :
    body rows q v4 v7 g k0 k1 k2 k3 k4 k5 k6 k7 k8 v0 v1 v2 w3 w4 w5 w6 w7 w8 (ix2 r e)
      = headOut (fun e => ((mean (fun i => ∑ d : Fin 64, Q r ⟨d.val, by omega⟩ * K' i ⟨d.val, by omega⟩) (fun i => W' i e) : ℝ) : EReal)
          - v4 (ix3 0 0 r) * ((mean (fun i => ∑ d : Fin 64, Q r ⟨64 + d.val, by omega⟩ * K' i ⟨64 + d.val, by omega⟩) (fun i => W' i e) : ℝ) : EReal))
          (fun e => v7 (ix2 0 e)) e * silu (g (ix2 r e)) := by
  rw [body_eq]
  unfold k0_pay7 k0_pay56

  rw [truncf_apply, mulf_apply, mulf_apply, extf_apply]
  refine congrArg₂ (· * ·) ?_ rfl
  refine (tail_apply _ _ _ r e (fun e => ((mean (fun i => ∑ d : Fin 64, Q r ⟨d.val, by omega⟩ * K' i ⟨d.val, by omega⟩) (fun i => W' i e) : ℝ) : EReal)
          - v4 (ix3 0 0 r) * ((mean (fun i => ∑ d : Fin 64, Q r ⟨64 + d.val, by omega⟩ * K' i ⟨64 + d.val, by omega⟩) (fun i => W' i e) : ℝ) : EReal)) ?_).trans ?_
  · intro e
    have h6 : k0_pay5 v4 (ix2 0 r) = v4 (ix3 0 0 r) := by
      unfold k0_pay5

      rw [slice2 _ _ 0 r 0 r rfl (by simp), castDrop]
    rw [h6]
    refine congrArg₂ (· - ·) ?_ (congrArg (v4 (ix3 0 0 r) * ·) ?_)
    · have s0 := fun k (n : ℕ) h i => score0 q k Q (K n) hq h i r
      refine inv_mean (fun n i => ∑ d : Fin 64, Q r ⟨d.val, by omega⟩ * K n i ⟨d.val, by omega⟩) (fun n i => W n i e) _ _ ((all (k0_pay13 rows q) k0 k1 k2 k3 k4 k5 k6 k7 k8 v0 v1 v2 w3 w4 w5 w6 w7 w8).m (ix2 0 (⟨r.val, by omega⟩ : Fin 256))) _ _ ?_ ?_ ?_
      · unfold all
        refine step_inv _ _ e _ _ 8 _ k8 w8 ?_ (s0 k8 8 hk8) (hv8 e)
        refine step_inv _ _ e _ _ 7 _ k7 w7 ?_ (s0 k7 7 hk7) (hv7 e)
        refine step_inv _ _ e _ _ 6 _ k6 w6 ?_ (s0 k6 6 hk6) (hv6 e)
        refine step_inv _ _ e _ _ 5 _ k5 w5 ?_ (s0 k5 5 hk5) (hv5 e)
        refine step_inv _ _ e _ _ 4 _ k4 w4 ?_ (s0 k4 4 hk4) (hv4 e)
        refine step_inv _ _ e _ _ 3 _ k3 w3 ?_ (s0 k3 3 hk3) (hv3 e)
        refine step_inv _ _ e _ _ 2 _ k2 v2 ?_ (s0 k2 2 hk2) (hv2 e)
        refine step_inv _ _ e _ _ 1 _ k1 v1 ?_ (s0 k1 1 hk1) (hv1 e)
        exact first_inv _ _ e _ _ k0 v0 (s0 k0 0 hk0) (hv0 e)
      · intro j i
        simp only [hK]
      · intro j i
        simp only [hW]
    · have s0 := fun k (n : ℕ) h i => score1 q k Q (K n) hq h i r
      refine inv_mean (fun n i => ∑ d : Fin 64, Q r ⟨64 + d.val, by omega⟩ * K n i ⟨64 + d.val, by omega⟩) (fun n i => W n i e) _ _ ((all (k0_pay13 rows q) k0 k1 k2 k3 k4 k5 k6 k7 k8 v0 v1 v2 w3 w4 w5 w6 w7 w8).m (ix2 0 (⟨128 + r.val, by omega⟩ : Fin 256))) _ _ ?_ ?_ ?_
      · unfold all
        refine step_inv _ _ e _ _ 8 _ k8 w8 ?_ (s0 k8 8 hk8) (hv8 e)
        refine step_inv _ _ e _ _ 7 _ k7 w7 ?_ (s0 k7 7 hk7) (hv7 e)
        refine step_inv _ _ e _ _ 6 _ k6 w6 ?_ (s0 k6 6 hk6) (hv6 e)
        refine step_inv _ _ e _ _ 5 _ k5 w5 ?_ (s0 k5 5 hk5) (hv5 e)
        refine step_inv _ _ e _ _ 4 _ k4 w4 ?_ (s0 k4 4 hk4) (hv4 e)
        refine step_inv _ _ e _ _ 3 _ k3 w3 ?_ (s0 k3 3 hk3) (hv3 e)
        refine step_inv _ _ e _ _ 2 _ k2 v2 ?_ (s0 k2 2 hk2) (hv2 e)
        refine step_inv _ _ e _ _ 1 _ k1 v1 ?_ (s0 k1 1 hk1) (hv1 e)
        exact first_inv _ _ e _ _ k0 v0 (s0 k0 0 hk0) (hv0 e)
      · intro j i
        simp only [hK]
      · intro j i
        simp only [hW]
  · unfold k0_pay6
    rw [shapeCast_self]

end Cert.AttLastK

end
-- ==== Proof.AttLastPieces.lean ====
/- The last layer's attention kernel's stored pieces: what each trip of its loop stores, and the turned values kept between points. -/
module

public import proofs.«01_k».proof.Proof.AttLastEntry
public import Idealize.ShloMosaic.Lib.Claim
public import proofs.«01_k».proof.Proof.AttPieces

@[expose] public section

noncomputable section

namespace Cert.AttLastK

open Cert.AttLastIdeal Cert.AttLastIdeal.Gen Idealize.ShloMosaic Idealize.ShloMosaic.ValueIdx Idealize.ShloMosaic.TcCoe Cert.Reads Idealize.SL.Sem
open Cert.AttK (rows rowsAt colsAt turned chunk_eq chunk0_eq)
open scoped BigOperators

/-- The rows a trip works on. -/
abbrev rowsOf (x : Vec Ideal S512x128 .bf16) (k : Fin k0_t1_loop.trips) : FVec Ideal S128x128 .bf16 :=
  View.ld (Val := Elt Ideal) (e' := .bf16) x (Rect.unit (s := S512x128) (k0_off1 k) ![128, 128] (k0_off1_inb k))

/-- What trip `k` stores, from the blocks and the turned values. -/
def stored (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) (k : Fin k0_t1_loop.trips) : FVec Ideal S128x128 .bf16 :=
  body rows (rowsOf x0 k) x6 x7 (rowsOf x5 k) x1
    (rowsAt x3 0 (by decide)) (rowsAt x3 256 (by decide)) (rowsAt x3 512 (by decide)) (rowsAt x3 768 (by decide))
    (rowsAt x3 1024 (by decide)) (rowsAt x3 1280 (by decide)) (rowsAt x3 1536 (by decide)) (rowsAt x3 1792 (by decide))
    (colsAt s 0 (by decide)) (colsAt s 256 (by decide)) (colsAt s 512 (by decide)) (colsAt s 768 (by decide)) (colsAt s 1024 (by decide))
    (colsAt s 1280 (by decide)) (colsAt s 1536 (by decide)) (colsAt s 1792 (by decide)) (colsAt s 2048 (by decide))

/-- A trip's one piece. -/
theorem trip_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (v4 : Vec Ideal S1x8x128 .f32) (v7 : Vec Ideal S1x128 .f32)
    (X3 : BufTy.Contents (Elt Ideal) arg3.view.ty) (X4 : BufTy.Contents (Elt Ideal) arg4.view.ty) (X6 : BufTy.Contents (Elt Ideal) arg6.view.ty)
    (X8 : BufTy.Contents (Elt Ideal) arg8.view.ty) (X12 : BufTy.Contents (Elt Ideal) arg12.view.ty) (k : Fin k0_t1_loop.trips) :
    tripL_k0_t1 (F := Ideal) Variants.none c none i arg3 harg3 arg4 harg4 arg5 harg5 arg6 harg6 arg7 harg7 arg8 harg8 arg9 harg9 arg10 harg10 arg11 harg11 arg12 harg12 rows v4 v7 X3 X4 X6 X8 X12 k
      = [⟨Rect.unit (s := S512x128) (k0_off1 k) S128x128.size (k0_off1_inb k),
          stored (arg3.view.read (Elt Ideal) X3) (arg4.view.read (Elt Ideal) X4) (arg6.view.read (Elt Ideal) X6) (arg8.view.read (Elt Ideal) X8) v4 v7
            (arg12.view.read (Elt Ideal) X12) k⟩] := by
  have h1 : View.ld (Val := Elt Ideal) (e' := .bf16) (arg4.view.read (Elt Ideal) X4) (Rect.unit (s := S256x128) ![0, 0] ![256, 128] inb_S256x128_S256x128_0_0) = arg4.view.read (Elt Ideal) X4 :=
    View.ld_unit_zero (funext fun a => by fin_cases a <;> rfl) _ _
  unfold stored
  rw [← h1]
  unfold tripL_k0_t1 trip_k0_t1
  rfl

/-- The trips' pieces, last first. -/
theorem trips_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (v4 : Vec Ideal S1x8x128 .f32) (v7 : Vec Ideal S1x128 .f32)
    (X3 : BufTy.Contents (Elt Ideal) arg3.view.ty) (X4 : BufTy.Contents (Elt Ideal) arg4.view.ty) (X6 : BufTy.Contents (Elt Ideal) arg6.view.ty)
    (X8 : BufTy.Contents (Elt Ideal) arg8.view.ty) (X12 : BufTy.Contents (Elt Ideal) arg12.view.ty) (n : ℕ) (hn : n ≤ k0_t1_loop.trips) :
    ∀ p ∈ pb_k0_t1 (F := Ideal) Variants.none c none i arg3 harg3 arg4 harg4 arg5 harg5 arg6 harg6 arg7 harg7 arg8 harg8 arg9 harg9 arg10 harg10 arg11 harg11 arg12 harg12 rows v4 v7 X3 X4 X6 X8 X12 n, ∃ k : Fin k0_t1_loop.trips,
      p = ⟨Rect.unit (s := S512x128) (k0_off1 k) S128x128.size (k0_off1_inb k),
          stored (arg3.view.read (Elt Ideal) X3) (arg4.view.read (Elt Ideal) X4) (arg6.view.read (Elt Ideal) X6) (arg8.view.read (Elt Ideal) X8) v4 v7
            (arg12.view.read (Elt Ideal) X12) k⟩ := by
  induction n with
  | zero => intro p hp; exact absurd hp List.not_mem_nil
  | succ n ih =>
    intro p hp
    rw [pb_k0_t1_succ (F := Ideal) Variants.none c none i arg3 harg3 arg4 harg4 arg5 harg5 arg6 harg6 arg7 harg7 arg8 harg8 arg9 harg9 arg10 harg10 arg11 harg11 arg12 harg12 rows v4 v7 X3 X4 X6 X8 X12 ⟨n, hn⟩, trip_eq] at hp
    rcases List.mem_append.mp hp with h | h
    · exact ⟨⟨n, hn⟩, List.mem_singleton.mp h⟩
    · exact ih (Nat.le_of_succ_le hn) p h

/-- The pieces the first point of a run keeps. -/
theorem kept_pieces (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1
      = [⟨Rect.unit (s := S128x2304) ![0, 2048] ![128, 256] (by decide), k0_pay8 (F := Ideal) (rowsAt x4 1792 (by decide))⟩,
         ⟨Rect.unit (s := S128x2304) ![0, 1792] ![128, 256] (by decide), k0_pay8 (F := Ideal) (rowsAt x4 1536 (by decide))⟩,
         ⟨Rect.unit (s := S128x2304) ![0, 1536] ![128, 256] (by decide), k0_pay8 (F := Ideal) (rowsAt x4 1280 (by decide))⟩,
         ⟨Rect.unit (s := S128x2304) ![0, 1280] ![128, 256] (by decide), k0_pay8 (F := Ideal) (rowsAt x4 1024 (by decide))⟩,
         ⟨Rect.unit (s := S128x2304) ![0, 1024] ![128, 256] (by decide), k0_pay8 (F := Ideal) (rowsAt x4 768 (by decide))⟩,
         ⟨Rect.unit (s := S128x2304) ![0, 768] ![128, 256] (by decide), k0_pay8 (F := Ideal) (rowsAt x4 512 (by decide))⟩,
         ⟨Rect.unit (s := S128x2304) ![0, 512] ![128, 256] (by decide), k0_pay8 (F := Ideal) (rowsAt x4 256 (by decide))⟩,
         ⟨Rect.unit (s := S128x2304) ![0, 256] ![128, 256] (by decide), k0_pay8 (F := Ideal) (rowsAt x4 0 (by decide))⟩,
         ⟨Rect.unit (s := S128x2304) ![0, 0] ![128, 256] (by decide), k0_pay8 (F := Ideal) x2⟩] := by
  have h4 : arg7.view.read (Elt Ideal) (harg7.unread x4) = x4 := harg7.read_unread x4
  have h2 : View.ld (Val := Elt Ideal) (e' := .bf16) (arg5.view.read (Elt Ideal) (harg5.unread x2)) (Rect.unit (s := S256x128) ![0, 0] ![256, 128] inb_S256x128_S256x128_0_0) = x2 := by
    rw [harg5.read_unread x2]
    exact View.ld_unit_zero (funext fun a => by fin_cases a <;> rfl) _ _
  conv_rhs => rw [← h4, ← h2]
  rfl

/-- The turned values the first point of a run keeps. -/
theorem kept_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 x7 = turned x2 x4 := by
  funext y
  unfold sout0_A_0
  refine View.read_writes_apply_of_pieces _ _ (turned x2 x4) _ ?_ y (scover0_A_0 c i arg3 harg3 arg4 harg4 arg5 harg5 arg6 harg6 arg7 harg7 arg8 harg8 arg9 harg9 arg10 harg10 arg11 harg11 arg12 harg12 hc0 x0 x1 x2 x3 x4 x5 x6 x7 y)
  rw [kept_pieces]
  intro p hp
  simp only [List.mem_cons, List.not_mem_nil, or_false] at hp
  rcases hp with rfl | rfl | rfl | rfl | rfl | rfl | rfl | rfl | rfl
  · exact chunk_eq x2 x4 1792 2048 rfl _ (by decide)
  · exact chunk_eq x2 x4 1536 1792 rfl _ (by decide)
  · exact chunk_eq x2 x4 1280 1536 rfl _ (by decide)
  · exact chunk_eq x2 x4 1024 1280 rfl _ (by decide)
  · exact chunk_eq x2 x4 768 1024 rfl _ (by decide)
  · exact chunk_eq x2 x4 512 768 rfl _ (by decide)
  · exact chunk_eq x2 x4 256 512 rfl _ (by decide)
  · exact chunk_eq x2 x4 0 256 rfl _ (by decide)
  · exact chunk0_eq x2 x4 (by decide)

theorem trips4 : k0_t1_loop.trips = 4 := by decide

/-- A point's block of the result: row `128 k + r` is row `r` of what trip `k` stores. -/
def blockOf (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) : Vec Ideal S512x128 .bf16 := fun y =>
  stored x0 x1 x3 x5 x6 x7 s ⟨(y 0 : ℕ) / 128, by have h : (y 0 : ℕ) < 512 := (y 0).isLt; rw [trips4]; omega⟩ (ix2 ⟨(y 0 : ℕ) % 128, by omega⟩ (y 1))

theorem off_all : ∀ k : Fin k0_t1_loop.trips, k0_off1 k 0 = 128 * k.val ∧ k0_off1 k 1 = 0 := by decide +kernel

theorem stored_block (x0 : Vec Ideal S512x128 .bf16) (x1 : Vec Ideal S256x128 .bf16) (x3 : Vec Ideal S2048x128 .bf16) (x5 : Vec Ideal S512x128 .bf16)
    (x6 : FVec Ideal S1x8x128 .f32) (x7 : FVec Ideal S1x128 .f32) (s : Vec Ideal S128x2304 .bf16) (k : Fin k0_t1_loop.trips)
    (x : (Rect.unit (s := S512x128) (k0_off1 k) S128x128.size (k0_off1_inb k)).shape.Idx) :
    stored x0 x1 x3 x5 x6 x7 s k x = blockOf x0 x1 x3 x5 x6 x7 s ((Rect.unit (s := S512x128) (k0_off1 k) S128x128.size (k0_off1_inb k)).emb x) := by
  obtain ⟨r, e, rfl⟩ : ∃ (r e : Fin 128), x = ix2 r e := ⟨x 0, x 1, eq_ix2 x⟩
  obtain ⟨h0, h1⟩ := off_all k
  have e0 : ((Rect.unit (s := S512x128) (k0_off1 k) S128x128.size (k0_off1_inb k)).emb (ix2 r e) 0 : ℕ) = 128 * k.val + r.val := by
    show k0_off1 k 0 + 1 * r.val = _
    rw [h0, one_mul]
  have e1 : ((Rect.unit (s := S512x128) (k0_off1 k) S128x128.size (k0_off1_inb k)).emb (ix2 r e) 1 : ℕ) = e.val := by
    show k0_off1 k 1 + 1 * e.val = _
    rw [h1]; omega
  unfold blockOf
  refine congr (congrArg _ (Fin.ext ?_)) (Shape.idx_ext₂ ?_ ?_)
  · show k.val = _ / 128
    rw [e0]; omega
  · show r.val = _ % 128
    rw [e0]; omega
  · exact e1.symm

/-- What the first point of a run writes: computed with the values it has just turned. -/
theorem outA_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 x7 = blockOf x0 x1 x3 x5 x6 x7 (turned x2 x4) := by
  funext y
  unfold out0_A_8
  refine View.read_writes_apply_of_pieces _ _ (blockOf x0 x1 x3 x5 x6 x7 (turned x2 x4)) _ ?_ y (cover0_A_8 c i arg3 harg3 arg4 harg4 arg5 harg5 arg6 harg6 arg7 harg7 arg8 harg8 arg9 harg9 arg10 harg10 arg11 harg11 arg12 harg12 hc0 x0 x1 x2 x3 x4 x5 x6 x7 y)
  intro p hp
  obtain ⟨k, hk⟩ := trips_eq c i arg3 harg3 arg4 harg4 arg5 harg5 arg6 harg6 arg7 harg7 arg8 harg8 arg9 harg9 arg10 harg10 arg11 harg11 arg12 harg12
    (View.ld (Val := Elt Ideal) (e' := .f32) (arg9.view.read (Elt Ideal) (harg9.unread x6)) (Rect.unit (s := S1x8x128) ![0, 0, 0] ![1, 8, 128] inb_S1x8x128_S1x8x128_0_0_0))
    (View.ld (Val := Elt Ideal) (e' := .f32) (arg10.view.read (Elt Ideal) (harg10.unread x7)) (Rect.unit (s := S1x128) ![0, 0] ![1, 128] inb_S1x128_S1x128_0_0))
    (harg3.unread x0) (harg4.unread x1) (harg6.unread x3) (harg8.unread x5)
    (arg12.view.writes (Elt Ideal) arg12.view.junk (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1) _ le_rfl p hp
  have hs : arg12.view.read (Elt Ideal) (arg12.view.writes (Elt Ideal) arg12.view.junk (kernelRun0_A (F := Ideal) c i arg3 harg3 arg4 harg4 arg5 harg5 arg6 harg6 arg7 harg7 arg8 harg8 arg9 harg9 arg10 harg10 arg11 harg11 arg12 harg12 hc0 x0 x1 x2 x3 x4 x5 x6 x7).2.1) = turned x2 x4 := by
    rw [harg12.read_writes_junk (Memref.isWhole_whole cc0_scratch0)]
    exact kept_eq c i arg3 harg3 arg4 harg4 arg5 harg5 arg6 harg6 arg7 harg7 arg8 harg8 arg9 harg9 arg10 harg10 arg11 harg11 arg12 harg12 hc0 x0 x1 x2 x3 x4 x5 x6 x7
  have h6 : View.ld (Val := Elt Ideal) (e' := .f32) x6 (Rect.unit (s := S1x8x128) ![0, 0, 0] ![1, 8, 128] inb_S1x8x128_S1x8x128_0_0_0) = x6 :=
    View.ld_unit_zero (funext fun a => by fin_cases a <;> rfl) _ _
  have h7 : View.ld (Val := Elt Ideal) (e' := .f32) x7 (Rect.unit (s := S1x128) ![0, 0] ![1, 128] inb_S1x128_S1x128_0_0) = x7 :=
    View.ld_unit_zero (funext fun a => by fin_cases a <;> rfl) _ _
  rw [harg3.read_unread, harg4.read_unread, harg6.read_unread, harg8.read_unread, harg9.read_unread, harg10.read_unread, hs, h6, h7] at hk
  subst hk
  exact stored_block x0 x1 x3 x5 x6 x7 _ k

/-- What another point of a run writes: computed with the turned values the point before left. -/
theorem outB_eq (c : Dev nD) (i : grid0.Coords) (arg3 : Memref sig .tc .vmem S512x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x128 .bf16) (harg8 : arg8.IsWhole) (arg9 : Memref sig .tc .vmem S1x8x128 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S128x2304 .bf16) (harg12 : arg12.IsWhole) (hc0 : ¬cond0_0 i) (x0 : Vec Ideal S512x128 .bf16) (x1 : Vec Ideal S256x128 .bf16) (x2 : Vec Ideal S256x128 .bf16) (x3 : Vec Ideal S2048x128 .bf16) (x4 : Vec Ideal S2048x128 .bf16) (x5 : Vec Ideal S512x128 .bf16) (x6 : Vec Ideal S1x8x128 .f32) (x7 : Vec Ideal S1x128 .f32) (s : Vec Ideal S128x2304 .bf16) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 x7 s = blockOf x0 x1 x3 x5 x6 x7 s := by
  funext y
  unfold out0_B_8
  refine View.read_writes_apply_of_pieces _ _ (blockOf x0 x1 x3 x5 x6 x7 s) _ ?_ y (cover0_B_8 c i arg3 harg3 arg4 harg4 arg5 harg5 arg6 harg6 arg7 harg7 arg8 harg8 arg9 harg9 arg10 harg10 arg11 harg11 arg12 harg12 hc0 x0 x1 x2 x3 x4 x5 x6 x7 s y)
  intro p hp
  obtain ⟨k, hk⟩ := trips_eq c i arg3 harg3 arg4 harg4 arg5 harg5 arg6 harg6 arg7 harg7 arg8 harg8 arg9 harg9 arg10 harg10 arg11 harg11 arg12 harg12
    (View.ld (Val := Elt Ideal) (e' := .f32) (arg9.view.read (Elt Ideal) (harg9.unread x6)) (Rect.unit (s := S1x8x128) ![0, 0, 0] ![1, 8, 128] inb_S1x8x128_S1x8x128_0_0_0))
    (View.ld (Val := Elt Ideal) (e' := .f32) (arg10.view.read (Elt Ideal) (harg10.unread x7)) (Rect.unit (s := S1x128) ![0, 0] ![1, 128] inb_S1x128_S1x128_0_0))
    (harg3.unread x0) (harg4.unread x1) (harg6.unread x3) (harg8.unread x5) (harg12.unread s) _ le_rfl p hp
  have h6 : View.ld (Val := Elt Ideal) (e' := .f32) x6 (Rect.unit (s := S1x8x128) ![0, 0, 0] ![1, 8, 128] inb_S1x8x128_S1x8x128_0_0_0) = x6 :=
    View.ld_unit_zero (funext fun a => by fin_cases a <;> rfl) _ _
  have h7 : View.ld (Val := Elt Ideal) (e' := .f32) x7 (Rect.unit (s := S1x128) ![0, 0] ![1, 128] inb_S1x128_S1x128_0_0) = x7 :=
    View.ld_unit_zero (funext fun a => by fin_cases a <;> rfl) _ _
  rw [harg3.read_unread, harg4.read_unread, harg6.read_unread, harg8.read_unread, harg9.read_unread, harg10.read_unread, harg12.read_unread, h6, h7] at hk
  subst hk
  exact stored_block x0 x1 x3 x5 x6 x7 s k

end Cert.AttLastK

end
-- ==== Proof.AttLastBlock.lean ====
/- The last layer's attention kernel's block at an entry, for real queries, keys and values. -/
module

public import proofs.«01_k».proof.Proof.AttLastPieces
public import proofs.«01_k».proof.Proof.AttBlock

@[expose] public section

noncomputable section

namespace Cert.AttLastK

open Cert.AttLastIdeal Cert.AttLastIdeal.Gen Idealize.ShloMosaic Idealize.ShloMosaic.ValueIdx Idealize.ShloMosaic.TcCoe Cert.Reads Cert.AttMath Idealize.SL.Sem
open Cert.AttK (rows rowsAt colsAt turned rowsAt_apply colsAt_apply mix chunk chunk_of silu)
open scoped BigOperators

/-- The head's output at lane `e`: the attention, its norm and its gate. -/
def headAt (q : Fin 128 → ℝ) (K V : Fin 2304 → Fin 128 → ℝ) (lam : EReal) (sg : Fin 128 → EReal) (g : EReal) (e : Fin 128) : EReal :=
  headOut (mix q K V lam) sg e * silu g

/-- A point's block at an entry. -/
theorem block_apply (x0 : Vec Ideal S512x128 .bf16) (x1 x2 : Vec Ideal S256x128 .bf16) (x3 x4 : Vec Ideal S2048x128 .bf16) (x5 : Vec Ideal S512x128 .bf16)
    (x6 : FVec Ideal S1x8x128 .f32) (x7 : FVec Ideal S1x128 .f32) (Q : Fin 512 → Fin 128 → ℝ) (K V : Fin 2304 → Fin 128 → ℝ) (lam : EReal)
    (h0 : ∀ r d, x0 (ix2 r d) = ((Q r d : ℝ) : EReal))
    (h1 : ∀ (i : Fin 256) d, x1 (ix2 i d) = ((K ⟨i.val, by omega⟩ d : ℝ) : EReal)) (h3 : ∀ (i : Fin 2048) d, x3 (ix2 i d) = ((K ⟨256 + i.val, by omega⟩ d : ℝ) : EReal))
    (h2 : ∀ (i : Fin 256) e, x2 (ix2 i e) = ((V ⟨i.val, by omega⟩ e : ℝ) : EReal)) (h4 : ∀ (i : Fin 2048) e, x4 (ix2 i e) = ((V ⟨256 + i.val, by omega⟩ e : ℝ) : EReal))
    (h6 : ∀ j : Fin 128, x6 (ix3 0 0 j) = lam) (r : Fin 512) (e : Fin 128) :
    blockOf x0 x1 x3 x5 x6 x7 (turned x2 x4) (ix2 r e) = headAt (Q r) K V lam (fun e => x7 (ix2 0 e)) (x5 (ix2 r e)) e := by
  have hlt : r.val / 128 < k0_t1_loop.trips := by rw [trips4]; omega
  have hrow : ∀ (x : Vec Ideal S512x128 .bf16) (r' : Fin 128) (d : Fin 128),
      rowsOf x ⟨r.val / 128, hlt⟩ (ix2 r' d) = x (ix2 ⟨128 * (r.val / 128) + r'.val, by omega⟩ d) := by
    intro x r' d
    obtain ⟨a0, a1⟩ := off_all ⟨r.val / 128, hlt⟩
    refine congrArg x (Shape.idx_ext₂ ?_ ?_)
    · show k0_off1 ⟨r.val / 128, hlt⟩ 0 + 1 * r'.val = _
      rw [a0, one_mul]
    · show k0_off1 ⟨r.val / 128, hlt⟩ 1 + 1 * d.val = d.val
      rw [a1]; omega
  have hr : (⟨128 * (r.val / 128) + r.val % 128, by omega⟩ : Fin 512) = r := Fin.ext (by show 128 * (r.val / 128) + r.val % 128 = r.val; omega)
  have hk : ∀ (n o : ℕ) (h) (hn : n < 9) (_ : 256 + o = 256 * n) (i : Fin 256) (d : Fin 128), rowsAt x3 o h (ix2 i d) = ((chunk K n i d : ℝ) : EReal) := by
    intro n o h hn hno i d
    rw [rowsAt_apply x3 o h i d ⟨o + i.val, by omega⟩ rfl, h3, chunk_of K n i (256 + (o + i.val)) (by omega) (by omega)]
  have hv : ∀ (n o : ℕ) (h) (hn : n < 9) (_ : o = 256 * n) (e : Fin 128) (i : Fin 256), colsAt (turned x2 x4) o h (ix2 e i) = ((chunk V n i e : ℝ) : EReal) := by
    intro n o h hn hno e i
    rw [colsAt_apply x2 x4 V h2 h4 o h e i (by omega), chunk_of V n i (o + i.val) (by omega) (by omega)]
  unfold blockOf stored
  refine (body_apply _ _ _ _ _ _ _ _ _ _ _ _ _ _ _ _ _ _ _ _ _ _ (fun r' => Q ⟨128 * (r.val / 128) + r'.val, by omega⟩) (chunk K) (chunk V) K V
    (fun r' d => (hrow x0 r' d).trans (h0 _ d))
    (fun i d => (h1 i d).trans (by rw [chunk_of K 0 i i.val (by omega) (by omega)]))
    (hk 1 _ _ (by omega) rfl) (hk 2 _ _ (by omega) rfl) (hk 3 _ _ (by omega) rfl) (hk 4 _ _ (by omega) rfl)
    (hk 5 _ _ (by omega) rfl) (hk 6 _ _ (by omega) rfl) (hk 7 _ _ (by omega) rfl) (hk 8 _ _ (by omega) rfl)
    (hv 0 _ _ (by omega) rfl) (hv 1 _ _ (by omega) rfl) (hv 2 _ _ (by omega) rfl) (hv 3 _ _ (by omega) rfl) (hv 4 _ _ (by omega) rfl)
    (hv 5 _ _ (by omega) rfl) (hv 6 _ _ (by omega) rfl) (hv 7 _ _ (by omega) rfl) (hv 8 _ _ (by omega) rfl)
    (fun j i => chunk_of K _ i _ _ rfl) (fun j i => chunk_of V _ i _ _ rfl) _ _).trans ?_
  rw [h6]
  unfold headAt mix
  refine congrArg₂ (· * ·) ?_ (congrArg silu ?_)
  · show headOut (fun e => ((mean (fun i => ∑ d : Fin 64, Q ⟨128 * (r.val / 128) + r.val % 128, _⟩ _ * _) _ : ℝ) : EReal)
      - lam * ((mean (fun i => ∑ d : Fin 64, Q ⟨128 * (r.val / 128) + r.val % 128, _⟩ _ * _) _ : ℝ) : EReal)) _ _ = _
    rw [hr]
  · refine (hrow x5 _ _).trans ?_
    show x5 (ix2 ⟨128 * (r.val / 128) + r.val % 128, _⟩ _) = _
    rw [hr]

end Cert.AttLastK

end
-- ==== Proof.AttLastValue.lean ====
/- The last layer's attention kernel's result as one function of the arguments. -/
module

public import proofs.«01_k».proof.Proof.AttLastBlock
public import proofs.«01_k».proof.Proof.AttValue
public import proofs.«01_k».proof.Proof.HostReads

@[expose] public section

noncomputable section

namespace Cert.AttLastK

open Cert.AttLastIdeal Cert.AttLastIdeal.Gen Idealize.ShloMosaic Idealize.ShloMosaic.ValueIdx Idealize.ShloMosaic.TcCoe Cert.Reads Idealize.SL.Sem
open scoped BigOperators

open Cert.AttK (queryOf rowsFrom Finite turned mix rows)

/-- The context's keys and values in the columns where the first layer's projection has them. -/
def wide (pc : S1024x2048.Idx → EReal) : Cert.KernelIdeal.S1024x6656.Idx → EReal := fun i =>
  if h : 1024 ≤ (i 1).val ∧ (i 1).val < 3072 then pc (ix2 (i 0) ⟨(i 1).val - 1024, by omega⟩) else 0

theorem wide_apply (pc : S1024x2048.Idx → EReal) (r : Fin 1024) (k : Fin 2048) (k' : Fin 6656) (h : k'.val = 1024 + k.val) :
    wide pc (ix2 r k') = pc (ix2 r k) := by
  unfold wide
  have hk := k.isLt
  rw [dif_pos (by show 1024 ≤ k'.val ∧ k'.val < 3072; omega)]
  refine congrArg pc (congrArg (ix2 r) (Fin.ext ?_))
  show k'.val - 1024 = k.val
  omega

/-- The result at batch `b`, position `l`, head `h`, lane `e`. -/
def attAt (p : S8192x6656.Idx → EReal) (pc : Cert.KernelIdeal.S1024x6656.Idx → EReal) (lam : EReal) (sg : S128.Idx → EReal) (b : Fin 4) (h : Fin 8) (l : Fin 2048) (e : Fin 128) : EReal :=
  headAt (queryOf p b h l) (rowsFrom p pc 1024 (by omega) b h) (rowsFrom p pc 2048 (by omega) b h) lam (fun e => sg (ix1 e))
    (p (ix2 ⟨b.val * 2048 + l.val, by omega⟩ ⟨3072 + (h.val * 128 + e.val), by omega⟩)) e

variable (m : (ℓ : Loc nD τ sig) → Buf (Elt Ideal) ℓ)

/-- The weight of the second component reaches the launch on every lane. -/
theorem V0 (c : Dev nD) (k : Fin 128) : (V m c main_v0 : S1x8x128.Idx → EReal) (ix3 0 0 k) = (m ((c : Thread nD τ).loc main_arg2) : S1.Idx → EReal) (ix1 0) := by
  have e : V m c main_v0 = broadcastInDim S1x8x128 ![2] bcast_S1_S1x8x128_2 (m ((c : Thread nD τ).loc main_arg2) : S1.Idx → EReal) := by
    show StableHlo.after hostOps0 _ _ = _
    after_results
  rw [e]
  refine broadcastInDim_apply _ _ _ _ _ fun a => ?_
  match a with
  | ⟨0, _⟩ => rfl

/-- The norm's scale reaches the launch as one row. -/
theorem V1 (c : Dev nD) (k : Fin 128) : (V m c main_v1 : S1x128.Idx → EReal) (ix2 0 k) = (m ((c : Thread nD τ).loc main_arg3) : S128.Idx → EReal) (ix1 k) := by
  have e : V m c main_v1 = shapeCast S1x128 (m ((c : Thread nD τ).loc main_arg3) : S128.Idx → EReal) shapeCasts_S128_S1x128 := by
    show StableHlo.after hostOps0 _ _ = _
    after_results
    rfl
  rw [e]
  exact castRow _ _ k

/-- Where the windows' blocks stand at point `t`: batch `t / 32`, head `t / 4 % 8`, row block `t % 4` of the batch. -/
theorem where_all : ∀ t : Fin grid0.N,
    win0_0.index t 0 = t.val / 32 * 4 + t.val % 4 ∧ win0_0.index t 1 = t.val / 4 % 8 ∧ win0_1.index t 0 = t.val / 32 ∧ win0_1.index t 1 = t.val / 4 % 8
    ∧ win0_2.index t 0 = t.val / 32 ∧ win0_2.index t 1 = 8 + t.val / 4 % 8 ∧ win0_3.index t 0 = t.val / 32 ∧ win0_3.index t 1 = 8 + t.val / 4 % 8
    ∧ win0_4.index t 0 = t.val / 32 ∧ win0_4.index t 1 = 16 + t.val / 4 % 8 ∧ win0_5.index t 0 = t.val / 32 * 4 + t.val % 4 ∧ win0_5.index t 1 = 24 + t.val / 4 % 8
    ∧ win0_6.index t 0 = 0 ∧ win0_6.index t 1 = 0 ∧ win0_6.index t 2 = 0 ∧ win0_7.index t 0 = 0 ∧ win0_7.index t 1 = 0
    ∧ win0_8.index t 0 = t.val / 32 * 4 + t.val % 4 ∧ win0_8.index t 1 = t.val / 4 % 8 := by decide +kernel

theorem N128 (t : Fin cfg0.N) : t.val < 128 := t.isLt

/-- The point's batch, head and position of row `r`. -/
abbrev bOf (t : Fin cfg0.N) : Fin 4 := ⟨t.val / 32, by have := N128 t; omega⟩
abbrev hOf (t : Fin cfg0.N) : Fin 8 := ⟨t.val / 4 % 8, by omega⟩
abbrev lOf (t : Fin cfg0.N) (r : Fin 512) : Fin 2048 := ⟨t.val % 4 * 512 + r.val, by omega⟩

/-- The array rows and columns. -/
abbrev mainRow (b : Fin 4) (l : Fin 2048) : Fin 8192 := ⟨b.val * 2048 + l.val, by omega⟩
abbrev ctxRow (b : Fin 4) (i : Fin 256) : Fin 1024 := ⟨b.val * 256 + i.val, by omega⟩
abbrev colOf (o : ℕ) (ho : o + 1024 ≤ 6656) (h : Fin 8) (d : Fin 128) : Fin 6656 := ⟨o + (h.val * 128 + d.val), by omega⟩

theorem blk0 (c : Dev nD) (t : Fin cfg0.N) (r : Fin 512) (d : Fin 128) :
    (iblk m c 0 t : S512x128.Idx → EReal) (ix2 r d) = (m ((c : Thread nD τ).loc main_arg0) : S8192x6656.Idx → EReal) (ix2 (mainRow (bOf t) (lOf t r)) ⟨(hOf t).val * 128 + d.val, by have := (hOf t).isLt; omega⟩) := by
  obtain ⟨h0, h1, -⟩ := where_all t
  show (V m c main_arg0 : S8192x6656.Idx → EReal) _ = _
  rw [V_main_arg0]
  refine congrArg _ (Shape.idx_ext₂ ?_ ?_)
  · show win0_0.index t 0 * 512 + 1 * r.val = t.val / 32 * 2048 + (t.val % 4 * 512 + r.val)
    rw [h0]; omega
  · show win0_0.index t 1 * 128 + 1 * d.val = t.val / 4 % 8 * 128 + d.val
    rw [h1]; omega

theorem blk1 (c : Dev nD) (t : Fin cfg0.N) (i : Fin 256) (d : Fin 128) :
    (iblk m c 1 t : S256x128.Idx → EReal) (ix2 i d) = wide (m ((c : Thread nD τ).loc main_arg1)) (ix2 (ctxRow (bOf t) i) (colOf 1024 (by omega) (hOf t) d)) := by
  obtain ⟨-, -, h0, h1, -⟩ := where_all t
  rw [wide_apply _ _ ⟨(hOf t).val * 128 + d.val, by have := (hOf t).isLt; omega⟩ _ rfl]
  show (V m c main_arg1 : S1024x2048.Idx → EReal) _ = _
  rw [V_main_arg1]
  refine congrArg _ (Shape.idx_ext₂ ?_ ?_)
  · show win0_1.index t 0 * 256 + 1 * i.val = t.val / 32 * 256 + i.val
    rw [h0]; omega
  · show win0_1.index t 1 * 128 + 1 * d.val = t.val / 4 % 8 * 128 + d.val
    rw [h1]; omega

theorem blk2 (c : Dev nD) (t : Fin cfg0.N) (i : Fin 256) (d : Fin 128) :
    (iblk m c 2 t : S256x128.Idx → EReal) (ix2 i d) = wide (m ((c : Thread nD τ).loc main_arg1)) (ix2 (ctxRow (bOf t) i) (colOf 2048 (by omega) (hOf t) d)) := by
  obtain ⟨-, -, -, -, h0, h1, -⟩ := where_all t
  rw [wide_apply _ _ ⟨1024 + ((hOf t).val * 128 + d.val), by have := (hOf t).isLt; omega⟩ _ (by show 2048 + _ = 1024 + (1024 + _); omega)]
  show (V m c main_arg1 : S1024x2048.Idx → EReal) _ = _
  rw [V_main_arg1]
  refine congrArg _ (Shape.idx_ext₂ ?_ ?_)
  · show win0_2.index t 0 * 256 + 1 * i.val = t.val / 32 * 256 + i.val
    rw [h0]; omega
  · show win0_2.index t 1 * 128 + 1 * d.val = 1024 + (t.val / 4 % 8 * 128 + d.val)
    rw [h1]; omega

theorem blk3 (c : Dev nD) (t : Fin cfg0.N) (i : Fin 2048) (d : Fin 128) :
    (iblk m c 3 t : S2048x128.Idx → EReal) (ix2 i d) = (m ((c : Thread nD τ).loc main_arg0) : S8192x6656.Idx → EReal) (ix2 (mainRow (bOf t) i) (colOf 1024 (by omega) (hOf t) d)) := by
  obtain ⟨-, -, -, -, -, -, h0, h1, -⟩ := where_all t
  show (V m c main_arg0 : S8192x6656.Idx → EReal) _ = _
  rw [V_main_arg0]
  refine congrArg _ (Shape.idx_ext₂ ?_ ?_)
  · show win0_3.index t 0 * 2048 + 1 * i.val = t.val / 32 * 2048 + i.val
    rw [h0]; omega
  · show win0_3.index t 1 * 128 + 1 * d.val = 1024 + (t.val / 4 % 8 * 128 + d.val)
    rw [h1]; omega

theorem blk4 (c : Dev nD) (t : Fin cfg0.N) (i : Fin 2048) (d : Fin 128) :
    (iblk m c 4 t : S2048x128.Idx → EReal) (ix2 i d) = (m ((c : Thread nD τ).loc main_arg0) : S8192x6656.Idx → EReal) (ix2 (mainRow (bOf t) i) (colOf 2048 (by omega) (hOf t) d)) := by
  obtain ⟨-, -, -, -, -, -, -, -, h0, h1, -⟩ := where_all t
  show (V m c main_arg0 : S8192x6656.Idx → EReal) _ = _
  rw [V_main_arg0]
  refine congrArg _ (Shape.idx_ext₂ ?_ ?_)
  · show win0_4.index t 0 * 2048 + 1 * i.val = t.val / 32 * 2048 + i.val
    rw [h0]; omega
  · show win0_4.index t 1 * 128 + 1 * d.val = 2048 + (t.val / 4 % 8 * 128 + d.val)
    rw [h1]; omega

theorem blk5 (c : Dev nD) (t : Fin cfg0.N) (r : Fin 512) (d : Fin 128) :
    (iblk m c 5 t : S512x128.Idx → EReal) (ix2 r d) = (m ((c : Thread nD τ).loc main_arg0) : S8192x6656.Idx → EReal) (ix2 (mainRow (bOf t) (lOf t r)) (colOf 3072 (by omega) (hOf t) d)) := by
  obtain ⟨-, -, -, -, -, -, -, -, -, -, h0, h1, -⟩ := where_all t
  show (V m c main_arg0 : S8192x6656.Idx → EReal) _ = _
  rw [V_main_arg0]
  refine congrArg _ (Shape.idx_ext₂ ?_ ?_)
  · show win0_5.index t 0 * 512 + 1 * r.val = t.val / 32 * 2048 + (t.val % 4 * 512 + r.val)
    rw [h0]; omega
  · show win0_5.index t 1 * 128 + 1 * d.val = 3072 + (t.val / 4 % 8 * 128 + d.val)
    rw [h1]; omega

theorem blk6 (c : Dev nD) (t : Fin cfg0.N) (k : Fin 128) :
    (iblk m c 6 t : S1x8x128.Idx → EReal) (ix3 0 0 k) = (m ((c : Thread nD τ).loc main_arg2) : S1.Idx → EReal) (ix1 0) := by
  obtain ⟨-, -, -, -, -, -, -, -, -, -, -, -, h0, h1, h2, -⟩ := where_all t
  show (V m c main_v0 : S1x8x128.Idx → EReal) _ = _
  rw [← V0 m c k]
  refine congrArg _ (funext fun a => Fin.ext ?_)
  match a with
  | ⟨0, _⟩ => show win0_6.index t 0 * 1 + 1 * 0 = 0; rw [h0]
  | ⟨1, _⟩ => show win0_6.index t 1 * 8 + 1 * 0 = 0; rw [h1]
  | ⟨2, _⟩ => show win0_6.index t 2 * 128 + 1 * k.val = k.val; rw [h2]; omega

theorem blk7 (c : Dev nD) (t : Fin cfg0.N) (k : Fin 128) :
    (iblk m c 7 t : S1x128.Idx → EReal) (ix2 0 k) = (m ((c : Thread nD τ).loc main_arg3) : S128.Idx → EReal) (ix1 k) := by
  obtain ⟨-, -, -, -, -, -, -, -, -, -, -, -, -, -, -, h0, h1, -⟩ := where_all t
  show (V m c main_v1 : S1x128.Idx → EReal) _ = _
  rw [← V1 m c]
  refine congrArg _ (Shape.idx_ext₂ ?_ ?_)
  · show win0_7.index t 0 * 1 + 1 * 0 = 0
    rw [h0]
  · show win0_7.index t 1 * 128 + 1 * k.val = k.val
    rw [h1]; omega

/-- The value blocks are the same at all points of one batch and head. -/
theorem blk2_same (c : Dev nD) (t t' : Fin cfg0.N) (h : t.val / 4 = t'.val / 4) : (iblk m c 2 t : S256x128.Idx → EReal) = iblk m c 2 t' := by
  funext i
  obtain ⟨r, k, rfl⟩ : ∃ (r : Fin 256) (k : Fin 128), i = ix2 r k := ⟨i 0, i 1, eq_ix2 i⟩
  rw [blk2, blk2]
  have e : bOf t = bOf t' := Fin.ext (by show t.val / 32 = t'.val / 32; omega)
  have e' : hOf t = hOf t' := Fin.ext (by show t.val / 4 % 8 = t'.val / 4 % 8; omega)
  rw [e, e']

theorem blk4_same (c : Dev nD) (t t' : Fin cfg0.N) (h : t.val / 4 = t'.val / 4) : (iblk m c 4 t : S2048x128.Idx → EReal) = iblk m c 4 t' := by
  funext i
  obtain ⟨r, k, rfl⟩ : ∃ (r : Fin 2048) (k : Fin 128), i = ix2 r k := ⟨i 0, i 1, eq_ix2 i⟩
  rw [blk4, blk4]
  have e : bOf t = bOf t' := Fin.ext (by show t.val / 32 = t'.val / 32; omega)
  have e' : hOf t = hOf t' := Fin.ext (by show t.val / 4 % 8 = t'.val / 4 % 8; omega)
  rw [e, e']

/-- At the first point of a batch and head the scratch is given the turned values. -/
theorem kept_first (c : Dev nD) (t : Fin cfg0.N) (h0 : t.val % 4 = 0) : (outsAt0 m c t.val t.isLt).2 = turned (iblk m c 2 t) (iblk m c 4 t) := by
  rw [outsAt0_A m c t h0]
  dsimp only
  rw [kept_eq]

/-- After every point the scratch holds the turned values of the point's batch and head. -/
theorem kept_at (c : Dev nD) : ∀ (n : ℕ) (hn : n < cfg0.N), (outsAt0 m c n hn).2 = turned (iblk m c 2 ⟨n, hn⟩) (iblk m c 4 ⟨n, hn⟩) := by
  intro n
  induction n with
  | zero => exact fun hn => kept_first m c ⟨0, hn⟩ rfl
  | succ n ih =>
    intro hn
    by_cases h0 : (n + 1) % 4 = 0
    · exact kept_first m c ⟨n + 1, hn⟩ h0
    · have e := ih (Nat.lt_of_succ_lt hn)
      have hq : n / 4 = (n + 1) / 4 := by omega
      rw [blk2_same m c ⟨n, Nat.lt_of_succ_lt hn⟩ ⟨n + 1, hn⟩ hq, blk4_same m c ⟨n, Nat.lt_of_succ_lt hn⟩ ⟨n + 1, hn⟩ hq] at e
      have e2 : (outsAt0 m c (n + 1) hn).2 = (outsAt0 m c n (Nat.lt_of_succ_lt hn)).2 := by
        have e1 := outsAt0_B m c ⟨n + 1, hn⟩ h0
        dsimp only at e1
        rw [e1]
        dsimp only
        unfold sout0_B_0
        rfl
      exact e2.trans e

/-- The result array, from the arguments. -/
def G (c : Dev nD) : S8192x1024.Idx → EReal := fun i =>
  attAt (m ((c : Thread nD τ).loc main_arg0)) (wide (m ((c : Thread nD τ).loc main_arg1))) ((m ((c : Thread nD τ).loc main_arg2) : S1.Idx → EReal) (ix1 0)) (m ((c : Thread nD τ).loc main_arg3))
    ⟨(i 0 : ℕ) / 2048, by have h : (i 0 : ℕ) < 8192 := (i 0).isLt; omega⟩ ⟨(i 1 : ℕ) / 128, by have h : (i 1 : ℕ) < 1024 := (i 1).isLt; omega⟩
    ⟨(i 0 : ℕ) % 2048, by omega⟩ ⟨(i 1 : ℕ) % 128, by omega⟩

/-- Every point's block, of real queries, keys and values. -/
theorem flushed_eq (c : Dev nD) (hf : Finite (m ((c : Thread nD τ).loc main_arg0)) (wide (m ((c : Thread nD τ).loc main_arg1)))) (t : Fin cfg0.N) :
    (dats m 0 c).flushed 8 t = (win0_8.blk t).view.read (Elt Ideal) (G m c) := by
  have key : (dats m 0 c).flushed 8 t = blockOf (iblk m c 0 t) (iblk m c 1 t) (iblk m c 3 t) (iblk m c 5 t) (iblk m c 6 t) (iblk m c 7 t) (turned (iblk m c 2 t) (iblk m c 4 t)) := by
    by_cases h0 : t.val % 4 = 0
    · rw [Value.flushed8_A m c t h0]
      rw [outA_eq]
      rfl
    · rw [Value.flushed8_B m c t h0]
      rw [outB_eq]
      have hq : (t.val - 1) / 4 = t.val / 4 := by omega
      have hlt : t.val - 1 < cfg0.N := Nat.lt_of_le_of_lt (Nat.sub_le _ _) t.isLt
      rw [kept_at m c (t.val - 1) hlt, blk2_same m c ⟨t.val - 1, hlt⟩ t hq, blk4_same m c ⟨t.val - 1, hlt⟩ t hq]
      rfl
  rw [key]
  funext i
  obtain ⟨-, -, -, -, -, -, -, -, -, -, -, -, -, -, -, -, -, g0, g1⟩ := where_all t
  have hN := N128 t
  obtain ⟨r, e, rfl⟩ : ∃ (r : Fin 512) (e : Fin 128), i = ix2 r e := ⟨i 0, i 1, eq_ix2 i⟩
  have er : ((win0_8.blk t).view.read (Elt Ideal) (G m c)) (ix2 r e) = G m c (ix2 (mainRow (bOf t) (lOf t r)) ⟨(hOf t).val * 128 + e.val, by have := (hOf t).isLt; omega⟩) := by
    refine congrArg (G m c) (Shape.idx_ext₂ ?_ ?_)
    · show win0_8.index t 0 * 512 + 1 * r.val = t.val / 32 * 2048 + (t.val % 4 * 512 + r.val)
      rw [g0]; omega
    · show win0_8.index t 1 * 128 + 1 * e.val = t.val / 4 % 8 * 128 + e.val
      rw [g1]; omega
  rw [er]
  have eG : G m c (ix2 (mainRow (bOf t) (lOf t r)) ⟨(hOf t).val * 128 + e.val, by have := (hOf t).isLt; omega⟩)
      = attAt (m ((c : Thread nD τ).loc main_arg0)) (wide (m ((c : Thread nD τ).loc main_arg1))) ((m ((c : Thread nD τ).loc main_arg2) : S1.Idx → EReal) (ix1 0)) (m ((c : Thread nD τ).loc main_arg3))
        (bOf t) (hOf t) (lOf t r) e := by
    unfold G
    have e1 : (⟨(mainRow (bOf t) (lOf t r)).val / 2048, by have := (mainRow (bOf t) (lOf t r)).isLt; omega⟩ : Fin 4) = bOf t := Fin.ext (by show (t.val / 32 * 2048 + (t.val % 4 * 512 + r.val)) / 2048 = t.val / 32; omega)
    have e2 : (⟨(mainRow (bOf t) (lOf t r)).val % 2048, by omega⟩ : Fin 2048) = lOf t r := Fin.ext (by show (t.val / 32 * 2048 + (t.val % 4 * 512 + r.val)) % 2048 = t.val % 4 * 512 + r.val; omega)
    have e3 : (⟨((hOf t).val * 128 + e.val) / 128, by have := (hOf t).isLt; omega⟩ : Fin 8) = hOf t := Fin.ext (by show (t.val / 4 % 8 * 128 + e.val) / 128 = t.val / 4 % 8; omega)
    have e4 : (⟨((hOf t).val * 128 + e.val) % 128, by omega⟩ : Fin 128) = e := Fin.ext (by show (t.val / 4 % 8 * 128 + e.val) % 128 = e.val; omega)
    exact congr (congr (congr (congrArg _ e1) e3) e2) e4
  rw [eG]
  refine (block_apply _ _ _ _ _ _ _ _ (fun r => queryOf (m ((c : Thread nD τ).loc main_arg0)) (bOf t) (hOf t) (lOf t r))
    (rowsFrom (m ((c : Thread nD τ).loc main_arg0)) (wide (m ((c : Thread nD τ).loc main_arg1))) 1024 (by omega) (bOf t) (hOf t))
    (rowsFrom (m ((c : Thread nD τ).loc main_arg0)) (wide (m ((c : Thread nD τ).loc main_arg1))) 2048 (by omega) (bOf t) (hOf t))
    ((m ((c : Thread nD τ).loc main_arg2) : S1.Idx → EReal) (ix1 0)) ?_ ?_ ?_ ?_ ?_ ?_ r e).trans ?_
  · intro r d
    rw [blk0]
    exact hf.main _ _ (by show t.val / 4 % 8 * 128 + d.val < 3072; omega)
  · intro i d
    rw [blk1]
    refine (hf.ctx _ _ (by show 1024 ≤ 1024 + (t.val / 4 % 8 * 128 + d.val); omega) (by show 1024 + (t.val / 4 % 8 * 128 + d.val) < 3072; omega)).trans ?_
    unfold rowsFrom
    rw [dif_pos i.isLt]
  · intro i d
    rw [blk3]
    refine (hf.main _ _ (by show 1024 + (t.val / 4 % 8 * 128 + d.val) < 3072; omega)).trans ?_
    unfold rowsFrom
    rw [dif_neg (by show ¬ 256 + i.val < 256; omega)]
    refine congrArg (fun z => (((m ((c : Thread nD τ).loc main_arg0) : S8192x6656.Idx → EReal) (ix2 z _)).toReal : EReal)) (Fin.ext ?_)
    show t.val / 32 * 2048 + i.val = t.val / 32 * 2048 + (256 + i.val - 256)
    omega
  · intro i d
    rw [blk2]
    refine (hf.ctx _ _ (by show 1024 ≤ 2048 + (t.val / 4 % 8 * 128 + d.val); omega) (by show 2048 + (t.val / 4 % 8 * 128 + d.val) < 3072; omega)).trans ?_
    unfold rowsFrom
    rw [dif_pos i.isLt]
  · intro i d
    rw [blk4]
    refine (hf.main _ _ (by show 2048 + (t.val / 4 % 8 * 128 + d.val) < 3072; omega)).trans ?_
    unfold rowsFrom
    rw [dif_neg (by show ¬ 256 + i.val < 256; omega)]
    refine congrArg (fun z => (((m ((c : Thread nD τ).loc main_arg0) : S8192x6656.Idx → EReal) (ix2 z _)).toReal : EReal)) (Fin.ext ?_)
    show t.val / 32 * 2048 + i.val = t.val / 32 * 2048 + (256 + i.val - 256)
    omega
  · exact blk6 m c t
  · simp only [blk5, blk7]
    rfl

/-- The blocks cover the result. -/
theorem cover (i : S8192x1024.Idx) : ∃ t : Fin cfg0.N, (cfg0.win 8).flush t = true ∧ i ∈ ((cfg0.win 8).blk t).view.set := by
  have hi0 : (i 0 : Nat) < 8192 := (i 0).isLt
  have hi1 : (i 1 : Nat) < 1024 := (i 1).isLt
  have hN : cfg0.N = 128 := by decide +kernel
  have hb : (i 0 : Nat) / 2048 * 32 + (i 1 : Nat) / 128 * 4 + (i 0 : Nat) / 512 % 4 < cfg0.N := by omega
  refine ⟨⟨_, hb⟩, flush0_8 _, ?_⟩
  generalize ht : (⟨_, hb⟩ : Fin cfg0.N) = t
  have htv : t.val = (i 0 : Nat) / 2048 * 32 + (i 1 : Nat) / 128 * 4 + (i 0 : Nat) / 512 % 4 := by rw [← ht]
  obtain ⟨-, -, -, -, -, -, -, -, -, -, -, -, -, -, -, -, -, h0, h1⟩ := where_all t
  show i ∈ ((View.whole main_v2).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [h0]; omega
  | ⟨1, _⟩ =>
    show win0_8.index t 1 * 128 ≤ (i 1 : Nat) ∧ (i 1 : Nat) < win0_8.index t 1 * 128 + 128
    rw [h1]; omega

/-- The result array after the run. -/
theorem final (c : Dev nD) (hf : Finite (m ((c : Thread nD τ).loc main_arg0)) (wide (m ((c : Thread nD τ).loc main_arg1)))) : (dats m 0 c).arrAt 8 cfg0.N = G m c :=
  (dats m 0 c).arrAt_eq_of_cover 8 (G m c) (fun t _ => flushed_eq m c hf t) cover

end Cert.AttLastK

end
-- ==== Proof.AttLastRef.lean ====
/- The last layer's attention reference at an entry of its result. -/
module

public import proofs.«01_k».proof.Proof.AttLastValue
public import proofs.«01_k».proof.Proof.AttRef
public import proofs.«01_k».proof.Proof.Gen.AttLastRefIdeal.Run

@[expose] public section

noncomputable section

namespace Cert.AttLastRef

open Cert.AttLastRefIdeal Cert.AttLastRefIdeal.Gen Idealize.ShloMosaic Idealize.ShloMosaic.ValueIdx Idealize.ShloMosaic.TcCoe Cert.Reads Cert.AttMath
open Cert.AttLastK (wide wide_apply)
open Cert.AttRef (slice3 castJoin cat2_0 cat2_1 bdLast4 bdInsLast4 bdVec4 Qs Kc Vc Sc Ex Pr Df Os Gt Os_apply)
open scoped BigOperators

variable (p : FVec Ideal S8192x6656 .bf16) (pc : FVec Ideal S1024x2048 .bf16) (lam : FVec Ideal S1 .f32) (sg : FVec Ideal S128 .f32)

/-- The keys' columns, context before latents. -/
abbrev KcL : FVec Ideal S4x2304x1024 .f32 :=
  concatenate S4x2304x1024 1 [⟨S4x256x1024, (extractStridedSlice S4x256x1024 ![0, 0, 0] (shapeCast _ (extf .f32 pc bitsLt_bf16_f32) shapeCasts_S1024x2048_S4x256x2048) slices_S4x256x2048_S4x256x1024_0_0_0)⟩, ⟨S4x2048x1024, (extractStridedSlice S4x2048x1024 ![0, 0, 1024] (shapeCast _ (extf .f32 p bitsLt_bf16_f32) shapeCasts_S8192x6656_S4x2048x6656) slices_S4x2048x6656_S4x2048x1024_0_0_1024)⟩] concatenates_S4x256x1024_S4x2048x1024_S4x2304x1024_d1

/-- The values' columns, context before latents. -/
abbrev VcL : FVec Ideal S4x2304x1024 .f32 :=
  concatenate S4x2304x1024 1 [⟨S4x256x1024, (extractStridedSlice S4x256x1024 ![0, 0, 1024] (shapeCast _ (extf .f32 pc bitsLt_bf16_f32) shapeCasts_S1024x2048_S4x256x2048) slices_S4x256x2048_S4x256x1024_0_0_1024)⟩, ⟨S4x2048x1024, (extractStridedSlice S4x2048x1024 ![0, 0, 2048] (shapeCast _ (extf .f32 p bitsLt_bf16_f32) shapeCasts_S8192x6656_S4x2048x6656) slices_S4x2048x6656_S4x2048x1024_0_0_2048)⟩] concatenates_S4x256x1024_S4x2048x1024_S4x2304x1024_d1

/-- The scores. -/
abbrev ScL : FVec Ideal S4x8x2x2048x2304 .f32 :=
  Host.dotGeneral dot_S4x2048x8x2x64_S4x2304x8x2x64_S4x8x2x2048x2304_4_4_1_1_023_023 none (Qs p) (shapeCast _ (KcL p pc) shapeCasts_S4x2304x1024_S4x2304x8x2x64)

/-- The heads' outputs. -/
abbrev OsL : FVec Ideal S4x2048x8x128 .f32 :=
  transpose S4x2048x8x128 [0, 3, 1, 2] (Host.dotGeneral dot_S4x2304x8x128_S4x8x2048x2304_S4x8x128x2048_1_3_3_2_02_01 none (shapeCast _ (VcL p pc) shapeCasts_S4x2304x1024_S4x2304x8x128) (Df lam (Pr (Ex (ScL p pc))))) transposes_S4x8x128x2048_S4x2048x8x128_0_3_1_2

/-- The keys are those of the widened context. -/
theorem KcL_eq : KcL p pc = Kc p (wide pc) := by
  funext j
  obtain ⟨b, i, k, rfl⟩ : ∃ (b : Fin 4) (i : Fin 2304) (k : Fin 1024), j = ix3 b i k := ⟨j 0, j 1, j 2, eq_ix3 j⟩
  unfold KcL Kc
  by_cases hi : i.val < 256
  · refine (cat2_0 _ _ concatenates_S4x256x1024_S4x2048x1024_S4x2304x1024_d1 b i k ⟨i.val, hi⟩ rfl).trans
      (Eq.trans ?_ (cat2_0 _ _ Cert.ReferenceIdeal.Gen.concatenates_S4x256x1024_S4x2048x1024_S4x2304x1024_d1 b i k ⟨i.val, hi⟩ rfl).symm)
    rw [slice3 _ _ b _ _ (⟨0 + k.val, by omega⟩ : Fin 2048) rfl, castGroup _ _ b _ _ ⟨b.val * 256 + i.val, by omega⟩ rfl,
      slice3 _ _ b _ _ (⟨1024 + k.val, by omega⟩ : Fin 6656) rfl, castGroup _ _ b _ _ ⟨b.val * 256 + i.val, by omega⟩ rfl]
    exact (wide_apply pc _ _ _ (by show 1024 + k.val = 1024 + (0 + k.val); omega)).symm
  · refine (cat2_1 _ _ concatenates_S4x256x1024_S4x2048x1024_S4x2304x1024_d1 b i k ⟨i.val - 256, by omega⟩ (by simp only; omega)).trans
      (cat2_1 _ _ Cert.ReferenceIdeal.Gen.concatenates_S4x256x1024_S4x2048x1024_S4x2304x1024_d1 b i k ⟨i.val - 256, by omega⟩ (by simp only; omega)).symm

/-- The values are those of the widened context. -/
theorem VcL_eq : VcL p pc = Vc p (wide pc) := by
  funext j
  obtain ⟨b, i, k, rfl⟩ : ∃ (b : Fin 4) (i : Fin 2304) (k : Fin 1024), j = ix3 b i k := ⟨j 0, j 1, j 2, eq_ix3 j⟩
  unfold VcL Vc
  by_cases hi : i.val < 256
  · refine (cat2_0 _ _ concatenates_S4x256x1024_S4x2048x1024_S4x2304x1024_d1 b i k ⟨i.val, hi⟩ rfl).trans
      (Eq.trans ?_ (cat2_0 _ _ Cert.ReferenceIdeal.Gen.concatenates_S4x256x1024_S4x2048x1024_S4x2304x1024_d1 b i k ⟨i.val, hi⟩ rfl).symm)
    rw [slice3 _ _ b _ _ (⟨1024 + k.val, by omega⟩ : Fin 2048) rfl, castGroup _ _ b _ _ ⟨b.val * 256 + i.val, by omega⟩ rfl,
      slice3 _ _ b _ _ (⟨2048 + k.val, by omega⟩ : Fin 6656) rfl, castGroup _ _ b _ _ ⟨b.val * 256 + i.val, by omega⟩ rfl]
    exact (wide_apply pc _ _ _ (by show 2048 + k.val = 1024 + (1024 + k.val); omega)).symm
  · refine (cat2_1 _ _ concatenates_S4x256x1024_S4x2048x1024_S4x2304x1024_d1 b i k ⟨i.val - 256, by omega⟩ (by simp only; omega)).trans
      (cat2_1 _ _ Cert.ReferenceIdeal.Gen.concatenates_S4x256x1024_S4x2048x1024_S4x2304x1024_d1 b i k ⟨i.val - 256, by omega⟩ (by simp only; omega)).symm

theorem OsL_eq : OsL p pc lam = Os p (wide pc) lam := by
  unfold OsL ScL
  rw [KcL_eq, VcL_eq]
  rfl

/-- The heads' outputs: the attention of the query over the keys and values. -/
theorem OsL_apply (hf : AttK.Finite p (wide pc)) (w : ℝ) (hl : lam (ix1 0) = (w : EReal)) (b : Fin 4) (l : Fin 2048) (h : Fin 8) (e : Fin 128) :
    OsL p pc lam (ix4 b l h e)
      = AttK.mix (AttK.queryOf p b h l) (AttK.rowsFrom p (wide pc) 1024 (by omega) b h) (AttK.rowsFrom p (wide pc) 2048 (by omega) b h) (w : EReal) e := by
  rw [OsL_eq]
  exact Os_apply p (wide pc) lam hf w hl b l h e

/-- The reference's result is the same function of the arguments as the kernel's. -/
theorem out_eq (hf : AttK.Finite p (wide pc)) (w : ℝ) (hl : lam (ix1 0) = (w : EReal)) :
    (shapeCast S8192x1024 (truncf .bf16 (mulf (shapeCast _ (mulf (mulf (mulf (OsL p pc lam) (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf (OsL p pc lam) (OsL p pc lam)) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 sg))) (broadcastInDim S4x2048x8x128 ![] bcast_S_S4x2048x8x128 (constant S_ .f32 0x3F24FD5C#32))) shapeCasts_S4x2048x8x128_S4x2048x1024) (mulf (Gt p) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (Gt p))))))) bitsLt_bf16_f32) shapeCasts_S4x2048x1024_S8192x1024 : S8192x1024.Idx → EReal)
      = fun i => AttLastK.attAt p (wide pc) (lam (ix1 0)) sg ⟨(i 0 : ℕ) / 2048, by have h : (i 0 : ℕ) < 8192 := (i 0).isLt; omega⟩ ⟨(i 1 : ℕ) / 128, by have h : (i 1 : ℕ) < 1024 := (i 1).isLt; omega⟩
          ⟨(i 0 : ℕ) % 2048, by omega⟩ ⟨(i 1 : ℕ) % 128, by omega⟩ := by
  funext i
  obtain ⟨r, k, rfl⟩ : ∃ (r : Fin 8192) (k : Fin 1024), i = ix2 r k := ⟨i 0, i 1, eq_ix2 i⟩
  show _ = AttLastK.attAt p (wide pc) (lam (ix1 0)) sg ⟨r.val / 2048, _⟩ ⟨k.val / 128, _⟩ ⟨r.val % 2048, _⟩ ⟨k.val % 128, _⟩
  have hr : r.val = (⟨r.val / 2048, by omega⟩ : Fin 4).val * 2048 + (⟨r.val % 2048, by omega⟩ : Fin 2048).val := by
    show r.val = r.val / 2048 * 2048 + r.val % 2048
    omega
  have hk : k.val = (⟨k.val / 128, by omega⟩ : Fin 8).val * 128 + (⟨k.val % 128, by omega⟩ : Fin 128).val := by
    show k.val = k.val / 128 * 128 + k.val % 128
    omega
  generalize (⟨r.val / 2048, by omega⟩ : Fin 4) = b at hr ⊢
  generalize (⟨r.val % 2048, by omega⟩ : Fin 2048) = l at hr ⊢
  generalize (⟨k.val / 128, by omega⟩ : Fin 8) = h at hk ⊢
  generalize (⟨k.val % 128, by omega⟩ : Fin 128) = e at hk ⊢
  have hg : Gt p (ix3 b l k) = p (ix2 ⟨b.val * 2048 + l.val, by omega⟩ ⟨3072 + (h.val * 128 + e.val), by omega⟩) := by
    unfold Gt
    rw [slice3 _ _ b l k ⟨3072 + (h.val * 128 + e.val), by omega⟩ (by simp only; omega), castGroup _ _ b l _ ⟨b.val * 2048 + l.val, by omega⟩ rfl]
    rfl
  rw [castFlat _ _ b l k r hr, truncf_apply, mulf_apply, castJoin _ _ b l h e k (by norm_num) hk]
  unfold AttLastK.attAt AttLastK.headAt
  refine congrArg₂ (· * ·) ?_ ?_
  · rw [mulf_apply, mulf_apply, mulf_apply, bdVec4, bdLast4, broadcastInDim_scalar_apply, OsL_apply p pc lam hf w hl]
    unfold AttLastK.headOut
    rw [hl]
    refine congrArg₂ (· * ·) (congrArg₂ (· * ·) (congrArg₂ (· * ·) rfl (congrArg Ideal.rsqrt ?_)) rfl) rfl
    rw [addf_apply, hostDivf_apply, bdInsLast4, broadcastInDim_scalar_apply, broadcastInDim_scalar_apply, hostReduceAdd_apply, Ideal.hostReduceAdd_single _ (by decide), constant_apply, Ideal.ofBits_zero_f32, zero_add]
    refine congrArg₂ (· + ·) (congrArg₂ Ideal.div (Finset.sum_congr rfl fun d _ => ?_) rfl) rfl
    refine Eq.trans (congrArg (mulf (OsL p pc lam) (OsL p pc lam)) (?_ : _ = ix4 b l h d)) (congrArg₂ (· * ·) (OsL_apply p pc lam hf w hl b l h d) (OsL_apply p pc lam hf w hl b l h d))
    funext a
    match a with
    | ⟨0, _⟩ => rfl
    | ⟨1, _⟩ => rfl
    | ⟨2, _⟩ => rfl
    | ⟨3, _⟩ => rfl
  · rw [mulf_apply, hostDivf_apply, addf_apply, broadcastInDim_scalar_apply]
    show Gt p (ix3 b l k) * Ideal.div (Ideal.ofBits .f32 0x3F800000#32) (Ideal.ofBits .f32 0x3F800000#32 + Ideal.exp (-(Gt p (ix3 b l k)))) = _
    rw [hg, Ideal.ofBits_one_f32]
    rfl

end Cert.AttLastRef

end
-- ==== Proof.AttLastAlgebraic.lean ====
/- The last layer's attention: kernel and reference leave the same result, of real queries, keys, values and weight. -/
module

public import proofs.«01_k».proof.Defs
public import proofs.«01_k».proof.Proof.AttAlgebraic
public import proofs.«01_k».proof.Proof.AttLastRef

@[expose] public section

noncomputable section

namespace Cert.AttLastAlgebraic

open Idealize.ShloMosaic Idealize.ShloMosaic.ValueIdx Idealize.SL.Sem Cert.Reads

/-- The precondition's side conditions. -/
theorem facts : Cert.Pre_finite_last.Facts :=
  { slices_S8192x6656_S8192x3072_0_0 := by decide
    bitsLt_bf16_f32 := by decide
    bcast_S_S8192x3072 := by decide
    bcast_S_S1024x2048 := by decide
    bcast_S_S1 := by decide }

/-- What the precondition says of the arguments. -/
theorem of_pre (p : Pre_finite_last.S8192x6656.Idx → EReal) (pc : Pre_finite_last.S1024x2048.Idx → EReal) (lam : Pre_finite_last.S1.Idx → EReal) (sg : Pre_finite_last.S128.Idx → EReal)
    (h0 : (@Cert.Pre_finite_last.fn facts Ideal _ p pc lam sg).1 = fun _ => 1#1)
    (h1 : (@Cert.Pre_finite_last.fn facts Ideal _ p pc lam sg).2.1 = fun _ => 1#1)
    (h2 : (@Cert.Pre_finite_last.fn facts Ideal _ p pc lam sg).2.2 = fun _ => 1#1) :
    AttK.Finite p (AttLastK.wide pc) ∧ lam (ix1 0) = (((lam (ix1 0)).toReal : ℝ) : EReal) := by
  refine ⟨⟨fun r k hk => AttAlgebraic.real_of_cmp _ ?_, fun r k hk hk' => ?_⟩, AttAlgebraic.real_of_cmp _ ?_⟩
  · refine Eq.trans ?_ (congrFun h0 (ix2 r ⟨k.val, hk⟩))
    have e := slice2 (o0 := 0) (o1 := 0) (m := 8192) (n := 3072) p (by decide) r ⟨k.val, hk⟩ r k (by simp) (by simp)
    rw [← e]
    rfl
  · rw [AttLastK.wide_apply pc r ⟨k.val - 1024, by omega⟩ k (by simp only; omega)]
    exact AttAlgebraic.real_of_cmp _ (congrFun h1 (ix2 r ⟨k.val - 1024, by omega⟩))
  · exact congrFun h2 (ix1 0)

/-- From equal arguments, queries, keys, values and weight real, the last layer's attention and its reference end with equal results. -/
theorem algebraic : Cert.algebraic_AttLastIdeal_AttLastRefIdeal_pre_finite_last (hAttLastIdeal := Cert.AttLastIdeal.Gen.facts)
    (hAttLastRefIdeal := Cert.AttLastRefIdeal.Gen.facts) (hPre_finite_last := facts) := by
  intro m g m' g' hpre hargs
  have hf := fun c => of_pre _ _ _ _ (hpre c).1 (hpre c).2.1 (hpre c).2.2
  refine ⟨fun c => AttLastK.G m c, ?_, ?_⟩
  · refine (θ_run (Cert.AttLastIdeal.defs (F := Ideal)) _ _).mono (fun r h c => ?_) (Cert.AttLastIdeal.Value.run_blocks (F := Ideal) m g)
    exact ⟨(h c).1.trans (AttLastK.final m c (hf c).1), (h c).2⟩
  · refine (θ_run (Cert.AttLastRefIdeal.defs (F := Ideal)) _ _).mono (fun r h c => ?_) (Cert.AttLastRefIdeal.Value.run (F := Ideal) m' g')
    obtain ⟨hv, hrest⟩ := h c
    refine ⟨hv.trans ?_, hrest⟩
    obtain ⟨h0, h1, h2, h3⟩ := hargs c
    unfold Cert.AttLastRefIdeal.Value.res_main_v56
    rw [h0, h1, h2, h3]
    exact AttLastRef.out_eq _ _ _ _ (hf c).1 _ (hf c).2

end Cert.AttLastAlgebraic

end
-- ==== Proof.ModValue.lean ====
/- The modulation's kernel: its two results as functions of the arguments. -/
module

public import proofs.«01_k».proof.Proof.HostReads
public import proofs.«01_k».proof.Proof.OutValue
public import proofs.«01_k».proof.Proof.Gen.ModulationIdeal.Value

@[expose] public section

noncomputable section

namespace Cert.ModK

open Cert.ModulationIdeal Cert.ModulationIdeal.Gen Idealize.ShloMosaic Idealize.ShloMosaic.ValueIdx Idealize.ShloMosaic.TcCoe Cert.Reads Idealize.SL.Sem
open scoped BigOperators

/-- The batches' vectors, the context's, and three rows of zeros. -/
def stack (a : S4x2048.Idx → EReal) (b : S2048.Idx → EReal) : S8x2048.Idx → EReal :=
  concatenate S8x2048 0 [⟨S4x2048, a⟩, ⟨S1x2048, broadcastInDim S1x2048 ![1] bcast_S2048_S1x2048_1 b⟩,
    ⟨S3x2048, broadcastInDim S3x2048 ![] bcast_S_S3x2048 (constant (F := Ideal) S_ .f32 0x00000000#32)⟩] concatenates_S4x2048_S1x2048_S3x2048_S8x2048_d0

/-- The modulation's entry: layer `l`, row `r`, column `n`. -/
def modAt (z : S8x2048.Idx → EReal) (w : S2x2048x6144.Idx → EReal) (b : S2x6144.Idx → EReal) (l : Fin 2) (r : Fin 8) (n : Fin 6144) : EReal :=
  ∑ k : Fin 2048, z (ix2 r k) * Ideal.logistic (z (ix2 r k)) * w (ix3 l k n) + b (ix2 l n)

/-- The constant of layer `l`. -/
def start (l : Fin 2) : EReal := Ideal.ofBits .f32 (lit0 l)

/-- The weight of layer `l`'s second component. -/
def lamAt (q1 k1 q2 k2 : S2x64.Idx → EReal) (l : Fin 2) : EReal :=
  Ideal.exp (∑ d : Fin 64, q1 (ix2 l d) * k1 (ix2 l d)) - Ideal.exp (∑ d : Fin 64, q2 (ix2 l d) * k2 (ix2 l d)) + start l

/-- An axis of extent one put in front. -/
theorem castFront {M N : Nat} {α : Type} (x : (⟨2, ![M, N]⟩ : Shape).Idx → α) (h : (⟨2, ![M, N]⟩ : Shape).ShapeCasts ⟨3, ![1, M, N]⟩) (r : Fin M) (k : Fin N) :
    shapeCast (⟨3, ![1, M, N]⟩ : Shape) x h (ix3 0 r k) = x (ix2 r k) := castGroup x h 0 r k r (by simp)

/-- The first stored payload at an entry. -/
theorem pay_mod (v0 : FVec Ideal S8x2048 .f32) (v4 : FVec Ideal S1x2048x1536 .f32) (v7 : FVec Ideal S1x1x1536 .f32) (r : Fin 8) (n : Fin 1536) :
    k0_pay2 (F := Ideal) v0 v4 v7 (ix3 0 r n)
      = ∑ k : Fin 2048, v0 (ix2 r k) * Ideal.logistic (v0 (ix2 r k)) * v4 (ix3 0 k n) + v7 (ix3 0 0 n) := by
  unfold k0_pay2
  rw [castFront, addf_apply, bcRow, castDrop, shapeCast_self]
  refine congrArg (· + _) ((dot2 (some .fp32) _ _ r n).trans (Finset.sum_congr rfl fun k _ => ?_))
  rw [castDrop]
  rfl

/-- The second stored payload at an entry. -/
theorem pay_lam (a b c d : FVec Ideal S1x1x64 .f32) (e : FVec Ideal S1x1x128 .f32) (r : Fin 8) (k : Fin 128) :
    k0_pay1 (F := Ideal) (k0_pay3 a b c d) e (ix3 0 r k)
      = Ideal.exp (∑ i : Fin 64, a (ix3 0 0 i) * b (ix3 0 0 i)) - Ideal.exp (∑ i : Fin 64, c (ix3 0 0 i) * d (ix3 0 0 i)) + e (ix3 0 0 k) := by
  unfold k0_pay1 k0_pay3
  dsimp only
  rw [castFront, bcRow, shapeCast_self, addf_apply, bcCol, castDrop, subf_apply]
  refine congrArg (· + _) (congrArg₂ (· - ·) (congrArg Ideal.exp ?_) (congrArg Ideal.exp ?_)) <;>
  · rw [castCol, sumRow]
    refine Finset.sum_congr rfl fun i _ => ?_
    rw [mulf_apply, castDrop, castDrop]

variable (m : (ℓ : Loc nD τ sig) → Buf (Elt Ideal) ℓ)

/-- The stacked rows as the launch has them. -/
theorem V2 (c : Dev nD) : V m c main_v2 = stack (m ((c : Thread nD τ).loc main_arg0)) (m ((c : Thread nD τ).loc main_arg1)) := by
  show StableHlo.after hostOps0 _ _ = _
  after_results
  rfl

/-- The constants on every lane. -/
theorem V4 (c : Dev nD) (l : Fin 2) (k : Fin 128) : (V m c main_v4 : S2x1x128.Idx → EReal) (ix3 l 0 k) = start l := by
  have e : V m c main_v4 = broadcastInDim S2x1x128 ![0, 1, 2] bcast_S2x1x1_S2x1x128_0_1_2 (broadcastInDim S2x1x1 ![0] bcast_S2_S2x1x1_0
      (fun i => Ideal.ofBits .f32 (lit0 (S2.rowMajor i)))) := by
    show StableHlo.after hostOps0 _ _ = _
    after_results
    rfl
  rw [e, bdLast]
  refine (broadcastInDim_apply _ _ _ (ix3 l 0 0) (ix1 l) fun a => ?_).trans ?_
  · match a with
    | ⟨0, _⟩ => exact val_eq_ite l
  · exact congrArg (fun z => Ideal.ofBits .f32 (lit0 z)) (Fin.ext (Shape.rowMajor_val_one _))

/-- A matrix as the launch has it, an axis of extent one inserted. -/
theorem V5 (c : Dev nD) (l : Fin 2) (k : Fin 6144) : (V m c main_v5 : S2x1x6144.Idx → EReal) (ix3 l 0 k) = (m ((c : Thread nD τ).loc main_arg3) : S2x6144.Idx → EReal) (ix2 l k) := by
  have e : V m c main_v5 = shapeCast S2x1x6144 (m ((c : Thread nD τ).loc main_arg3) : S2x6144.Idx → EReal) shapeCasts_S2x6144_S2x1x6144 := by
    show StableHlo.after hostOps0 _ _ = _
    after_results
    rfl
  rw [e]
  exact castGroup _ _ l 0 k l (by simp)

theorem V6 (c : Dev nD) (l : Fin 2) (k : Fin 64) : (V m c main_v6 : S2x1x64.Idx → EReal) (ix3 l 0 k) = (m ((c : Thread nD τ).loc main_arg4) : S2x64.Idx → EReal) (ix2 l k) := by
  have e : V m c main_v6 = shapeCast S2x1x64 (m ((c : Thread nD τ).loc main_arg4) : S2x64.Idx → EReal) shapeCasts_S2x64_S2x1x64 := by
    show StableHlo.after hostOps0 _ _ = _
    after_results
    rfl
  rw [e]
  exact castGroup _ _ l 0 k l (by simp)

theorem V7 (c : Dev nD) (l : Fin 2) (k : Fin 64) : (V m c main_v7 : S2x1x64.Idx → EReal) (ix3 l 0 k) = (m ((c : Thread nD τ).loc main_arg5) : S2x64.Idx → EReal) (ix2 l k) := by
  have e : V m c main_v7 = shapeCast S2x1x64 (m ((c : Thread nD τ).loc main_arg5) : S2x64.Idx → EReal) shapeCasts_S2x64_S2x1x64 := by
    show StableHlo.after hostOps0 _ _ = _
    after_results
    rfl
  rw [e]
  exact castGroup _ _ l 0 k l (by simp)

theorem V8 (c : Dev nD) (l : Fin 2) (k : Fin 64) : (V m c main_v8 : S2x1x64.Idx → EReal) (ix3 l 0 k) = (m ((c : Thread nD τ).loc main_arg6) : S2x64.Idx → EReal) (ix2 l k) := by
  have e : V m c main_v8 = shapeCast S2x1x64 (m ((c : Thread nD τ).loc main_arg6) : S2x64.Idx → EReal) shapeCasts_S2x64_S2x1x64 := by
    show StableHlo.after hostOps0 _ _ = _
    after_results
    rfl
  rw [e]
  exact castGroup _ _ l 0 k l (by simp)

theorem V9 (c : Dev nD) (l : Fin 2) (k : Fin 64) : (V m c main_v9 : S2x1x64.Idx → EReal) (ix3 l 0 k) = (m ((c : Thread nD τ).loc main_arg7) : S2x64.Idx → EReal) (ix2 l k) := by
  have e : V m c main_v9 = shapeCast S2x1x64 (m ((c : Thread nD τ).loc main_arg7) : S2x64.Idx → EReal) shapeCasts_S2x64_S2x1x64 := by
    show StableHlo.after hostOps0 _ _ = _
    after_results
    rfl
  rw [e]
  exact castGroup _ _ l 0 k l (by simp)

/-- Where the windows' blocks stand: point `t` is layer `t / 4` and column block `t % 4`. -/
theorem where_all : ∀ t : Fin grid0.N,
    win0_0.index t 0 = 0 ∧ win0_0.index t 1 = 0 ∧ win0_1.index t 0 = t.val / 4 ∧ win0_1.index t 1 = 0 ∧ win0_1.index t 2 = t.val % 4
    ∧ win0_2.index t 0 = t.val / 4 ∧ win0_2.index t 1 = 0 ∧ win0_2.index t 2 = t.val % 4
    ∧ win0_8.index t 0 = t.val / 4 ∧ win0_8.index t 1 = 0 ∧ win0_8.index t 2 = t.val % 4
    ∧ win0_9.index t 0 = t.val / 4 ∧ win0_9.index t 1 = 0 ∧ win0_9.index t 2 = 0 := by decide +kernel

/-- The lambdas' and the constants' blocks: layer `t / 4`. -/
theorem where_lam : ∀ t : Fin grid0.N,
    (win0_3.index t 0 = t.val / 4 ∧ win0_3.index t 1 = 0 ∧ win0_3.index t 2 = 0) ∧ (win0_4.index t 0 = t.val / 4 ∧ win0_4.index t 1 = 0 ∧ win0_4.index t 2 = 0)
    ∧ (win0_5.index t 0 = t.val / 4 ∧ win0_5.index t 1 = 0 ∧ win0_5.index t 2 = 0) ∧ (win0_6.index t 0 = t.val / 4 ∧ win0_6.index t 1 = 0 ∧ win0_6.index t 2 = 0)
    ∧ (win0_7.index t 0 = t.val / 4 ∧ win0_7.index t 1 = 0 ∧ win0_7.index t 2 = 0) := by decide +kernel

theorem N8 (t : Fin cfg0.N) : t.val < 8 := t.isLt

/-- The layer of a point, and the column its block's column `n` is. -/
abbrev lay (t : Fin cfg0.N) : Fin 2 := ⟨t.val / 4, by have := N8 t; omega⟩
abbrev colOf (t : Fin cfg0.N) (n : Fin 1536) : Fin 6144 := ⟨t.val % 4 * 1536 + n.val, by omega⟩

theorem blk0 (c : Dev nD) (t : Fin cfg0.N) (r : Fin 8) (k : Fin 2048) :
    (iblk m c 0 t : S8x2048.Idx → EReal) (ix2 r k) = stack (m ((c : Thread nD τ).loc main_arg0)) (m ((c : Thread nD τ).loc main_arg1)) (ix2 r k) := by
  obtain ⟨h0, h1, -⟩ := where_all t
  show (V m c main_v2 : S8x2048.Idx → EReal) _ = _
  rw [V2]
  refine congrArg _ (Shape.idx_ext₂ ?_ ?_)
  · show win0_0.index t 0 * 8 + 1 * r.val = r.val
    rw [h0]; omega
  · show win0_0.index t 1 * 2048 + 1 * k.val = k.val
    rw [h1]; omega

theorem blk1 (c : Dev nD) (t : Fin cfg0.N) (k : Fin 2048) (n : Fin 1536) :
    (iblk m c 1 t : S1x2048x1536.Idx → EReal) (ix3 0 k n) = (m ((c : Thread nD τ).loc main_arg2) : S2x2048x6144.Idx → EReal) (ix3 (lay t) k (colOf t n)) := by
  obtain ⟨-, -, h0, h1, h2, -⟩ := where_all t
  show (V m c main_arg2 : S2x2048x6144.Idx → EReal) _ = _
  rw [V_main_arg2]
  refine congrArg _ (funext fun a => Fin.ext ?_)
  match a with
  | ⟨0, _⟩ => show win0_1.index t 0 * 1 + 1 * 0 = t.val / 4; rw [h0]; omega
  | ⟨1, _⟩ => show win0_1.index t 1 * 2048 + 1 * k.val = k.val; rw [h1]; omega
  | ⟨2, _⟩ => show win0_1.index t 2 * 1536 + 1 * n.val = t.val % 4 * 1536 + n.val; rw [h2]; omega

theorem blk2 (c : Dev nD) (t : Fin cfg0.N) (n : Fin 1536) :
    (iblk m c 2 t : S1x1x1536.Idx → EReal) (ix3 0 0 n) = (m ((c : Thread nD τ).loc main_arg3) : S2x6144.Idx → EReal) (ix2 (lay t) (colOf t n)) := by
  obtain ⟨-, -, -, -, -, h0, h1, h2, -⟩ := where_all t
  show (V m c main_v5 : S2x1x6144.Idx → EReal) _ = _
  rw [← V5 m c]
  refine congrArg _ (funext fun a => Fin.ext ?_)
  match a with
  | ⟨0, _⟩ => show win0_2.index t 0 * 1 + 1 * 0 = t.val / 4; rw [h0]; omega
  | ⟨1, _⟩ => show win0_2.index t 1 * 1 + 1 * 0 = 0; rw [h1]
  | ⟨2, _⟩ => show win0_2.index t 2 * 1536 + 1 * n.val = t.val % 4 * 1536 + n.val; rw [h2]; omega

theorem blk3 (c : Dev nD) (t : Fin cfg0.N) (k : Fin 64) :
    (iblk m c 3 t : S1x1x64.Idx → EReal) (ix3 0 0 k) = (m ((c : Thread nD τ).loc main_arg4) : S2x64.Idx → EReal) (ix2 (lay t) k) := by
  obtain ⟨h, -⟩ := where_lam t
  show (V m c main_v6 : S2x1x64.Idx → EReal) _ = _
  rw [← V6 m c]
  refine congrArg _ (funext fun a => Fin.ext ?_)
  match a with
  | ⟨0, _⟩ => show win0_3.index t 0 * 1 + 1 * 0 = t.val / 4; rw [h.1]; omega
  | ⟨1, _⟩ => show win0_3.index t 1 * 1 + 1 * 0 = 0; rw [h.2.1]
  | ⟨2, _⟩ => show win0_3.index t 2 * 64 + 1 * k.val = k.val; rw [h.2.2]; omega

theorem blk4 (c : Dev nD) (t : Fin cfg0.N) (k : Fin 64) :
    (iblk m c 4 t : S1x1x64.Idx → EReal) (ix3 0 0 k) = (m ((c : Thread nD τ).loc main_arg5) : S2x64.Idx → EReal) (ix2 (lay t) k) := by
  obtain ⟨-, h, -⟩ := where_lam t
  show (V m c main_v7 : S2x1x64.Idx → EReal) _ = _
  rw [← V7 m c]
  refine congrArg _ (funext fun a => Fin.ext ?_)
  match a with
  | ⟨0, _⟩ => show win0_4.index t 0 * 1 + 1 * 0 = t.val / 4; rw [h.1]; omega
  | ⟨1, _⟩ => show win0_4.index t 1 * 1 + 1 * 0 = 0; rw [h.2.1]
  | ⟨2, _⟩ => show win0_4.index t 2 * 64 + 1 * k.val = k.val; rw [h.2.2]; omega

theorem blk5 (c : Dev nD) (t : Fin cfg0.N) (k : Fin 64) :
    (iblk m c 5 t : S1x1x64.Idx → EReal) (ix3 0 0 k) = (m ((c : Thread nD τ).loc main_arg6) : S2x64.Idx → EReal) (ix2 (lay t) k) := by
  obtain ⟨-, -, h, -⟩ := where_lam t
  show (V m c main_v8 : S2x1x64.Idx → EReal) _ = _
  rw [← V8 m c]
  refine congrArg _ (funext fun a => Fin.ext ?_)
  match a with
  | ⟨0, _⟩ => show win0_5.index t 0 * 1 + 1 * 0 = t.val / 4; rw [h.1]; omega
  | ⟨1, _⟩ => show win0_5.index t 1 * 1 + 1 * 0 = 0; rw [h.2.1]
  | ⟨2, _⟩ => show win0_5.index t 2 * 64 + 1 * k.val = k.val; rw [h.2.2]; omega

theorem blk6 (c : Dev nD) (t : Fin cfg0.N) (k : Fin 64) :
    (iblk m c 6 t : S1x1x64.Idx → EReal) (ix3 0 0 k) = (m ((c : Thread nD τ).loc main_arg7) : S2x64.Idx → EReal) (ix2 (lay t) k) := by
  obtain ⟨-, -, -, h, -⟩ := where_lam t
  show (V m c main_v9 : S2x1x64.Idx → EReal) _ = _
  rw [← V9 m c]
  refine congrArg _ (funext fun a => Fin.ext ?_)
  match a with
  | ⟨0, _⟩ => show win0_6.index t 0 * 1 + 1 * 0 = t.val / 4; rw [h.1]; omega
  | ⟨1, _⟩ => show win0_6.index t 1 * 1 + 1 * 0 = 0; rw [h.2.1]
  | ⟨2, _⟩ => show win0_6.index t 2 * 64 + 1 * k.val = k.val; rw [h.2.2]; omega

theorem blk7 (c : Dev nD) (t : Fin cfg0.N) (k : Fin 128) :
    (iblk m c 7 t : S1x1x128.Idx → EReal) (ix3 0 0 k) = start (lay t) := by
  obtain ⟨-, -, -, -, h⟩ := where_lam t
  show (V m c main_v4 : S2x1x128.Idx → EReal) _ = _
  rw [← V4 m c _ k]
  refine congrArg _ (funext fun a => Fin.ext ?_)
  match a with
  | ⟨0, _⟩ => show win0_7.index t 0 * 1 + 1 * 0 = t.val / 4; rw [h.1]; omega
  | ⟨1, _⟩ => show win0_7.index t 1 * 1 + 1 * 0 = 0; rw [h.2.1]
  | ⟨2, _⟩ => show win0_7.index t 2 * 128 + 1 * k.val = k.val; rw [h.2.2]; omega

/-- The results, from the arguments. -/
def G0 (c : Dev nD) : S2x8x6144.Idx → EReal := fun i =>
  modAt (stack (m ((c : Thread nD τ).loc main_arg0)) (m ((c : Thread nD τ).loc main_arg1))) (m ((c : Thread nD τ).loc main_arg2)) (m ((c : Thread nD τ).loc main_arg3)) (i 0) (i 1) (i 2)
def G1 (c : Dev nD) : S2x8x128.Idx → EReal := fun i =>
  lamAt (m ((c : Thread nD τ).loc main_arg4)) (m ((c : Thread nD τ).loc main_arg5)) (m ((c : Thread nD τ).loc main_arg6)) (m ((c : Thread nD τ).loc main_arg7)) (i 0)

/-- What point `t` writes back is its block of the modulation. -/
theorem flushed_mod (c : Dev nD) (t : Fin cfg0.N) : (dats m 0 c).flushed 8 t = (win0_8.blk t).view.read (Elt Ideal) (G0 m c) := by
  rw [Value.flushed8]
  unfold out0_8
  rw [View.canon_unit_zero OutK.hz3, View.ld_unit_zero OutK.hz2, View.ld_unit_zero OutK.hz3, View.ld_unit_zero OutK.hz3]
  funext i
  obtain ⟨-, -, -, -, -, -, -, -, h0, h1, h2, -⟩ := where_all t
  obtain ⟨r, n, rfl⟩ : ∃ (r : Fin 8) (n : Fin 1536), i = ix3 0 r n := ⟨i 1, i 2, funext fun a => by
    match a with
    | ⟨0, _⟩ => exact Subsingleton.elim (α := Fin 1) _ _
    | ⟨1, _⟩ => rfl
    | ⟨2, _⟩ => rfl⟩
  have er : ((win0_8.blk t).view.read (Elt Ideal) (G0 m c)) (ix3 0 r n) = G0 m c (ix3 (lay t) r (colOf t n)) := by
    refine congrArg (G0 m c) (funext fun a => Fin.ext ?_)
    match a with
    | ⟨0, _⟩ => show win0_8.index t 0 * 1 + 1 * 0 = t.val / 4; rw [h0]; omega
    | ⟨1, _⟩ => show win0_8.index t 1 * 8 + 1 * r.val = r.val; rw [h1]; omega
    | ⟨2, _⟩ => show win0_8.index t 2 * 1536 + 1 * n.val = t.val % 4 * 1536 + n.val; rw [h2]; omega
  rw [er]
  refine (pay_mod _ _ _ r n).trans ?_
  simp only [blk0, blk1, blk2]
  rfl

/-- What point `t` writes back is its layer's weight. -/
theorem flushed_lam (c : Dev nD) (t : Fin cfg0.N) : (dats m 0 c).flushed 9 t = (win0_9.blk t).view.read (Elt Ideal) (G1 m c) := by
  rw [Value.flushed9]
  unfold out0_9
  rw [View.canon_unit_zero OutK.hz3]
  rw [View.ld_unit_zero OutK.hz3, View.ld_unit_zero OutK.hz3, View.ld_unit_zero OutK.hz3, View.ld_unit_zero OutK.hz3, View.ld_unit_zero OutK.hz3]
  funext i
  obtain ⟨-, -, -, -, -, -, -, -, -, -, -, h0, h1, h2⟩ := where_all t
  obtain ⟨r, n, rfl⟩ : ∃ (r : Fin 8) (n : Fin 128), i = ix3 0 r n := ⟨i 1, i 2, funext fun a => by
    match a with
    | ⟨0, _⟩ => exact Subsingleton.elim (α := Fin 1) _ _
    | ⟨1, _⟩ => rfl
    | ⟨2, _⟩ => rfl⟩
  have er : ((win0_9.blk t).view.read (Elt Ideal) (G1 m c)) (ix3 0 r n) = G1 m c (ix3 (lay t) r n) := by
    refine congrArg (G1 m c) (funext fun a => Fin.ext ?_)
    match a with
    | ⟨0, _⟩ => show win0_9.index t 0 * 1 + 1 * 0 = t.val / 4; rw [h0]; omega
    | ⟨1, _⟩ => show win0_9.index t 1 * 8 + 1 * r.val = r.val; rw [h1]; omega
    | ⟨2, _⟩ => show win0_9.index t 2 * 128 + 1 * n.val = n.val; rw [h2]; omega
  rw [er]
  refine (pay_lam _ _ _ _ _ r n).trans ?_
  simp only [blk3, blk4, blk5, blk6, blk7]
  rfl

/-- The blocks cover the modulation. -/
theorem cover_mod (i : S2x8x6144.Idx) : ∃ t : Fin cfg0.N, (cfg0.win 8).flush t = true ∧ i ∈ ((cfg0.win 8).blk t).view.set := by
  have hi0 : (i 0 : Nat) < 2 := (i 0).isLt
  have hi1 : (i 1 : Nat) < 8 := (i 1).isLt
  have hi2 : (i 2 : Nat) < 6144 := (i 2).isLt
  have hN : cfg0.N = 8 := by decide +kernel
  refine ⟨⟨(i 0 : Nat) * 4 + (i 2 : Nat) / 1536, by omega⟩, flush0_8 _, ?_⟩
  generalize ht : (⟨(i 0 : Nat) * 4 + (i 2 : Nat) / 1536, by omega⟩ : Fin cfg0.N) = t
  have htv : t.val = (i 0 : Nat) * 4 + (i 2 : Nat) / 1536 := by rw [← ht]
  obtain ⟨-, -, -, -, -, -, -, -, h0, h1, h2, -⟩ := where_all t
  show i ∈ ((View.whole main_v10_0).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [h0]; omega
  | ⟨1, _⟩ => show win0_8.index t 1 * 8 ≤ (i 1 : Nat) ∧ (i 1 : Nat) < win0_8.index t 1 * 8 + 8; rw [h1]; omega
  | ⟨2, _⟩ => show win0_8.index t 2 * 1536 ≤ (i 2 : Nat) ∧ (i 2 : Nat) < win0_8.index t 2 * 1536 + 1536; rw [h2]; omega

/-- The blocks written back cover the weights. -/
theorem cover_lam (i : S2x8x128.Idx) : ∃ t : Fin cfg0.N, (cfg0.win 9).flush t = true ∧ i ∈ ((cfg0.win 9).blk t).view.set := by
  have hi0 : (i 0 : Nat) < 2 := (i 0).isLt
  have hi1 : (i 1 : Nat) < 8 := (i 1).isLt
  have hi2 : (i 2 : Nat) < 128 := (i 2).isLt
  have hN : cfg0.N = 8 := by decide +kernel
  refine ⟨⟨(i 0 : Nat) * 4 + 3, by omega⟩, (flush0_9 _).2 (by simp only; omega), ?_⟩
  generalize ht : (⟨(i 0 : Nat) * 4 + 3, by omega⟩ : Fin cfg0.N) = t
  have htv : t.val = (i 0 : Nat) * 4 + 3 := by rw [← ht]
  obtain ⟨-, -, -, -, -, -, -, -, -, -, -, h0, h1, h2⟩ := where_all t
  show i ∈ ((View.whole main_v10_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; rw [h0]; omega
  | ⟨1, _⟩ => show win0_9.index t 1 * 8 ≤ (i 1 : Nat) ∧ (i 1 : Nat) < win0_9.index t 1 * 8 + 8; rw [h1]; omega
  | ⟨2, _⟩ => show win0_9.index t 2 * 128 ≤ (i 2 : Nat) ∧ (i 2 : Nat) < win0_9.index t 2 * 128 + 128; rw [h2]; omega

/-- After the launch both results are these functions. -/
theorem final_mod (c : Dev nD) : (dats m 0 c).arrAt 8 cfg0.N = G0 m c :=
  (dats m 0 c).arrAt_eq_of_cover 8 (G0 m c) (fun t _ => flushed_mod m c t) cover_mod

theorem final_lam (c : Dev nD) : (dats m 0 c).arrAt 9 cfg0.N = G1 m c :=
  (dats m 0 c).arrAt_eq_of_cover 9 (G1 m c) (fun t _ => flushed_lam m c t) cover_lam

end Cert.ModK

end
-- ==== Proof.ModAlgebraic.lean ====
/- The modulation: kernel and reference leave the same results. -/
module

public import proofs.«01_k».proof.Defs
public import proofs.«01_k».proof.Proof.ModValue
public import proofs.«01_k».proof.Proof.AttMath
public import proofs.«01_k».proof.Proof.Gen.ModulationRefIdeal.Run

@[expose] public section

noncomputable section

namespace Cert.ModRef

open Cert.ModulationRefIdeal Cert.ModulationRefIdeal.Gen Idealize.ShloMosaic Idealize.ShloMosaic.ValueIdx Idealize.ShloMosaic.TcCoe Cert.Reads Idealize.SL.Sem
open scoped BigOperators

/-- The reference's product at an entry. -/
theorem modDot (w : FVec Ideal S2x2048x6144 .f32) (s : FVec Ideal S8x2048 .f32) (l : Fin 2) (n : Fin 6144) (r : Fin 8) :
    Host.dotGeneral dot_S2x2048x6144_S8x2048_S2x6144x8_1_1_02_0_n_n none w s (ix3 l n r) = ∑ k : Fin 2048, w (ix3 l k n) * s (ix2 r k) := by
  unfold Host.dotGeneral
  rw [Ideal.dotGeneral_apply, ← Equiv.sum_comp (contrEquiv1 dot_S2x2048x6144_S8x2048_S2x6144x8_1_1_02_0_n_n 2048 rfl rfl).symm]
  refine Finset.sum_congr rfl fun k _ => congrArg₂ (· * ·) (congrArg w ?_) (congrArg s ?_)
  · funext a
    match a with
    | ⟨0, _⟩ => rfl
    | ⟨1, _⟩ => rfl
    | ⟨2, _⟩ => rfl
  · funext a
    match a with
    | ⟨0, _⟩ => rfl
    | ⟨1, _⟩ => rfl

/-- The reference's modulation. -/
theorem mod_eq (z : FVec Ideal S8x2048 .f32) (w : FVec Ideal S2x2048x6144 .f32) (b : FVec Ideal S2x6144 .f32) :
    addf (transpose S2x8x6144 [0, 2, 1] (Host.dotGeneral dot_S2x2048x6144_S8x2048_S2x6144x8_1_1_02_0_n_n none w
        (mulf z (Host.divf (broadcastInDim S8x2048 ![] bcast_S_S8x2048 (constant S_ .f32 0x3F800000#32))
          (addf (broadcastInDim S8x2048 ![] bcast_S_S8x2048 (constant S_ .f32 0x3F800000#32)) (Host.exp (Host.negf z)))))) transposes_S2x6144x8_S2x8x6144_0_2_1)
        (broadcastInDim S2x8x6144 ![0, 1, 2] bcast_S2x1x6144_S2x8x6144_0_1_2 (broadcastInDim S2x1x6144 ![0, 2] bcast_S2x6144_S2x1x6144_0_2 b))
      = fun i => ModK.modAt z w b (i 0) (i 1) (i 2) := by
  funext i
  obtain ⟨l, r, n, rfl⟩ : ∃ (l : Fin 2) (r : Fin 8) (n : Fin 6144), i = ix3 l r n := ⟨i 0, i 1, i 2, eq_ix3 i⟩
  show _ = ModK.modAt z w b l r n
  unfold ModK.modAt
  rw [addf_apply, bdMid, bdInsMid]
  refine congrArg (· + _) ((transpose_apply _ _ _ _ (ix3 l n r) fun a => ?_).trans ((modDot _ _ l n r).trans (Finset.sum_congr rfl fun k _ => ?_)))
  · match a with
    | ⟨0, _⟩ => rfl
    | ⟨1, _⟩ => rfl
    | ⟨2, _⟩ => rfl
  · rw [mul_comm]
    refine congrArg (· * _) (congrArg (z (ix2 r k) * ·) ?_)
    show Ideal.div (Ideal.ofBits .f32 0x3F800000#32) (Ideal.ofBits .f32 0x3F800000#32 + Ideal.exp (-(z (ix2 r k)))) = _
    rw [Ideal.ofBits_one_f32]
    rfl

/-- A sum over a matrix's rows. -/
theorem rowSum (x y : FVec Ideal S2x64 .f32) (l : Fin 2) :
    (Host.reduceAdd (mulf x y) (constant (F := Ideal) S_ .f32 0x00000000#32) reducesTo_S2x64_S2_d1 h_S_ : FVec Ideal S2 .f32) (ix1 l) = ∑ d : Fin 64, x (ix2 l d) * y (ix2 l d) := by
  rw [hostReduceAdd_apply, Ideal.hostReduceAdd_single _ (by decide), constant_apply, Ideal.ofBits_zero_f32, zero_add]
  refine Finset.sum_congr rfl fun d _ => ?_
  refine Eq.trans (congrArg (mulf x y) (?_ : _ = ix2 l d)) rfl
  funext a
  match a with
  | ⟨0, _⟩ => rfl
  | ⟨1, _⟩ => rfl

/-- The reference's weights. -/
theorem lam_eq (q1 k1 q2 k2 : FVec Ideal S2x64 .f32) :
    broadcastInDim S2x8x128 ![0, 1, 2] bcast_S2x1x1_S2x8x128_0_1_2 (broadcastInDim S2x1x1 ![0] bcast_S2_S2x1x1_0
        (addf (subf (Host.exp (Host.reduceAdd (mulf q1 k1) (constant S_ .f32 0x00000000#32) reducesTo_S2x64_S2_d1 h_S_))
          (Host.exp (Host.reduceAdd (mulf q2 k2) (constant S_ .f32 0x00000000#32) reducesTo_S2x64_S2_d1 h_S_))) (fun i => FloatOps.ofBits .f32 (lit0 (S2.rowMajor i)))))
      = fun i => ModK.lamAt q1 k1 q2 k2 (i 0) := by
  funext i
  obtain ⟨l, r, n, rfl⟩ : ∃ (l : Fin 2) (r : Fin 8) (n : Fin 128), i = ix3 l r n := ⟨i 0, i 1, i 2, eq_ix3 i⟩
  show _ = ModK.lamAt q1 k1 q2 k2 l
  refine (broadcastInDim_apply _ _ _ _ (ix3 l 0 0) fun a => ?_).trans ((broadcastInDim_apply _ _ _ (ix3 l 0 0) (ix1 l) fun a => ?_).trans ?_)
  · match a with
    | ⟨0, _⟩ => exact val_eq_ite l
    | ⟨1, _⟩ => rfl
    | ⟨2, _⟩ => rfl
  · match a with
    | ⟨0, _⟩ => exact val_eq_ite l
  · unfold ModK.lamAt
    rw [← rowSum, ← rowSum]
    exact congrArg₂ (· + ·) rfl (congrArg (fun z => Ideal.ofBits .f32 (lit0 z)) (Fin.ext (Shape.rowMajor_val_one _)))

/-- From equal arguments kernel and reference end with the same modulation and the same weights, for all arguments. -/
theorem algebraic : Cert.algebraic_ModulationIdeal_ModulationRefIdeal (hModulationIdeal := Cert.ModulationIdeal.Gen.facts)
    (hModulationRefIdeal := Cert.ModulationRefIdeal.Gen.facts) := by
  intro m g m' g' _ hargs
  refine ⟨fun c => ModK.G0 m c, fun c => ModK.G1 m c, ?_, ?_⟩
  · refine (θ_run (Cert.ModulationIdeal.defs (F := Ideal)) _ _).mono (fun r h c => ?_) (Cert.ModulationIdeal.Value.run_blocks (F := Ideal) m g)
    exact ⟨(h c).1.trans (ModK.final_mod m c), (h c).2.1.trans (ModK.final_lam m c), (h c).2.2⟩
  · refine (θ_run (Cert.ModulationRefIdeal.defs (F := Ideal)) _ _).mono (fun r h c => ?_) (Cert.ModulationRefIdeal.Value.run (F := Ideal) m' g')
    obtain ⟨hv0, hv1, hrest⟩ := h c
    obtain ⟨h0, h1, h2, h3, h4, h5, h6, h7⟩ := hargs c
    refine ⟨hv0.trans ?_, hv1.trans ?_, hrest⟩
    · rw [h0, h1, h2, h3]
      exact mod_eq _ _ _
    · rw [h4, h5, h6, h7]
      exact lam_eq _ _ _ _

end Cert.ModRef

end
-- ==== Proof.lean ====
/- The claims of all the calls: every program runs and leaves its arguments unchanged, and each kernel's result is its reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.ReferenceIdeal
public import proofs.«01_k».proof.Proof.Gen.ReferenceIdeal.Run
public import proofs.«01_k».proof.Proof.Gen.InprojRefIdeal
public import proofs.«01_k».proof.Proof.Gen.InprojRefIdeal.Run
public import proofs.«01_k».proof.Proof.Gen.OutprojRefIdeal
public import proofs.«01_k».proof.Proof.Gen.OutprojRefIdeal.Run
public import proofs.«01_k».proof.Proof.Gen.CtxIn
public import proofs.«01_k».proof.Proof.Gen.CtxIn.Frame
public import proofs.«01_k».proof.Proof.Gen.CtxInIdeal
public import proofs.«01_k».proof.Proof.Gen.CtxInIdeal.Frame
public import proofs.«01_k».proof.Proof.Gen.CtxInIdeal.Value
public import proofs.«01_k».proof.Proof.Gen.CtxInRefIdeal
public import proofs.«01_k».proof.Proof.Gen.CtxInRefIdeal.Run
public import proofs.«01_k».proof.Proof.Gen.CtxLast
public import proofs.«01_k».proof.Proof.Gen.CtxLast.Frame
public import proofs.«01_k».proof.Proof.Gen.CtxLastIdeal
public import proofs.«01_k».proof.Proof.Gen.CtxLastIdeal.Frame
public import proofs.«01_k».proof.Proof.Gen.CtxLastIdeal.Value
public import proofs.«01_k».proof.Proof.Gen.CtxLastRefIdeal
public import proofs.«01_k».proof.Proof.Gen.CtxLastRefIdeal.Run
public import proofs.«01_k».proof.Proof.Gen.OutMid
public import proofs.«01_k».proof.Proof.Gen.OutMid.Frame
public import proofs.«01_k».proof.Proof.Gen.OutMidIdeal
public import proofs.«01_k».proof.Proof.Gen.OutMidIdeal.Frame
public import proofs.«01_k».proof.Proof.Gen.OutMidIdeal.Value
public import proofs.«01_k».proof.Proof.Gen.OutMidRefIdeal
public import proofs.«01_k».proof.Proof.Gen.OutMidRefIdeal.Run
public import proofs.«01_k».proof.Proof.Gen.OutCtx
public import proofs.«01_k».proof.Proof.Gen.OutCtx.Frame
public import proofs.«01_k».proof.Proof.Gen.OutCtxIdeal
public import proofs.«01_k».proof.Proof.Gen.OutCtxIdeal.Frame
public import proofs.«01_k».proof.Proof.Gen.OutCtxIdeal.Value
public import proofs.«01_k».proof.Proof.Gen.OutCtxRefIdeal
public import proofs.«01_k».proof.Proof.Gen.OutCtxRefIdeal.Run
public import proofs.«01_k».proof.Proof.Gen.PoolConv
public import proofs.«01_k».proof.Proof.Gen.PoolConv.Frame
public import proofs.«01_k».proof.Proof.Gen.PoolConvIdeal
public import proofs.«01_k».proof.Proof.Gen.PoolConvIdeal.Frame
public import proofs.«01_k».proof.Proof.Gen.PoolConvIdeal.Value
public import proofs.«01_k».proof.Proof.Gen.PoolConvRefIdeal
public import proofs.«01_k».proof.Proof.Gen.PoolConvRefIdeal.Run
public import proofs.«01_k».proof.Proof.Gen.AttLast
public import proofs.«01_k».proof.Proof.Gen.AttLast.Frame
public import proofs.«01_k».proof.Proof.Gen.AttLastIdeal
public import proofs.«01_k».proof.Proof.Gen.AttLastIdeal.Frame
public import proofs.«01_k».proof.Proof.Gen.AttLastIdeal.Value
public import proofs.«01_k».proof.Proof.Gen.AttLastRefIdeal
public import proofs.«01_k».proof.Proof.Gen.AttLastRefIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.OutAlgebraic
public import proofs.«01_k».proof.Proof.AttAlgebraic
public import proofs.«01_k».proof.Proof.InAlgebraic
public import proofs.«01_k».proof.Proof.CtxAlgebraic
public import proofs.«01_k».proof.Proof.OutMidAlgebraic
public import proofs.«01_k».proof.Proof.PoolAlgebraic
public import proofs.«01_k».proof.Proof.AttLastAlgebraic
public import proofs.«01_k».proof.Proof.ModAlgebraic
public import Idealize.ShloMosaic.Adequacy
public import Idealize.ShloMosaic.Init

@[expose] public section

noncomputable section

namespace Cert.Proof

open Idealize.ShloMosaic Idealize.SL.Sem

/-- The attention's reference runs and leaves its arguments unchanged. -/
theorem frameR : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The in-projection's reference runs and leaves its arguments unchanged. -/
theorem frameR2 : Cert.quiescent_InprojRefIdeal (hInprojRefIdeal := Cert.InprojRefIdeal.Gen.facts) := fun m g _ =>
  (θ_run (Cert.InprojRefIdeal.defs (F := Ideal)) _ _).mono (fun r h => ⟨fun c => (h c).2, sem_eq_zero_of_no_sems (by decide) r.2⟩)
    (Cert.InprojRefIdeal.Value.run (F := Ideal) m g)

/-- The out-projection's reference runs and leaves its arguments unchanged. -/
theorem frameR3 : Cert.quiescent_OutprojRefIdeal (hOutprojRefIdeal := Cert.OutprojRefIdeal.Gen.facts) := fun m g _ =>
  (θ_run (Cert.OutprojRefIdeal.defs (F := Ideal)) _ _).mono (fun r h => ⟨fun c => (h c).2, sem_eq_zero_of_no_sems (by decide) r.2⟩)
    (Cert.OutprojRefIdeal.Value.run (F := Ideal) m g)

/-- The first layer's context input projection's reference runs and leaves its arguments unchanged. -/
theorem frameR4 : Cert.quiescent_CtxInRefIdeal (hCtxInRefIdeal := Cert.CtxInRefIdeal.Gen.facts) := fun m g _ =>
  (θ_run (Cert.CtxInRefIdeal.defs (F := Ideal)) _ _).mono (fun r h => ⟨fun c => (h c).2, sem_eq_zero_of_no_sems (by decide) r.2⟩)
    (Cert.CtxInRefIdeal.Value.run (F := Ideal) m g)

/-- The last layer's context input projection's reference runs and leaves its arguments unchanged. -/
theorem frameR5 : Cert.quiescent_CtxLastRefIdeal (hCtxLastRefIdeal := Cert.CtxLastRefIdeal.Gen.facts) := fun m g _ =>
  (θ_run (Cert.CtxLastRefIdeal.defs (F := Ideal)) _ _).mono (fun r h => ⟨fun c => (h c).2, sem_eq_zero_of_no_sems (by decide) r.2⟩)
    (Cert.CtxLastRefIdeal.Value.run (F := Ideal) m g)

/-- The first layer's output projection's reference runs and leaves its arguments unchanged. -/
theorem frameR6 : Cert.quiescent_OutMidRefIdeal (hOutMidRefIdeal := Cert.OutMidRefIdeal.Gen.facts) := fun m g _ =>
  (θ_run (Cert.OutMidRefIdeal.defs (F := Ideal)) _ _).mono (fun r h => ⟨fun c => (h c).2, sem_eq_zero_of_no_sems (by decide) r.2⟩)
    (Cert.OutMidRefIdeal.Value.run (F := Ideal) m g)

/-- The context's output projection's reference runs and leaves its arguments unchanged. -/
theorem frameR7 : Cert.quiescent_OutCtxRefIdeal (hOutCtxRefIdeal := Cert.OutCtxRefIdeal.Gen.facts) := fun m g _ =>
  (θ_run (Cert.OutCtxRefIdeal.defs (F := Ideal)) _ _).mono (fun r h => ⟨fun c => (h c).2, sem_eq_zero_of_no_sems (by decide) r.2⟩)
    (Cert.OutCtxRefIdeal.Value.run (F := Ideal) m g)

/-- The reference of the pooling and convolution branches runs and leaves its arguments unchanged. -/
theorem frameR8 : Cert.quiescent_PoolConvRefIdeal (hPoolConvRefIdeal := Cert.PoolConvRefIdeal.Gen.facts) := fun m g _ =>
  (θ_run (Cert.PoolConvRefIdeal.defs (F := Ideal)) _ _).mono (fun r h => ⟨fun c => (h c).2.2, sem_eq_zero_of_no_sems (by decide) r.2⟩)
    (Cert.PoolConvRefIdeal.Value.run (F := Ideal) m g)

/-- The reference of the last layer's attention runs and leaves its arguments unchanged. -/
theorem frameR9 : Cert.quiescent_AttLastRefIdeal (hAttLastRefIdeal := Cert.AttLastRefIdeal.Gen.facts) := fun m g _ =>
  (θ_run (Cert.AttLastRefIdeal.defs (F := Ideal)) _ _).mono (fun r h => ⟨fun c => (h c).2, sem_eq_zero_of_no_sems (by decide) r.2⟩)
    (Cert.AttLastRefIdeal.Value.run (F := Ideal) m g)

/-- The modulation's reference runs and leaves its arguments unchanged. -/
theorem frameR10 : Cert.quiescent_ModulationRefIdeal (hModulationRefIdeal := Cert.ModulationRefIdeal.Gen.facts) := fun m g _ =>
  (θ_run (Cert.ModulationRefIdeal.defs (F := Ideal)) _ _).mono (fun r h => ⟨fun c => (h c).2.2, sem_eq_zero_of_no_sems (by decide) r.2⟩)
    (Cert.ModulationRefIdeal.Value.run (F := Ideal) m g)

/-- All the claims. -/
theorem claim : Cert.Claim :=
  ⟨Cert.Kernel.Gen.facts, Cert.KernelIdeal.Gen.facts, Cert.ReferenceIdeal.Gen.facts, Cert.Inproj.Gen.facts, Cert.InprojIdeal.Gen.facts, Cert.InprojRefIdeal.Gen.facts,
    Cert.Outproj.Gen.facts, Cert.OutprojIdeal.Gen.facts, Cert.OutprojRefIdeal.Gen.facts,
    Cert.CtxIn.Gen.facts, Cert.CtxInIdeal.Gen.facts, Cert.CtxInRefIdeal.Gen.facts, Cert.CtxLast.Gen.facts, Cert.CtxLastIdeal.Gen.facts, Cert.CtxLastRefIdeal.Gen.facts,
    Cert.OutMid.Gen.facts, Cert.OutMidIdeal.Gen.facts, Cert.OutMidRefIdeal.Gen.facts, Cert.OutCtx.Gen.facts, Cert.OutCtxIdeal.Gen.facts, Cert.OutCtxRefIdeal.Gen.facts,
    Cert.PoolConv.Gen.facts, Cert.PoolConvIdeal.Gen.facts, Cert.PoolConvRefIdeal.Gen.facts,
    Cert.AttLast.Gen.facts, Cert.AttLastIdeal.Gen.facts, Cert.AttLastRefIdeal.Gen.facts,
    Cert.Modulation.Gen.facts, Cert.ModulationIdeal.Gen.facts, Cert.ModulationRefIdeal.Gen.facts,
    Cert.AttAlgebraic.facts, Cert.AttLastAlgebraic.facts,
    fun m g _ => Cert.Kernel.Gen.frame m g, fun m g _ => Cert.KernelIdeal.Gen.frame m g, fun m g _ => Cert.KernelIdeal.Gen.frame m g, frameR, fun m g _ => frameR m g trivial,
    fun m g _ => Cert.Inproj.Gen.frame m g, fun m g _ => Cert.InprojIdeal.Gen.frame m g, frameR2,
    fun m g _ => Cert.Outproj.Gen.frame m g, fun m g _ => Cert.OutprojIdeal.Gen.frame m g, frameR3,
    fun m g _ => Cert.CtxIn.Gen.frame m g, fun m g _ => Cert.CtxInIdeal.Gen.frame m g, frameR4,
    fun m g _ => Cert.CtxLast.Gen.frame m g, fun m g _ => Cert.CtxLastIdeal.Gen.frame m g, frameR5,
    fun m g _ => Cert.OutMid.Gen.frame m g, fun m g _ => Cert.OutMidIdeal.Gen.frame m g, frameR6,
    fun m g _ => Cert.OutCtx.Gen.frame m g, fun m g _ => Cert.OutCtxIdeal.Gen.frame m g, frameR7,
    fun m g _ => Cert.PoolConv.Gen.frame m g, fun m g _ => Cert.PoolConvIdeal.Gen.frame m g, frameR8,
    fun m g _ => Cert.AttLast.Gen.frame m g, fun m g _ => Cert.AttLastIdeal.Gen.frame m g, fun m g _ => Cert.AttLastIdeal.Gen.frame m g, frameR9, fun m g _ => frameR9 m g trivial,
    fun m g _ => Cert.Modulation.Gen.frame m g, fun m g _ => Cert.ModulationIdeal.Gen.frame m g, frameR10,
    trivial, Cert.AttAlgebraic.algebraic, trivial, Cert.InAlgebraic.algebraic, trivial, Cert.OutAlgebraic.algebraic,
    trivial, Cert.CtxAlgebraic.algebraic, trivial, Cert.CtxAlgebraic.algebraicLast,
    trivial, Cert.OutMidAlgebraic.algebraic, trivial, Cert.OutMidAlgebraic.algebraicCtx,
    trivial, Cert.PoolAlgebraic.algebraic,
    trivial, Cert.AttLastAlgebraic.algebraic,
    trivial, Cert.ModRef.algebraic⟩

end Cert.Proof

end
